-- ==== Defs.lean ====
def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossKernelIdeal_loss_finite [hPre_loss_finite : Cert.Pre_loss_finite.Facts] (m : (ℓ : Loc Cert.LossKernelIdeal.nD Cert.LossKernelIdeal.τ Cert.LossKernelIdeal.sig) → Buf (Elt Ideal) ℓ) : Prop :=
  ∀ c : Dev Cert.LossKernelIdeal.nD,
    (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))) = (fun _ => 1#1)

def Pre_LossReferenceIdeal (m : (ℓ : Loc Cert.LossReferenceIdeal.nD Cert.LossReferenceIdeal.τ Cert.LossReferenceIdeal.sig) → Buf (Elt Ideal) ℓ) : Prop :=
  True

def Pre_LossReferenceIdeal_loss_finite [hPre_loss_finite : Cert.Pre_loss_finite.Facts] (m : (ℓ : Loc Cert.LossReferenceIdeal.nD Cert.LossReferenceIdeal.τ Cert.LossReferenceIdeal.sig) → Buf (Elt Ideal) ℓ) : Prop :=
  ∀ c : Dev Cert.LossReferenceIdeal.nD,
    (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2))) = (fun _ => 1#1)

def Pre_DxUpKernel (m : (ℓ : Loc Cert.DxUpKernel.nD Cert.DxUpKernel.τ Cert.DxUpKernel.sig) → Buf (Elt Bits) ℓ) : Prop :=
  True

def Pre_DxUpKernelIdeal (m : (ℓ : Loc Cert.DxUpKernelIdeal.nD Cert.DxUpKernelIdeal.τ Cert.DxUpKernelIdeal.sig) → Buf (Elt Ideal) ℓ) : Prop :=
  True

def Pre_DxUpKernelIdeal_dxup_finite [hPre_dxup_finite : Cert.Pre_dxup_finite.Facts] (m : (ℓ : Loc Cert.DxUpKernelIdeal.nD Cert.DxUpKernelIdeal.τ Cert.DxUpKernelIdeal.sig) → Buf (Elt Ideal) ℓ) : Prop :=
  ∀ c : Dev Cert.DxUpKernelIdeal.nD,
    (Cert.Pre_dxup_finite.fn (F := Ideal) (m ((c.tc : Thread Cert.DxUpKernelIdeal.nD Cert.DxUpKernelIdeal.τ).loc Cert.DxUpKernelIdeal.main_arg0)) (m ((c.tc : Thread Cert.DxUpKernelIdeal.nD Cert.DxUpKernelIdeal.τ).loc Cert.DxUpKernelIdeal.main_arg1)) (m ((c.tc : Thread Cert.DxUpKernelIdeal.nD Cert.DxUpKernelIdeal.τ).loc Cert.DxUpKernelIdeal.main_arg2)) (m ((c.tc : Thread Cert.DxUpKernelIdeal.nD Cert.DxUpKernelIdeal.τ).loc Cert.DxUpKernelIdeal.main_arg3)) (m ((c.tc : Thread Cert.DxUpKernelIdeal.nD Cert.DxUpKernelIdeal.τ).loc Cert.DxUpKernelIdeal.main_arg4))) = (fun _ => 1#1)

def Pre_DxUpReferenceIdeal (m : (ℓ : Loc Cert.DxUpReferenceIdeal.nD Cert.DxUpReferenceIdeal.τ Cert.DxUpReferenceIdeal.sig) → Buf (Elt Ideal) ℓ) : Prop :=
  True

def Pre_DxUpReferenceIdeal_dxup_finite [hPre_dxup_finite : Cert.Pre_dxup_finite.Facts] (m : (ℓ : Loc Cert.DxUpReferenceIdeal.nD Cert.DxUpReferenceIdeal.τ Cert.DxUpReferenceIdeal.sig) → Buf (Elt Ideal) ℓ) : Prop :=
  ∀ c : Dev Cert.DxUpReferenceIdeal.nD,
    (Cert.Pre_dxup_finite.fn (F := Ideal) (m ((c.tc : Thread Cert.DxUpReferenceIdeal.nD Cert.DxUpReferenceIdeal.τ).loc Cert.DxUpReferenceIdeal.main_arg0)) (m ((c.tc : Thread Cert.DxUpReferenceIdeal.nD Cert.DxUpReferenceIdeal.τ).loc Cert.DxUpReferenceIdeal.main_arg1)) (m ((c.tc : Thread Cert.DxUpReferenceIdeal.nD Cert.DxUpReferenceIdeal.τ).loc Cert.DxUpReferenceIdeal.main_arg2)) (m ((c.tc : Thread Cert.DxUpReferenceIdeal.nD Cert.DxUpReferenceIdeal.τ).loc Cert.DxUpReferenceIdeal.main_arg3)) (m ((c.tc : Thread Cert.DxUpReferenceIdeal.nD Cert.DxUpReferenceIdeal.τ).loc Cert.DxUpReferenceIdeal.main_arg4))) = (fun _ => 1#1)

def Pre_DxInKernel (m : (ℓ : Loc Cert.DxInKernel.nD Cert.DxInKernel.τ Cert.DxInKernel.sig) → Buf (Elt Bits) ℓ) : Prop :=
  True

def Pre_DxInKernelIdeal (m : (ℓ : Loc Cert.DxInKernelIdeal.nD Cert.DxInKernelIdeal.τ Cert.DxInKernelIdeal.sig) → Buf (Elt Ideal) ℓ) : Prop :=
  True

def Pre_DxInKernelIdeal_dxin_finite [hPre_dxin_finite : Cert.Pre_dxin_finite.Facts] (m : (ℓ : Loc Cert.DxInKernelIdeal.nD Cert.DxInKernelIdeal.τ Cert.DxInKernelIdeal.sig) → Buf (Elt Ideal) ℓ) : Prop :=
  ∀ c : Dev Cert.DxInKernelIdeal.nD,
    (Cert.Pre_dxin_finite.fn (F := Ideal) (m ((c.tc : Thread Cert.DxInKernelIdeal.nD Cert.DxInKernelIdeal.τ).loc Cert.DxInKernelIdeal.main_arg0)) (m ((c.tc : Thread Cert.DxInKernelIdeal.nD Cert.DxInKernelIdeal.τ).loc Cert.DxInKernelIdeal.main_arg1)) (m ((c.tc : Thread Cert.DxInKernelIdeal.nD Cert.DxInKernelIdeal.τ).loc Cert.DxInKernelIdeal.main_arg2)) (m ((c.tc : Thread Cert.DxInKernelIdeal.nD Cert.DxInKernelIdeal.τ).loc Cert.DxInKernelIdeal.main_arg3)) (m ((c.tc : Thread Cert.DxInKernelIdeal.nD Cert.DxInKernelIdeal.τ).loc Cert.DxInKernelIdeal.main_arg4))) = (fun _ => 1#1)

def Pre_DxInReferenceIdeal (m : (ℓ : Loc Cert.DxInReferenceIdeal.nD Cert.DxInReferenceIdeal.τ Cert.DxInReferenceIdeal.sig) → Buf (Elt Ideal) ℓ) : Prop :=
  True

def Pre_DxInReferenceIdeal_dxin_finite [hPre_dxin_finite : Cert.Pre_dxin_finite.Facts] (m : (ℓ : Loc Cert.DxInReferenceIdeal.nD Cert.DxInReferenceIdeal.τ Cert.DxInReferenceIdeal.sig) → Buf (Elt Ideal) ℓ) : Prop :=
  ∀ c : Dev Cert.DxInReferenceIdeal.nD,
    (Cert.Pre_dxin_finite.fn (F := Ideal) (m ((c.tc : Thread Cert.DxInReferenceIdeal.nD Cert.DxInReferenceIdeal.τ).loc Cert.DxInReferenceIdeal.main_arg0)) (m ((c.tc : Thread Cert.DxInReferenceIdeal.nD Cert.DxInReferenceIdeal.τ).loc Cert.DxInReferenceIdeal.main_arg1)) (m ((c.tc : Thread Cert.DxInReferenceIdeal.nD Cert.DxInReferenceIdeal.τ).loc Cert.DxInReferenceIdeal.main_arg2)) (m ((c.tc : Thread Cert.DxInReferenceIdeal.nD Cert.DxInReferenceIdeal.τ).loc Cert.DxInReferenceIdeal.main_arg3)) (m ((c.tc : Thread Cert.DxInReferenceIdeal.nD Cert.DxInReferenceIdeal.τ).loc Cert.DxInReferenceIdeal.main_arg4))) = (fun _ => 1#1)

def Pre_FoxKernel (m : (ℓ : Loc Cert.FoxKernel.nD Cert.FoxKernel.τ Cert.FoxKernel.sig) → Buf (Elt Bits) ℓ) : Prop :=
  True

def Pre_FoxKernelIdeal (m : (ℓ : Loc Cert.FoxKernelIdeal.nD Cert.FoxKernelIdeal.τ Cert.FoxKernelIdeal.sig) → Buf (Elt Ideal) ℓ) : Prop :=
  True

def Pre_FoxKernelIdeal_fox_finite [hPre_fox_finite : Cert.Pre_fox_finite.Facts] (m : (ℓ : Loc Cert.FoxKernelIdeal.nD Cert.FoxKernelIdeal.τ Cert.FoxKernelIdeal.sig) → Buf (Elt Ideal) ℓ) : Prop :=
  ∀ c : Dev Cert.FoxKernelIdeal.nD,
    (Cert.Pre_fox_finite.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2)) (m ((c.tc : Thread Cert.FoxKernelIdeal.nD Cert.FoxKernelIdeal.τ).loc Cert.FoxKernelIdeal.main_arg3)) (m ((c.tc : Thread Cert.FoxKernelIdeal.nD Cert.FoxKernelIdeal.τ).loc Cert.FoxKernelIdeal.main_arg4))) = (fun _ => 1#1)

def Pre_FoxReferenceIdeal (m : (ℓ : Loc Cert.FoxReferenceIdeal.nD Cert.FoxReferenceIdeal.τ Cert.FoxReferenceIdeal.sig) → Buf (Elt Ideal) ℓ) : Prop :=
  True

def Pre_FoxReferenceIdeal_fox_finite [hPre_fox_finite : Cert.Pre_fox_finite.Facts] (m : (ℓ : Loc Cert.FoxReferenceIdeal.nD Cert.FoxReferenceIdeal.τ Cert.FoxReferenceIdeal.sig) → Buf (Elt Ideal) ℓ) : Prop :=
  ∀ c : Dev Cert.FoxReferenceIdeal.nD,
    (Cert.Pre_fox_finite.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1)) (m ((c.tc : Thread Cert.FoxReferenceIdeal.nD Cert.FoxReferenceIdeal.τ).loc Cert.FoxReferenceIdeal.main_arg2)) (m ((c.tc : Thread Cert.FoxReferenceIdeal.nD Cert.FoxReferenceIdeal.τ).loc Cert.FoxReferenceIdeal.main_arg3)) (m ((c.tc : Thread Cert.FoxReferenceIdeal.nD Cert.FoxReferenceIdeal.τ).loc Cert.FoxReferenceIdeal.main_arg4))) = (fun _ => 1#1)

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateKernelIdeal_gate_finite [hPre_gate_finite : Cert.Pre_gate_finite.Facts] (m : (ℓ : Loc Cert.GateKernelIdeal.nD Cert.GateKernelIdeal.τ Cert.GateKernelIdeal.sig) → Buf (Elt Ideal) ℓ) : Prop :=
  ∀ c : Dev Cert.GateKernelIdeal.nD,
    (Cert.Pre_gate_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3))) = (fun _ => 1#1)

def Pre_GateReferenceIdeal (m : (ℓ : Loc Cert.GateReferenceIdeal.nD Cert.GateReferenceIdeal.τ Cert.GateReferenceIdeal.sig) → Buf (Elt Ideal) ℓ) : Prop :=
  True

def Pre_GateReferenceIdeal_gate_finite [hPre_gate_finite : Cert.Pre_gate_finite.Facts] (m : (ℓ : Loc Cert.GateReferenceIdeal.nD Cert.GateReferenceIdeal.τ Cert.GateReferenceIdeal.sig) → Buf (Elt Ideal) ℓ) : Prop :=
  ∀ c : Dev Cert.GateReferenceIdeal.nD,
    (Cert.Pre_gate_finite.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3))) = (fun _ => 1#1)

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_MmoKernel (m : (ℓ : Loc Cert.MmoKernel.nD Cert.MmoKernel.τ Cert.MmoKernel.sig) → Buf (Elt Bits) ℓ) : Prop :=
  True

def Pre_MmoKernelIdeal (m : (ℓ : Loc Cert.MmoKernelIdeal.nD Cert.MmoKernelIdeal.τ Cert.MmoKernelIdeal.sig) → Buf (Elt Ideal) ℓ) : Prop :=
  True

def Pre_MmoReferenceIdeal (m : (ℓ : Loc Cert.MmoReferenceIdeal.nD Cert.MmoReferenceIdeal.τ Cert.MmoReferenceIdeal.sig) → Buf (Elt Ideal) ℓ) : Prop :=
  True

def Pre_MmdKernel (m : (ℓ : Loc Cert.MmdKernel.nD Cert.MmdKernel.τ Cert.MmdKernel.sig) → Buf (Elt Bits) ℓ) : Prop :=
  True

def Pre_MmdKernelIdeal (m : (ℓ : Loc Cert.MmdKernelIdeal.nD Cert.MmdKernelIdeal.τ Cert.MmdKernelIdeal.sig) → Buf (Elt Ideal) ℓ) : Prop :=
  True

def Pre_MmdReferenceIdeal (m : (ℓ : Loc Cert.MmdReferenceIdeal.nD Cert.MmdReferenceIdeal.τ Cert.MmdReferenceIdeal.sig) → Buf (Elt Ideal) ℓ) : Prop :=
  True

def Pre_DyKernel (m : (ℓ : Loc Cert.DyKernel.nD Cert.DyKernel.τ Cert.DyKernel.sig) → Buf (Elt Bits) ℓ) : Prop :=
  True

def Pre_DyKernelIdeal (m : (ℓ : Loc Cert.DyKernelIdeal.nD Cert.DyKernelIdeal.τ Cert.DyKernelIdeal.sig) → Buf (Elt Ideal) ℓ) : Prop :=
  True

def Pre_DyReferenceIdeal (m : (ℓ : Loc Cert.DyReferenceIdeal.nD Cert.DyReferenceIdeal.τ Cert.DyReferenceIdeal.sig) → Buf (Elt Ideal) ℓ) : Prop :=
  True

def Pre_WgoKernel (m : (ℓ : Loc Cert.WgoKernel.nD Cert.WgoKernel.τ Cert.WgoKernel.sig) → Buf (Elt Bits) ℓ) : Prop :=
  True

def Pre_WgoKernelIdeal (m : (ℓ : Loc Cert.WgoKernelIdeal.nD Cert.WgoKernelIdeal.τ Cert.WgoKernelIdeal.sig) → Buf (Elt Ideal) ℓ) : Prop :=
  True

def Pre_WgoReferenceIdeal (m : (ℓ : Loc Cert.WgoReferenceIdeal.nD Cert.WgoReferenceIdeal.τ Cert.WgoReferenceIdeal.sig) → Buf (Elt Ideal) ℓ) : Prop :=
  True

def Pre_InpKernel (m : (ℓ : Loc Cert.InpKernel.nD Cert.InpKernel.τ Cert.InpKernel.sig) → Buf (Elt Bits) ℓ) : Prop :=
  True

def Pre_InpKernelIdeal (m : (ℓ : Loc Cert.InpKernelIdeal.nD Cert.InpKernelIdeal.τ Cert.InpKernelIdeal.sig) → Buf (Elt Ideal) ℓ) : Prop :=
  True

def Pre_InpReferenceIdeal (m : (ℓ : Loc Cert.InpReferenceIdeal.nD Cert.InpReferenceIdeal.τ Cert.InpReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_DilKernel (m : (ℓ : Loc Cert.DilKernel.nD Cert.DilKernel.τ Cert.DilKernel.sig) → Buf (Elt Bits) ℓ) : Prop :=
  True

def Pre_DilKernelIdeal (m : (ℓ : Loc Cert.DilKernelIdeal.nD Cert.DilKernelIdeal.τ Cert.DilKernelIdeal.sig) → Buf (Elt Ideal) ℓ) : Prop :=
  True

def Pre_DilReferenceIdeal (m : (ℓ : Loc Cert.DilReferenceIdeal.nD Cert.DilReferenceIdeal.τ Cert.DilReferenceIdeal.sig) → Buf (Elt Ideal) ℓ) : Prop :=
  True

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossKernelIdeal_pre_loss_finite [hLossKernelIdeal : Cert.LossKernelIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal_loss_finite m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_LossReferenceIdeal_pre_loss_finite [hLossReferenceIdeal : Cert.LossReferenceIdeal.Facts] [hPre_loss_finite : Cert.Pre_loss_finite.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal_loss_finite m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_DxUpKernel [hDxUpKernel : Cert.DxUpKernel.Facts] : Prop :=
  ∀ (m : (ℓ : Loc Cert.DxUpKernel.nD Cert.DxUpKernel.τ Cert.DxUpKernel.sig) → Buf (Elt Bits) ℓ) (g : Dev Cert.DxUpKernel.nD → PrngReg), Pre_DxUpKernel m →
    θ_run (Cert.DxUpKernel.defs (F := Bits)) (onTc (τ := Cert.DxUpKernel.τ) (Cert.DxUpKernel.main (F := Bits))) ⟨m, fun _ => 0, g⟩ (fun r => (∀ c : Dev Cert.DxUpKernel.nD,
      r.2.mem ((c.tc : Thread Cert.DxUpKernel.nD Cert.DxUpKernel.τ).loc Cert.DxUpKernel.main_arg0) = m ((c.tc : Thread Cert.DxUpKernel.nD Cert.DxUpKernel.τ).loc Cert.DxUpKernel.main_arg0)
      ∧ r.2.mem ((c.tc : Thread Cert.DxUpKernel.nD Cert.DxUpKernel.τ).loc Cert.DxUpKernel.main_arg1) = m ((c.tc : Thread Cert.DxUpKernel.nD Cert.DxUpKernel.τ).loc Cert.DxUpKernel.main_arg1)
      ∧ r.2.mem ((c.tc : Thread Cert.DxUpKernel.nD Cert.DxUpKernel.τ).loc Cert.DxUpKernel.main_arg2) = m ((c.tc : Thread Cert.DxUpKernel.nD Cert.DxUpKernel.τ).loc Cert.DxUpKernel.main_arg2)
      ∧ r.2.mem ((c.tc : Thread Cert.DxUpKernel.nD Cert.DxUpKernel.τ).loc Cert.DxUpKernel.main_arg3) = m ((c.tc : Thread Cert.DxUpKernel.nD Cert.DxUpKernel.τ).loc Cert.DxUpKernel.main_arg3)
      ∧ r.2.mem ((c.tc : Thread Cert.DxUpKernel.nD Cert.DxUpKernel.τ).loc Cert.DxUpKernel.main_arg4) = m ((c.tc : Thread Cert.DxUpKernel.nD Cert.DxUpKernel.τ).loc Cert.DxUpKernel.main_arg4))
      ∧ r.2.sem = fun _ => 0)

def quiescent_DxUpKernelIdeal [hDxUpKernelIdeal : Cert.DxUpKernelIdeal.Facts] : Prop :=
  ∀ (m : (ℓ : Loc Cert.DxUpKernelIdeal.nD Cert.DxUpKernelIdeal.τ Cert.DxUpKernelIdeal.sig) → Buf (Elt Ideal) ℓ) (g : Dev Cert.DxUpKernelIdeal.nD → PrngReg), Pre_DxUpKernelIdeal m →
    θ_run (Cert.DxUpKernelIdeal.defs (F := Ideal)) (onTc (τ := Cert.DxUpKernelIdeal.τ) (Cert.DxUpKernelIdeal.main (F := Ideal))) ⟨m, fun _ => 0, g⟩ (fun r => (∀ c : Dev Cert.DxUpKernelIdeal.nD,
      r.2.mem ((c.tc : Thread Cert.DxUpKernelIdeal.nD Cert.DxUpKernelIdeal.τ).loc Cert.DxUpKernelIdeal.main_arg0) = m ((c.tc : Thread Cert.DxUpKernelIdeal.nD Cert.DxUpKernelIdeal.τ).loc Cert.DxUpKernelIdeal.main_arg0)
      ∧ r.2.mem ((c.tc : Thread Cert.DxUpKernelIdeal.nD Cert.DxUpKernelIdeal.τ).loc Cert.DxUpKernelIdeal.main_arg1) = m ((c.tc : Thread Cert.DxUpKernelIdeal.nD Cert.DxUpKernelIdeal.τ).loc Cert.DxUpKernelIdeal.main_arg1)
      ∧ r.2.mem ((c.tc : Thread Cert.DxUpKernelIdeal.nD Cert.DxUpKernelIdeal.τ).loc Cert.DxUpKernelIdeal.main_arg2) = m ((c.tc : Thread Cert.DxUpKernelIdeal.nD Cert.DxUpKernelIdeal.τ).loc Cert.DxUpKernelIdeal.main_arg2)
      ∧ r.2.mem ((c.tc : Thread Cert.DxUpKernelIdeal.nD Cert.DxUpKernelIdeal.τ).loc Cert.DxUpKernelIdeal.main_arg3) = m ((c.tc : Thread Cert.DxUpKernelIdeal.nD Cert.DxUpKernelIdeal.τ).loc Cert.DxUpKernelIdeal.main_arg3)
      ∧ r.2.mem ((c.tc : Thread Cert.DxUpKernelIdeal.nD Cert.DxUpKernelIdeal.τ).loc Cert.DxUpKernelIdeal.main_arg4) = m ((c.tc : Thread Cert.DxUpKernelIdeal.nD Cert.DxUpKernelIdeal.τ).loc Cert.DxUpKernelIdeal.main_arg4))
      ∧ r.2.sem = fun _ => 0)

def quiescent_DxUpKernelIdeal_pre_dxup_finite [hDxUpKernelIdeal : Cert.DxUpKernelIdeal.Facts] [hPre_dxup_finite : Cert.Pre_dxup_finite.Facts] : Prop :=
  ∀ (m : (ℓ : Loc Cert.DxUpKernelIdeal.nD Cert.DxUpKernelIdeal.τ Cert.DxUpKernelIdeal.sig) → Buf (Elt Ideal) ℓ) (g : Dev Cert.DxUpKernelIdeal.nD → PrngReg), Pre_DxUpKernelIdeal_dxup_finite m →
    θ_run (Cert.DxUpKernelIdeal.defs (F := Ideal)) (onTc (τ := Cert.DxUpKernelIdeal.τ) (Cert.DxUpKernelIdeal.main (F := Ideal))) ⟨m, fun _ => 0, g⟩ (fun r => (∀ c : Dev Cert.DxUpKernelIdeal.nD,
      r.2.mem ((c.tc : Thread Cert.DxUpKernelIdeal.nD Cert.DxUpKernelIdeal.τ).loc Cert.DxUpKernelIdeal.main_arg0) = m ((c.tc : Thread Cert.DxUpKernelIdeal.nD Cert.DxUpKernelIdeal.τ).loc Cert.DxUpKernelIdeal.main_arg0)
      ∧ r.2.mem ((c.tc : Thread Cert.DxUpKernelIdeal.nD Cert.DxUpKernelIdeal.τ).loc Cert.DxUpKernelIdeal.main_arg1) = m ((c.tc : Thread Cert.DxUpKernelIdeal.nD Cert.DxUpKernelIdeal.τ).loc Cert.DxUpKernelIdeal.main_arg1)
      ∧ r.2.mem ((c.tc : Thread Cert.DxUpKernelIdeal.nD Cert.DxUpKernelIdeal.τ).loc Cert.DxUpKernelIdeal.main_arg2) = m ((c.tc : Thread Cert.DxUpKernelIdeal.nD Cert.DxUpKernelIdeal.τ).loc Cert.DxUpKernelIdeal.main_arg2)
      ∧ r.2.mem ((c.tc : Thread Cert.DxUpKernelIdeal.nD Cert.DxUpKernelIdeal.τ).loc Cert.DxUpKernelIdeal.main_arg3) = m ((c.tc : Thread Cert.DxUpKernelIdeal.nD Cert.DxUpKernelIdeal.τ).loc Cert.DxUpKernelIdeal.main_arg3)
      ∧ r.2.mem ((c.tc : Thread Cert.DxUpKernelIdeal.nD Cert.DxUpKernelIdeal.τ).loc Cert.DxUpKernelIdeal.main_arg4) = m ((c.tc : Thread Cert.DxUpKernelIdeal.nD Cert.DxUpKernelIdeal.τ).loc Cert.DxUpKernelIdeal.main_arg4))
      ∧ r.2.sem = fun _ => 0)

def quiescent_DxUpReferenceIdeal [hDxUpReferenceIdeal : Cert.DxUpReferenceIdeal.Facts] : Prop :=
  ∀ (m : (ℓ : Loc Cert.DxUpReferenceIdeal.nD Cert.DxUpReferenceIdeal.τ Cert.DxUpReferenceIdeal.sig) → Buf (Elt Ideal) ℓ) (g : Dev Cert.DxUpReferenceIdeal.nD → PrngReg), Pre_DxUpReferenceIdeal m →
    θ_run (Cert.DxUpReferenceIdeal.defs (F := Ideal)) (onTc (τ := Cert.DxUpReferenceIdeal.τ) (Cert.DxUpReferenceIdeal.main (F := Ideal))) ⟨m, fun _ => 0, g⟩ (fun r => (∀ c : Dev Cert.DxUpReferenceIdeal.nD,
      r.2.mem ((c.tc : Thread Cert.DxUpReferenceIdeal.nD Cert.DxUpReferenceIdeal.τ).loc Cert.DxUpReferenceIdeal.main_arg0) = m ((c.tc : Thread Cert.DxUpReferenceIdeal.nD Cert.DxUpReferenceIdeal.τ).loc Cert.DxUpReferenceIdeal.main_arg0)
      ∧ r.2.mem ((c.tc : Thread Cert.DxUpReferenceIdeal.nD Cert.DxUpReferenceIdeal.τ).loc Cert.DxUpReferenceIdeal.main_arg1) = m ((c.tc : Thread Cert.DxUpReferenceIdeal.nD Cert.DxUpReferenceIdeal.τ).loc Cert.DxUpReferenceIdeal.main_arg1)
      ∧ r.2.mem ((c.tc : Thread Cert.DxUpReferenceIdeal.nD Cert.DxUpReferenceIdeal.τ).loc Cert.DxUpReferenceIdeal.main_arg2) = m ((c.tc : Thread Cert.DxUpReferenceIdeal.nD Cert.DxUpReferenceIdeal.τ).loc Cert.DxUpReferenceIdeal.main_arg2)
      ∧ r.2.mem ((c.tc : Thread Cert.DxUpReferenceIdeal.nD Cert.DxUpReferenceIdeal.τ).loc Cert.DxUpReferenceIdeal.main_arg3) = m ((c.tc : Thread Cert.DxUpReferenceIdeal.nD Cert.DxUpReferenceIdeal.τ).loc Cert.DxUpReferenceIdeal.main_arg3)
      ∧ r.2.mem ((c.tc : Thread Cert.DxUpReferenceIdeal.nD Cert.DxUpReferenceIdeal.τ).loc Cert.DxUpReferenceIdeal.main_arg4) = m ((c.tc : Thread Cert.DxUpReferenceIdeal.nD Cert.DxUpReferenceIdeal.τ).loc Cert.DxUpReferenceIdeal.main_arg4))
      ∧ r.2.sem = fun _ => 0)

def quiescent_DxUpReferenceIdeal_pre_dxup_finite [hDxUpReferenceIdeal : Cert.DxUpReferenceIdeal.Facts] [hPre_dxup_finite : Cert.Pre_dxup_finite.Facts] : Prop :=
  ∀ (m : (ℓ : Loc Cert.DxUpReferenceIdeal.nD Cert.DxUpReferenceIdeal.τ Cert.DxUpReferenceIdeal.sig) → Buf (Elt Ideal) ℓ) (g : Dev Cert.DxUpReferenceIdeal.nD → PrngReg), Pre_DxUpReferenceIdeal_dxup_finite m →
    θ_run (Cert.DxUpReferenceIdeal.defs (F := Ideal)) (onTc (τ := Cert.DxUpReferenceIdeal.τ) (Cert.DxUpReferenceIdeal.main (F := Ideal))) ⟨m, fun _ => 0, g⟩ (fun r => (∀ c : Dev Cert.DxUpReferenceIdeal.nD,
      r.2.mem ((c.tc : Thread Cert.DxUpReferenceIdeal.nD Cert.DxUpReferenceIdeal.τ).loc Cert.DxUpReferenceIdeal.main_arg0) = m ((c.tc : Thread Cert.DxUpReferenceIdeal.nD Cert.DxUpReferenceIdeal.τ).loc Cert.DxUpReferenceIdeal.main_arg0)
      ∧ r.2.mem ((c.tc : Thread Cert.DxUpReferenceIdeal.nD Cert.DxUpReferenceIdeal.τ).loc Cert.DxUpReferenceIdeal.main_arg1) = m ((c.tc : Thread Cert.DxUpReferenceIdeal.nD Cert.DxUpReferenceIdeal.τ).loc Cert.DxUpReferenceIdeal.main_arg1)
      ∧ r.2.mem ((c.tc : Thread Cert.DxUpReferenceIdeal.nD Cert.DxUpReferenceIdeal.τ).loc Cert.DxUpReferenceIdeal.main_arg2) = m ((c.tc : Thread Cert.DxUpReferenceIdeal.nD Cert.DxUpReferenceIdeal.τ).loc Cert.DxUpReferenceIdeal.main_arg2)
      ∧ r.2.mem ((c.tc : Thread Cert.DxUpReferenceIdeal.nD Cert.DxUpReferenceIdeal.τ).loc Cert.DxUpReferenceIdeal.main_arg3) = m ((c.tc : Thread Cert.DxUpReferenceIdeal.nD Cert.DxUpReferenceIdeal.τ).loc Cert.DxUpReferenceIdeal.main_arg3)
      ∧ r.2.mem ((c.tc : Thread Cert.DxUpReferenceIdeal.nD Cert.DxUpReferenceIdeal.τ).loc Cert.DxUpReferenceIdeal.main_arg4) = m ((c.tc : Thread Cert.DxUpReferenceIdeal.nD Cert.DxUpReferenceIdeal.τ).loc Cert.DxUpReferenceIdeal.main_arg4))
      ∧ r.2.sem = fun _ => 0)

def quiescent_DxInKernel [hDxInKernel : Cert.DxInKernel.Facts] : Prop :=
  ∀ (m : (ℓ : Loc Cert.DxInKernel.nD Cert.DxInKernel.τ Cert.DxInKernel.sig) → Buf (Elt Bits) ℓ) (g : Dev Cert.DxInKernel.nD → PrngReg), Pre_DxInKernel m →
    θ_run (Cert.DxInKernel.defs (F := Bits)) (onTc (τ := Cert.DxInKernel.τ) (Cert.DxInKernel.main (F := Bits))) ⟨m, fun _ => 0, g⟩ (fun r => (∀ c : Dev Cert.DxInKernel.nD,
      r.2.mem ((c.tc : Thread Cert.DxInKernel.nD Cert.DxInKernel.τ).loc Cert.DxInKernel.main_arg0) = m ((c.tc : Thread Cert.DxInKernel.nD Cert.DxInKernel.τ).loc Cert.DxInKernel.main_arg0)
      ∧ r.2.mem ((c.tc : Thread Cert.DxInKernel.nD Cert.DxInKernel.τ).loc Cert.DxInKernel.main_arg1) = m ((c.tc : Thread Cert.DxInKernel.nD Cert.DxInKernel.τ).loc Cert.DxInKernel.main_arg1)
      ∧ r.2.mem ((c.tc : Thread Cert.DxInKernel.nD Cert.DxInKernel.τ).loc Cert.DxInKernel.main_arg2) = m ((c.tc : Thread Cert.DxInKernel.nD Cert.DxInKernel.τ).loc Cert.DxInKernel.main_arg2)
      ∧ r.2.mem ((c.tc : Thread Cert.DxInKernel.nD Cert.DxInKernel.τ).loc Cert.DxInKernel.main_arg3) = m ((c.tc : Thread Cert.DxInKernel.nD Cert.DxInKernel.τ).loc Cert.DxInKernel.main_arg3)
      ∧ r.2.mem ((c.tc : Thread Cert.DxInKernel.nD Cert.DxInKernel.τ).loc Cert.DxInKernel.main_arg4) = m ((c.tc : Thread Cert.DxInKernel.nD Cert.DxInKernel.τ).loc Cert.DxInKernel.main_arg4))
      ∧ r.2.sem = fun _ => 0)

def quiescent_DxInKernelIdeal [hDxInKernelIdeal : Cert.DxInKernelIdeal.Facts] : Prop :=
  ∀ (m : (ℓ : Loc Cert.DxInKernelIdeal.nD Cert.DxInKernelIdeal.τ Cert.DxInKernelIdeal.sig) → Buf (Elt Ideal) ℓ) (g : Dev Cert.DxInKernelIdeal.nD → PrngReg), Pre_DxInKernelIdeal m →
    θ_run (Cert.DxInKernelIdeal.defs (F := Ideal)) (onTc (τ := Cert.DxInKernelIdeal.τ) (Cert.DxInKernelIdeal.main (F := Ideal))) ⟨m, fun _ => 0, g⟩ (fun r => (∀ c : Dev Cert.DxInKernelIdeal.nD,
      r.2.mem ((c.tc : Thread Cert.DxInKernelIdeal.nD Cert.DxInKernelIdeal.τ).loc Cert.DxInKernelIdeal.main_arg0) = m ((c.tc : Thread Cert.DxInKernelIdeal.nD Cert.DxInKernelIdeal.τ).loc Cert.DxInKernelIdeal.main_arg0)
      ∧ r.2.mem ((c.tc : Thread Cert.DxInKernelIdeal.nD Cert.DxInKernelIdeal.τ).loc Cert.DxInKernelIdeal.main_arg1) = m ((c.tc : Thread Cert.DxInKernelIdeal.nD Cert.DxInKernelIdeal.τ).loc Cert.DxInKernelIdeal.main_arg1)
      ∧ r.2.mem ((c.tc : Thread Cert.DxInKernelIdeal.nD Cert.DxInKernelIdeal.τ).loc Cert.DxInKernelIdeal.main_arg2) = m ((c.tc : Thread Cert.DxInKernelIdeal.nD Cert.DxInKernelIdeal.τ).loc Cert.DxInKernelIdeal.main_arg2)
      ∧ r.2.mem ((c.tc : Thread Cert.DxInKernelIdeal.nD Cert.DxInKernelIdeal.τ).loc Cert.DxInKernelIdeal.main_arg3) = m ((c.tc : Thread Cert.DxInKernelIdeal.nD Cert.DxInKernelIdeal.τ).loc Cert.DxInKernelIdeal.main_arg3)
      ∧ r.2.mem ((c.tc : Thread Cert.DxInKernelIdeal.nD Cert.DxInKernelIdeal.τ).loc Cert.DxInKernelIdeal.main_arg4) = m ((c.tc : Thread Cert.DxInKernelIdeal.nD Cert.DxInKernelIdeal.τ).loc Cert.DxInKernelIdeal.main_arg4))
      ∧ r.2.sem = fun _ => 0)

def quiescent_DxInKernelIdeal_pre_dxin_finite [hDxInKernelIdeal : Cert.DxInKernelIdeal.Facts] [hPre_dxin_finite : Cert.Pre_dxin_finite.Facts] : Prop :=
  ∀ (m : (ℓ : Loc Cert.DxInKernelIdeal.nD Cert.DxInKernelIdeal.τ Cert.DxInKernelIdeal.sig) → Buf (Elt Ideal) ℓ) (g : Dev Cert.DxInKernelIdeal.nD → PrngReg), Pre_DxInKernelIdeal_dxin_finite m →
    θ_run (Cert.DxInKernelIdeal.defs (F := Ideal)) (onTc (τ := Cert.DxInKernelIdeal.τ) (Cert.DxInKernelIdeal.main (F := Ideal))) ⟨m, fun _ => 0, g⟩ (fun r => (∀ c : Dev Cert.DxInKernelIdeal.nD,
      r.2.mem ((c.tc : Thread Cert.DxInKernelIdeal.nD Cert.DxInKernelIdeal.τ).loc Cert.DxInKernelIdeal.main_arg0) = m ((c.tc : Thread Cert.DxInKernelIdeal.nD Cert.DxInKernelIdeal.τ).loc Cert.DxInKernelIdeal.main_arg0)
      ∧ r.2.mem ((c.tc : Thread Cert.DxInKernelIdeal.nD Cert.DxInKernelIdeal.τ).loc Cert.DxInKernelIdeal.main_arg1) = m ((c.tc : Thread Cert.DxInKernelIdeal.nD Cert.DxInKernelIdeal.τ).loc Cert.DxInKernelIdeal.main_arg1)
      ∧ r.2.mem ((c.tc : Thread Cert.DxInKernelIdeal.nD Cert.DxInKernelIdeal.τ).loc Cert.DxInKernelIdeal.main_arg2) = m ((c.tc : Thread Cert.DxInKernelIdeal.nD Cert.DxInKernelIdeal.τ).loc Cert.DxInKernelIdeal.main_arg2)
      ∧ r.2.mem ((c.tc : Thread Cert.DxInKernelIdeal.nD Cert.DxInKernelIdeal.τ).loc Cert.DxInKernelIdeal.main_arg3) = m ((c.tc : Thread Cert.DxInKernelIdeal.nD Cert.DxInKernelIdeal.τ).loc Cert.DxInKernelIdeal.main_arg3)
      ∧ r.2.mem ((c.tc : Thread Cert.DxInKernelIdeal.nD Cert.DxInKernelIdeal.τ).loc Cert.DxInKernelIdeal.main_arg4) = m ((c.tc : Thread Cert.DxInKernelIdeal.nD Cert.DxInKernelIdeal.τ).loc Cert.DxInKernelIdeal.main_arg4))
      ∧ r.2.sem = fun _ => 0)

def quiescent_DxInReferenceIdeal [hDxInReferenceIdeal : Cert.DxInReferenceIdeal.Facts] : Prop :=
  ∀ (m : (ℓ : Loc Cert.DxInReferenceIdeal.nD Cert.DxInReferenceIdeal.τ Cert.DxInReferenceIdeal.sig) → Buf (Elt Ideal) ℓ) (g : Dev Cert.DxInReferenceIdeal.nD → PrngReg), Pre_DxInReferenceIdeal m →
    θ_run (Cert.DxInReferenceIdeal.defs (F := Ideal)) (onTc (τ := Cert.DxInReferenceIdeal.τ) (Cert.DxInReferenceIdeal.main (F := Ideal))) ⟨m, fun _ => 0, g⟩ (fun r => (∀ c : Dev Cert.DxInReferenceIdeal.nD,
      r.2.mem ((c.tc : Thread Cert.DxInReferenceIdeal.nD Cert.DxInReferenceIdeal.τ).loc Cert.DxInReferenceIdeal.main_arg0) = m ((c.tc : Thread Cert.DxInReferenceIdeal.nD Cert.DxInReferenceIdeal.τ).loc Cert.DxInReferenceIdeal.main_arg0)
      ∧ r.2.mem ((c.tc : Thread Cert.DxInReferenceIdeal.nD Cert.DxInReferenceIdeal.τ).loc Cert.DxInReferenceIdeal.main_arg1) = m ((c.tc : Thread Cert.DxInReferenceIdeal.nD Cert.DxInReferenceIdeal.τ).loc Cert.DxInReferenceIdeal.main_arg1)
      ∧ r.2.mem ((c.tc : Thread Cert.DxInReferenceIdeal.nD Cert.DxInReferenceIdeal.τ).loc Cert.DxInReferenceIdeal.main_arg2) = m ((c.tc : Thread Cert.DxInReferenceIdeal.nD Cert.DxInReferenceIdeal.τ).loc Cert.DxInReferenceIdeal.main_arg2)
      ∧ r.2.mem ((c.tc : Thread Cert.DxInReferenceIdeal.nD Cert.DxInReferenceIdeal.τ).loc Cert.DxInReferenceIdeal.main_arg3) = m ((c.tc : Thread Cert.DxInReferenceIdeal.nD Cert.DxInReferenceIdeal.τ).loc Cert.DxInReferenceIdeal.main_arg3)
      ∧ r.2.mem ((c.tc : Thread Cert.DxInReferenceIdeal.nD Cert.DxInReferenceIdeal.τ).loc Cert.DxInReferenceIdeal.main_arg4) = m ((c.tc : Thread Cert.DxInReferenceIdeal.nD Cert.DxInReferenceIdeal.τ).loc Cert.DxInReferenceIdeal.main_arg4))
      ∧ r.2.sem = fun _ => 0)

def quiescent_DxInReferenceIdeal_pre_dxin_finite [hDxInReferenceIdeal : Cert.DxInReferenceIdeal.Facts] [hPre_dxin_finite : Cert.Pre_dxin_finite.Facts] : Prop :=
  ∀ (m : (ℓ : Loc Cert.DxInReferenceIdeal.nD Cert.DxInReferenceIdeal.τ Cert.DxInReferenceIdeal.sig) → Buf (Elt Ideal) ℓ) (g : Dev Cert.DxInReferenceIdeal.nD → PrngReg), Pre_DxInReferenceIdeal_dxin_finite m →
    θ_run (Cert.DxInReferenceIdeal.defs (F := Ideal)) (onTc (τ := Cert.DxInReferenceIdeal.τ) (Cert.DxInReferenceIdeal.main (F := Ideal))) ⟨m, fun _ => 0, g⟩ (fun r => (∀ c : Dev Cert.DxInReferenceIdeal.nD,
      r.2.mem ((c.tc : Thread Cert.DxInReferenceIdeal.nD Cert.DxInReferenceIdeal.τ).loc Cert.DxInReferenceIdeal.main_arg0) = m ((c.tc : Thread Cert.DxInReferenceIdeal.nD Cert.DxInReferenceIdeal.τ).loc Cert.DxInReferenceIdeal.main_arg0)
      ∧ r.2.mem ((c.tc : Thread Cert.DxInReferenceIdeal.nD Cert.DxInReferenceIdeal.τ).loc Cert.DxInReferenceIdeal.main_arg1) = m ((c.tc : Thread Cert.DxInReferenceIdeal.nD Cert.DxInReferenceIdeal.τ).loc Cert.DxInReferenceIdeal.main_arg1)
      ∧ r.2.mem ((c.tc : Thread Cert.DxInReferenceIdeal.nD Cert.DxInReferenceIdeal.τ).loc Cert.DxInReferenceIdeal.main_arg2) = m ((c.tc : Thread Cert.DxInReferenceIdeal.nD Cert.DxInReferenceIdeal.τ).loc Cert.DxInReferenceIdeal.main_arg2)
      ∧ r.2.mem ((c.tc : Thread Cert.DxInReferenceIdeal.nD Cert.DxInReferenceIdeal.τ).loc Cert.DxInReferenceIdeal.main_arg3) = m ((c.tc : Thread Cert.DxInReferenceIdeal.nD Cert.DxInReferenceIdeal.τ).loc Cert.DxInReferenceIdeal.main_arg3)
      ∧ r.2.mem ((c.tc : Thread Cert.DxInReferenceIdeal.nD Cert.DxInReferenceIdeal.τ).loc Cert.DxInReferenceIdeal.main_arg4) = m ((c.tc : Thread Cert.DxInReferenceIdeal.nD Cert.DxInReferenceIdeal.τ).loc Cert.DxInReferenceIdeal.main_arg4))
      ∧ r.2.sem = fun _ => 0)

def quiescent_FoxKernel [hFoxKernel : Cert.FoxKernel.Facts] : Prop :=
  ∀ (m : (ℓ : Loc Cert.FoxKernel.nD Cert.FoxKernel.τ Cert.FoxKernel.sig) → Buf (Elt Bits) ℓ) (g : Dev Cert.FoxKernel.nD → PrngReg), Pre_FoxKernel m →
    θ_run (Cert.FoxKernel.defs (F := Bits)) (onTc (τ := Cert.FoxKernel.τ) (Cert.FoxKernel.main (F := Bits))) ⟨m, fun _ => 0, g⟩ (fun r => (∀ c : Dev Cert.FoxKernel.nD,
      r.2.mem ((c.tc : Thread Cert.FoxKernel.nD Cert.FoxKernel.τ).loc Cert.FoxKernel.main_arg0) = m ((c.tc : Thread Cert.FoxKernel.nD Cert.FoxKernel.τ).loc Cert.FoxKernel.main_arg0)
      ∧ r.2.mem ((c.tc : Thread Cert.FoxKernel.nD Cert.FoxKernel.τ).loc Cert.FoxKernel.main_arg1) = m ((c.tc : Thread Cert.FoxKernel.nD Cert.FoxKernel.τ).loc Cert.FoxKernel.main_arg1)
      ∧ r.2.mem ((c.tc : Thread Cert.FoxKernel.nD Cert.FoxKernel.τ).loc Cert.FoxKernel.main_arg2) = m ((c.tc : Thread Cert.FoxKernel.nD Cert.FoxKernel.τ).loc Cert.FoxKernel.main_arg2)
      ∧ r.2.mem ((c.tc : Thread Cert.FoxKernel.nD Cert.FoxKernel.τ).loc Cert.FoxKernel.main_arg3) = m ((c.tc : Thread Cert.FoxKernel.nD Cert.FoxKernel.τ).loc Cert.FoxKernel.main_arg3)
      ∧ r.2.mem ((c.tc : Thread Cert.FoxKernel.nD Cert.FoxKernel.τ).loc Cert.FoxKernel.main_arg4) = m ((c.tc : Thread Cert.FoxKernel.nD Cert.FoxKernel.τ).loc Cert.FoxKernel.main_arg4))
      ∧ r.2.sem = fun _ => 0)

def quiescent_FoxKernelIdeal [hFoxKernelIdeal : Cert.FoxKernelIdeal.Facts] : Prop :=
  ∀ (m : (ℓ : Loc Cert.FoxKernelIdeal.nD Cert.FoxKernelIdeal.τ Cert.FoxKernelIdeal.sig) → Buf (Elt Ideal) ℓ) (g : Dev Cert.FoxKernelIdeal.nD → PrngReg), Pre_FoxKernelIdeal m →
    θ_run (Cert.FoxKernelIdeal.defs (F := Ideal)) (onTc (τ := Cert.FoxKernelIdeal.τ) (Cert.FoxKernelIdeal.main (F := Ideal))) ⟨m, fun _ => 0, g⟩ (fun r => (∀ c : Dev Cert.FoxKernelIdeal.nD,
      r.2.mem ((c.tc : Thread Cert.FoxKernelIdeal.nD Cert.FoxKernelIdeal.τ).loc Cert.FoxKernelIdeal.main_arg0) = m ((c.tc : Thread Cert.FoxKernelIdeal.nD Cert.FoxKernelIdeal.τ).loc Cert.FoxKernelIdeal.main_arg0)
      ∧ r.2.mem ((c.tc : Thread Cert.FoxKernelIdeal.nD Cert.FoxKernelIdeal.τ).loc Cert.FoxKernelIdeal.main_arg1) = m ((c.tc : Thread Cert.FoxKernelIdeal.nD Cert.FoxKernelIdeal.τ).loc Cert.FoxKernelIdeal.main_arg1)
      ∧ r.2.mem ((c.tc : Thread Cert.FoxKernelIdeal.nD Cert.FoxKernelIdeal.τ).loc Cert.FoxKernelIdeal.main_arg2) = m ((c.tc : Thread Cert.FoxKernelIdeal.nD Cert.FoxKernelIdeal.τ).loc Cert.FoxKernelIdeal.main_arg2)
      ∧ r.2.mem ((c.tc : Thread Cert.FoxKernelIdeal.nD Cert.FoxKernelIdeal.τ).loc Cert.FoxKernelIdeal.main_arg3) = m ((c.tc : Thread Cert.FoxKernelIdeal.nD Cert.FoxKernelIdeal.τ).loc Cert.FoxKernelIdeal.main_arg3)
      ∧ r.2.mem ((c.tc : Thread Cert.FoxKernelIdeal.nD Cert.FoxKernelIdeal.τ).loc Cert.FoxKernelIdeal.main_arg4) = m ((c.tc : Thread Cert.FoxKernelIdeal.nD Cert.FoxKernelIdeal.τ).loc Cert.FoxKernelIdeal.main_arg4))
      ∧ r.2.sem = fun _ => 0)

def quiescent_FoxKernelIdeal_pre_fox_finite [hFoxKernelIdeal : Cert.FoxKernelIdeal.Facts] [hPre_fox_finite : Cert.Pre_fox_finite.Facts] : Prop :=
  ∀ (m : (ℓ : Loc Cert.FoxKernelIdeal.nD Cert.FoxKernelIdeal.τ Cert.FoxKernelIdeal.sig) → Buf (Elt Ideal) ℓ) (g : Dev Cert.FoxKernelIdeal.nD → PrngReg), Pre_FoxKernelIdeal_fox_finite m →
    θ_run (Cert.FoxKernelIdeal.defs (F := Ideal)) (onTc (τ := Cert.FoxKernelIdeal.τ) (Cert.FoxKernelIdeal.main (F := Ideal))) ⟨m, fun _ => 0, g⟩ (fun r => (∀ c : Dev Cert.FoxKernelIdeal.nD,
      r.2.mem ((c.tc : Thread Cert.FoxKernelIdeal.nD Cert.FoxKernelIdeal.τ).loc Cert.FoxKernelIdeal.main_arg0) = m ((c.tc : Thread Cert.FoxKernelIdeal.nD Cert.FoxKernelIdeal.τ).loc Cert.FoxKernelIdeal.main_arg0)
      ∧ r.2.mem ((c.tc : Thread Cert.FoxKernelIdeal.nD Cert.FoxKernelIdeal.τ).loc Cert.FoxKernelIdeal.main_arg1) = m ((c.tc : Thread Cert.FoxKernelIdeal.nD Cert.FoxKernelIdeal.τ).loc Cert.FoxKernelIdeal.main_arg1)
      ∧ r.2.mem ((c.tc : Thread Cert.FoxKernelIdeal.nD Cert.FoxKernelIdeal.τ).loc Cert.FoxKernelIdeal.main_arg2) = m ((c.tc : Thread Cert.FoxKernelIdeal.nD Cert.FoxKernelIdeal.τ).loc Cert.FoxKernelIdeal.main_arg2)
      ∧ r.2.mem ((c.tc : Thread Cert.FoxKernelIdeal.nD Cert.FoxKernelIdeal.τ).loc Cert.FoxKernelIdeal.main_arg3) = m ((c.tc : Thread Cert.FoxKernelIdeal.nD Cert.FoxKernelIdeal.τ).loc Cert.FoxKernelIdeal.main_arg3)
      ∧ r.2.mem ((c.tc : Thread Cert.FoxKernelIdeal.nD Cert.FoxKernelIdeal.τ).loc Cert.FoxKernelIdeal.main_arg4) = m ((c.tc : Thread Cert.FoxKernelIdeal.nD Cert.FoxKernelIdeal.τ).loc Cert.FoxKernelIdeal.main_arg4))
      ∧ r.2.sem = fun _ => 0)

def quiescent_FoxReferenceIdeal [hFoxReferenceIdeal : Cert.FoxReferenceIdeal.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2)
      ∧ r.2.mem ((c.tc : Thread Cert.FoxReferenceIdeal.nD Cert.FoxReferenceIdeal.τ).loc Cert.FoxReferenceIdeal.main_arg3) = m ((c.tc : Thread Cert.FoxReferenceIdeal.nD Cert.FoxReferenceIdeal.τ).loc Cert.FoxReferenceIdeal.main_arg3)
      ∧ r.2.mem ((c.tc : Thread Cert.FoxReferenceIdeal.nD Cert.FoxReferenceIdeal.τ).loc Cert.FoxReferenceIdeal.main_arg4) = m ((c.tc : Thread Cert.FoxReferenceIdeal.nD Cert.FoxReferenceIdeal.τ).loc Cert.FoxReferenceIdeal.main_arg4))
      ∧ r.2.sem = fun _ => 0)

def quiescent_FoxReferenceIdeal_pre_fox_finite [hFoxReferenceIdeal : Cert.FoxReferenceIdeal.Facts] [hPre_fox_finite : Cert.Pre_fox_finite.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal_fox_finite m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2)
      ∧ r.2.mem ((c.tc : Thread Cert.FoxReferenceIdeal.nD Cert.FoxReferenceIdeal.τ).loc Cert.FoxReferenceIdeal.main_arg3) = m ((c.tc : Thread Cert.FoxReferenceIdeal.nD Cert.FoxReferenceIdeal.τ).loc Cert.FoxReferenceIdeal.main_arg3)
      ∧ r.2.mem ((c.tc : Thread Cert.FoxReferenceIdeal.nD Cert.FoxReferenceIdeal.τ).loc Cert.FoxReferenceIdeal.main_arg4) = m ((c.tc : Thread Cert.FoxReferenceIdeal.nD Cert.FoxReferenceIdeal.τ).loc Cert.FoxReferenceIdeal.main_arg4))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2)
      ∧ r.2.mem ((c.tc : Thread Cert.GateKernel.nD Cert.GateKernel.τ).loc Cert.GateKernel.main_arg3) = m ((c.tc : Thread Cert.GateKernel.nD Cert.GateKernel.τ).loc Cert.GateKernel.main_arg3))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ r.2.sem = fun _ => 0)

def quiescent_GateKernelIdeal_pre_gate_finite [hGateKernelIdeal : Cert.GateKernelIdeal.Facts] [hPre_gate_finite : Cert.Pre_gate_finite.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal_gate_finite m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3))
      ∧ r.2.sem = fun _ => 0)

def quiescent_GateReferenceIdeal_pre_gate_finite [hGateReferenceIdeal : Cert.GateReferenceIdeal.Facts] [hPre_gate_finite : Cert.Pre_gate_finite.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal_gate_finite m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_MmoKernel [hMmoKernel : Cert.MmoKernel.Facts] : Prop :=
  ∀ (m : (ℓ : Loc Cert.MmoKernel.nD Cert.MmoKernel.τ Cert.MmoKernel.sig) → Buf (Elt Bits) ℓ) (g : Dev Cert.MmoKernel.nD → PrngReg), Pre_MmoKernel m →
    θ_run (Cert.MmoKernel.defs (F := Bits)) (onTc (τ := Cert.MmoKernel.τ) (Cert.MmoKernel.main (F := Bits))) ⟨m, fun _ => 0, g⟩ (fun r => (∀ c : Dev Cert.MmoKernel.nD,
      r.2.mem ((c.tc : Thread Cert.MmoKernel.nD Cert.MmoKernel.τ).loc Cert.MmoKernel.main_arg0) = m ((c.tc : Thread Cert.MmoKernel.nD Cert.MmoKernel.τ).loc Cert.MmoKernel.main_arg0)
      ∧ r.2.mem ((c.tc : Thread Cert.MmoKernel.nD Cert.MmoKernel.τ).loc Cert.MmoKernel.main_arg1) = m ((c.tc : Thread Cert.MmoKernel.nD Cert.MmoKernel.τ).loc Cert.MmoKernel.main_arg1)
      ∧ r.2.mem ((c.tc : Thread Cert.MmoKernel.nD Cert.MmoKernel.τ).loc Cert.MmoKernel.main_arg2) = m ((c.tc : Thread Cert.MmoKernel.nD Cert.MmoKernel.τ).loc Cert.MmoKernel.main_arg2)
      ∧ r.2.mem ((c.tc : Thread Cert.MmoKernel.nD Cert.MmoKernel.τ).loc Cert.MmoKernel.main_arg3) = m ((c.tc : Thread Cert.MmoKernel.nD Cert.MmoKernel.τ).loc Cert.MmoKernel.main_arg3))
      ∧ r.2.sem = fun _ => 0)

def quiescent_MmoKernelIdeal [hMmoKernelIdeal : Cert.MmoKernelIdeal.Facts] : Prop :=
  ∀ (m : (ℓ : Loc Cert.MmoKernelIdeal.nD Cert.MmoKernelIdeal.τ Cert.MmoKernelIdeal.sig) → Buf (Elt Ideal) ℓ) (g : Dev Cert.MmoKernelIdeal.nD → PrngReg), Pre_MmoKernelIdeal m →
    θ_run (Cert.MmoKernelIdeal.defs (F := Ideal)) (onTc (τ := Cert.MmoKernelIdeal.τ) (Cert.MmoKernelIdeal.main (F := Ideal))) ⟨m, fun _ => 0, g⟩ (fun r => (∀ c : Dev Cert.MmoKernelIdeal.nD,
      r.2.mem ((c.tc : Thread Cert.MmoKernelIdeal.nD Cert.MmoKernelIdeal.τ).loc Cert.MmoKernelIdeal.main_arg0) = m ((c.tc : Thread Cert.MmoKernelIdeal.nD Cert.MmoKernelIdeal.τ).loc Cert.MmoKernelIdeal.main_arg0)
      ∧ r.2.mem ((c.tc : Thread Cert.MmoKernelIdeal.nD Cert.MmoKernelIdeal.τ).loc Cert.MmoKernelIdeal.main_arg1) = m ((c.tc : Thread Cert.MmoKernelIdeal.nD Cert.MmoKernelIdeal.τ).loc Cert.MmoKernelIdeal.main_arg1)
      ∧ r.2.mem ((c.tc : Thread Cert.MmoKernelIdeal.nD Cert.MmoKernelIdeal.τ).loc Cert.MmoKernelIdeal.main_arg2) = m ((c.tc : Thread Cert.MmoKernelIdeal.nD Cert.MmoKernelIdeal.τ).loc Cert.MmoKernelIdeal.main_arg2)
      ∧ r.2.mem ((c.tc : Thread Cert.MmoKernelIdeal.nD Cert.MmoKernelIdeal.τ).loc Cert.MmoKernelIdeal.main_arg3) = m ((c.tc : Thread Cert.MmoKernelIdeal.nD Cert.MmoKernelIdeal.τ).loc Cert.MmoKernelIdeal.main_arg3))
      ∧ r.2.sem = fun _ => 0)

def quiescent_MmoReferenceIdeal [hMmoReferenceIdeal : Cert.MmoReferenceIdeal.Facts] : Prop :=
  ∀ (m : (ℓ : Loc Cert.MmoReferenceIdeal.nD Cert.MmoReferenceIdeal.τ Cert.MmoReferenceIdeal.sig) → Buf (Elt Ideal) ℓ) (g : Dev Cert.MmoReferenceIdeal.nD → PrngReg), Pre_MmoReferenceIdeal m →
    θ_run (Cert.MmoReferenceIdeal.defs (F := Ideal)) (onTc (τ := Cert.MmoReferenceIdeal.τ) (Cert.MmoReferenceIdeal.main (F := Ideal))) ⟨m, fun _ => 0, g⟩ (fun r => (∀ c : Dev Cert.MmoReferenceIdeal.nD,
      r.2.mem ((c.tc : Thread Cert.MmoReferenceIdeal.nD Cert.MmoReferenceIdeal.τ).loc Cert.MmoReferenceIdeal.main_arg0) = m ((c.tc : Thread Cert.MmoReferenceIdeal.nD Cert.MmoReferenceIdeal.τ).loc Cert.MmoReferenceIdeal.main_arg0)
      ∧ r.2.mem ((c.tc : Thread Cert.MmoReferenceIdeal.nD Cert.MmoReferenceIdeal.τ).loc Cert.MmoReferenceIdeal.main_arg1) = m ((c.tc : Thread Cert.MmoReferenceIdeal.nD Cert.MmoReferenceIdeal.τ).loc Cert.MmoReferenceIdeal.main_arg1)
      ∧ r.2.mem ((c.tc : Thread Cert.MmoReferenceIdeal.nD Cert.MmoReferenceIdeal.τ).loc Cert.MmoReferenceIdeal.main_arg2) = m ((c.tc : Thread Cert.MmoReferenceIdeal.nD Cert.MmoReferenceIdeal.τ).loc Cert.MmoReferenceIdeal.main_arg2)
      ∧ r.2.mem ((c.tc : Thread Cert.MmoReferenceIdeal.nD Cert.MmoReferenceIdeal.τ).loc Cert.MmoReferenceIdeal.main_arg3) = m ((c.tc : Thread Cert.MmoReferenceIdeal.nD Cert.MmoReferenceIdeal.τ).loc Cert.MmoReferenceIdeal.main_arg3))
      ∧ r.2.sem = fun _ => 0)

def quiescent_MmdKernel [hMmdKernel : Cert.MmdKernel.Facts] : Prop :=
  ∀ (m : (ℓ : Loc Cert.MmdKernel.nD Cert.MmdKernel.τ Cert.MmdKernel.sig) → Buf (Elt Bits) ℓ) (g : Dev Cert.MmdKernel.nD → PrngReg), Pre_MmdKernel m →
    θ_run (Cert.MmdKernel.defs (F := Bits)) (onTc (τ := Cert.MmdKernel.τ) (Cert.MmdKernel.main (F := Bits))) ⟨m, fun _ => 0, g⟩ (fun r => (∀ c : Dev Cert.MmdKernel.nD,
      r.2.mem ((c.tc : Thread Cert.MmdKernel.nD Cert.MmdKernel.τ).loc Cert.MmdKernel.main_arg0) = m ((c.tc : Thread Cert.MmdKernel.nD Cert.MmdKernel.τ).loc Cert.MmdKernel.main_arg0)
      ∧ r.2.mem ((c.tc : Thread Cert.MmdKernel.nD Cert.MmdKernel.τ).loc Cert.MmdKernel.main_arg1) = m ((c.tc : Thread Cert.MmdKernel.nD Cert.MmdKernel.τ).loc Cert.MmdKernel.main_arg1)
      ∧ r.2.mem ((c.tc : Thread Cert.MmdKernel.nD Cert.MmdKernel.τ).loc Cert.MmdKernel.main_arg2) = m ((c.tc : Thread Cert.MmdKernel.nD Cert.MmdKernel.τ).loc Cert.MmdKernel.main_arg2)
      ∧ r.2.mem ((c.tc : Thread Cert.MmdKernel.nD Cert.MmdKernel.τ).loc Cert.MmdKernel.main_arg3) = m ((c.tc : Thread Cert.MmdKernel.nD Cert.MmdKernel.τ).loc Cert.MmdKernel.main_arg3))
      ∧ r.2.sem = fun _ => 0)

def quiescent_MmdKernelIdeal [hMmdKernelIdeal : Cert.MmdKernelIdeal.Facts] : Prop :=
  ∀ (m : (ℓ : Loc Cert.MmdKernelIdeal.nD Cert.MmdKernelIdeal.τ Cert.MmdKernelIdeal.sig) → Buf (Elt Ideal) ℓ) (g : Dev Cert.MmdKernelIdeal.nD → PrngReg), Pre_MmdKernelIdeal m →
    θ_run (Cert.MmdKernelIdeal.defs (F := Ideal)) (onTc (τ := Cert.MmdKernelIdeal.τ) (Cert.MmdKernelIdeal.main (F := Ideal))) ⟨m, fun _ => 0, g⟩ (fun r => (∀ c : Dev Cert.MmdKernelIdeal.nD,
      r.2.mem ((c.tc : Thread Cert.MmdKernelIdeal.nD Cert.MmdKernelIdeal.τ).loc Cert.MmdKernelIdeal.main_arg0) = m ((c.tc : Thread Cert.MmdKernelIdeal.nD Cert.MmdKernelIdeal.τ).loc Cert.MmdKernelIdeal.main_arg0)
      ∧ r.2.mem ((c.tc : Thread Cert.MmdKernelIdeal.nD Cert.MmdKernelIdeal.τ).loc Cert.MmdKernelIdeal.main_arg1) = m ((c.tc : Thread Cert.MmdKernelIdeal.nD Cert.MmdKernelIdeal.τ).loc Cert.MmdKernelIdeal.main_arg1)
      ∧ r.2.mem ((c.tc : Thread Cert.MmdKernelIdeal.nD Cert.MmdKernelIdeal.τ).loc Cert.MmdKernelIdeal.main_arg2) = m ((c.tc : Thread Cert.MmdKernelIdeal.nD Cert.MmdKernelIdeal.τ).loc Cert.MmdKernelIdeal.main_arg2)
      ∧ r.2.mem ((c.tc : Thread Cert.MmdKernelIdeal.nD Cert.MmdKernelIdeal.τ).loc Cert.MmdKernelIdeal.main_arg3) = m ((c.tc : Thread Cert.MmdKernelIdeal.nD Cert.MmdKernelIdeal.τ).loc Cert.MmdKernelIdeal.main_arg3))
      ∧ r.2.sem = fun _ => 0)

def quiescent_MmdReferenceIdeal [hMmdReferenceIdeal : Cert.MmdReferenceIdeal.Facts] : Prop :=
  ∀ (m : (ℓ : Loc Cert.MmdReferenceIdeal.nD Cert.MmdReferenceIdeal.τ Cert.MmdReferenceIdeal.sig) → Buf (Elt Ideal) ℓ) (g : Dev Cert.MmdReferenceIdeal.nD → PrngReg), Pre_MmdReferenceIdeal m →
    θ_run (Cert.MmdReferenceIdeal.defs (F := Ideal)) (onTc (τ := Cert.MmdReferenceIdeal.τ) (Cert.MmdReferenceIdeal.main (F := Ideal))) ⟨m, fun _ => 0, g⟩ (fun r => (∀ c : Dev Cert.MmdReferenceIdeal.nD,
      r.2.mem ((c.tc : Thread Cert.MmdReferenceIdeal.nD Cert.MmdReferenceIdeal.τ).loc Cert.MmdReferenceIdeal.main_arg0) = m ((c.tc : Thread Cert.MmdReferenceIdeal.nD Cert.MmdReferenceIdeal.τ).loc Cert.MmdReferenceIdeal.main_arg0)
      ∧ r.2.mem ((c.tc : Thread Cert.MmdReferenceIdeal.nD Cert.MmdReferenceIdeal.τ).loc Cert.MmdReferenceIdeal.main_arg1) = m ((c.tc : Thread Cert.MmdReferenceIdeal.nD Cert.MmdReferenceIdeal.τ).loc Cert.MmdReferenceIdeal.main_arg1)
      ∧ r.2.mem ((c.tc : Thread Cert.MmdReferenceIdeal.nD Cert.MmdReferenceIdeal.τ).loc Cert.MmdReferenceIdeal.main_arg2) = m ((c.tc : Thread Cert.MmdReferenceIdeal.nD Cert.MmdReferenceIdeal.τ).loc Cert.MmdReferenceIdeal.main_arg2)
      ∧ r.2.mem ((c.tc : Thread Cert.MmdReferenceIdeal.nD Cert.MmdReferenceIdeal.τ).loc Cert.MmdReferenceIdeal.main_arg3) = m ((c.tc : Thread Cert.MmdReferenceIdeal.nD Cert.MmdReferenceIdeal.τ).loc Cert.MmdReferenceIdeal.main_arg3))
      ∧ r.2.sem = fun _ => 0)

def quiescent_DyKernel [hDyKernel : Cert.DyKernel.Facts] : Prop :=
  ∀ (m : (ℓ : Loc Cert.DyKernel.nD Cert.DyKernel.τ Cert.DyKernel.sig) → Buf (Elt Bits) ℓ) (g : Dev Cert.DyKernel.nD → PrngReg), Pre_DyKernel m →
    θ_run (Cert.DyKernel.defs (F := Bits)) (onTc (τ := Cert.DyKernel.τ) (Cert.DyKernel.main (F := Bits))) ⟨m, fun _ => 0, g⟩ (fun r => (∀ c : Dev Cert.DyKernel.nD,
      r.2.mem ((c.tc : Thread Cert.DyKernel.nD Cert.DyKernel.τ).loc Cert.DyKernel.main_arg0) = m ((c.tc : Thread Cert.DyKernel.nD Cert.DyKernel.τ).loc Cert.DyKernel.main_arg0)
      ∧ r.2.mem ((c.tc : Thread Cert.DyKernel.nD Cert.DyKernel.τ).loc Cert.DyKernel.main_arg1) = m ((c.tc : Thread Cert.DyKernel.nD Cert.DyKernel.τ).loc Cert.DyKernel.main_arg1))
      ∧ r.2.sem = fun _ => 0)

def quiescent_DyKernelIdeal [hDyKernelIdeal : Cert.DyKernelIdeal.Facts] : Prop :=
  ∀ (m : (ℓ : Loc Cert.DyKernelIdeal.nD Cert.DyKernelIdeal.τ Cert.DyKernelIdeal.sig) → Buf (Elt Ideal) ℓ) (g : Dev Cert.DyKernelIdeal.nD → PrngReg), Pre_DyKernelIdeal m →
    θ_run (Cert.DyKernelIdeal.defs (F := Ideal)) (onTc (τ := Cert.DyKernelIdeal.τ) (Cert.DyKernelIdeal.main (F := Ideal))) ⟨m, fun _ => 0, g⟩ (fun r => (∀ c : Dev Cert.DyKernelIdeal.nD,
      r.2.mem ((c.tc : Thread Cert.DyKernelIdeal.nD Cert.DyKernelIdeal.τ).loc Cert.DyKernelIdeal.main_arg0) = m ((c.tc : Thread Cert.DyKernelIdeal.nD Cert.DyKernelIdeal.τ).loc Cert.DyKernelIdeal.main_arg0)
      ∧ r.2.mem ((c.tc : Thread Cert.DyKernelIdeal.nD Cert.DyKernelIdeal.τ).loc Cert.DyKernelIdeal.main_arg1) = m ((c.tc : Thread Cert.DyKernelIdeal.nD Cert.DyKernelIdeal.τ).loc Cert.DyKernelIdeal.main_arg1))
      ∧ r.2.sem = fun _ => 0)

def quiescent_DyReferenceIdeal [hDyReferenceIdeal : Cert.DyReferenceIdeal.Facts] : Prop :=
  ∀ (m : (ℓ : Loc Cert.DyReferenceIdeal.nD Cert.DyReferenceIdeal.τ Cert.DyReferenceIdeal.sig) → Buf (Elt Ideal) ℓ) (g : Dev Cert.DyReferenceIdeal.nD → PrngReg), Pre_DyReferenceIdeal m →
    θ_run (Cert.DyReferenceIdeal.defs (F := Ideal)) (onTc (τ := Cert.DyReferenceIdeal.τ) (Cert.DyReferenceIdeal.main (F := Ideal))) ⟨m, fun _ => 0, g⟩ (fun r => (∀ c : Dev Cert.DyReferenceIdeal.nD,
      r.2.mem ((c.tc : Thread Cert.DyReferenceIdeal.nD Cert.DyReferenceIdeal.τ).loc Cert.DyReferenceIdeal.main_arg0) = m ((c.tc : Thread Cert.DyReferenceIdeal.nD Cert.DyReferenceIdeal.τ).loc Cert.DyReferenceIdeal.main_arg0)
      ∧ r.2.mem ((c.tc : Thread Cert.DyReferenceIdeal.nD Cert.DyReferenceIdeal.τ).loc Cert.DyReferenceIdeal.main_arg1) = m ((c.tc : Thread Cert.DyReferenceIdeal.nD Cert.DyReferenceIdeal.τ).loc Cert.DyReferenceIdeal.main_arg1))
      ∧ r.2.sem = fun _ => 0)

def quiescent_WgoKernel [hWgoKernel : Cert.WgoKernel.Facts] : Prop :=
  ∀ (m : (ℓ : Loc Cert.WgoKernel.nD Cert.WgoKernel.τ Cert.WgoKernel.sig) → Buf (Elt Bits) ℓ) (g : Dev Cert.WgoKernel.nD → PrngReg), Pre_WgoKernel m →
    θ_run (Cert.WgoKernel.defs (F := Bits)) (onTc (τ := Cert.WgoKernel.τ) (Cert.WgoKernel.main (F := Bits))) ⟨m, fun _ => 0, g⟩ (fun r => (∀ c : Dev Cert.WgoKernel.nD,
      r.2.mem ((c.tc : Thread Cert.WgoKernel.nD Cert.WgoKernel.τ).loc Cert.WgoKernel.main_arg0) = m ((c.tc : Thread Cert.WgoKernel.nD Cert.WgoKernel.τ).loc Cert.WgoKernel.main_arg0)
      ∧ r.2.mem ((c.tc : Thread Cert.WgoKernel.nD Cert.WgoKernel.τ).loc Cert.WgoKernel.main_arg1) = m ((c.tc : Thread Cert.WgoKernel.nD Cert.WgoKernel.τ).loc Cert.WgoKernel.main_arg1))
      ∧ r.2.sem = fun _ => 0)

def quiescent_WgoKernelIdeal [hWgoKernelIdeal : Cert.WgoKernelIdeal.Facts] : Prop :=
  ∀ (m : (ℓ : Loc Cert.WgoKernelIdeal.nD Cert.WgoKernelIdeal.τ Cert.WgoKernelIdeal.sig) → Buf (Elt Ideal) ℓ) (g : Dev Cert.WgoKernelIdeal.nD → PrngReg), Pre_WgoKernelIdeal m →
    θ_run (Cert.WgoKernelIdeal.defs (F := Ideal)) (onTc (τ := Cert.WgoKernelIdeal.τ) (Cert.WgoKernelIdeal.main (F := Ideal))) ⟨m, fun _ => 0, g⟩ (fun r => (∀ c : Dev Cert.WgoKernelIdeal.nD,
      r.2.mem ((c.tc : Thread Cert.WgoKernelIdeal.nD Cert.WgoKernelIdeal.τ).loc Cert.WgoKernelIdeal.main_arg0) = m ((c.tc : Thread Cert.WgoKernelIdeal.nD Cert.WgoKernelIdeal.τ).loc Cert.WgoKernelIdeal.main_arg0)
      ∧ r.2.mem ((c.tc : Thread Cert.WgoKernelIdeal.nD Cert.WgoKernelIdeal.τ).loc Cert.WgoKernelIdeal.main_arg1) = m ((c.tc : Thread Cert.WgoKernelIdeal.nD Cert.WgoKernelIdeal.τ).loc Cert.WgoKernelIdeal.main_arg1))
      ∧ r.2.sem = fun _ => 0)

def quiescent_WgoReferenceIdeal [hWgoReferenceIdeal : Cert.WgoReferenceIdeal.Facts] : Prop :=
  ∀ (m : (ℓ : Loc Cert.WgoReferenceIdeal.nD Cert.WgoReferenceIdeal.τ Cert.WgoReferenceIdeal.sig) → Buf (Elt Ideal) ℓ) (g : Dev Cert.WgoReferenceIdeal.nD → PrngReg), Pre_WgoReferenceIdeal m →
    θ_run (Cert.WgoReferenceIdeal.defs (F := Ideal)) (onTc (τ := Cert.WgoReferenceIdeal.τ) (Cert.WgoReferenceIdeal.main (F := Ideal))) ⟨m, fun _ => 0, g⟩ (fun r => (∀ c : Dev Cert.WgoReferenceIdeal.nD,
      r.2.mem ((c.tc : Thread Cert.WgoReferenceIdeal.nD Cert.WgoReferenceIdeal.τ).loc Cert.WgoReferenceIdeal.main_arg0) = m ((c.tc : Thread Cert.WgoReferenceIdeal.nD Cert.WgoReferenceIdeal.τ).loc Cert.WgoReferenceIdeal.main_arg0)
      ∧ r.2.mem ((c.tc : Thread Cert.WgoReferenceIdeal.nD Cert.WgoReferenceIdeal.τ).loc Cert.WgoReferenceIdeal.main_arg1) = m ((c.tc : Thread Cert.WgoReferenceIdeal.nD Cert.WgoReferenceIdeal.τ).loc Cert.WgoReferenceIdeal.main_arg1))
      ∧ r.2.sem = fun _ => 0)

def quiescent_InpKernel [hInpKernel : Cert.InpKernel.Facts] : Prop :=
  ∀ (m : (ℓ : Loc Cert.InpKernel.nD Cert.InpKernel.τ Cert.InpKernel.sig) → Buf (Elt Bits) ℓ) (g : Dev Cert.InpKernel.nD → PrngReg), Pre_InpKernel m →
    θ_run (Cert.InpKernel.defs (F := Bits)) (onTc (τ := Cert.InpKernel.τ) (Cert.InpKernel.main (F := Bits))) ⟨m, fun _ => 0, g⟩ (fun r => (∀ c : Dev Cert.InpKernel.nD,
      r.2.mem ((c.tc : Thread Cert.InpKernel.nD Cert.InpKernel.τ).loc Cert.InpKernel.main_arg0) = m ((c.tc : Thread Cert.InpKernel.nD Cert.InpKernel.τ).loc Cert.InpKernel.main_arg0)
      ∧ r.2.mem ((c.tc : Thread Cert.InpKernel.nD Cert.InpKernel.τ).loc Cert.InpKernel.main_arg1) = m ((c.tc : Thread Cert.InpKernel.nD Cert.InpKernel.τ).loc Cert.InpKernel.main_arg1))
      ∧ r.2.sem = fun _ => 0)

def quiescent_InpKernelIdeal [hInpKernelIdeal : Cert.InpKernelIdeal.Facts] : Prop :=
  ∀ (m : (ℓ : Loc Cert.InpKernelIdeal.nD Cert.InpKernelIdeal.τ Cert.InpKernelIdeal.sig) → Buf (Elt Ideal) ℓ) (g : Dev Cert.InpKernelIdeal.nD → PrngReg), Pre_InpKernelIdeal m →
    θ_run (Cert.InpKernelIdeal.defs (F := Ideal)) (onTc (τ := Cert.InpKernelIdeal.τ) (Cert.InpKernelIdeal.main (F := Ideal))) ⟨m, fun _ => 0, g⟩ (fun r => (∀ c : Dev Cert.InpKernelIdeal.nD,
      r.2.mem ((c.tc : Thread Cert.InpKernelIdeal.nD Cert.InpKernelIdeal.τ).loc Cert.InpKernelIdeal.main_arg0) = m ((c.tc : Thread Cert.InpKernelIdeal.nD Cert.InpKernelIdeal.τ).loc Cert.InpKernelIdeal.main_arg0)
      ∧ r.2.mem ((c.tc : Thread Cert.InpKernelIdeal.nD Cert.InpKernelIdeal.τ).loc Cert.InpKernelIdeal.main_arg1) = m ((c.tc : Thread Cert.InpKernelIdeal.nD Cert.InpKernelIdeal.τ).loc Cert.InpKernelIdeal.main_arg1))
      ∧ r.2.sem = fun _ => 0)

def quiescent_InpReferenceIdeal [hInpReferenceIdeal : Cert.InpReferenceIdeal.Facts] : Prop :=
  ∀ (m : (ℓ : Loc Cert.InpReferenceIdeal.nD Cert.InpReferenceIdeal.τ Cert.InpReferenceIdeal.sig) → Buf (Elt Ideal) ℓ) (g : Dev Cert.InpReferenceIdeal.nD → PrngReg), Pre_InpReferenceIdeal m →
    θ_run (Cert.InpReferenceIdeal.defs (F := Ideal)) (onTc (τ := Cert.InpReferenceIdeal.τ) (Cert.InpReferenceIdeal.main (F := Ideal))) ⟨m, fun _ => 0, g⟩ (fun r => (∀ c : Dev Cert.InpReferenceIdeal.nD,
      r.2.mem ((c.tc : Thread Cert.InpReferenceIdeal.nD Cert.InpReferenceIdeal.τ).loc Cert.InpReferenceIdeal.main_arg0) = m ((c.tc : Thread Cert.InpReferenceIdeal.nD Cert.InpReferenceIdeal.τ).loc Cert.InpReferenceIdeal.main_arg0)
      ∧ r.2.mem ((c.tc : Thread Cert.InpReferenceIdeal.nD Cert.InpReferenceIdeal.τ).loc Cert.InpReferenceIdeal.main_arg1) = m ((c.tc : Thread Cert.InpReferenceIdeal.nD Cert.InpReferenceIdeal.τ).loc Cert.InpReferenceIdeal.main_arg1))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1)
      ∧ r.2.mem ((c.tc : Thread Cert.UpKernel.nD Cert.UpKernel.τ).loc Cert.UpKernel.main_arg2) = m ((c.tc : Thread Cert.UpKernel.nD Cert.UpKernel.τ).loc Cert.UpKernel.main_arg2)
      ∧ r.2.mem ((c.tc : Thread Cert.UpKernel.nD Cert.UpKernel.τ).loc Cert.UpKernel.main_arg3) = m ((c.tc : Thread Cert.UpKernel.nD Cert.UpKernel.τ).loc Cert.UpKernel.main_arg3))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
      ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6)
      ∧ r.2.mem ((c.tc : Thread Cert.MixKernel.nD Cert.MixKernel.τ).loc Cert.MixKernel.main_arg7) = m ((c.tc : Thread Cert.MixKernel.nD Cert.MixKernel.τ).loc Cert.MixKernel.main_arg7)
      ∧ r.2.mem ((c.tc : Thread Cert.MixKernel.nD Cert.MixKernel.τ).loc Cert.MixKernel.main_arg8) = m ((c.tc : Thread Cert.MixKernel.nD Cert.MixKernel.τ).loc Cert.MixKernel.main_arg8)
      ∧ r.2.mem ((c.tc : Thread Cert.MixKernel.nD Cert.MixKernel.τ).loc Cert.MixKernel.main_arg9) = m ((c.tc : Thread Cert.MixKernel.nD Cert.MixKernel.τ).loc Cert.MixKernel.main_arg9))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
      ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
      ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9))
      ∧ r.2.sem = fun _ => 0)

def quiescent_DilKernel [hDilKernel : Cert.DilKernel.Facts] : Prop :=
  ∀ (m : (ℓ : Loc Cert.DilKernel.nD Cert.DilKernel.τ Cert.DilKernel.sig) → Buf (Elt Bits) ℓ) (g : Dev Cert.DilKernel.nD → PrngReg), Pre_DilKernel m →
    θ_run (Cert.DilKernel.defs (F := Bits)) (onTc (τ := Cert.DilKernel.τ) (Cert.DilKernel.main (F := Bits))) ⟨m, fun _ => 0, g⟩ (fun r => (∀ c : Dev Cert.DilKernel.nD,
      r.2.mem ((c.tc : Thread Cert.DilKernel.nD Cert.DilKernel.τ).loc Cert.DilKernel.main_arg0) = m ((c.tc : Thread Cert.DilKernel.nD Cert.DilKernel.τ).loc Cert.DilKernel.main_arg0)
      ∧ r.2.mem ((c.tc : Thread Cert.DilKernel.nD Cert.DilKernel.τ).loc Cert.DilKernel.main_arg1) = m ((c.tc : Thread Cert.DilKernel.nD Cert.DilKernel.τ).loc Cert.DilKernel.main_arg1)
      ∧ r.2.mem ((c.tc : Thread Cert.DilKernel.nD Cert.DilKernel.τ).loc Cert.DilKernel.main_arg2) = m ((c.tc : Thread Cert.DilKernel.nD Cert.DilKernel.τ).loc Cert.DilKernel.main_arg2)
      ∧ r.2.mem ((c.tc : Thread Cert.DilKernel.nD Cert.DilKernel.τ).loc Cert.DilKernel.main_arg3) = m ((c.tc : Thread Cert.DilKernel.nD Cert.DilKernel.τ).loc Cert.DilKernel.main_arg3))
      ∧ r.2.sem = fun _ => 0)

def quiescent_DilKernelIdeal [hDilKernelIdeal : Cert.DilKernelIdeal.Facts] : Prop :=
  ∀ (m : (ℓ : Loc Cert.DilKernelIdeal.nD Cert.DilKernelIdeal.τ Cert.DilKernelIdeal.sig) → Buf (Elt Ideal) ℓ) (g : Dev Cert.DilKernelIdeal.nD → PrngReg), Pre_DilKernelIdeal m →
    θ_run (Cert.DilKernelIdeal.defs (F := Ideal)) (onTc (τ := Cert.DilKernelIdeal.τ) (Cert.DilKernelIdeal.main (F := Ideal))) ⟨m, fun _ => 0, g⟩ (fun r => (∀ c : Dev Cert.DilKernelIdeal.nD,
      r.2.mem ((c.tc : Thread Cert.DilKernelIdeal.nD Cert.DilKernelIdeal.τ).loc Cert.DilKernelIdeal.main_arg0) = m ((c.tc : Thread Cert.DilKernelIdeal.nD Cert.DilKernelIdeal.τ).loc Cert.DilKernelIdeal.main_arg0)
      ∧ r.2.mem ((c.tc : Thread Cert.DilKernelIdeal.nD Cert.DilKernelIdeal.τ).loc Cert.DilKernelIdeal.main_arg1) = m ((c.tc : Thread Cert.DilKernelIdeal.nD Cert.DilKernelIdeal.τ).loc Cert.DilKernelIdeal.main_arg1)
      ∧ r.2.mem ((c.tc : Thread Cert.DilKernelIdeal.nD Cert.DilKernelIdeal.τ).loc Cert.DilKernelIdeal.main_arg2) = m ((c.tc : Thread Cert.DilKernelIdeal.nD Cert.DilKernelIdeal.τ).loc Cert.DilKernelIdeal.main_arg2)
      ∧ r.2.mem ((c.tc : Thread Cert.DilKernelIdeal.nD Cert.DilKernelIdeal.τ).loc Cert.DilKernelIdeal.main_arg3) = m ((c.tc : Thread Cert.DilKernelIdeal.nD Cert.DilKernelIdeal.τ).loc Cert.DilKernelIdeal.main_arg3))
      ∧ r.2.sem = fun _ => 0)

def quiescent_DilReferenceIdeal [hDilReferenceIdeal : Cert.DilReferenceIdeal.Facts] : Prop :=
  ∀ (m : (ℓ : Loc Cert.DilReferenceIdeal.nD Cert.DilReferenceIdeal.τ Cert.DilReferenceIdeal.sig) → Buf (Elt Ideal) ℓ) (g : Dev Cert.DilReferenceIdeal.nD → PrngReg), Pre_DilReferenceIdeal m →
    θ_run (Cert.DilReferenceIdeal.defs (F := Ideal)) (onTc (τ := Cert.DilReferenceIdeal.τ) (Cert.DilReferenceIdeal.main (F := Ideal))) ⟨m, fun _ => 0, g⟩ (fun r => (∀ c : Dev Cert.DilReferenceIdeal.nD,
      r.2.mem ((c.tc : Thread Cert.DilReferenceIdeal.nD Cert.DilReferenceIdeal.τ).loc Cert.DilReferenceIdeal.main_arg0) = m ((c.tc : Thread Cert.DilReferenceIdeal.nD Cert.DilReferenceIdeal.τ).loc Cert.DilReferenceIdeal.main_arg0)
      ∧ r.2.mem ((c.tc : Thread Cert.DilReferenceIdeal.nD Cert.DilReferenceIdeal.τ).loc Cert.DilReferenceIdeal.main_arg1) = m ((c.tc : Thread Cert.DilReferenceIdeal.nD Cert.DilReferenceIdeal.τ).loc Cert.DilReferenceIdeal.main_arg1)
      ∧ r.2.mem ((c.tc : Thread Cert.DilReferenceIdeal.nD Cert.DilReferenceIdeal.τ).loc Cert.DilReferenceIdeal.main_arg2) = m ((c.tc : Thread Cert.DilReferenceIdeal.nD Cert.DilReferenceIdeal.τ).loc Cert.DilReferenceIdeal.main_arg2)
      ∧ r.2.mem ((c.tc : Thread Cert.DilReferenceIdeal.nD Cert.DilReferenceIdeal.τ).loc Cert.DilReferenceIdeal.main_arg3) = m ((c.tc : Thread Cert.DilReferenceIdeal.nD Cert.DilReferenceIdeal.τ).loc Cert.DilReferenceIdeal.main_arg3))
      ∧ r.2.sem = fun _ => 0)

def preserves_LossKernel_LossKernelIdeal : Prop :=
  True

def algebraic_LossKernelIdeal_LossReferenceIdeal_pre_loss_finite [hLossKernelIdeal : Cert.LossKernelIdeal.Facts] [hLossReferenceIdeal : Cert.LossReferenceIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal_loss_finite m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)) →
    ∃ (v0 : (c : Dev Cert.LossKernelIdeal.nD) → Buf (Elt Ideal) ((c.tc : Thread Cert.LossKernelIdeal.nD Cert.LossKernelIdeal.τ).loc Cert.LossKernelIdeal.main_v3_0)) (v1 : (c : Dev Cert.LossKernelIdeal.nD) → Buf (Elt Ideal) ((c.tc : Thread Cert.LossKernelIdeal.nD Cert.LossKernelIdeal.τ).loc Cert.LossKernelIdeal.main_v3_1)) (v2 : (c : Dev Cert.LossKernelIdeal.nD) → Buf (Elt Ideal) ((c.tc : Thread Cert.LossKernelIdeal.nD Cert.LossKernelIdeal.τ).loc Cert.LossKernelIdeal.main_v3_2)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v3_0) = v0 c
          ∧ r.2.mem ((c.tc : Thread Cert.LossKernelIdeal.nD Cert.LossKernelIdeal.τ).loc Cert.LossKernelIdeal.main_v3_1) = v1 c
          ∧ r.2.mem ((c.tc : Thread Cert.LossKernelIdeal.nD Cert.LossKernelIdeal.τ).loc Cert.LossKernelIdeal.main_v3_2) = v2 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v51) = v0 c
          ∧ r.2.mem ((c.tc : Thread Cert.LossReferenceIdeal.nD Cert.LossReferenceIdeal.τ).loc Cert.LossReferenceIdeal.main_v52) = v1 c
          ∧ r.2.mem ((c.tc : Thread Cert.LossReferenceIdeal.nD Cert.LossReferenceIdeal.τ).loc Cert.LossReferenceIdeal.main_v53) = v2 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def preserves_DxUpKernel_DxUpKernelIdeal : Prop :=
  True

def algebraic_DxUpKernelIdeal_DxUpReferenceIdeal_pre_dxup_finite [hDxUpKernelIdeal : Cert.DxUpKernelIdeal.Facts] [hDxUpReferenceIdeal : Cert.DxUpReferenceIdeal.Facts] [hPre_dxup_finite : Cert.Pre_dxup_finite.Facts] : Prop :=
  ∀ (m : (ℓ : Loc Cert.DxUpKernelIdeal.nD Cert.DxUpKernelIdeal.τ Cert.DxUpKernelIdeal.sig) → Buf (Elt Ideal) ℓ) (g : Dev Cert.DxUpKernelIdeal.nD → PrngReg)
    (m' : (ℓ : Loc Cert.DxUpReferenceIdeal.nD Cert.DxUpReferenceIdeal.τ Cert.DxUpReferenceIdeal.sig) → Buf (Elt Ideal) ℓ) (g' : Dev Cert.DxUpReferenceIdeal.nD → PrngReg), Pre_DxUpKernelIdeal_dxup_finite m →
    (∀ c : Dev Cert.DxUpKernelIdeal.nD,
      m' ((c.tc : Thread Cert.DxUpReferenceIdeal.nD Cert.DxUpReferenceIdeal.τ).loc Cert.DxUpReferenceIdeal.main_arg0) = m ((c.tc : Thread Cert.DxUpKernelIdeal.nD Cert.DxUpKernelIdeal.τ).loc Cert.DxUpKernelIdeal.main_arg0)
      ∧ m' ((c.tc : Thread Cert.DxUpReferenceIdeal.nD Cert.DxUpReferenceIdeal.τ).loc Cert.DxUpReferenceIdeal.main_arg1) = m ((c.tc : Thread Cert.DxUpKernelIdeal.nD Cert.DxUpKernelIdeal.τ).loc Cert.DxUpKernelIdeal.main_arg1)
      ∧ m' ((c.tc : Thread Cert.DxUpReferenceIdeal.nD Cert.DxUpReferenceIdeal.τ).loc Cert.DxUpReferenceIdeal.main_arg2) = m ((c.tc : Thread Cert.DxUpKernelIdeal.nD Cert.DxUpKernelIdeal.τ).loc Cert.DxUpKernelIdeal.main_arg2)
      ∧ m' ((c.tc : Thread Cert.DxUpReferenceIdeal.nD Cert.DxUpReferenceIdeal.τ).loc Cert.DxUpReferenceIdeal.main_arg3) = m ((c.tc : Thread Cert.DxUpKernelIdeal.nD Cert.DxUpKernelIdeal.τ).loc Cert.DxUpKernelIdeal.main_arg3)
      ∧ m' ((c.tc : Thread Cert.DxUpReferenceIdeal.nD Cert.DxUpReferenceIdeal.τ).loc Cert.DxUpReferenceIdeal.main_arg4) = m ((c.tc : Thread Cert.DxUpKernelIdeal.nD Cert.DxUpKernelIdeal.τ).loc Cert.DxUpKernelIdeal.main_arg4)) →
    ∃ (v0 : (c : Dev Cert.DxUpKernelIdeal.nD) → Buf (Elt Ideal) ((c.tc : Thread Cert.DxUpKernelIdeal.nD Cert.DxUpKernelIdeal.τ).loc Cert.DxUpKernelIdeal.main_v9_0)) (v1 : (c : Dev Cert.DxUpKernelIdeal.nD) → Buf (Elt Ideal) ((c.tc : Thread Cert.DxUpKernelIdeal.nD Cert.DxUpKernelIdeal.τ).loc Cert.DxUpKernelIdeal.main_v9_1)),
      θ_run (Cert.DxUpKernelIdeal.defs (F := Ideal)) (onTc (τ := Cert.DxUpKernelIdeal.τ) (Cert.DxUpKernelIdeal.main (F := Ideal))) ⟨m, fun _ => 0, g⟩ (fun r => ∀ c : Dev Cert.DxUpKernelIdeal.nD,
          r.2.mem ((c.tc : Thread Cert.DxUpKernelIdeal.nD Cert.DxUpKernelIdeal.τ).loc Cert.DxUpKernelIdeal.main_v9_0) = v0 c
          ∧ r.2.mem ((c.tc : Thread Cert.DxUpKernelIdeal.nD Cert.DxUpKernelIdeal.τ).loc Cert.DxUpKernelIdeal.main_v9_1) = v1 c
          ∧ r.2.mem ((c.tc : Thread Cert.DxUpKernelIdeal.nD Cert.DxUpKernelIdeal.τ).loc Cert.DxUpKernelIdeal.main_arg0) = m ((c.tc : Thread Cert.DxUpKernelIdeal.nD Cert.DxUpKernelIdeal.τ).loc Cert.DxUpKernelIdeal.main_arg0)
          ∧ r.2.mem ((c.tc : Thread Cert.DxUpKernelIdeal.nD Cert.DxUpKernelIdeal.τ).loc Cert.DxUpKernelIdeal.main_arg1) = m ((c.tc : Thread Cert.DxUpKernelIdeal.nD Cert.DxUpKernelIdeal.τ).loc Cert.DxUpKernelIdeal.main_arg1)
          ∧ r.2.mem ((c.tc : Thread Cert.DxUpKernelIdeal.nD Cert.DxUpKernelIdeal.τ).loc Cert.DxUpKernelIdeal.main_arg2) = m ((c.tc : Thread Cert.DxUpKernelIdeal.nD Cert.DxUpKernelIdeal.τ).loc Cert.DxUpKernelIdeal.main_arg2)
          ∧ r.2.mem ((c.tc : Thread Cert.DxUpKernelIdeal.nD Cert.DxUpKernelIdeal.τ).loc Cert.DxUpKernelIdeal.main_arg3) = m ((c.tc : Thread Cert.DxUpKernelIdeal.nD Cert.DxUpKernelIdeal.τ).loc Cert.DxUpKernelIdeal.main_arg3)
          ∧ r.2.mem ((c.tc : Thread Cert.DxUpKernelIdeal.nD Cert.DxUpKernelIdeal.τ).loc Cert.DxUpKernelIdeal.main_arg4) = m ((c.tc : Thread Cert.DxUpKernelIdeal.nD Cert.DxUpKernelIdeal.τ).loc Cert.DxUpKernelIdeal.main_arg4))
      ∧ θ_run (Cert.DxUpReferenceIdeal.defs (F := Ideal)) (onTc (τ := Cert.DxUpReferenceIdeal.τ) (Cert.DxUpReferenceIdeal.main (F := Ideal))) ⟨m', fun _ => 0, g'⟩ (fun r => ∀ c : Dev Cert.DxUpReferenceIdeal.nD,
          r.2.mem ((c.tc : Thread Cert.DxUpReferenceIdeal.nD Cert.DxUpReferenceIdeal.τ).loc Cert.DxUpReferenceIdeal.main_v39) = v0 c
          ∧ r.2.mem ((c.tc : Thread Cert.DxUpReferenceIdeal.nD Cert.DxUpReferenceIdeal.τ).loc Cert.DxUpReferenceIdeal.main_v40) = v1 c
          ∧ r.2.mem ((c.tc : Thread Cert.DxUpReferenceIdeal.nD Cert.DxUpReferenceIdeal.τ).loc Cert.DxUpReferenceIdeal.main_arg0) = m' ((c.tc : Thread Cert.DxUpReferenceIdeal.nD Cert.DxUpReferenceIdeal.τ).loc Cert.DxUpReferenceIdeal.main_arg0)
          ∧ r.2.mem ((c.tc : Thread Cert.DxUpReferenceIdeal.nD Cert.DxUpReferenceIdeal.τ).loc Cert.DxUpReferenceIdeal.main_arg1) = m' ((c.tc : Thread Cert.DxUpReferenceIdeal.nD Cert.DxUpReferenceIdeal.τ).loc Cert.DxUpReferenceIdeal.main_arg1)
          ∧ r.2.mem ((c.tc : Thread Cert.DxUpReferenceIdeal.nD Cert.DxUpReferenceIdeal.τ).loc Cert.DxUpReferenceIdeal.main_arg2) = m' ((c.tc : Thread Cert.DxUpReferenceIdeal.nD Cert.DxUpReferenceIdeal.τ).loc Cert.DxUpReferenceIdeal.main_arg2)
          ∧ r.2.mem ((c.tc : Thread Cert.DxUpReferenceIdeal.nD Cert.DxUpReferenceIdeal.τ).loc Cert.DxUpReferenceIdeal.main_arg3) = m' ((c.tc : Thread Cert.DxUpReferenceIdeal.nD Cert.DxUpReferenceIdeal.τ).loc Cert.DxUpReferenceIdeal.main_arg3)
          ∧ r.2.mem ((c.tc : Thread Cert.DxUpReferenceIdeal.nD Cert.DxUpReferenceIdeal.τ).loc Cert.DxUpReferenceIdeal.main_arg4) = m' ((c.tc : Thread Cert.DxUpReferenceIdeal.nD Cert.DxUpReferenceIdeal.τ).loc Cert.DxUpReferenceIdeal.main_arg4))

def preserves_DxInKernel_DxInKernelIdeal : Prop :=
  True

def algebraic_DxInKernelIdeal_DxInReferenceIdeal_pre_dxin_finite [hDxInKernelIdeal : Cert.DxInKernelIdeal.Facts] [hDxInReferenceIdeal : Cert.DxInReferenceIdeal.Facts] [hPre_dxin_finite : Cert.Pre_dxin_finite.Facts] : Prop :=
  ∀ (m : (ℓ : Loc Cert.DxInKernelIdeal.nD Cert.DxInKernelIdeal.τ Cert.DxInKernelIdeal.sig) → Buf (Elt Ideal) ℓ) (g : Dev Cert.DxInKernelIdeal.nD → PrngReg)
    (m' : (ℓ : Loc Cert.DxInReferenceIdeal.nD Cert.DxInReferenceIdeal.τ Cert.DxInReferenceIdeal.sig) → Buf (Elt Ideal) ℓ) (g' : Dev Cert.DxInReferenceIdeal.nD → PrngReg), Pre_DxInKernelIdeal_dxin_finite m →
    (∀ c : Dev Cert.DxInKernelIdeal.nD,
      m' ((c.tc : Thread Cert.DxInReferenceIdeal.nD Cert.DxInReferenceIdeal.τ).loc Cert.DxInReferenceIdeal.main_arg0) = m ((c.tc : Thread Cert.DxInKernelIdeal.nD Cert.DxInKernelIdeal.τ).loc Cert.DxInKernelIdeal.main_arg0)
      ∧ m' ((c.tc : Thread Cert.DxInReferenceIdeal.nD Cert.DxInReferenceIdeal.τ).loc Cert.DxInReferenceIdeal.main_arg1) = m ((c.tc : Thread Cert.DxInKernelIdeal.nD Cert.DxInKernelIdeal.τ).loc Cert.DxInKernelIdeal.main_arg1)
      ∧ m' ((c.tc : Thread Cert.DxInReferenceIdeal.nD Cert.DxInReferenceIdeal.τ).loc Cert.DxInReferenceIdeal.main_arg2) = m ((c.tc : Thread Cert.DxInKernelIdeal.nD Cert.DxInKernelIdeal.τ).loc Cert.DxInKernelIdeal.main_arg2)
      ∧ m' ((c.tc : Thread Cert.DxInReferenceIdeal.nD Cert.DxInReferenceIdeal.τ).loc Cert.DxInReferenceIdeal.main_arg3) = m ((c.tc : Thread Cert.DxInKernelIdeal.nD Cert.DxInKernelIdeal.τ).loc Cert.DxInKernelIdeal.main_arg3)
      ∧ m' ((c.tc : Thread Cert.DxInReferenceIdeal.nD Cert.DxInReferenceIdeal.τ).loc Cert.DxInReferenceIdeal.main_arg4) = m ((c.tc : Thread Cert.DxInKernelIdeal.nD Cert.DxInKernelIdeal.τ).loc Cert.DxInKernelIdeal.main_arg4)) →
    ∃ (v0 : (c : Dev Cert.DxInKernelIdeal.nD) → Buf (Elt Ideal) ((c.tc : Thread Cert.DxInKernelIdeal.nD Cert.DxInKernelIdeal.τ).loc Cert.DxInKernelIdeal.main_v16_0)) (v1 : (c : Dev Cert.DxInKernelIdeal.nD) → Buf (Elt Ideal) ((c.tc : Thread Cert.DxInKernelIdeal.nD Cert.DxInKernelIdeal.τ).loc Cert.DxInKernelIdeal.main_v16_1)),
      θ_run (Cert.DxInKernelIdeal.defs (F := Ideal)) (onTc (τ := Cert.DxInKernelIdeal.τ) (Cert.DxInKernelIdeal.main (F := Ideal))) ⟨m, fun _ => 0, g⟩ (fun r => ∀ c : Dev Cert.DxInKernelIdeal.nD,
          r.2.mem ((c.tc : Thread Cert.DxInKernelIdeal.nD Cert.DxInKernelIdeal.τ).loc Cert.DxInKernelIdeal.main_v16_0) = v0 c
          ∧ r.2.mem ((c.tc : Thread Cert.DxInKernelIdeal.nD Cert.DxInKernelIdeal.τ).loc Cert.DxInKernelIdeal.main_v16_1) = v1 c
          ∧ r.2.mem ((c.tc : Thread Cert.DxInKernelIdeal.nD Cert.DxInKernelIdeal.τ).loc Cert.DxInKernelIdeal.main_arg0) = m ((c.tc : Thread Cert.DxInKernelIdeal.nD Cert.DxInKernelIdeal.τ).loc Cert.DxInKernelIdeal.main_arg0)
          ∧ r.2.mem ((c.tc : Thread Cert.DxInKernelIdeal.nD Cert.DxInKernelIdeal.τ).loc Cert.DxInKernelIdeal.main_arg1) = m ((c.tc : Thread Cert.DxInKernelIdeal.nD Cert.DxInKernelIdeal.τ).loc Cert.DxInKernelIdeal.main_arg1)
          ∧ r.2.mem ((c.tc : Thread Cert.DxInKernelIdeal.nD Cert.DxInKernelIdeal.τ).loc Cert.DxInKernelIdeal.main_arg2) = m ((c.tc : Thread Cert.DxInKernelIdeal.nD Cert.DxInKernelIdeal.τ).loc Cert.DxInKernelIdeal.main_arg2)
          ∧ r.2.mem ((c.tc : Thread Cert.DxInKernelIdeal.nD Cert.DxInKernelIdeal.τ).loc Cert.DxInKernelIdeal.main_arg3) = m ((c.tc : Thread Cert.DxInKernelIdeal.nD Cert.DxInKernelIdeal.τ).loc Cert.DxInKernelIdeal.main_arg3)
          ∧ r.2.mem ((c.tc : Thread Cert.DxInKernelIdeal.nD Cert.DxInKernelIdeal.τ).loc Cert.DxInKernelIdeal.main_arg4) = m ((c.tc : Thread Cert.DxInKernelIdeal.nD Cert.DxInKernelIdeal.τ).loc Cert.DxInKernelIdeal.main_arg4))
      ∧ θ_run (Cert.DxInReferenceIdeal.defs (F := Ideal)) (onTc (τ := Cert.DxInReferenceIdeal.τ) (Cert.DxInReferenceIdeal.main (F := Ideal))) ⟨m', fun _ => 0, g'⟩ (fun r => ∀ c : Dev Cert.DxInReferenceIdeal.nD,
          r.2.mem ((c.tc : Thread Cert.DxInReferenceIdeal.nD Cert.DxInReferenceIdeal.τ).loc Cert.DxInReferenceIdeal.main_v39) = v0 c
          ∧ r.2.mem ((c.tc : Thread Cert.DxInReferenceIdeal.nD Cert.DxInReferenceIdeal.τ).loc Cert.DxInReferenceIdeal.main_v40) = v1 c
          ∧ r.2.mem ((c.tc : Thread Cert.DxInReferenceIdeal.nD Cert.DxInReferenceIdeal.τ).loc Cert.DxInReferenceIdeal.main_arg0) = m' ((c.tc : Thread Cert.DxInReferenceIdeal.nD Cert.DxInReferenceIdeal.τ).loc Cert.DxInReferenceIdeal.main_arg0)
          ∧ r.2.mem ((c.tc : Thread Cert.DxInReferenceIdeal.nD Cert.DxInReferenceIdeal.τ).loc Cert.DxInReferenceIdeal.main_arg1) = m' ((c.tc : Thread Cert.DxInReferenceIdeal.nD Cert.DxInReferenceIdeal.τ).loc Cert.DxInReferenceIdeal.main_arg1)
          ∧ r.2.mem ((c.tc : Thread Cert.DxInReferenceIdeal.nD Cert.DxInReferenceIdeal.τ).loc Cert.DxInReferenceIdeal.main_arg2) = m' ((c.tc : Thread Cert.DxInReferenceIdeal.nD Cert.DxInReferenceIdeal.τ).loc Cert.DxInReferenceIdeal.main_arg2)
          ∧ r.2.mem ((c.tc : Thread Cert.DxInReferenceIdeal.nD Cert.DxInReferenceIdeal.τ).loc Cert.DxInReferenceIdeal.main_arg3) = m' ((c.tc : Thread Cert.DxInReferenceIdeal.nD Cert.DxInReferenceIdeal.τ).loc Cert.DxInReferenceIdeal.main_arg3)
          ∧ r.2.mem ((c.tc : Thread Cert.DxInReferenceIdeal.nD Cert.DxInReferenceIdeal.τ).loc Cert.DxInReferenceIdeal.main_arg4) = m' ((c.tc : Thread Cert.DxInReferenceIdeal.nD Cert.DxInReferenceIdeal.τ).loc Cert.DxInReferenceIdeal.main_arg4))

def preserves_FoxKernel_FoxKernelIdeal : Prop :=
  True

def algebraic_FoxKernelIdeal_FoxReferenceIdeal_on_fox_lanes_pre_fox_finite [hFoxKernelIdeal : Cert.FoxKernelIdeal.Facts] [hFoxReferenceIdeal : Cert.FoxReferenceIdeal.Facts] [hPre_fox_finite : Cert.Pre_fox_finite.Facts] [hOn_fox_lanes : Cert.On_fox_lanes.Facts] : Prop :=
  ∀ (m : (ℓ : Loc Cert.FoxKernelIdeal.nD Cert.FoxKernelIdeal.τ Cert.FoxKernelIdeal.sig) → Buf (Elt Ideal) ℓ) (g : Dev Cert.FoxKernelIdeal.nD → PrngReg)
    (m' : (ℓ : Loc Cert.FoxReferenceIdeal.nD Cert.FoxReferenceIdeal.τ Cert.FoxReferenceIdeal.sig) → Buf (Elt Ideal) ℓ) (g' : Dev Cert.FoxReferenceIdeal.nD → PrngReg), Pre_FoxKernelIdeal_fox_finite m →
    (∀ c : Dev Cert.FoxKernelIdeal.nD,
      m' ((c.tc : Thread Cert.FoxReferenceIdeal.nD Cert.FoxReferenceIdeal.τ).loc Cert.FoxReferenceIdeal.main_arg0) = m ((c.tc : Thread Cert.FoxKernelIdeal.nD Cert.FoxKernelIdeal.τ).loc Cert.FoxKernelIdeal.main_arg0)
      ∧ m' ((c.tc : Thread Cert.FoxReferenceIdeal.nD Cert.FoxReferenceIdeal.τ).loc Cert.FoxReferenceIdeal.main_arg1) = m ((c.tc : Thread Cert.FoxKernelIdeal.nD Cert.FoxKernelIdeal.τ).loc Cert.FoxKernelIdeal.main_arg1)
      ∧ m' ((c.tc : Thread Cert.FoxReferenceIdeal.nD Cert.FoxReferenceIdeal.τ).loc Cert.FoxReferenceIdeal.main_arg2) = m ((c.tc : Thread Cert.FoxKernelIdeal.nD Cert.FoxKernelIdeal.τ).loc Cert.FoxKernelIdeal.main_arg2)
      ∧ m' ((c.tc : Thread Cert.FoxReferenceIdeal.nD Cert.FoxReferenceIdeal.τ).loc Cert.FoxReferenceIdeal.main_arg3) = m ((c.tc : Thread Cert.FoxKernelIdeal.nD Cert.FoxKernelIdeal.τ).loc Cert.FoxKernelIdeal.main_arg3)
      ∧ m' ((c.tc : Thread Cert.FoxReferenceIdeal.nD Cert.FoxReferenceIdeal.τ).loc Cert.FoxReferenceIdeal.main_arg4) = m ((c.tc : Thread Cert.FoxKernelIdeal.nD Cert.FoxKernelIdeal.τ).loc Cert.FoxKernelIdeal.main_arg4)) →
    ∃ (v0 : (c : Dev Cert.FoxKernelIdeal.nD) → Buf (Elt Ideal) ((c.tc : Thread Cert.FoxKernelIdeal.nD Cert.FoxKernelIdeal.τ).loc Cert.FoxKernelIdeal.main_v123_0)) (v1 : (c : Dev Cert.FoxKernelIdeal.nD) → Buf (Elt Ideal) ((c.tc : Thread Cert.FoxKernelIdeal.nD Cert.FoxKernelIdeal.τ).loc Cert.FoxKernelIdeal.main_v123_1)) (v2 : (c : Dev Cert.FoxKernelIdeal.nD) → Buf (Elt Ideal) ((c.tc : Thread Cert.FoxKernelIdeal.nD Cert.FoxKernelIdeal.τ).loc Cert.FoxKernelIdeal.main_v123_2)) (v3 : (c : Dev Cert.FoxKernelIdeal.nD) → Buf (Elt Ideal) ((c.tc : Thread Cert.FoxKernelIdeal.nD Cert.FoxKernelIdeal.τ).loc Cert.FoxKernelIdeal.main_v123_3)) (v4 : (c : Dev Cert.FoxKernelIdeal.nD) → Buf (Elt Ideal) ((c.tc : Thread Cert.FoxKernelIdeal.nD Cert.FoxKernelIdeal.τ).loc Cert.FoxKernelIdeal.main_v123_4)),
      θ_run (Cert.FoxKernelIdeal.defs (F := Ideal)) (onTc (τ := Cert.FoxKernelIdeal.τ) (Cert.FoxKernelIdeal.main (F := Ideal))) ⟨m, fun _ => 0, g⟩ (fun r => ∀ c : Dev Cert.FoxKernelIdeal.nD,
          (∀ i : (⟨2, ![8192, 384]⟩ : Shape).Idx, (Cert.On_fox_lanes.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2)) (m ((c.tc : Thread Cert.FoxKernelIdeal.nD Cert.FoxKernelIdeal.τ).loc Cert.FoxKernelIdeal.main_arg3)) (m ((c.tc : Thread Cert.FoxKernelIdeal.nD Cert.FoxKernelIdeal.τ).loc Cert.FoxKernelIdeal.main_arg4))).1 i = 1#1 → r.2.mem ((c.tc : Thread Cert.FoxKernelIdeal.nD Cert.FoxKernelIdeal.τ).loc Cert.FoxKernelIdeal.main_v123_0) i = v0 c i)
          ∧ (∀ i : (⟨2, ![8192, 384]⟩ : Shape).Idx, (Cert.On_fox_lanes.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2)) (m ((c.tc : Thread Cert.FoxKernelIdeal.nD Cert.FoxKernelIdeal.τ).loc Cert.FoxKernelIdeal.main_arg3)) (m ((c.tc : Thread Cert.FoxKernelIdeal.nD Cert.FoxKernelIdeal.τ).loc Cert.FoxKernelIdeal.main_arg4))).2.1 i = 1#1 → r.2.mem ((c.tc : Thread Cert.FoxKernelIdeal.nD Cert.FoxKernelIdeal.τ).loc Cert.FoxKernelIdeal.main_v123_1) i = v1 c i)
          ∧ (∀ i : (⟨2, ![8192, 384]⟩ : Shape).Idx, (Cert.On_fox_lanes.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2)) (m ((c.tc : Thread Cert.FoxKernelIdeal.nD Cert.FoxKernelIdeal.τ).loc Cert.FoxKernelIdeal.main_arg3)) (m ((c.tc : Thread Cert.FoxKernelIdeal.nD Cert.FoxKernelIdeal.τ).loc Cert.FoxKernelIdeal.main_arg4))).2.2.1 i = 1#1 → r.2.mem ((c.tc : Thread Cert.FoxKernelIdeal.nD Cert.FoxKernelIdeal.τ).loc Cert.FoxKernelIdeal.main_v123_2) i = v2 c i)
          ∧ (∀ i : (⟨2, ![8192, 384]⟩ : Shape).Idx, (Cert.On_fox_lanes.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2)) (m ((c.tc : Thread Cert.FoxKernelIdeal.nD Cert.FoxKernelIdeal.τ).loc Cert.FoxKernelIdeal.main_arg3)) (m ((c.tc : Thread Cert.FoxKernelIdeal.nD Cert.FoxKernelIdeal.τ).loc Cert.FoxKernelIdeal.main_arg4))).2.2.2.1 i = 1#1 → r.2.mem ((c.tc : Thread Cert.FoxKernelIdeal.nD Cert.FoxKernelIdeal.τ).loc Cert.FoxKernelIdeal.main_v123_3) i = v3 c i)
          ∧ (∀ i : (⟨2, ![8192, 384]⟩ : Shape).Idx, (Cert.On_fox_lanes.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2)) (m ((c.tc : Thread Cert.FoxKernelIdeal.nD Cert.FoxKernelIdeal.τ).loc Cert.FoxKernelIdeal.main_arg3)) (m ((c.tc : Thread Cert.FoxKernelIdeal.nD Cert.FoxKernelIdeal.τ).loc Cert.FoxKernelIdeal.main_arg4))).2.2.2.2 i = 1#1 → r.2.mem ((c.tc : Thread Cert.FoxKernelIdeal.nD Cert.FoxKernelIdeal.τ).loc Cert.FoxKernelIdeal.main_v123_4) i = v4 c i)
          ∧ r.2.mem ((c.tc : Thread Cert.FoxKernelIdeal.nD Cert.FoxKernelIdeal.τ).loc Cert.FoxKernelIdeal.main_arg0) = m ((c.tc : Thread Cert.FoxKernelIdeal.nD Cert.FoxKernelIdeal.τ).loc Cert.FoxKernelIdeal.main_arg0)
          ∧ r.2.mem ((c.tc : Thread Cert.FoxKernelIdeal.nD Cert.FoxKernelIdeal.τ).loc Cert.FoxKernelIdeal.main_arg1) = m ((c.tc : Thread Cert.FoxKernelIdeal.nD Cert.FoxKernelIdeal.τ).loc Cert.FoxKernelIdeal.main_arg1)
          ∧ r.2.mem ((c.tc : Thread Cert.FoxKernelIdeal.nD Cert.FoxKernelIdeal.τ).loc Cert.FoxKernelIdeal.main_arg2) = m ((c.tc : Thread Cert.FoxKernelIdeal.nD Cert.FoxKernelIdeal.τ).loc Cert.FoxKernelIdeal.main_arg2)
          ∧ r.2.mem ((c.tc : Thread Cert.FoxKernelIdeal.nD Cert.FoxKernelIdeal.τ).loc Cert.FoxKernelIdeal.main_arg3) = m ((c.tc : Thread Cert.FoxKernelIdeal.nD Cert.FoxKernelIdeal.τ).loc Cert.FoxKernelIdeal.main_arg3)
          ∧ r.2.mem ((c.tc : Thread Cert.FoxKernelIdeal.nD Cert.FoxKernelIdeal.τ).loc Cert.FoxKernelIdeal.main_arg4) = m ((c.tc : Thread Cert.FoxKernelIdeal.nD Cert.FoxKernelIdeal.τ).loc Cert.FoxKernelIdeal.main_arg4))
      ∧ θ_run (Cert.FoxReferenceIdeal.defs (F := Ideal)) (onTc (τ := Cert.FoxReferenceIdeal.τ) (Cert.FoxReferenceIdeal.main (F := Ideal))) ⟨m', fun _ => 0, g'⟩ (fun r => ∀ c : Dev Cert.FoxReferenceIdeal.nD,
          (∀ i : (⟨2, ![8192, 384]⟩ : Shape).Idx, (Cert.On_fox_lanes.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2)) (m ((c.tc : Thread Cert.FoxKernelIdeal.nD Cert.FoxKernelIdeal.τ).loc Cert.FoxKernelIdeal.main_arg3)) (m ((c.tc : Thread Cert.FoxKernelIdeal.nD Cert.FoxKernelIdeal.τ).loc Cert.FoxKernelIdeal.main_arg4))).1 i = 1#1 → r.2.mem ((c.tc : Thread Cert.FoxReferenceIdeal.nD Cert.FoxReferenceIdeal.τ).loc Cert.FoxReferenceIdeal.main_v86) i = v0 c i)
          ∧ (∀ i : (⟨2, ![8192, 384]⟩ : Shape).Idx, (Cert.On_fox_lanes.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2)) (m ((c.tc : Thread Cert.FoxKernelIdeal.nD Cert.FoxKernelIdeal.τ).loc Cert.FoxKernelIdeal.main_arg3)) (m ((c.tc : Thread Cert.FoxKernelIdeal.nD Cert.FoxKernelIdeal.τ).loc Cert.FoxKernelIdeal.main_arg4))).2.1 i = 1#1 → r.2.mem ((c.tc : Thread Cert.FoxReferenceIdeal.nD Cert.FoxReferenceIdeal.τ).loc Cert.FoxReferenceIdeal.main_v88) i = v1 c i)
          ∧ (∀ i : (⟨2, ![8192, 384]⟩ : Shape).Idx, (Cert.On_fox_lanes.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2)) (m ((c.tc : Thread Cert.FoxKernelIdeal.nD Cert.FoxKernelIdeal.τ).loc Cert.FoxKernelIdeal.main_arg3)) (m ((c.tc : Thread Cert.FoxKernelIdeal.nD Cert.FoxKernelIdeal.τ).loc Cert.FoxKernelIdeal.main_arg4))).2.2.1 i = 1#1 → r.2.mem ((c.tc : Thread Cert.FoxReferenceIdeal.nD Cert.FoxReferenceIdeal.τ).loc Cert.FoxReferenceIdeal.main_v90) i = v2 c i)
          ∧ (∀ i : (⟨2, ![8192, 384]⟩ : Shape).Idx, (Cert.On_fox_lanes.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2)) (m ((c.tc : Thread Cert.FoxKernelIdeal.nD Cert.FoxKernelIdeal.τ).loc Cert.FoxKernelIdeal.main_arg3)) (m ((c.tc : Thread Cert.FoxKernelIdeal.nD Cert.FoxKernelIdeal.τ).loc Cert.FoxKernelIdeal.main_arg4))).2.2.2.1 i = 1#1 → r.2.mem ((c.tc : Thread Cert.FoxReferenceIdeal.nD Cert.FoxReferenceIdeal.τ).loc Cert.FoxReferenceIdeal.main_v94) i = v3 c i)
          ∧ (∀ i : (⟨2, ![8192, 384]⟩ : Shape).Idx, (Cert.On_fox_lanes.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2)) (m ((c.tc : Thread Cert.FoxKernelIdeal.nD Cert.FoxKernelIdeal.τ).loc Cert.FoxKernelIdeal.main_arg3)) (m ((c.tc : Thread Cert.FoxKernelIdeal.nD Cert.FoxKernelIdeal.τ).loc Cert.FoxKernelIdeal.main_arg4))).2.2.2.2 i = 1#1 → r.2.mem ((c.tc : Thread Cert.FoxReferenceIdeal.nD Cert.FoxReferenceIdeal.τ).loc Cert.FoxReferenceIdeal.main_v99) i = v4 c i)
          ∧ r.2.mem ((c.tc : Thread Cert.FoxReferenceIdeal.nD Cert.FoxReferenceIdeal.τ).loc Cert.FoxReferenceIdeal.main_arg0) = m' ((c.tc : Thread Cert.FoxReferenceIdeal.nD Cert.FoxReferenceIdeal.τ).loc Cert.FoxReferenceIdeal.main_arg0)
          ∧ r.2.mem ((c.tc : Thread Cert.FoxReferenceIdeal.nD Cert.FoxReferenceIdeal.τ).loc Cert.FoxReferenceIdeal.main_arg1) = m' ((c.tc : Thread Cert.FoxReferenceIdeal.nD Cert.FoxReferenceIdeal.τ).loc Cert.FoxReferenceIdeal.main_arg1)
          ∧ r.2.mem ((c.tc : Thread Cert.FoxReferenceIdeal.nD Cert.FoxReferenceIdeal.τ).loc Cert.FoxReferenceIdeal.main_arg2) = m' ((c.tc : Thread Cert.FoxReferenceIdeal.nD Cert.FoxReferenceIdeal.τ).loc Cert.FoxReferenceIdeal.main_arg2)
          ∧ r.2.mem ((c.tc : Thread Cert.FoxReferenceIdeal.nD Cert.FoxReferenceIdeal.τ).loc Cert.FoxReferenceIdeal.main_arg3) = m' ((c.tc : Thread Cert.FoxReferenceIdeal.nD Cert.FoxReferenceIdeal.τ).loc Cert.FoxReferenceIdeal.main_arg3)
          ∧ r.2.mem ((c.tc : Thread Cert.FoxReferenceIdeal.nD Cert.FoxReferenceIdeal.τ).loc Cert.FoxReferenceIdeal.main_arg4) = m' ((c.tc : Thread Cert.FoxReferenceIdeal.nD Cert.FoxReferenceIdeal.τ).loc Cert.FoxReferenceIdeal.main_arg4))

def preserves_GateKernel_GateKernelIdeal : Prop :=
  True

def algebraic_GateKernelIdeal_GateReferenceIdeal_pre_gate_finite [hGateKernelIdeal : Cert.GateKernelIdeal.Facts] [hGateReferenceIdeal : Cert.GateReferenceIdeal.Facts] [hPre_gate_finite : Cert.Pre_gate_finite.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal_gate_finite m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)
      ∧ m' ((c.tc : Thread Cert.GateReferenceIdeal.nD Cert.GateReferenceIdeal.τ).loc Cert.GateReferenceIdeal.main_arg3) = m ((c.tc : Thread Cert.GateKernelIdeal.nD Cert.GateKernelIdeal.τ).loc Cert.GateKernelIdeal.main_arg3)) →
    ∃ (v0 : (c : Dev Cert.GateKernelIdeal.nD) → Buf (Elt Ideal) ((c.tc : Thread Cert.GateKernelIdeal.nD Cert.GateKernelIdeal.τ).loc Cert.GateKernelIdeal.main_v10_0)) (v1 : (c : Dev Cert.GateKernelIdeal.nD) → Buf (Elt Ideal) ((c.tc : Thread Cert.GateKernelIdeal.nD Cert.GateKernelIdeal.τ).loc Cert.GateKernelIdeal.main_v10_1)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v10_0) = v0 c
          ∧ r.2.mem ((c.tc : Thread Cert.GateKernelIdeal.nD Cert.GateKernelIdeal.τ).loc Cert.GateKernelIdeal.main_v10_1) = v1 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
          ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v27) = v0 c
          ∧ r.2.mem ((c.tc : Thread Cert.GateReferenceIdeal.nD Cert.GateReferenceIdeal.τ).loc Cert.GateReferenceIdeal.main_v30) = v1 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3))

def preserves_NormKernel_NormKernelIdeal : Prop :=
  True

def algebraic_NormKernelIdeal_NormReferenceIdeal [hNormKernelIdeal : Cert.NormKernelIdeal.Facts] [hNormReferenceIdeal : Cert.NormReferenceIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)) →
    ∃ (v0 : (c : Dev Cert.NormKernelIdeal.nD) → Buf (Elt Ideal) ((c.tc : Thread Cert.NormKernelIdeal.nD Cert.NormKernelIdeal.τ).loc Cert.NormKernelIdeal.main_v2)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v2) = v0 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v14) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_MmoKernel_MmoKernelIdeal : Prop :=
  True

def algebraic_MmoKernelIdeal_MmoReferenceIdeal [hMmoKernelIdeal : Cert.MmoKernelIdeal.Facts] [hMmoReferenceIdeal : Cert.MmoReferenceIdeal.Facts] : Prop :=
  ∀ (m : (ℓ : Loc Cert.MmoKernelIdeal.nD Cert.MmoKernelIdeal.τ Cert.MmoKernelIdeal.sig) → Buf (Elt Ideal) ℓ) (g : Dev Cert.MmoKernelIdeal.nD → PrngReg)
    (m' : (ℓ : Loc Cert.MmoReferenceIdeal.nD Cert.MmoReferenceIdeal.τ Cert.MmoReferenceIdeal.sig) → Buf (Elt Ideal) ℓ) (g' : Dev Cert.MmoReferenceIdeal.nD → PrngReg), Pre_MmoKernelIdeal m →
    (∀ c : Dev Cert.MmoKernelIdeal.nD,
      m' ((c.tc : Thread Cert.MmoReferenceIdeal.nD Cert.MmoReferenceIdeal.τ).loc Cert.MmoReferenceIdeal.main_arg0) = m ((c.tc : Thread Cert.MmoKernelIdeal.nD Cert.MmoKernelIdeal.τ).loc Cert.MmoKernelIdeal.main_arg0)
      ∧ m' ((c.tc : Thread Cert.MmoReferenceIdeal.nD Cert.MmoReferenceIdeal.τ).loc Cert.MmoReferenceIdeal.main_arg1) = m ((c.tc : Thread Cert.MmoKernelIdeal.nD Cert.MmoKernelIdeal.τ).loc Cert.MmoKernelIdeal.main_arg1)
      ∧ m' ((c.tc : Thread Cert.MmoReferenceIdeal.nD Cert.MmoReferenceIdeal.τ).loc Cert.MmoReferenceIdeal.main_arg2) = m ((c.tc : Thread Cert.MmoKernelIdeal.nD Cert.MmoKernelIdeal.τ).loc Cert.MmoKernelIdeal.main_arg2)
      ∧ m' ((c.tc : Thread Cert.MmoReferenceIdeal.nD Cert.MmoReferenceIdeal.τ).loc Cert.MmoReferenceIdeal.main_arg3) = m ((c.tc : Thread Cert.MmoKernelIdeal.nD Cert.MmoKernelIdeal.τ).loc Cert.MmoKernelIdeal.main_arg3)) →
    ∃ (v0 : (c : Dev Cert.MmoKernelIdeal.nD) → Buf (Elt Ideal) ((c.tc : Thread Cert.MmoKernelIdeal.nD Cert.MmoKernelIdeal.τ).loc Cert.MmoKernelIdeal.main_v6_0)) (v1 : (c : Dev Cert.MmoKernelIdeal.nD) → Buf (Elt Ideal) ((c.tc : Thread Cert.MmoKernelIdeal.nD Cert.MmoKernelIdeal.τ).loc Cert.MmoKernelIdeal.main_v6_1)),
      θ_run (Cert.MmoKernelIdeal.defs (F := Ideal)) (onTc (τ := Cert.MmoKernelIdeal.τ) (Cert.MmoKernelIdeal.main (F := Ideal))) ⟨m, fun _ => 0, g⟩ (fun r => ∀ c : Dev Cert.MmoKernelIdeal.nD,
          r.2.mem ((c.tc : Thread Cert.MmoKernelIdeal.nD Cert.MmoKernelIdeal.τ).loc Cert.MmoKernelIdeal.main_v6_0) = v0 c
          ∧ r.2.mem ((c.tc : Thread Cert.MmoKernelIdeal.nD Cert.MmoKernelIdeal.τ).loc Cert.MmoKernelIdeal.main_v6_1) = v1 c
          ∧ r.2.mem ((c.tc : Thread Cert.MmoKernelIdeal.nD Cert.MmoKernelIdeal.τ).loc Cert.MmoKernelIdeal.main_arg0) = m ((c.tc : Thread Cert.MmoKernelIdeal.nD Cert.MmoKernelIdeal.τ).loc Cert.MmoKernelIdeal.main_arg0)
          ∧ r.2.mem ((c.tc : Thread Cert.MmoKernelIdeal.nD Cert.MmoKernelIdeal.τ).loc Cert.MmoKernelIdeal.main_arg1) = m ((c.tc : Thread Cert.MmoKernelIdeal.nD Cert.MmoKernelIdeal.τ).loc Cert.MmoKernelIdeal.main_arg1)
          ∧ r.2.mem ((c.tc : Thread Cert.MmoKernelIdeal.nD Cert.MmoKernelIdeal.τ).loc Cert.MmoKernelIdeal.main_arg2) = m ((c.tc : Thread Cert.MmoKernelIdeal.nD Cert.MmoKernelIdeal.τ).loc Cert.MmoKernelIdeal.main_arg2)
          ∧ r.2.mem ((c.tc : Thread Cert.MmoKernelIdeal.nD Cert.MmoKernelIdeal.τ).loc Cert.MmoKernelIdeal.main_arg3) = m ((c.tc : Thread Cert.MmoKernelIdeal.nD Cert.MmoKernelIdeal.τ).loc Cert.MmoKernelIdeal.main_arg3))
      ∧ θ_run (Cert.MmoReferenceIdeal.defs (F := Ideal)) (onTc (τ := Cert.MmoReferenceIdeal.τ) (Cert.MmoReferenceIdeal.main (F := Ideal))) ⟨m', fun _ => 0, g'⟩ (fun r => ∀ c : Dev Cert.MmoReferenceIdeal.nD,
          r.2.mem ((c.tc : Thread Cert.MmoReferenceIdeal.nD Cert.MmoReferenceIdeal.τ).loc Cert.MmoReferenceIdeal.main_v2) = v0 c
          ∧ r.2.mem ((c.tc : Thread Cert.MmoReferenceIdeal.nD Cert.MmoReferenceIdeal.τ).loc Cert.MmoReferenceIdeal.main_v17) = v1 c
          ∧ r.2.mem ((c.tc : Thread Cert.MmoReferenceIdeal.nD Cert.MmoReferenceIdeal.τ).loc Cert.MmoReferenceIdeal.main_arg0) = m' ((c.tc : Thread Cert.MmoReferenceIdeal.nD Cert.MmoReferenceIdeal.τ).loc Cert.MmoReferenceIdeal.main_arg0)
          ∧ r.2.mem ((c.tc : Thread Cert.MmoReferenceIdeal.nD Cert.MmoReferenceIdeal.τ).loc Cert.MmoReferenceIdeal.main_arg1) = m' ((c.tc : Thread Cert.MmoReferenceIdeal.nD Cert.MmoReferenceIdeal.τ).loc Cert.MmoReferenceIdeal.main_arg1)
          ∧ r.2.mem ((c.tc : Thread Cert.MmoReferenceIdeal.nD Cert.MmoReferenceIdeal.τ).loc Cert.MmoReferenceIdeal.main_arg2) = m' ((c.tc : Thread Cert.MmoReferenceIdeal.nD Cert.MmoReferenceIdeal.τ).loc Cert.MmoReferenceIdeal.main_arg2)
          ∧ r.2.mem ((c.tc : Thread Cert.MmoReferenceIdeal.nD Cert.MmoReferenceIdeal.τ).loc Cert.MmoReferenceIdeal.main_arg3) = m' ((c.tc : Thread Cert.MmoReferenceIdeal.nD Cert.MmoReferenceIdeal.τ).loc Cert.MmoReferenceIdeal.main_arg3))

def preserves_MmdKernel_MmdKernelIdeal : Prop :=
  True

def algebraic_MmdKernelIdeal_MmdReferenceIdeal [hMmdKernelIdeal : Cert.MmdKernelIdeal.Facts] [hMmdReferenceIdeal : Cert.MmdReferenceIdeal.Facts] : Prop :=
  ∀ (m : (ℓ : Loc Cert.MmdKernelIdeal.nD Cert.MmdKernelIdeal.τ Cert.MmdKernelIdeal.sig) → Buf (Elt Ideal) ℓ) (g : Dev Cert.MmdKernelIdeal.nD → PrngReg)
    (m' : (ℓ : Loc Cert.MmdReferenceIdeal.nD Cert.MmdReferenceIdeal.τ Cert.MmdReferenceIdeal.sig) → Buf (Elt Ideal) ℓ) (g' : Dev Cert.MmdReferenceIdeal.nD → PrngReg), Pre_MmdKernelIdeal m →
    (∀ c : Dev Cert.MmdKernelIdeal.nD,
      m' ((c.tc : Thread Cert.MmdReferenceIdeal.nD Cert.MmdReferenceIdeal.τ).loc Cert.MmdReferenceIdeal.main_arg0) = m ((c.tc : Thread Cert.MmdKernelIdeal.nD Cert.MmdKernelIdeal.τ).loc Cert.MmdKernelIdeal.main_arg0)
      ∧ m' ((c.tc : Thread Cert.MmdReferenceIdeal.nD Cert.MmdReferenceIdeal.τ).loc Cert.MmdReferenceIdeal.main_arg1) = m ((c.tc : Thread Cert.MmdKernelIdeal.nD Cert.MmdKernelIdeal.τ).loc Cert.MmdKernelIdeal.main_arg1)
      ∧ m' ((c.tc : Thread Cert.MmdReferenceIdeal.nD Cert.MmdReferenceIdeal.τ).loc Cert.MmdReferenceIdeal.main_arg2) = m ((c.tc : Thread Cert.MmdKernelIdeal.nD Cert.MmdKernelIdeal.τ).loc Cert.MmdKernelIdeal.main_arg2)
      ∧ m' ((c.tc : Thread Cert.MmdReferenceIdeal.nD Cert.MmdReferenceIdeal.τ).loc Cert.MmdReferenceIdeal.main_arg3) = m ((c.tc : Thread Cert.MmdKernelIdeal.nD Cert.MmdKernelIdeal.τ).loc Cert.MmdKernelIdeal.main_arg3)) →
    ∃ (v0 : (c : Dev Cert.MmdKernelIdeal.nD) → Buf (Elt Ideal) ((c.tc : Thread Cert.MmdKernelIdeal.nD Cert.MmdKernelIdeal.τ).loc Cert.MmdKernelIdeal.main_v7_0)) (v1 : (c : Dev Cert.MmdKernelIdeal.nD) → Buf (Elt Ideal) ((c.tc : Thread Cert.MmdKernelIdeal.nD Cert.MmdKernelIdeal.τ).loc Cert.MmdKernelIdeal.main_v7_1)),
      θ_run (Cert.MmdKernelIdeal.defs (F := Ideal)) (onTc (τ := Cert.MmdKernelIdeal.τ) (Cert.MmdKernelIdeal.main (F := Ideal))) ⟨m, fun _ => 0, g⟩ (fun r => ∀ c : Dev Cert.MmdKernelIdeal.nD,
          r.2.mem ((c.tc : Thread Cert.MmdKernelIdeal.nD Cert.MmdKernelIdeal.τ).loc Cert.MmdKernelIdeal.main_v7_0) = v0 c
          ∧ r.2.mem ((c.tc : Thread Cert.MmdKernelIdeal.nD Cert.MmdKernelIdeal.τ).loc Cert.MmdKernelIdeal.main_v7_1) = v1 c
          ∧ r.2.mem ((c.tc : Thread Cert.MmdKernelIdeal.nD Cert.MmdKernelIdeal.τ).loc Cert.MmdKernelIdeal.main_arg0) = m ((c.tc : Thread Cert.MmdKernelIdeal.nD Cert.MmdKernelIdeal.τ).loc Cert.MmdKernelIdeal.main_arg0)
          ∧ r.2.mem ((c.tc : Thread Cert.MmdKernelIdeal.nD Cert.MmdKernelIdeal.τ).loc Cert.MmdKernelIdeal.main_arg1) = m ((c.tc : Thread Cert.MmdKernelIdeal.nD Cert.MmdKernelIdeal.τ).loc Cert.MmdKernelIdeal.main_arg1)
          ∧ r.2.mem ((c.tc : Thread Cert.MmdKernelIdeal.nD Cert.MmdKernelIdeal.τ).loc Cert.MmdKernelIdeal.main_arg2) = m ((c.tc : Thread Cert.MmdKernelIdeal.nD Cert.MmdKernelIdeal.τ).loc Cert.MmdKernelIdeal.main_arg2)
          ∧ r.2.mem ((c.tc : Thread Cert.MmdKernelIdeal.nD Cert.MmdKernelIdeal.τ).loc Cert.MmdKernelIdeal.main_arg3) = m ((c.tc : Thread Cert.MmdKernelIdeal.nD Cert.MmdKernelIdeal.τ).loc Cert.MmdKernelIdeal.main_arg3))
      ∧ θ_run (Cert.MmdReferenceIdeal.defs (F := Ideal)) (onTc (τ := Cert.MmdReferenceIdeal.τ) (Cert.MmdReferenceIdeal.main (F := Ideal))) ⟨m', fun _ => 0, g'⟩ (fun r => ∀ c : Dev Cert.MmdReferenceIdeal.nD,
          r.2.mem ((c.tc : Thread Cert.MmdReferenceIdeal.nD Cert.MmdReferenceIdeal.τ).loc Cert.MmdReferenceIdeal.main_v2) = v0 c
          ∧ r.2.mem ((c.tc : Thread Cert.MmdReferenceIdeal.nD Cert.MmdReferenceIdeal.τ).loc Cert.MmdReferenceIdeal.main_v17) = v1 c
          ∧ r.2.mem ((c.tc : Thread Cert.MmdReferenceIdeal.nD Cert.MmdReferenceIdeal.τ).loc Cert.MmdReferenceIdeal.main_arg0) = m' ((c.tc : Thread Cert.MmdReferenceIdeal.nD Cert.MmdReferenceIdeal.τ).loc Cert.MmdReferenceIdeal.main_arg0)
          ∧ r.2.mem ((c.tc : Thread Cert.MmdReferenceIdeal.nD Cert.MmdReferenceIdeal.τ).loc Cert.MmdReferenceIdeal.main_arg1) = m' ((c.tc : Thread Cert.MmdReferenceIdeal.nD Cert.MmdReferenceIdeal.τ).loc Cert.MmdReferenceIdeal.main_arg1)
          ∧ r.2.mem ((c.tc : Thread Cert.MmdReferenceIdeal.nD Cert.MmdReferenceIdeal.τ).loc Cert.MmdReferenceIdeal.main_arg2) = m' ((c.tc : Thread Cert.MmdReferenceIdeal.nD Cert.MmdReferenceIdeal.τ).loc Cert.MmdReferenceIdeal.main_arg2)
          ∧ r.2.mem ((c.tc : Thread Cert.MmdReferenceIdeal.nD Cert.MmdReferenceIdeal.τ).loc Cert.MmdReferenceIdeal.main_arg3) = m' ((c.tc : Thread Cert.MmdReferenceIdeal.nD Cert.MmdReferenceIdeal.τ).loc Cert.MmdReferenceIdeal.main_arg3))

def preserves_DyKernel_DyKernelIdeal : Prop :=
  True

def algebraic_DyKernelIdeal_DyReferenceIdeal [hDyKernelIdeal : Cert.DyKernelIdeal.Facts] [hDyReferenceIdeal : Cert.DyReferenceIdeal.Facts] : Prop :=
  ∀ (m : (ℓ : Loc Cert.DyKernelIdeal.nD Cert.DyKernelIdeal.τ Cert.DyKernelIdeal.sig) → Buf (Elt Ideal) ℓ) (g : Dev Cert.DyKernelIdeal.nD → PrngReg)
    (m' : (ℓ : Loc Cert.DyReferenceIdeal.nD Cert.DyReferenceIdeal.τ Cert.DyReferenceIdeal.sig) → Buf (Elt Ideal) ℓ) (g' : Dev Cert.DyReferenceIdeal.nD → PrngReg), Pre_DyKernelIdeal m →
    (∀ c : Dev Cert.DyKernelIdeal.nD,
      m' ((c.tc : Thread Cert.DyReferenceIdeal.nD Cert.DyReferenceIdeal.τ).loc Cert.DyReferenceIdeal.main_arg0) = m ((c.tc : Thread Cert.DyKernelIdeal.nD Cert.DyKernelIdeal.τ).loc Cert.DyKernelIdeal.main_arg0)
      ∧ m' ((c.tc : Thread Cert.DyReferenceIdeal.nD Cert.DyReferenceIdeal.τ).loc Cert.DyReferenceIdeal.main_arg1) = m ((c.tc : Thread Cert.DyKernelIdeal.nD Cert.DyKernelIdeal.τ).loc Cert.DyKernelIdeal.main_arg1)) →
    ∃ (v0 : (c : Dev Cert.DyKernelIdeal.nD) → Buf (Elt Ideal) ((c.tc : Thread Cert.DyKernelIdeal.nD Cert.DyKernelIdeal.τ).loc Cert.DyKernelIdeal.main_v2)),
      θ_run (Cert.DyKernelIdeal.defs (F := Ideal)) (onTc (τ := Cert.DyKernelIdeal.τ) (Cert.DyKernelIdeal.main (F := Ideal))) ⟨m, fun _ => 0, g⟩ (fun r => ∀ c : Dev Cert.DyKernelIdeal.nD,
          r.2.mem ((c.tc : Thread Cert.DyKernelIdeal.nD Cert.DyKernelIdeal.τ).loc Cert.DyKernelIdeal.main_v2) = v0 c
          ∧ r.2.mem ((c.tc : Thread Cert.DyKernelIdeal.nD Cert.DyKernelIdeal.τ).loc Cert.DyKernelIdeal.main_arg0) = m ((c.tc : Thread Cert.DyKernelIdeal.nD Cert.DyKernelIdeal.τ).loc Cert.DyKernelIdeal.main_arg0)
          ∧ r.2.mem ((c.tc : Thread Cert.DyKernelIdeal.nD Cert.DyKernelIdeal.τ).loc Cert.DyKernelIdeal.main_arg1) = m ((c.tc : Thread Cert.DyKernelIdeal.nD Cert.DyKernelIdeal.τ).loc Cert.DyKernelIdeal.main_arg1))
      ∧ θ_run (Cert.DyReferenceIdeal.defs (F := Ideal)) (onTc (τ := Cert.DyReferenceIdeal.τ) (Cert.DyReferenceIdeal.main (F := Ideal))) ⟨m', fun _ => 0, g'⟩ (fun r => ∀ c : Dev Cert.DyReferenceIdeal.nD,
          r.2.mem ((c.tc : Thread Cert.DyReferenceIdeal.nD Cert.DyReferenceIdeal.τ).loc Cert.DyReferenceIdeal.main_v3) = v0 c
          ∧ r.2.mem ((c.tc : Thread Cert.DyReferenceIdeal.nD Cert.DyReferenceIdeal.τ).loc Cert.DyReferenceIdeal.main_arg0) = m' ((c.tc : Thread Cert.DyReferenceIdeal.nD Cert.DyReferenceIdeal.τ).loc Cert.DyReferenceIdeal.main_arg0)
          ∧ r.2.mem ((c.tc : Thread Cert.DyReferenceIdeal.nD Cert.DyReferenceIdeal.τ).loc Cert.DyReferenceIdeal.main_arg1) = m' ((c.tc : Thread Cert.DyReferenceIdeal.nD Cert.DyReferenceIdeal.τ).loc Cert.DyReferenceIdeal.main_arg1))

def preserves_WgoKernel_WgoKernelIdeal : Prop :=
  True

def algebraic_WgoKernelIdeal_WgoReferenceIdeal [hWgoKernelIdeal : Cert.WgoKernelIdeal.Facts] [hWgoReferenceIdeal : Cert.WgoReferenceIdeal.Facts] : Prop :=
  ∀ (m : (ℓ : Loc Cert.WgoKernelIdeal.nD Cert.WgoKernelIdeal.τ Cert.WgoKernelIdeal.sig) → Buf (Elt Ideal) ℓ) (g : Dev Cert.WgoKernelIdeal.nD → PrngReg)
    (m' : (ℓ : Loc Cert.WgoReferenceIdeal.nD Cert.WgoReferenceIdeal.τ Cert.WgoReferenceIdeal.sig) → Buf (Elt Ideal) ℓ) (g' : Dev Cert.WgoReferenceIdeal.nD → PrngReg), Pre_WgoKernelIdeal m →
    (∀ c : Dev Cert.WgoKernelIdeal.nD,
      m' ((c.tc : Thread Cert.WgoReferenceIdeal.nD Cert.WgoReferenceIdeal.τ).loc Cert.WgoReferenceIdeal.main_arg0) = m ((c.tc : Thread Cert.WgoKernelIdeal.nD Cert.WgoKernelIdeal.τ).loc Cert.WgoKernelIdeal.main_arg0)
      ∧ m' ((c.tc : Thread Cert.WgoReferenceIdeal.nD Cert.WgoReferenceIdeal.τ).loc Cert.WgoReferenceIdeal.main_arg1) = m ((c.tc : Thread Cert.WgoKernelIdeal.nD Cert.WgoKernelIdeal.τ).loc Cert.WgoKernelIdeal.main_arg1)) →
    ∃ (v0 : (c : Dev Cert.WgoKernelIdeal.nD) → Buf (Elt Ideal) ((c.tc : Thread Cert.WgoKernelIdeal.nD Cert.WgoKernelIdeal.τ).loc Cert.WgoKernelIdeal.main_v3)),
      θ_run (Cert.WgoKernelIdeal.defs (F := Ideal)) (onTc (τ := Cert.WgoKernelIdeal.τ) (Cert.WgoKernelIdeal.main (F := Ideal))) ⟨m, fun _ => 0, g⟩ (fun r => ∀ c : Dev Cert.WgoKernelIdeal.nD,
          r.2.mem ((c.tc : Thread Cert.WgoKernelIdeal.nD Cert.WgoKernelIdeal.τ).loc Cert.WgoKernelIdeal.main_v3) = v0 c
          ∧ r.2.mem ((c.tc : Thread Cert.WgoKernelIdeal.nD Cert.WgoKernelIdeal.τ).loc Cert.WgoKernelIdeal.main_arg0) = m ((c.tc : Thread Cert.WgoKernelIdeal.nD Cert.WgoKernelIdeal.τ).loc Cert.WgoKernelIdeal.main_arg0)
          ∧ r.2.mem ((c.tc : Thread Cert.WgoKernelIdeal.nD Cert.WgoKernelIdeal.τ).loc Cert.WgoKernelIdeal.main_arg1) = m ((c.tc : Thread Cert.WgoKernelIdeal.nD Cert.WgoKernelIdeal.τ).loc Cert.WgoKernelIdeal.main_arg1))
      ∧ θ_run (Cert.WgoReferenceIdeal.defs (F := Ideal)) (onTc (τ := Cert.WgoReferenceIdeal.τ) (Cert.WgoReferenceIdeal.main (F := Ideal))) ⟨m', fun _ => 0, g'⟩ (fun r => ∀ c : Dev Cert.WgoReferenceIdeal.nD,
          r.2.mem ((c.tc : Thread Cert.WgoReferenceIdeal.nD Cert.WgoReferenceIdeal.τ).loc Cert.WgoReferenceIdeal.main_v5) = v0 c
          ∧ r.2.mem ((c.tc : Thread Cert.WgoReferenceIdeal.nD Cert.WgoReferenceIdeal.τ).loc Cert.WgoReferenceIdeal.main_arg0) = m' ((c.tc : Thread Cert.WgoReferenceIdeal.nD Cert.WgoReferenceIdeal.τ).loc Cert.WgoReferenceIdeal.main_arg0)
          ∧ r.2.mem ((c.tc : Thread Cert.WgoReferenceIdeal.nD Cert.WgoReferenceIdeal.τ).loc Cert.WgoReferenceIdeal.main_arg1) = m' ((c.tc : Thread Cert.WgoReferenceIdeal.nD Cert.WgoReferenceIdeal.τ).loc Cert.WgoReferenceIdeal.main_arg1))

def preserves_InpKernel_InpKernelIdeal : Prop :=
  True

def algebraic_InpKernelIdeal_InpReferenceIdeal [hInpKernelIdeal : Cert.InpKernelIdeal.Facts] [hInpReferenceIdeal : Cert.InpReferenceIdeal.Facts] : Prop :=
  ∀ (m : (ℓ : Loc Cert.InpKernelIdeal.nD Cert.InpKernelIdeal.τ Cert.InpKernelIdeal.sig) → Buf (Elt Ideal) ℓ) (g : Dev Cert.InpKernelIdeal.nD → PrngReg)
    (m' : (ℓ : Loc Cert.InpReferenceIdeal.nD Cert.InpReferenceIdeal.τ Cert.InpReferenceIdeal.sig) → Buf (Elt Ideal) ℓ) (g' : Dev Cert.InpReferenceIdeal.nD → PrngReg), Pre_InpKernelIdeal m →
    (∀ c : Dev Cert.InpKernelIdeal.nD,
      m' ((c.tc : Thread Cert.InpReferenceIdeal.nD Cert.InpReferenceIdeal.τ).loc Cert.InpReferenceIdeal.main_arg0) = m ((c.tc : Thread Cert.InpKernelIdeal.nD Cert.InpKernelIdeal.τ).loc Cert.InpKernelIdeal.main_arg0)
      ∧ m' ((c.tc : Thread Cert.InpReferenceIdeal.nD Cert.InpReferenceIdeal.τ).loc Cert.InpReferenceIdeal.main_arg1) = m ((c.tc : Thread Cert.InpKernelIdeal.nD Cert.InpKernelIdeal.τ).loc Cert.InpKernelIdeal.main_arg1)) →
    ∃ (v0 : (c : Dev Cert.InpKernelIdeal.nD) → Buf (Elt Ideal) ((c.tc : Thread Cert.InpKernelIdeal.nD Cert.InpKernelIdeal.τ).loc Cert.InpKernelIdeal.main_v3_0)) (v1 : (c : Dev Cert.InpKernelIdeal.nD) → Buf (Elt Ideal) ((c.tc : Thread Cert.InpKernelIdeal.nD Cert.InpKernelIdeal.τ).loc Cert.InpKernelIdeal.main_v3_1)),
      θ_run (Cert.InpKernelIdeal.defs (F := Ideal)) (onTc (τ := Cert.InpKernelIdeal.τ) (Cert.InpKernelIdeal.main (F := Ideal))) ⟨m, fun _ => 0, g⟩ (fun r => ∀ c : Dev Cert.InpKernelIdeal.nD,
          r.2.mem ((c.tc : Thread Cert.InpKernelIdeal.nD Cert.InpKernelIdeal.τ).loc Cert.InpKernelIdeal.main_v3_0) = v0 c
          ∧ r.2.mem ((c.tc : Thread Cert.InpKernelIdeal.nD Cert.InpKernelIdeal.τ).loc Cert.InpKernelIdeal.main_v3_1) = v1 c
          ∧ r.2.mem ((c.tc : Thread Cert.InpKernelIdeal.nD Cert.InpKernelIdeal.τ).loc Cert.InpKernelIdeal.main_arg0) = m ((c.tc : Thread Cert.InpKernelIdeal.nD Cert.InpKernelIdeal.τ).loc Cert.InpKernelIdeal.main_arg0)
          ∧ r.2.mem ((c.tc : Thread Cert.InpKernelIdeal.nD Cert.InpKernelIdeal.τ).loc Cert.InpKernelIdeal.main_arg1) = m ((c.tc : Thread Cert.InpKernelIdeal.nD Cert.InpKernelIdeal.τ).loc Cert.InpKernelIdeal.main_arg1))
      ∧ θ_run (Cert.InpReferenceIdeal.defs (F := Ideal)) (onTc (τ := Cert.InpReferenceIdeal.τ) (Cert.InpReferenceIdeal.main (F := Ideal))) ⟨m', fun _ => 0, g'⟩ (fun r => ∀ c : Dev Cert.InpReferenceIdeal.nD,
          r.2.mem ((c.tc : Thread Cert.InpReferenceIdeal.nD Cert.InpReferenceIdeal.τ).loc Cert.InpReferenceIdeal.main_v3) = v0 c
          ∧ r.2.mem ((c.tc : Thread Cert.InpReferenceIdeal.nD Cert.InpReferenceIdeal.τ).loc Cert.InpReferenceIdeal.main_v5) = v1 c
          ∧ r.2.mem ((c.tc : Thread Cert.InpReferenceIdeal.nD Cert.InpReferenceIdeal.τ).loc Cert.InpReferenceIdeal.main_arg0) = m' ((c.tc : Thread Cert.InpReferenceIdeal.nD Cert.InpReferenceIdeal.τ).loc Cert.InpReferenceIdeal.main_arg0)
          ∧ r.2.mem ((c.tc : Thread Cert.InpReferenceIdeal.nD Cert.InpReferenceIdeal.τ).loc Cert.InpReferenceIdeal.main_arg1) = m' ((c.tc : Thread Cert.InpReferenceIdeal.nD Cert.InpReferenceIdeal.τ).loc Cert.InpReferenceIdeal.main_arg1))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)
      ∧ m' ((c.tc : Thread Cert.UpReferenceIdeal.nD Cert.UpReferenceIdeal.τ).loc Cert.UpReferenceIdeal.main_arg2) = m ((c.tc : Thread Cert.UpKernelIdeal.nD Cert.UpKernelIdeal.τ).loc Cert.UpKernelIdeal.main_arg2)
      ∧ m' ((c.tc : Thread Cert.UpReferenceIdeal.nD Cert.UpReferenceIdeal.τ).loc Cert.UpReferenceIdeal.main_arg3) = m ((c.tc : Thread Cert.UpKernelIdeal.nD Cert.UpKernelIdeal.τ).loc Cert.UpKernelIdeal.main_arg3)) →
    ∃ (v0 : (c : Dev Cert.UpKernelIdeal.nD) → Buf (Elt Ideal) ((c.tc : Thread Cert.UpKernelIdeal.nD Cert.UpKernelIdeal.τ).loc Cert.UpKernelIdeal.main_v9_0)) (v1 : (c : Dev Cert.UpKernelIdeal.nD) → Buf (Elt Ideal) ((c.tc : Thread Cert.UpKernelIdeal.nD Cert.UpKernelIdeal.τ).loc Cert.UpKernelIdeal.main_v9_1)) (v2 : (c : Dev Cert.UpKernelIdeal.nD) → Buf (Elt Ideal) ((c.tc : Thread Cert.UpKernelIdeal.nD Cert.UpKernelIdeal.τ).loc Cert.UpKernelIdeal.main_v9_2)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v9_0) = v0 c
          ∧ r.2.mem ((c.tc : Thread Cert.UpKernelIdeal.nD Cert.UpKernelIdeal.τ).loc Cert.UpKernelIdeal.main_v9_1) = v1 c
          ∧ r.2.mem ((c.tc : Thread Cert.UpKernelIdeal.nD Cert.UpKernelIdeal.τ).loc Cert.UpKernelIdeal.main_v9_2) = v2 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
          ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
          ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v32) = v0 c
          ∧ r.2.mem ((c.tc : Thread Cert.UpReferenceIdeal.nD Cert.UpReferenceIdeal.τ).loc Cert.UpReferenceIdeal.main_v34) = v1 c
          ∧ r.2.mem ((c.tc : Thread Cert.UpReferenceIdeal.nD Cert.UpReferenceIdeal.τ).loc Cert.UpReferenceIdeal.main_v37) = v2 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3))

def preserves_FfnKernel_FfnKernelIdeal : Prop :=
  True

def preserves_MixKernel_MixKernelIdeal : Prop :=
  True

def preserves_DilKernel_DilKernelIdeal : Prop :=
  True

def Claim : Prop :=
  ∃ (hLossKernel : Cert.LossKernel.Facts) (hLossKernelIdeal : Cert.LossKernelIdeal.Facts) (hLossReferenceIdeal : Cert.LossReferenceIdeal.Facts) (hDxUpKernel : Cert.DxUpKernel.Facts) (hDxUpKernelIdeal : Cert.DxUpKernelIdeal.Facts) (hDxUpReferenceIdeal : Cert.DxUpReferenceIdeal.Facts) (hDxInKernel : Cert.DxInKernel.Facts) (hDxInKernelIdeal : Cert.DxInKernelIdeal.Facts) (hDxInReferenceIdeal : Cert.DxInReferenceIdeal.Facts) (hFoxKernel : Cert.FoxKernel.Facts) (hFoxKernelIdeal : Cert.FoxKernelIdeal.Facts) (hFoxReferenceIdeal : Cert.FoxReferenceIdeal.Facts) (hGateKernel : Cert.GateKernel.Facts) (hGateKernelIdeal : Cert.GateKernelIdeal.Facts) (hGateReferenceIdeal : Cert.GateReferenceIdeal.Facts) (hNormKernel : Cert.NormKernel.Facts) (hNormKernelIdeal : Cert.NormKernelIdeal.Facts) (hNormReferenceIdeal : Cert.NormReferenceIdeal.Facts) (hMmoKernel : Cert.MmoKernel.Facts) (hMmoKernelIdeal : Cert.MmoKernelIdeal.Facts) (hMmoReferenceIdeal : Cert.MmoReferenceIdeal.Facts) (hMmdKernel : Cert.MmdKernel.Facts) (hMmdKernelIdeal : Cert.MmdKernelIdeal.Facts) (hMmdReferenceIdeal : Cert.MmdReferenceIdeal.Facts) (hDyKernel : Cert.DyKernel.Facts) (hDyKernelIdeal : Cert.DyKernelIdeal.Facts) (hDyReferenceIdeal : Cert.DyReferenceIdeal.Facts) (hWgoKernel : Cert.WgoKernel.Facts) (hWgoKernelIdeal : Cert.WgoKernelIdeal.Facts) (hWgoReferenceIdeal : Cert.WgoReferenceIdeal.Facts) (hInpKernel : Cert.InpKernel.Facts) (hInpKernelIdeal : Cert.InpKernelIdeal.Facts) (hInpReferenceIdeal : Cert.InpReferenceIdeal.Facts) (hUpKernel : Cert.UpKernel.Facts) (hUpKernelIdeal : Cert.UpKernelIdeal.Facts) (hUpReferenceIdeal : Cert.UpReferenceIdeal.Facts) (hFfnKernel : Cert.FfnKernel.Facts) (hFfnKernelIdeal : Cert.FfnKernelIdeal.Facts) (hFfnReferenceIdeal : Cert.FfnReferenceIdeal.Facts) (hMixKernel : Cert.MixKernel.Facts) (hMixKernelIdeal : Cert.MixKernelIdeal.Facts) (hMixReferenceIdeal : Cert.MixReferenceIdeal.Facts) (hDilKernel : Cert.DilKernel.Facts) (hDilKernelIdeal : Cert.DilKernelIdeal.Facts) (hDilReferenceIdeal : Cert.DilReferenceIdeal.Facts) (hPre_loss_finite : Cert.Pre_loss_finite.Facts) (hPre_dxup_finite : Cert.Pre_dxup_finite.Facts) (hPre_dxin_finite : Cert.Pre_dxin_finite.Facts) (hPre_fox_finite : Cert.Pre_fox_finite.Facts) (hPre_gate_finite : Cert.Pre_gate_finite.Facts) (hOn_fox_lanes : Cert.On_fox_lanes.Facts),
    quiescent_LossKernel (hLossKernel := hLossKernel)
    ∧ quiescent_LossKernelIdeal (hLossKernelIdeal := hLossKernelIdeal)
    ∧ quiescent_LossKernelIdeal_pre_loss_finite (hLossKernelIdeal := hLossKernelIdeal) (hPre_loss_finite := hPre_loss_finite)
    ∧ quiescent_LossReferenceIdeal (hLossReferenceIdeal := hLossReferenceIdeal)
    ∧ quiescent_LossReferenceIdeal_pre_loss_finite (hLossReferenceIdeal := hLossReferenceIdeal) (hPre_loss_finite := hPre_loss_finite)
    ∧ quiescent_DxUpKernel (hDxUpKernel := hDxUpKernel)
    ∧ quiescent_DxUpKernelIdeal (hDxUpKernelIdeal := hDxUpKernelIdeal)
    ∧ quiescent_DxUpKernelIdeal_pre_dxup_finite (hDxUpKernelIdeal := hDxUpKernelIdeal) (hPre_dxup_finite := hPre_dxup_finite)
    ∧ quiescent_DxUpReferenceIdeal (hDxUpReferenceIdeal := hDxUpReferenceIdeal)
    ∧ quiescent_DxUpReferenceIdeal_pre_dxup_finite (hDxUpReferenceIdeal := hDxUpReferenceIdeal) (hPre_dxup_finite := hPre_dxup_finite)
    ∧ quiescent_DxInKernel (hDxInKernel := hDxInKernel)
    ∧ quiescent_DxInKernelIdeal (hDxInKernelIdeal := hDxInKernelIdeal)
    ∧ quiescent_DxInKernelIdeal_pre_dxin_finite (hDxInKernelIdeal := hDxInKernelIdeal) (hPre_dxin_finite := hPre_dxin_finite)
    ∧ quiescent_DxInReferenceIdeal (hDxInReferenceIdeal := hDxInReferenceIdeal)
    ∧ quiescent_DxInReferenceIdeal_pre_dxin_finite (hDxInReferenceIdeal := hDxInReferenceIdeal) (hPre_dxin_finite := hPre_dxin_finite)
    ∧ quiescent_FoxKernel (hFoxKernel := hFoxKernel)
    ∧ quiescent_FoxKernelIdeal (hFoxKernelIdeal := hFoxKernelIdeal)
    ∧ quiescent_FoxKernelIdeal_pre_fox_finite (hFoxKernelIdeal := hFoxKernelIdeal) (hPre_fox_finite := hPre_fox_finite)
    ∧ quiescent_FoxReferenceIdeal (hFoxReferenceIdeal := hFoxReferenceIdeal)
    ∧ quiescent_FoxReferenceIdeal_pre_fox_finite (hFoxReferenceIdeal := hFoxReferenceIdeal) (hPre_fox_finite := hPre_fox_finite)
    ∧ quiescent_GateKernel (hGateKernel := hGateKernel)
    ∧ quiescent_GateKernelIdeal (hGateKernelIdeal := hGateKernelIdeal)
    ∧ quiescent_GateKernelIdeal_pre_gate_finite (hGateKernelIdeal := hGateKernelIdeal) (hPre_gate_finite := hPre_gate_finite)
    ∧ quiescent_GateReferenceIdeal (hGateReferenceIdeal := hGateReferenceIdeal)
    ∧ quiescent_GateReferenceIdeal_pre_gate_finite (hGateReferenceIdeal := hGateReferenceIdeal) (hPre_gate_finite := hPre_gate_finite)
    ∧ quiescent_NormKernel (hNormKernel := hNormKernel)
    ∧ quiescent_NormKernelIdeal (hNormKernelIdeal := hNormKernelIdeal)
    ∧ quiescent_NormReferenceIdeal (hNormReferenceIdeal := hNormReferenceIdeal)
    ∧ quiescent_MmoKernel (hMmoKernel := hMmoKernel)
    ∧ quiescent_MmoKernelIdeal (hMmoKernelIdeal := hMmoKernelIdeal)
    ∧ quiescent_MmoReferenceIdeal (hMmoReferenceIdeal := hMmoReferenceIdeal)
    ∧ quiescent_MmdKernel (hMmdKernel := hMmdKernel)
    ∧ quiescent_MmdKernelIdeal (hMmdKernelIdeal := hMmdKernelIdeal)
    ∧ quiescent_MmdReferenceIdeal (hMmdReferenceIdeal := hMmdReferenceIdeal)
    ∧ quiescent_DyKernel (hDyKernel := hDyKernel)
    ∧ quiescent_DyKernelIdeal (hDyKernelIdeal := hDyKernelIdeal)
    ∧ quiescent_DyReferenceIdeal (hDyReferenceIdeal := hDyReferenceIdeal)
    ∧ quiescent_WgoKernel (hWgoKernel := hWgoKernel)
    ∧ quiescent_WgoKernelIdeal (hWgoKernelIdeal := hWgoKernelIdeal)
    ∧ quiescent_WgoReferenceIdeal (hWgoReferenceIdeal := hWgoReferenceIdeal)
    ∧ quiescent_InpKernel (hInpKernel := hInpKernel)
    ∧ quiescent_InpKernelIdeal (hInpKernelIdeal := hInpKernelIdeal)
    ∧ quiescent_InpReferenceIdeal (hInpReferenceIdeal := hInpReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ quiescent_DilKernel (hDilKernel := hDilKernel)
    ∧ quiescent_DilKernelIdeal (hDilKernelIdeal := hDilKernelIdeal)
    ∧ quiescent_DilReferenceIdeal (hDilReferenceIdeal := hDilReferenceIdeal)
    ∧ preserves_LossKernel_LossKernelIdeal
    ∧ algebraic_LossKernelIdeal_LossReferenceIdeal_pre_loss_finite (hLossKernelIdeal := hLossKernelIdeal) (hLossReferenceIdeal := hLossReferenceIdeal) (hPre_loss_finite := hPre_loss_finite)
    ∧ preserves_DxUpKernel_DxUpKernelIdeal
    ∧ algebraic_DxUpKernelIdeal_DxUpReferenceIdeal_pre_dxup_finite (hDxUpKernelIdeal := hDxUpKernelIdeal) (hDxUpReferenceIdeal := hDxUpReferenceIdeal) (hPre_dxup_finite := hPre_dxup_finite)
    ∧ preserves_DxInKernel_DxInKernelIdeal
    ∧ algebraic_DxInKernelIdeal_DxInReferenceIdeal_pre_dxin_finite (hDxInKernelIdeal := hDxInKernelIdeal) (hDxInReferenceIdeal := hDxInReferenceIdeal) (hPre_dxin_finite := hPre_dxin_finite)
    ∧ preserves_FoxKernel_FoxKernelIdeal
    ∧ algebraic_FoxKernelIdeal_FoxReferenceIdeal_on_fox_lanes_pre_fox_finite (hFoxKernelIdeal := hFoxKernelIdeal) (hFoxReferenceIdeal := hFoxReferenceIdeal) (hPre_fox_finite := hPre_fox_finite) (hOn_fox_lanes := hOn_fox_lanes)
    ∧ preserves_GateKernel_GateKernelIdeal
    ∧ algebraic_GateKernelIdeal_GateReferenceIdeal_pre_gate_finite (hGateKernelIdeal := hGateKernelIdeal) (hGateReferenceIdeal := hGateReferenceIdeal) (hPre_gate_finite := hPre_gate_finite)
    ∧ preserves_NormKernel_NormKernelIdeal
    ∧ algebraic_NormKernelIdeal_NormReferenceIdeal (hNormKernelIdeal := hNormKernelIdeal) (hNormReferenceIdeal := hNormReferenceIdeal)
    ∧ preserves_MmoKernel_MmoKernelIdeal
    ∧ algebraic_MmoKernelIdeal_MmoReferenceIdeal (hMmoKernelIdeal := hMmoKernelIdeal) (hMmoReferenceIdeal := hMmoReferenceIdeal)
    ∧ preserves_MmdKernel_MmdKernelIdeal
    ∧ algebraic_MmdKernelIdeal_MmdReferenceIdeal (hMmdKernelIdeal := hMmdKernelIdeal) (hMmdReferenceIdeal := hMmdReferenceIdeal)
    ∧ preserves_DyKernel_DyKernelIdeal
    ∧ algebraic_DyKernelIdeal_DyReferenceIdeal (hDyKernelIdeal := hDyKernelIdeal) (hDyReferenceIdeal := hDyReferenceIdeal)
    ∧ preserves_WgoKernel_WgoKernelIdeal
    ∧ algebraic_WgoKernelIdeal_WgoReferenceIdeal (hWgoKernelIdeal := hWgoKernelIdeal) (hWgoReferenceIdeal := hWgoReferenceIdeal)
    ∧ preserves_InpKernel_InpKernelIdeal
    ∧ algebraic_InpKernelIdeal_InpReferenceIdeal (hInpKernelIdeal := hInpKernelIdeal) (hInpReferenceIdeal := hInpReferenceIdeal)
    ∧ preserves_UpKernel_UpKernelIdeal
    ∧ algebraic_UpKernelIdeal_UpReferenceIdeal (hUpKernelIdeal := hUpKernelIdeal) (hUpReferenceIdeal := hUpReferenceIdeal)
    ∧ preserves_FfnKernel_FfnKernelIdeal
    ∧ preserves_MixKernel_MixKernelIdeal
    ∧ preserves_DilKernel_DilKernelIdeal
-- ==== On_fox_lanes.lean ====
abbrev S4x2048x384 : Shape := ⟨3, ![4, 2048, 384]⟩
abbrev S4x2048x6 : Shape := ⟨3, ![4, 2048, 6]⟩
abbrev S8192x384 : Shape := ⟨2, ![8192, 384]⟩
abbrev S_ : Shape := ⟨0, ![]⟩

class Facts : Prop where
  bcast_S_S8192x384 : S_.BroadcastsInDim S8192x384 (![] : Fin 0 → Fin S8192x384.rank)

variable [Facts]

def fn {F : FTy → Type} [FloatOps F] (main_arg0 : FVec F S4x2048x384 .f32) (main_arg1 : FVec F S4x2048x384 .f32) (main_arg2 : FVec F S4x2048x384 .f32) (main_arg3 : FVec F S4x2048x6 .f32) (main_arg4 : FVec F S4x2048x384 .f32) : IVec S8192x384 1 × IVec S8192x384 1 × IVec S8192x384 1 × IVec S8192x384 1 × IVec S8192x384 1 :=
  let main_v0 : IVec S8192x384 32 := iotaInDim S8192x384 32 1
  let main_c : IVec S_ 32 := constantI S_ 32 63#32
  let main_v1 : IVec S8192x384 32 := broadcastInDim S8192x384 ![] bcast_S_S8192x384 main_c
  let main_v2 : IVec S8192x384 32 := andi main_v0 main_v1
  let main_c_0 : IVec S_ 1 := constantI S_ 1 1#1
  let main_v3 : IVec S8192x384 1 := broadcastInDim S8192x384 ![] bcast_S_S8192x384 main_c_0
  let main_c_1 : IVec S_ 32 := constantI S_ 32 0#32
  let main_v4 : IVec S8192x384 32 := broadcastInDim S8192x384 ![] bcast_S_S8192x384 main_c_1
  let main_v5 : IVec S8192x384 1 := cmpi .eq main_v2 main_v4
  let main_c_2 : IVec S_ 32 := constantI S_ 32 3#32
  let main_v6 : IVec S8192x384 32 := broadcastInDim S8192x384 ![] bcast_S_S8192x384 main_c_2
  let main_v7 : IVec S8192x384 1 := cmpi .eq main_v2 main_v6
  (main_v3, main_v3, main_v3, main_v5, main_v7)
-- ==== Pre_dxin_finite.lean ====
abbrev S4x2048x2822 : Shape := ⟨3, ![4, 2048, 2822]⟩
abbrev S1024x2822 : Shape := ⟨2, ![1024, 2822]⟩
abbrev S4x2048x1024 : Shape := ⟨3, ![4, 2048, 1024]⟩
abbrev S1024 : Shape := ⟨1, ![1024]⟩
abbrev S_ : Shape := ⟨0, ![]⟩

class Facts : Prop where
  bcast_S_S4x2048x2822 : S_.BroadcastsInDim S4x2048x2822 (![] : Fin 0 → Fin S4x2048x2822.rank)
  reducesTo_S4x2048x2822_S_d0_1_2 : S4x2048x2822.ReducesTo [0, 1, 2] S_
  h_S_ : 0 < S_.numel
  bcast_S_S1024x2822 : S_.BroadcastsInDim S1024x2822 (![] : Fin 0 → Fin S1024x2822.rank)
  reducesTo_S1024x2822_S_d0_1 : S1024x2822.ReducesTo [0, 1] S_
  bcast_S_S4x2048x1024 : S_.BroadcastsInDim S4x2048x1024 (![] : Fin 0 → Fin S4x2048x1024.rank)
  reducesTo_S4x2048x1024_S_d0_1_2 : S4x2048x1024.ReducesTo [0, 1, 2] S_
  bcast_S_S1024 : S_.BroadcastsInDim S1024 (![] : Fin 0 → Fin S1024.rank)
  reducesTo_S1024_S_d0 : S1024.ReducesTo [0] S_

variable [Facts]

def fn_part1 {F : FTy → Type} [FloatOps F] (main_v14 : IVec S_ 1) (main_v15 : FVec F S1024 .f32) (main_cst_5 : FVec F S_ .f32) : IVec S_ 1 :=
  let main_v16 : FVec F S1024 .f32 := broadcastInDim S1024 ![] bcast_S_S1024 main_cst_5
  let main_v17 : IVec S1024 1 := cmpf .olt main_v15 main_v16
  let main_c_6 : IVec S_ 1 := constantI S_ 1 1#1
  let main_v18 : IVec S_ 1 := (fun x v => Host.reduce IntOp.andi x v reducesTo_S1024_S_d0 h_S_) main_v17 main_c_6
  let main_v19 : IVec S_ 1 := andi main_v14 main_v18
  main_v19

def fn {F : FTy → Type} [FloatOps F] (main_arg0 : FVec F S4x2048x2822 .f32) (main_arg1 : FVec F S1024x2822 .f32) (main_arg2 : FVec F S4x2048x1024 .f32) (main_arg3 : FVec F S1024 .f32) (main_arg4 : FVec F S4x2048x1024 .f32) : IVec S_ 1 :=
  let main_v0 : FVec F S4x2048x2822 .f32 := Host.absf main_arg0
  let main_cst : FVec F S_ .f32 := constant S_ .f32 0x7F800000#32
  let main_v1 : FVec F S4x2048x2822 .f32 := broadcastInDim S4x2048x2822 ![] bcast_S_S4x2048x2822 main_cst
  let main_v2 : IVec S4x2048x2822 1 := cmpf .olt main_v0 main_v1
  let main_c : IVec S_ 1 := constantI S_ 1 1#1
  let main_v3 : IVec S_ 1 := (fun x v => Host.reduce IntOp.andi x v reducesTo_S4x2048x2822_S_d0_1_2 h_S_) main_v2 main_c
  let main_c_0 : IVec S_ 1 := constantI S_ 1 1#1
  let main_v4 : IVec S_ 1 := andi main_c_0 main_v3
  let main_v5 : FVec F S1024x2822 .f32 := Host.absf main_arg1
  let main_cst_1 : FVec F S_ .f32 := constant S_ .f32 0x7F800000#32
  let main_v6 : FVec F S1024x2822 .f32 := broadcastInDim S1024x2822 ![] bcast_S_S1024x2822 main_cst_1
  let main_v7 : IVec S1024x2822 1 := cmpf .olt main_v5 main_v6
  let main_c_2 : IVec S_ 1 := constantI S_ 1 1#1
  let main_v8 : IVec S_ 1 := (fun x v => Host.reduce IntOp.andi x v reducesTo_S1024x2822_S_d0_1 h_S_) main_v7 main_c_2
  let main_v9 : IVec S_ 1 := andi main_v4 main_v8
  let main_v10 : FVec F S4x2048x1024 .f32 := Host.absf main_arg2
  let main_cst_3 : FVec F S_ .f32 := constant S_ .f32 0x7F800000#32
  let main_v11 : FVec F S4x2048x1024 .f32 := broadcastInDim S4x2048x1024 ![] bcast_S_S4x2048x1024 main_cst_3
  let main_v12 : IVec S4x2048x1024 1 := cmpf .olt main_v10 main_v11
  let main_c_4 : IVec S_ 1 := constantI S_ 1 1#1
  let main_v13 : IVec S_ 1 := (fun x v => Host.reduce IntOp.andi x v reducesTo_S4x2048x1024_S_d0_1_2 h_S_) main_v12 main_c_4
  let main_v14 : IVec S_ 1 := andi main_v9 main_v13
  let main_v15 : FVec F S1024 .f32 := Host.absf main_arg3
  let main_cst_5 : FVec F S_ .f32 := constant S_ .f32 0x7F800000#32
  fn_part1 (F := F) main_v14 main_v15 main_cst_5
-- ==== Pre_dxup_finite.lean ====
abbrev S4x2048x5632 : Shape := ⟨3, ![4, 2048, 5632]⟩
abbrev S1024x5632 : Shape := ⟨2, ![1024, 5632]⟩
abbrev S4x2048x1024 : Shape := ⟨3, ![4, 2048, 1024]⟩
abbrev S1024 : Shape := ⟨1, ![1024]⟩
abbrev S_ : Shape := ⟨0, ![]⟩

class Facts : Prop where
  bcast_S_S4x2048x5632 : S_.BroadcastsInDim S4x2048x5632 (![] : Fin 0 → Fin S4x2048x5632.rank)
  reducesTo_S4x2048x5632_S_d0_1_2 : S4x2048x5632.ReducesTo [0, 1, 2] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S4x2048x1024 : S_.BroadcastsInDim S4x2048x1024 (![] : Fin 0 → Fin S4x2048x1024.rank)
  reducesTo_S4x2048x1024_S_d0_1_2 : S4x2048x1024.ReducesTo [0, 1, 2] S_
  bcast_S_S1024 : S_.BroadcastsInDim S1024 (![] : Fin 0 → Fin S1024.rank)
  reducesTo_S1024_S_d0 : S1024.ReducesTo [0] S_

variable [Facts]

def fn_part1 {F : FTy → Type} [FloatOps F] (main_v14 : IVec S_ 1) (main_v15 : FVec F S1024 .f32) (main_cst_5 : FVec F S_ .f32) : IVec S_ 1 :=
  let main_v16 : FVec F S1024 .f32 := broadcastInDim S1024 ![] bcast_S_S1024 main_cst_5
  let main_v17 : IVec S1024 1 := cmpf .olt main_v15 main_v16
  let main_c_6 : IVec S_ 1 := constantI S_ 1 1#1
  let main_v18 : IVec S_ 1 := (fun x v => Host.reduce IntOp.andi x v reducesTo_S1024_S_d0 h_S_) main_v17 main_c_6
  let main_v19 : IVec S_ 1 := andi main_v14 main_v18
  main_v19

def fn {F : FTy → Type} [FloatOps F] (main_arg0 : FVec F S4x2048x5632 .f32) (main_arg1 : FVec F S1024x5632 .f32) (main_arg2 : FVec F S4x2048x1024 .f32) (main_arg3 : FVec F S1024 .f32) (main_arg4 : FVec F S4x2048x1024 .f32) : IVec S_ 1 :=
  let main_v0 : FVec F S4x2048x5632 .f32 := Host.absf main_arg0
  let main_cst : FVec F S_ .f32 := constant S_ .f32 0x7F800000#32
  let main_v1 : FVec F S4x2048x5632 .f32 := broadcastInDim S4x2048x5632 ![] bcast_S_S4x2048x5632 main_cst
  let main_v2 : IVec S4x2048x5632 1 := cmpf .olt main_v0 main_v1
  let main_c : IVec S_ 1 := constantI S_ 1 1#1
  let main_v3 : IVec S_ 1 := (fun x v => Host.reduce IntOp.andi x v reducesTo_S4x2048x5632_S_d0_1_2 h_S_) main_v2 main_c
  let main_c_0 : IVec S_ 1 := constantI S_ 1 1#1
  let main_v4 : IVec S_ 1 := andi main_c_0 main_v3
  let main_v5 : FVec F S1024x5632 .f32 := Host.absf main_arg1
  let main_cst_1 : FVec F S_ .f32 := constant S_ .f32 0x7F800000#32
  let main_v6 : FVec F S1024x5632 .f32 := broadcastInDim S1024x5632 ![] bcast_S_S1024x5632 main_cst_1
  let main_v7 : IVec S1024x5632 1 := cmpf .olt main_v5 main_v6
  let main_c_2 : IVec S_ 1 := constantI S_ 1 1#1
  let main_v8 : IVec S_ 1 := (fun x v => Host.reduce IntOp.andi x v reducesTo_S1024x5632_S_d0_1 h_S_) main_v7 main_c_2
  let main_v9 : IVec S_ 1 := andi main_v4 main_v8
  let main_v10 : FVec F S4x2048x1024 .f32 := Host.absf main_arg2
  let main_cst_3 : FVec F S_ .f32 := constant S_ .f32 0x7F800000#32
  let main_v11 : FVec F S4x2048x1024 .f32 := broadcastInDim S4x2048x1024 ![] bcast_S_S4x2048x1024 main_cst_3
  let main_v12 : IVec S4x2048x1024 1 := cmpf .olt main_v10 main_v11
  let main_c_4 : IVec S_ 1 := constantI S_ 1 1#1
  let main_v13 : IVec S_ 1 := (fun x v => Host.reduce IntOp.andi x v reducesTo_S4x2048x1024_S_d0_1_2 h_S_) main_v12 main_c_4
  let main_v14 : IVec S_ 1 := andi main_v9 main_v13
  let main_v15 : FVec F S1024 .f32 := Host.absf main_arg3
  let main_cst_5 : FVec F S_ .f32 := constant S_ .f32 0x7F800000#32
  fn_part1 (F := F) main_v14 main_v15 main_cst_5
-- ==== Pre_fox_finite.lean ====
abbrev S4x2048x384 : Shape := ⟨3, ![4, 2048, 384]⟩
abbrev S4x2048x6 : Shape := ⟨3, ![4, 2048, 6]⟩
abbrev S_ : Shape := ⟨0, ![]⟩

class Facts : Prop where
  bcast_S_S4x2048x384 : S_.BroadcastsInDim S4x2048x384 (![] : Fin 0 → Fin S4x2048x384.rank)
  reducesTo_S4x2048x384_S_d0_1_2 : S4x2048x384.ReducesTo [0, 1, 2] S_
  h_S_ : 0 < S_.numel
  bcast_S_S4x2048x6 : S_.BroadcastsInDim S4x2048x6 (![] : Fin 0 → Fin S4x2048x6.rank)
  reducesTo_S4x2048x6_S_d0_1_2 : S4x2048x6.ReducesTo [0, 1, 2] S_

variable [Facts]

def fn_part1 {F : FTy → Type} [FloatOps F] (main_arg4 : FVec F S4x2048x384 .f32) (main_v14 : IVec S_ 1) (main_v15 : FVec F S4x2048x6 .f32) (main_cst_5 : FVec F S_ .f32) : IVec S_ 1 :=
  let main_v16 : FVec F S4x2048x6 .f32 := broadcastInDim S4x2048x6 ![] bcast_S_S4x2048x6 main_cst_5
  let main_v17 : IVec S4x2048x6 1 := cmpf .olt main_v15 main_v16
  let main_c_6 : IVec S_ 1 := constantI S_ 1 1#1
  let main_v18 : IVec S_ 1 := (fun x v => Host.reduce IntOp.andi x v reducesTo_S4x2048x6_S_d0_1_2 h_S_) main_v17 main_c_6
  let main_v19 : IVec S_ 1 := andi main_v14 main_v18
  let main_v20 : FVec F S4x2048x384 .f32 := Host.absf main_arg4
  let main_cst_7 : FVec F S_ .f32 := constant S_ .f32 0x7F800000#32
  let main_v21 : FVec F S4x2048x384 .f32 := broadcastInDim S4x2048x384 ![] bcast_S_S4x2048x384 main_cst_7
  let main_v22 : IVec S4x2048x384 1 := cmpf .olt main_v20 main_v21
  let main_c_8 : IVec S_ 1 := constantI S_ 1 1#1
  let main_v23 : IVec S_ 1 := (fun x v => Host.reduce IntOp.andi x v reducesTo_S4x2048x384_S_d0_1_2 h_S_) main_v22 main_c_8
  let main_v24 : IVec S_ 1 := andi main_v19 main_v23
  main_v24

def fn {F : FTy → Type} [FloatOps F] (main_arg0 : FVec F S4x2048x384 .f32) (main_arg1 : FVec F S4x2048x384 .f32) (main_arg2 : FVec F S4x2048x384 .f32) (main_arg3 : FVec F S4x2048x6 .f32) (main_arg4 : FVec F S4x2048x384 .f32) : IVec S_ 1 :=
  let main_v0 : FVec F S4x2048x384 .f32 := Host.absf main_arg0
  let main_cst : FVec F S_ .f32 := constant S_ .f32 0x7F800000#32
  let main_v1 : FVec F S4x2048x384 .f32 := broadcastInDim S4x2048x384 ![] bcast_S_S4x2048x384 main_cst
  let main_v2 : IVec S4x2048x384 1 := cmpf .olt main_v0 main_v1
  let main_c : IVec S_ 1 := constantI S_ 1 1#1
  let main_v3 : IVec S_ 1 := (fun x v => Host.reduce IntOp.andi x v reducesTo_S4x2048x384_S_d0_1_2 h_S_) main_v2 main_c
  let main_c_0 : IVec S_ 1 := constantI S_ 1 1#1
  let main_v4 : IVec S_ 1 := andi main_c_0 main_v3
  let main_v5 : FVec F S4x2048x384 .f32 := Host.absf main_arg1
  let main_cst_1 : FVec F S_ .f32 := constant S_ .f32 0x7F800000#32
  let main_v6 : FVec F S4x2048x384 .f32 := broadcastInDim S4x2048x384 ![] bcast_S_S4x2048x384 main_cst_1
  let main_v7 : IVec S4x2048x384 1 := cmpf .olt main_v5 main_v6
  let main_c_2 : IVec S_ 1 := constantI S_ 1 1#1
  let main_v8 : IVec S_ 1 := (fun x v => Host.reduce IntOp.andi x v reducesTo_S4x2048x384_S_d0_1_2 h_S_) main_v7 main_c_2
  let main_v9 : IVec S_ 1 := andi main_v4 main_v8
  let main_v10 : FVec F S4x2048x384 .f32 := Host.absf main_arg2
  let main_cst_3 : FVec F S_ .f32 := constant S_ .f32 0x7F800000#32
  let main_v11 : FVec F S4x2048x384 .f32 := broadcastInDim S4x2048x384 ![] bcast_S_S4x2048x384 main_cst_3
  let main_v12 : IVec S4x2048x384 1 := cmpf .olt main_v10 main_v11
  let main_c_4 : IVec S_ 1 := constantI S_ 1 1#1
  let main_v13 : IVec S_ 1 := (fun x v => Host.reduce IntOp.andi x v reducesTo_S4x2048x384_S_d0_1_2 h_S_) main_v12 main_c_4
  let main_v14 : IVec S_ 1 := andi main_v9 main_v13
  let main_v15 : FVec F S4x2048x6 .f32 := Host.absf main_arg3
  let main_cst_5 : FVec F S_ .f32 := constant S_ .f32 0x7F800000#32
  fn_part1 (F := F) main_arg4 main_v14 main_v15 main_cst_5
-- ==== Pre_gate_finite.lean ====
abbrev S8192x384 : Shape := ⟨2, ![8192, 384]⟩
abbrev S4x2048x2822 : Shape := ⟨3, ![4, 2048, 2822]⟩
abbrev S6 : Shape := ⟨1, ![6]⟩
abbrev S4x2048x6 : Shape := ⟨3, ![4, 2048, 6]⟩
abbrev S_ : Shape := ⟨0, ![]⟩

class Facts : Prop where
  slices_S4x2048x2822_S4x2048x6_0_0_1152 : S4x2048x2822.Slices ![0, 0, 1152] S4x2048x6
  bcast_S_S4x2048x6 : S_.BroadcastsInDim S4x2048x6 (![] : Fin 0 → Fin S4x2048x6.rank)
  reducesTo_S4x2048x6_S_d0_1_2 : S4x2048x6.ReducesTo [0, 1, 2] S_
  h_S_ : 0 < S_.numel
  bcast_S_S6 : S_.BroadcastsInDim S6 (![] : Fin 0 → Fin S6.rank)
  reducesTo_S6_S_d0 : S6.ReducesTo [0] S_

variable [Facts]

def fn {F : FTy → Type} [FloatOps F] (main_arg0 : FVec F S8192x384 .f32) (main_arg1 : FVec F S8192x384 .f32) (main_arg2 : FVec F S4x2048x2822 .f32) (main_arg3 : FVec F S6 .f32) : IVec S_ 1 :=
  let main_v0 : FVec F S4x2048x6 .f32 := (extractStridedSlice S4x2048x6 ![0, 0, 1152] · slices_S4x2048x2822_S4x2048x6_0_0_1152) main_arg2
  let main_v1 : FVec F S4x2048x6 .f32 := Host.absf main_v0
  let main_cst : FVec F S_ .f32 := constant S_ .f32 0x7F800000#32
  let main_v2 : FVec F S4x2048x6 .f32 := broadcastInDim S4x2048x6 ![] bcast_S_S4x2048x6 main_cst
  let main_v3 : IVec S4x2048x6 1 := cmpf .olt main_v1 main_v2
  let main_c : IVec S_ 1 := constantI S_ 1 1#1
  let main_v4 : IVec S_ 1 := (fun x v => Host.reduce IntOp.andi x v reducesTo_S4x2048x6_S_d0_1_2 h_S_) main_v3 main_c
  let main_c_0 : IVec S_ 1 := constantI S_ 1 1#1
  let main_v5 : IVec S_ 1 := andi main_c_0 main_v4
  let main_v6 : FVec F S6 .f32 := Host.absf main_arg3
  let main_cst_1 : FVec F S_ .f32 := constant S_ .f32 0x7F800000#32
  let main_v7 : FVec F S6 .f32 := broadcastInDim S6 ![] bcast_S_S6 main_cst_1
  let main_v8 : IVec S6 1 := cmpf .olt main_v6 main_v7
  let main_c_2 : IVec S_ 1 := constantI S_ 1 1#1
  let main_v9 : IVec S_ 1 := (fun x v => Host.reduce IntOp.andi x v reducesTo_S6_S_d0 h_S_) main_v8 main_c_2
  let main_v10 : IVec S_ 1 := andi main_v5 main_v9
  main_v10
-- ==== Pre_loss_finite.lean ====
abbrev S4x2048x1024 : Shape := ⟨3, ![4, 2048, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4x2048x1024 .f32) (main_arg1 : FVec F S1024 .f32) (main_arg2 : FVec F S4x2048x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_c_0 : IVec S_ 1 := constantI S_ 1 1#1
  let main_v4 : IVec S_ 1 := andi main_c_0 main_v3
  let main_v5 : FVec F S1024 .f32 := Host.absf main_arg1
  let main_cst_1 : FVec F S_ .f32 := constant S_ .f32 0x7F800000#32
  let main_v6 : FVec F S1024 .f32 := broadcastInDim S1024 ![] bcast_S_S1024 main_cst_1
  let main_v7 : IVec S1024 1 := cmpf .olt main_v5 main_v6
  let main_c_2 : IVec S_ 1 := constantI S_ 1 1#1
  let main_v8 : IVec S_ 1 := (fun x v => Host.reduce IntOp.andi x v reducesTo_S1024_S_d0 h_S_) main_v7 main_c_2
  let main_v9 : IVec S_ 1 := andi main_v4 main_v8
  let main_v10 : FVec F S4x2048x1024 .f32 := Host.absf main_arg2
  let main_cst_3 : FVec F S_ .f32 := constant S_ .f32 0x7F800000#32
  let main_v11 : FVec F S4x2048x1024 .f32 := broadcastInDim S4x2048x1024 ![] bcast_S_S4x2048x1024 main_cst_3
  let main_v12 : IVec S4x2048x1024 1 := cmpf .olt main_v10 main_v11
  let main_c_4 : IVec S_ 1 := constantI S_ 1 1#1
  let main_v13 : IVec S_ 1 := (fun x v => Host.reduce IntOp.andi x v reducesTo_S4x2048x1024_S_d0_1_2 h_S_) main_v12 main_c_4
  let main_v14 : IVec S_ 1 := andi main_v9 main_v13
  main_v14
-- ==== LossKernel.lean ====
abbrev S4x2048x1024 : Shape := ⟨3, ![4, 2048, 1024]⟩
abbrev S1024 : Shape := ⟨1, ![1024]⟩
abbrev S8192x1024 : Shape := ⟨2, ![8192, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 9
  | .vmem => 9
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x2048x1024, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1x128, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S1x128, .f32⟩
  | .local _ .vmem, ⟨8, _⟩ => ⟨S1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossReferenceIdeal.lean ====
abbrev S4x2048x1024 : Shape := ⟨3, ![4, 2048, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S1x128 : Shape := ⟨2, ![1, 128]⟩
abbrev S1x1024 : Shape := ⟨2, ![1, 1024]⟩

abbrev nBuf : Space → Nat
  | .hbm => 74
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x2048x1024, .f32⟩
  | .hbm, ⟨3, _⟩ => ⟨S4x2048x1024, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1024, .f32⟩
  | .hbm, ⟨19, _⟩ => ⟨S4x2048x1024, .f32⟩
  | .hbm, ⟨20, _⟩ => ⟨S1x1x1024, .f32⟩
  | .hbm, ⟨21, _⟩ => ⟨S4x2048x1024, .f32⟩
  | .hbm, ⟨22, _⟩ => ⟨S4x2048x1024, .f32⟩
  | .hbm, ⟨23, _⟩ => ⟨S4x2048x1024, .f32⟩
  | .hbm, ⟨24, _⟩ => ⟨S4x2048x1024, .f32⟩
  | .hbm, ⟨25, _⟩ => ⟨S_, .f32⟩
  | .hbm, ⟨26, _⟩ => ⟨S4x2048x1024, .f32⟩
  | .hbm, ⟨27, _⟩ => ⟨S4x2048x1024, .f32⟩
  | .hbm, ⟨28, _⟩ => ⟨S_, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4x2048, .f32⟩
  | .hbm, ⟨41, _⟩ => ⟨S_, .f32⟩
  | .hbm, ⟨42, _⟩ => ⟨S4x2048, .f32⟩
  | .hbm, ⟨43, _⟩ => ⟨S4x2048, .f32⟩
  | .hbm, ⟨44, _⟩ => ⟨S4x2048x1024, .f32⟩
  | .hbm, ⟨45, _⟩ => ⟨S4x2048x1024, .f32⟩
  | .hbm, ⟨46, _⟩ => ⟨S4x2048x1024, .f32⟩
  | .hbm, ⟨47, _⟩ => ⟨S_, .f32⟩
  | .hbm, ⟨48, _⟩ => ⟨S1024, .f32⟩
  | .hbm, ⟨49, _⟩ => ⟨S1x1x1024, .f32⟩
  | .hbm, ⟨50, _⟩ => ⟨S4x2048x1024, .f32⟩
  | .hbm, ⟨51, _⟩ => ⟨S4x2048x1024, .f32⟩
  | .hbm, ⟨52, _⟩ => ⟨S_, .f32⟩
  | .hbm, ⟨53, _⟩ => ⟨S1024, .f32⟩
  | .hbm, ⟨54, _⟩ => ⟨S4x2048x1024, .f32⟩
  | .hbm, ⟨55, _⟩ => ⟨S_, .f32⟩
  | .hbm, ⟨56, _⟩ => ⟨S4x2048, .f32⟩
  | .hbm, ⟨57, _⟩ => ⟨S4x2048x1, .f32⟩
  | .hbm, ⟨58, _⟩ => ⟨S4x2048x1024, .f32⟩
  | .hbm, ⟨59, _⟩ => ⟨S4x2048x1024, .f32⟩
  | .hbm, ⟨60, _⟩ => ⟨S4x2048x1, .f32⟩
  | .hbm, ⟨61, _⟩ => ⟨S_, .f32⟩
  | .hbm, ⟨62, _⟩ => ⟨S4x2048x1, .f32⟩
  | .hbm, ⟨63, _⟩ => ⟨S4x2048x1, .f32⟩
  | .hbm, ⟨64, _⟩ => ⟨S_, .f32⟩
  | .hbm, ⟨65, _⟩ => ⟨S4x2048, .f32⟩
  | .hbm, ⟨66, _⟩ => ⟨S4x2048x1024, .f32⟩
  | .hbm, ⟨67, _⟩ => ⟨S4x2048x1024, .f32⟩
  | .hbm, ⟨68, _⟩ => ⟨S4x2048x1024, .f32⟩
  | .hbm, ⟨69, _⟩ => ⟨S4x2048x1024, .f32⟩
  | .hbm, ⟨70, _⟩ => ⟨S4x2048x1024, .f32⟩
  | .hbm, ⟨71, _⟩ => ⟨S8192x1024, .f32⟩
  | .hbm, ⟨72, _⟩ => ⟨S1x128, .f32⟩
  | .hbm, ⟨73, _⟩ => ⟨S1x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== DxUpKernel.lean ====
abbrev S4x2048x5632 : Shape := ⟨3, ![4, 2048, 5632]⟩
abbrev S1024x5632 : Shape := ⟨2, ![1024, 5632]⟩
abbrev S4x2048x1024 : Shape := ⟨3, ![4, 2048, 1024]⟩
abbrev S1024 : Shape := ⟨1, ![1024]⟩
abbrev S8192x2x4x704 : Shape := ⟨4, ![8192, 2, 4, 704]⟩
abbrev S2x4x8192x704 : Shape := ⟨4, ![2, 4, 8192, 704]⟩
abbrev S1024x2x4x704 : Shape := ⟨4, ![1024, 2, 4, 704]⟩
abbrev S2x4x1024x704 : Shape := ⟨4, ![2, 4, 1024, 704]⟩
abbrev S8192x1024 : Shape := ⟨2, ![8192, 1024]⟩
abbrev S1x1024 : Shape := ⟨2, ![1, 1024]⟩
abbrev S2x4x256x704 : Shape := ⟨4, ![2, 4, 256, 704]⟩
abbrev S256x1024 : Shape := ⟨2, ![256, 1024]⟩
abbrev S1x1x256x704 : Shape := ⟨4, ![1, 1, 256, 704]⟩
abbrev S256x704 : Shape := ⟨2, ![256, 704]⟩
abbrev S1x1x1024x704 : Shape := ⟨4, ![1, 1, 1024, 704]⟩
abbrev S1024x704 : Shape := ⟨2, ![1024, 704]⟩
abbrev S256 : Shape := ⟨1, ![256]⟩
abbrev S256x1 : Shape := ⟨2, ![256, 1]⟩

abbrev nBuf : Space → Nat
  | .hbm => 16
  | .vmem => 11
  | .smem => 0
  | _ => 0

abbrev bufTy : (tb : Table) → Fin (tcTables nBuf tb) → BufTy
  | .hbm, ⟨0, _⟩ => ⟨S4x2048x5632, .f32⟩
  | .hbm, ⟨1, _⟩ => ⟨S1024x5632, .f32⟩
  | .hbm, ⟨2, _⟩ => ⟨S4x2048x1024, .f32⟩
  | .hbm, ⟨3, _⟩ => ⟨S1024, .f32⟩
  | .hbm, ⟨4, _⟩ => ⟨S4x2048x1024, .f32⟩
  | .hbm, ⟨5, _⟩ => ⟨S4x2048x5632, .bf16⟩
  | .hbm, ⟨6, _⟩ => ⟨S8192x2x4x704, .bf16⟩
  | .hbm, ⟨7, _⟩ => ⟨S2x4x8192x704, .bf16⟩
  | .hbm, ⟨8, _⟩ => ⟨S1024x5632, .bf16⟩
  | .hbm, ⟨9, _⟩ => ⟨S1024x2x4x704, .bf16⟩
  | .hbm, ⟨10, _⟩ => ⟨S2x4x1024x704, .bf16⟩
  | .hbm, ⟨11, _⟩ => ⟨S8192x1024, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S1x1024, .f32⟩
  | .local _ .vmem, ⟨0, _⟩ => ⟨S2x4x256x704, .bf16⟩
  | .local _ .vmem, ⟨1, _⟩ => ⟨S2x4x256x704, .bf16⟩
  | .local _ .vmem, ⟨2, _⟩ => ⟨S2x4x1024x704, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S4x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x4x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x4x1024x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DxUpReferenceIdeal.lean ====
abbrev S4x2048x5632 : Shape := ⟨3, ![4, 2048, 5632]⟩
abbrev S1024x5632 : Shape := ⟨2, ![1024, 5632]⟩
abbrev S4x2048x1024 : Shape := ⟨3, ![4, 2048, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4x2048x5632, .f32⟩
  | .hbm, ⟨1, _⟩ => ⟨S1024x5632, .f32⟩
  | .hbm, ⟨2, _⟩ => ⟨S4x2048x1024, .f32⟩
  | .hbm, ⟨3, _⟩ => ⟨S1024, .f32⟩
  | .hbm, ⟨4, _⟩ => ⟨S4x2048x1024, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x1024, .f32⟩
  | .hbm, ⟨21, _⟩ => ⟨S4x2048x1024, .f32⟩
  | .hbm, ⟨22, _⟩ => ⟨S1x1x1024, .f32⟩
  | .hbm, ⟨23, _⟩ => ⟨S4x2048x1024, .f32⟩
  | .hbm, ⟨24, _⟩ => ⟨S4x2048x1024, .f32⟩
  | .hbm, ⟨25, _⟩ => ⟨S4x2048x5632, .f32⟩
  | .hbm, ⟨26, _⟩ => ⟨S4x2048x1024, .f32⟩
  | .hbm, ⟨27, _⟩ => ⟨S4x2048x1024, .f32⟩
  | .hbm, ⟨28, _⟩ => ⟨S_, .f32⟩
  | .hbm, ⟨29, _⟩ => ⟨S1024, .f32⟩
  | .hbm, ⟨30, _⟩ => ⟨S1x1x1024, .f32⟩
  | .hbm, ⟨31, _⟩ => ⟨S4x2048x1024, .f32⟩
  | .hbm, ⟨32, _⟩ => ⟨S4x2048x1024, .f32⟩
  | .hbm, ⟨33, _⟩ => ⟨S_, .f32⟩
  | .hbm, ⟨34, _⟩ => ⟨S1024, .f32⟩
  | .hbm, ⟨35, _⟩ => ⟨S4x2048x1024, .f32⟩
  | .hbm, ⟨36, _⟩ => ⟨S_, .f32⟩
  | .hbm, ⟨37, _⟩ => ⟨S4x2048, .f32⟩
  | .hbm, ⟨38, _⟩ => ⟨S4x2048x1, .f32⟩
  | .hbm, ⟨39, _⟩ => ⟨S4x2048x1024, .f32⟩
  | .hbm, ⟨40, _⟩ => ⟨S4x2048x1024, .f32⟩
  | .hbm, ⟨41, _⟩ => ⟨S4x2048x1024, .f32⟩
  | .hbm, ⟨42, _⟩ => ⟨S4x2048x1, .f32⟩
  | .hbm, ⟨43, _⟩ => ⟨S_, .f32⟩
  | .hbm, ⟨44, _⟩ => ⟨S4x2048x1, .f32⟩
  | .hbm, ⟨45, _⟩ => ⟨S4x2048x1, .f32⟩
  | .hbm, ⟨46, _⟩ => ⟨S_, .f32⟩
  | .hbm, ⟨47, _⟩ => ⟨S4x2048, .f32⟩
  | .hbm, ⟨48, _⟩ => ⟨S4x2048x1024, .f32⟩
  | .hbm, ⟨49, _⟩ => ⟨S4x2048x1024, .f32⟩
  | .hbm, ⟨50, _⟩ => ⟨S4x2048x1024, .f32⟩
  | .hbm, ⟨51, _⟩ => ⟨S4x2048x1024, .f32⟩
  | .hbm, ⟨52, _⟩ => ⟨S4x2048x1024, .f32⟩
  | .hbm, ⟨53, _⟩ => ⟨S8192x1024, .f32⟩
  | .hbm, ⟨54, _⟩ => ⟨S1x1024, .f32⟩
  | _, _ => ⟨S4x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== DxInKernel.lean ====
abbrev S4x2048x2822 : Shape := ⟨3, ![4, 2048, 2822]⟩
abbrev S1024x2822 : Shape := ⟨2, ![1024, 2822]⟩
abbrev S4x2048x1024 : Shape := ⟨3, ![4, 2048, 1024]⟩
abbrev S1024 : Shape := ⟨1, ![1024]⟩
abbrev S_ : Shape := ⟨0, ![]⟩
abbrev S4x2048x250 : Shape := ⟨3, ![4, 2048, 250]⟩
abbrev S4x2048x1152 : Shape := ⟨3, ![4, 2048, 1152]⟩
abbrev S4x2048x1664 : Shape := ⟨3, ![4, 2048, 1664]⟩
abbrev S4x2048x6 : Shape := ⟨3, ![4, 2048, 6]⟩
abbrev S4x2048x3072 : Shape := ⟨3, ![4, 2048, 3072]⟩
abbrev S8192x3072 : Shape := ⟨2, ![8192, 3072]⟩
abbrev S1024x250 : Shape := ⟨2, ![1024, 250]⟩
abbrev S1024x1152 : Shape := ⟨2, ![1024, 1152]⟩
abbrev S1024x1664 : Shape := ⟨2, ![1024, 1664]⟩
abbrev S1024x6 : Shape := ⟨2, ![1024, 6]⟩
abbrev S1024x3072 : Shape := ⟨2, ![1024, 3072]⟩
abbrev S8192x1024 : Shape := ⟨2, ![8192, 1024]⟩
abbrev S1x1024 : Shape := ⟨2, ![1, 1024]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩

abbrev nBuf : Space → Nat
  | .hbm => 25
  | .vmem => 11
  | .smem => 0
  | _ => 0

abbrev bufTy : (tb : Table) → Fin (tcTables nBuf tb) → BufTy
  | .hbm, ⟨0, _⟩ => ⟨S4x2048x2822, .f32⟩
  | .hbm, ⟨1, _⟩ => ⟨S1024x2822, .f32⟩
  | .hbm, ⟨2, _⟩ => ⟨S4x2048x1024, .f32⟩
  | .hbm, ⟨3, _⟩ => ⟨S1024, .f32⟩
  | .hbm, ⟨4, _⟩ => ⟨S4x2048x1024, .f32⟩
  | .hbm, ⟨5, _⟩ => ⟨S4x2048x2822, .bf16⟩
  | .hbm, ⟨6, _⟩ => ⟨S_, .bf16⟩
  | .hbm, ⟨7, _⟩ => ⟨S4x2048x250, .bf16⟩
  | .hbm, ⟨8, _⟩ => ⟨S4x2048x1152, .bf16⟩
  | .hbm, ⟨9, _⟩ => ⟨S4x2048x1664, .bf16⟩
  | .hbm, ⟨10, _⟩ => ⟨S4x2048x6, .bf16⟩
  | .hbm, ⟨11, _⟩ => ⟨S4x2048x3072, .bf16⟩
  | .hbm, ⟨12, _⟩ => ⟨S8192x3072, .bf16⟩
  | .hbm, ⟨13, _⟩ => ⟨S1024x2822, .bf16⟩
  | .hbm, ⟨14, _⟩ => ⟨S_, .bf16⟩
  | .hbm, ⟨15, _⟩ => ⟨S1024x250, .bf16⟩
  | .hbm, ⟨16, _⟩ => ⟨S1024x1152, .bf16⟩
  | .hbm, ⟨17, _⟩ => ⟨S1024x1664, .bf16⟩
  | .hbm, ⟨18, _⟩ => ⟨S1024x6, .bf16⟩
  | .hbm, ⟨19, _⟩ => ⟨S1024x3072, .bf16⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4x2048x2822, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DxInReferenceIdeal.lean ====
abbrev S4x2048x2822 : Shape := ⟨3, ![4, 2048, 2822]⟩
abbrev S1024x2822 : Shape := ⟨2, ![1024, 2822]⟩
abbrev S4x2048x1024 : Shape := ⟨3, ![4, 2048, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4x2048x2822, .f32⟩
  | .hbm, ⟨1, _⟩ => ⟨S1024x2822, .f32⟩
  | .hbm, ⟨2, _⟩ => ⟨S4x2048x1024, .f32⟩
  | .hbm, ⟨3, _⟩ => ⟨S1024, .f32⟩
  | .hbm, ⟨4, _⟩ => ⟨S4x2048x1024, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x1024, .f32⟩
  | .hbm, ⟨21, _⟩ => ⟨S4x2048x1024, .f32⟩
  | .hbm, ⟨22, _⟩ => ⟨S1x1x1024, .f32⟩
  | .hbm, ⟨23, _⟩ => ⟨S4x2048x1024, .f32⟩
  | .hbm, ⟨24, _⟩ => ⟨S4x2048x1024, .f32⟩
  | .hbm, ⟨25, _⟩ => ⟨S4x2048x2822, .f32⟩
  | .hbm, ⟨26, _⟩ => ⟨S4x2048x1024, .f32⟩
  | .hbm, ⟨27, _⟩ => ⟨S4x2048x1024, .f32⟩
  | .hbm, ⟨28, _⟩ => ⟨S_, .f32⟩
  | .hbm, ⟨29, _⟩ => ⟨S1024, .f32⟩
  | .hbm, ⟨30, _⟩ => ⟨S1x1x1024, .f32⟩
  | .hbm, ⟨31, _⟩ => ⟨S4x2048x1024, .f32⟩
  | .hbm, ⟨32, _⟩ => ⟨S4x2048x1024, .f32⟩
  | .hbm, ⟨33, _⟩ => ⟨S_, .f32⟩
  | .hbm, ⟨34, _⟩ => ⟨S1024, .f32⟩
  | .hbm, ⟨35, _⟩ => ⟨S4x2048x1024, .f32⟩
  | .hbm, ⟨36, _⟩ => ⟨S_, .f32⟩
  | .hbm, ⟨37, _⟩ => ⟨S4x2048, .f32⟩
  | .hbm, ⟨38, _⟩ => ⟨S4x2048x1, .f32⟩
  | .hbm, ⟨39, _⟩ => ⟨S4x2048x1024, .f32⟩
  | .hbm, ⟨40, _⟩ => ⟨S4x2048x1024, .f32⟩
  | .hbm, ⟨41, _⟩ => ⟨S4x2048x1024, .f32⟩
  | .hbm, ⟨42, _⟩ => ⟨S4x2048x1, .f32⟩
  | .hbm, ⟨43, _⟩ => ⟨S_, .f32⟩
  | .hbm, ⟨44, _⟩ => ⟨S4x2048x1, .f32⟩
  | .hbm, ⟨45, _⟩ => ⟨S4x2048x1, .f32⟩
  | .hbm, ⟨46, _⟩ => ⟨S_, .f32⟩
  | .hbm, ⟨47, _⟩ => ⟨S4x2048, .f32⟩
  | .hbm, ⟨48, _⟩ => ⟨S4x2048x1024, .f32⟩
  | .hbm, ⟨49, _⟩ => ⟨S4x2048x1024, .f32⟩
  | .hbm, ⟨50, _⟩ => ⟨S4x2048x1024, .f32⟩
  | .hbm, ⟨51, _⟩ => ⟨S4x2048x1024, .f32⟩
  | .hbm, ⟨52, _⟩ => ⟨S4x2048x1024, .f32⟩
  | .hbm, ⟨53, _⟩ => ⟨S8192x1024, .f32⟩
  | .hbm, ⟨54, _⟩ => ⟨S1x1024, .f32⟩
  | _, _ => ⟨S4x2048x2822, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== FoxKernel.lean ====
abbrev S4x2048x384 : Shape := ⟨3, ![4, 2048, 384]⟩
abbrev S4x2048x6 : Shape := ⟨3, ![4, 2048, 6]⟩
abbrev S_ : Shape := ⟨0, ![]⟩
abbrev S4x2048x6x64 : Shape := ⟨4, ![4, 2048, 6, 64]⟩
abbrev S4x6x2048x2048 : Shape := ⟨4, ![4, 6, 2048, 2048]⟩
abbrev S4x6x2048 : Shape := ⟨3, ![4, 6, 2048]⟩
abbrev S4x6x2048x1 : Shape := ⟨4, ![4, 6, 2048, 1]⟩
abbrev S4x6x1x2048 : Shape := ⟨4, ![4, 6, 1, 2048]⟩
abbrev S2048x2048 : Shape := ⟨2, ![2048, 2048]⟩
abbrev S4x6x2048x64 : Shape := ⟨4, ![4, 6, 2048, 64]⟩
abbrev S32x256x6 : Shape := ⟨3, ![32, 256, 6]⟩
abbrev S32x6x256 : Shape := ⟨3, ![32, 6, 256]⟩
abbrev S32x6x1x256 : Shape := ⟨4, ![32, 6, 1, 256]⟩
abbrev S32x2x1x256 : Shape := ⟨4, ![32, 2, 1, 256]⟩
abbrev S32x8x1x256 : Shape := ⟨4, ![32, 8, 1, 256]⟩
abbrev S8192x6 : Shape := ⟨2, ![8192, 6]⟩
abbrev S8192x6x1 : Shape := ⟨3, ![8192, 6, 1]⟩
abbrev S8192x6x6 : Shape := ⟨3, ![8192, 6, 6]⟩
abbrev S8192x6x58 : Shape := ⟨3, ![8192, 6, 58]⟩
abbrev S8192x6x64 : Shape := ⟨3, ![8192, 6, 64]⟩
abbrev S8192x3x2x64 : Shape := ⟨4, ![8192, 3, 2, 64]⟩
abbrev S8192x3x128 : Shape := ⟨3, ![8192, 3, 128]⟩
abbrev S3x8192x128 : Shape := ⟨3, ![3, 8192, 128]⟩
abbrev S4x2048x1152 : Shape := ⟨3, ![4, 2048, 1152]⟩
abbrev S8192x1152 : Shape := ⟨2, ![8192, 1152]⟩
abbrev S1x128 : Shape := ⟨2, ![1, 128]⟩
abbrev S3x1x8192x128 : Shape := ⟨4, ![3, 1, 8192, 128]⟩
abbrev S3x2x8192x128 : Shape := ⟨4, ![3, 2, 8192, 128]⟩
abbrev S3x2x4x8x256x128 : Shape := ⟨6, ![3, 2, 4, 8, 256, 128]⟩
abbrev S4x3x2x8x128x256 : Shape := ⟨6, ![4, 3, 2, 8, 128, 256]⟩
abbrev S8x512x256 : Shape := ⟨3, ![8, 512, 256]⟩
abbrev S1x512x256 : Shape := ⟨3, ![1, 512, 256]⟩
abbrev S9x512x256 : Shape := ⟨3, ![9, 512, 256]⟩
abbrev S8192x384 : Shape := ⟨2, ![8192, 384]⟩
abbrev S2048x128 : Shape := ⟨2, ![2048, 128]⟩
abbrev S512x128 : Shape := ⟨2, ![512, 128]⟩
abbrev S8x2x1x256 : Shape := ⟨4, ![8, 2, 1, 256]⟩
abbrev S1x1x2x2x128x256 : Shape := ⟨6, ![1, 1, 2, 2, 128, 256]⟩
abbrev S1x2048x128 : Shape := ⟨3, ![1, 2048, 128]⟩
abbrev S1x512x128 : Shape := ⟨3, ![1, 512, 128]⟩
abbrev S2x8x128x256 : Shape := ⟨4, ![2, 8, 128, 256]⟩
abbrev S2x512x128 : Shape := ⟨3, ![2, 512, 128]⟩
abbrev S2x2x512x256 : Shape := ⟨4, ![2, 2, 512, 256]⟩
abbrev S1x1x1x1x128x256 : Shape := ⟨6, ![1, 1, 1, 1, 128, 256]⟩
abbrev S128x256 : Shape := ⟨2, ![128, 256]⟩
abbrev S128x512 : Shape := ⟨2, ![128, 512]⟩
abbrev S256x128 : Shape := ⟨2, ![256, 128]⟩
abbrev S1x256x128 : Shape := ⟨3, ![1, 256, 128]⟩
abbrev S512x256 : Shape := ⟨2, ![512, 256]⟩
abbrev S1x1x512x256 : Shape := ⟨4, ![1, 1, 512, 256]⟩
abbrev S1x1x1x256 : Shape := ⟨4, ![1, 1, 1, 256]⟩
abbrev S1x256 : Shape := ⟨2, ![1, 256]⟩
abbrev S1x1x128x256 : Shape := ⟨4, ![1, 1, 128, 256]⟩

abbrev nBuf : Space → Nat
  | .hbm => 160
  | .vmem => 33
  | .smem => 0
  | _ => 0

abbrev hbmTy0_0 (i : Nat) : BufTy := match i % 128 with
  | 0 => ⟨S4x2048x384, .f32⟩
  | 1 => ⟨S4x2048x384, .f32⟩
  | 2 => ⟨S4x2048x384, .f32⟩
  | 3 => ⟨S4x2048x6, .f32⟩
  | 4 => ⟨S4x2048x384, .f32⟩
  | 5 => ⟨S_, .f32⟩
  | 6 => ⟨S_, .f32⟩
  | 7 => ⟨S4x2048x6, .f32⟩
  | 8 => ⟨S4x2048x6x64, .f32⟩
  | 9 => ⟨S4x2048x6x64, .f32⟩
  | 10 => ⟨S4x6x2048x2048, .f32⟩
  | 11 => ⟨S_, .f32⟩
  | 12 => ⟨S4x6x2048x2048, .f32⟩
  | 13 => ⟨S4x6x2048x2048, .f32⟩
  | 14 => ⟨S4x6x2048, .f32⟩
  | 15 => ⟨S4x6x2048x1, .f32⟩
  | 16 => ⟨S4x6x2048x2048, .f32⟩
  | 17 => ⟨S4x6x2048x2048, .f32⟩
  | 18 => ⟨S4x6x1x2048, .f32⟩
  | 19 => ⟨S4x6x2048x2048, .f32⟩
  | 20 => ⟨S4x6x2048x2048, .f32⟩
  | 21 => ⟨S2048x2048, .i32⟩
  | 22 => ⟨S2048x2048, .i32⟩
  | 23 => ⟨S2048x2048, .i1⟩
  | 24 => ⟨S_, .f32⟩
  | 25 => ⟨S_, .f32⟩
  | 26 => ⟨S4x6x2048x2048, .i1⟩
  | 27 => ⟨S4x6x2048x2048, .f32⟩
  | 28 => ⟨S4x6x2048x2048, .f32⟩
  | 29 => ⟨S_, .f32⟩
  | 30 => ⟨S4x6x2048, .f32⟩
  | 31 => ⟨S4x6x2048x1, .f32⟩
  | 32 => ⟨S4x6x2048x2048, .f32⟩
  | 33 => ⟨S4x6x2048x2048, .f32⟩
  | 34 => ⟨S4x6x2048x2048, .f32⟩
  | 35 => ⟨S_, .f32⟩
  | 36 => ⟨S4x6x2048, .f32⟩
  | 37 => ⟨S4x2048x6x64, .f32⟩
  | 38 => ⟨S4x6x2048x64, .f32⟩
  | 39 => ⟨S4x6x2048x1, .f32⟩
  | 40 => ⟨S4x6x2048x64, .f32⟩
  | 41 => ⟨S4x6x2048x64, .f32⟩
  | 42 => ⟨S4x6x2048, .f32⟩
  | 43 => ⟨S4x6x2048, .f32⟩
  | 44 => ⟨S4x2048x6, .f32⟩
  | 45 => ⟨S4x2048x6x64, .f32⟩
  | 46 => ⟨S4x2048x6x64, .f32⟩
  | 47 => ⟨S4x2048x6x64, .f32⟩
  | 48 => ⟨S_, .f32⟩
  | 49 => ⟨S4x2048x6, .f32⟩
  | 50 => ⟨S32x256x6, .f32⟩
  | 51 => ⟨S32x6x256, .f32⟩
  | 52 => ⟨S32x6x1x256, .f32⟩
  | 53 => ⟨S_, .f32⟩
  | 54 => ⟨S32x2x1x256, .f32⟩
  | 55 => ⟨S32x8x1x256, .f32⟩
  | 56 => ⟨S8192x6, .f32⟩
  | 57 => ⟨S8192x6, .bf16⟩
  | 58 => ⟨S8192x6, .f32⟩
  | 59 => ⟨S8192x6, .f32⟩
  | 60 => ⟨S8192x6, .bf16⟩
  | 61 => ⟨S8192x6, .f32⟩
  | 62 => ⟨S8192x6, .f32⟩
  | 63 => ⟨S8192x6, .f32⟩
  | 64 => ⟨S8192x6, .f32⟩
  | 65 => ⟨S8192x6, .bf16⟩
  | 66 => ⟨S_, .bf16⟩
  | 67 => ⟨S8192x6, .bf16⟩
  | 68 => ⟨S8192x6x1, .bf16⟩
  | 69 => ⟨S8192x6x1, .bf16⟩
  | 70 => ⟨S8192x6x1, .bf16⟩
  | 71 => ⟨S8192x6x1, .bf16⟩
  | 72 => ⟨S8192x6x1, .bf16⟩
  | 73 => ⟨S8192x6x1, .bf16⟩
  | 74 => ⟨S8192x6x6, .bf16⟩
  | 75 => ⟨S_, .bf16⟩
  | 76 => ⟨S8192x6x58, .bf16⟩
  | 77 => ⟨S8192x6x64, .bf16⟩
  | 78 => ⟨S8192x3x2x64, .bf16⟩
  | 79 => ⟨S8192x3x2x64, .bf16⟩
  | 80 => ⟨S8192x3x128, .bf16⟩
  | 81 => ⟨S3x8192x128, .bf16⟩
  | 82 => ⟨S8192x6, .bf16⟩
  | 83 => ⟨S8192x6, .bf16⟩
  | 84 => ⟨S8192x6, .bf16⟩
  | 85 => ⟨S8192x6x1, .bf16⟩
  | 86 => ⟨S8192x6x1, .bf16⟩
  | 87 => ⟨S8192x6x1, .bf16⟩
  | 88 => ⟨S8192x6x1, .bf16⟩
  | 89 => ⟨S8192x6x1, .bf16⟩
  | 90 => ⟨S8192x6x1, .bf16⟩
  | 91 => ⟨S8192x6x6, .bf16⟩
  | 92 => ⟨S_, .bf16⟩
  | 93 => ⟨S8192x6x58, .bf16⟩
  | 94 => ⟨S8192x6x64, .bf16⟩
  | 95 => ⟨S8192x3x2x64, .bf16⟩
  | 96 => ⟨S8192x3x2x64, .bf16⟩
  | 97 => ⟨S8192x3x128, .bf16⟩
  | 98 => ⟨S3x8192x128, .bf16⟩
  | 99 => ⟨S4x2048x1152, .f32⟩
  | 100 => ⟨S4x2048x1152, .bf16⟩
  | 101 => ⟨S8192x1152, .bf16⟩
  | 102 => ⟨S4x2048x384, .bf16⟩
  | 103 => ⟨S8192x3x128, .bf16⟩
  | 104 => ⟨S3x8192x128, .bf16⟩
  | 105 => ⟨S1x128, .i32⟩
  | 106 => ⟨S_, .i32⟩
  | 107 => ⟨S1x128, .i32⟩
  | 108 => ⟨S1x128, .i1⟩
  | 109 => ⟨S_, .i32⟩
  | 110 => ⟨S1x128, .i32⟩
  | 111 => ⟨S1x128, .i1⟩
  | 112 => ⟨S3x8192x128, .i1⟩
  | 113 => ⟨S3x8192x128, .bf16⟩
  | 114 => ⟨S3x8192x128, .i1⟩
  | 115 => ⟨S3x8192x128, .bf16⟩
  | 116 => ⟨S3x1x8192x128, .bf16⟩
  | 117 => ⟨S3x1x8192x128, .bf16⟩
  | 118 => ⟨S3x2x8192x128, .bf16⟩
  | 119 => ⟨S3x2x4x8x256x128, .bf16⟩
  | 120 => ⟨S4x3x2x8x128x256, .bf16⟩
  | 121 => ⟨S8x512x256, .i32⟩
  | 122 => ⟨S8x512x256, .i32⟩
  | 123 => ⟨S8x512x256, .i32⟩
  | 124 => ⟨S_, .i32⟩
  | 125 => ⟨S8x512x256, .i32⟩
  | 126 => ⟨S8x512x256, .i32⟩
  | 127 => ⟨S_, .i32⟩
  | _ => ⟨S4x2048x384, .f32⟩

abbrev hbmTy0_1 (i : Nat) : BufTy := match i % 128 with
  | 0 => ⟨S8x512x256, .i32⟩
  | 1 => ⟨S8x512x256, .i32⟩
  | 2 => ⟨S8x512x256, .i32⟩
  | 3 => ⟨S8x512x256, .i32⟩
  | 4 => ⟨S_, .i32⟩
  | 5 => ⟨S8x512x256, .i32⟩
  | 6 => ⟨S8x512x256, .i1⟩
  | 7 => ⟨S8x512x256, .f32⟩
  | 8 => ⟨S_, .f32⟩
  | 9 => ⟨S8x512x256, .f32⟩
  | 10 => ⟨S8x512x256, .i1⟩
  | 11 => ⟨S_, .f32⟩
  | 12 => ⟨S8x512x256, .f32⟩
  | 13 => ⟨S8x512x256, .f32⟩
  | 14 => ⟨S8x512x256, .f32⟩
  | 15 => ⟨S_, .f32⟩
  | 16 => ⟨S_, .f32⟩
  | 17 => ⟨S8x512x256, .f32⟩
  | 18 => ⟨S8x512x256, .f32⟩
  | 19 => ⟨S_, .f32⟩
  | 20 => ⟨S1x512x256, .f32⟩
  | 21 => ⟨S9x512x256, .f32⟩
  | 22 => ⟨S4x2048x384, .bf16⟩
  | 23 => ⟨S8192x384, .bf16⟩
  | 24 => ⟨S32x256x6, .f32⟩
  | 25 => ⟨S32x6x256, .f32⟩
  | 26 => ⟨S32x6x1x256, .f32⟩
  | 27 => ⟨S8192x384, .f32⟩
  | 28 => ⟨S8192x384, .bf16⟩
  | 29 => ⟨S8192x384, .bf16⟩
  | 30 => ⟨S8192x384, .f32⟩
  | 31 => ⟨S8192x384, .f32⟩
  | _ => ⟨S4x2048x384, .f32⟩

abbrev hbmTy (i : Nat) : BufTy := match i / 128 with
  | 0 => hbmTy0_0 i
  | 1 => hbmTy0_1 i
  | _ => ⟨S4x2048x384, .f32⟩

abbrev bufTy : (tb : Table) → Fin (tcTables nBuf tb) → BufTy
  | .hbm, ⟨i, _⟩ => hbmTy i
  | .local _ .vmem, ⟨0, _⟩ => ⟨S2048x128, .bf16⟩
  | .local _ .vmem, ⟨1, _⟩ => ⟨S2048x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S9x512x256, .f32⟩
  | .local _ .vmem, ⟨7, _⟩ => ⟨S2048x128, .bf16⟩
  | .local _ .vmem, ⟨8, _⟩ => ⟨S2048x128, .bf16⟩
  | .local _ .vmem, ⟨9, _⟩ => ⟨S8x2x1x256, .f32⟩
  | .local _ .vmem, ⟨10, _⟩ => ⟨S8x2x1x256, .f32⟩
  | .local _ .vmem, ⟨11, _⟩ => ⟨S8x2x1x256, .f32⟩
  | .local _ .vmem, ⟨12, _⟩ => ⟨S8x2x1x256, .f32⟩
  | .local _ .vmem, ⟨13, _⟩ => ⟨S1x1x2x2x128x256, .bf16⟩
  | .local _ .vmem, ⟨14, _⟩ => ⟨S1x1x2x2x128x256, .bf16⟩
  | .local _ .vmem, ⟨15, _⟩ => ⟨S1x2048x128, .bf16⟩
  | .local _ .vmem, ⟨16, _⟩ => ⟨S1x2048x128, .bf16⟩
  | .local _ .vmem, ⟨17, _⟩ => ⟨S1x512x128, .bf16⟩
  | .local _ .vmem, ⟨18, _⟩ => ⟨S1x512x128, .bf16⟩
  | .local _ .vmem, ⟨19, _⟩ => ⟨S2048x128, .f32⟩
  | .local _ .vmem, ⟨20, _⟩ => ⟨S2048x128, .f32⟩
  | .local _ .vmem, ⟨21, _⟩ => ⟨S512x128, .bf16⟩
  | .local _ .vmem, ⟨22, _⟩ => ⟨S512x128, .bf16⟩
  | .local _ .vmem, ⟨23, _⟩ => ⟨S512x128, .bf16⟩
  | .local _ .vmem, ⟨24, _⟩ => ⟨S512x128, .bf16⟩
  | .local _ .vmem, ⟨25, _⟩ => ⟨S2048x128, .f32⟩
  | .local _ .vmem, ⟨26, _⟩ => ⟨S2048x128, .f32⟩
  | .local _ .vmem, ⟨27, _⟩ => ⟨S512x128, .f32⟩
  | .local _ .vmem, ⟨28, _⟩ => ⟨S512x128, .f32⟩
  | .local _ .vmem, ⟨29, _⟩ => ⟨S2x8x128x256, .f32⟩
  | .local _ .vmem, ⟨30, _⟩ => ⟨S2x512x128, .f32⟩
  | .local _ .vmem, ⟨31, _⟩ => ⟨S512x128, .f32⟩
  | .local _ .vmem, ⟨32, _⟩ => ⟨S2x2x512x256, .f32⟩
  | _, _ => ⟨S4x2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_cst : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_5 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_6 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_7 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_c : Ref sig .tc := ⟨.hbm, 106, rfl⟩
abbrev main_v87 : Ref sig .tc := ⟨.hbm, 107, rfl⟩
abbrev main_v88 : Ref sig .tc := ⟨.hbm, 108, rfl⟩
abbrev main_c_8 : Ref sig .tc := ⟨.hbm, 109, rfl⟩
abbrev main_v89 : Ref sig .tc := ⟨.hbm, 110, rfl⟩
abbrev main_v90 : Ref sig .tc := ⟨.hbm, 111, rfl⟩
abbrev main_call2_v0 : Ref sig .tc := ⟨.hbm, 112, rfl⟩
abbrev main_v91 : Ref sig .tc := ⟨.hbm, 113, rfl⟩
abbrev main_call3_v0 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_c_9 : Ref sig .tc := ⟨.hbm, 124, rfl⟩
abbrev main_v101 : Ref sig .tc := ⟨.hbm, 125, rfl⟩
abbrev main_v102 : Ref sig .tc := ⟨.hbm, 126, rfl⟩
abbrev main_c_10 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_c_11 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_cst_12 : Ref sig .tc := ⟨.hbm, 136, rfl⟩
abbrev main_v110 : Ref sig .tc := ⟨.hbm, 137, rfl⟩
abbrev main_v111 : Ref sig .tc := ⟨.hbm, 138, rfl⟩
abbrev main_cst_13 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_cst_14 : Ref sig .tc := ⟨.hbm, 143, rfl⟩
abbrev main_call4_v0 : Ref sig .tc := ⟨.hbm, 144, rfl⟩
abbrev main_call4_v1 : Ref sig .tc := ⟨.hbm, 145, rfl⟩
abbrev main_v115 : Ref sig .tc := ⟨.hbm, 146, rfl⟩
abbrev main_cst_15 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123_0 : Ref sig .tc := ⟨.hbm, 155, rfl⟩
abbrev main_v123_1 : Ref sig .tc := ⟨.hbm, 156, rfl⟩
abbrev main_v123_2 : Ref sig .tc := ⟨.hbm, 157, rfl⟩
abbrev main_v123_3 : Ref sig .tc := ⟨.hbm, 158, rfl⟩
abbrev main_v123_4 : Ref sig .tc := ⟨.hbm, 159, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨3, ![4, 3, 4], ![false, false, false]⟩

def k0_mult1 (i : grid0.Coords) : BitVec 32 :=
  let c2_i32 : BitVec 32 := 2#32
  let arg2 : BitVec 32 := BitVec.ofNat 32 (i 2).val
  let v5 : BitVec 32 := Scalar.muli c2_i32 arg2
  let c7_i32 : BitVec 32 := 7#32
  let v41 : BitVec 32 := Scalar.minsi v5 c7_i32
  let c256_i32 : BitVec 32 := 256#32
  let v42 : BitVec 32 := Scalar.muli v41 c256_i32
  v42
def k0_off1 (i : grid0.Coords) : Fin 2 → Nat :=
  let c2_i32 : BitVec 32 := 2#32
  let arg2 : BitVec 32 := BitVec.ofNat 32 (i 2).val
  let v5 : BitVec 32 := Scalar.muli c2_i32 arg2
  let c7_i32 : BitVec 32 := 7#32
  let v41 : BitVec 32 := Scalar.minsi v5 c7_i32
  let c256_i32 : BitVec 32 := 256#32
  let v42 : BitVec 32 := Scalar.muli v41 c256_i32
  let v43 : BitVec 32 := v42
  let v44 : Index := Scalar.indexCast v43
  let c0_40 : Index := 0#32
  ![v44.toNat, 0]
def k0_off2 (i : grid0.Coords) : Fin 3 → Nat :=
  let c0_43 : Index := 0#32
  let c2_i32 : BitVec 32 := 2#32
  let arg2 : BitVec 32 := BitVec.ofNat 32 (i 2).val
  let v5 : BitVec 32 := Scalar.muli c2_i32 arg2
  let c7_i32 : BitVec 32 := 7#32
  let v41 : BitVec 32 := Scalar.minsi v5 c7_i32
  let c256_i32 : BitVec 32 := 256#32
  let v42 : BitVec 32 := Scalar.muli v41 c256_i32
  let v43 : BitVec 32 := v42
  let v52 : Index := Scalar.indexCast v43
  let c0_44 : Index := 0#32
  ![0, v52.toNat, 0]
def k0_off3 (i : grid0.Coords) : Fin 3 → Nat :=
  let c2_i32 : BitVec 32 := 2#32
  let arg2 : BitVec 32 := BitVec.ofNat 32 (i 2).val
  let v5 : BitVec 32 := Scalar.muli c2_i32 arg2
  let c8_i32 : BitVec 32 := 8#32
  let v72 : BitVec 1 := Scalar.cmpi .slt v5 c8_i32
  let v73 : BitVec 32 := Scalar.subi v5 v5
  let c8_i32_49 : BitVec 32 := 8#32
  let v74 : BitVec 32 := Scalar.select v72 v73 c8_i32_49
  let v75 : Index := Scalar.indexCast v74
  let c0_50 : Index := 0#32
  let c0_51 : Index := 0#32
  ![v75.toNat, 0, 0]
@[reducible] def k0_t1_loop (i : grid0.Coords) : Scf.Loop 32 :=
  let c0_i32_81 : BitVec 32 := 0#32
  let c8_i32_72 : BitVec 32 := 8#32
  let c2_i32 : BitVec 32 := 2#32
  let arg2 : BitVec 32 := BitVec.ofNat 32 (i 2).val
  let v5 : BitVec 32 := Scalar.muli c2_i32 arg2
  let v96 : BitVec 32 := Scalar.subi c8_i32_72 v5
  let c1_i32 : BitVec 32 := 1#32
  let v97 : BitVec 32 := Scalar.addi v96 c1_i32
  let c0_i32_74 : BitVec 32 := 0#32
  let v99 : BitVec 1 := Scalar.cmpi .sgt v97 c0_i32_74
  let v100 : BitVec 32 := Scalar.extui v99
  let c0_i32_75 : BitVec 32 := 0#32
  let v101 : BitVec 1 := Scalar.cmpi .slt v97 c0_i32_75
  let v102 : BitVec 32 := Scalar.extui v101
  let v103 : BitVec 32 := Scalar.subi v100 v102
  let c2_i32_73 : BitVec 32 := 2#32
  let c0_i32_76 : BitVec 32 := 0#32
  let v104 : BitVec 1 := Scalar.cmpi .sgt c2_i32_73 c0_i32_76
  let v105 : BitVec 32 := Scalar.extui v104
  let c0_i32_77 : BitVec 32 := 0#32
  let v106 : BitVec 1 := Scalar.cmpi .slt c2_i32_73 c0_i32_77
  let v107 : BitVec 32 := Scalar.extui v106
  let v108 : BitVec 32 := Scalar.subi v105 v107
  let v109 : BitVec 1 := Scalar.cmpi .ne v103 v108
  let v110 : BitVec 32 := Scalar.remsi v97 c2_i32_73
  let c0_i32_78 : BitVec 32 := 0#32
  let v111 : BitVec 1 := Scalar.cmpi .ne v110 c0_i32_78
  let v112 : BitVec 1 := Scalar.andi v109 v111
  let v98 : BitVec 32 := Scalar.divsi v97 c2_i32_73
  let c1_i32_79 : BitVec 32 := 1#32
  let v113 : BitVec 32 := Scalar.subi v98 c1_i32_79
  let v114 : BitVec 32 := Scalar.select v112 v113 v98
  let v115 : BitVec 32 := Scalar.subi v114 c0_i32_81
  let c1_i32_82 : BitVec 32 := 1#32
  let v117 : BitVec 32 := Scalar.divsi v115 c1_i32_82
  let v118 : BitVec 32 := Scalar.muli v117 c1_i32_82
  let v119 : BitVec 32 := Scalar.addi c0_i32_81 v118
  let c1_i32_83 : BitVec 32 := 1#32
  ⟨c0_i32_81, v119, c1_i32_83⟩
def k0_mult2 (i : grid0.Coords) (k0_t1 : Fin (k0_t1_loop i).trips) : BitVec 32 :=
  let c2_i32 : BitVec 32 := 2#32
  let arg2 : BitVec 32 := BitVec.ofNat 32 (i 2).val
  let v5 : BitVec 32 := Scalar.muli c2_i32 arg2
  let c2_i32_106 : BitVec 32 := 2#32
  let c0_i32_81 : BitVec 32 := 0#32
  let c1_i32_83 : BitVec 32 := 1#32
  let arg22 : BitVec 32 := Scf.iv c0_i32_81 c1_i32_83 k0_t1
  let v143 : BitVec 32 := Scalar.muli c2_i32_106 arg22
  let v144 : BitVec 32 := Scalar.addi v5 v143
  let c1_i32_123 : BitVec 32 := 1#32
  let v153 : BitVec 32 := Scalar.addi v144 c1_i32_123
  let c7_i32_124 : BitVec 32 := 7#32
  let v154 : BitVec 32 := Scalar.minsi v153 c7_i32_124
  let c256_i32_125 : BitVec 32 := 256#32
  let v155 : BitVec 32 := Scalar.muli v154 c256_i32_125
  v155
def k0_off4 (i : grid0.Coords) (k0_t1 : Fin (k0_t1_loop i).trips) (c1_i32_123 : BitVec 32) : Fin 2 → Nat :=
  let c2_i32 : BitVec 32 := 2#32
  let arg2 : BitVec 32 := BitVec.ofNat 32 (i 2).val
  let v5 : BitVec 32 := Scalar.muli c2_i32 arg2
  let c2_i32_106 : BitVec 32 := 2#32
  let c0_i32_81 : BitVec 32 := 0#32
  let c1_i32_83 : BitVec 32 := 1#32
  let arg22 : BitVec 32 := Scf.iv c0_i32_81 c1_i32_83 k0_t1
  let v143 : BitVec 32 := Scalar.muli c2_i32_106 arg22
  let v144 : BitVec 32 := Scalar.addi v5 v143
  let v153 : BitVec 32 := Scalar.addi v144 c1_i32_123
  let c7_i32_124 : BitVec 32 := 7#32
  let v154 : BitVec 32 := Scalar.minsi v153 c7_i32_124
  let c256_i32_125 : BitVec 32 := 256#32
  let v155 : BitVec 32 := Scalar.muli v154 c256_i32_125
  let v156 : BitVec 32 := v155
  let v157 : Index := Scalar.indexCast v156
  let c0_126 : Index := 0#32
  ![v157.toNat, 0]
def k0_off5 (i : grid0.Coords) (k0_t1 : Fin (k0_t1_loop i).trips) (c1_i32_123 : BitVec 32) : Fin 3 → Nat :=
  let c0_129 : Index := 0#32
  let c2_i32 : BitVec 32 := 2#32
  let arg2 : BitVec 32 := BitVec.ofNat 32 (i 2).val
  let v5 : BitVec 32 := Scalar.muli c2_i32 arg2
  let c2_i32_106 : BitVec 32 := 2#32
  let c0_i32_81 : BitVec 32 := 0#32
  let c1_i32_83 : BitVec 32 := 1#32
  let arg22 : BitVec 32 := Scf.iv c0_i32_81 c1_i32_83 k0_t1
  let v143 : BitVec 32 := Scalar.muli c2_i32_106 arg22
  let v144 : BitVec 32 := Scalar.addi v5 v143
  let v153 : BitVec 32 := Scalar.addi v144 c1_i32_123
  let c7_i32_124 : BitVec 32 := 7#32
  let v154 : BitVec 32 := Scalar.minsi v153 c7_i32_124
  let c256_i32_125 : BitVec 32 := 256#32
  let v155 : BitVec 32 := Scalar.muli v154 c256_i32_125
  let v156 : BitVec 32 := v155
  let v165 : Index := Scalar.indexCast v156
  let c0_130 : Index := 0#32
  ![0, v165.toNat, 0]
def k0_off6 (i : grid0.Coords) (k0_t1 : Fin (k0_t1_loop i).trips) (c1_i32_123 : BitVec 32) : Fin 3 → Nat :=
  let c2_i32 : BitVec 32 := 2#32
  let arg2 : BitVec 32 := BitVec.ofNat 32 (i 2).val
  let v5 : BitVec 32 := Scalar.muli c2_i32 arg2
  let c2_i32_106 : BitVec 32 := 2#32
  let c0_i32_81 : BitVec 32 := 0#32
  let c1_i32_83 : BitVec 32 := 1#32
  let arg22 : BitVec 32 := Scf.iv c0_i32_81 c1_i32_83 k0_t1
  let v143 : BitVec 32 := Scalar.muli c2_i32_106 arg22
  let v144 : BitVec 32 := Scalar.addi v5 v143
  let v153 : BitVec 32 := Scalar.addi v144 c1_i32_123
  let c8_i32_135 : BitVec 32 := 8#32
  let v185 : BitVec 1 := Scalar.cmpi .slt v153 c8_i32_135
  let v186 : BitVec 32 := Scalar.subi v153 v5
  let c8_i32_136 : BitVec 32 := 8#32
  let v187 : BitVec 32 := Scalar.select v185 v186 c8_i32_136
  let v188 : Index := Scalar.indexCast v187
  let c0_137 : Index := 0#32
  let c0_138 : Index := 0#32
  ![v188.toNat, 0, 0]
def k0_mult3 (i : grid0.Coords) (k0_t1 : Fin (k0_t1_loop i).trips) : BitVec 32 :=
  let c2_i32 : BitVec 32 := 2#32
  let arg2 : BitVec 32 := BitVec.ofNat 32 (i 2).val
  let v5 : BitVec 32 := Scalar.muli c2_i32 arg2
  let c2_i32_106 : BitVec 32 := 2#32
  let c0_i32_81 : BitVec 32 := 0#32
  let c1_i32_83 : BitVec 32 := 1#32
  let arg22 : BitVec 32 := Scf.iv c0_i32_81 c1_i32_83 k0_t1
  let v143 : BitVec 32 := Scalar.muli c2_i32_106 arg22
  let v144 : BitVec 32 := Scalar.addi v5 v143
  let c7_i32_143 : BitVec 32 := 7#32
  let v197 : BitVec 32 := Scalar.minsi v144 c7_i32_143
  let c256_i32_144 : BitVec 32 := 256#32
  let v198 : BitVec 32 := Scalar.muli v197 c256_i32_144
  v198
def k0_off7 (i : grid0.Coords) (k0_t1 : Fin (k0_t1_loop i).trips) : Fin 2 → Nat :=
  let c2_i32 : BitVec 32 := 2#32
  let arg2 : BitVec 32 := BitVec.ofNat 32 (i 2).val
  let v5 : BitVec 32 := Scalar.muli c2_i32 arg2
  let c2_i32_106 : BitVec 32 := 2#32
  let c0_i32_81 : BitVec 32 := 0#32
  let c1_i32_83 : BitVec 32 := 1#32
  let arg22 : BitVec 32 := Scf.iv c0_i32_81 c1_i32_83 k0_t1
  let v143 : BitVec 32 := Scalar.muli c2_i32_106 arg22
  let v144 : BitVec 32 := Scalar.addi v5 v143
  let c7_i32_143 : BitVec 32 := 7#32
  let v197 : BitVec 32 := Scalar.minsi v144 c7_i32_143
  let c256_i32_144 : BitVec 32 := 256#32
  let v198 : BitVec 32 := Scalar.muli v197 c256_i32_144
  let v199 : BitVec 32 := v198
  let v200 : Index := Scalar.indexCast v199
  let c0_145 : Index := 0#32
  ![v200.toNat, 0]
def k0_off8 (i : grid0.Coords) (k0_t1 : Fin (k0_t1_loop i).trips) : Fin 3 → Nat :=
  let c0_148 : Index := 0#32
  let c2_i32 : BitVec 32 := 2#32
  let arg2 : BitVec 32 := BitVec.ofNat 32 (i 2).val
  let v5 : BitVec 32 := Scalar.muli c2_i32 arg2
  let c2_i32_106 : BitVec 32 := 2#32
  let c0_i32_81 : BitVec 32 := 0#32
  let c1_i32_83 : BitVec 32 := 1#32
  let arg22 : BitVec 32 := Scf.iv c0_i32_81 c1_i32_83 k0_t1
  let v143 : BitVec 32 := Scalar.muli c2_i32_106 arg22
  let v144 : BitVec 32 := Scalar.addi v5 v143
  let c7_i32_143 : BitVec 32 := 7#32
  let v197 : BitVec 32 := Scalar.minsi v144 c7_i32_143
  let c256_i32_144 : BitVec 32 := 256#32
  let v198 : BitVec 32 := Scalar.muli v197 c256_i32_144
  let v199 : BitVec 32 := v198
  let v208 : Index := Scalar.indexCast v199
  let c0_149 : Index := 0#32
  ![0, v208.toNat, 0]
def k0_off9 (i : grid0.Coords) (k0_t1 : Fin (k0_t1_loop i).trips) : Fin 4 → Nat :=
  let c2_i32 : BitVec 32 := 2#32
  let arg2 : BitVec 32 := BitVec.ofNat 32 (i 2).val
  let v5 : BitVec 32 := Scalar.muli c2_i32 arg2
  let c2_i32_106 : BitVec 32 := 2#32
  let c0_i32_81 : BitVec 32 := 0#32
  let c1_i32_83 : BitVec 32 := 1#32
  let arg22 : BitVec 32 := Scf.iv c0_i32_81 c1_i32_83 k0_t1
  let v143 : BitVec 32 := Scalar.muli c2_i32_106 arg22
  let v144 : BitVec 32 := Scalar.addi v5 v143
  let c7_i32_143 : BitVec 32 := 7#32
  let v197 : BitVec 32 := Scalar.minsi v144 c7_i32_143
  let v228 : Index := Scalar.indexCast v197
  let c0_154 : Index := 0#32
  let c0_155 : Index := 0#32
  let c0_156 : Index := 0#32
  ![v228.toNat, 0, 0, 0]
def k0_off10 (i : grid0.Coords) (k0_t1 : Fin (k0_t1_loop i).trips) : Fin 4 → Nat :=
  let c0_172 : Index := 0#32
  let c2_i32 : BitVec 32 := 2#32
  let arg2 : BitVec 32 := BitVec.ofNat 32 (i 2).val
  let v5 : BitVec 32 := Scalar.muli c2_i32 arg2
  let c2_i32_106 : BitVec 32 := 2#32
  let c0_i32_81 : BitVec 32 := 0#32
  let c1_i32_83 : BitVec 32 := 1#32
  let arg22 : BitVec 32 := Scf.iv c0_i32_81 c1_i32_83 k0_t1
  let v143 : BitVec 32 := Scalar.muli c2_i32_106 arg22
  let v144 : BitVec 32 := Scalar.addi v5 v143
  let c7_i32_143 : BitVec 32 := 7#32
  let v197 : BitVec 32 := Scalar.minsi v144 c7_i32_143
  let v255 : Index := Scalar.indexCast v197
  let c0_173 : Index := 0#32
  let c0_174 : Index := 0#32
  ![0, v255.toNat, 0, 0]
def k0_off11 (i : grid0.Coords) (k0_t1 : Fin (k0_t1_loop i).trips) : Fin 4 → Nat :=
  let c2_i32 : BitVec 32 := 2#32
  let arg2 : BitVec 32 := BitVec.ofNat 32 (i 2).val
  let v5 : BitVec 32 := Scalar.muli c2_i32 arg2
  let c2_i32_106 : BitVec 32 := 2#32
  let c0_i32_81 : BitVec 32 := 0#32
  let c1_i32_83 : BitVec 32 := 1#32
  let arg22 : BitVec 32 := Scf.iv c0_i32_81 c1_i32_83 k0_t1
  let v143 : BitVec 32 := Scalar.muli c2_i32_106 arg22
  let v144 : BitVec 32 := Scalar.addi v5 v143
  let c7_i32_143 : BitVec 32 := 7#32
  let v197 : BitVec 32 := Scalar.minsi v144 c7_i32_143
  let v264 : Index := Scalar.indexCast v197
  let c1_179 : Index := 1#32
  let c0_180 : Index := 0#32
  let c0_181 : Index := 0#32
  ![v264.toNat, 1, 0, 0]
def k0_off12 (i : grid0.Coords) (k0_t1 : Fin (k0_t1_loop i).trips) : Fin 4 → Nat :=
  let c1_197 : Index := 1#32
  let c2_i32 : BitVec 32 := 2#32
  let arg2 : BitVec 32 := BitVec.ofNat 32 (i 2).val
  let v5 : BitVec 32 := Scalar.muli c2_i32 arg2
  let c2_i32_106 : BitVec 32 := 2#32
  let c0_i32_81 : BitVec 32 := 0#32
  let c1_i32_83 : BitVec 32 := 1#32
  let arg22 : BitVec 32 := Scf.iv c0_i32_81 c1_i32_83 k0_t1
  let v143 : BitVec 32 := Scalar.muli c2_i32_106 arg22
  let v144 : BitVec 32 := Scalar.addi v5 v143
  let c7_i32_143 : BitVec 32 := 7#32
  let v197 : BitVec 32 := Scalar.minsi v144 c7_i32_143
  let v291 : Index := Scalar.indexCast v197
  let c0_198 : Index := 0#32
  let c0_199 : Index := 0#32
  ![1, v291.toNat, 0, 0]
def k0_mult4 (i : grid0.Coords) (k0_t1 : Fin (k0_t1_loop i).trips) : BitVec 32 :=
  let c2_i32 : BitVec 32 := 2#32
  let arg2 : BitVec 32 := BitVec.ofNat 32 (i 2).val
  let v5 : BitVec 32 := Scalar.muli c2_i32 arg2
  let c2_i32_106 : BitVec 32 := 2#32
  let c0_i32_81 : BitVec 32 := 0#32
  let c1_i32_83 : BitVec 32 := 1#32
  let arg22 : BitVec 32 := Scf.iv c0_i32_81 c1_i32_83 k0_t1
  let v143 : BitVec 32 := Scalar.muli c2_i32_106 arg22
  let v144 : BitVec 32 := Scalar.addi v5 v143
  let c2_i32_204 : BitVec 32 := 2#32
  let v300 : BitVec 32 := Scalar.addi v144 c2_i32_204
  let c7_i32_205 : BitVec 32 := 7#32
  let v301 : BitVec 32 := Scalar.minsi v300 c7_i32_205
  let c256_i32_206 : BitVec 32 := 256#32
  let v302 : BitVec 32 := Scalar.muli v301 c256_i32_206
  v302
def k0_mult5 (i : grid0.Coords) (k0_t1 : Fin (k0_t1_loop i).trips) : BitVec 32 :=
  let c2_i32 : BitVec 32 := 2#32
  let arg2 : BitVec 32 := BitVec.ofNat 32 (i 2).val
  let v5 : BitVec 32 := Scalar.muli c2_i32 arg2
  let c2_i32_106 : BitVec 32 := 2#32
  let c0_i32_81 : BitVec 32 := 0#32
  let c1_i32_83 : BitVec 32 := 1#32
  let arg22 : BitVec 32 := Scf.iv c0_i32_81 c1_i32_83 k0_t1
  let v143 : BitVec 32 := Scalar.muli c2_i32_106 arg22
  let v144 : BitVec 32 := Scalar.addi v5 v143
  let c1_i32_240 : BitVec 32 := 1#32
  let v356 : BitVec 32 := Scalar.addi v144 c1_i32_240
  let c7_i32_241 : BitVec 32 := 7#32
  let v357 : BitVec 32 := Scalar.minsi v356 c7_i32_241
  let c256_i32_242 : BitVec 32 := 256#32
  let v358 : BitVec 32 := Scalar.muli v357 c256_i32_242
  v358
def k0_off13 (i : grid0.Coords) (k0_t1 : Fin (k0_t1_loop i).trips) : Fin 4 → Nat :=
  let c2_i32 : BitVec 32 := 2#32
  let arg2 : BitVec 32 := BitVec.ofNat 32 (i 2).val
  let v5 : BitVec 32 := Scalar.muli c2_i32 arg2
  let c2_i32_106 : BitVec 32 := 2#32
  let c0_i32_81 : BitVec 32 := 0#32
  let c1_i32_83 : BitVec 32 := 1#32
  let arg22 : BitVec 32 := Scf.iv c0_i32_81 c1_i32_83 k0_t1
  let v143 : BitVec 32 := Scalar.muli c2_i32_106 arg22
  let v144 : BitVec 32 := Scalar.addi v5 v143
  let c1_i32_240 : BitVec 32 := 1#32
  let v356 : BitVec 32 := Scalar.addi v144 c1_i32_240
  let c7_i32_241 : BitVec 32 := 7#32
  let v357 : BitVec 32 := Scalar.minsi v356 c7_i32_241
  let v388 : Index := Scalar.indexCast v357
  let c0_252 : Index := 0#32
  let c0_253 : Index := 0#32
  let c0_254 : Index := 0#32
  ![v388.toNat, 0, 0, 0]
def k0_off14 (i : grid0.Coords) (k0_t1 : Fin (k0_t1_loop i).trips) : Fin 4 → Nat :=
  let c0_270 : Index := 0#32
  let c2_i32 : BitVec 32 := 2#32
  let arg2 : BitVec 32 := BitVec.ofNat 32 (i 2).val
  let v5 : BitVec 32 := Scalar.muli c2_i32 arg2
  let c2_i32_106 : BitVec 32 := 2#32
  let c0_i32_81 : BitVec 32 := 0#32
  let c1_i32_83 : BitVec 32 := 1#32
  let arg22 : BitVec 32 := Scf.iv c0_i32_81 c1_i32_83 k0_t1
  let v143 : BitVec 32 := Scalar.muli c2_i32_106 arg22
  let v144 : BitVec 32 := Scalar.addi v5 v143
  let c1_i32_240 : BitVec 32 := 1#32
  let v356 : BitVec 32 := Scalar.addi v144 c1_i32_240
  let c7_i32_241 : BitVec 32 := 7#32
  let v357 : BitVec 32 := Scalar.minsi v356 c7_i32_241
  let v415 : Index := Scalar.indexCast v357
  let c0_271 : Index := 0#32
  let c0_272 : Index := 0#32
  ![0, v415.toNat, 0, 0]
def k0_off15 (i : grid0.Coords) (k0_t1 : Fin (k0_t1_loop i).trips) : Fin 4 → Nat :=
  let c2_i32 : BitVec 32 := 2#32
  let arg2 : BitVec 32 := BitVec.ofNat 32 (i 2).val
  let v5 : BitVec 32 := Scalar.muli c2_i32 arg2
  let c2_i32_106 : BitVec 32 := 2#32
  let c0_i32_81 : BitVec 32 := 0#32
  let c1_i32_83 : BitVec 32 := 1#32
  let arg22 : BitVec 32 := Scf.iv c0_i32_81 c1_i32_83 k0_t1
  let v143 : BitVec 32 := Scalar.muli c2_i32_106 arg22
  let v144 : BitVec 32 := Scalar.addi v5 v143
  let c1_i32_240 : BitVec 32 := 1#32
  let v356 : BitVec 32 := Scalar.addi v144 c1_i32_240
  let c7_i32_241 : BitVec 32 := 7#32
  let v357 : BitVec 32 := Scalar.minsi v356 c7_i32_241
  let v424 : Index := Scalar.indexCast v357
  let c1_277 : Index := 1#32
  let c0_278 : Index := 0#32
  let c0_279 : Index := 0#32
  ![v424.toNat, 1, 0, 0]
def k0_off16 (i : grid0.Coords) (k0_t1 : Fin (k0_t1_loop i).trips) : Fin 4 → Nat :=
  let c1_295 : Index := 1#32
  let c2_i32 : BitVec 32 := 2#32
  let arg2 : BitVec 32 := BitVec.ofNat 32 (i 2).val
  let v5 : BitVec 32 := Scalar.muli c2_i32 arg2
  let c2_i32_106 : BitVec 32 := 2#32
  let c0_i32_81 : BitVec 32 := 0#32
  let c1_i32_83 : BitVec 32 := 1#32
  let arg22 : BitVec 32 := Scf.iv c0_i32_81 c1_i32_83 k0_t1
  let v143 : BitVec 32 := Scalar.muli c2_i32_106 arg22
  let v144 : BitVec 32 := Scalar.addi v5 v143
  let c1_i32_240 : BitVec 32 := 1#32
  let v356 : BitVec 32 := Scalar.addi v144 c1_i32_240
  let c7_i32_241 : BitVec 32 := 7#32
  let v357 : BitVec 32 := Scalar.minsi v356 c7_i32_241
  let v451 : Index := Scalar.indexCast v357
  let c0_296 : Index := 0#32
  let c0_297 : Index := 0#32
  ![1, v451.toNat, 0, 0]
@[reducible] def k0_t2_loop (i : grid0.Coords) : Scf.Loop 32 :=
  let c0_i32_81 : BitVec 32 := 0#32
  let c8_i32_72 : BitVec 32 := 8#32
  let c2_i32 : BitVec 32 := 2#32
  let arg2 : BitVec 32 := BitVec.ofNat 32 (i 2).val
  let v5 : BitVec 32 := Scalar.muli c2_i32 arg2
  let v96 : BitVec 32 := Scalar.subi c8_i32_72 v5
  let c1_i32 : BitVec 32 := 1#32
  let v97 : BitVec 32 := Scalar.addi v96 c1_i32
  let c0_i32_74 : BitVec 32 := 0#32
  let v99 : BitVec 1 := Scalar.cmpi .sgt v97 c0_i32_74
  let v100 : BitVec 32 := Scalar.extui v99
  let c0_i32_75 : BitVec 32 := 0#32
  let v101 : BitVec 1 := Scalar.cmpi .slt v97 c0_i32_75
  let v102 : BitVec 32 := Scalar.extui v101
  let v103 : BitVec 32 := Scalar.subi v100 v102
  let c2_i32_73 : BitVec 32 := 2#32
  let c0_i32_76 : BitVec 32 := 0#32
  let v104 : BitVec 1 := Scalar.cmpi .sgt c2_i32_73 c0_i32_76
  let v105 : BitVec 32 := Scalar.extui v104
  let c0_i32_77 : BitVec 32 := 0#32
  let v106 : BitVec 1 := Scalar.cmpi .slt c2_i32_73 c0_i32_77
  let v107 : BitVec 32 := Scalar.extui v106
  let v108 : BitVec 32 := Scalar.subi v105 v107
  let v109 : BitVec 1 := Scalar.cmpi .ne v103 v108
  let v110 : BitVec 32 := Scalar.remsi v97 c2_i32_73
  let c0_i32_78 : BitVec 32 := 0#32
  let v111 : BitVec 1 := Scalar.cmpi .ne v110 c0_i32_78
  let v112 : BitVec 1 := Scalar.andi v109 v111
  let v98 : BitVec 32 := Scalar.divsi v97 c2_i32_73
  let c1_i32_79 : BitVec 32 := 1#32
  let v113 : BitVec 32 := Scalar.subi v98 c1_i32_79
  let v114 : BitVec 32 := Scalar.select v112 v113 v98
  let v115 : BitVec 32 := Scalar.subi v114 c0_i32_81
  let c1_i32_82 : BitVec 32 := 1#32
  let v117 : BitVec 32 := Scalar.divsi v115 c1_i32_82
  let v118 : BitVec 32 := Scalar.muli v117 c1_i32_82
  let v119 : BitVec 32 := Scalar.addi c0_i32_81 v118
  let v116 : BitVec 32 := Scalar.addi c0_i32_81 v115
  let c1_i32_84 : BitVec 32 := 1#32
  ⟨v119, v116, c1_i32_84⟩
def k0_mult6 (i : grid0.Coords) (k0_t2 : Fin (k0_t2_loop i).trips) : BitVec 32 :=
  let c2_i32 : BitVec 32 := 2#32
  let arg2 : BitVec 32 := BitVec.ofNat 32 (i 2).val
  let v5 : BitVec 32 := Scalar.muli c2_i32 arg2
  let c2_i32_106 : BitVec 32 := 2#32
  let c0_i32_81 : BitVec 32 := 0#32
  let c8_i32_72 : BitVec 32 := 8#32
  let v96 : BitVec 32 := Scalar.subi c8_i32_72 v5
  let c1_i32 : BitVec 32 := 1#32
  let v97 : BitVec 32 := Scalar.addi v96 c1_i32
  let c0_i32_74 : BitVec 32 := 0#32
  let v99 : BitVec 1 := Scalar.cmpi .sgt v97 c0_i32_74
  let v100 : BitVec 32 := Scalar.extui v99
  let c0_i32_75 : BitVec 32 := 0#32
  let v101 : BitVec 1 := Scalar.cmpi .slt v97 c0_i32_75
  let v102 : BitVec 32 := Scalar.extui v101
  let v103 : BitVec 32 := Scalar.subi v100 v102
  let c2_i32_73 : BitVec 32 := 2#32
  let c0_i32_76 : BitVec 32 := 0#32
  let v104 : BitVec 1 := Scalar.cmpi .sgt c2_i32_73 c0_i32_76
  let v105 : BitVec 32 := Scalar.extui v104
  let c0_i32_77 : BitVec 32 := 0#32
  let v106 : BitVec 1 := Scalar.cmpi .slt c2_i32_73 c0_i32_77
  let v107 : BitVec 32 := Scalar.extui v106
  let v108 : BitVec 32 := Scalar.subi v105 v107
  let v109 : BitVec 1 := Scalar.cmpi .ne v103 v108
  let v110 : BitVec 32 := Scalar.remsi v97 c2_i32_73
  let c0_i32_78 : BitVec 32 := 0#32
  let v111 : BitVec 1 := Scalar.cmpi .ne v110 c0_i32_78
  let v112 : BitVec 1 := Scalar.andi v109 v111
  let v98 : BitVec 32 := Scalar.divsi v97 c2_i32_73
  let c1_i32_79 : BitVec 32 := 1#32
  let v113 : BitVec 32 := Scalar.subi v98 c1_i32_79
  let v114 : BitVec 32 := Scalar.select v112 v113 v98
  let v115 : BitVec 32 := Scalar.subi v114 c0_i32_81
  let c1_i32_82 : BitVec 32 := 1#32
  let v117 : BitVec 32 := Scalar.divsi v115 c1_i32_82
  let v118 : BitVec 32 := Scalar.muli v117 c1_i32_82
  let v119 : BitVec 32 := Scalar.addi c0_i32_81 v118
  let c1_i32_84 : BitVec 32 := 1#32
  let arg22 : BitVec 32 := Scf.iv v119 c1_i32_84 k0_t2
  let v143 : BitVec 32 := Scalar.muli c2_i32_106 arg22
  let v144 : BitVec 32 := Scalar.addi v5 v143
  let c1_i32_123 : BitVec 32 := 1#32
  let v153 : BitVec 32 := Scalar.addi v144 c1_i32_123
  let c7_i32_124 : BitVec 32 := 7#32
  let v154 : BitVec 32 := Scalar.minsi v153 c7_i32_124
  let c256_i32_125 : BitVec 32 := 256#32
  let v155 : BitVec 32 := Scalar.muli v154 c256_i32_125
  v155
def k0_off17 (i : grid0.Coords) (k0_t2 : Fin (k0_t2_loop i).trips) (c1_i32_123 : BitVec 32) : Fin 2 → Nat :=
  let c2_i32 : BitVec 32 := 2#32
  let arg2 : BitVec 32 := BitVec.ofNat 32 (i 2).val
  let v5 : BitVec 32 := Scalar.muli c2_i32 arg2
  let c2_i32_106 : BitVec 32 := 2#32
  let c0_i32_81 : BitVec 32 := 0#32
  let c8_i32_72 : BitVec 32 := 8#32
  let v96 : BitVec 32 := Scalar.subi c8_i32_72 v5
  let c1_i32 : BitVec 32 := 1#32
  let v97 : BitVec 32 := Scalar.addi v96 c1_i32
  let c0_i32_74 : BitVec 32 := 0#32
  let v99 : BitVec 1 := Scalar.cmpi .sgt v97 c0_i32_74
  let v100 : BitVec 32 := Scalar.extui v99
  let c0_i32_75 : BitVec 32 := 0#32
  let v101 : BitVec 1 := Scalar.cmpi .slt v97 c0_i32_75
  let v102 : BitVec 32 := Scalar.extui v101
  let v103 : BitVec 32 := Scalar.subi v100 v102
  let c2_i32_73 : BitVec 32 := 2#32
  let c0_i32_76 : BitVec 32 := 0#32
  let v104 : BitVec 1 := Scalar.cmpi .sgt c2_i32_73 c0_i32_76
  let v105 : BitVec 32 := Scalar.extui v104
  let c0_i32_77 : BitVec 32 := 0#32
  let v106 : BitVec 1 := Scalar.cmpi .slt c2_i32_73 c0_i32_77
  let v107 : BitVec 32 := Scalar.extui v106
  let v108 : BitVec 32 := Scalar.subi v105 v107
  let v109 : BitVec 1 := Scalar.cmpi .ne v103 v108
  let v110 : BitVec 32 := Scalar.remsi v97 c2_i32_73
  let c0_i32_78 : BitVec 32 := 0#32
  let v111 : BitVec 1 := Scalar.cmpi .ne v110 c0_i32_78
  let v112 : BitVec 1 := Scalar.andi v109 v111
  let v98 : BitVec 32 := Scalar.divsi v97 c2_i32_73
  let c1_i32_79 : BitVec 32 := 1#32
  let v113 : BitVec 32 := Scalar.subi v98 c1_i32_79
  let v114 : BitVec 32 := Scalar.select v112 v113 v98
  let v115 : BitVec 32 := Scalar.subi v114 c0_i32_81
  let c1_i32_82 : BitVec 32 := 1#32
  let v117 : BitVec 32 := Scalar.divsi v115 c1_i32_82
  let v118 : BitVec 32 := Scalar.muli v117 c1_i32_82
  let v119 : BitVec 32 := Scalar.addi c0_i32_81 v118
  let c1_i32_84 : BitVec 32 := 1#32
  let arg22 : BitVec 32 := Scf.iv v119 c1_i32_84 k0_t2
  let v143 : BitVec 32 := Scalar.muli c2_i32_106 arg22
  let v144 : BitVec 32 := Scalar.addi v5 v143
  let v153 : BitVec 32 := Scalar.addi v144 c1_i32_123
  let c7_i32_124 : BitVec 32 := 7#32
  let v154 : BitVec 32 := Scalar.minsi v153 c7_i32_124
  let c256_i32_125 : BitVec 32 := 256#32
  let v155 : BitVec 32 := Scalar.muli v154 c256_i32_125
  let v156 : BitVec 32 := v155
  let v157 : Index := Scalar.indexCast v156
  let c0_126 : Index := 0#32
  ![v157.toNat, 0]
def k0_off18 (i : grid0.Coords) (k0_t2 : Fin (k0_t2_loop i).trips) (c1_i32_123 : BitVec 32) : Fin 3 → Nat :=
  let c0_129 : Index := 0#32
  let c2_i32 : BitVec 32 := 2#32
  let arg2 : BitVec 32 := BitVec.ofNat 32 (i 2).val
  let v5 : BitVec 32 := Scalar.muli c2_i32 arg2
  let c2_i32_106 : BitVec 32 := 2#32
  let c0_i32_81 : BitVec 32 := 0#32
  let c8_i32_72 : BitVec 32 := 8#32
  let v96 : BitVec 32 := Scalar.subi c8_i32_72 v5
  let c1_i32 : BitVec 32 := 1#32
  let v97 : BitVec 32 := Scalar.addi v96 c1_i32
  let c0_i32_74 : BitVec 32 := 0#32
  let v99 : BitVec 1 := Scalar.cmpi .sgt v97 c0_i32_74
  let v100 : BitVec 32 := Scalar.extui v99
  let c0_i32_75 : BitVec 32 := 0#32
  let v101 : BitVec 1 := Scalar.cmpi .slt v97 c0_i32_75
  let v102 : BitVec 32 := Scalar.extui v101
  let v103 : BitVec 32 := Scalar.subi v100 v102
  let c2_i32_73 : BitVec 32 := 2#32
  let c0_i32_76 : BitVec 32 := 0#32
  let v104 : BitVec 1 := Scalar.cmpi .sgt c2_i32_73 c0_i32_76
  let v105 : BitVec 32 := Scalar.extui v104
  let c0_i32_77 : BitVec 32 := 0#32
  let v106 : BitVec 1 := Scalar.cmpi .slt c2_i32_73 c0_i32_77
  let v107 : BitVec 32 := Scalar.extui v106
  let v108 : BitVec 32 := Scalar.subi v105 v107
  let v109 : BitVec 1 := Scalar.cmpi .ne v103 v108
  let v110 : BitVec 32 := Scalar.remsi v97 c2_i32_73
  let c0_i32_78 : BitVec 32 := 0#32
  let v111 : BitVec 1 := Scalar.cmpi .ne v110 c0_i32_78
  let v112 : BitVec 1 := Scalar.andi v109 v111
  let v98 : BitVec 32 := Scalar.divsi v97 c2_i32_73
  let c1_i32_79 : BitVec 32 := 1#32
  let v113 : BitVec 32 := Scalar.subi v98 c1_i32_79
  let v114 : BitVec 32 := Scalar.select v112 v113 v98
  let v115 : BitVec 32 := Scalar.subi v114 c0_i32_81
  let c1_i32_82 : BitVec 32 := 1#32
  let v117 : BitVec 32 := Scalar.divsi v115 c1_i32_82
  let v118 : BitVec 32 := Scalar.muli v117 c1_i32_82
  let v119 : BitVec 32 := Scalar.addi c0_i32_81 v118
  let c1_i32_84 : BitVec 32 := 1#32
  let arg22 : BitVec 32 := Scf.iv v119 c1_i32_84 k0_t2
  let v143 : BitVec 32 := Scalar.muli c2_i32_106 arg22
  let v144 : BitVec 32 := Scalar.addi v5 v143
  let v153 : BitVec 32 := Scalar.addi v144 c1_i32_123
  let c7_i32_124 : BitVec 32 := 7#32
  let v154 : BitVec 32 := Scalar.minsi v153 c7_i32_124
  let c256_i32_125 : BitVec 32 := 256#32
  let v155 : BitVec 32 := Scalar.muli v154 c256_i32_125
  let v156 : BitVec 32 := v155
  let v165 : Index := Scalar.indexCast v156
  let c0_130 : Index := 0#32
  ![0, v165.toNat, 0]
def k0_off19 (i : grid0.Coords) (k0_t2 : Fin (k0_t2_loop i).trips) (c1_i32_123 : BitVec 32) : Fin 3 → Nat :=
  let c2_i32 : BitVec 32 := 2#32
  let arg2 : BitVec 32 := BitVec.ofNat 32 (i 2).val
  let v5 : BitVec 32 := Scalar.muli c2_i32 arg2
  let c2_i32_106 : BitVec 32 := 2#32
  let c0_i32_81 : BitVec 32 := 0#32
  let c8_i32_72 : BitVec 32 := 8#32
  let v96 : BitVec 32 := Scalar.subi c8_i32_72 v5
  let c1_i32 : BitVec 32 := 1#32
  let v97 : BitVec 32 := Scalar.addi v96 c1_i32
  let c0_i32_74 : BitVec 32 := 0#32
  let v99 : BitVec 1 := Scalar.cmpi .sgt v97 c0_i32_74
  let v100 : BitVec 32 := Scalar.extui v99
  let c0_i32_75 : BitVec 32 := 0#32
  let v101 : BitVec 1 := Scalar.cmpi .slt v97 c0_i32_75
  let v102 : BitVec 32 := Scalar.extui v101
  let v103 : BitVec 32 := Scalar.subi v100 v102
  let c2_i32_73 : BitVec 32 := 2#32
  let c0_i32_76 : BitVec 32 := 0#32
  let v104 : BitVec 1 := Scalar.cmpi .sgt c2_i32_73 c0_i32_76
  let v105 : BitVec 32 := Scalar.extui v104
  let c0_i32_77 : BitVec 32 := 0#32
  let v106 : BitVec 1 := Scalar.cmpi .slt c2_i32_73 c0_i32_77
  let v107 : BitVec 32 := Scalar.extui v106
  let v108 : BitVec 32 := Scalar.subi v105 v107
  let v109 : BitVec 1 := Scalar.cmpi .ne v103 v108
  let v110 : BitVec 32 := Scalar.remsi v97 c2_i32_73
  let c0_i32_78 : BitVec 32 := 0#32
  let v111 : BitVec 1 := Scalar.cmpi .ne v110 c0_i32_78
  let v112 : BitVec 1 := Scalar.andi v109 v111
  let v98 : BitVec 32 := Scalar.divsi v97 c2_i32_73
  let c1_i32_79 : BitVec 32 := 1#32
  let v113 : BitVec 32 := Scalar.subi v98 c1_i32_79
  let v114 : BitVec 32 := Scalar.select v112 v113 v98
  let v115 : BitVec 32 := Scalar.subi v114 c0_i32_81
  let c1_i32_82 : BitVec 32 := 1#32
  let v117 : BitVec 32 := Scalar.divsi v115 c1_i32_82
  let v118 : BitVec 32 := Scalar.muli v117 c1_i32_82
  let v119 : BitVec 32 := Scalar.addi c0_i32_81 v118
  let c1_i32_84 : BitVec 32 := 1#32
  let arg22 : BitVec 32 := Scf.iv v119 c1_i32_84 k0_t2
  let v143 : BitVec 32 := Scalar.muli c2_i32_106 arg22
  let v144 : BitVec 32 := Scalar.addi v5 v143
  let v153 : BitVec 32 := Scalar.addi v144 c1_i32_123
  let c8_i32_135 : BitVec 32 := 8#32
  let v185 : BitVec 1 := Scalar.cmpi .slt v153 c8_i32_135
  let v186 : BitVec 32 := Scalar.subi v153 v5
  let c8_i32_136 : BitVec 32 := 8#32
  let v187 : BitVec 32 := Scalar.select v185 v186 c8_i32_136
  let v188 : Index := Scalar.indexCast v187
  let c0_137 : Index := 0#32
  let c0_138 : Index := 0#32
  ![v188.toNat, 0, 0]
def k0_mult7 (i : grid0.Coords) (k0_t2 : Fin (k0_t2_loop i).trips) : BitVec 32 :=
  let c2_i32 : BitVec 32 := 2#32
  let arg2 : BitVec 32 := BitVec.ofNat 32 (i 2).val
  let v5 : BitVec 32 := Scalar.muli c2_i32 arg2
  let c2_i32_106 : BitVec 32 := 2#32
  let c0_i32_81 : BitVec 32 := 0#32
  let c8_i32_72 : BitVec 32 := 8#32
  let v96 : BitVec 32 := Scalar.subi c8_i32_72 v5
  let c1_i32 : BitVec 32 := 1#32
  let v97 : BitVec 32 := Scalar.addi v96 c1_i32
  let c0_i32_74 : BitVec 32 := 0#32
  let v99 : BitVec 1 := Scalar.cmpi .sgt v97 c0_i32_74
  let v100 : BitVec 32 := Scalar.extui v99
  let c0_i32_75 : BitVec 32 := 0#32
  let v101 : BitVec 1 := Scalar.cmpi .slt v97 c0_i32_75
  let v102 : BitVec 32 := Scalar.extui v101
  let v103 : BitVec 32 := Scalar.subi v100 v102
  let c2_i32_73 : BitVec 32 := 2#32
  let c0_i32_76 : BitVec 32 := 0#32
  let v104 : BitVec 1 := Scalar.cmpi .sgt c2_i32_73 c0_i32_76
  let v105 : BitVec 32 := Scalar.extui v104
  let c0_i32_77 : BitVec 32 := 0#32
  let v106 : BitVec 1 := Scalar.cmpi .slt c2_i32_73 c0_i32_77
  let v107 : BitVec 32 := Scalar.extui v106
  let v108 : BitVec 32 := Scalar.subi v105 v107
  let v109 : BitVec 1 := Scalar.cmpi .ne v103 v108
  let v110 : BitVec 32 := Scalar.remsi v97 c2_i32_73
  let c0_i32_78 : BitVec 32 := 0#32
  let v111 : BitVec 1 := Scalar.cmpi .ne v110 c0_i32_78
  let v112 : BitVec 1 := Scalar.andi v109 v111
  let v98 : BitVec 32 := Scalar.divsi v97 c2_i32_73
  let c1_i32_79 : BitVec 32 := 1#32
  let v113 : BitVec 32 := Scalar.subi v98 c1_i32_79
  let v114 : BitVec 32 := Scalar.select v112 v113 v98
  let v115 : BitVec 32 := Scalar.subi v114 c0_i32_81
  let c1_i32_82 : BitVec 32 := 1#32
  let v117 : BitVec 32 := Scalar.divsi v115 c1_i32_82
  let v118 : BitVec 32 := Scalar.muli v117 c1_i32_82
  let v119 : BitVec 32 := Scalar.addi c0_i32_81 v118
  let c1_i32_84 : BitVec 32 := 1#32
  let arg22 : BitVec 32 := Scf.iv v119 c1_i32_84 k0_t2
  let v143 : BitVec 32 := Scalar.muli c2_i32_106 arg22
  let v144 : BitVec 32 := Scalar.addi v5 v143
  let c7_i32_143 : BitVec 32 := 7#32
  let v197 : BitVec 32 := Scalar.minsi v144 c7_i32_143
  let c256_i32_144 : BitVec 32 := 256#32
  let v198 : BitVec 32 := Scalar.muli v197 c256_i32_144
  v198
def k0_off20 (i : grid0.Coords) (k0_t2 : Fin (k0_t2_loop i).trips) : Fin 2 → Nat :=
  let c2_i32 : BitVec 32 := 2#32
  let arg2 : BitVec 32 := BitVec.ofNat 32 (i 2).val
  let v5 : BitVec 32 := Scalar.muli c2_i32 arg2
  let c2_i32_106 : BitVec 32 := 2#32
  let c0_i32_81 : BitVec 32 := 0#32
  let c8_i32_72 : BitVec 32 := 8#32
  let v96 : BitVec 32 := Scalar.subi c8_i32_72 v5
  let c1_i32 : BitVec 32 := 1#32
  let v97 : BitVec 32 := Scalar.addi v96 c1_i32
  let c0_i32_74 : BitVec 32 := 0#32
  let v99 : BitVec 1 := Scalar.cmpi .sgt v97 c0_i32_74
  let v100 : BitVec 32 := Scalar.extui v99
  let c0_i32_75 : BitVec 32 := 0#32
  let v101 : BitVec 1 := Scalar.cmpi .slt v97 c0_i32_75
  let v102 : BitVec 32 := Scalar.extui v101
  let v103 : BitVec 32 := Scalar.subi v100 v102
  let c2_i32_73 : BitVec 32 := 2#32
  let c0_i32_76 : BitVec 32 := 0#32
  let v104 : BitVec 1 := Scalar.cmpi .sgt c2_i32_73 c0_i32_76
  let v105 : BitVec 32 := Scalar.extui v104
  let c0_i32_77 : BitVec 32 := 0#32
  let v106 : BitVec 1 := Scalar.cmpi .slt c2_i32_73 c0_i32_77
  let v107 : BitVec 32 := Scalar.extui v106
  let v108 : BitVec 32 := Scalar.subi v105 v107
  let v109 : BitVec 1 := Scalar.cmpi .ne v103 v108
  let v110 : BitVec 32 := Scalar.remsi v97 c2_i32_73
  let c0_i32_78 : BitVec 32 := 0#32
  let v111 : BitVec 1 := Scalar.cmpi .ne v110 c0_i32_78
  let v112 : BitVec 1 := Scalar.andi v109 v111
  let v98 : BitVec 32 := Scalar.divsi v97 c2_i32_73
  let c1_i32_79 : BitVec 32 := 1#32
  let v113 : BitVec 32 := Scalar.subi v98 c1_i32_79
  let v114 : BitVec 32 := Scalar.select v112 v113 v98
  let v115 : BitVec 32 := Scalar.subi v114 c0_i32_81
  let c1_i32_82 : BitVec 32 := 1#32
  let v117 : BitVec 32 := Scalar.divsi v115 c1_i32_82
  let v118 : BitVec 32 := Scalar.muli v117 c1_i32_82
  let v119 : BitVec 32 := Scalar.addi c0_i32_81 v118
  let c1_i32_84 : BitVec 32 := 1#32
  let arg22 : BitVec 32 := Scf.iv v119 c1_i32_84 k0_t2
  let v143 : BitVec 32 := Scalar.muli c2_i32_106 arg22
  let v144 : BitVec 32 := Scalar.addi v5 v143
  let c7_i32_143 : BitVec 32 := 7#32
  let v197 : BitVec 32 := Scalar.minsi v144 c7_i32_143
  let c256_i32_144 : BitVec 32 := 256#32
  let v198 : BitVec 32 := Scalar.muli v197 c256_i32_144
  let v199 : BitVec 32 := v198
  let v200 : Index := Scalar.indexCast v199
  let c0_145 : Index := 0#32
  ![v200.toNat, 0]
def k0_off21 (i : grid0.Coords) (k0_t2 : Fin (k0_t2_loop i).trips) : Fin 3 → Nat :=
  let c0_148 : Index := 0#32
  let c2_i32 : BitVec 32 := 2#32
  let arg2 : BitVec 32 := BitVec.ofNat 32 (i 2).val
  let v5 : BitVec 32 := Scalar.muli c2_i32 arg2
  let c2_i32_106 : BitVec 32 := 2#32
  let c0_i32_81 : BitVec 32 := 0#32
  let c8_i32_72 : BitVec 32 := 8#32
  let v96 : BitVec 32 := Scalar.subi c8_i32_72 v5
  let c1_i32 : BitVec 32 := 1#32
  let v97 : BitVec 32 := Scalar.addi v96 c1_i32
  let c0_i32_74 : BitVec 32 := 0#32
  let v99 : BitVec 1 := Scalar.cmpi .sgt v97 c0_i32_74
  let v100 : BitVec 32 := Scalar.extui v99
  let c0_i32_75 : BitVec 32 := 0#32
  let v101 : BitVec 1 := Scalar.cmpi .slt v97 c0_i32_75
  let v102 : BitVec 32 := Scalar.extui v101
  let v103 : BitVec 32 := Scalar.subi v100 v102
  let c2_i32_73 : BitVec 32 := 2#32
  let c0_i32_76 : BitVec 32 := 0#32
  let v104 : BitVec 1 := Scalar.cmpi .sgt c2_i32_73 c0_i32_76
  let v105 : BitVec 32 := Scalar.extui v104
  let c0_i32_77 : BitVec 32 := 0#32
  let v106 : BitVec 1 := Scalar.cmpi .slt c2_i32_73 c0_i32_77
  let v107 : BitVec 32 := Scalar.extui v106
  let v108 : BitVec 32 := Scalar.subi v105 v107
  let v109 : BitVec 1 := Scalar.cmpi .ne v103 v108
  let v110 : BitVec 32 := Scalar.remsi v97 c2_i32_73
  let c0_i32_78 : BitVec 32 := 0#32
  let v111 : BitVec 1 := Scalar.cmpi .ne v110 c0_i32_78
  let v112 : BitVec 1 := Scalar.andi v109 v111
  let v98 : BitVec 32 := Scalar.divsi v97 c2_i32_73
  let c1_i32_79 : BitVec 32 := 1#32
  let v113 : BitVec 32 := Scalar.subi v98 c1_i32_79
  let v114 : BitVec 32 := Scalar.select v112 v113 v98
  let v115 : BitVec 32 := Scalar.subi v114 c0_i32_81
  let c1_i32_82 : BitVec 32 := 1#32
  let v117 : BitVec 32 := Scalar.divsi v115 c1_i32_82
  let v118 : BitVec 32 := Scalar.muli v117 c1_i32_82
  let v119 : BitVec 32 := Scalar.addi c0_i32_81 v118
  let c1_i32_84 : BitVec 32 := 1#32
  let arg22 : BitVec 32 := Scf.iv v119 c1_i32_84 k0_t2
  let v143 : BitVec 32 := Scalar.muli c2_i32_106 arg22
  let v144 : BitVec 32 := Scalar.addi v5 v143
  let c7_i32_143 : BitVec 32 := 7#32
  let v197 : BitVec 32 := Scalar.minsi v144 c7_i32_143
  let c256_i32_144 : BitVec 32 := 256#32
  let v198 : BitVec 32 := Scalar.muli v197 c256_i32_144
  let v199 : BitVec 32 := v198
  let v208 : Index := Scalar.indexCast v199
  let c0_149 : Index := 0#32
  ![0, v208.toNat, 0]
def k0_off22 (i : grid0.Coords) (k0_t2 : Fin (k0_t2_loop i).trips) : Fin 4 → Nat :=
  let c2_i32 : BitVec 32 := 2#32
  let arg2 : BitVec 32 := BitVec.ofNat 32 (i 2).val
  let v5 : BitVec 32 := Scalar.muli c2_i32 arg2
  let c2_i32_106 : BitVec 32 := 2#32
  let c0_i32_81 : BitVec 32 := 0#32
  let c8_i32_72 : BitVec 32 := 8#32
  let v96 : BitVec 32 := Scalar.subi c8_i32_72 v5
  let c1_i32 : BitVec 32 := 1#32
  let v97 : BitVec 32 := Scalar.addi v96 c1_i32
  let c0_i32_74 : BitVec 32 := 0#32
  let v99 : BitVec 1 := Scalar.cmpi .sgt v97 c0_i32_74
  let v100 : BitVec 32 := Scalar.extui v99
  let c0_i32_75 : BitVec 32 := 0#32
  let v101 : BitVec 1 := Scalar.cmpi .slt v97 c0_i32_75
  let v102 : BitVec 32 := Scalar.extui v101
  let v103 : BitVec 32 := Scalar.subi v100 v102
  let c2_i32_73 : BitVec 32 := 2#32
  let c0_i32_76 : BitVec 32 := 0#32
  let v104 : BitVec 1 := Scalar.cmpi .sgt c2_i32_73 c0_i32_76
  let v105 : BitVec 32 := Scalar.extui v104
  let c0_i32_77 : BitVec 32 := 0#32
  let v106 : BitVec 1 := Scalar.cmpi .slt c2_i32_73 c0_i32_77
  let v107 : BitVec 32 := Scalar.extui v106
  let v108 : BitVec 32 := Scalar.subi v105 v107
  let v109 : BitVec 1 := Scalar.cmpi .ne v103 v108
  let v110 : BitVec 32 := Scalar.remsi v97 c2_i32_73
  let c0_i32_78 : BitVec 32 := 0#32
  let v111 : BitVec 1 := Scalar.cmpi .ne v110 c0_i32_78
  let v112 : BitVec 1 := Scalar.andi v109 v111
  let v98 : BitVec 32 := Scalar.divsi v97 c2_i32_73
  let c1_i32_79 : BitVec 32 := 1#32
  let v113 : BitVec 32 := Scalar.subi v98 c1_i32_79
  let v114 : BitVec 32 := Scalar.select v112 v113 v98
  let v115 : BitVec 32 := Scalar.subi v114 c0_i32_81
  let c1_i32_82 : BitVec 32 := 1#32
  let v117 : BitVec 32 := Scalar.divsi v115 c1_i32_82
  let v118 : BitVec 32 := Scalar.muli v117 c1_i32_82
  let v119 : BitVec 32 := Scalar.addi c0_i32_81 v118
  let c1_i32_84 : BitVec 32 := 1#32
  let arg22 : BitVec 32 := Scf.iv v119 c1_i32_84 k0_t2
  let v143 : BitVec 32 := Scalar.muli c2_i32_106 arg22
  let v144 : BitVec 32 := Scalar.addi v5 v143
  let c7_i32_143 : BitVec 32 := 7#32
  let v197 : BitVec 32 := Scalar.minsi v144 c7_i32_143
  let v228 : Index := Scalar.indexCast v197
  let c0_154 : Index := 0#32
  let c0_155 : Index := 0#32
  let c0_156 : Index := 0#32
  ![v228.toNat, 0, 0, 0]
def k0_off23 (i : grid0.Coords) (k0_t2 : Fin (k0_t2_loop i).trips) : Fin 4 → Nat :=
  let c0_172 : Index := 0#32
  let c2_i32 : BitVec 32 := 2#32
  let arg2 : BitVec 32 := BitVec.ofNat 32 (i 2).val
  let v5 : BitVec 32 := Scalar.muli c2_i32 arg2
  let c2_i32_106 : BitVec 32 := 2#32
  let c0_i32_81 : BitVec 32 := 0#32
  let c8_i32_72 : BitVec 32 := 8#32
  let v96 : BitVec 32 := Scalar.subi c8_i32_72 v5
  let c1_i32 : BitVec 32 := 1#32
  let v97 : BitVec 32 := Scalar.addi v96 c1_i32
  let c0_i32_74 : BitVec 32 := 0#32
  let v99 : BitVec 1 := Scalar.cmpi .sgt v97 c0_i32_74
  let v100 : BitVec 32 := Scalar.extui v99
  let c0_i32_75 : BitVec 32 := 0#32
  let v101 : BitVec 1 := Scalar.cmpi .slt v97 c0_i32_75
  let v102 : BitVec 32 := Scalar.extui v101
  let v103 : BitVec 32 := Scalar.subi v100 v102
  let c2_i32_73 : BitVec 32 := 2#32
  let c0_i32_76 : BitVec 32 := 0#32
  let v104 : BitVec 1 := Scalar.cmpi .sgt c2_i32_73 c0_i32_76
  let v105 : BitVec 32 := Scalar.extui v104
  let c0_i32_77 : BitVec 32 := 0#32
  let v106 : BitVec 1 := Scalar.cmpi .slt c2_i32_73 c0_i32_77
  let v107 : BitVec 32 := Scalar.extui v106
  let v108 : BitVec 32 := Scalar.subi v105 v107
  let v109 : BitVec 1 := Scalar.cmpi .ne v103 v108
  let v110 : BitVec 32 := Scalar.remsi v97 c2_i32_73
  let c0_i32_78 : BitVec 32 := 0#32
  let v111 : BitVec 1 := Scalar.cmpi .ne v110 c0_i32_78
  let v112 : BitVec 1 := Scalar.andi v109 v111
  let v98 : BitVec 32 := Scalar.divsi v97 c2_i32_73
  let c1_i32_79 : BitVec 32 := 1#32
  let v113 : BitVec 32 := Scalar.subi v98 c1_i32_79
  let v114 : BitVec 32 := Scalar.select v112 v113 v98
  let v115 : BitVec 32 := Scalar.subi v114 c0_i32_81
  let c1_i32_82 : BitVec 32 := 1#32
  let v117 : BitVec 32 := Scalar.divsi v115 c1_i32_82
  let v118 : BitVec 32 := Scalar.muli v117 c1_i32_82
  let v119 : BitVec 32 := Scalar.addi c0_i32_81 v118
  let c1_i32_84 : BitVec 32 := 1#32
  let arg22 : BitVec 32 := Scf.iv v119 c1_i32_84 k0_t2
  let v143 : BitVec 32 := Scalar.muli c2_i32_106 arg22
  let v144 : BitVec 32 := Scalar.addi v5 v143
  let c7_i32_143 : BitVec 32 := 7#32
  let v197 : BitVec 32 := Scalar.minsi v144 c7_i32_143
  let v255 : Index := Scalar.indexCast v197
  let c0_173 : Index := 0#32
  let c0_174 : Index := 0#32
  ![0, v255.toNat, 0, 0]
def k0_off24 (i : grid0.Coords) (k0_t2 : Fin (k0_t2_loop i).trips) : Fin 4 → Nat :=
  let c2_i32 : BitVec 32 := 2#32
  let arg2 : BitVec 32 := BitVec.ofNat 32 (i 2).val
  let v5 : BitVec 32 := Scalar.muli c2_i32 arg2
  let c2_i32_106 : BitVec 32 := 2#32
  let c0_i32_81 : BitVec 32 := 0#32
  let c8_i32_72 : BitVec 32 := 8#32
  let v96 : BitVec 32 := Scalar.subi c8_i32_72 v5
  let c1_i32 : BitVec 32 := 1#32
  let v97 : BitVec 32 := Scalar.addi v96 c1_i32
  let c0_i32_74 : BitVec 32 := 0#32
  let v99 : BitVec 1 := Scalar.cmpi .sgt v97 c0_i32_74
  let v100 : BitVec 32 := Scalar.extui v99
  let c0_i32_75 : BitVec 32 := 0#32
  let v101 : BitVec 1 := Scalar.cmpi .slt v97 c0_i32_75
  let v102 : BitVec 32 := Scalar.extui v101
  let v103 : BitVec 32 := Scalar.subi v100 v102
  let c2_i32_73 : BitVec 32 := 2#32
  let c0_i32_76 : BitVec 32 := 0#32
  let v104 : BitVec 1 := Scalar.cmpi .sgt c2_i32_73 c0_i32_76
  let v105 : BitVec 32 := Scalar.extui v104
  let c0_i32_77 : BitVec 32 := 0#32
  let v106 : BitVec 1 := Scalar.cmpi .slt c2_i32_73 c0_i32_77
  let v107 : BitVec 32 := Scalar.extui v106
  let v108 : BitVec 32 := Scalar.subi v105 v107
  let v109 : BitVec 1 := Scalar.cmpi .ne v103 v108
  let v110 : BitVec 32 := Scalar.remsi v97 c2_i32_73
  let c0_i32_78 : BitVec 32 := 0#32
  let v111 : BitVec 1 := Scalar.cmpi .ne v110 c0_i32_78
  let v112 : BitVec 1 := Scalar.andi v109 v111
  let v98 : BitVec 32 := Scalar.divsi v97 c2_i32_73
  let c1_i32_79 : BitVec 32 := 1#32
  let v113 : BitVec 32 := Scalar.subi v98 c1_i32_79
  let v114 : BitVec 32 := Scalar.select v112 v113 v98
  let v115 : BitVec 32 := Scalar.subi v114 c0_i32_81
  let c1_i32_82 : BitVec 32 := 1#32
  let v117 : BitVec 32 := Scalar.divsi v115 c1_i32_82
  let v118 : BitVec 32 := Scalar.muli v117 c1_i32_82
  let v119 : BitVec 32 := Scalar.addi c0_i32_81 v118
  let c1_i32_84 : BitVec 32 := 1#32
  let arg22 : BitVec 32 := Scf.iv v119 c1_i32_84 k0_t2
  let v143 : BitVec 32 := Scalar.muli c2_i32_106 arg22
  let v144 : BitVec 32 := Scalar.addi v5 v143
  let c7_i32_143 : BitVec 32 := 7#32
  let v197 : BitVec 32 := Scalar.minsi v144 c7_i32_143
  let v264 : Index := Scalar.indexCast v197
  let c1_179 : Index := 1#32
  let c0_180 : Index := 0#32
  let c0_181 : Index := 0#32
  ![v264.toNat, 1, 0, 0]
def k0_off25 (i : grid0.Coords) (k0_t2 : Fin (k0_t2_loop i).trips) : Fin 4 → Nat :=
  let c1_197 : Index := 1#32
  let c2_i32 : BitVec 32 := 2#32
  let arg2 : BitVec 32 := BitVec.ofNat 32 (i 2).val
  let v5 : BitVec 32 := Scalar.muli c2_i32 arg2
  let c2_i32_106 : BitVec 32 := 2#32
  let c0_i32_81 : BitVec 32 := 0#32
  let c8_i32_72 : BitVec 32 := 8#32
  let v96 : BitVec 32 := Scalar.subi c8_i32_72 v5
  let c1_i32 : BitVec 32 := 1#32
  let v97 : BitVec 32 := Scalar.addi v96 c1_i32
  let c0_i32_74 : BitVec 32 := 0#32
  let v99 : BitVec 1 := Scalar.cmpi .sgt v97 c0_i32_74
  let v100 : BitVec 32 := Scalar.extui v99
  let c0_i32_75 : BitVec 32 := 0#32
  let v101 : BitVec 1 := Scalar.cmpi .slt v97 c0_i32_75
  let v102 : BitVec 32 := Scalar.extui v101
  let v103 : BitVec 32 := Scalar.subi v100 v102
  let c2_i32_73 : BitVec 32 := 2#32
  let c0_i32_76 : BitVec 32 := 0#32
  let v104 : BitVec 1 := Scalar.cmpi .sgt c2_i32_73 c0_i32_76
  let v105 : BitVec 32 := Scalar.extui v104
  let c0_i32_77 : BitVec 32 := 0#32
  let v106 : BitVec 1 := Scalar.cmpi .slt c2_i32_73 c0_i32_77
  let v107 : BitVec 32 := Scalar.extui v106
  let v108 : BitVec 32 := Scalar.subi v105 v107
  let v109 : BitVec 1 := Scalar.cmpi .ne v103 v108
  let v110 : BitVec 32 := Scalar.remsi v97 c2_i32_73
  let c0_i32_78 : BitVec 32 := 0#32
  let v111 : BitVec 1 := Scalar.cmpi .ne v110 c0_i32_78
  let v112 : BitVec 1 := Scalar.andi v109 v111
  let v98 : BitVec 32 := Scalar.divsi v97 c2_i32_73
  let c1_i32_79 : BitVec 32 := 1#32
  let v113 : BitVec 32 := Scalar.subi v98 c1_i32_79
  let v114 : BitVec 32 := Scalar.select v112 v113 v98
  let v115 : BitVec 32 := Scalar.subi v114 c0_i32_81
  let c1_i32_82 : BitVec 32 := 1#32
  let v117 : BitVec 32 := Scalar.divsi v115 c1_i32_82
  let v118 : BitVec 32 := Scalar.muli v117 c1_i32_82
  let v119 : BitVec 32 := Scalar.addi c0_i32_81 v118
  let c1_i32_84 : BitVec 32 := 1#32
  let arg22 : BitVec 32 := Scf.iv v119 c1_i32_84 k0_t2
  let v143 : BitVec 32 := Scalar.muli c2_i32_106 arg22
  let v144 : BitVec 32 := Scalar.addi v5 v143
  let c7_i32_143 : BitVec 32 := 7#32
  let v197 : BitVec 32 := Scalar.minsi v144 c7_i32_143
  let v291 : Index := Scalar.indexCast v197
  let c0_198 : Index := 0#32
  let c0_199 : Index := 0#32
  ![1, v291.toNat, 0, 0]
def k0_mult8 (i : grid0.Coords) (k0_t2 : Fin (k0_t2_loop i).trips) : BitVec 32 :=
  let c2_i32 : BitVec 32 := 2#32
  let arg2 : BitVec 32 := BitVec.ofNat 32 (i 2).val
  let v5 : BitVec 32 := Scalar.muli c2_i32 arg2
  let c2_i32_106 : BitVec 32 := 2#32
  let c0_i32_81 : BitVec 32 := 0#32
  let c8_i32_72 : BitVec 32 := 8#32
  let v96 : BitVec 32 := Scalar.subi c8_i32_72 v5
  let c1_i32 : BitVec 32 := 1#32
  let v97 : BitVec 32 := Scalar.addi v96 c1_i32
  let c0_i32_74 : BitVec 32 := 0#32
  let v99 : BitVec 1 := Scalar.cmpi .sgt v97 c0_i32_74
  let v100 : BitVec 32 := Scalar.extui v99
  let c0_i32_75 : BitVec 32 := 0#32
  let v101 : BitVec 1 := Scalar.cmpi .slt v97 c0_i32_75
  let v102 : BitVec 32 := Scalar.extui v101
  let v103 : BitVec 32 := Scalar.subi v100 v102
  let c2_i32_73 : BitVec 32 := 2#32
  let c0_i32_76 : BitVec 32 := 0#32
  let v104 : BitVec 1 := Scalar.cmpi .sgt c2_i32_73 c0_i32_76
  let v105 : BitVec 32 := Scalar.extui v104
  let c0_i32_77 : BitVec 32 := 0#32
  let v106 : BitVec 1 := Scalar.cmpi .slt c2_i32_73 c0_i32_77
  let v107 : BitVec 32 := Scalar.extui v106
  let v108 : BitVec 32 := Scalar.subi v105 v107
  let v109 : BitVec 1 := Scalar.cmpi .ne v103 v108
  let v110 : BitVec 32 := Scalar.remsi v97 c2_i32_73
  let c0_i32_78 : BitVec 32 := 0#32
  let v111 : BitVec 1 := Scalar.cmpi .ne v110 c0_i32_78
  let v112 : BitVec 1 := Scalar.andi v109 v111
  let v98 : BitVec 32 := Scalar.divsi v97 c2_i32_73
  let c1_i32_79 : BitVec 32 := 1#32
  let v113 : BitVec 32 := Scalar.subi v98 c1_i32_79
  let v114 : BitVec 32 := Scalar.select v112 v113 v98
  let v115 : BitVec 32 := Scalar.subi v114 c0_i32_81
  let c1_i32_82 : BitVec 32 := 1#32
  let v117 : BitVec 32 := Scalar.divsi v115 c1_i32_82
  let v118 : BitVec 32 := Scalar.muli v117 c1_i32_82
  let v119 : BitVec 32 := Scalar.addi c0_i32_81 v118
  let c1_i32_84 : BitVec 32 := 1#32
  let arg22 : BitVec 32 := Scf.iv v119 c1_i32_84 k0_t2
  let v143 : BitVec 32 := Scalar.muli c2_i32_106 arg22
  let v144 : BitVec 32 := Scalar.addi v5 v143
  let c2_i32_204 : BitVec 32 := 2#32
  let v300 : BitVec 32 := Scalar.addi v144 c2_i32_204
  let c7_i32_205 : BitVec 32 := 7#32
  let v301 : BitVec 32 := Scalar.minsi v300 c7_i32_205
  let c256_i32_206 : BitVec 32 := 256#32
  let v302 : BitVec 32 := Scalar.muli v301 c256_i32_206
  v302
def k0_mult9 (i : grid0.Coords) (k0_t2 : Fin (k0_t2_loop i).trips) : BitVec 32 :=
  let c2_i32 : BitVec 32 := 2#32
  let arg2 : BitVec 32 := BitVec.ofNat 32 (i 2).val
  let v5 : BitVec 32 := Scalar.muli c2_i32 arg2
  let c2_i32_106 : BitVec 32 := 2#32
  let c0_i32_81 : BitVec 32 := 0#32
  let c8_i32_72 : BitVec 32 := 8#32
  let v96 : BitVec 32 := Scalar.subi c8_i32_72 v5
  let c1_i32 : BitVec 32 := 1#32
  let v97 : BitVec 32 := Scalar.addi v96 c1_i32
  let c0_i32_74 : BitVec 32 := 0#32
  let v99 : BitVec 1 := Scalar.cmpi .sgt v97 c0_i32_74
  let v100 : BitVec 32 := Scalar.extui v99
  let c0_i32_75 : BitVec 32 := 0#32
  let v101 : BitVec 1 := Scalar.cmpi .slt v97 c0_i32_75
  let v102 : BitVec 32 := Scalar.extui v101
  let v103 : BitVec 32 := Scalar.subi v100 v102
  let c2_i32_73 : BitVec 32 := 2#32
  let c0_i32_76 : BitVec 32 := 0#32
  let v104 : BitVec 1 := Scalar.cmpi .sgt c2_i32_73 c0_i32_76
  let v105 : BitVec 32 := Scalar.extui v104
  let c0_i32_77 : BitVec 32 := 0#32
  let v106 : BitVec 1 := Scalar.cmpi .slt c2_i32_73 c0_i32_77
  let v107 : BitVec 32 := Scalar.extui v106
  let v108 : BitVec 32 := Scalar.subi v105 v107
  let v109 : BitVec 1 := Scalar.cmpi .ne v103 v108
  let v110 : BitVec 32 := Scalar.remsi v97 c2_i32_73
  let c0_i32_78 : BitVec 32 := 0#32
  let v111 : BitVec 1 := Scalar.cmpi .ne v110 c0_i32_78
  let v112 : BitVec 1 := Scalar.andi v109 v111
  let v98 : BitVec 32 := Scalar.divsi v97 c2_i32_73
  let c1_i32_79 : BitVec 32 := 1#32
  let v113 : BitVec 32 := Scalar.subi v98 c1_i32_79
  let v114 : BitVec 32 := Scalar.select v112 v113 v98
  let v115 : BitVec 32 := Scalar.subi v114 c0_i32_81
  let c1_i32_82 : BitVec 32 := 1#32
  let v117 : BitVec 32 := Scalar.divsi v115 c1_i32_82
  let v118 : BitVec 32 := Scalar.muli v117 c1_i32_82
  let v119 : BitVec 32 := Scalar.addi c0_i32_81 v118
  let c1_i32_84 : BitVec 32 := 1#32
  let arg22 : BitVec 32 := Scf.iv v119 c1_i32_84 k0_t2
  let v143 : BitVec 32 := Scalar.muli c2_i32_106 arg22
  let v144 : BitVec 32 := Scalar.addi v5 v143
  let c1_i32_240 : BitVec 32 := 1#32
  let v356 : BitVec 32 := Scalar.addi v144 c1_i32_240
  let c7_i32_241 : BitVec 32 := 7#32
  let v357 : BitVec 32 := Scalar.minsi v356 c7_i32_241
  let c256_i32_242 : BitVec 32 := 256#32
  let v358 : BitVec 32 := Scalar.muli v357 c256_i32_242
  v358
def k0_off26 (i : grid0.Coords) (k0_t2 : Fin (k0_t2_loop i).trips) : Fin 4 → Nat :=
  let c2_i32 : BitVec 32 := 2#32
  let arg2 : BitVec 32 := BitVec.ofNat 32 (i 2).val
  let v5 : BitVec 32 := Scalar.muli c2_i32 arg2
  let c2_i32_106 : BitVec 32 := 2#32
  let c0_i32_81 : BitVec 32 := 0#32
  let c8_i32_72 : BitVec 32 := 8#32
  let v96 : BitVec 32 := Scalar.subi c8_i32_72 v5
  let c1_i32 : BitVec 32 := 1#32
  let v97 : BitVec 32 := Scalar.addi v96 c1_i32
  let c0_i32_74 : BitVec 32 := 0#32
  let v99 : BitVec 1 := Scalar.cmpi .sgt v97 c0_i32_74
  let v100 : BitVec 32 := Scalar.extui v99
  let c0_i32_75 : BitVec 32 := 0#32
  let v101 : BitVec 1 := Scalar.cmpi .slt v97 c0_i32_75
  let v102 : BitVec 32 := Scalar.extui v101
  let v103 : BitVec 32 := Scalar.subi v100 v102
  let c2_i32_73 : BitVec 32 := 2#32
  let c0_i32_76 : BitVec 32 := 0#32
  let v104 : BitVec 1 := Scalar.cmpi .sgt c2_i32_73 c0_i32_76
  let v105 : BitVec 32 := Scalar.extui v104
  let c0_i32_77 : BitVec 32 := 0#32
  let v106 : BitVec 1 := Scalar.cmpi .slt c2_i32_73 c0_i32_77
  let v107 : BitVec 32 := Scalar.extui v106
  let v108 : BitVec 32 := Scalar.subi v105 v107
  let v109 : BitVec 1 := Scalar.cmpi .ne v103 v108
  let v110 : BitVec 32 := Scalar.remsi v97 c2_i32_73
  let c0_i32_78 : BitVec 32 := 0#32
  let v111 : BitVec 1 := Scalar.cmpi .ne v110 c0_i32_78
  let v112 : BitVec 1 := Scalar.andi v109 v111
  let v98 : BitVec 32 := Scalar.divsi v97 c2_i32_73
  let c1_i32_79 : BitVec 32 := 1#32
  let v113 : BitVec 32 := Scalar.subi v98 c1_i32_79
  let v114 : BitVec 32 := Scalar.select v112 v113 v98
  let v115 : BitVec 32 := Scalar.subi v114 c0_i32_81
  let c1_i32_82 : BitVec 32 := 1#32
  let v117 : BitVec 32 := Scalar.divsi v115 c1_i32_82
  let v118 : BitVec 32 := Scalar.muli v117 c1_i32_82
  let v119 : BitVec 32 := Scalar.addi c0_i32_81 v118
  let c1_i32_84 : BitVec 32 := 1#32
  let arg22 : BitVec 32 := Scf.iv v119 c1_i32_84 k0_t2
  let v143 : BitVec 32 := Scalar.muli c2_i32_106 arg22
  let v144 : BitVec 32 := Scalar.addi v5 v143
  let c1_i32_240 : BitVec 32 := 1#32
  let v356 : BitVec 32 := Scalar.addi v144 c1_i32_240
  let c7_i32_241 : BitVec 32 := 7#32
  let v357 : BitVec 32 := Scalar.minsi v356 c7_i32_241
  let v388 : Index := Scalar.indexCast v357
  let c0_252 : Index := 0#32
  let c0_253 : Index := 0#32
  let c0_254 : Index := 0#32
  ![v388.toNat, 0, 0, 0]
def k0_off27 (i : grid0.Coords) (k0_t2 : Fin (k0_t2_loop i).trips) : Fin 4 → Nat :=
  let c0_270 : Index := 0#32
  let c2_i32 : BitVec 32 := 2#32
  let arg2 : BitVec 32 := BitVec.ofNat 32 (i 2).val
  let v5 : BitVec 32 := Scalar.muli c2_i32 arg2
  let c2_i32_106 : BitVec 32 := 2#32
  let c0_i32_81 : BitVec 32 := 0#32
  let c8_i32_72 : BitVec 32 := 8#32
  let v96 : BitVec 32 := Scalar.subi c8_i32_72 v5
  let c1_i32 : BitVec 32 := 1#32
  let v97 : BitVec 32 := Scalar.addi v96 c1_i32
  let c0_i32_74 : BitVec 32 := 0#32
  let v99 : BitVec 1 := Scalar.cmpi .sgt v97 c0_i32_74
  let v100 : BitVec 32 := Scalar.extui v99
  let c0_i32_75 : BitVec 32 := 0#32
  let v101 : BitVec 1 := Scalar.cmpi .slt v97 c0_i32_75
  let v102 : BitVec 32 := Scalar.extui v101
  let v103 : BitVec 32 := Scalar.subi v100 v102
  let c2_i32_73 : BitVec 32 := 2#32
  let c0_i32_76 : BitVec 32 := 0#32
  let v104 : BitVec 1 := Scalar.cmpi .sgt c2_i32_73 c0_i32_76
  let v105 : BitVec 32 := Scalar.extui v104
  let c0_i32_77 : BitVec 32 := 0#32
  let v106 : BitVec 1 := Scalar.cmpi .slt c2_i32_73 c0_i32_77
  let v107 : BitVec 32 := Scalar.extui v106
  let v108 : BitVec 32 := Scalar.subi v105 v107
  let v109 : BitVec 1 := Scalar.cmpi .ne v103 v108
  let v110 : BitVec 32 := Scalar.remsi v97 c2_i32_73
  let c0_i32_78 : BitVec 32 := 0#32
  let v111 : BitVec 1 := Scalar.cmpi .ne v110 c0_i32_78
  let v112 : BitVec 1 := Scalar.andi v109 v111
  let v98 : BitVec 32 := Scalar.divsi v97 c2_i32_73
  let c1_i32_79 : BitVec 32 := 1#32
  let v113 : BitVec 32 := Scalar.subi v98 c1_i32_79
  let v114 : BitVec 32 := Scalar.select v112 v113 v98
  let v115 : BitVec 32 := Scalar.subi v114 c0_i32_81
  let c1_i32_82 : BitVec 32 := 1#32
  let v117 : BitVec 32 := Scalar.divsi v115 c1_i32_82
  let v118 : BitVec 32 := Scalar.muli v117 c1_i32_82
  let v119 : BitVec 32 := Scalar.addi c0_i32_81 v118
  let c1_i32_84 : BitVec 32 := 1#32
  let arg22 : BitVec 32 := Scf.iv v119 c1_i32_84 k0_t2
  let v143 : BitVec 32 := Scalar.muli c2_i32_106 arg22
  let v144 : BitVec 32 := Scalar.addi v5 v143
  let c1_i32_240 : BitVec 32 := 1#32
  let v356 : BitVec 32 := Scalar.addi v144 c1_i32_240
  let c7_i32_241 : BitVec 32 := 7#32
  let v357 : BitVec 32 := Scalar.minsi v356 c7_i32_241
  let v415 : Index := Scalar.indexCast v357
  let c0_271 : Index := 0#32
  let c0_272 : Index := 0#32
  ![0, v415.toNat, 0, 0]
def k0_off28 (i : grid0.Coords) (k0_t2 : Fin (k0_t2_loop i).trips) : Fin 4 → Nat :=
  let c2_i32 : BitVec 32 := 2#32
  let arg2 : BitVec 32 := BitVec.ofNat 32 (i 2).val
  let v5 : BitVec 32 := Scalar.muli c2_i32 arg2
  let c2_i32_106 : BitVec 32 := 2#32
  let c0_i32_81 : BitVec 32 := 0#32
  let c8_i32_72 : BitVec 32 := 8#32
  let v96 : BitVec 32 := Scalar.subi c8_i32_72 v5
  let c1_i32 : BitVec 32 := 1#32
  let v97 : BitVec 32 := Scalar.addi v96 c1_i32
  let c0_i32_74 : BitVec 32 := 0#32
  let v99 : BitVec 1 := Scalar.cmpi .sgt v97 c0_i32_74
  let v100 : BitVec 32 := Scalar.extui v99
  let c0_i32_75 : BitVec 32 := 0#32
  let v101 : BitVec 1 := Scalar.cmpi .slt v97 c0_i32_75
  let v102 : BitVec 32 := Scalar.extui v101
  let v103 : BitVec 32 := Scalar.subi v100 v102
  let c2_i32_73 : BitVec 32 := 2#32
  let c0_i32_76 : BitVec 32 := 0#32
  let v104 : BitVec 1 := Scalar.cmpi .sgt c2_i32_73 c0_i32_76
  let v105 : BitVec 32 := Scalar.extui v104
  let c0_i32_77 : BitVec 32 := 0#32
  let v106 : BitVec 1 := Scalar.cmpi .slt c2_i32_73 c0_i32_77
  let v107 : BitVec 32 := Scalar.extui v106
  let v108 : BitVec 32 := Scalar.subi v105 v107
  let v109 : BitVec 1 := Scalar.cmpi .ne v103 v108
  let v110 : BitVec 32 := Scalar.remsi v97 c2_i32_73
  let c0_i32_78 : BitVec 32 := 0#32
  let v111 : BitVec 1 := Scalar.cmpi .ne v110 c0_i32_78
  let v112 : BitVec 1 := Scalar.andi v109 v111
  let v98 : BitVec 32 := Scalar.divsi v97 c2_i32_73
  let c1_i32_79 : BitVec 32 := 1#32
  let v113 : BitVec 32 := Scalar.subi v98 c1_i32_79
  let v114 : BitVec 32 := Scalar.select v112 v113 v98
  let v115 : BitVec 32 := Scalar.subi v114 c0_i32_81
  let c1_i32_82 : BitVec 32 := 1#32
  let v117 : BitVec 32 := Scalar.divsi v115 c1_i32_82
  let v118 : BitVec 32 := Scalar.muli v117 c1_i32_82
  let v119 : BitVec 32 := Scalar.addi c0_i32_81 v118
  let c1_i32_84 : BitVec 32 := 1#32
  let arg22 : BitVec 32 := Scf.iv v119 c1_i32_84 k0_t2
  let v143 : BitVec 32 := Scalar.muli c2_i32_106 arg22
  let v144 : BitVec 32 := Scalar.addi v5 v143
  let c1_i32_240 : BitVec 32 := 1#32
  let v356 : BitVec 32 := Scalar.addi v144 c1_i32_240
  let c7_i32_241 : BitVec 32 := 7#32
  let v357 : BitVec 32 := Scalar.minsi v356 c7_i32_241
  let v424 : Index := Scalar.indexCast v357
  let c1_277 : Index := 1#32
  let c0_278 : Index := 0#32
  let c0_279 : Index := 0#32
  ![v424.toNat, 1, 0, 0]
def k0_off29 (i : grid0.Coords) (k0_t2 : Fin (k0_t2_loop i).trips) : Fin 4 → Nat :=
  let c1_295 : Index := 1#32
  let c2_i32 : BitVec 32 := 2#32
  let arg2 : BitVec 32 := BitVec.ofNat 32 (i 2).val
  let v5 : BitVec 32 := Scalar.muli c2_i32 arg2
  let c2_i32_106 : BitVec 32 := 2#32
  let c0_i32_81 : BitVec 32 := 0#32
  let c8_i32_72 : BitVec 32 := 8#32
  let v96 : BitVec 32 := Scalar.subi c8_i32_72 v5
  let c1_i32 : BitVec 32 := 1#32
  let v97 : BitVec 32 := Scalar.addi v96 c1_i32
  let c0_i32_74 : BitVec 32 := 0#32
  let v99 : BitVec 1 := Scalar.cmpi .sgt v97 c0_i32_74
  let v100 : BitVec 32 := Scalar.extui v99
  let c0_i32_75 : BitVec 32 := 0#32
  let v101 : BitVec 1 := Scalar.cmpi .slt v97 c0_i32_75
  let v102 : BitVec 32 := Scalar.extui v101
  let v103 : BitVec 32 := Scalar.subi v100 v102
  let c2_i32_73 : BitVec 32 := 2#32
  let c0_i32_76 : BitVec 32 := 0#32
  let v104 : BitVec 1 := Scalar.cmpi .sgt c2_i32_73 c0_i32_76
  let v105 : BitVec 32 := Scalar.extui v104
  let c0_i32_77 : BitVec 32 := 0#32
  let v106 : BitVec 1 := Scalar.cmpi .slt c2_i32_73 c0_i32_77
  let v107 : BitVec 32 := Scalar.extui v106
  let v108 : BitVec 32 := Scalar.subi v105 v107
  let v109 : BitVec 1 := Scalar.cmpi .ne v103 v108
  let v110 : BitVec 32 := Scalar.remsi v97 c2_i32_73
  let c0_i32_78 : BitVec 32 := 0#32
  let v111 : BitVec 1 := Scalar.cmpi .ne v110 c0_i32_78
  let v112 : BitVec 1 := Scalar.andi v109 v111
  let v98 : BitVec 32 := Scalar.divsi v97 c2_i32_73
  let c1_i32_79 : BitVec 32 := 1#32
  let v113 : BitVec 32 := Scalar.subi v98 c1_i32_79
  let v114 : BitVec 32 := Scalar.select v112 v113 v98
  let v115 : BitVec 32 := Scalar.subi v114 c0_i32_81
  let c1_i32_82 : BitVec 32 := 1#32
  let v117 : BitVec 32 := Scalar.divsi v115 c1_i32_82
  let v118 : BitVec 32 := Scalar.muli v117 c1_i32_82
  let v119 : BitVec 32 := Scalar.addi c0_i32_81 v118
  let c1_i32_84 : BitVec 32 := 1#32
  let arg22 : BitVec 32 := Scf.iv v119 c1_i32_84 k0_t2
  let v143 : BitVec 32 := Scalar.muli c2_i32_106 arg22
  let v144 : BitVec 32 := Scalar.addi v5 v143
  let c1_i32_240 : BitVec 32 := 1#32
  let v356 : BitVec 32 := Scalar.addi v144 c1_i32_240
  let c7_i32_241 : BitVec 32 := 7#32
  let v357 : BitVec 32 := Scalar.minsi v356 c7_i32_241
  let v451 : Index := Scalar.indexCast v357
  let c0_296 : Index := 0#32
  let c0_297 : Index := 0#32
  ![1, v451.toNat, 0, 0]
def k0_cond2 (i : grid0.Coords) : BitVec 1 :=
  let arg2 : BitVec 32 := BitVec.ofNat 32 (i 2).val
  let c3_i32 : BitVec 32 := 3#32
  let v140 : BitVec 1 := Scalar.cmpi .eq arg2 c3_i32
  let v141 : BitVec 32 := Scalar.extui v140
  let c0_i32_105 : BitVec 32 := 0#32
  let v142 : BitVec 1 := Scalar.cmpi .ne v141 c0_i32_105
  v142

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c3_i32 : BitVec 32 := 3#32
  let v2 : BitVec 32 := Scalar.addi c3_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c6_i32 : BitVec 32 := 6#32
  let v2 : BitVec 32 := Scalar.addi c6_i32 arg1
  let c0_i32 : BitVec 32 := 0#32
  ![v1.toNat, v2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, arg2.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![arg1.toNat, v1.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S9x512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S8x2x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S8x2x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x2x2x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S2048x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]
-- ==== FoxReferenceIdeal.lean ====
abbrev S4x2048x384 : Shape := ⟨3, ![4, 2048, 384]⟩
abbrev S4x2048x6 : Shape := ⟨3, ![4, 2048, 6]⟩
abbrev S_ : Shape := ⟨0, ![]⟩
abbrev S4x2048x6x64 : Shape := ⟨4, ![4, 2048, 6, 64]⟩
abbrev S4x6x2048x2048 : Shape := ⟨4, ![4, 6, 2048, 2048]⟩
abbrev S4x6x2048 : Shape := ⟨3, ![4, 6, 2048]⟩
abbrev S4x6x2048x1 : Shape := ⟨4, ![4, 6, 2048, 1]⟩
abbrev S4x6x1x2048 : Shape := ⟨4, ![4, 6, 1, 2048]⟩
abbrev S2048x2048 : Shape := ⟨2, ![2048, 2048]⟩
abbrev S4x6x64x2048 : Shape := ⟨4, ![4, 6, 64, 2048]⟩
abbrev S4x6x2048x64 : Shape := ⟨4, ![4, 6, 2048, 64]⟩
abbrev S8192x384 : Shape := ⟨2, ![8192, 384]⟩
abbrev S8192x3x2x1 : Shape := ⟨4, ![8192, 3, 2, 1]⟩
abbrev S8192x3x2x64 : Shape := ⟨4, ![8192, 3, 2, 64]⟩

abbrev nBuf : Space → Nat
  | .hbm => 133
  | .vmem => 0
  | .smem => 0
  | _ => 0

abbrev hbmTy0_0 (i : Nat) : BufTy := match i % 128 with
  | 0 => ⟨S4x2048x384, .f32⟩
  | 1 => ⟨S4x2048x384, .f32⟩
  | 2 => ⟨S4x2048x384, .f32⟩
  | 3 => ⟨S4x2048x6, .f32⟩
  | 4 => ⟨S4x2048x384, .f32⟩
  | 5 => ⟨S_, .f32⟩
  | 6 => ⟨S_, .f32⟩
  | 7 => ⟨S4x2048x6, .f32⟩
  | 8 => ⟨S4x2048x6x64, .f32⟩
  | 9 => ⟨S4x2048x6x64, .f32⟩
  | 10 => ⟨S4x2048x6x64, .f32⟩
  | 11 => ⟨S4x6x2048x2048, .f32⟩
  | 12 => ⟨S_, .f32⟩
  | 13 => ⟨S4x6x2048x2048, .f32⟩
  | 14 => ⟨S4x6x2048x2048, .f32⟩
  | 15 => ⟨S4x6x2048, .f32⟩
  | 16 => ⟨S4x6x2048x1, .f32⟩
  | 17 => ⟨S4x6x2048x2048, .f32⟩
  | 18 => ⟨S4x6x2048x2048, .f32⟩
  | 19 => ⟨S4x6x2048, .f32⟩
  | 20 => ⟨S4x6x1x2048, .f32⟩
  | 21 => ⟨S4x6x2048x2048, .f32⟩
  | 22 => ⟨S4x6x2048x2048, .f32⟩
  | 23 => ⟨S2048x2048, .i32⟩
  | 24 => ⟨S2048x2048, .i32⟩
  | 25 => ⟨S2048x2048, .i1⟩
  | 26 => ⟨S_, .f32⟩
  | 27 => ⟨S_, .f32⟩
  | 28 => ⟨S4x6x2048x2048, .i1⟩
  | 29 => ⟨S4x6x2048x2048, .f32⟩
  | 30 => ⟨S4x6x2048x2048, .f32⟩
  | 31 => ⟨S_, .f32⟩
  | 32 => ⟨S4x6x2048x2048, .f32⟩
  | 33 => ⟨S_, .f32⟩
  | 34 => ⟨S4x6x2048, .f32⟩
  | 35 => ⟨S4x6x2048x1, .f32⟩
  | 36 => ⟨S4x6x2048x2048, .f32⟩
  | 37 => ⟨S4x6x2048x2048, .i1⟩
  | 38 => ⟨S4x6x2048x2048, .f32⟩
  | 39 => ⟨S_, .f32⟩
  | 40 => ⟨S4x6x2048, .f32⟩
  | 41 => ⟨S_, .f32⟩
  | 42 => ⟨S4x6x2048, .f32⟩
  | 43 => ⟨S4x6x2048, .f32⟩
  | 44 => ⟨S_, .f32⟩
  | 45 => ⟨S4x6x2048, .f32⟩
  | 46 => ⟨S4x6x2048, .i1⟩
  | 47 => ⟨S_, .f32⟩
  | 48 => ⟨S4x6x2048, .f32⟩
  | 49 => ⟨S4x6x2048, .i1⟩
  | 50 => ⟨S_, .f32⟩
  | 51 => ⟨S4x6x2048, .f32⟩
  | 52 => ⟨S_, .f32⟩
  | 53 => ⟨S4x6x2048, .f32⟩
  | 54 => ⟨S_, .f32⟩
  | 55 => ⟨S4x6x2048, .f32⟩
  | 56 => ⟨S4x6x2048, .f32⟩
  | 57 => ⟨S4x6x2048, .f32⟩
  | 58 => ⟨S4x6x2048x1, .f32⟩
  | 59 => ⟨S4x6x2048x2048, .f32⟩
  | 60 => ⟨S4x6x2048x2048, .f32⟩
  | 61 => ⟨S4x6x2048x2048, .f32⟩
  | 62 => ⟨S_, .f32⟩
  | 63 => ⟨S4x6x2048, .f32⟩
  | 64 => ⟨S4x6x2048x1, .f32⟩
  | 65 => ⟨S4x6x2048x2048, .f32⟩
  | 66 => ⟨S4x6x2048x2048, .f32⟩
  | 67 => ⟨S4x6x2048x1, .f32⟩
  | 68 => ⟨S_, .f32⟩
  | 69 => ⟨S4x6x2048x1, .f32⟩
  | 70 => ⟨S4x6x2048x1, .f32⟩
  | 71 => ⟨S4x6x64x2048, .f32⟩
  | 72 => ⟨S4x2048x6x64, .f32⟩
  | 73 => ⟨S4x2048x384, .f32⟩
  | 74 => ⟨S4x2048x6x64, .f32⟩
  | 75 => ⟨S4x6x64x2048, .f32⟩
  | 76 => ⟨S4x6x2048x2048, .f32⟩
  | 77 => ⟨S4x6x64x2048, .f32⟩
  | 78 => ⟨S4x2048x6x64, .f32⟩
  | 79 => ⟨S4x6x2048x2048, .f32⟩
  | 80 => ⟨S4x6x2048x2048, .f32⟩
  | 81 => ⟨S4x6x2048x2048, .f32⟩
  | 82 => ⟨S_, .f32⟩
  | 83 => ⟨S4x6x2048, .f32⟩
  | 84 => ⟨S4x6x2048x1, .f32⟩
  | 85 => ⟨S4x6x2048x1, .f32⟩
  | 86 => ⟨S4x6x2048x2048, .f32⟩
  | 87 => ⟨S4x6x2048x2048, .f32⟩
  | 88 => ⟨S_, .f32⟩
  | 89 => ⟨S4x6x2048, .f32⟩
  | 90 => ⟨S4x6x2048x2048, .f32⟩
  | 91 => ⟨S4x6x2048x2048, .f32⟩
  | 92 => ⟨S4x6x2048x2048, .f32⟩
  | 93 => ⟨S_, .f32⟩
  | 94 => ⟨S4x6x2048x2048, .f32⟩
  | 95 => ⟨S4x6x2048x2048, .f32⟩
  | 96 => ⟨S4x6x2048x2048, .f32⟩
  | 97 => ⟨S_, .f32⟩
  | 98 => ⟨S4x6x2048, .f32⟩
  | 99 => ⟨S4x6x1x2048, .f32⟩
  | 100 => ⟨S_, .f32⟩
  | 101 => ⟨S4x6x2048, .f32⟩
  | 102 => ⟨S4x2048x6, .f32⟩
  | 103 => ⟨S_, .f32⟩
  | 104 => ⟨S4x6x2048, .f32⟩
  | 105 => ⟨S4x6x2048x1, .f32⟩
  | 106 => ⟨S_, .f32⟩
  | 107 => ⟨S4x6x2048, .f32⟩
  | 108 => ⟨S4x2048x6, .f32⟩
  | 109 => ⟨S_, .f32⟩
  | 110 => ⟨S4x6x2048x2048, .f32⟩
  | 111 => ⟨S4x6x2048x2048, .f32⟩
  | 112 => ⟨S4x6x2048x64, .f32⟩
  | 113 => ⟨S4x2048x6x64, .f32⟩
  | 114 => ⟨S4x6x2048x64, .f32⟩
  | 115 => ⟨S4x2048x6x64, .f32⟩
  | 116 => ⟨S4x2048x384, .f32⟩
  | 117 => ⟨S4x2048x384, .f32⟩
  | 118 => ⟨S4x2048x384, .f32⟩
  | 119 => ⟨S8192x384, .f32⟩
  | 120 => ⟨S8192x384, .f32⟩
  | 121 => ⟨S8192x384, .bf16⟩
  | 122 => ⟨S8192x384, .f32⟩
  | 123 => ⟨S8192x384, .bf16⟩
  | 124 => ⟨S8192x3x2x1, .f32⟩
  | 125 => ⟨S8192x3x2x1, .f32⟩
  | 126 => ⟨S8192x3x2x64, .f32⟩
  | 127 => ⟨S8192x384, .f32⟩
  | _ => ⟨S4x2048x384, .f32⟩

abbrev hbmTy0_1 (i : Nat) : BufTy := match i % 128 with
  | 0 => ⟨S4x2048x6, .f32⟩
  | 1 => ⟨S8192x3x2x1, .f32⟩
  | 2 => ⟨S8192x3x2x1, .f32⟩
  | 3 => ⟨S8192x3x2x64, .f32⟩
  | 4 => ⟨S8192x384, .f32⟩
  | _ => ⟨S4x2048x384, .f32⟩

abbrev hbmTy (i : Nat) : BufTy := match i / 128 with
  | 0 => hbmTy0_0 i
  | 1 => hbmTy0_1 i
  | _ => ⟨S4x2048x384, .f32⟩

abbrev bufTy : (tb : Table) → Fin (tcTables nBuf tb) → BufTy
  | .hbm, ⟨i, _⟩ => hbmTy i
  | _, _ => ⟨S4x2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_cst : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_call1_v0 : Ref sig .tc := ⟨.hbm, 27, rfl⟩
abbrev main_v18_1 : Ref sig .tc := ⟨.hbm, 28, rfl⟩
abbrev main_call1_v2 : Ref sig .tc := ⟨.hbm, 29, rfl⟩
abbrev main_v18_0 : Ref sig .tc := ⟨.hbm, 30, rfl⟩
abbrev main_call1_cst : Ref sig .tc := ⟨.hbm, 31, rfl⟩
abbrev main_v18_2 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_cst_8 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_10 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_12 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_call2_cst : Ref sig .tc := ⟨.hbm, 93, rfl⟩
abbrev main_call2_v0 : Ref sig .tc := ⟨.hbm, 94, rfl⟩
abbrev main_v67 : Ref sig .tc := ⟨.hbm, 95, rfl⟩
abbrev main_v68 : Ref sig .tc := ⟨.hbm, 96, rfl⟩
abbrev main_cst_13 : Ref sig .tc := ⟨.hbm, 97, rfl⟩
abbrev main_v69 : Ref sig .tc := ⟨.hbm, 98, rfl⟩
abbrev main_v70 : Ref sig .tc := ⟨.hbm, 99, rfl⟩
abbrev main_cst_14 : Ref sig .tc := ⟨.hbm, 100, rfl⟩
abbrev main_v71 : Ref sig .tc := ⟨.hbm, 101, rfl⟩
abbrev main_v72 : Ref sig .tc := ⟨.hbm, 102, rfl⟩
abbrev main_cst_15 : Ref sig .tc := ⟨.hbm, 103, rfl⟩
abbrev main_v73 : Ref sig .tc := ⟨.hbm, 104, rfl⟩
abbrev main_v74 : Ref sig .tc := ⟨.hbm, 105, rfl⟩
abbrev main_cst_16 : Ref sig .tc := ⟨.hbm, 106, rfl⟩
abbrev main_v75 : Ref sig .tc := ⟨.hbm, 107, rfl⟩
abbrev main_v76 : Ref sig .tc := ⟨.hbm, 108, rfl⟩
abbrev main_cst_17 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩

abbrev nD : Nat := 1
abbrev τ : Topo := Topo.v7x

variable {F : FTy → Type} [FloatOps F]
-- ==== GateKernel.lean ====
abbrev S8192x384 : Shape := ⟨2, ![8192, 384]⟩
abbrev S4x2048x2822 : Shape := ⟨3, ![4, 2048, 2822]⟩
abbrev S6 : Shape := ⟨1, ![6]⟩
abbrev S_ : Shape := ⟨0, ![]⟩
abbrev S4x2048x250 : Shape := ⟨3, ![4, 2048, 250]⟩
abbrev S4x2048x1152 : Shape := ⟨3, ![4, 2048, 1152]⟩
abbrev S4x2048x1664 : Shape := ⟨3, ![4, 2048, 1664]⟩
abbrev S4x2048x6 : Shape := ⟨3, ![4, 2048, 6]⟩
abbrev S4x2048x3072 : Shape := ⟨3, ![4, 2048, 3072]⟩
abbrev S4x2048x768 : Shape := ⟨3, ![4, 2048, 768]⟩
abbrev S8192x768 : Shape := ⟨2, ![8192, 768]⟩
abbrev S122 : Shape := ⟨1, ![122]⟩
abbrev S128 : Shape := ⟨1, ![128]⟩
abbrev S1x128 : Shape := ⟨2, ![1, 128]⟩
abbrev S8192x128 : Shape := ⟨2, ![8192, 128]⟩
abbrev S2048x384 : Shape := ⟨2, ![2048, 384]⟩
abbrev S2048x128 : Shape := ⟨2, ![2048, 128]⟩
abbrev S256x256 : Shape := ⟨2, ![256, 256]⟩
abbrev S384x128 : Shape := ⟨2, ![384, 128]⟩
abbrev S256x384 : Shape := ⟨2, ![256, 384]⟩
abbrev S256x128 : Shape := ⟨2, ![256, 128]⟩

abbrev nBuf : Space → Nat
  | .hbm => 18
  | .vmem => 10
  | .smem => 0
  | _ => 0

abbrev bufTy : (tb : Table) → Fin (tcTables nBuf tb) → BufTy
  | .hbm, ⟨0, _⟩ => ⟨S8192x384, .f32⟩
  | .hbm, ⟨1, _⟩ => ⟨S8192x384, .f32⟩
  | .hbm, ⟨2, _⟩ => ⟨S4x2048x2822, .f32⟩
  | .hbm, ⟨3, _⟩ => ⟨S6, .f32⟩
  | .hbm, ⟨4, _⟩ => ⟨S_, .f32⟩
  | .hbm, ⟨5, _⟩ => ⟨S4x2048x250, .f32⟩
  | .hbm, ⟨6, _⟩ => ⟨S4x2048x1152, .f32⟩
  | .hbm, ⟨7, _⟩ => ⟨S4x2048x1664, .f32⟩
  | .hbm, ⟨8, _⟩ => ⟨S4x2048x6, .f32⟩
  | .hbm, ⟨9, _⟩ => ⟨S4x2048x3072, .f32⟩
  | .hbm, ⟨10, _⟩ => ⟨S4x2048x768, .f32⟩
  | .hbm, ⟨11, _⟩ => ⟨S8192x768, .f32⟩
  | .hbm, ⟨12, _⟩ => ⟨S_, .f32⟩
  | .hbm, ⟨13, _⟩ => ⟨S122, .f32⟩
  | .hbm, ⟨14, _⟩ => ⟨S128, .f32⟩
  | .hbm, ⟨15, _⟩ => ⟨S1x128, .f32⟩
  | .hbm, ⟨16, _⟩ => ⟨S8192x128, .bf16⟩
  | .hbm, ⟨17, _⟩ => ⟨S1x128, .f32⟩
  | .local _ .vmem, ⟨0, _⟩ => ⟨S2048x384, .f32⟩
  | .local _ .vmem, ⟨1, _⟩ => ⟨S2048x384, .f32⟩
  | .local _ .vmem, ⟨2, _⟩ => ⟨S2048x384, .f32⟩
  | .local _ .vmem, ⟨3, _⟩ => ⟨S2048x384, .f32⟩
  | .local _ .vmem, ⟨4, _⟩ => ⟨S2048x128, .f32⟩
  | .local _ .vmem, ⟨5, _⟩ => ⟨S2048x128, .f32⟩
  | .local _ .vmem, ⟨6, _⟩ => ⟨S1x128, .f32⟩
  | .local _ .vmem, ⟨7, _⟩ => ⟨S2048x128, .bf16⟩
  | .local _ .vmem, ⟨8, _⟩ => ⟨S2048x128, .bf16⟩
  | .local _ .vmem, ⟨9, _⟩ => ⟨S1x128, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== GateReferenceIdeal.lean ====
abbrev S8192x384 : Shape := ⟨2, ![8192, 384]⟩
abbrev S4x2048x2822 : Shape := ⟨3, ![4, 2048, 2822]⟩
abbrev S6 : Shape := ⟨1, ![6]⟩
abbrev S4x2048x6 : Shape := ⟨3, ![4, 2048, 6]⟩
abbrev S1x1x6 : Shape := ⟨3, ![1, 1, 6]⟩
abbrev S_ : Shape := ⟨0, ![]⟩
abbrev S4x2048x3x2x64 : Shape := ⟨5, ![4, 2048, 3, 2, 64]⟩
abbrev S4x2048x3x2x1 : Shape := ⟨5, ![4, 2048, 3, 2, 1]⟩
abbrev S4x2048x3x2 : Shape := ⟨4, ![4, 2048, 3, 2]⟩
abbrev S4x2048x122 : Shape := ⟨3, ![4, 2048, 122]⟩
abbrev S4x2048x128 : Shape := ⟨3, ![4, 2048, 128]⟩
abbrev S8192x128 : Shape := ⟨2, ![8192, 128]⟩
abbrev S122 : Shape := ⟨1, ![122]⟩
abbrev S128 : Shape := ⟨1, ![128]⟩
abbrev S1x128 : Shape := ⟨2, ![1, 128]⟩

abbrev nBuf : Space → Nat
  | .hbm => 92
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S8192x384, .f32⟩
  | .hbm, ⟨2, _⟩ => ⟨S4x2048x2822, .f32⟩
  | .hbm, ⟨3, _⟩ => ⟨S6, .f32⟩
  | .hbm, ⟨4, _⟩ => ⟨S4x2048x6, .f32⟩
  | .hbm, ⟨5, _⟩ => ⟨S1x1x6, .f32⟩
  | .hbm, ⟨6, _⟩ => ⟨S4x2048x6, .f32⟩
  | .hbm, ⟨7, _⟩ => ⟨S4x2048x6, .f32⟩
  | .hbm, ⟨8, _⟩ => ⟨S4x2048x6, .f32⟩
  | .hbm, ⟨9, _⟩ => ⟨S_, .f32⟩
  | .hbm, ⟨10, _⟩ => ⟨S4x2048x6, .f32⟩
  | .hbm, ⟨11, _⟩ => ⟨S4x2048x6, .f32⟩
  | .hbm, ⟨12, _⟩ => ⟨S4x2048x6, .f32⟩
  | .hbm, ⟨13, _⟩ => ⟨S4x2048x6, .f32⟩
  | .hbm, ⟨14, _⟩ => ⟨S4x2048x6, .i1⟩
  | .hbm, ⟨15, _⟩ => ⟨S4x2048x6, .f32⟩
  | .hbm, ⟨16, _⟩ => ⟨S4x2048x6, .f32⟩
  | .hbm, ⟨17, _⟩ => ⟨S4x2048x6, .f32⟩
  | .hbm, ⟨18, _⟩ => ⟨S4x2048x6, .f32⟩
  | .hbm, ⟨19, _⟩ => ⟨S4x2048x6, .f32⟩
  | .hbm, ⟨20, _⟩ => ⟨S4x2048x6, .f32⟩
  | .hbm, ⟨21, _⟩ => ⟨S4x2048x6, .f32⟩
  | .hbm, ⟨22, _⟩ => ⟨S4x2048x6, .f32⟩
  | .hbm, ⟨23, _⟩ => ⟨S_, .f32⟩
  | .hbm, ⟨24, _⟩ => ⟨S4x2048x6, .f32⟩
  | .hbm, ⟨25, _⟩ => ⟨S4x2048x6, .i1⟩
  | .hbm, ⟨26, _⟩ => ⟨S_, .f32⟩
  | .hbm, ⟨27, _⟩ => ⟨S4x2048x6, .f32⟩
  | .hbm, ⟨28, _⟩ => ⟨S4x2048x6, .f32⟩
  | .hbm, ⟨29, _⟩ => ⟨S_, .f32⟩
  | .hbm, ⟨30, _⟩ => ⟨S4x2048x6, .f32⟩
  | .hbm, ⟨31, _⟩ => ⟨S4x2048x6, .i1⟩
  | .hbm, ⟨32, _⟩ => ⟨S_, .f32⟩
  | .hbm, ⟨33, _⟩ => ⟨S4x2048x6, .f32⟩
  | .hbm, ⟨34, _⟩ => ⟨S4x2048x6, .f32⟩
  | .hbm, ⟨35, _⟩ => ⟨S4x2048x6, .f32⟩
  | .hbm, ⟨36, _⟩ => ⟨S4x2048x6, .f32⟩
  | .hbm, ⟨37, _⟩ => ⟨S_, .f32⟩
  | .hbm, ⟨38, _⟩ => ⟨S_, .f32⟩
  | .hbm, ⟨39, _⟩ => ⟨S_, .i1⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4x2048x6, .f32⟩
  | .hbm, ⟨45, _⟩ => ⟨S4x2048x6, .i1⟩
  | .hbm, ⟨46, _⟩ => ⟨S_, .f32⟩
  | .hbm, ⟨47, _⟩ => ⟨S4x2048x6, .f32⟩
  | .hbm, ⟨48, _⟩ => ⟨S4x2048x6, .f32⟩
  | .hbm, ⟨49, _⟩ => ⟨S4x2048x6, .f32⟩
  | .hbm, ⟨50, _⟩ => ⟨S4x2048x6, .f32⟩
  | .hbm, ⟨51, _⟩ => ⟨S4x2048x6, .f32⟩
  | .hbm, ⟨52, _⟩ => ⟨S_, .f32⟩
  | .hbm, ⟨53, _⟩ => ⟨S4x2048x6, .f32⟩
  | .hbm, ⟨54, _⟩ => ⟨S4x2048x6, .f32⟩
  | .hbm, ⟨55, _⟩ => ⟨S4x2048x6, .f32⟩
  | .hbm, ⟨56, _⟩ => ⟨S_, .f32⟩
  | .hbm, ⟨57, _⟩ => ⟨S_, .f32⟩
  | .hbm, ⟨58, _⟩ => ⟨S4x2048x6, .f32⟩
  | .hbm, ⟨59, _⟩ => ⟨S4x2048x6, .f32⟩
  | .hbm, ⟨60, _⟩ => ⟨S4x2048x3x2x64, .f32⟩
  | .hbm, ⟨61, _⟩ => ⟨S4x2048x3x2x1, .f32⟩
  | .hbm, ⟨62, _⟩ => ⟨S4x2048x3x2x1, .f32⟩
  | .hbm, ⟨63, _⟩ => ⟨S4x2048x3x2, .f32⟩
  | .hbm, ⟨64, _⟩ => ⟨S4x2048x6, .f32⟩
  | .hbm, ⟨65, _⟩ => ⟨S4x2048x3x2x64, .f32⟩
  | .hbm, ⟨66, _⟩ => ⟨S4x2048x3x2x1, .f32⟩
  | .hbm, ⟨67, _⟩ => ⟨S4x2048x3x2x1, .f32⟩
  | .hbm, ⟨68, _⟩ => ⟨S4x2048x3x2, .f32⟩
  | .hbm, ⟨69, _⟩ => ⟨S4x2048x6, .f32⟩
  | .hbm, ⟨70, _⟩ => ⟨S4x2048x6, .f32⟩
  | .hbm, ⟨71, _⟩ => ⟨S4x2048x6, .f32⟩
  | .hbm, ⟨72, _⟩ => ⟨S_, .f32⟩
  | .hbm, ⟨73, _⟩ => ⟨S_, .f32⟩
  | .hbm, ⟨74, _⟩ => ⟨S4x2048x6, .f32⟩
  | .hbm, ⟨75, _⟩ => ⟨S4x2048x6, .f32⟩
  | .hbm, ⟨76, _⟩ => ⟨S4x2048x6, .f32⟩
  | .hbm, ⟨77, _⟩ => ⟨S4x2048x6, .f32⟩
  | .hbm, ⟨78, _⟩ => ⟨S_, .f32⟩
  | .hbm, ⟨79, _⟩ => ⟨S6, .f32⟩
  | .hbm, ⟨80, _⟩ => ⟨S1x1x6, .f32⟩
  | .hbm, ⟨81, _⟩ => ⟨S_, .f32⟩
  | .hbm, ⟨82, _⟩ => ⟨S6, .f32⟩
  | .hbm, ⟨83, _⟩ => ⟨S_, .f32⟩
  | .hbm, ⟨84, _⟩ => ⟨S4x2048x122, .f32⟩
  | .hbm, ⟨85, _⟩ => ⟨S4x2048x128, .f32⟩
  | .hbm, ⟨86, _⟩ => ⟨S8192x128, .f32⟩
  | .hbm, ⟨87, _⟩ => ⟨S8192x128, .bf16⟩
  | .hbm, ⟨88, _⟩ => ⟨S_, .f32⟩
  | .hbm, ⟨89, _⟩ => ⟨S122, .f32⟩
  | .hbm, ⟨90, _⟩ => ⟨S128, .f32⟩
  | .hbm, ⟨91, _⟩ => ⟨S1x128, .f32⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1_0 : Ref sig .tc := ⟨.hbm, 22, rfl⟩
abbrev main_call0_call0_cst_0 : Ref sig .tc := ⟨.hbm, 23, rfl⟩
abbrev main_call0_call0_v13 : Ref sig .tc := ⟨.hbm, 24, rfl⟩
abbrev main_call0_call0_v14 : Ref sig .tc := ⟨.hbm, 25, rfl⟩
abbrev main_call0_call0_cst_1 : Ref sig .tc := ⟨.hbm, 26, rfl⟩
abbrev main_call0_call0_v15 : Ref sig .tc := ⟨.hbm, 27, rfl⟩
abbrev main_call0_call0_v16 : Ref sig .tc := ⟨.hbm, 28, rfl⟩
abbrev main_call0_call0_cst_2 : Ref sig .tc := ⟨.hbm, 29, rfl⟩
abbrev main_call0_call0_v17 : Ref sig .tc := ⟨.hbm, 30, rfl⟩
abbrev main_call0_call0_v18 : Ref sig .tc := ⟨.hbm, 31, rfl⟩
abbrev main_call0_call0_cst_3 : Ref sig .tc := ⟨.hbm, 32, rfl⟩
abbrev main_call0_call0_v19 : Ref sig .tc := ⟨.hbm, 33, rfl⟩
abbrev main_call0_call0_v20 : Ref sig .tc := ⟨.hbm, 34, rfl⟩
abbrev main_call0_call0_v21 : Ref sig .tc := ⟨.hbm, 35, rfl⟩
abbrev main_v4_1 : Ref sig .tc := ⟨.hbm, 36, rfl⟩
abbrev main_call0_call0_cst_4 : Ref sig .tc := ⟨.hbm, 37, rfl⟩
abbrev main_call0_call0_cst_5 : Ref sig .tc := ⟨.hbm, 38, rfl⟩
abbrev main_call0_call0_v23 : Ref sig .tc := ⟨.hbm, 39, rfl⟩
abbrev main_call0_call0_cst_6 : Ref sig .tc := ⟨.hbm, 40, rfl⟩
abbrev main_call0_call0_cst_7 : Ref sig .tc := ⟨.hbm, 41, rfl⟩
abbrev main_call0_call0_v24 : Ref sig .tc := ⟨.hbm, 42, rfl⟩
abbrev main_call0_call0_cst_8 : Ref sig .tc := ⟨.hbm, 43, rfl⟩
abbrev main_call0_call0_v25 : Ref sig .tc := ⟨.hbm, 44, rfl⟩
abbrev main_call0_call0_v26 : Ref sig .tc := ⟨.hbm, 45, rfl⟩
abbrev main_call0_call0_cst_9 : Ref sig .tc := ⟨.hbm, 46, rfl⟩
abbrev main_call0_call0_v27 : Ref sig .tc := ⟨.hbm, 47, rfl⟩
abbrev main_call0_call0_v28 : Ref sig .tc := ⟨.hbm, 48, rfl⟩
abbrev main_call0_call0_v29 : Ref sig .tc := ⟨.hbm, 49, rfl⟩
abbrev main_call0_call0_v30 : Ref sig .tc := ⟨.hbm, 50, rfl⟩
abbrev main_call0_call0_v31 : Ref sig .tc := ⟨.hbm, 51, rfl⟩
abbrev main_call0_call0_cst_10 : Ref sig .tc := ⟨.hbm, 52, rfl⟩
abbrev main_call0_call0_v32 : Ref sig .tc := ⟨.hbm, 53, rfl⟩
abbrev main_v4_2 : Ref sig .tc := ⟨.hbm, 54, rfl⟩
abbrev main_v4_0 : Ref sig .tc := ⟨.hbm, 55, rfl⟩
abbrev main_call1_call0_cst : Ref sig .tc := ⟨.hbm, 56, rfl⟩
abbrev main_call1_call0_v0 : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_call2_call0_cst : Ref sig .tc := ⟨.hbm, 72, rfl⟩
abbrev main_call2_call0_v0 : Ref sig .tc := ⟨.hbm, 73, rfl⟩
abbrev main_v19 : Ref sig .tc := ⟨.hbm, 74, rfl⟩
abbrev main_call3_v0 : Ref sig .tc := ⟨.hbm, 75, rfl⟩
abbrev main_call3_v1 : Ref sig .tc := ⟨.hbm, 76, rfl⟩
abbrev main_v20 : Ref sig .tc := ⟨.hbm, 77, rfl⟩
abbrev main_cst : Ref sig .tc := ⟨.hbm, 78, rfl⟩
abbrev main_v21 : Ref sig .tc := ⟨.hbm, 79, rfl⟩
abbrev main_v22 : Ref sig .tc := ⟨.hbm, 80, rfl⟩
abbrev main_cst_0 : Ref sig .tc := ⟨.hbm, 81, rfl⟩
abbrev main_v23 : Ref sig .tc := ⟨.hbm, 82, rfl⟩
abbrev main_cst_1 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_cst_2 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩

abbrev nD : Nat := 1
abbrev τ : Topo := Topo.v7x

variable {F : FTy → Type} [FloatOps F]
-- ==== NormKernel.lean ====
abbrev S4x2048x1024 : Shape := ⟨3, ![4, 2048, 1024]⟩
abbrev S1024 : Shape := ⟨1, ![1024]⟩
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S4x2048x1024 : Shape := ⟨3, ![4, 2048, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x2048x1024, .f32⟩
  | .hbm, ⟨3, _⟩ => ⟨S_, .f32⟩
  | .hbm, ⟨4, _⟩ => ⟨S4x2048, .f32⟩
  | .hbm, ⟨5, _⟩ => ⟨S4x2048x1, .f32⟩
  | .hbm, ⟨6, _⟩ => ⟨S_, .f32⟩
  | .hbm, ⟨7, _⟩ => ⟨S4x2048x1, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S4x2048x1, .f32⟩
  | .hbm, ⟨13, _⟩ => ⟨S4x2048x1024, .f32⟩
  | .hbm, ⟨14, _⟩ => ⟨S4x2048x1024, .f32⟩
  | .hbm, ⟨15, _⟩ => ⟨S1x1x1024, .f32⟩
  | .hbm, ⟨16, _⟩ => ⟨S4x2048x1024, .f32⟩
  | .hbm, ⟨17, _⟩ => ⟨S4x2048x1024, .f32⟩
  | .hbm, ⟨18, _⟩ => ⟨S8192x1024, .f32⟩
  | .hbm, ⟨19, _⟩ => ⟨S8192x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== MmoKernel.lean ====
abbrev S4x2048x1024 : Shape := ⟨3, ![4, 2048, 1024]⟩
abbrev S1024x1024 : Shape := ⟨2, ![1024, 1024]⟩
abbrev S1024 : Shape := ⟨1, ![1024]⟩
abbrev S1x8192x1024 : Shape := ⟨3, ![1, 8192, 1024]⟩
abbrev S1x1024x1024 : Shape := ⟨3, ![1, 1024, 1024]⟩
abbrev S8192x1024 : Shape := ⟨2, ![8192, 1024]⟩
abbrev S1x1024 : Shape := ⟨2, ![1, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 10
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S4x2048x1024, .f32⟩
  | .hbm, ⟨3, _⟩ => ⟨S1024, .f32⟩
  | .hbm, ⟨4, _⟩ => ⟨S4x2048x1024, .bf16⟩
  | .hbm, ⟨5, _⟩ => ⟨S1x8192x1024, .bf16⟩
  | .hbm, ⟨6, _⟩ => ⟨S1024x1024, .bf16⟩
  | .hbm, ⟨7, _⟩ => ⟨S1x1024x1024, .bf16⟩
  | .hbm, ⟨8, _⟩ => ⟨S8192x1024, .f32⟩
  | .hbm, ⟨9, _⟩ => ⟨S1x1024, .f32⟩
  | .hbm, ⟨10, _⟩ => ⟨S8192x1024, .f32⟩
  | .hbm, ⟨11, _⟩ => ⟨S8192x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MmoReferenceIdeal.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S4x2048x1024, .f32⟩
  | .hbm, ⟨3, _⟩ => ⟨S1024, .f32⟩
  | .hbm, ⟨4, _⟩ => ⟨S4x2048x1024, .f32⟩
  | .hbm, ⟨5, _⟩ => ⟨S4x2048x1024, .f32⟩
  | .hbm, ⟨6, _⟩ => ⟨S8192x1024, .f32⟩
  | .hbm, ⟨7, _⟩ => ⟨S4x2048x1024, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S4x2048x1024, .f32⟩
  | .hbm, ⟨19, _⟩ => ⟨S4x2048x1024, .f32⟩
  | .hbm, ⟨20, _⟩ => ⟨S1x1x1024, .f32⟩
  | .hbm, ⟨21, _⟩ => ⟨S4x2048x1024, .f32⟩
  | .hbm, ⟨22, _⟩ => ⟨S4x2048x1024, .f32⟩
  | .hbm, ⟨23, _⟩ => ⟨S8192x1024, .f32⟩
  | .hbm, ⟨24, _⟩ => ⟨S8192x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== MmdKernel.lean ====
abbrev S4x2048x2816 : Shape := ⟨3, ![4, 2048, 2816]⟩
abbrev S2816x1024 : Shape := ⟨2, ![2816, 1024]⟩
abbrev S4x2048x1024 : Shape := ⟨3, ![4, 2048, 1024]⟩
abbrev S1024 : Shape := ⟨1, ![1024]⟩
abbrev S8192x4x704 : Shape := ⟨3, ![8192, 4, 704]⟩
abbrev S4x8192x704 : Shape := ⟨3, ![4, 8192, 704]⟩
abbrev S4x704x1024 : Shape := ⟨3, ![4, 704, 1024]⟩
abbrev S8192x1024 : Shape := ⟨2, ![8192, 1024]⟩
abbrev S1x1024 : Shape := ⟨2, ![1, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩

abbrev nBuf : Space → Nat
  | .hbm => 13
  | .vmem => 10
  | .smem => 0
  | _ => 0

abbrev bufTy : (tb : Table) → Fin (tcTables nBuf tb) → BufTy
  | .hbm, ⟨0, _⟩ => ⟨S4x2048x2816, .f32⟩
  | .hbm, ⟨1, _⟩ => ⟨S2816x1024, .f32⟩
  | .hbm, ⟨2, _⟩ => ⟨S4x2048x1024, .f32⟩
  | .hbm, ⟨3, _⟩ => ⟨S1024, .f32⟩
  | .hbm, ⟨4, _⟩ => ⟨S4x2048x2816, .bf16⟩
  | .hbm, ⟨5, _⟩ => ⟨S8192x4x704, .bf16⟩
  | .hbm, ⟨6, _⟩ => ⟨S4x8192x704, .bf16⟩
  | .hbm, ⟨7, _⟩ => ⟨S2816x1024, .bf16⟩
  | .hbm, ⟨8, _⟩ => ⟨S4x704x1024, .bf16⟩
  | .hbm, ⟨9, _⟩ => ⟨S8192x1024, .f32⟩
  | .hbm, ⟨10, _⟩ => ⟨S1x1024, .f32⟩
  | .hbm, ⟨11, _⟩ => ⟨S8192x1024, .f32⟩
  | .hbm, ⟨12, _⟩ => ⟨S8192x1024, .bf16⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MmdReferenceIdeal.lean ====
abbrev S4x2048x2816 : Shape := ⟨3, ![4, 2048, 2816]⟩
abbrev S2816x1024 : Shape := ⟨2, ![2816, 1024]⟩
abbrev S4x2048x1024 : Shape := ⟨3, ![4, 2048, 1024]⟩
abbrev S1024 : Shape := ⟨1, ![1024]⟩
abbrev S8192x1024 : Shape := ⟨2, ![8192, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4x2048x2816, .f32⟩
  | .hbm, ⟨1, _⟩ => ⟨S2816x1024, .f32⟩
  | .hbm, ⟨2, _⟩ => ⟨S4x2048x1024, .f32⟩
  | .hbm, ⟨3, _⟩ => ⟨S1024, .f32⟩
  | .hbm, ⟨4, _⟩ => ⟨S4x2048x1024, .f32⟩
  | .hbm, ⟨5, _⟩ => ⟨S4x2048x1024, .f32⟩
  | .hbm, ⟨6, _⟩ => ⟨S8192x1024, .f32⟩
  | .hbm, ⟨7, _⟩ => ⟨S4x2048x1024, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S4x2048x1024, .f32⟩
  | .hbm, ⟨19, _⟩ => ⟨S4x2048x1024, .f32⟩
  | .hbm, ⟨20, _⟩ => ⟨S1x1x1024, .f32⟩
  | .hbm, ⟨21, _⟩ => ⟨S4x2048x1024, .f32⟩
  | .hbm, ⟨22, _⟩ => ⟨S4x2048x1024, .f32⟩
  | .hbm, ⟨23, _⟩ => ⟨S8192x1024, .f32⟩
  | .hbm, ⟨24, _⟩ => ⟨S8192x1024, .bf16⟩
  | _, _ => ⟨S4x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== DyKernel.lean ====
abbrev S4x2048x1024 : Shape := ⟨3, ![4, 2048, 1024]⟩
abbrev S1024x1024 : Shape := ⟨2, ![1024, 1024]⟩
abbrev S8192x1024 : Shape := ⟨2, ![8192, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S8192x1024, .f32⟩
  | .hbm, ⟨3, _⟩ => ⟨S1024x1024, .bf16⟩
  | .hbm, ⟨4, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DyReferenceIdeal.lean ====
abbrev S4x2048x1024 : Shape := ⟨3, ![4, 2048, 1024]⟩
abbrev S1024x1024 : Shape := ⟨2, ![1024, 1024]⟩
abbrev S_ : Shape := ⟨0, ![]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S_, .f32⟩
  | .hbm, ⟨3, _⟩ => ⟨S4x2048x1024, .f32⟩
  | .hbm, ⟨4, _⟩ => ⟨S4x2048x1024, .f32⟩
  | .hbm, ⟨5, _⟩ => ⟨S4x2048x1024, .f32⟩
  | .hbm, ⟨6, _⟩ => ⟨S8192x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== WgoKernel.lean ====
abbrev S4x2048x1024 : Shape := ⟨3, ![4, 2048, 1024]⟩
abbrev S1x8192x1024 : Shape := ⟨3, ![1, 8192, 1024]⟩
abbrev S1x1x1024x1024 : Shape := ⟨4, ![1, 1, 1024, 1024]⟩
abbrev S1x1024x1024 : Shape := ⟨3, ![1, 1024, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .bf16⟩
  | .hbm, ⟨3, _⟩ => ⟨S1x8192x1024, .bf16⟩
  | .hbm, ⟨4, _⟩ => ⟨S1x8192x1024, .f32⟩
  | .hbm, ⟨5, _⟩ => ⟨S1x1x1024x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S1x1x1024x1024, .bf16⟩
  | .local _ .vmem, ⟨5, _⟩ => ⟨S1x1x1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 8], ![false, false, false, false]⟩

def k0_cond2 (i : grid0.Coords) : BitVec 1 :=
  let arg3 : BitVec 32 := BitVec.ofNat 32 (i 3).val
  let c7_i32 : BitVec 32 := 7#32
  let v15 : BitVec 1 := Scalar.cmpi .eq arg3 c7_i32
  let v16 : BitVec 32 := Scalar.extui v15
  let c0_i32_14 : BitVec 32 := 0#32
  let v17 : BitVec 1 := Scalar.cmpi .ne v16 c0_i32_14
  v17

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg3.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat, arg2.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 1 → Memref sig .tc .vmem S1x1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true, false]
-- ==== WgoReferenceIdeal.lean ====
abbrev S4x2048x1024 : Shape := ⟨3, ![4, 2048, 1024]⟩
abbrev S_ : Shape := ⟨0, ![]⟩
abbrev S1024x1024 : Shape := ⟨2, ![1024, 1024]⟩
abbrev S1x1x1024x1024 : Shape := ⟨4, ![1, 1, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S_, .f32⟩
  | .hbm, ⟨3, _⟩ => ⟨S1024x1024, .f32⟩
  | .hbm, ⟨4, _⟩ => ⟨S4x2048x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | .hbm, ⟨8, _⟩ => ⟨S1x1x1024x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InpKernel.lean ====
abbrev S4x2048x1024 : Shape := ⟨3, ![4, 2048, 1024]⟩
abbrev S1024x3072 : Shape := ⟨2, ![1024, 3072]⟩
abbrev S8192x1024 : Shape := ⟨2, ![8192, 1024]⟩
abbrev S8192x2304 : Shape := ⟨2, ![8192, 2304]⟩
abbrev S8192x768 : Shape := ⟨2, ![8192, 768]⟩
abbrev S512x1024 : Shape := ⟨2, ![512, 1024]⟩
abbrev S512x2304 : Shape := ⟨2, ![512, 2304]⟩
abbrev S512x768 : Shape := ⟨2, ![512, 768]⟩
abbrev S1024x2304 : Shape := ⟨2, ![1024, 2304]⟩
abbrev S1024x768 : Shape := ⟨2, ![1024, 768]⟩

abbrev nBuf : Space → Nat
  | .hbm => 7
  | .vmem => 7
  | .smem => 0
  | _ => 0

abbrev bufTy : (tb : Table) → Fin (tcTables nBuf tb) → BufTy
  | .hbm, ⟨0, _⟩ => ⟨S4x2048x1024, .f32⟩
  | .hbm, ⟨1, _⟩ => ⟨S1024x3072, .f32⟩
  | .hbm, ⟨2, _⟩ => ⟨S4x2048x1024, .bf16⟩
  | .hbm, ⟨3, _⟩ => ⟨S8192x1024, .bf16⟩
  | .hbm, ⟨4, _⟩ => ⟨S1024x3072, .bf16⟩
  | .hbm, ⟨5, _⟩ => ⟨S8192x2304, .bf16⟩
  | .hbm, ⟨6, _⟩ => ⟨S8192x768, .f32⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S512x2304, .bf16⟩
  | .local _ .vmem, ⟨4, _⟩ => ⟨S512x2304, .bf16⟩
  | .local _ .vmem, ⟨5, _⟩ => ⟨S512x768, .f32⟩
  | .local _ .vmem, ⟨6, _⟩ => ⟨S512x768, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InpReferenceIdeal.lean ====
abbrev S4x2048x1024 : Shape := ⟨3, ![4, 2048, 1024]⟩
abbrev S1024x3072 : Shape := ⟨2, ![1024, 3072]⟩
abbrev S4x2048x3072 : Shape := ⟨3, ![4, 2048, 3072]⟩
abbrev S4x2048x2304 : Shape := ⟨3, ![4, 2048, 2304]⟩
abbrev S8192x2304 : Shape := ⟨2, ![8192, 2304]⟩
abbrev S4x2048x768 : Shape := ⟨3, ![4, 2048, 768]⟩
abbrev S8192x768 : Shape := ⟨2, ![8192, 768]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x3072, .f32⟩
  | .hbm, ⟨2, _⟩ => ⟨S4x2048x3072, .f32⟩
  | .hbm, ⟨3, _⟩ => ⟨S4x2048x2304, .f32⟩
  | .hbm, ⟨4, _⟩ => ⟨S4x2048x2304, .bf16⟩
  | .hbm, ⟨5, _⟩ => ⟨S8192x2304, .bf16⟩
  | .hbm, ⟨6, _⟩ => ⟨S4x2048x768, .f32⟩
  | .hbm, ⟨7, _⟩ => ⟨S8192x768, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== UpKernel.lean ====
abbrev S4x2048x1024 : Shape := ⟨3, ![4, 2048, 1024]⟩
abbrev S1024x5632 : Shape := ⟨2, ![1024, 5632]⟩
abbrev S3x5632 : Shape := ⟨2, ![3, 5632]⟩
abbrev S5632 : Shape := ⟨1, ![5632]⟩
abbrev S1024x2x4x704 : Shape := ⟨4, ![1024, 2, 4, 704]⟩
abbrev S2x4x1024x704 : Shape := ⟨4, ![2, 4, 1024, 704]⟩
abbrev S8192x1024 : Shape := ⟨2, ![8192, 1024]⟩
abbrev S3x2x4x704 : Shape := ⟨4, ![3, 2, 4, 704]⟩
abbrev S2x4x3x704 : Shape := ⟨4, ![2, 4, 3, 704]⟩
abbrev S1x2x4x704 : Shape := ⟨4, ![1, 2, 4, 704]⟩
abbrev S2x4x1x704 : Shape := ⟨4, ![2, 4, 1, 704]⟩
abbrev S2x4x8192x704 : Shape := ⟨4, ![2, 4, 8192, 704]⟩
abbrev S4x8192x704 : Shape := ⟨3, ![4, 8192, 704]⟩
abbrev S512x1024 : Shape := ⟨2, ![512, 1024]⟩
abbrev S8x1024 : Shape := ⟨2, ![8, 1024]⟩
abbrev S2x1x1024x704 : Shape := ⟨4, ![2, 1, 1024, 704]⟩
abbrev S2x1x3x704 : Shape := ⟨4, ![2, 1, 3, 704]⟩
abbrev S2x1x1x704 : Shape := ⟨4, ![2, 1, 1, 704]⟩
abbrev S2x1x512x704 : Shape := ⟨4, ![2, 1, 512, 704]⟩
abbrev S1x512x704 : Shape := ⟨3, ![1, 512, 704]⟩
abbrev S2x520x704 : Shape := ⟨3, ![2, 520, 704]⟩
abbrev S520x1024 : Shape := ⟨2, ![520, 1024]⟩
abbrev S1x1x1024x704 : Shape := ⟨4, ![1, 1, 1024, 704]⟩
abbrev S1024x704 : Shape := ⟨2, ![1024, 704]⟩
abbrev S520x704 : Shape := ⟨2, ![520, 704]⟩
abbrev S512x704 : Shape := ⟨2, ![512, 704]⟩
abbrev S1x1x512x704 : Shape := ⟨4, ![1, 1, 512, 704]⟩
abbrev S8x704 : Shape := ⟨2, ![8, 704]⟩
abbrev S1x8x704 : Shape := ⟨3, ![1, 8, 704]⟩
abbrev S1x1x3x704 : Shape := ⟨4, ![1, 1, 3, 704]⟩
abbrev S3x704 : Shape := ⟨2, ![3, 704]⟩
abbrev S1x1x1x704 : Shape := ⟨4, ![1, 1, 1, 704]⟩
abbrev S1x704 : Shape := ⟨2, ![1, 704]⟩

abbrev nBuf : Space → Nat
  | .hbm => 16
  | .vmem => 18
  | .smem => 0
  | _ => 0

abbrev bufTy : (tb : Table) → Fin (tcTables nBuf tb) → BufTy
  | .hbm, ⟨0, _⟩ => ⟨S4x2048x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S1024x5632, .bf16⟩
  | .hbm, ⟨5, _⟩ => ⟨S1024x2x4x704, .bf16⟩
  | .hbm, ⟨6, _⟩ => ⟨S2x4x1024x704, .bf16⟩
  | .hbm, ⟨7, _⟩ => ⟨S4x2048x1024, .bf16⟩
  | .hbm, ⟨8, _⟩ => ⟨S8192x1024, .bf16⟩
  | .hbm, ⟨9, _⟩ => ⟨S3x2x4x704, .f32⟩
  | .hbm, ⟨10, _⟩ => ⟨S2x4x3x704, .f32⟩
  | .hbm, ⟨11, _⟩ => ⟨S1x2x4x704, .f32⟩
  | .hbm, ⟨12, _⟩ => ⟨S2x4x1x704, .f32⟩
  | .hbm, ⟨13, _⟩ => ⟨S2x4x8192x704, .f32⟩
  | .hbm, ⟨14, _⟩ => ⟨S2x4x8192x704, .f32⟩
  | .hbm, ⟨15, _⟩ => ⟨S4x8192x704, .bf16⟩
  | .local _ .vmem, ⟨0, _⟩ => ⟨S512x1024, .bf16⟩
  | .local _ .vmem, ⟨1, _⟩ => ⟨S512x1024, .bf16⟩
  | .local _ .vmem, ⟨2, _⟩ => ⟨S8x1024, .bf16⟩
  | .local _ .vmem, ⟨3, _⟩ => ⟨S8x1024, .bf16⟩
  | .local _ .vmem, ⟨4, _⟩ => ⟨S2x1x1024x704, .bf16⟩
  | .local _ .vmem, ⟨5, _⟩ => ⟨S2x1x1024x704, .bf16⟩
  | .local _ .vmem, ⟨6, _⟩ => ⟨S2x1x3x704, .f32⟩
  | .local _ .vmem, ⟨7, _⟩ => ⟨S2x1x3x704, .f32⟩
  | .local _ .vmem, ⟨8, _⟩ => ⟨S2x1x1x704, .f32⟩
  | .local _ .vmem, ⟨9, _⟩ => ⟨S2x1x1x704, .f32⟩
  | .local _ .vmem, ⟨10, _⟩ => ⟨S2x1x512x704, .f32⟩
  | .local _ .vmem, ⟨11, _⟩ => ⟨S2x1x512x704, .f32⟩
  | .local _ .vmem, ⟨12, _⟩ => ⟨S2x1x512x704, .f32⟩
  | .local _ .vmem, ⟨13, _⟩ => ⟨S2x1x512x704, .f32⟩
  | .local _ .vmem, ⟨14, _⟩ => ⟨S1x512x704, .bf16⟩
  | .local _ .vmem, ⟨15, _⟩ => ⟨S1x512x704, .bf16⟩
  | .local _ .vmem, ⟨16, _⟩ => ⟨S2x520x704, .f32⟩
  | .local _ .vmem, ⟨17, _⟩ => ⟨S520x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1x3x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x1x1x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x1x512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1x512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== UpReferenceIdeal.lean ====
abbrev S4x2048x1024 : Shape := ⟨3, ![4, 2048, 1024]⟩
abbrev S1024x5632 : Shape := ⟨2, ![1024, 5632]⟩
abbrev S3x5632 : Shape := ⟨2, ![3, 5632]⟩
abbrev S5632 : Shape := ⟨1, ![5632]⟩
abbrev S4x2048x5632 : Shape := ⟨3, ![4, 2048, 5632]⟩
abbrev S_ : Shape := ⟨0, ![]⟩
abbrev S4x2050x5632 : Shape := ⟨3, ![4, 2050, 5632]⟩
abbrev S1x5632 : Shape := ⟨2, ![1, 5632]⟩
abbrev S1x1x5632 : Shape := ⟨3, ![1, 1, 5632]⟩
abbrev S4x2048x2816 : Shape := ⟨3, ![4, 2048, 2816]⟩
abbrev S8192x2x4x704 : Shape := ⟨4, ![8192, 2, 4, 704]⟩
abbrev S2x4x8192x704 : Shape := ⟨4, ![2, 4, 8192, 704]⟩
abbrev S8192x4x704 : Shape := ⟨3, ![8192, 4, 704]⟩
abbrev S4x8192x704 : Shape := ⟨3, ![4, 8192, 704]⟩

abbrev nBuf : Space → Nat
  | .hbm => 53
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S4x2048x5632, .f32⟩
  | .hbm, ⟨5, _⟩ => ⟨S_, .i32⟩
  | .hbm, ⟨6, _⟩ => ⟨S_, .f32⟩
  | .hbm, ⟨7, _⟩ => ⟨S4x2050x5632, .f32⟩
  | .hbm, ⟨8, _⟩ => ⟨S1x5632, .f32⟩
  | .hbm, ⟨9, _⟩ => ⟨S5632, .f32⟩
  | .hbm, ⟨10, _⟩ => ⟨S4x2048x5632, .f32⟩
  | .hbm, ⟨11, _⟩ => ⟨S1x1x5632, .f32⟩
  | .hbm, ⟨12, _⟩ => ⟨S4x2048x5632, .f32⟩
  | .hbm, ⟨13, _⟩ => ⟨S4x2048x5632, .f32⟩
  | .hbm, ⟨14, _⟩ => ⟨S_, .f32⟩
  | .hbm, ⟨15, _⟩ => ⟨S4x2048x5632, .f32⟩
  | .hbm, ⟨16, _⟩ => ⟨S4x2048x5632, .f32⟩
  | .hbm, ⟨17, _⟩ => ⟨S1x5632, .f32⟩
  | .hbm, ⟨18, _⟩ => ⟨S5632, .f32⟩
  | .hbm, ⟨19, _⟩ => ⟨S4x2048x5632, .f32⟩
  | .hbm, ⟨20, _⟩ => ⟨S1x1x5632, .f32⟩
  | .hbm, ⟨21, _⟩ => ⟨S4x2048x5632, .f32⟩
  | .hbm, ⟨22, _⟩ => ⟨S4x2048x5632, .f32⟩
  | .hbm, ⟨23, _⟩ => ⟨S4x2048x5632, .f32⟩
  | .hbm, ⟨24, _⟩ => ⟨S1x5632, .f32⟩
  | .hbm, ⟨25, _⟩ => ⟨S5632, .f32⟩
  | .hbm, ⟨26, _⟩ => ⟨S4x2048x5632, .f32⟩
  | .hbm, ⟨27, _⟩ => ⟨S1x1x5632, .f32⟩
  | .hbm, ⟨28, _⟩ => ⟨S4x2048x5632, .f32⟩
  | .hbm, ⟨29, _⟩ => ⟨S4x2048x5632, .f32⟩
  | .hbm, ⟨30, _⟩ => ⟨S4x2048x5632, .f32⟩
  | .hbm, ⟨31, _⟩ => ⟨S1x1x5632, .f32⟩
  | .hbm, ⟨32, _⟩ => ⟨S4x2048x5632, .f32⟩
  | .hbm, ⟨33, _⟩ => ⟨S4x2048x5632, .f32⟩
  | .hbm, ⟨34, _⟩ => ⟨S4x2048x2816, .f32⟩
  | .hbm, ⟨35, _⟩ => ⟨S4x2048x2816, .f32⟩
  | .hbm, ⟨36, _⟩ => ⟨S4x2048x2816, .f32⟩
  | .hbm, ⟨37, _⟩ => ⟨S_, .f32⟩
  | .hbm, ⟨38, _⟩ => ⟨S4x2048x2816, .f32⟩
  | .hbm, ⟨39, _⟩ => ⟨S4x2048x2816, .f32⟩
  | .hbm, ⟨40, _⟩ => ⟨S_, .f32⟩
  | .hbm, ⟨41, _⟩ => ⟨S4x2048x2816, .f32⟩
  | .hbm, ⟨42, _⟩ => ⟨S4x2048x2816, .f32⟩
  | .hbm, ⟨43, _⟩ => ⟨S4x2048x2816, .f32⟩
  | .hbm, ⟨44, _⟩ => ⟨S4x2048x2816, .f32⟩
  | .hbm, ⟨45, _⟩ => ⟨S4x2048x2816, .f32⟩
  | .hbm, ⟨46, _⟩ => ⟨S8192x2x4x704, .f32⟩
  | .hbm, ⟨47, _⟩ => ⟨S2x4x8192x704, .f32⟩
  | .hbm, ⟨48, _⟩ => ⟨S8192x2x4x704, .f32⟩
  | .hbm, ⟨49, _⟩ => ⟨S2x4x8192x704, .f32⟩
  | .hbm, ⟨50, _⟩ => ⟨S8192x4x704, .f32⟩
  | .hbm, ⟨51, _⟩ => ⟨S4x8192x704, .f32⟩
  | .hbm, ⟨52, _⟩ => ⟨S4x8192x704, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== FfnKernel.lean ====
abbrev S4x2048x5632 : Shape := ⟨3, ![4, 2048, 5632]⟩
abbrev S3x5632 : Shape := ⟨2, ![3, 5632]⟩
abbrev S5632 : Shape := ⟨1, ![5632]⟩
abbrev S2816x1024 : Shape := ⟨2, ![2816, 1024]⟩
abbrev S4x2048x1024 : Shape := ⟨3, ![4, 2048, 1024]⟩
abbrev S3x2048x2048 : Shape := ⟨3, ![3, 2048, 2048]⟩
abbrev S_ : Shape := ⟨0, ![]⟩
abbrev S2048x2048x5632 : Shape := ⟨3, ![2048, 2048, 5632]⟩
abbrev S5632x4x2048 : Shape := ⟨3, ![5632, 4, 2048]⟩
abbrev S1x1x5632 : Shape := ⟨3, ![1, 1, 5632]⟩
abbrev S8192x1024 : Shape := ⟨2, ![8192, 1024]⟩
abbrev S4x704x1024 : Shape := ⟨3, ![4, 704, 1024]⟩
abbrev S8192x2x4x704 : Shape := ⟨4, ![8192, 2, 4, 704]⟩
abbrev S2x4x8192x704 : Shape := ⟨4, ![2, 4, 8192, 704]⟩
abbrev S3x2x4x704 : Shape := ⟨4, ![3, 2, 4, 704]⟩
abbrev S2x4x3x704 : Shape := ⟨4, ![2, 4, 3, 704]⟩
abbrev S2x4x8x704 : Shape := ⟨4, ![2, 4, 8, 704]⟩
abbrev S512x1024 : Shape := ⟨2, ![512, 1024]⟩
abbrev S8x1024 : Shape := ⟨2, ![8, 1024]⟩
abbrev S1x704x1024 : Shape := ⟨3, ![1, 704, 1024]⟩
abbrev S2x1x512x704 : Shape := ⟨4, ![2, 1, 512, 704]⟩
abbrev S2x1x8x704 : Shape := ⟨4, ![2, 1, 8, 704]⟩
abbrev S2x1x3x704 : Shape := ⟨4, ![2, 1, 3, 704]⟩
abbrev S520x1024 : Shape := ⟨2, ![520, 1024]⟩
abbrev S520x704 : Shape := ⟨2, ![520, 704]⟩
abbrev S2x512x704 : Shape := ⟨3, ![2, 512, 704]⟩
abbrev S704x1024 : Shape := ⟨2, ![704, 1024]⟩
abbrev S1x1x512x704 : Shape := ⟨4, ![1, 1, 512, 704]⟩
abbrev S512x704 : Shape := ⟨2, ![512, 704]⟩
abbrev S1x1x8x704 : Shape := ⟨4, ![1, 1, 8, 704]⟩
abbrev S8x704 : Shape := ⟨2, ![8, 704]⟩
abbrev S1x1x3x704 : Shape := ⟨4, ![1, 1, 3, 704]⟩
abbrev S3x704 : Shape := ⟨2, ![3, 704]⟩
abbrev S1x512x704 : Shape := ⟨3, ![1, 512, 704]⟩
abbrev S1x704 : Shape := ⟨2, ![1, 704]⟩
abbrev S1x1x1x704 : Shape := ⟨4, ![1, 1, 1, 704]⟩
abbrev S704 : Shape := ⟨1, ![704]⟩

abbrev nBuf : Space → Nat
  | .hbm => 31
  | .vmem => 21
  | .smem => 0
  | _ => 0

abbrev bufTy : (tb : Table) → Fin (tcTables nBuf tb) → BufTy
  | .hbm, ⟨0, _⟩ => ⟨S4x2048x5632, .f32⟩
  | .hbm, ⟨1, _⟩ => ⟨S3x5632, .f32⟩
  | .hbm, ⟨2, _⟩ => ⟨S5632, .f32⟩
  | .hbm, ⟨3, _⟩ => ⟨S2816x1024, .f32⟩
  | .hbm, ⟨4, _⟩ => ⟨S4x2048x1024, .f32⟩
  | .hbm, ⟨5, _⟩ => ⟨S3x2048x2048, .i32⟩
  | .hbm, ⟨6, _⟩ => ⟨S3x2048x2048, .i32⟩
  | .hbm, ⟨7, _⟩ => ⟨S3x2048x2048, .i32⟩
  | .hbm, ⟨8, _⟩ => ⟨S_, .i32⟩
  | .hbm, ⟨9, _⟩ => ⟨S3x2048x2048, .i32⟩
  | .hbm, ⟨10, _⟩ => ⟨S3x2048x2048, .i32⟩
  | .hbm, ⟨11, _⟩ => ⟨S3x2048x2048, .i32⟩
  | .hbm, ⟨12, _⟩ => ⟨S3x2048x2048, .i1⟩
  | .hbm, ⟨13, _⟩ => ⟨S3x2048x2048, .f32⟩
  | .hbm, ⟨14, _⟩ => ⟨S2048x2048x5632, .f32⟩
  | .hbm, ⟨15, _⟩ => ⟨S5632x4x2048, .f32⟩
  | .hbm, ⟨16, _⟩ => ⟨S4x2048x5632, .f32⟩
  | .hbm, ⟨17, _⟩ => ⟨S1x1x5632, .f32⟩
  | .hbm, ⟨18, _⟩ => ⟨S4x2048x5632, .f32⟩
  | .hbm, ⟨19, _⟩ => ⟨S4x2048x5632, .f32⟩
  | .hbm, ⟨20, _⟩ => ⟨S8192x1024, .f32⟩
  | .hbm, ⟨21, _⟩ => ⟨S2816x1024, .bf16⟩
  | .hbm, ⟨22, _⟩ => ⟨S4x704x1024, .bf16⟩
  | .hbm, ⟨23, _⟩ => ⟨S8192x2x4x704, .f32⟩
  | .hbm, ⟨24, _⟩ => ⟨S2x4x8192x704, .f32⟩
  | .hbm, ⟨25, _⟩ => ⟨S8192x2x4x704, .f32⟩
  | .hbm, ⟨26, _⟩ => ⟨S2x4x8192x704, .f32⟩
  | .hbm, ⟨27, _⟩ => ⟨S3x2x4x704, .f32⟩
  | .hbm, ⟨28, _⟩ => ⟨S2x4x3x704, .f32⟩
  | .hbm, ⟨29, _⟩ => ⟨S2x4x8192x704, .bf16⟩
  | .hbm, ⟨30, _⟩ => ⟨S2x4x8x704, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S1x704x1024, .bf16⟩
  | .local _ .vmem, ⟨5, _⟩ => ⟨S1x704x1024, .bf16⟩
  | .local _ .vmem, ⟨6, _⟩ => ⟨S2x1x512x704, .f32⟩
  | .local _ .vmem, ⟨7, _⟩ => ⟨S2x1x512x704, .f32⟩
  | .local _ .vmem, ⟨8, _⟩ => ⟨S2x1x512x704, .f32⟩
  | .local _ .vmem, ⟨9, _⟩ => ⟨S2x1x512x704, .f32⟩
  | .local _ .vmem, ⟨10, _⟩ => ⟨S2x1x8x704, .f32⟩
  | .local _ .vmem, ⟨11, _⟩ => ⟨S2x1x8x704, .f32⟩
  | .local _ .vmem, ⟨12, _⟩ => ⟨S2x1x3x704, .f32⟩
  | .local _ .vmem, ⟨13, _⟩ => ⟨S2x1x3x704, .f32⟩
  | .local _ .vmem, ⟨14, _⟩ => ⟨S2x1x512x704, .bf16⟩
  | .local _ .vmem, ⟨15, _⟩ => ⟨S2x1x512x704, .bf16⟩
  | .local _ .vmem, ⟨16, _⟩ => ⟨S2x1x8x704, .f32⟩
  | .local _ .vmem, ⟨17, _⟩ => ⟨S2x1x8x704, .f32⟩
  | .local _ .vmem, ⟨18, _⟩ => ⟨S520x1024, .bf16⟩
  | .local _ .vmem, ⟨19, _⟩ => ⟨S520x704, .f32⟩
  | .local _ .vmem, ⟨20, _⟩ => ⟨S2x512x704, .f32⟩
  | _, _ => ⟨S4x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23_0 : Ref sig .tc := ⟨.hbm, 29, rfl⟩
abbrev main_v23_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  let c0_i32_1 : BitVec 32 := 0#32
  ![c0_i32.toNat, arg0.toNat, v2.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1x512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1x8x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1x3x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x1x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x1x8x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnReferenceIdeal.lean ====
abbrev S4x2048x5632 : Shape := ⟨3, ![4, 2048, 5632]⟩
abbrev S3x5632 : Shape := ⟨2, ![3, 5632]⟩
abbrev S5632 : Shape := ⟨1, ![5632]⟩
abbrev S2816x1024 : Shape := ⟨2, ![2816, 1024]⟩
abbrev S4x2048x1024 : Shape := ⟨3, ![4, 2048, 1024]⟩
abbrev S3x2048x2048 : Shape := ⟨3, ![3, 2048, 2048]⟩
abbrev S_ : Shape := ⟨0, ![]⟩
abbrev S2048x2048x5632 : Shape := ⟨3, ![2048, 2048, 5632]⟩
abbrev S5632x4x2048 : Shape := ⟨3, ![5632, 4, 2048]⟩
abbrev S1x1x5632 : Shape := ⟨3, ![1, 1, 5632]⟩
abbrev S4x2048x2816 : Shape := ⟨3, ![4, 2048, 2816]⟩
abbrev S5632x2048x2048 : Shape := ⟨3, ![5632, 2048, 2048]⟩
abbrev S5632x3 : Shape := ⟨2, ![5632, 3]⟩
abbrev S1x5632 : Shape := ⟨2, ![1, 5632]⟩
abbrev S4x5632 : Shape := ⟨2, ![4, 5632]⟩
abbrev S8x5632 : Shape := ⟨2, ![8, 5632]⟩
abbrev S8192x2x4x704 : Shape := ⟨4, ![8192, 2, 4, 704]⟩
abbrev S2x4x8192x704 : Shape := ⟨4, ![2, 4, 8192, 704]⟩
abbrev S8x2x4x704 : Shape := ⟨4, ![8, 2, 4, 704]⟩
abbrev S2x4x8x704 : Shape := ⟨4, ![2, 4, 8, 704]⟩

abbrev nBuf : Space → Nat
  | .hbm => 70
  | .vmem => 0
  | .smem => 0
  | _ => 0

abbrev bufTy : (tb : Table) → Fin (tcTables nBuf tb) → BufTy
  | .hbm, ⟨0, _⟩ => ⟨S4x2048x5632, .f32⟩
  | .hbm, ⟨1, _⟩ => ⟨S3x5632, .f32⟩
  | .hbm, ⟨2, _⟩ => ⟨S5632, .f32⟩
  | .hbm, ⟨3, _⟩ => ⟨S2816x1024, .f32⟩
  | .hbm, ⟨4, _⟩ => ⟨S4x2048x1024, .f32⟩
  | .hbm, ⟨5, _⟩ => ⟨S3x2048x2048, .i32⟩
  | .hbm, ⟨6, _⟩ => ⟨S3x2048x2048, .i32⟩
  | .hbm, ⟨7, _⟩ => ⟨S3x2048x2048, .i32⟩
  | .hbm, ⟨8, _⟩ => ⟨S_, .i32⟩
  | .hbm, ⟨9, _⟩ => ⟨S3x2048x2048, .i32⟩
  | .hbm, ⟨10, _⟩ => ⟨S3x2048x2048, .i32⟩
  | .hbm, ⟨11, _⟩ => ⟨S3x2048x2048, .i32⟩
  | .hbm, ⟨12, _⟩ => ⟨S3x2048x2048, .i1⟩
  | .hbm, ⟨13, _⟩ => ⟨S3x2048x2048, .f32⟩
  | .hbm, ⟨14, _⟩ => ⟨S2048x2048x5632, .f32⟩
  | .hbm, ⟨15, _⟩ => ⟨S5632x4x2048, .f32⟩
  | .hbm, ⟨16, _⟩ => ⟨S4x2048x5632, .f32⟩
  | .hbm, ⟨17, _⟩ => ⟨S1x1x5632, .f32⟩
  | .hbm, ⟨18, _⟩ => ⟨S4x2048x5632, .f32⟩
  | .hbm, ⟨19, _⟩ => ⟨S4x2048x5632, .f32⟩
  | .hbm, ⟨20, _⟩ => ⟨S4x2048x2816, .f32⟩
  | .hbm, ⟨21, _⟩ => ⟨S4x2048x2816, .f32⟩
  | .hbm, ⟨22, _⟩ => ⟨S4x2048x2816, .f32⟩
  | .hbm, ⟨23, _⟩ => ⟨S_, .f32⟩
  | .hbm, ⟨24, _⟩ => ⟨S4x2048x2816, .f32⟩
  | .hbm, ⟨25, _⟩ => ⟨S4x2048x2816, .f32⟩
  | .hbm, ⟨26, _⟩ => ⟨S_, .f32⟩
  | .hbm, ⟨27, _⟩ => ⟨S4x2048x2816, .f32⟩
  | .hbm, ⟨28, _⟩ => ⟨S4x2048x2816, .f32⟩
  | .hbm, ⟨29, _⟩ => ⟨S_, .f32⟩
  | .hbm, ⟨30, _⟩ => ⟨S4x2048x2816, .f32⟩
  | .hbm, ⟨31, _⟩ => ⟨S4x2048x2816, .f32⟩
  | .hbm, ⟨32, _⟩ => ⟨S4x2048x2816, .f32⟩
  | .hbm, ⟨33, _⟩ => ⟨S4x2048x2816, .f32⟩
  | .hbm, ⟨34, _⟩ => ⟨S4x2048x2816, .f32⟩
  | .hbm, ⟨35, _⟩ => ⟨S4x2048x2816, .f32⟩
  | .hbm, ⟨36, _⟩ => ⟨S4x2048x1024, .f32⟩
  | .hbm, ⟨37, _⟩ => ⟨S4x2048x2816, .f32⟩
  | .hbm, ⟨38, _⟩ => ⟨S4x2048x2816, .f32⟩
  | .hbm, ⟨39, _⟩ => ⟨S4x2048x2816, .f32⟩
  | .hbm, ⟨40, _⟩ => ⟨S_, .f32⟩
  | .hbm, ⟨41, _⟩ => ⟨S4x2048x5632, .f32⟩
  | .hbm, ⟨42, _⟩ => ⟨S4x2048x2816, .f32⟩
  | .hbm, ⟨43, _⟩ => ⟨S4x2048x2816, .f32⟩
  | .hbm, ⟨44, _⟩ => ⟨S4x2048x2816, .f32⟩
  | .hbm, ⟨45, _⟩ => ⟨S4x2048x2816, .f32⟩
  | .hbm, ⟨46, _⟩ => ⟨S_, .f32⟩
  | .hbm, ⟨47, _⟩ => ⟨S4x2048x5632, .f32⟩
  | .hbm, ⟨48, _⟩ => ⟨S4x2048x5632, .f32⟩
  | .hbm, ⟨49, _⟩ => ⟨S_, .f32⟩
  | .hbm, ⟨50, _⟩ => ⟨S5632, .f32⟩
  | .hbm, ⟨51, _⟩ => ⟨S1x1x5632, .f32⟩
  | .hbm, ⟨52, _⟩ => ⟨S_, .f32⟩
  | .hbm, ⟨53, _⟩ => ⟨S5632, .f32⟩
  | .hbm, ⟨54, _⟩ => ⟨S5632x4x2048, .f32⟩
  | .hbm, ⟨55, _⟩ => ⟨S5632x2048x2048, .f32⟩
  | .hbm, ⟨56, _⟩ => ⟨S2048x2048x5632, .f32⟩
  | .hbm, ⟨57, _⟩ => ⟨S5632x4x2048, .f32⟩
  | .hbm, ⟨58, _⟩ => ⟨S4x2048x5632, .f32⟩
  | .hbm, ⟨59, _⟩ => ⟨S5632x3, .f32⟩
  | .hbm, ⟨60, _⟩ => ⟨S3x5632, .f32⟩
  | .hbm, ⟨61, _⟩ => ⟨S1x5632, .f32⟩
  | .hbm, ⟨62, _⟩ => ⟨S_, .f32⟩
  | .hbm, ⟨63, _⟩ => ⟨S4x5632, .f32⟩
  | .hbm, ⟨64, _⟩ => ⟨S8x5632, .f32⟩
  | .hbm, ⟨65, _⟩ => ⟨S8192x2x4x704, .f32⟩
  | .hbm, ⟨66, _⟩ => ⟨S2x4x8192x704, .f32⟩
  | .hbm, ⟨67, _⟩ => ⟨S2x4x8192x704, .bf16⟩
  | .hbm, ⟨68, _⟩ => ⟨S8x2x4x704, .f32⟩
  | .hbm, ⟨69, _⟩ => ⟨S2x4x8x704, .f32⟩
  | _, _ => ⟨S4x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_v15_2 : Ref sig .tc := ⟨.hbm, 28, rfl⟩
abbrev main_call0_cst_1 : Ref sig .tc := ⟨.hbm, 29, rfl⟩
abbrev main_call0_v6 : Ref sig .tc := ⟨.hbm, 30, rfl⟩
abbrev main_call0_v7 : Ref sig .tc := ⟨.hbm, 31, rfl⟩
abbrev main_v15_1 : Ref sig .tc := ⟨.hbm, 32, rfl⟩
abbrev main_v15_0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst : Ref sig .tc := ⟨.hbm, 40, rfl⟩
abbrev main_v22 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v23 : Ref sig .tc := ⟨.hbm, 45, rfl⟩
abbrev main_cst_0 : Ref sig .tc := ⟨.hbm, 46, rfl⟩
abbrev main_v24 : Ref sig .tc := ⟨.hbm, 47, rfl⟩
abbrev main_v25 : Ref sig .tc := ⟨.hbm, 48, rfl⟩
abbrev main_cst_1 : Ref sig .tc := ⟨.hbm, 49, rfl⟩
abbrev main_v26 : Ref sig .tc := ⟨.hbm, 50, rfl⟩
abbrev main_v27 : Ref sig .tc := ⟨.hbm, 51, rfl⟩
abbrev main_cst_2 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_3 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩

abbrev nD : Nat := 1
abbrev τ : Topo := Topo.v7x

variable {F : FTy → Type} [FloatOps F]
-- ==== MixKernel.lean ====
abbrev S4x2048x1024 : Shape := ⟨3, ![4, 2048, 1024]⟩
abbrev S4x2048x384 : Shape := ⟨3, ![4, 2048, 384]⟩
abbrev S4x2048x512 : Shape := ⟨3, ![4, 2048, 512]⟩
abbrev S384 : Shape := ⟨1, ![384]⟩
abbrev S31x256 : Shape := ⟨2, ![31, 256]⟩
abbrev S256 : Shape := ⟨1, ![256]⟩
abbrev S4x2048x256 : Shape := ⟨3, ![4, 2048, 256]⟩
abbrev S_ : Shape := ⟨0, ![]⟩
abbrev S31x2048x2048 : Shape := ⟨3, ![31, 2048, 2048]⟩
abbrev S2048x2048x256 : Shape := ⟨3, ![2048, 2048, 256]⟩
abbrev S256x4x2048 : Shape := ⟨3, ![256, 4, 2048]⟩
abbrev S1x1x256 : Shape := ⟨3, ![1, 1, 256]⟩
abbrev S4x2048x768 : Shape := ⟨3, ![4, 2048, 768]⟩
abbrev S1x256 : Shape := ⟨2, ![1, 256]⟩
abbrev S32x256 : Shape := ⟨2, ![32, 256]⟩
abbrev S8192x1024 : Shape := ⟨2, ![8192, 1024]⟩
abbrev S8192x384 : Shape := ⟨2, ![8192, 384]⟩
abbrev S8192x768 : Shape := ⟨2, ![8192, 768]⟩
abbrev S8192x256 : Shape := ⟨2, ![8192, 256]⟩
abbrev S1x384 : Shape := ⟨2, ![1, 384]⟩
abbrev S32x8x1x256 : Shape := ⟨4, ![32, 8, 1, 256]⟩
abbrev S8192x512 : Shape := ⟨2, ![8192, 512]⟩
abbrev S8x384 : Shape := ⟨2, ![8, 384]⟩
abbrev S8x256 : Shape := ⟨2, ![8, 256]⟩
abbrev S256x1024 : Shape := ⟨2, ![256, 1024]⟩
abbrev S256x384 : Shape := ⟨2, ![256, 384]⟩
abbrev S256x512 : Shape := ⟨2, ![256, 512]⟩
abbrev S256x256 : Shape := ⟨2, ![256, 256]⟩
abbrev S1x8x1x256 : Shape := ⟨4, ![1, 8, 1, 256]⟩
abbrev S288x256 : Shape := ⟨2, ![288, 256]⟩
abbrev S8x288x256 : Shape := ⟨3, ![8, 288, 256]⟩
abbrev S256x1 : Shape := ⟨2, ![256, 1]⟩
abbrev S1x1x1x256 : Shape := ⟨4, ![1, 1, 1, 256]⟩
abbrev S288 : Shape := ⟨1, ![288]⟩
abbrev S288x1 : Shape := ⟨2, ![288, 1]⟩
abbrev S280x256 : Shape := ⟨2, ![280, 256]⟩
abbrev S1x280x256 : Shape := ⟨3, ![1, 280, 256]⟩
abbrev S1x256x256 : Shape := ⟨3, ![1, 256, 256]⟩

abbrev nBuf : Space → Nat
  | .hbm => 59
  | .vmem => 34
  | .smem => 0
  | _ => 0

abbrev bufTy : (tb : Table) → Fin (tcTables nBuf tb) → BufTy
  | .hbm, ⟨0, _⟩ => ⟨S4x2048x1024, .f32⟩
  | .hbm, ⟨1, _⟩ => ⟨S4x2048x384, .f32⟩
  | .hbm, ⟨2, _⟩ => ⟨S4x2048x384, .f32⟩
  | .hbm, ⟨3, _⟩ => ⟨S4x2048x512, .f32⟩
  | .hbm, ⟨4, _⟩ => ⟨S384, .f32⟩
  | .hbm, ⟨5, _⟩ => ⟨S384, .f32⟩
  | .hbm, ⟨6, _⟩ => ⟨S31x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S4x2048x256, .f32⟩
  | .hbm, ⟨11, _⟩ => ⟨S4x2048x256, .f32⟩
  | .hbm, ⟨12, _⟩ => ⟨S4x2048x256, .f32⟩
  | .hbm, ⟨13, _⟩ => ⟨S4x2048x256, .f32⟩
  | .hbm, ⟨14, _⟩ => ⟨S_, .f32⟩
  | .hbm, ⟨15, _⟩ => ⟨S4x2048x256, .f32⟩
  | .hbm, ⟨16, _⟩ => ⟨S4x2048x256, .f32⟩
  | .hbm, ⟨17, _⟩ => ⟨S_, .f32⟩
  | .hbm, ⟨18, _⟩ => ⟨S4x2048x256, .f32⟩
  | .hbm, ⟨19, _⟩ => ⟨S4x2048x256, .f32⟩
  | .hbm, ⟨20, _⟩ => ⟨S4x2048x256, .f32⟩
  | .hbm, ⟨21, _⟩ => ⟨S31x2048x2048, .i32⟩
  | .hbm, ⟨22, _⟩ => ⟨S31x2048x2048, .i32⟩
  | .hbm, ⟨23, _⟩ => ⟨S31x2048x2048, .i32⟩
  | .hbm, ⟨24, _⟩ => ⟨S_, .i32⟩
  | .hbm, ⟨25, _⟩ => ⟨S31x2048x2048, .i32⟩
  | .hbm, ⟨26, _⟩ => ⟨S31x2048x2048, .i32⟩
  | .hbm, ⟨27, _⟩ => ⟨S31x2048x2048, .i32⟩
  | .hbm, ⟨28, _⟩ => ⟨S31x2048x2048, .i1⟩
  | .hbm, ⟨29, _⟩ => ⟨S31x2048x2048, .f32⟩
  | .hbm, ⟨30, _⟩ => ⟨S2048x2048x256, .f32⟩
  | .hbm, ⟨31, _⟩ => ⟨S256x4x2048, .f32⟩
  | .hbm, ⟨32, _⟩ => ⟨S4x2048x256, .f32⟩
  | .hbm, ⟨33, _⟩ => ⟨S1x1x256, .f32⟩
  | .hbm, ⟨34, _⟩ => ⟨S4x2048x256, .f32⟩
  | .hbm, ⟨35, _⟩ => ⟨S4x2048x256, .f32⟩
  | .hbm, ⟨36, _⟩ => ⟨S_, .f32⟩
  | .hbm, ⟨37, _⟩ => ⟨S4x2048x256, .f32⟩
  | .hbm, ⟨38, _⟩ => ⟨S4x2048x768, .f32⟩
  | .hbm, ⟨39, _⟩ => ⟨S_, .f32⟩
  | .hbm, ⟨40, _⟩ => ⟨S1x256, .f32⟩
  | .hbm, ⟨41, _⟩ => ⟨S32x256, .f32⟩
  | .hbm, ⟨42, _⟩ => ⟨S8192x1024, .f32⟩
  | .hbm, ⟨43, _⟩ => ⟨S8192x384, .f32⟩
  | .hbm, ⟨44, _⟩ => ⟨S8192x384, .f32⟩
  | .hbm, ⟨45, _⟩ => ⟨S8192x768, .f32⟩
  | .hbm, ⟨46, _⟩ => ⟨S8192x256, .f32⟩
  | .hbm, ⟨47, _⟩ => ⟨S1x384, .f32⟩
  | .hbm, ⟨48, _⟩ => ⟨S1x384, .f32⟩
  | .hbm, ⟨49, _⟩ => ⟨S1x256, .f32⟩
  | .hbm, ⟨50, _⟩ => ⟨S1x256, .f32⟩
  | .hbm, ⟨51, _⟩ => ⟨S8192x384, .bf16⟩
  | .hbm, ⟨52, _⟩ => ⟨S32x8x1x256, .f32⟩
  | .hbm, ⟨53, _⟩ => ⟨S8192x384, .bf16⟩
  | .hbm, ⟨54, _⟩ => ⟨S32x8x1x256, .f32⟩
  | .hbm, ⟨55, _⟩ => ⟨S8192x512, .bf16⟩
  | .hbm, ⟨56, _⟩ => ⟨S8x384, .f32⟩
  | .hbm, ⟨57, _⟩ => ⟨S32x256, .f32⟩
  | .hbm, ⟨58, _⟩ => ⟨S8x256, .f32⟩
  | .local _ .vmem, ⟨0, _⟩ => ⟨S256x1024, .f32⟩
  | .local _ .vmem, ⟨1, _⟩ => ⟨S256x1024, .f32⟩
  | .local _ .vmem, ⟨2, _⟩ => ⟨S32x256, .f32⟩
  | .local _ .vmem, ⟨3, _⟩ => ⟨S32x256, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x512, .f32⟩
  | .local _ .vmem, ⟨9, _⟩ => ⟨S256x512, .f32⟩
  | .local _ .vmem, ⟨10, _⟩ => ⟨S256x256, .f32⟩
  | .local _ .vmem, ⟨11, _⟩ => ⟨S256x256, .f32⟩
  | .local _ .vmem, ⟨12, _⟩ => ⟨S32x256, .f32⟩
  | .local _ .vmem, ⟨13, _⟩ => ⟨S32x256, .f32⟩
  | .local _ .vmem, ⟨14, _⟩ => ⟨S1x384, .f32⟩
  | .local _ .vmem, ⟨15, _⟩ => ⟨S1x384, .f32⟩
  | .local _ .vmem, ⟨16, _⟩ => ⟨S32x256, .f32⟩
  | .local _ .vmem, ⟨17, _⟩ => ⟨S1x256, .f32⟩
  | .local _ .vmem, ⟨18, _⟩ => ⟨S1x256, .f32⟩
  | .local _ .vmem, ⟨19, _⟩ => ⟨S256x384, .bf16⟩
  | .local _ .vmem, ⟨20, _⟩ => ⟨S256x384, .bf16⟩
  | .local _ .vmem, ⟨21, _⟩ => ⟨S1x8x1x256, .f32⟩
  | .local _ .vmem, ⟨22, _⟩ => ⟨S1x8x1x256, .f32⟩
  | .local _ .vmem, ⟨23, _⟩ => ⟨S256x384, .bf16⟩
  | .local _ .vmem, ⟨24, _⟩ => ⟨S256x384, .bf16⟩
  | .local _ .vmem, ⟨25, _⟩ => ⟨S1x8x1x256, .f32⟩
  | .local _ .vmem, ⟨26, _⟩ => ⟨S1x8x1x256, .f32⟩
  | .local _ .vmem, ⟨27, _⟩ => ⟨S256x512, .bf16⟩
  | .local _ .vmem, ⟨28, _⟩ => ⟨S256x512, .bf16⟩
  | .local _ .vmem, ⟨29, _⟩ => ⟨S8x384, .f32⟩
  | .local _ .vmem, ⟨30, _⟩ => ⟨S32x256, .f32⟩
  | .local _ .vmem, ⟨31, _⟩ => ⟨S8x256, .f32⟩
  | .local _ .vmem, ⟨32, _⟩ => ⟨S288x256, .f32⟩
  | .local _ .vmem, ⟨33, _⟩ => ⟨S8x288x256, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36_0 : Ref sig .tc := ⟨.hbm, 51, rfl⟩
abbrev main_v36_1 : Ref sig .tc := ⟨.hbm, 52, rfl⟩
abbrev main_v36_2 : Ref sig .tc := ⟨.hbm, 53, rfl⟩
abbrev main_v36_3 : Ref sig .tc := ⟨.hbm, 54, rfl⟩
abbrev main_v36_4 : Ref sig .tc := ⟨.hbm, 55, rfl⟩
abbrev main_v36_5 : Ref sig .tc := ⟨.hbm, 56, rfl⟩
abbrev main_v36_6 : Ref sig .tc := ⟨.hbm, 57, rfl⟩
abbrev main_v36_7 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg19_0 : Ref sig .tc := ⟨.vmem, 31, rfl⟩
abbrev cc0_scratch0 : Ref sig .tc := ⟨.vmem, 32, rfl⟩
abbrev cc0_scratch1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem18_0 : DmaSem sig := 30
abbrev cc0_sem19_0 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c255_i32 : BitVec 32 := 255#32
  let v2 : BitVec 32 := Scalar.minsi v1 c255_i32
  let c3_i32 : BitVec 32 := 3#32
  let c0_i32 : BitVec 32 := 0#32
  ![v2.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x384 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x384 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x8x1x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x384 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S32x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== MixReferenceIdeal.lean ====
abbrev S4x2048x1024 : Shape := ⟨3, ![4, 2048, 1024]⟩
abbrev S4x2048x384 : Shape := ⟨3, ![4, 2048, 384]⟩
abbrev S4x2048x512 : Shape := ⟨3, ![4, 2048, 512]⟩
abbrev S384 : Shape := ⟨1, ![384]⟩
abbrev S31x256 : Shape := ⟨2, ![31, 256]⟩
abbrev S256 : Shape := ⟨1, ![256]⟩
abbrev S_ : Shape := ⟨0, ![]⟩
abbrev S4x2048 : Shape := ⟨2, ![4, 2048]⟩
abbrev S4x2048x1 : Shape := ⟨3, ![4, 2048, 1]⟩
abbrev S1x1x384 : Shape := ⟨3, ![1, 1, 384]⟩
abbrev S4x2048x256 : Shape := ⟨3, ![4, 2048, 256]⟩
abbrev S31x2048x2048 : Shape := ⟨3, ![31, 2048, 2048]⟩
abbrev S2048x2048x256 : Shape := ⟨3, ![2048, 2048, 256]⟩
abbrev S256x4x2048 : Shape := ⟨3, ![256, 4, 2048]⟩
abbrev S1x1x256 : Shape := ⟨3, ![1, 1, 256]⟩
abbrev S256x2048x2048 : Shape := ⟨3, ![256, 2048, 2048]⟩
abbrev S256x31 : Shape := ⟨2, ![256, 31]⟩
abbrev S8192x384 : Shape := ⟨2, ![8192, 384]⟩
abbrev S32x256x6x64 : Shape := ⟨4, ![32, 256, 6, 64]⟩
abbrev S32x256x6 : Shape := ⟨3, ![32, 256, 6]⟩
abbrev S32x6x256 : Shape := ⟨3, ![32, 6, 256]⟩
abbrev S32x2x256 : Shape := ⟨3, ![32, 2, 256]⟩
abbrev S32x8x256 : Shape := ⟨3, ![32, 8, 256]⟩
abbrev S32x8x1x256 : Shape := ⟨4, ![32, 8, 1, 256]⟩
abbrev S8192x512 : Shape := ⟨2, ![8192, 512]⟩
abbrev S1x384 : Shape := ⟨2, ![1, 384]⟩
abbrev S6x384 : Shape := ⟨2, ![6, 384]⟩
abbrev S8x384 : Shape := ⟨2, ![8, 384]⟩
abbrev S1x256 : Shape := ⟨2, ![1, 256]⟩
abbrev S32x256 : Shape := ⟨2, ![32, 256]⟩
abbrev S6x256 : Shape := ⟨2, ![6, 256]⟩
abbrev S8x256 : Shape := ⟨2, ![8, 256]⟩

abbrev nBuf : Space → Nat
  | .hbm => 279
  | .vmem => 0
  | .smem => 0
  | _ => 0

abbrev hbmTy0_0 (i : Nat) : BufTy := match i % 128 with
  | 0 => ⟨S4x2048x1024, .f32⟩
  | 1 => ⟨S4x2048x384, .f32⟩
  | 2 => ⟨S4x2048x384, .f32⟩
  | 3 => ⟨S4x2048x512, .f32⟩
  | 4 => ⟨S384, .f32⟩
  | 5 => ⟨S384, .f32⟩
  | 6 => ⟨S31x256, .f32⟩
  | 7 => ⟨S256, .f32⟩
  | 8 => ⟨S256, .f32⟩
  | 9 => ⟨S256, .f32⟩
  | 10 => ⟨S4x2048x384, .f32⟩
  | 11 => ⟨S_, .f32⟩
  | 12 => ⟨S4x2048, .f32⟩
  | 13 => ⟨S4x2048x1, .f32⟩
  | 14 => ⟨S_, .f32⟩
  | 15 => ⟨S4x2048x1, .f32⟩
  | 16 => ⟨S4x2048x1, .f32⟩
  | 17 => ⟨S_, .f32⟩
  | 18 => ⟨S4x2048x1, .f32⟩
  | 19 => ⟨S4x2048x1, .f32⟩
  | 20 => ⟨S4x2048x1, .f32⟩
  | 21 => ⟨S4x2048x1, .f32⟩
  | 22 => ⟨S_, .f32⟩
  | 23 => ⟨S4x2048x1, .f32⟩
  | 24 => ⟨S4x2048x1, .f32⟩
  | 25 => ⟨S4x2048x384, .f32⟩
  | 26 => ⟨S4x2048x384, .f32⟩
  | 27 => ⟨S1x1x384, .f32⟩
  | 28 => ⟨S4x2048x384, .f32⟩
  | 29 => ⟨S4x2048x384, .f32⟩
  | 30 => ⟨S4x2048x384, .f32⟩
  | 31 => ⟨S_, .f32⟩
  | 32 => ⟨S4x2048, .f32⟩
  | 33 => ⟨S4x2048x1, .f32⟩
  | 34 => ⟨S_, .f32⟩
  | 35 => ⟨S4x2048x1, .f32⟩
  | 36 => ⟨S4x2048x1, .f32⟩
  | 37 => ⟨S_, .f32⟩
  | 38 => ⟨S4x2048x1, .f32⟩
  | 39 => ⟨S4x2048x1, .f32⟩
  | 40 => ⟨S4x2048x1, .f32⟩
  | 41 => ⟨S4x2048x1, .f32⟩
  | 42 => ⟨S_, .f32⟩
  | 43 => ⟨S4x2048x1, .f32⟩
  | 44 => ⟨S4x2048x1, .f32⟩
  | 45 => ⟨S4x2048x384, .f32⟩
  | 46 => ⟨S4x2048x384, .f32⟩
  | 47 => ⟨S1x1x384, .f32⟩
  | 48 => ⟨S4x2048x384, .f32⟩
  | 49 => ⟨S4x2048x384, .f32⟩
  | 50 => ⟨S4x2048x256, .f32⟩
  | 51 => ⟨S4x2048x256, .f32⟩
  | 52 => ⟨S4x2048x256, .f32⟩
  | 53 => ⟨S4x2048x256, .f32⟩
  | 54 => ⟨S_, .f32⟩
  | 55 => ⟨S4x2048x256, .f32⟩
  | 56 => ⟨S4x2048x256, .f32⟩
  | 57 => ⟨S_, .f32⟩
  | 58 => ⟨S4x2048x256, .f32⟩
  | 59 => ⟨S4x2048x256, .f32⟩
  | 60 => ⟨S_, .f32⟩
  | 61 => ⟨S4x2048x256, .f32⟩
  | 62 => ⟨S4x2048x256, .f32⟩
  | 63 => ⟨S4x2048x256, .f32⟩
  | 64 => ⟨S4x2048x256, .f32⟩
  | 65 => ⟨S31x2048x2048, .i32⟩
  | 66 => ⟨S31x2048x2048, .i32⟩
  | 67 => ⟨S31x2048x2048, .i32⟩
  | 68 => ⟨S_, .i32⟩
  | 69 => ⟨S31x2048x2048, .i32⟩
  | 70 => ⟨S31x2048x2048, .i32⟩
  | 71 => ⟨S31x2048x2048, .i32⟩
  | 72 => ⟨S31x2048x2048, .i1⟩
  | 73 => ⟨S31x2048x2048, .f32⟩
  | 74 => ⟨S2048x2048x256, .f32⟩
  | 75 => ⟨S256x4x2048, .f32⟩
  | 76 => ⟨S4x2048x256, .f32⟩
  | 77 => ⟨S1x1x256, .f32⟩
  | 78 => ⟨S4x2048x256, .f32⟩
  | 79 => ⟨S4x2048x256, .f32⟩
  | 80 => ⟨S_, .f32⟩
  | 81 => ⟨S4x2048, .f32⟩
  | 82 => ⟨S4x2048x1, .f32⟩
  | 83 => ⟨S_, .f32⟩
  | 84 => ⟨S4x2048x1, .f32⟩
  | 85 => ⟨S4x2048x1, .f32⟩
  | 86 => ⟨S4x2048x256, .f32⟩
  | 87 => ⟨S4x2048x256, .f32⟩
  | 88 => ⟨S4x2048x256, .f32⟩
  | 89 => ⟨S_, .f32⟩
  | 90 => ⟨S4x2048, .f32⟩
  | 91 => ⟨S4x2048x1, .f32⟩
  | 92 => ⟨S_, .f32⟩
  | 93 => ⟨S4x2048x1, .f32⟩
  | 94 => ⟨S4x2048x1, .f32⟩
  | 95 => ⟨S_, .f32⟩
  | 96 => ⟨S4x2048x1, .f32⟩
  | 97 => ⟨S4x2048x1, .f32⟩
  | 98 => ⟨S4x2048x1, .f32⟩
  | 99 => ⟨S4x2048x1, .f32⟩
  | 100 => ⟨S_, .f32⟩
  | 101 => ⟨S4x2048x1, .f32⟩
  | 102 => ⟨S4x2048x1, .f32⟩
  | 103 => ⟨S4x2048x256, .f32⟩
  | 104 => ⟨S4x2048x256, .f32⟩
  | 105 => ⟨S1x1x256, .f32⟩
  | 106 => ⟨S4x2048x256, .f32⟩
  | 107 => ⟨S4x2048x256, .f32⟩
  | 108 => ⟨S1x1x256, .f32⟩
  | 109 => ⟨S4x2048x256, .f32⟩
  | 110 => ⟨S4x2048x256, .f32⟩
  | 111 => ⟨S4x2048x256, .f32⟩
  | 112 => ⟨S4x2048x256, .f32⟩
  | 113 => ⟨S_, .f32⟩
  | 114 => ⟨S4x2048x256, .f32⟩
  | 115 => ⟨S4x2048x256, .f32⟩
  | 116 => ⟨S_, .f32⟩
  | 117 => ⟨S4x2048x256, .f32⟩
  | 118 => ⟨S4x2048x256, .f32⟩
  | 119 => ⟨S_, .f32⟩
  | 120 => ⟨S4x2048x256, .f32⟩
  | 121 => ⟨S4x2048x256, .f32⟩
  | 122 => ⟨S4x2048x256, .f32⟩
  | 123 => ⟨S4x2048x256, .f32⟩
  | 124 => ⟨S4x2048x1024, .f32⟩
  | 125 => ⟨S4x2048x384, .f32⟩
  | 126 => ⟨S4x2048x384, .f32⟩
  | 127 => ⟨S4x2048x256, .f32⟩
  | _ => ⟨S4x2048x1024, .f32⟩

abbrev hbmTy0_1 (i : Nat) : BufTy := match i % 128 with
  | 0 => ⟨S4x2048x256, .f32⟩
  | 1 => ⟨S4x2048x256, .f32⟩
  | 2 => ⟨S4x2048x256, .f32⟩
  | 3 => ⟨S4x2048x256, .f32⟩
  | 4 => ⟨S_, .f32⟩
  | 5 => ⟨S256, .f32⟩
  | 6 => ⟨S1x1x256, .f32⟩
  | 7 => ⟨S_, .f32⟩
  | 8 => ⟨S256, .f32⟩
  | 9 => ⟨S4x2048x256, .f32⟩
  | 10 => ⟨S_, .f32⟩
  | 11 => ⟨S256, .f32⟩
  | 12 => ⟨S1x1x256, .f32⟩
  | 13 => ⟨S4x2048x256, .f32⟩
  | 14 => ⟨S4x2048x256, .f32⟩
  | 15 => ⟨S_, .f32⟩
  | 16 => ⟨S256, .f32⟩
  | 17 => ⟨S4x2048x256, .f32⟩
  | 18 => ⟨S_, .f32⟩
  | 19 => ⟨S4x2048, .f32⟩
  | 20 => ⟨S4x2048x1, .f32⟩
  | 21 => ⟨S4x2048x256, .f32⟩
  | 22 => ⟨S4x2048x256, .f32⟩
  | 23 => ⟨S4x2048x1, .f32⟩
  | 24 => ⟨S_, .f32⟩
  | 25 => ⟨S4x2048x1, .f32⟩
  | 26 => ⟨S4x2048x1, .f32⟩
  | 27 => ⟨S_, .f32⟩
  | 28 => ⟨S4x2048, .f32⟩
  | 29 => ⟨S4x2048x256, .f32⟩
  | 30 => ⟨S4x2048x256, .f32⟩
  | 31 => ⟨S4x2048x256, .f32⟩
  | 32 => ⟨S4x2048x256, .f32⟩
  | 33 => ⟨S4x2048x256, .f32⟩
  | 34 => ⟨S4x2048x256, .f32⟩
  | 35 => ⟨S_, .f32⟩
  | 36 => ⟨S4x2048, .f32⟩
  | 37 => ⟨S4x2048x1, .f32⟩
  | 38 => ⟨S_, .f32⟩
  | 39 => ⟨S4x2048x1, .f32⟩
  | 40 => ⟨S4x2048x1, .f32⟩
  | 41 => ⟨S_, .f32⟩
  | 42 => ⟨S4x2048, .f32⟩
  | 43 => ⟨S4x2048x256, .f32⟩
  | 44 => ⟨S4x2048x256, .f32⟩
  | 45 => ⟨S_, .f32⟩
  | 46 => ⟨S256, .f32⟩
  | 47 => ⟨S1x1x256, .f32⟩
  | 48 => ⟨S_, .f32⟩
  | 49 => ⟨S256, .f32⟩
  | 50 => ⟨S256x4x2048, .f32⟩
  | 51 => ⟨S256x2048x2048, .f32⟩
  | 52 => ⟨S2048x2048x256, .f32⟩
  | 53 => ⟨S256x4x2048, .f32⟩
  | 54 => ⟨S4x2048x256, .f32⟩
  | 55 => ⟨S256x31, .f32⟩
  | 56 => ⟨S31x256, .f32⟩
  | 57 => ⟨S4x2048x256, .f32⟩
  | 58 => ⟨S4x2048x256, .f32⟩
  | 59 => ⟨S4x2048x256, .f32⟩
  | 60 => ⟨S_, .f32⟩
  | 61 => ⟨S4x2048x512, .f32⟩
  | 62 => ⟨S_, .f32⟩
  | 63 => ⟨S4x2048x512, .f32⟩
  | 64 => ⟨S4x2048x512, .f32⟩
  | 65 => ⟨S4x2048x384, .f32⟩
  | 66 => ⟨S_, .f32⟩
  | 67 => ⟨S384, .f32⟩
  | 68 => ⟨S1x1x384, .f32⟩
  | 69 => ⟨S4x2048x384, .f32⟩
  | 70 => ⟨S4x2048x384, .f32⟩
  | 71 => ⟨S_, .f32⟩
  | 72 => ⟨S384, .f32⟩
  | 73 => ⟨S4x2048x384, .f32⟩
  | 74 => ⟨S_, .f32⟩
  | 75 => ⟨S4x2048, .f32⟩
  | 76 => ⟨S4x2048x1, .f32⟩
  | 77 => ⟨S4x2048x384, .f32⟩
  | 78 => ⟨S4x2048x384, .f32⟩
  | 79 => ⟨S4x2048x1, .f32⟩
  | 80 => ⟨S_, .f32⟩
  | 81 => ⟨S4x2048x1, .f32⟩
  | 82 => ⟨S4x2048x1, .f32⟩
  | 83 => ⟨S_, .f32⟩
  | 84 => ⟨S4x2048, .f32⟩
  | 85 => ⟨S4x2048x384, .f32⟩
  | 86 => ⟨S4x2048x384, .f32⟩
  | 87 => ⟨S4x2048x384, .f32⟩
  | 88 => ⟨S4x2048x384, .f32⟩
  | 89 => ⟨S4x2048x384, .f32⟩
  | 90 => ⟨S4x2048x384, .f32⟩
  | 91 => ⟨S_, .f32⟩
  | 92 => ⟨S384, .f32⟩
  | 93 => ⟨S1x1x384, .f32⟩
  | 94 => ⟨S4x2048x384, .f32⟩
  | 95 => ⟨S4x2048x384, .f32⟩
  | 96 => ⟨S_, .f32⟩
  | 97 => ⟨S384, .f32⟩
  | 98 => ⟨S4x2048x384, .f32⟩
  | 99 => ⟨S_, .f32⟩
  | 100 => ⟨S4x2048, .f32⟩
  | 101 => ⟨S4x2048x1, .f32⟩
  | 102 => ⟨S4x2048x384, .f32⟩
  | 103 => ⟨S4x2048x384, .f32⟩
  | 104 => ⟨S4x2048x1, .f32⟩
  | 105 => ⟨S_, .f32⟩
  | 106 => ⟨S4x2048x1, .f32⟩
  | 107 => ⟨S4x2048x1, .f32⟩
  | 108 => ⟨S_, .f32⟩
  | 109 => ⟨S4x2048, .f32⟩
  | 110 => ⟨S4x2048x384, .f32⟩
  | 111 => ⟨S4x2048x384, .f32⟩
  | 112 => ⟨S4x2048x384, .f32⟩
  | 113 => ⟨S4x2048x384, .f32⟩
  | 114 => ⟨S4x2048x384, .f32⟩
  | 115 => ⟨S8192x384, .f32⟩
  | 116 => ⟨S8192x384, .bf16⟩
  | 117 => ⟨S4x2048x384, .f32⟩
  | 118 => ⟨S32x256x6x64, .f32⟩
  | 119 => ⟨S_, .f32⟩
  | 120 => ⟨S32x256x6, .f32⟩
  | 121 => ⟨S32x6x256, .f32⟩
  | 122 => ⟨S_, .f32⟩
  | 123 => ⟨S32x2x256, .f32⟩
  | 124 => ⟨S32x8x256, .f32⟩
  | 125 => ⟨S32x8x1x256, .f32⟩
  | 126 => ⟨S8192x384, .f32⟩
  | 127 => ⟨S8192x384, .bf16⟩
  | _ => ⟨S4x2048x1024, .f32⟩

abbrev hbmTy0_2 (i : Nat) : BufTy := match i % 128 with
  | 0 => ⟨S4x2048x384, .f32⟩
  | 1 => ⟨S32x256x6x64, .f32⟩
  | 2 => ⟨S_, .f32⟩
  | 3 => ⟨S32x256x6, .f32⟩
  | 4 => ⟨S32x6x256, .f32⟩
  | 5 => ⟨S_, .f32⟩
  | 6 => ⟨S32x2x256, .f32⟩
  | 7 => ⟨S32x8x256, .f32⟩
  | 8 => ⟨S32x8x1x256, .f32⟩
  | 9 => ⟨S8192x512, .f32⟩
  | 10 => ⟨S8192x512, .bf16⟩
  | 11 => ⟨S1x384, .f32⟩
  | 12 => ⟨S1x384, .f32⟩
  | 13 => ⟨S_, .f32⟩
  | 14 => ⟨S6x384, .f32⟩
  | 15 => ⟨S8x384, .f32⟩
  | 16 => ⟨S1x256, .f32⟩
  | 17 => ⟨S32x256, .f32⟩
  | 18 => ⟨S1x256, .f32⟩
  | 19 => ⟨S1x256, .f32⟩
  | 20 => ⟨S_, .f32⟩
  | 21 => ⟨S6x256, .f32⟩
  | 22 => ⟨S8x256, .f32⟩
  | _ => ⟨S4x2048x1024, .f32⟩

abbrev hbmTy (i : Nat) : BufTy := match i / 128 with
  | 0 => hbmTy0_0 i
  | 1 => hbmTy0_1 i
  | 2 => hbmTy0_2 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_12 : Ref sig .tc := ⟨.hbm, 89, rfl⟩
abbrev main_v65 : Ref sig .tc := ⟨.hbm, 90, rfl⟩
abbrev main_v66 : Ref sig .tc := ⟨.hbm, 91, rfl⟩
abbrev main_cst_13 : Ref sig .tc := ⟨.hbm, 92, rfl⟩
abbrev main_v67 : Ref sig .tc := ⟨.hbm, 93, rfl⟩
abbrev main_v68 : Ref sig .tc := ⟨.hbm, 94, rfl⟩
abbrev main_cst_14 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_15 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_call0_v0 : Ref sig .tc := ⟨.hbm, 111, rfl⟩
abbrev main_call0_v1 : Ref sig .tc := ⟨.hbm, 112, rfl⟩
abbrev main_call0_cst : Ref sig .tc := ⟨.hbm, 113, rfl⟩
abbrev main_call0_v2 : Ref sig .tc := ⟨.hbm, 114, rfl⟩
abbrev main_call0_v3 : Ref sig .tc := ⟨.hbm, 115, rfl⟩
abbrev main_call0_cst_0 : Ref sig .tc := ⟨.hbm, 116, rfl⟩
abbrev main_call0_v4 : Ref sig .tc := ⟨.hbm, 117, rfl⟩
abbrev main_v83_2 : Ref sig .tc := ⟨.hbm, 118, rfl⟩
abbrev main_call0_cst_1 : Ref sig .tc := ⟨.hbm, 119, rfl⟩
abbrev main_call0_v6 : Ref sig .tc := ⟨.hbm, 120, rfl⟩
abbrev main_call0_v7 : Ref sig .tc := ⟨.hbm, 121, rfl⟩
abbrev main_v83_1 : Ref sig .tc := ⟨.hbm, 122, rfl⟩
abbrev main_v83_0 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_call1_v0 : Ref sig .tc := ⟨.hbm, 128, rfl⟩
abbrev main_call1_v1 : Ref sig .tc := ⟨.hbm, 129, rfl⟩
abbrev main_call1_v2 : Ref sig .tc := ⟨.hbm, 130, rfl⟩
abbrev main_v88 : Ref sig .tc := ⟨.hbm, 131, rfl⟩
abbrev main_cst_16 : Ref sig .tc := ⟨.hbm, 132, rfl⟩
abbrev main_v89 : Ref sig .tc := ⟨.hbm, 133, rfl⟩
abbrev main_v90 : Ref sig .tc := ⟨.hbm, 134, rfl⟩
abbrev main_cst_17 : Ref sig .tc := ⟨.hbm, 135, rfl⟩
abbrev main_v91 : Ref sig .tc := ⟨.hbm, 136, rfl⟩
abbrev main_v92 : Ref sig .tc := ⟨.hbm, 137, rfl⟩
abbrev main_cst_18 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_cst_19 : Ref sig .tc := ⟨.hbm, 143, rfl⟩
abbrev main_v97 : Ref sig .tc := ⟨.hbm, 144, rfl⟩
abbrev main_v98 : Ref sig .tc := ⟨.hbm, 145, rfl⟩
abbrev main_cst_20 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_cst_21 : Ref sig .tc := ⟨.hbm, 152, rfl⟩
abbrev main_v104 : Ref sig .tc := ⟨.hbm, 153, rfl⟩
abbrev main_v105 : Ref sig .tc := ⟨.hbm, 154, rfl⟩
abbrev main_cst_22 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_cst_23 : Ref sig .tc := ⟨.hbm, 163, rfl⟩
abbrev main_v113 : Ref sig .tc := ⟨.hbm, 164, rfl⟩
abbrev main_v114 : Ref sig .tc := ⟨.hbm, 165, rfl⟩
abbrev main_cst_24 : Ref sig .tc := ⟨.hbm, 166, rfl⟩
abbrev main_v115 : Ref sig .tc := ⟨.hbm, 167, rfl⟩
abbrev main_v116 : Ref sig .tc := ⟨.hbm, 168, rfl⟩
abbrev main_cst_25 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_cst_26 : Ref sig .tc := ⟨.hbm, 173, rfl⟩
abbrev main_v120 : Ref sig .tc := ⟨.hbm, 174, rfl⟩
abbrev main_v121 : Ref sig .tc := ⟨.hbm, 175, rfl⟩
abbrev main_cst_27 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_cst_28 : Ref sig .tc := ⟨.hbm, 188, rfl⟩
abbrev main_v133 : Ref sig .tc := ⟨.hbm, 189, rfl⟩
abbrev main_cst_29 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_cst_30 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_cst_31 : Ref sig .tc := ⟨.hbm, 199, rfl⟩
abbrev main_v141 : Ref sig .tc := ⟨.hbm, 200, rfl⟩
abbrev main_v142 : Ref sig .tc := ⟨.hbm, 201, rfl⟩
abbrev main_cst_32 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_cst_33 : Ref sig .tc := ⟨.hbm, 208, rfl⟩
abbrev main_v148 : Ref sig .tc := ⟨.hbm, 209, rfl⟩
abbrev main_v149 : Ref sig .tc := ⟨.hbm, 210, rfl⟩
abbrev main_cst_34 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_cst_35 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_cst_36 : Ref sig .tc := ⟨.hbm, 224, rfl⟩
abbrev main_v161 : Ref sig .tc := ⟨.hbm, 225, rfl⟩
abbrev main_v162 : Ref sig .tc := ⟨.hbm, 226, rfl⟩
abbrev main_cst_37 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_cst_38 : Ref sig .tc := ⟨.hbm, 233, rfl⟩
abbrev main_v168 : Ref sig .tc := ⟨.hbm, 234, rfl⟩
abbrev main_v169 : Ref sig .tc := ⟨.hbm, 235, rfl⟩
abbrev main_cst_39 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_cst_40 : Ref sig .tc := ⟨.hbm, 247, rfl⟩
abbrev main_v180 : Ref sig .tc := ⟨.hbm, 248, rfl⟩
abbrev main_v181 : Ref sig .tc := ⟨.hbm, 249, rfl⟩
abbrev main_cst_41 : Ref sig .tc := ⟨.hbm, 250, rfl⟩
abbrev main_v182 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_cst_42 : Ref sig .tc := ⟨.hbm, 258, rfl⟩
abbrev main_v189 : Ref sig .tc := ⟨.hbm, 259, rfl⟩
abbrev main_v190 : Ref sig .tc := ⟨.hbm, 260, rfl⟩
abbrev main_cst_43 : Ref sig .tc := ⟨.hbm, 261, rfl⟩
abbrev main_v191 : Ref sig .tc := ⟨.hbm, 262, rfl⟩
abbrev main_v192 : Ref sig .tc := ⟨.hbm, 263, rfl⟩
abbrev main_v193 : Ref sig .tc := ⟨.hbm, 264, rfl⟩
abbrev main_v194 : Ref sig .tc := ⟨.hbm, 265, rfl⟩
abbrev main_v195 : Ref sig .tc := ⟨.hbm, 266, rfl⟩
abbrev main_v196 : Ref sig .tc := ⟨.hbm, 267, rfl⟩
abbrev main_v197 : Ref sig .tc := ⟨.hbm, 268, rfl⟩
abbrev main_cst_44 : Ref sig .tc := ⟨.hbm, 269, rfl⟩
abbrev main_v198 : Ref sig .tc := ⟨.hbm, 270, rfl⟩
abbrev main_v199 : Ref sig .tc := ⟨.hbm, 271, rfl⟩
abbrev main_v200 : Ref sig .tc := ⟨.hbm, 272, rfl⟩
abbrev main_v201 : Ref sig .tc := ⟨.hbm, 273, rfl⟩
abbrev main_v202 : Ref sig .tc := ⟨.hbm, 274, rfl⟩
abbrev main_v203 : Ref sig .tc := ⟨.hbm, 275, rfl⟩
abbrev main_cst_45 : Ref sig .tc := ⟨.hbm, 276, rfl⟩
abbrev main_v204 : Ref sig .tc := ⟨.hbm, 277, rfl⟩
abbrev main_v205 : Ref sig .tc := ⟨.hbm, 278, rfl⟩

abbrev nD : Nat := 1
abbrev τ : Topo := Topo.v7x

variable {F : FTy → Type} [FloatOps F]
-- ==== DilKernel.lean ====
abbrev S4x2048x384 : Shape := ⟨3, ![4, 2048, 384]⟩
abbrev S4x2048x6x64 : Shape := ⟨4, ![4, 2048, 6, 64]⟩
abbrev S4x6x2048x2048 : Shape := ⟨4, ![4, 6, 2048, 2048]⟩
abbrev S_ : Shape := ⟨0, ![]⟩
abbrev S2048x2048 : Shape := ⟨2, ![2048, 2048]⟩
abbrev S4x6x2048 : Shape := ⟨3, ![4, 6, 2048]⟩
abbrev S4x6x2048x1 : Shape := ⟨4, ![4, 6, 2048, 1]⟩
abbrev S4x6x2048x64 : Shape := ⟨4, ![4, 6, 2048, 64]⟩
abbrev S4x2048x6 : Shape := ⟨3, ![4, 2048, 6]⟩
abbrev S32x256x6 : Shape := ⟨3, ![32, 256, 6]⟩
abbrev S32x6x256 : Shape := ⟨3, ![32, 6, 256]⟩
abbrev S32x6x1x256 : Shape := ⟨4, ![32, 6, 1, 256]⟩
abbrev S32x2x1x256 : Shape := ⟨4, ![32, 2, 1, 256]⟩
abbrev S32x8x1x256 : Shape := ⟨4, ![32, 8, 1, 256]⟩
abbrev S4x2048x1152 : Shape := ⟨3, ![4, 2048, 1152]⟩
abbrev S8192x1152 : Shape := ⟨2, ![8192, 1152]⟩
abbrev S8192x3x128 : Shape := ⟨3, ![8192, 3, 128]⟩
abbrev S3x8192x128 : Shape := ⟨3, ![3, 8192, 128]⟩
abbrev S1x128 : Shape := ⟨2, ![1, 128]⟩
abbrev S3x1x8192x128 : Shape := ⟨4, ![3, 1, 8192, 128]⟩
abbrev S3x2x8192x128 : Shape := ⟨4, ![3, 2, 8192, 128]⟩
abbrev S3x2x4x8x256x128 : Shape := ⟨6, ![3, 2, 4, 8, 256, 128]⟩
abbrev S4x3x2x8x128x256 : Shape := ⟨6, ![4, 3, 2, 8, 128, 256]⟩
abbrev S8x512x256 : Shape := ⟨3, ![8, 512, 256]⟩
abbrev S1x512x256 : Shape := ⟨3, ![1, 512, 256]⟩
abbrev S9x512x256 : Shape := ⟨3, ![9, 512, 256]⟩
abbrev S8192x384 : Shape := ⟨2, ![8192, 384]⟩
abbrev S2048x128 : Shape := ⟨2, ![2048, 128]⟩
abbrev S512x128 : Shape := ⟨2, ![512, 128]⟩
abbrev S8x2x1x256 : Shape := ⟨4, ![8, 2, 1, 256]⟩
abbrev S1x1x2x2x128x256 : Shape := ⟨6, ![1, 1, 2, 2, 128, 256]⟩
abbrev S2x8x128x256 : Shape := ⟨4, ![2, 8, 128, 256]⟩
abbrev S2x512x128 : Shape := ⟨3, ![2, 512, 128]⟩
abbrev S2x2x512x256 : Shape := ⟨4, ![2, 2, 512, 256]⟩
abbrev S1x1x1x1x128x256 : Shape := ⟨6, ![1, 1, 1, 1, 128, 256]⟩
abbrev S128x256 : Shape := ⟨2, ![128, 256]⟩
abbrev S128x512 : Shape := ⟨2, ![128, 512]⟩
abbrev S256x128 : Shape := ⟨2, ![256, 128]⟩
abbrev S512x256 : Shape := ⟨2, ![512, 256]⟩
abbrev S1x1x512x256 : Shape := ⟨4, ![1, 1, 512, 256]⟩
abbrev S1x1x1x256 : Shape := ⟨4, ![1, 1, 1, 256]⟩
abbrev S1x256 : Shape := ⟨2, ![1, 256]⟩
abbrev S1x512x128 : Shape := ⟨3, ![1, 512, 128]⟩
abbrev S1x1x128x256 : Shape := ⟨4, ![1, 1, 128, 256]⟩

abbrev nBuf : Space → Nat
  | .hbm => 369
  | .vmem => 25
  | .smem => 0
  | _ => 0

abbrev hbmTy0_0 (i : Nat) : BufTy := match i % 128 with
  | 0 => ⟨S4x2048x384, .f32⟩
  | 1 => ⟨S4x2048x384, .f32⟩
  | 2 => ⟨S4x2048x384, .f32⟩
  | 3 => ⟨S4x2048x384, .f32⟩
  | 4 => ⟨S4x2048x6x64, .f32⟩
  | 5 => ⟨S4x2048x6x64, .f32⟩
  | 6 => ⟨S4x2048x6x64, .f32⟩
  | 7 => ⟨S4x6x2048x2048, .f32⟩
  | 8 => ⟨S_, .f32⟩
  | 9 => ⟨S4x6x2048x2048, .f32⟩
  | 10 => ⟨S4x6x2048x2048, .f32⟩
  | 11 => ⟨S2048x2048, .i32⟩
  | 12 => ⟨S2048x2048, .i32⟩
  | 13 => ⟨S2048x2048, .i32⟩
  | 14 => ⟨S_, .i32⟩
  | 15 => ⟨S2048x2048, .i32⟩
  | 16 => ⟨S2048x2048, .i1⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S2048x2048, .i32⟩
  | 24 => ⟨S2048x2048, .i32⟩
  | 25 => ⟨S_, .i32⟩
  | 26 => ⟨S2048x2048, .i32⟩
  | 27 => ⟨S2048x2048, .i1⟩
  | 28 => ⟨S_, .i32⟩
  | 29 => ⟨S2048x2048, .i32⟩
  | 30 => ⟨S2048x2048, .i1⟩
  | 31 => ⟨S_, .i32⟩
  | 32 => ⟨S_, .i1⟩
  | 33 => ⟨S2048x2048, .i1⟩
  | 34 => ⟨S2048x2048, .i1⟩
  | 35 => ⟨S2048x2048, .i1⟩
  | 36 => ⟨S2048x2048, .i32⟩
  | 37 => ⟨S2048x2048, .i32⟩
  | 38 => ⟨S2048x2048, .i32⟩
  | 39 => ⟨S_, .i32⟩
  | 40 => ⟨S2048x2048, .i32⟩
  | 41 => ⟨S2048x2048, .i1⟩
  | 42 => ⟨S2048x2048, .i1⟩
  | 43 => ⟨S_, .i32⟩
  | 44 => ⟨S2048x2048, .i32⟩
  | 45 => ⟨S2048x2048, .i1⟩
  | 46 => ⟨S2048x2048, .i1⟩
  | 47 => ⟨S_, .f32⟩
  | 48 => ⟨S_, .f32⟩
  | 49 => ⟨S4x6x2048x2048, .i1⟩
  | 50 => ⟨S4x6x2048x2048, .f32⟩
  | 51 => ⟨S4x6x2048x2048, .f32⟩
  | 52 => ⟨S_, .f32⟩
  | 53 => ⟨S4x6x2048, .f32⟩
  | 54 => ⟨S4x6x2048x1, .f32⟩
  | 55 => ⟨S4x6x2048x2048, .f32⟩
  | 56 => ⟨S4x6x2048x2048, .f32⟩
  | 57 => ⟨S4x6x2048x2048, .f32⟩
  | 58 => ⟨S4x6x2048x64, .f32⟩
  | 59 => ⟨S_, .f32⟩
  | 60 => ⟨S4x6x2048, .f32⟩
  | 61 => ⟨S_, .i32⟩
  | 62 => ⟨S2048x2048, .i32⟩
  | 63 => ⟨S2048x2048, .i1⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S2048x2048, .i32⟩
  | 71 => ⟨S2048x2048, .i32⟩
  | 72 => ⟨S_, .i32⟩
  | 73 => ⟨S2048x2048, .i32⟩
  | 74 => ⟨S2048x2048, .i1⟩
  | 75 => ⟨S_, .i32⟩
  | 76 => ⟨S2048x2048, .i32⟩
  | 77 => ⟨S2048x2048, .i1⟩
  | 78 => ⟨S_, .i32⟩
  | 79 => ⟨S_, .i1⟩
  | 80 => ⟨S2048x2048, .i1⟩
  | 81 => ⟨S2048x2048, .i1⟩
  | 82 => ⟨S2048x2048, .i1⟩
  | 83 => ⟨S2048x2048, .i32⟩
  | 84 => ⟨S2048x2048, .i32⟩
  | 85 => ⟨S2048x2048, .i32⟩
  | 86 => ⟨S_, .i32⟩
  | 87 => ⟨S2048x2048, .i32⟩
  | 88 => ⟨S2048x2048, .i1⟩
  | 89 => ⟨S2048x2048, .i1⟩
  | 90 => ⟨S_, .i32⟩
  | 91 => ⟨S2048x2048, .i32⟩
  | 92 => ⟨S2048x2048, .i1⟩
  | 93 => ⟨S2048x2048, .i1⟩
  | 94 => ⟨S_, .f32⟩
  | 95 => ⟨S_, .f32⟩
  | 96 => ⟨S4x6x2048x2048, .i1⟩
  | 97 => ⟨S4x6x2048x2048, .f32⟩
  | 98 => ⟨S4x6x2048x2048, .f32⟩
  | 99 => ⟨S_, .f32⟩
  | 100 => ⟨S4x6x2048, .f32⟩
  | 101 => ⟨S4x6x2048x1, .f32⟩
  | 102 => ⟨S4x6x2048x2048, .f32⟩
  | 103 => ⟨S4x6x2048x2048, .f32⟩
  | 104 => ⟨S4x6x2048x2048, .f32⟩
  | 105 => ⟨S4x6x2048x64, .f32⟩
  | 106 => ⟨S_, .f32⟩
  | 107 => ⟨S4x6x2048, .f32⟩
  | 108 => ⟨S_, .i32⟩
  | 109 => ⟨S2048x2048, .i32⟩
  | 110 => ⟨S2048x2048, .i1⟩
  | 111 => ⟨S_, .i32⟩
  | 112 => ⟨S_, .i32⟩
  | 113 => ⟨S_, .i32⟩
  | 114 => ⟨S_, .i1⟩
  | 115 => ⟨S_, .i32⟩
  | 116 => ⟨S_, .i32⟩
  | 117 => ⟨S2048x2048, .i32⟩
  | 118 => ⟨S2048x2048, .i32⟩
  | 119 => ⟨S_, .i32⟩
  | 120 => ⟨S2048x2048, .i32⟩
  | 121 => ⟨S2048x2048, .i1⟩
  | 122 => ⟨S_, .i32⟩
  | 123 => ⟨S2048x2048, .i32⟩
  | 124 => ⟨S2048x2048, .i1⟩
  | 125 => ⟨S_, .i32⟩
  | 126 => ⟨S_, .i1⟩
  | 127 => ⟨S2048x2048, .i1⟩
  | _ => ⟨S4x2048x384, .f32⟩

abbrev hbmTy0_1 (i : Nat) : BufTy := match i % 128 with
  | 0 => ⟨S2048x2048, .i1⟩
  | 1 => ⟨S2048x2048, .i1⟩
  | 2 => ⟨S2048x2048, .i32⟩
  | 3 => ⟨S2048x2048, .i32⟩
  | 4 => ⟨S2048x2048, .i32⟩
  | 5 => ⟨S_, .i32⟩
  | 6 => ⟨S2048x2048, .i32⟩
  | 7 => ⟨S2048x2048, .i1⟩
  | 8 => ⟨S2048x2048, .i1⟩
  | 9 => ⟨S_, .i32⟩
  | 10 => ⟨S2048x2048, .i32⟩
  | 11 => ⟨S2048x2048, .i1⟩
  | 12 => ⟨S2048x2048, .i1⟩
  | 13 => ⟨S_, .f32⟩
  | 14 => ⟨S_, .f32⟩
  | 15 => ⟨S4x6x2048x2048, .i1⟩
  | 16 => ⟨S4x6x2048x2048, .f32⟩
  | 17 => ⟨S4x6x2048x2048, .f32⟩
  | 18 => ⟨S_, .f32⟩
  | 19 => ⟨S4x6x2048, .f32⟩
  | 20 => ⟨S4x6x2048x1, .f32⟩
  | 21 => ⟨S4x6x2048x2048, .f32⟩
  | 22 => ⟨S4x6x2048x2048, .f32⟩
  | 23 => ⟨S4x6x2048x2048, .f32⟩
  | 24 => ⟨S4x6x2048x64, .f32⟩
  | 25 => ⟨S_, .f32⟩
  | 26 => ⟨S4x6x2048, .f32⟩
  | 27 => ⟨S4x6x2048, .f32⟩
  | 28 => ⟨S4x6x2048, .f32⟩
  | 29 => ⟨S4x6x2048, .f32⟩
  | 30 => ⟨S4x6x2048, .f32⟩
  | 31 => ⟨S4x6x2048x1, .f32⟩
  | 32 => ⟨S4x6x2048x64, .f32⟩
  | 33 => ⟨S4x6x2048x64, .f32⟩
  | 34 => ⟨S_, .f32⟩
  | 35 => ⟨S4x6x2048x64, .f32⟩
  | 36 => ⟨S4x6x2048x64, .f32⟩
  | 37 => ⟨S4x6x2048, .f32⟩
  | 38 => ⟨S_, .f32⟩
  | 39 => ⟨S4x6x2048, .f32⟩
  | 40 => ⟨S4x6x2048, .f32⟩
  | 41 => ⟨S4x6x2048, .f32⟩
  | 42 => ⟨S4x6x2048, .f32⟩
  | 43 => ⟨S4x6x2048x1, .f32⟩
  | 44 => ⟨S4x6x2048x64, .f32⟩
  | 45 => ⟨S4x6x2048x64, .f32⟩
  | 46 => ⟨S4x6x2048x64, .f32⟩
  | 47 => ⟨S4x6x2048, .f32⟩
  | 48 => ⟨S4x6x2048, .f32⟩
  | 49 => ⟨S4x6x2048, .f32⟩
  | 50 => ⟨S4x6x2048, .f32⟩
  | 51 => ⟨S4x6x2048x1, .f32⟩
  | 52 => ⟨S4x6x2048x64, .f32⟩
  | 53 => ⟨S4x6x2048x64, .f32⟩
  | 54 => ⟨S4x6x2048x64, .f32⟩
  | 55 => ⟨S4x6x2048, .f32⟩
  | 56 => ⟨S4x6x2048, .f32⟩
  | 57 => ⟨S4x6x2048x1, .f32⟩
  | 58 => ⟨S4x6x2048x64, .f32⟩
  | 59 => ⟨S4x6x2048x64, .f32⟩
  | 60 => ⟨S4x2048x6x64, .f32⟩
  | 61 => ⟨S4x2048x6, .f32⟩
  | 62 => ⟨S4x2048x6, .f32⟩
  | 63 => ⟨S4x2048x6x64, .f32⟩
  | 64 => ⟨S4x2048x6x64, .f32⟩
  | 65 => ⟨S_, .f32⟩
  | 66 => ⟨S4x2048x6, .f32⟩
  | 67 => ⟨S32x256x6, .f32⟩
  | 68 => ⟨S32x6x256, .f32⟩
  | 69 => ⟨S32x6x1x256, .f32⟩
  | 70 => ⟨S_, .f32⟩
  | 71 => ⟨S32x2x1x256, .f32⟩
  | 72 => ⟨S32x8x1x256, .f32⟩
  | 73 => ⟨S4x2048x1152, .f32⟩
  | 74 => ⟨S4x2048x1152, .bf16⟩
  | 75 => ⟨S8192x1152, .bf16⟩
  | 76 => ⟨S4x2048x384, .bf16⟩
  | 77 => ⟨S8192x3x128, .bf16⟩
  | 78 => ⟨S3x8192x128, .bf16⟩
  | 79 => ⟨S1x128, .i32⟩
  | 80 => ⟨S_, .i32⟩
  | 81 => ⟨S1x128, .i32⟩
  | 82 => ⟨S1x128, .i1⟩
  | 83 => ⟨S_, .i32⟩
  | 84 => ⟨S1x128, .i32⟩
  | 85 => ⟨S1x128, .i1⟩
  | 86 => ⟨S_, .bf16⟩
  | 87 => ⟨S3x8192x128, .i1⟩
  | 88 => ⟨S3x8192x128, .bf16⟩
  | 89 => ⟨S3x8192x128, .bf16⟩
  | 90 => ⟨S_, .bf16⟩
  | 91 => ⟨S3x8192x128, .i1⟩
  | 92 => ⟨S3x8192x128, .bf16⟩
  | 93 => ⟨S3x8192x128, .bf16⟩
  | 94 => ⟨S3x1x8192x128, .bf16⟩
  | 95 => ⟨S3x1x8192x128, .bf16⟩
  | 96 => ⟨S3x2x8192x128, .bf16⟩
  | 97 => ⟨S3x2x4x8x256x128, .bf16⟩
  | 98 => ⟨S4x3x2x8x128x256, .bf16⟩
  | 99 => ⟨S8x512x256, .i32⟩
  | 100 => ⟨S8x512x256, .i32⟩
  | 101 => ⟨S8x512x256, .i32⟩
  | 102 => ⟨S_, .i32⟩
  | 103 => ⟨S8x512x256, .i32⟩
  | 104 => ⟨S8x512x256, .i32⟩
  | 105 => ⟨S_, .i32⟩
  | 106 => ⟨S8x512x256, .i32⟩
  | 107 => ⟨S8x512x256, .i32⟩
  | 108 => ⟨S8x512x256, .i32⟩
  | 109 => ⟨S8x512x256, .i32⟩
  | 110 => ⟨S_, .f32⟩
  | 111 => ⟨S8x512x256, .f32⟩
  | 112 => ⟨S_, .i32⟩
  | 113 => ⟨S8x512x256, .i32⟩
  | 114 => ⟨S8x512x256, .i1⟩
  | 115 => ⟨S_, .i32⟩
  | 116 => ⟨S_, .i32⟩
  | 117 => ⟨S_, .i32⟩
  | 118 => ⟨S_, .i1⟩
  | 119 => ⟨S_, .i32⟩
  | 120 => ⟨S_, .i32⟩
  | 121 => ⟨S8x512x256, .i32⟩
  | 122 => ⟨S8x512x256, .i32⟩
  | 123 => ⟨S_, .i32⟩
  | 124 => ⟨S8x512x256, .i32⟩
  | 125 => ⟨S8x512x256, .i1⟩
  | 126 => ⟨S_, .i32⟩
  | 127 => ⟨S8x512x256, .i32⟩
  | _ => ⟨S4x2048x384, .f32⟩

abbrev hbmTy0_2 (i : Nat) : BufTy := match i % 128 with
  | 0 => ⟨S8x512x256, .i1⟩
  | 1 => ⟨S_, .i32⟩
  | 2 => ⟨S_, .i1⟩
  | 3 => ⟨S8x512x256, .i1⟩
  | 4 => ⟨S8x512x256, .i1⟩
  | 5 => ⟨S8x512x256, .i1⟩
  | 6 => ⟨S8x512x256, .i32⟩
  | 7 => ⟨S8x512x256, .i32⟩
  | 8 => ⟨S8x512x256, .i32⟩
  | 9 => ⟨S_, .i32⟩
  | 10 => ⟨S8x512x256, .i32⟩
  | 11 => ⟨S8x512x256, .i1⟩
  | 12 => ⟨S8x512x256, .i1⟩
  | 13 => ⟨S_, .i32⟩
  | 14 => ⟨S8x512x256, .i32⟩
  | 15 => ⟨S8x512x256, .i1⟩
  | 16 => ⟨S8x512x256, .i1⟩
  | 17 => ⟨S8x512x256, .f32⟩
  | 18 => ⟨S8x512x256, .f32⟩
  | 19 => ⟨S_, .i32⟩
  | 20 => ⟨S8x512x256, .i32⟩
  | 21 => ⟨S8x512x256, .i1⟩
  | 22 => ⟨S_, .i32⟩
  | 23 => ⟨S_, .i32⟩
  | 24 => ⟨S_, .i32⟩
  | 25 => ⟨S_, .i1⟩
  | 26 => ⟨S_, .i32⟩
  | 27 => ⟨S_, .i32⟩
  | 28 => ⟨S8x512x256, .i32⟩
  | 29 => ⟨S8x512x256, .i32⟩
  | 30 => ⟨S_, .i32⟩
  | 31 => ⟨S8x512x256, .i32⟩
  | 32 => ⟨S8x512x256, .i1⟩
  | 33 => ⟨S_, .i32⟩
  | 34 => ⟨S8x512x256, .i32⟩
  | 35 => ⟨S8x512x256, .i1⟩
  | 36 => ⟨S_, .i32⟩
  | 37 => ⟨S_, .i1⟩
  | 38 => ⟨S8x512x256, .i1⟩
  | 39 => ⟨S8x512x256, .i1⟩
  | 40 => ⟨S8x512x256, .i1⟩
  | 41 => ⟨S8x512x256, .i32⟩
  | 42 => ⟨S8x512x256, .i32⟩
  | 43 => ⟨S8x512x256, .i32⟩
  | 44 => ⟨S_, .i32⟩
  | 45 => ⟨S8x512x256, .i32⟩
  | 46 => ⟨S8x512x256, .i1⟩
  | 47 => ⟨S8x512x256, .i1⟩
  | 48 => ⟨S_, .i32⟩
  | 49 => ⟨S8x512x256, .i32⟩
  | 50 => ⟨S8x512x256, .i1⟩
  | 51 => ⟨S8x512x256, .i1⟩
  | 52 => ⟨S8x512x256, .f32⟩
  | 53 => ⟨S8x512x256, .f32⟩
  | 54 => ⟨S_, .i32⟩
  | 55 => ⟨S8x512x256, .i32⟩
  | 56 => ⟨S8x512x256, .i1⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S8x512x256, .i32⟩
  | 64 => ⟨S8x512x256, .i32⟩
  | 65 => ⟨S_, .i32⟩
  | 66 => ⟨S8x512x256, .i32⟩
  | 67 => ⟨S8x512x256, .i1⟩
  | 68 => ⟨S_, .i32⟩
  | 69 => ⟨S8x512x256, .i32⟩
  | 70 => ⟨S8x512x256, .i1⟩
  | 71 => ⟨S_, .i32⟩
  | 72 => ⟨S_, .i1⟩
  | 73 => ⟨S8x512x256, .i1⟩
  | 74 => ⟨S8x512x256, .i1⟩
  | 75 => ⟨S8x512x256, .i1⟩
  | 76 => ⟨S8x512x256, .i32⟩
  | 77 => ⟨S8x512x256, .i32⟩
  | 78 => ⟨S8x512x256, .i32⟩
  | 79 => ⟨S_, .i32⟩
  | 80 => ⟨S8x512x256, .i32⟩
  | 81 => ⟨S8x512x256, .i1⟩
  | 82 => ⟨S8x512x256, .i1⟩
  | 83 => ⟨S_, .i32⟩
  | 84 => ⟨S8x512x256, .i32⟩
  | 85 => ⟨S8x512x256, .i1⟩
  | 86 => ⟨S8x512x256, .i1⟩
  | 87 => ⟨S8x512x256, .f32⟩
  | 88 => ⟨S8x512x256, .f32⟩
  | 89 => ⟨S_, .f32⟩
  | 90 => ⟨S8x512x256, .f32⟩
  | 91 => ⟨S8x512x256, .i1⟩
  | 92 => ⟨S_, .f32⟩
  | 93 => ⟨S8x512x256, .f32⟩
  | 94 => ⟨S8x512x256, .f32⟩
  | 95 => ⟨S8x512x256, .f32⟩
  | 96 => ⟨S_, .f32⟩
  | 97 => ⟨S_, .f32⟩
  | 98 => ⟨S8x512x256, .f32⟩
  | 99 => ⟨S8x512x256, .f32⟩
  | 100 => ⟨S_, .f32⟩
  | 101 => ⟨S1x512x256, .f32⟩
  | 102 => ⟨S9x512x256, .f32⟩
  | 103 => ⟨S4x2048x384, .bf16⟩
  | 104 => ⟨S8192x384, .bf16⟩
  | 105 => ⟨S4x2048x6, .f32⟩
  | 106 => ⟨S4x2048x6, .f32⟩
  | 107 => ⟨S32x256x6, .f32⟩
  | 108 => ⟨S32x6x256, .f32⟩
  | 109 => ⟨S32x6x1x256, .f32⟩
  | 110 => ⟨S8192x384, .f32⟩
  | 111 => ⟨S8192x384, .bf16⟩
  | 112 => ⟨S8192x384, .bf16⟩
  | _ => ⟨S4x2048x384, .f32⟩

abbrev hbmTy (i : Nat) : BufTy := match i / 128 with
  | 0 => hbmTy0_0 i
  | 1 => hbmTy0_1 i
  | 2 => hbmTy0_2 i
  | _ => ⟨S4x2048x384, .f32⟩

abbrev bufTy : (tb : Table) → Fin (tcTables nBuf tb) → BufTy
  | .hbm, ⟨i, _⟩ => hbmTy i
  | .local _ .vmem, ⟨0, _⟩ => ⟨S2048x128, .bf16⟩
  | .local _ .vmem, ⟨1, _⟩ => ⟨S2048x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S9x512x256, .f32⟩
  | .local _ .vmem, ⟨7, _⟩ => ⟨S2048x128, .bf16⟩
  | .local _ .vmem, ⟨8, _⟩ => ⟨S2048x128, .bf16⟩
  | .local _ .vmem, ⟨9, _⟩ => ⟨S8x2x1x256, .f32⟩
  | .local _ .vmem, ⟨10, _⟩ => ⟨S8x2x1x256, .f32⟩
  | .local _ .vmem, ⟨11, _⟩ => ⟨S8x2x1x256, .f32⟩
  | .local _ .vmem, ⟨12, _⟩ => ⟨S8x2x1x256, .f32⟩
  | .local _ .vmem, ⟨13, _⟩ => ⟨S1x1x2x2x128x256, .bf16⟩
  | .local _ .vmem, ⟨14, _⟩ => ⟨S1x1x2x2x128x256, .bf16⟩
  | .local _ .vmem, ⟨15, _⟩ => ⟨S2048x128, .f32⟩
  | .local _ .vmem, ⟨16, _⟩ => ⟨S2048x128, .f32⟩
  | .local _ .vmem, ⟨17, _⟩ => ⟨S512x128, .bf16⟩
  | .local _ .vmem, ⟨18, _⟩ => ⟨S512x128, .bf16⟩
  | .local _ .vmem, ⟨19, _⟩ => ⟨S512x128, .bf16⟩
  | .local _ .vmem, ⟨20, _⟩ => ⟨S512x128, .bf16⟩
  | .local _ .vmem, ⟨21, _⟩ => ⟨S2x8x128x256, .f32⟩
  | .local _ .vmem, ⟨22, _⟩ => ⟨S2x512x128, .f32⟩
  | .local _ .vmem, ⟨23, _⟩ => ⟨S512x128, .f32⟩
  | .local _ .vmem, ⟨24, _⟩ => ⟨S2x2x512x256, .f32⟩
  | _, _ => ⟨S4x2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_1 : Ref sig .tc := ⟨.hbm, 25, rfl⟩
abbrev main_call0_v5 : Ref sig .tc := ⟨.hbm, 26, rfl⟩
abbrev main_call0_v6 : Ref sig .tc := ⟨.hbm, 27, rfl⟩
abbrev main_call0_c_2 : Ref sig .tc := ⟨.hbm, 28, rfl⟩
abbrev main_call0_v7 : Ref sig .tc := ⟨.hbm, 29, rfl⟩
abbrev main_call0_v8 : Ref sig .tc := ⟨.hbm, 30, rfl⟩
abbrev main_call0_c_3 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_v11 : Ref sig .tc := ⟨.hbm, 38, rfl⟩
abbrev main_c_1 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_c_2 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_3 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v18 : Ref sig .tc := ⟨.hbm, 51, rfl⟩
abbrev main_cst_4 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_cst_5 : Ref sig .tc := ⟨.hbm, 59, rfl⟩
abbrev main_v25 : Ref sig .tc := ⟨.hbm, 60, rfl⟩
abbrev main_c_6 : Ref sig .tc := ⟨.hbm, 61, rfl⟩
abbrev main_v26 : Ref sig .tc := ⟨.hbm, 62, rfl⟩
abbrev main_v27 : Ref sig .tc := ⟨.hbm, 63, rfl⟩
abbrev main_c_7 : Ref sig .tc := ⟨.hbm, 64, rfl⟩
abbrev main_call2_v0 : Ref sig .tc := ⟨.hbm, 65, rfl⟩
abbrev main_call2_c : Ref sig .tc := ⟨.hbm, 66, rfl⟩
abbrev main_call2_v1 : Ref sig .tc := ⟨.hbm, 67, rfl⟩
abbrev main_call2_c_0 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_c_1 : Ref sig .tc := ⟨.hbm, 72, rfl⟩
abbrev main_call2_v5 : Ref sig .tc := ⟨.hbm, 73, rfl⟩
abbrev main_call2_v6 : Ref sig .tc := ⟨.hbm, 74, rfl⟩
abbrev main_call2_c_2 : Ref sig .tc := ⟨.hbm, 75, rfl⟩
abbrev main_call2_v7 : Ref sig .tc := ⟨.hbm, 76, rfl⟩
abbrev main_call2_v8 : Ref sig .tc := ⟨.hbm, 77, rfl⟩
abbrev main_call2_c_3 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_v12 : Ref sig .tc := ⟨.hbm, 82, rfl⟩
abbrev main_call2_v13 : Ref sig .tc := ⟨.hbm, 83, rfl⟩
abbrev main_call2_v14 : Ref sig .tc := ⟨.hbm, 84, rfl⟩
abbrev main_v28 : Ref sig .tc := ⟨.hbm, 85, rfl⟩
abbrev main_c_8 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_c_9 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_cst_10 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_v35 : Ref sig .tc := ⟨.hbm, 98, rfl⟩
abbrev main_cst_11 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_cst_12 : Ref sig .tc := ⟨.hbm, 106, rfl⟩
abbrev main_v42 : Ref sig .tc := ⟨.hbm, 107, rfl⟩
abbrev main_c_13 : Ref sig .tc := ⟨.hbm, 108, rfl⟩
abbrev main_v43 : Ref sig .tc := ⟨.hbm, 109, rfl⟩
abbrev main_v44 : Ref sig .tc := ⟨.hbm, 110, rfl⟩
abbrev main_c_14 : Ref sig .tc := ⟨.hbm, 111, rfl⟩
abbrev main_call4_v0 : Ref sig .tc := ⟨.hbm, 112, rfl⟩
abbrev main_call4_c : Ref sig .tc := ⟨.hbm, 113, rfl⟩
abbrev main_call4_v1 : Ref sig .tc := ⟨.hbm, 114, rfl⟩
abbrev main_call4_c_0 : Ref sig .tc := ⟨.hbm, 115, rfl⟩
abbrev main_call4_v2 : Ref sig .tc := ⟨.hbm, 116, rfl⟩
abbrev main_call4_v3 : Ref sig .tc := ⟨.hbm, 117, rfl⟩
abbrev main_call4_v4 : Ref sig .tc := ⟨.hbm, 118, rfl⟩
abbrev main_call4_c_1 : Ref sig .tc := ⟨.hbm, 119, rfl⟩
abbrev main_call4_v5 : Ref sig .tc := ⟨.hbm, 120, rfl⟩
abbrev main_call4_v6 : Ref sig .tc := ⟨.hbm, 121, rfl⟩
abbrev main_call4_c_2 : Ref sig .tc := ⟨.hbm, 122, rfl⟩
abbrev main_call4_v7 : Ref sig .tc := ⟨.hbm, 123, rfl⟩
abbrev main_call4_v8 : Ref sig .tc := ⟨.hbm, 124, rfl⟩
abbrev main_call4_c_3 : Ref sig .tc := ⟨.hbm, 125, rfl⟩
abbrev main_call4_v9 : Ref sig .tc := ⟨.hbm, 126, rfl⟩
abbrev main_call4_v10 : Ref sig .tc := ⟨.hbm, 127, rfl⟩
abbrev main_call4_v11 : Ref sig .tc := ⟨.hbm, 128, rfl⟩
abbrev main_call4_v12 : Ref sig .tc := ⟨.hbm, 129, rfl⟩
abbrev main_call4_v13 : Ref sig .tc := ⟨.hbm, 130, rfl⟩
abbrev main_call4_v14 : Ref sig .tc := ⟨.hbm, 131, rfl⟩
abbrev main_v45 : Ref sig .tc := ⟨.hbm, 132, rfl⟩
abbrev main_c_15 : Ref sig .tc := ⟨.hbm, 133, rfl⟩
abbrev main_v46 : Ref sig .tc := ⟨.hbm, 134, rfl⟩
abbrev main_v47 : Ref sig .tc := ⟨.hbm, 135, rfl⟩
abbrev main_v48 : Ref sig .tc := ⟨.hbm, 136, rfl⟩
abbrev main_c_16 : Ref sig .tc := ⟨.hbm, 137, rfl⟩
abbrev main_v49 : Ref sig .tc := ⟨.hbm, 138, rfl⟩
abbrev main_v50 : Ref sig .tc := ⟨.hbm, 139, rfl⟩
abbrev main_v51 : Ref sig .tc := ⟨.hbm, 140, rfl⟩
abbrev main_cst_17 : Ref sig .tc := ⟨.hbm, 141, rfl⟩
abbrev main_call5_v0 : Ref sig .tc := ⟨.hbm, 142, rfl⟩
abbrev main_call5_v1 : Ref sig .tc := ⟨.hbm, 143, rfl⟩
abbrev main_call5_v2 : Ref sig .tc := ⟨.hbm, 144, rfl⟩
abbrev main_v52 : Ref sig .tc := ⟨.hbm, 145, rfl⟩
abbrev main_cst_18 : Ref sig .tc := ⟨.hbm, 146, rfl⟩
abbrev main_v53 : Ref sig .tc := ⟨.hbm, 147, rfl⟩
abbrev main_v54 : Ref sig .tc := ⟨.hbm, 148, rfl⟩
abbrev main_v55 : Ref sig .tc := ⟨.hbm, 149, rfl⟩
abbrev main_v56 : Ref sig .tc := ⟨.hbm, 150, rfl⟩
abbrev main_v57 : Ref sig .tc := ⟨.hbm, 151, rfl⟩
abbrev main_v58 : Ref sig .tc := ⟨.hbm, 152, rfl⟩
abbrev main_cst_19 : Ref sig .tc := ⟨.hbm, 153, rfl⟩
abbrev main_v59 : Ref sig .tc := ⟨.hbm, 154, rfl⟩
abbrev main_v60 : Ref sig .tc := ⟨.hbm, 155, rfl⟩
abbrev main_v61 : Ref sig .tc := ⟨.hbm, 156, rfl⟩
abbrev main_v62 : Ref sig .tc := ⟨.hbm, 157, rfl⟩
abbrev main_v63 : Ref sig .tc := ⟨.hbm, 158, rfl⟩
abbrev main_v64 : Ref sig .tc := ⟨.hbm, 159, rfl⟩
abbrev main_v65 : Ref sig .tc := ⟨.hbm, 160, rfl⟩
abbrev main_v66 : Ref sig .tc := ⟨.hbm, 161, rfl⟩
abbrev main_cst_20 : Ref sig .tc := ⟨.hbm, 162, rfl⟩
abbrev main_v67 : Ref sig .tc := ⟨.hbm, 163, rfl⟩
abbrev main_v68 : Ref sig .tc := ⟨.hbm, 164, rfl⟩
abbrev main_v69 : Ref sig .tc := ⟨.hbm, 165, rfl⟩
abbrev main_cst_21 : Ref sig .tc := ⟨.hbm, 166, rfl⟩
abbrev main_v70 : Ref sig .tc := ⟨.hbm, 167, rfl⟩
abbrev main_v71 : Ref sig .tc := ⟨.hbm, 168, rfl⟩
abbrev main_v72 : Ref sig .tc := ⟨.hbm, 169, rfl⟩
abbrev main_v73 : Ref sig .tc := ⟨.hbm, 170, rfl⟩
abbrev main_v74 : Ref sig .tc := ⟨.hbm, 171, rfl⟩
abbrev main_v75 : Ref sig .tc := ⟨.hbm, 172, rfl⟩
abbrev main_v76 : Ref sig .tc := ⟨.hbm, 173, rfl⟩
abbrev main_v77 : Ref sig .tc := ⟨.hbm, 174, rfl⟩
abbrev main_v78 : Ref sig .tc := ⟨.hbm, 175, rfl⟩
abbrev main_v79 : Ref sig .tc := ⟨.hbm, 176, rfl⟩
abbrev main_v80 : Ref sig .tc := ⟨.hbm, 177, rfl⟩
abbrev main_v81 : Ref sig .tc := ⟨.hbm, 178, rfl⟩
abbrev main_v82 : Ref sig .tc := ⟨.hbm, 179, rfl⟩
abbrev main_v83 : Ref sig .tc := ⟨.hbm, 180, rfl⟩
abbrev main_v84 : Ref sig .tc := ⟨.hbm, 181, rfl⟩
abbrev main_v85 : Ref sig .tc := ⟨.hbm, 182, rfl⟩
abbrev main_v86 : Ref sig .tc := ⟨.hbm, 183, rfl⟩
abbrev main_v87 : Ref sig .tc := ⟨.hbm, 184, rfl⟩
abbrev main_v88 : Ref sig .tc := ⟨.hbm, 185, rfl⟩
abbrev main_v89 : Ref sig .tc := ⟨.hbm, 186, rfl⟩
abbrev main_v90 : Ref sig .tc := ⟨.hbm, 187, rfl⟩
abbrev main_v91 : Ref sig .tc := ⟨.hbm, 188, rfl⟩
abbrev main_v92 : Ref sig .tc := ⟨.hbm, 189, rfl⟩
abbrev main_v93 : Ref sig .tc := ⟨.hbm, 190, rfl⟩
abbrev main_v94 : Ref sig .tc := ⟨.hbm, 191, rfl⟩
abbrev main_v95 : Ref sig .tc := ⟨.hbm, 192, rfl⟩
abbrev main_cst_22 : Ref sig .tc := ⟨.hbm, 193, rfl⟩
abbrev main_v96 : Ref sig .tc := ⟨.hbm, 194, rfl⟩
abbrev main_v97 : Ref sig .tc := ⟨.hbm, 195, rfl⟩
abbrev main_v98 : Ref sig .tc := ⟨.hbm, 196, rfl⟩
abbrev main_v99 : Ref sig .tc := ⟨.hbm, 197, rfl⟩
abbrev main_cst_23 : Ref sig .tc := ⟨.hbm, 198, rfl⟩
abbrev main_v100 : Ref sig .tc := ⟨.hbm, 199, rfl⟩
abbrev main_v101 : Ref sig .tc := ⟨.hbm, 200, rfl⟩
abbrev main_v102 : Ref sig .tc := ⟨.hbm, 201, rfl⟩
abbrev main_v103 : Ref sig .tc := ⟨.hbm, 202, rfl⟩
abbrev main_v104 : Ref sig .tc := ⟨.hbm, 203, rfl⟩
abbrev main_v105 : Ref sig .tc := ⟨.hbm, 204, rfl⟩
abbrev main_v106 : Ref sig .tc := ⟨.hbm, 205, rfl⟩
abbrev main_v107 : Ref sig .tc := ⟨.hbm, 206, rfl⟩
abbrev main_v108 : Ref sig .tc := ⟨.hbm, 207, rfl⟩
abbrev main_c_24 : Ref sig .tc := ⟨.hbm, 208, rfl⟩
abbrev main_v109 : Ref sig .tc := ⟨.hbm, 209, rfl⟩
abbrev main_v110 : Ref sig .tc := ⟨.hbm, 210, rfl⟩
abbrev main_c_25 : Ref sig .tc := ⟨.hbm, 211, rfl⟩
abbrev main_v111 : Ref sig .tc := ⟨.hbm, 212, rfl⟩
abbrev main_v112 : Ref sig .tc := ⟨.hbm, 213, rfl⟩
abbrev main_cst_26 : Ref sig .tc := ⟨.hbm, 214, rfl⟩
abbrev main_call6_v0 : Ref sig .tc := ⟨.hbm, 215, rfl⟩
abbrev main_call6_v1 : Ref sig .tc := ⟨.hbm, 216, rfl⟩
abbrev main_v113 : Ref sig .tc := ⟨.hbm, 217, rfl⟩
abbrev main_cst_27 : Ref sig .tc := ⟨.hbm, 218, rfl⟩
abbrev main_call7_v0 : Ref sig .tc := ⟨.hbm, 219, rfl⟩
abbrev main_call7_v1 : Ref sig .tc := ⟨.hbm, 220, rfl⟩
abbrev main_v114 : Ref sig .tc := ⟨.hbm, 221, rfl⟩
abbrev main_v115 : Ref sig .tc := ⟨.hbm, 222, rfl⟩
abbrev main_v116 : Ref sig .tc := ⟨.hbm, 223, rfl⟩
abbrev main_v117 : Ref sig .tc := ⟨.hbm, 224, rfl⟩
abbrev main_v118 : Ref sig .tc := ⟨.hbm, 225, rfl⟩
abbrev main_v119 : Ref sig .tc := ⟨.hbm, 226, rfl⟩
abbrev main_v120 : Ref sig .tc := ⟨.hbm, 227, rfl⟩
abbrev main_v121 : Ref sig .tc := ⟨.hbm, 228, rfl⟩
abbrev main_v122 : Ref sig .tc := ⟨.hbm, 229, rfl⟩
abbrev main_c_28 : Ref sig .tc := ⟨.hbm, 230, rfl⟩
abbrev main_v123 : Ref sig .tc := ⟨.hbm, 231, rfl⟩
abbrev main_v124 : Ref sig .tc := ⟨.hbm, 232, rfl⟩
abbrev main_c_29 : Ref sig .tc := ⟨.hbm, 233, rfl⟩
abbrev main_v125 : Ref sig .tc := ⟨.hbm, 234, rfl⟩
abbrev main_v126 : Ref sig .tc := ⟨.hbm, 235, rfl⟩
abbrev main_v127 : Ref sig .tc := ⟨.hbm, 236, rfl⟩
abbrev main_v128 : Ref sig .tc := ⟨.hbm, 237, rfl⟩
abbrev main_cst_30 : Ref sig .tc := ⟨.hbm, 238, rfl⟩
abbrev main_v129 : Ref sig .tc := ⟨.hbm, 239, rfl⟩
abbrev main_c_31 : Ref sig .tc := ⟨.hbm, 240, rfl⟩
abbrev main_v130 : Ref sig .tc := ⟨.hbm, 241, rfl⟩
abbrev main_v131 : Ref sig .tc := ⟨.hbm, 242, rfl⟩
abbrev main_c_32 : Ref sig .tc := ⟨.hbm, 243, rfl⟩
abbrev main_call8_v0 : Ref sig .tc := ⟨.hbm, 244, rfl⟩
abbrev main_call8_c : Ref sig .tc := ⟨.hbm, 245, rfl⟩
abbrev main_call8_v1 : Ref sig .tc := ⟨.hbm, 246, rfl⟩
abbrev main_call8_c_0 : Ref sig .tc := ⟨.hbm, 247, rfl⟩
abbrev main_call8_v2 : Ref sig .tc := ⟨.hbm, 248, rfl⟩
abbrev main_call8_v3 : Ref sig .tc := ⟨.hbm, 249, rfl⟩
abbrev main_call8_v4 : Ref sig .tc := ⟨.hbm, 250, rfl⟩
abbrev main_call8_c_1 : Ref sig .tc := ⟨.hbm, 251, rfl⟩
abbrev main_call8_v5 : Ref sig .tc := ⟨.hbm, 252, rfl⟩
abbrev main_call8_v6 : Ref sig .tc := ⟨.hbm, 253, rfl⟩
abbrev main_call8_c_2 : Ref sig .tc := ⟨.hbm, 254, rfl⟩
abbrev main_call8_v7 : Ref sig .tc := ⟨.hbm, 255, rfl⟩
abbrev main_call8_v8 : Ref sig .tc := ⟨.hbm, 256, rfl⟩
abbrev main_call8_c_3 : Ref sig .tc := ⟨.hbm, 257, rfl⟩
abbrev main_call8_v9 : Ref sig .tc := ⟨.hbm, 258, rfl⟩
abbrev main_call8_v10 : Ref sig .tc := ⟨.hbm, 259, rfl⟩
abbrev main_call8_v11 : Ref sig .tc := ⟨.hbm, 260, rfl⟩
abbrev main_call8_v12 : Ref sig .tc := ⟨.hbm, 261, rfl⟩
abbrev main_call8_v13 : Ref sig .tc := ⟨.hbm, 262, rfl⟩
abbrev main_call8_v14 : Ref sig .tc := ⟨.hbm, 263, rfl⟩
abbrev main_v132 : Ref sig .tc := ⟨.hbm, 264, rfl⟩
abbrev main_c_33 : Ref sig .tc := ⟨.hbm, 265, rfl⟩
abbrev main_v133 : Ref sig .tc := ⟨.hbm, 266, rfl⟩
abbrev main_v134 : Ref sig .tc := ⟨.hbm, 267, rfl⟩
abbrev main_v135 : Ref sig .tc := ⟨.hbm, 268, rfl⟩
abbrev main_c_34 : Ref sig .tc := ⟨.hbm, 269, rfl⟩
abbrev main_v136 : Ref sig .tc := ⟨.hbm, 270, rfl⟩
abbrev main_v137 : Ref sig .tc := ⟨.hbm, 271, rfl⟩
abbrev main_v138 : Ref sig .tc := ⟨.hbm, 272, rfl⟩
abbrev main_v139 : Ref sig .tc := ⟨.hbm, 273, rfl⟩
abbrev main_v140 : Ref sig .tc := ⟨.hbm, 274, rfl⟩
abbrev main_c_35 : Ref sig .tc := ⟨.hbm, 275, rfl⟩
abbrev main_v141 : Ref sig .tc := ⟨.hbm, 276, rfl⟩
abbrev main_v142 : Ref sig .tc := ⟨.hbm, 277, rfl⟩
abbrev main_c_36 : Ref sig .tc := ⟨.hbm, 278, rfl⟩
abbrev main_call9_v0 : Ref sig .tc := ⟨.hbm, 279, rfl⟩
abbrev main_call9_c : Ref sig .tc := ⟨.hbm, 280, rfl⟩
abbrev main_call9_v1 : Ref sig .tc := ⟨.hbm, 281, rfl⟩
abbrev main_call9_c_0 : Ref sig .tc := ⟨.hbm, 282, rfl⟩
abbrev main_call9_v2 : Ref sig .tc := ⟨.hbm, 283, rfl⟩
abbrev main_call9_v3 : Ref sig .tc := ⟨.hbm, 284, rfl⟩
abbrev main_call9_v4 : Ref sig .tc := ⟨.hbm, 285, rfl⟩
abbrev main_call9_c_1 : Ref sig .tc := ⟨.hbm, 286, rfl⟩
abbrev main_call9_v5 : Ref sig .tc := ⟨.hbm, 287, rfl⟩
abbrev main_call9_v6 : Ref sig .tc := ⟨.hbm, 288, rfl⟩
abbrev main_call9_c_2 : Ref sig .tc := ⟨.hbm, 289, rfl⟩
abbrev main_call9_v7 : Ref sig .tc := ⟨.hbm, 290, rfl⟩
abbrev main_call9_v8 : Ref sig .tc := ⟨.hbm, 291, rfl⟩
abbrev main_call9_c_3 : Ref sig .tc := ⟨.hbm, 292, rfl⟩
abbrev main_call9_v9 : Ref sig .tc := ⟨.hbm, 293, rfl⟩
abbrev main_call9_v10 : Ref sig .tc := ⟨.hbm, 294, rfl⟩
abbrev main_call9_v11 : Ref sig .tc := ⟨.hbm, 295, rfl⟩
abbrev main_call9_v12 : Ref sig .tc := ⟨.hbm, 296, rfl⟩
abbrev main_call9_v13 : Ref sig .tc := ⟨.hbm, 297, rfl⟩
abbrev main_call9_v14 : Ref sig .tc := ⟨.hbm, 298, rfl⟩
abbrev main_v143 : Ref sig .tc := ⟨.hbm, 299, rfl⟩
abbrev main_c_37 : Ref sig .tc := ⟨.hbm, 300, rfl⟩
abbrev main_v144 : Ref sig .tc := ⟨.hbm, 301, rfl⟩
abbrev main_v145 : Ref sig .tc := ⟨.hbm, 302, rfl⟩
abbrev main_v146 : Ref sig .tc := ⟨.hbm, 303, rfl⟩
abbrev main_c_38 : Ref sig .tc := ⟨.hbm, 304, rfl⟩
abbrev main_v147 : Ref sig .tc := ⟨.hbm, 305, rfl⟩
abbrev main_v148 : Ref sig .tc := ⟨.hbm, 306, rfl⟩
abbrev main_v149 : Ref sig .tc := ⟨.hbm, 307, rfl⟩
abbrev main_v150 : Ref sig .tc := ⟨.hbm, 308, rfl⟩
abbrev main_v151 : Ref sig .tc := ⟨.hbm, 309, rfl⟩
abbrev main_c_39 : Ref sig .tc := ⟨.hbm, 310, rfl⟩
abbrev main_v152 : Ref sig .tc := ⟨.hbm, 311, rfl⟩
abbrev main_v153 : Ref sig .tc := ⟨.hbm, 312, rfl⟩
abbrev main_c_40 : Ref sig .tc := ⟨.hbm, 313, rfl⟩
abbrev main_call10_v0 : Ref sig .tc := ⟨.hbm, 314, rfl⟩
abbrev main_call10_c : Ref sig .tc := ⟨.hbm, 315, rfl⟩
abbrev main_call10_v1 : Ref sig .tc := ⟨.hbm, 316, rfl⟩
abbrev main_call10_c_0 : Ref sig .tc := ⟨.hbm, 317, rfl⟩
abbrev main_call10_v2 : Ref sig .tc := ⟨.hbm, 318, rfl⟩
abbrev main_call10_v3 : Ref sig .tc := ⟨.hbm, 319, rfl⟩
abbrev main_call10_v4 : Ref sig .tc := ⟨.hbm, 320, rfl⟩
abbrev main_call10_c_1 : Ref sig .tc := ⟨.hbm, 321, rfl⟩
abbrev main_call10_v5 : Ref sig .tc := ⟨.hbm, 322, rfl⟩
abbrev main_call10_v6 : Ref sig .tc := ⟨.hbm, 323, rfl⟩
abbrev main_call10_c_2 : Ref sig .tc := ⟨.hbm, 324, rfl⟩
abbrev main_call10_v7 : Ref sig .tc := ⟨.hbm, 325, rfl⟩
abbrev main_call10_v8 : Ref sig .tc := ⟨.hbm, 326, rfl⟩
abbrev main_call10_c_3 : Ref sig .tc := ⟨.hbm, 327, rfl⟩
abbrev main_call10_v9 : Ref sig .tc := ⟨.hbm, 328, rfl⟩
abbrev main_call10_v10 : Ref sig .tc := ⟨.hbm, 329, rfl⟩
abbrev main_call10_v11 : Ref sig .tc := ⟨.hbm, 330, rfl⟩
abbrev main_call10_v12 : Ref sig .tc := ⟨.hbm, 331, rfl⟩
abbrev main_call10_v13 : Ref sig .tc := ⟨.hbm, 332, rfl⟩
abbrev main_call10_v14 : Ref sig .tc := ⟨.hbm, 333, rfl⟩
abbrev main_v154 : Ref sig .tc := ⟨.hbm, 334, rfl⟩
abbrev main_c_41 : Ref sig .tc := ⟨.hbm, 335, rfl⟩
abbrev main_v155 : Ref sig .tc := ⟨.hbm, 336, rfl⟩
abbrev main_v156 : Ref sig .tc := ⟨.hbm, 337, rfl⟩
abbrev main_v157 : Ref sig .tc := ⟨.hbm, 338, rfl⟩
abbrev main_c_42 : Ref sig .tc := ⟨.hbm, 339, rfl⟩
abbrev main_v158 : Ref sig .tc := ⟨.hbm, 340, rfl⟩
abbrev main_v159 : Ref sig .tc := ⟨.hbm, 341, rfl⟩
abbrev main_v160 : Ref sig .tc := ⟨.hbm, 342, rfl⟩
abbrev main_v161 : Ref sig .tc := ⟨.hbm, 343, rfl⟩
abbrev main_v162 : Ref sig .tc := ⟨.hbm, 344, rfl⟩
abbrev main_cst_43 : Ref sig .tc := ⟨.hbm, 345, rfl⟩
abbrev main_v163 : Ref sig .tc := ⟨.hbm, 346, rfl⟩
abbrev main_v164 : Ref sig .tc := ⟨.hbm, 347, rfl⟩
abbrev main_cst_44 : Ref sig .tc := ⟨.hbm, 348, rfl⟩
abbrev main_v165 : Ref sig .tc := ⟨.hbm, 349, rfl⟩
abbrev main_v166 : Ref sig .tc := ⟨.hbm, 350, rfl⟩
abbrev main_v167 : Ref sig .tc := ⟨.hbm, 351, rfl⟩
abbrev main_cst_45 : Ref sig .tc := ⟨.hbm, 352, rfl⟩
abbrev main_call11_v0 : Ref sig .tc := ⟨.hbm, 353, rfl⟩
abbrev main_call11_v1 : Ref sig .tc := ⟨.hbm, 354, rfl⟩
abbrev main_v168 : Ref sig .tc := ⟨.hbm, 355, rfl⟩
abbrev main_cst_46 : Ref sig .tc := ⟨.hbm, 356, rfl⟩
abbrev main_v169 : Ref sig .tc := ⟨.hbm, 357, rfl⟩
abbrev main_v170 : Ref sig .tc := ⟨.hbm, 358, rfl⟩
abbrev main_v171 : Ref sig .tc := ⟨.hbm, 359, rfl⟩
abbrev main_v172 : Ref sig .tc := ⟨.hbm, 360, rfl⟩
abbrev main_v173 : Ref sig .tc := ⟨.hbm, 361, rfl⟩
abbrev main_v174 : Ref sig .tc := ⟨.hbm, 362, rfl⟩
abbrev main_v175 : Ref sig .tc := ⟨.hbm, 363, rfl⟩
abbrev main_v176 : Ref sig .tc := ⟨.hbm, 364, rfl⟩
abbrev main_v177 : Ref sig .tc := ⟨.hbm, 365, rfl⟩
abbrev main_v178_0 : Ref sig .tc := ⟨.hbm, 366, rfl⟩
abbrev main_v178_1 : Ref sig .tc := ⟨.hbm, 367, rfl⟩
abbrev main_v178_2 : Ref sig .tc := ⟨.hbm, 368, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨3, ![4, 3, 4], ![false, false, false]⟩

def k0_mult1 (i : grid0.Coords) : BitVec 32 :=
  let c2_i32 : BitVec 32 := 2#32
  let arg2 : BitVec 32 := BitVec.ofNat 32 (i 2).val
  let v5 : BitVec 32 := Scalar.muli c2_i32 arg2
  let c7_i32 : BitVec 32 := 7#32
  let v39 : BitVec 32 := Scalar.minsi v5 c7_i32
  let c256_i32 : BitVec 32 := 256#32
  let v40 : BitVec 32 := Scalar.muli v39 c256_i32
  v40
def k0_off1 (i : grid0.Coords) : Fin 2 → Nat :=
  let c2_i32 : BitVec 32 := 2#32
  let arg2 : BitVec 32 := BitVec.ofNat 32 (i 2).val
  let v5 : BitVec 32 := Scalar.muli c2_i32 arg2
  let c7_i32 : BitVec 32 := 7#32
  let v39 : BitVec 32 := Scalar.minsi v5 c7_i32
  let c256_i32 : BitVec 32 := 256#32
  let v40 : BitVec 32 := Scalar.muli v39 c256_i32
  let v41 : BitVec 32 := v40
  let v42 : Index := Scalar.indexCast v41
  let c0_36 : Index := 0#32
  ![v42.toNat, 0]
def k0_off2 (i : grid0.Coords) : Fin 3 → Nat :=
  let c2_i32 : BitVec 32 := 2#32
  let arg2 : BitVec 32 := BitVec.ofNat 32 (i 2).val
  let v5 : BitVec 32 := Scalar.muli c2_i32 arg2
  let c8_i32 : BitVec 32 := 8#32
  let v66 : BitVec 1 := Scalar.cmpi .slt v5 c8_i32
  let v67 : BitVec 32 := Scalar.subi v5 v5
  let c8_i32_43 : BitVec 32 := 8#32
  let v68 : BitVec 32 := Scalar.select v66 v67 c8_i32_43
  let v69 : Index := Scalar.indexCast v68
  let c0_44 : Index := 0#32
  let c0_45 : Index := 0#32
  ![v69.toNat, 0, 0]
@[reducible] def k0_t1_loop (i : grid0.Coords) : Scf.Loop 32 :=
  let c0_i32_75 : BitVec 32 := 0#32
  let c8_i32_66 : BitVec 32 := 8#32
  let c2_i32 : BitVec 32 := 2#32
  let arg2 : BitVec 32 := BitVec.ofNat 32 (i 2).val
  let v5 : BitVec 32 := Scalar.muli c2_i32 arg2
  let v90 : BitVec 32 := Scalar.subi c8_i32_66 v5
  let c1_i32 : BitVec 32 := 1#32
  let v91 : BitVec 32 := Scalar.addi v90 c1_i32
  let c0_i32_68 : BitVec 32 := 0#32
  let v93 : BitVec 1 := Scalar.cmpi .sgt v91 c0_i32_68
  let v94 : BitVec 32 := Scalar.extui v93
  let c0_i32_69 : BitVec 32 := 0#32
  let v95 : BitVec 1 := Scalar.cmpi .slt v91 c0_i32_69
  let v96 : BitVec 32 := Scalar.extui v95
  let v97 : BitVec 32 := Scalar.subi v94 v96
  let c2_i32_67 : BitVec 32 := 2#32
  let c0_i32_70 : BitVec 32 := 0#32
  let v98 : BitVec 1 := Scalar.cmpi .sgt c2_i32_67 c0_i32_70
  let v99 : BitVec 32 := Scalar.extui v98
  let c0_i32_71 : BitVec 32 := 0#32
  let v100 : BitVec 1 := Scalar.cmpi .slt c2_i32_67 c0_i32_71
  let v101 : BitVec 32 := Scalar.extui v100
  let v102 : BitVec 32 := Scalar.subi v99 v101
  let v103 : BitVec 1 := Scalar.cmpi .ne v97 v102
  let v104 : BitVec 32 := Scalar.remsi v91 c2_i32_67
  let c0_i32_72 : BitVec 32 := 0#32
  let v105 : BitVec 1 := Scalar.cmpi .ne v104 c0_i32_72
  let v106 : BitVec 1 := Scalar.andi v103 v105
  let v92 : BitVec 32 := Scalar.divsi v91 c2_i32_67
  let c1_i32_73 : BitVec 32 := 1#32
  let v107 : BitVec 32 := Scalar.subi v92 c1_i32_73
  let v108 : BitVec 32 := Scalar.select v106 v107 v92
  let v109 : BitVec 32 := Scalar.subi v108 c0_i32_75
  let c1_i32_76 : BitVec 32 := 1#32
  let v111 : BitVec 32 := Scalar.divsi v109 c1_i32_76
  let v112 : BitVec 32 := Scalar.muli v111 c1_i32_76
  let v113 : BitVec 32 := Scalar.addi c0_i32_75 v112
  let c1_i32_77 : BitVec 32 := 1#32
  ⟨c0_i32_75, v113, c1_i32_77⟩
def k0_mult2 (i : grid0.Coords) (k0_t1 : Fin (k0_t1_loop i).trips) : BitVec 32 :=
  let c2_i32 : BitVec 32 := 2#32
  let arg2 : BitVec 32 := BitVec.ofNat 32 (i 2).val
  let v5 : BitVec 32 := Scalar.muli c2_i32 arg2
  let c2_i32_92 : BitVec 32 := 2#32
  let c0_i32_75 : BitVec 32 := 0#32
  let c1_i32_77 : BitVec 32 := 1#32
  let arg18 : BitVec 32 := Scf.iv c0_i32_75 c1_i32_77 k0_t1
  let v129 : BitVec 32 := Scalar.muli c2_i32_92 arg18
  let v130 : BitVec 32 := Scalar.addi v5 v129
  let c1_i32_109 : BitVec 32 := 1#32
  let v139 : BitVec 32 := Scalar.addi v130 c1_i32_109
  let c7_i32_110 : BitVec 32 := 7#32
  let v140 : BitVec 32 := Scalar.minsi v139 c7_i32_110
  let c256_i32_111 : BitVec 32 := 256#32
  let v141 : BitVec 32 := Scalar.muli v140 c256_i32_111
  v141
def k0_off3 (i : grid0.Coords) (k0_t1 : Fin (k0_t1_loop i).trips) (c1_i32_109 : BitVec 32) : Fin 2 → Nat :=
  let c2_i32 : BitVec 32 := 2#32
  let arg2 : BitVec 32 := BitVec.ofNat 32 (i 2).val
  let v5 : BitVec 32 := Scalar.muli c2_i32 arg2
  let c2_i32_92 : BitVec 32 := 2#32
  let c0_i32_75 : BitVec 32 := 0#32
  let c1_i32_77 : BitVec 32 := 1#32
  let arg18 : BitVec 32 := Scf.iv c0_i32_75 c1_i32_77 k0_t1
  let v129 : BitVec 32 := Scalar.muli c2_i32_92 arg18
  let v130 : BitVec 32 := Scalar.addi v5 v129
  let v139 : BitVec 32 := Scalar.addi v130 c1_i32_109
  let c7_i32_110 : BitVec 32 := 7#32
  let v140 : BitVec 32 := Scalar.minsi v139 c7_i32_110
  let c256_i32_111 : BitVec 32 := 256#32
  let v141 : BitVec 32 := Scalar.muli v140 c256_i32_111
  let v142 : BitVec 32 := v141
  let v143 : Index := Scalar.indexCast v142
  let c0_112 : Index := 0#32
  ![v143.toNat, 0]
def k0_off4 (i : grid0.Coords) (k0_t1 : Fin (k0_t1_loop i).trips) (c1_i32_109 : BitVec 32) : Fin 3 → Nat :=
  let c2_i32 : BitVec 32 := 2#32
  let arg2 : BitVec 32 := BitVec.ofNat 32 (i 2).val
  let v5 : BitVec 32 := Scalar.muli c2_i32 arg2
  let c2_i32_92 : BitVec 32 := 2#32
  let c0_i32_75 : BitVec 32 := 0#32
  let c1_i32_77 : BitVec 32 := 1#32
  let arg18 : BitVec 32 := Scf.iv c0_i32_75 c1_i32_77 k0_t1
  let v129 : BitVec 32 := Scalar.muli c2_i32_92 arg18
  let v130 : BitVec 32 := Scalar.addi v5 v129
  let v139 : BitVec 32 := Scalar.addi v130 c1_i32_109
  let c8_i32_119 : BitVec 32 := 8#32
  let v167 : BitVec 1 := Scalar.cmpi .slt v139 c8_i32_119
  let v168 : BitVec 32 := Scalar.subi v139 v5
  let c8_i32_120 : BitVec 32 := 8#32
  let v169 : BitVec 32 := Scalar.select v167 v168 c8_i32_120
  let v170 : Index := Scalar.indexCast v169
  let c0_121 : Index := 0#32
  let c0_122 : Index := 0#32
  ![v170.toNat, 0, 0]
def k0_mult3 (i : grid0.Coords) (k0_t1 : Fin (k0_t1_loop i).trips) : BitVec 32 :=
  let c2_i32 : BitVec 32 := 2#32
  let arg2 : BitVec 32 := BitVec.ofNat 32 (i 2).val
  let v5 : BitVec 32 := Scalar.muli c2_i32 arg2
  let c2_i32_92 : BitVec 32 := 2#32
  let c0_i32_75 : BitVec 32 := 0#32
  let c1_i32_77 : BitVec 32 := 1#32
  let arg18 : BitVec 32 := Scf.iv c0_i32_75 c1_i32_77 k0_t1
  let v129 : BitVec 32 := Scalar.muli c2_i32_92 arg18
  let v130 : BitVec 32 := Scalar.addi v5 v129
  let c7_i32_127 : BitVec 32 := 7#32
  let v179 : BitVec 32 := Scalar.minsi v130 c7_i32_127
  let c256_i32_128 : BitVec 32 := 256#32
  let v180 : BitVec 32 := Scalar.muli v179 c256_i32_128
  v180
def k0_off5 (i : grid0.Coords) (k0_t1 : Fin (k0_t1_loop i).trips) : Fin 2 → Nat :=
  let c2_i32 : BitVec 32 := 2#32
  let arg2 : BitVec 32 := BitVec.ofNat 32 (i 2).val
  let v5 : BitVec 32 := Scalar.muli c2_i32 arg2
  let c2_i32_92 : BitVec 32 := 2#32
  let c0_i32_75 : BitVec 32 := 0#32
  let c1_i32_77 : BitVec 32 := 1#32
  let arg18 : BitVec 32 := Scf.iv c0_i32_75 c1_i32_77 k0_t1
  let v129 : BitVec 32 := Scalar.muli c2_i32_92 arg18
  let v130 : BitVec 32 := Scalar.addi v5 v129
  let c7_i32_127 : BitVec 32 := 7#32
  let v179 : BitVec 32 := Scalar.minsi v130 c7_i32_127
  let c256_i32_128 : BitVec 32 := 256#32
  let v180 : BitVec 32 := Scalar.muli v179 c256_i32_128
  let v181 : BitVec 32 := v180
  let v182 : Index := Scalar.indexCast v181
  let c0_129 : Index := 0#32
  ![v182.toNat, 0]
def k0_off6 (i : grid0.Coords) (k0_t1 : Fin (k0_t1_loop i).trips) : Fin 4 → Nat :=
  let c2_i32 : BitVec 32 := 2#32
  let arg2 : BitVec 32 := BitVec.ofNat 32 (i 2).val
  let v5 : BitVec 32 := Scalar.muli c2_i32 arg2
  let c2_i32_92 : BitVec 32 := 2#32
  let c0_i32_75 : BitVec 32 := 0#32
  let c1_i32_77 : BitVec 32 := 1#32
  let arg18 : BitVec 32 := Scf.iv c0_i32_75 c1_i32_77 k0_t1
  let v129 : BitVec 32 := Scalar.muli c2_i32_92 arg18
  let v130 : BitVec 32 := Scalar.addi v5 v129
  let c7_i32_127 : BitVec 32 := 7#32
  let v179 : BitVec 32 := Scalar.minsi v130 c7_i32_127
  let v206 : Index := Scalar.indexCast v179
  let c0_136 : Index := 0#32
  let c0_137 : Index := 0#32
  let c0_138 : Index := 0#32
  ![v206.toNat, 0, 0, 0]
def k0_off7 (i : grid0.Coords) (k0_t1 : Fin (k0_t1_loop i).trips) : Fin 4 → Nat :=
  let c0_154 : Index := 0#32
  let c2_i32 : BitVec 32 := 2#32
  let arg2 : BitVec 32 := BitVec.ofNat 32 (i 2).val
  let v5 : BitVec 32 := Scalar.muli c2_i32 arg2
  let c2_i32_92 : BitVec 32 := 2#32
  let c0_i32_75 : BitVec 32 := 0#32
  let c1_i32_77 : BitVec 32 := 1#32
  let arg18 : BitVec 32 := Scf.iv c0_i32_75 c1_i32_77 k0_t1
  let v129 : BitVec 32 := Scalar.muli c2_i32_92 arg18
  let v130 : BitVec 32 := Scalar.addi v5 v129
  let c7_i32_127 : BitVec 32 := 7#32
  let v179 : BitVec 32 := Scalar.minsi v130 c7_i32_127
  let v233 : Index := Scalar.indexCast v179
  let c0_155 : Index := 0#32
  let c0_156 : Index := 0#32
  ![0, v233.toNat, 0, 0]
def k0_off8 (i : grid0.Coords) (k0_t1 : Fin (k0_t1_loop i).trips) : Fin 4 → Nat :=
  let c2_i32 : BitVec 32 := 2#32
  let arg2 : BitVec 32 := BitVec.ofNat 32 (i 2).val
  let v5 : BitVec 32 := Scalar.muli c2_i32 arg2
  let c2_i32_92 : BitVec 32 := 2#32
  let c0_i32_75 : BitVec 32 := 0#32
  let c1_i32_77 : BitVec 32 := 1#32
  let arg18 : BitVec 32 := Scf.iv c0_i32_75 c1_i32_77 k0_t1
  let v129 : BitVec 32 := Scalar.muli c2_i32_92 arg18
  let v130 : BitVec 32 := Scalar.addi v5 v129
  let c7_i32_127 : BitVec 32 := 7#32
  let v179 : BitVec 32 := Scalar.minsi v130 c7_i32_127
  let v242 : Index := Scalar.indexCast v179
  let c1_161 : Index := 1#32
  let c0_162 : Index := 0#32
  let c0_163 : Index := 0#32
  ![v242.toNat, 1, 0, 0]
def k0_off9 (i : grid0.Coords) (k0_t1 : Fin (k0_t1_loop i).trips) : Fin 4 → Nat :=
  let c1_179 : Index := 1#32
  let c2_i32 : BitVec 32 := 2#32
  let arg2 : BitVec 32 := BitVec.ofNat 32 (i 2).val
  let v5 : BitVec 32 := Scalar.muli c2_i32 arg2
  let c2_i32_92 : BitVec 32 := 2#32
  let c0_i32_75 : BitVec 32 := 0#32
  let c1_i32_77 : BitVec 32 := 1#32
  let arg18 : BitVec 32 := Scf.iv c0_i32_75 c1_i32_77 k0_t1
  let v129 : BitVec 32 := Scalar.muli c2_i32_92 arg18
  let v130 : BitVec 32 := Scalar.addi v5 v129
  let c7_i32_127 : BitVec 32 := 7#32
  let v179 : BitVec 32 := Scalar.minsi v130 c7_i32_127
  let v269 : Index := Scalar.indexCast v179
  let c0_180 : Index := 0#32
  let c0_181 : Index := 0#32
  ![1, v269.toNat, 0, 0]
def k0_mult4 (i : grid0.Coords) (k0_t1 : Fin (k0_t1_loop i).trips) : BitVec 32 :=
  let c2_i32 : BitVec 32 := 2#32
  let arg2 : BitVec 32 := BitVec.ofNat 32 (i 2).val
  let v5 : BitVec 32 := Scalar.muli c2_i32 arg2
  let c2_i32_92 : BitVec 32 := 2#32
  let c0_i32_75 : BitVec 32 := 0#32
  let c1_i32_77 : BitVec 32 := 1#32
  let arg18 : BitVec 32 := Scf.iv c0_i32_75 c1_i32_77 k0_t1
  let v129 : BitVec 32 := Scalar.muli c2_i32_92 arg18
  let v130 : BitVec 32 := Scalar.addi v5 v129
  let c2_i32_186 : BitVec 32 := 2#32
  let v278 : BitVec 32 := Scalar.addi v130 c2_i32_186
  let c7_i32_187 : BitVec 32 := 7#32
  let v279 : BitVec 32 := Scalar.minsi v278 c7_i32_187
  let c256_i32_188 : BitVec 32 := 256#32
  let v280 : BitVec 32 := Scalar.muli v279 c256_i32_188
  v280
def k0_mult5 (i : grid0.Coords) (k0_t1 : Fin (k0_t1_loop i).trips) : BitVec 32 :=
  let c2_i32 : BitVec 32 := 2#32
  let arg2 : BitVec 32 := BitVec.ofNat 32 (i 2).val
  let v5 : BitVec 32 := Scalar.muli c2_i32 arg2
  let c2_i32_92 : BitVec 32 := 2#32
  let c0_i32_75 : BitVec 32 := 0#32
  let c1_i32_77 : BitVec 32 := 1#32
  let arg18 : BitVec 32 := Scf.iv c0_i32_75 c1_i32_77 k0_t1
  let v129 : BitVec 32 := Scalar.muli c2_i32_92 arg18
  let v130 : BitVec 32 := Scalar.addi v5 v129
  let c1_i32_220 : BitVec 32 := 1#32
  let v330 : BitVec 32 := Scalar.addi v130 c1_i32_220
  let c7_i32_221 : BitVec 32 := 7#32
  let v331 : BitVec 32 := Scalar.minsi v330 c7_i32_221
  let c256_i32_222 : BitVec 32 := 256#32
  let v332 : BitVec 32 := Scalar.muli v331 c256_i32_222
  v332
def k0_off10 (i : grid0.Coords) (k0_t1 : Fin (k0_t1_loop i).trips) : Fin 4 → Nat :=
  let c2_i32 : BitVec 32 := 2#32
  let arg2 : BitVec 32 := BitVec.ofNat 32 (i 2).val
  let v5 : BitVec 32 := Scalar.muli c2_i32 arg2
  let c2_i32_92 : BitVec 32 := 2#32
  let c0_i32_75 : BitVec 32 := 0#32
  let c1_i32_77 : BitVec 32 := 1#32
  let arg18 : BitVec 32 := Scf.iv c0_i32_75 c1_i32_77 k0_t1
  let v129 : BitVec 32 := Scalar.muli c2_i32_92 arg18
  let v130 : BitVec 32 := Scalar.addi v5 v129
  let c1_i32_220 : BitVec 32 := 1#32
  let v330 : BitVec 32 := Scalar.addi v130 c1_i32_220
  let c7_i32_221 : BitVec 32 := 7#32
  let v331 : BitVec 32 := Scalar.minsi v330 c7_i32_221
  let v358 : Index := Scalar.indexCast v331
  let c0_230 : Index := 0#32
  let c0_231 : Index := 0#32
  let c0_232 : Index := 0#32
  ![v358.toNat, 0, 0, 0]
def k0_off11 (i : grid0.Coords) (k0_t1 : Fin (k0_t1_loop i).trips) : Fin 4 → Nat :=
  let c0_248 : Index := 0#32
  let c2_i32 : BitVec 32 := 2#32
  let arg2 : BitVec 32 := BitVec.ofNat 32 (i 2).val
  let v5 : BitVec 32 := Scalar.muli c2_i32 arg2
  let c2_i32_92 : BitVec 32 := 2#32
  let c0_i32_75 : BitVec 32 := 0#32
  let c1_i32_77 : BitVec 32 := 1#32
  let arg18 : BitVec 32 := Scf.iv c0_i32_75 c1_i32_77 k0_t1
  let v129 : BitVec 32 := Scalar.muli c2_i32_92 arg18
  let v130 : BitVec 32 := Scalar.addi v5 v129
  let c1_i32_220 : BitVec 32 := 1#32
  let v330 : BitVec 32 := Scalar.addi v130 c1_i32_220
  let c7_i32_221 : BitVec 32 := 7#32
  let v331 : BitVec 32 := Scalar.minsi v330 c7_i32_221
  let v385 : Index := Scalar.indexCast v331
  let c0_249 : Index := 0#32
  let c0_250 : Index := 0#32
  ![0, v385.toNat, 0, 0]
def k0_off12 (i : grid0.Coords) (k0_t1 : Fin (k0_t1_loop i).trips) : Fin 4 → Nat :=
  let c2_i32 : BitVec 32 := 2#32
  let arg2 : BitVec 32 := BitVec.ofNat 32 (i 2).val
  let v5 : BitVec 32 := Scalar.muli c2_i32 arg2
  let c2_i32_92 : BitVec 32 := 2#32
  let c0_i32_75 : BitVec 32 := 0#32
  let c1_i32_77 : BitVec 32 := 1#32
  let arg18 : BitVec 32 := Scf.iv c0_i32_75 c1_i32_77 k0_t1
  let v129 : BitVec 32 := Scalar.muli c2_i32_92 arg18
  let v130 : BitVec 32 := Scalar.addi v5 v129
  let c1_i32_220 : BitVec 32 := 1#32
  let v330 : BitVec 32 := Scalar.addi v130 c1_i32_220
  let c7_i32_221 : BitVec 32 := 7#32
  let v331 : BitVec 32 := Scalar.minsi v330 c7_i32_221
  let v394 : Index := Scalar.indexCast v331
  let c1_255 : Index := 1#32
  let c0_256 : Index := 0#32
  let c0_257 : Index := 0#32
  ![v394.toNat, 1, 0, 0]
def k0_off13 (i : grid0.Coords) (k0_t1 : Fin (k0_t1_loop i).trips) : Fin 4 → Nat :=
  let c1_273 : Index := 1#32
  let c2_i32 : BitVec 32 := 2#32
  let arg2 : BitVec 32 := BitVec.ofNat 32 (i 2).val
  let v5 : BitVec 32 := Scalar.muli c2_i32 arg2
  let c2_i32_92 : BitVec 32 := 2#32
  let c0_i32_75 : BitVec 32 := 0#32
  let c1_i32_77 : BitVec 32 := 1#32
  let arg18 : BitVec 32 := Scf.iv c0_i32_75 c1_i32_77 k0_t1
  let v129 : BitVec 32 := Scalar.muli c2_i32_92 arg18
  let v130 : BitVec 32 := Scalar.addi v5 v129
  let c1_i32_220 : BitVec 32 := 1#32
  let v330 : BitVec 32 := Scalar.addi v130 c1_i32_220
  let c7_i32_221 : BitVec 32 := 7#32
  let v331 : BitVec 32 := Scalar.minsi v330 c7_i32_221
  let v421 : Index := Scalar.indexCast v331
  let c0_274 : Index := 0#32
  let c0_275 : Index := 0#32
  ![1, v421.toNat, 0, 0]
@[reducible] def k0_t2_loop (i : grid0.Coords) : Scf.Loop 32 :=
  let c0_i32_75 : BitVec 32 := 0#32
  let c8_i32_66 : BitVec 32 := 8#32
  let c2_i32 : BitVec 32 := 2#32
  let arg2 : BitVec 32 := BitVec.ofNat 32 (i 2).val
  let v5 : BitVec 32 := Scalar.muli c2_i32 arg2
  let v90 : BitVec 32 := Scalar.subi c8_i32_66 v5
  let c1_i32 : BitVec 32 := 1#32
  let v91 : BitVec 32 := Scalar.addi v90 c1_i32
  let c0_i32_68 : BitVec 32 := 0#32
  let v93 : BitVec 1 := Scalar.cmpi .sgt v91 c0_i32_68
  let v94 : BitVec 32 := Scalar.extui v93
  let c0_i32_69 : BitVec 32 := 0#32
  let v95 : BitVec 1 := Scalar.cmpi .slt v91 c0_i32_69
  let v96 : BitVec 32 := Scalar.extui v95
  let v97 : BitVec 32 := Scalar.subi v94 v96
  let c2_i32_67 : BitVec 32 := 2#32
  let c0_i32_70 : BitVec 32 := 0#32
  let v98 : BitVec 1 := Scalar.cmpi .sgt c2_i32_67 c0_i32_70
  let v99 : BitVec 32 := Scalar.extui v98
  let c0_i32_71 : BitVec 32 := 0#32
  let v100 : BitVec 1 := Scalar.cmpi .slt c2_i32_67 c0_i32_71
  let v101 : BitVec 32 := Scalar.extui v100
  let v102 : BitVec 32 := Scalar.subi v99 v101
  let v103 : BitVec 1 := Scalar.cmpi .ne v97 v102
  let v104 : BitVec 32 := Scalar.remsi v91 c2_i32_67
  let c0_i32_72 : BitVec 32 := 0#32
  let v105 : BitVec 1 := Scalar.cmpi .ne v104 c0_i32_72
  let v106 : BitVec 1 := Scalar.andi v103 v105
  let v92 : BitVec 32 := Scalar.divsi v91 c2_i32_67
  let c1_i32_73 : BitVec 32 := 1#32
  let v107 : BitVec 32 := Scalar.subi v92 c1_i32_73
  let v108 : BitVec 32 := Scalar.select v106 v107 v92
  let v109 : BitVec 32 := Scalar.subi v108 c0_i32_75
  let c1_i32_76 : BitVec 32 := 1#32
  let v111 : BitVec 32 := Scalar.divsi v109 c1_i32_76
  let v112 : BitVec 32 := Scalar.muli v111 c1_i32_76
  let v113 : BitVec 32 := Scalar.addi c0_i32_75 v112
  let v110 : BitVec 32 := Scalar.addi c0_i32_75 v109
  let c1_i32_78 : BitVec 32 := 1#32
  ⟨v113, v110, c1_i32_78⟩
def k0_mult6 (i : grid0.Coords) (k0_t2 : Fin (k0_t2_loop i).trips) : BitVec 32 :=
  let c2_i32 : BitVec 32 := 2#32
  let arg2 : BitVec 32 := BitVec.ofNat 32 (i 2).val
  let v5 : BitVec 32 := Scalar.muli c2_i32 arg2
  let c2_i32_92 : BitVec 32 := 2#32
  let c0_i32_75 : BitVec 32 := 0#32
  let c8_i32_66 : BitVec 32 := 8#32
  let v90 : BitVec 32 := Scalar.subi c8_i32_66 v5
  let c1_i32 : BitVec 32 := 1#32
  let v91 : BitVec 32 := Scalar.addi v90 c1_i32
  let c0_i32_68 : BitVec 32 := 0#32
  let v93 : BitVec 1 := Scalar.cmpi .sgt v91 c0_i32_68
  let v94 : BitVec 32 := Scalar.extui v93
  let c0_i32_69 : BitVec 32 := 0#32
  let v95 : BitVec 1 := Scalar.cmpi .slt v91 c0_i32_69
  let v96 : BitVec 32 := Scalar.extui v95
  let v97 : BitVec 32 := Scalar.subi v94 v96
  let c2_i32_67 : BitVec 32 := 2#32
  let c0_i32_70 : BitVec 32 := 0#32
  let v98 : BitVec 1 := Scalar.cmpi .sgt c2_i32_67 c0_i32_70
  let v99 : BitVec 32 := Scalar.extui v98
  let c0_i32_71 : BitVec 32 := 0#32
  let v100 : BitVec 1 := Scalar.cmpi .slt c2_i32_67 c0_i32_71
  let v101 : BitVec 32 := Scalar.extui v100
  let v102 : BitVec 32 := Scalar.subi v99 v101
  let v103 : BitVec 1 := Scalar.cmpi .ne v97 v102
  let v104 : BitVec 32 := Scalar.remsi v91 c2_i32_67
  let c0_i32_72 : BitVec 32 := 0#32
  let v105 : BitVec 1 := Scalar.cmpi .ne v104 c0_i32_72
  let v106 : BitVec 1 := Scalar.andi v103 v105
  let v92 : BitVec 32 := Scalar.divsi v91 c2_i32_67
  let c1_i32_73 : BitVec 32 := 1#32
  let v107 : BitVec 32 := Scalar.subi v92 c1_i32_73
  let v108 : BitVec 32 := Scalar.select v106 v107 v92
  let v109 : BitVec 32 := Scalar.subi v108 c0_i32_75
  let c1_i32_76 : BitVec 32 := 1#32
  let v111 : BitVec 32 := Scalar.divsi v109 c1_i32_76
  let v112 : BitVec 32 := Scalar.muli v111 c1_i32_76
  let v113 : BitVec 32 := Scalar.addi c0_i32_75 v112
  let c1_i32_78 : BitVec 32 := 1#32
  let arg18 : BitVec 32 := Scf.iv v113 c1_i32_78 k0_t2
  let v129 : BitVec 32 := Scalar.muli c2_i32_92 arg18
  let v130 : BitVec 32 := Scalar.addi v5 v129
  let c1_i32_109 : BitVec 32 := 1#32
  let v139 : BitVec 32 := Scalar.addi v130 c1_i32_109
  let c7_i32_110 : BitVec 32 := 7#32
  let v140 : BitVec 32 := Scalar.minsi v139 c7_i32_110
  let c256_i32_111 : BitVec 32 := 256#32
  let v141 : BitVec 32 := Scalar.muli v140 c256_i32_111
  v141
def k0_off14 (i : grid0.Coords) (k0_t2 : Fin (k0_t2_loop i).trips) (c1_i32_109 : BitVec 32) : Fin 2 → Nat :=
  let c2_i32 : BitVec 32 := 2#32
  let arg2 : BitVec 32 := BitVec.ofNat 32 (i 2).val
  let v5 : BitVec 32 := Scalar.muli c2_i32 arg2
  let c2_i32_92 : BitVec 32 := 2#32
  let c0_i32_75 : BitVec 32 := 0#32
  let c8_i32_66 : BitVec 32 := 8#32
  let v90 : BitVec 32 := Scalar.subi c8_i32_66 v5
  let c1_i32 : BitVec 32 := 1#32
  let v91 : BitVec 32 := Scalar.addi v90 c1_i32
  let c0_i32_68 : BitVec 32 := 0#32
  let v93 : BitVec 1 := Scalar.cmpi .sgt v91 c0_i32_68
  let v94 : BitVec 32 := Scalar.extui v93
  let c0_i32_69 : BitVec 32 := 0#32
  let v95 : BitVec 1 := Scalar.cmpi .slt v91 c0_i32_69
  let v96 : BitVec 32 := Scalar.extui v95
  let v97 : BitVec 32 := Scalar.subi v94 v96
  let c2_i32_67 : BitVec 32 := 2#32
  let c0_i32_70 : BitVec 32 := 0#32
  let v98 : BitVec 1 := Scalar.cmpi .sgt c2_i32_67 c0_i32_70
  let v99 : BitVec 32 := Scalar.extui v98
  let c0_i32_71 : BitVec 32 := 0#32
  let v100 : BitVec 1 := Scalar.cmpi .slt c2_i32_67 c0_i32_71
  let v101 : BitVec 32 := Scalar.extui v100
  let v102 : BitVec 32 := Scalar.subi v99 v101
  let v103 : BitVec 1 := Scalar.cmpi .ne v97 v102
  let v104 : BitVec 32 := Scalar.remsi v91 c2_i32_67
  let c0_i32_72 : BitVec 32 := 0#32
  let v105 : BitVec 1 := Scalar.cmpi .ne v104 c0_i32_72
  let v106 : BitVec 1 := Scalar.andi v103 v105
  let v92 : BitVec 32 := Scalar.divsi v91 c2_i32_67
  let c1_i32_73 : BitVec 32 := 1#32
  let v107 : BitVec 32 := Scalar.subi v92 c1_i32_73
  let v108 : BitVec 32 := Scalar.select v106 v107 v92
  let v109 : BitVec 32 := Scalar.subi v108 c0_i32_75
  let c1_i32_76 : BitVec 32 := 1#32
  let v111 : BitVec 32 := Scalar.divsi v109 c1_i32_76
  let v112 : BitVec 32 := Scalar.muli v111 c1_i32_76
  let v113 : BitVec 32 := Scalar.addi c0_i32_75 v112
  let c1_i32_78 : BitVec 32 := 1#32
  let arg18 : BitVec 32 := Scf.iv v113 c1_i32_78 k0_t2
  let v129 : BitVec 32 := Scalar.muli c2_i32_92 arg18
  let v130 : BitVec 32 := Scalar.addi v5 v129
  let v139 : BitVec 32 := Scalar.addi v130 c1_i32_109
  let c7_i32_110 : BitVec 32 := 7#32
  let v140 : BitVec 32 := Scalar.minsi v139 c7_i32_110
  let c256_i32_111 : BitVec 32 := 256#32
  let v141 : BitVec 32 := Scalar.muli v140 c256_i32_111
  let v142 : BitVec 32 := v141
  let v143 : Index := Scalar.indexCast v142
  let c0_112 : Index := 0#32
  ![v143.toNat, 0]
def k0_off15 (i : grid0.Coords) (k0_t2 : Fin (k0_t2_loop i).trips) (c1_i32_109 : BitVec 32) : Fin 3 → Nat :=
  let c2_i32 : BitVec 32 := 2#32
  let arg2 : BitVec 32 := BitVec.ofNat 32 (i 2).val
  let v5 : BitVec 32 := Scalar.muli c2_i32 arg2
  let c2_i32_92 : BitVec 32 := 2#32
  let c0_i32_75 : BitVec 32 := 0#32
  let c8_i32_66 : BitVec 32 := 8#32
  let v90 : BitVec 32 := Scalar.subi c8_i32_66 v5
  let c1_i32 : BitVec 32 := 1#32
  let v91 : BitVec 32 := Scalar.addi v90 c1_i32
  let c0_i32_68 : BitVec 32 := 0#32
  let v93 : BitVec 1 := Scalar.cmpi .sgt v91 c0_i32_68
  let v94 : BitVec 32 := Scalar.extui v93
  let c0_i32_69 : BitVec 32 := 0#32
  let v95 : BitVec 1 := Scalar.cmpi .slt v91 c0_i32_69
  let v96 : BitVec 32 := Scalar.extui v95
  let v97 : BitVec 32 := Scalar.subi v94 v96
  let c2_i32_67 : BitVec 32 := 2#32
  let c0_i32_70 : BitVec 32 := 0#32
  let v98 : BitVec 1 := Scalar.cmpi .sgt c2_i32_67 c0_i32_70
  let v99 : BitVec 32 := Scalar.extui v98
  let c0_i32_71 : BitVec 32 := 0#32
  let v100 : BitVec 1 := Scalar.cmpi .slt c2_i32_67 c0_i32_71
  let v101 : BitVec 32 := Scalar.extui v100
  let v102 : BitVec 32 := Scalar.subi v99 v101
  let v103 : BitVec 1 := Scalar.cmpi .ne v97 v102
  let v104 : BitVec 32 := Scalar.remsi v91 c2_i32_67
  let c0_i32_72 : BitVec 32 := 0#32
  let v105 : BitVec 1 := Scalar.cmpi .ne v104 c0_i32_72
  let v106 : BitVec 1 := Scalar.andi v103 v105
  let v92 : BitVec 32 := Scalar.divsi v91 c2_i32_67
  let c1_i32_73 : BitVec 32 := 1#32
  let v107 : BitVec 32 := Scalar.subi v92 c1_i32_73
  let v108 : BitVec 32 := Scalar.select v106 v107 v92
  let v109 : BitVec 32 := Scalar.subi v108 c0_i32_75
  let c1_i32_76 : BitVec 32 := 1#32
  let v111 : BitVec 32 := Scalar.divsi v109 c1_i32_76
  let v112 : BitVec 32 := Scalar.muli v111 c1_i32_76
  let v113 : BitVec 32 := Scalar.addi c0_i32_75 v112
  let c1_i32_78 : BitVec 32 := 1#32
  let arg18 : BitVec 32 := Scf.iv v113 c1_i32_78 k0_t2
  let v129 : BitVec 32 := Scalar.muli c2_i32_92 arg18
  let v130 : BitVec 32 := Scalar.addi v5 v129
  let v139 : BitVec 32 := Scalar.addi v130 c1_i32_109
  let c8_i32_119 : BitVec 32 := 8#32
  let v167 : BitVec 1 := Scalar.cmpi .slt v139 c8_i32_119
  let v168 : BitVec 32 := Scalar.subi v139 v5
  let c8_i32_120 : BitVec 32 := 8#32
  let v169 : BitVec 32 := Scalar.select v167 v168 c8_i32_120
  let v170 : Index := Scalar.indexCast v169
  let c0_121 : Index := 0#32
  let c0_122 : Index := 0#32
  ![v170.toNat, 0, 0]
def k0_mult7 (i : grid0.Coords) (k0_t2 : Fin (k0_t2_loop i).trips) : BitVec 32 :=
  let c2_i32 : BitVec 32 := 2#32
  let arg2 : BitVec 32 := BitVec.ofNat 32 (i 2).val
  let v5 : BitVec 32 := Scalar.muli c2_i32 arg2
  let c2_i32_92 : BitVec 32 := 2#32
  let c0_i32_75 : BitVec 32 := 0#32
  let c8_i32_66 : BitVec 32 := 8#32
  let v90 : BitVec 32 := Scalar.subi c8_i32_66 v5
  let c1_i32 : BitVec 32 := 1#32
  let v91 : BitVec 32 := Scalar.addi v90 c1_i32
  let c0_i32_68 : BitVec 32 := 0#32
  let v93 : BitVec 1 := Scalar.cmpi .sgt v91 c0_i32_68
  let v94 : BitVec 32 := Scalar.extui v93
  let c0_i32_69 : BitVec 32 := 0#32
  let v95 : BitVec 1 := Scalar.cmpi .slt v91 c0_i32_69
  let v96 : BitVec 32 := Scalar.extui v95
  let v97 : BitVec 32 := Scalar.subi v94 v96
  let c2_i32_67 : BitVec 32 := 2#32
  let c0_i32_70 : BitVec 32 := 0#32
  let v98 : BitVec 1 := Scalar.cmpi .sgt c2_i32_67 c0_i32_70
  let v99 : BitVec 32 := Scalar.extui v98
  let c0_i32_71 : BitVec 32 := 0#32
  let v100 : BitVec 1 := Scalar.cmpi .slt c2_i32_67 c0_i32_71
  let v101 : BitVec 32 := Scalar.extui v100
  let v102 : BitVec 32 := Scalar.subi v99 v101
  let v103 : BitVec 1 := Scalar.cmpi .ne v97 v102
  let v104 : BitVec 32 := Scalar.remsi v91 c2_i32_67
  let c0_i32_72 : BitVec 32 := 0#32
  let v105 : BitVec 1 := Scalar.cmpi .ne v104 c0_i32_72
  let v106 : BitVec 1 := Scalar.andi v103 v105
  let v92 : BitVec 32 := Scalar.divsi v91 c2_i32_67
  let c1_i32_73 : BitVec 32 := 1#32
  let v107 : BitVec 32 := Scalar.subi v92 c1_i32_73
  let v108 : BitVec 32 := Scalar.select v106 v107 v92
  let v109 : BitVec 32 := Scalar.subi v108 c0_i32_75
  let c1_i32_76 : BitVec 32 := 1#32
  let v111 : BitVec 32 := Scalar.divsi v109 c1_i32_76
  let v112 : BitVec 32 := Scalar.muli v111 c1_i32_76
  let v113 : BitVec 32 := Scalar.addi c0_i32_75 v112
  let c1_i32_78 : BitVec 32 := 1#32
  let arg18 : BitVec 32 := Scf.iv v113 c1_i32_78 k0_t2
  let v129 : BitVec 32 := Scalar.muli c2_i32_92 arg18
  let v130 : BitVec 32 := Scalar.addi v5 v129
  let c7_i32_127 : BitVec 32 := 7#32
  let v179 : BitVec 32 := Scalar.minsi v130 c7_i32_127
  let c256_i32_128 : BitVec 32 := 256#32
  let v180 : BitVec 32 := Scalar.muli v179 c256_i32_128
  v180
def k0_off16 (i : grid0.Coords) (k0_t2 : Fin (k0_t2_loop i).trips) : Fin 2 → Nat :=
  let c2_i32 : BitVec 32 := 2#32
  let arg2 : BitVec 32 := BitVec.ofNat 32 (i 2).val
  let v5 : BitVec 32 := Scalar.muli c2_i32 arg2
  let c2_i32_92 : BitVec 32 := 2#32
  let c0_i32_75 : BitVec 32 := 0#32
  let c8_i32_66 : BitVec 32 := 8#32
  let v90 : BitVec 32 := Scalar.subi c8_i32_66 v5
  let c1_i32 : BitVec 32 := 1#32
  let v91 : BitVec 32 := Scalar.addi v90 c1_i32
  let c0_i32_68 : BitVec 32 := 0#32
  let v93 : BitVec 1 := Scalar.cmpi .sgt v91 c0_i32_68
  let v94 : BitVec 32 := Scalar.extui v93
  let c0_i32_69 : BitVec 32 := 0#32
  let v95 : BitVec 1 := Scalar.cmpi .slt v91 c0_i32_69
  let v96 : BitVec 32 := Scalar.extui v95
  let v97 : BitVec 32 := Scalar.subi v94 v96
  let c2_i32_67 : BitVec 32 := 2#32
  let c0_i32_70 : BitVec 32 := 0#32
  let v98 : BitVec 1 := Scalar.cmpi .sgt c2_i32_67 c0_i32_70
  let v99 : BitVec 32 := Scalar.extui v98
  let c0_i32_71 : BitVec 32 := 0#32
  let v100 : BitVec 1 := Scalar.cmpi .slt c2_i32_67 c0_i32_71
  let v101 : BitVec 32 := Scalar.extui v100
  let v102 : BitVec 32 := Scalar.subi v99 v101
  let v103 : BitVec 1 := Scalar.cmpi .ne v97 v102
  let v104 : BitVec 32 := Scalar.remsi v91 c2_i32_67
  let c0_i32_72 : BitVec 32 := 0#32
  let v105 : BitVec 1 := Scalar.cmpi .ne v104 c0_i32_72
  let v106 : BitVec 1 := Scalar.andi v103 v105
  let v92 : BitVec 32 := Scalar.divsi v91 c2_i32_67
  let c1_i32_73 : BitVec 32 := 1#32
  let v107 : BitVec 32 := Scalar.subi v92 c1_i32_73
  let v108 : BitVec 32 := Scalar.select v106 v107 v92
  let v109 : BitVec 32 := Scalar.subi v108 c0_i32_75
  let c1_i32_76 : BitVec 32 := 1#32
  let v111 : BitVec 32 := Scalar.divsi v109 c1_i32_76
  let v112 : BitVec 32 := Scalar.muli v111 c1_i32_76
  let v113 : BitVec 32 := Scalar.addi c0_i32_75 v112
  let c1_i32_78 : BitVec 32 := 1#32
  let arg18 : BitVec 32 := Scf.iv v113 c1_i32_78 k0_t2
  let v129 : BitVec 32 := Scalar.muli c2_i32_92 arg18
  let v130 : BitVec 32 := Scalar.addi v5 v129
  let c7_i32_127 : BitVec 32 := 7#32
  let v179 : BitVec 32 := Scalar.minsi v130 c7_i32_127
  let c256_i32_128 : BitVec 32 := 256#32
  let v180 : BitVec 32 := Scalar.muli v179 c256_i32_128
  let v181 : BitVec 32 := v180
  let v182 : Index := Scalar.indexCast v181
  let c0_129 : Index := 0#32
  ![v182.toNat, 0]
def k0_off17 (i : grid0.Coords) (k0_t2 : Fin (k0_t2_loop i).trips) : Fin 4 → Nat :=
  let c2_i32 : BitVec 32 := 2#32
  let arg2 : BitVec 32 := BitVec.ofNat 32 (i 2).val
  let v5 : BitVec 32 := Scalar.muli c2_i32 arg2
  let c2_i32_92 : BitVec 32 := 2#32
  let c0_i32_75 : BitVec 32 := 0#32
  let c8_i32_66 : BitVec 32 := 8#32
  let v90 : BitVec 32 := Scalar.subi c8_i32_66 v5
  let c1_i32 : BitVec 32 := 1#32
  let v91 : BitVec 32 := Scalar.addi v90 c1_i32
  let c0_i32_68 : BitVec 32 := 0#32
  let v93 : BitVec 1 := Scalar.cmpi .sgt v91 c0_i32_68
  let v94 : BitVec 32 := Scalar.extui v93
  let c0_i32_69 : BitVec 32 := 0#32
  let v95 : BitVec 1 := Scalar.cmpi .slt v91 c0_i32_69
  let v96 : BitVec 32 := Scalar.extui v95
  let v97 : BitVec 32 := Scalar.subi v94 v96
  let c2_i32_67 : BitVec 32 := 2#32
  let c0_i32_70 : BitVec 32 := 0#32
  let v98 : BitVec 1 := Scalar.cmpi .sgt c2_i32_67 c0_i32_70
  let v99 : BitVec 32 := Scalar.extui v98
  let c0_i32_71 : BitVec 32 := 0#32
  let v100 : BitVec 1 := Scalar.cmpi .slt c2_i32_67 c0_i32_71
  let v101 : BitVec 32 := Scalar.extui v100
  let v102 : BitVec 32 := Scalar.subi v99 v101
  let v103 : BitVec 1 := Scalar.cmpi .ne v97 v102
  let v104 : BitVec 32 := Scalar.remsi v91 c2_i32_67
  let c0_i32_72 : BitVec 32 := 0#32
  let v105 : BitVec 1 := Scalar.cmpi .ne v104 c0_i32_72
  let v106 : BitVec 1 := Scalar.andi v103 v105
  let v92 : BitVec 32 := Scalar.divsi v91 c2_i32_67
  let c1_i32_73 : BitVec 32 := 1#32
  let v107 : BitVec 32 := Scalar.subi v92 c1_i32_73
  let v108 : BitVec 32 := Scalar.select v106 v107 v92
  let v109 : BitVec 32 := Scalar.subi v108 c0_i32_75
  let c1_i32_76 : BitVec 32 := 1#32
  let v111 : BitVec 32 := Scalar.divsi v109 c1_i32_76
  let v112 : BitVec 32 := Scalar.muli v111 c1_i32_76
  let v113 : BitVec 32 := Scalar.addi c0_i32_75 v112
  let c1_i32_78 : BitVec 32 := 1#32
  let arg18 : BitVec 32 := Scf.iv v113 c1_i32_78 k0_t2
  let v129 : BitVec 32 := Scalar.muli c2_i32_92 arg18
  let v130 : BitVec 32 := Scalar.addi v5 v129
  let c7_i32_127 : BitVec 32 := 7#32
  let v179 : BitVec 32 := Scalar.minsi v130 c7_i32_127
  let v206 : Index := Scalar.indexCast v179
  let c0_136 : Index := 0#32
  let c0_137 : Index := 0#32
  let c0_138 : Index := 0#32
  ![v206.toNat, 0, 0, 0]
def k0_off18 (i : grid0.Coords) (k0_t2 : Fin (k0_t2_loop i).trips) : Fin 4 → Nat :=
  let c0_154 : Index := 0#32
  let c2_i32 : BitVec 32 := 2#32
  let arg2 : BitVec 32 := BitVec.ofNat 32 (i 2).val
  let v5 : BitVec 32 := Scalar.muli c2_i32 arg2
  let c2_i32_92 : BitVec 32 := 2#32
  let c0_i32_75 : BitVec 32 := 0#32
  let c8_i32_66 : BitVec 32 := 8#32
  let v90 : BitVec 32 := Scalar.subi c8_i32_66 v5
  let c1_i32 : BitVec 32 := 1#32
  let v91 : BitVec 32 := Scalar.addi v90 c1_i32
  let c0_i32_68 : BitVec 32 := 0#32
  let v93 : BitVec 1 := Scalar.cmpi .sgt v91 c0_i32_68
  let v94 : BitVec 32 := Scalar.extui v93
  let c0_i32_69 : BitVec 32 := 0#32
  let v95 : BitVec 1 := Scalar.cmpi .slt v91 c0_i32_69
  let v96 : BitVec 32 := Scalar.extui v95
  let v97 : BitVec 32 := Scalar.subi v94 v96
  let c2_i32_67 : BitVec 32 := 2#32
  let c0_i32_70 : BitVec 32 := 0#32
  let v98 : BitVec 1 := Scalar.cmpi .sgt c2_i32_67 c0_i32_70
  let v99 : BitVec 32 := Scalar.extui v98
  let c0_i32_71 : BitVec 32 := 0#32
  let v100 : BitVec 1 := Scalar.cmpi .slt c2_i32_67 c0_i32_71
  let v101 : BitVec 32 := Scalar.extui v100
  let v102 : BitVec 32 := Scalar.subi v99 v101
  let v103 : BitVec 1 := Scalar.cmpi .ne v97 v102
  let v104 : BitVec 32 := Scalar.remsi v91 c2_i32_67
  let c0_i32_72 : BitVec 32 := 0#32
  let v105 : BitVec 1 := Scalar.cmpi .ne v104 c0_i32_72
  let v106 : BitVec 1 := Scalar.andi v103 v105
  let v92 : BitVec 32 := Scalar.divsi v91 c2_i32_67
  let c1_i32_73 : BitVec 32 := 1#32
  let v107 : BitVec 32 := Scalar.subi v92 c1_i32_73
  let v108 : BitVec 32 := Scalar.select v106 v107 v92
  let v109 : BitVec 32 := Scalar.subi v108 c0_i32_75
  let c1_i32_76 : BitVec 32 := 1#32
  let v111 : BitVec 32 := Scalar.divsi v109 c1_i32_76
  let v112 : BitVec 32 := Scalar.muli v111 c1_i32_76
  let v113 : BitVec 32 := Scalar.addi c0_i32_75 v112
  let c1_i32_78 : BitVec 32 := 1#32
  let arg18 : BitVec 32 := Scf.iv v113 c1_i32_78 k0_t2
  let v129 : BitVec 32 := Scalar.muli c2_i32_92 arg18
  let v130 : BitVec 32 := Scalar.addi v5 v129
  let c7_i32_127 : BitVec 32 := 7#32
  let v179 : BitVec 32 := Scalar.minsi v130 c7_i32_127
  let v233 : Index := Scalar.indexCast v179
  let c0_155 : Index := 0#32
  let c0_156 : Index := 0#32
  ![0, v233.toNat, 0, 0]
def k0_off19 (i : grid0.Coords) (k0_t2 : Fin (k0_t2_loop i).trips) : Fin 4 → Nat :=
  let c2_i32 : BitVec 32 := 2#32
  let arg2 : BitVec 32 := BitVec.ofNat 32 (i 2).val
  let v5 : BitVec 32 := Scalar.muli c2_i32 arg2
  let c2_i32_92 : BitVec 32 := 2#32
  let c0_i32_75 : BitVec 32 := 0#32
  let c8_i32_66 : BitVec 32 := 8#32
  let v90 : BitVec 32 := Scalar.subi c8_i32_66 v5
  let c1_i32 : BitVec 32 := 1#32
  let v91 : BitVec 32 := Scalar.addi v90 c1_i32
  let c0_i32_68 : BitVec 32 := 0#32
  let v93 : BitVec 1 := Scalar.cmpi .sgt v91 c0_i32_68
  let v94 : BitVec 32 := Scalar.extui v93
  let c0_i32_69 : BitVec 32 := 0#32
  let v95 : BitVec 1 := Scalar.cmpi .slt v91 c0_i32_69
  let v96 : BitVec 32 := Scalar.extui v95
  let v97 : BitVec 32 := Scalar.subi v94 v96
  let c2_i32_67 : BitVec 32 := 2#32
  let c0_i32_70 : BitVec 32 := 0#32
  let v98 : BitVec 1 := Scalar.cmpi .sgt c2_i32_67 c0_i32_70
  let v99 : BitVec 32 := Scalar.extui v98
  let c0_i32_71 : BitVec 32 := 0#32
  let v100 : BitVec 1 := Scalar.cmpi .slt c2_i32_67 c0_i32_71
  let v101 : BitVec 32 := Scalar.extui v100
  let v102 : BitVec 32 := Scalar.subi v99 v101
  let v103 : BitVec 1 := Scalar.cmpi .ne v97 v102
  let v104 : BitVec 32 := Scalar.remsi v91 c2_i32_67
  let c0_i32_72 : BitVec 32 := 0#32
  let v105 : BitVec 1 := Scalar.cmpi .ne v104 c0_i32_72
  let v106 : BitVec 1 := Scalar.andi v103 v105
  let v92 : BitVec 32 := Scalar.divsi v91 c2_i32_67
  let c1_i32_73 : BitVec 32 := 1#32
  let v107 : BitVec 32 := Scalar.subi v92 c1_i32_73
  let v108 : BitVec 32 := Scalar.select v106 v107 v92
  let v109 : BitVec 32 := Scalar.subi v108 c0_i32_75
  let c1_i32_76 : BitVec 32 := 1#32
  let v111 : BitVec 32 := Scalar.divsi v109 c1_i32_76
  let v112 : BitVec 32 := Scalar.muli v111 c1_i32_76
  let v113 : BitVec 32 := Scalar.addi c0_i32_75 v112
  let c1_i32_78 : BitVec 32 := 1#32
  let arg18 : BitVec 32 := Scf.iv v113 c1_i32_78 k0_t2
  let v129 : BitVec 32 := Scalar.muli c2_i32_92 arg18
  let v130 : BitVec 32 := Scalar.addi v5 v129
  let c7_i32_127 : BitVec 32 := 7#32
  let v179 : BitVec 32 := Scalar.minsi v130 c7_i32_127
  let v242 : Index := Scalar.indexCast v179
  let c1_161 : Index := 1#32
  let c0_162 : Index := 0#32
  let c0_163 : Index := 0#32
  ![v242.toNat, 1, 0, 0]
def k0_off20 (i : grid0.Coords) (k0_t2 : Fin (k0_t2_loop i).trips) : Fin 4 → Nat :=
  let c1_179 : Index := 1#32
  let c2_i32 : BitVec 32 := 2#32
  let arg2 : BitVec 32 := BitVec.ofNat 32 (i 2).val
  let v5 : BitVec 32 := Scalar.muli c2_i32 arg2
  let c2_i32_92 : BitVec 32 := 2#32
  let c0_i32_75 : BitVec 32 := 0#32
  let c8_i32_66 : BitVec 32 := 8#32
  let v90 : BitVec 32 := Scalar.subi c8_i32_66 v5
  let c1_i32 : BitVec 32 := 1#32
  let v91 : BitVec 32 := Scalar.addi v90 c1_i32
  let c0_i32_68 : BitVec 32 := 0#32
  let v93 : BitVec 1 := Scalar.cmpi .sgt v91 c0_i32_68
  let v94 : BitVec 32 := Scalar.extui v93
  let c0_i32_69 : BitVec 32 := 0#32
  let v95 : BitVec 1 := Scalar.cmpi .slt v91 c0_i32_69
  let v96 : BitVec 32 := Scalar.extui v95
  let v97 : BitVec 32 := Scalar.subi v94 v96
  let c2_i32_67 : BitVec 32 := 2#32
  let c0_i32_70 : BitVec 32 := 0#32
  let v98 : BitVec 1 := Scalar.cmpi .sgt c2_i32_67 c0_i32_70
  let v99 : BitVec 32 := Scalar.extui v98
  let c0_i32_71 : BitVec 32 := 0#32
  let v100 : BitVec 1 := Scalar.cmpi .slt c2_i32_67 c0_i32_71
  let v101 : BitVec 32 := Scalar.extui v100
  let v102 : BitVec 32 := Scalar.subi v99 v101
  let v103 : BitVec 1 := Scalar.cmpi .ne v97 v102
  let v104 : BitVec 32 := Scalar.remsi v91 c2_i32_67
  let c0_i32_72 : BitVec 32 := 0#32
  let v105 : BitVec 1 := Scalar.cmpi .ne v104 c0_i32_72
  let v106 : BitVec 1 := Scalar.andi v103 v105
  let v92 : BitVec 32 := Scalar.divsi v91 c2_i32_67
  let c1_i32_73 : BitVec 32 := 1#32
  let v107 : BitVec 32 := Scalar.subi v92 c1_i32_73
  let v108 : BitVec 32 := Scalar.select v106 v107 v92
  let v109 : BitVec 32 := Scalar.subi v108 c0_i32_75
  let c1_i32_76 : BitVec 32 := 1#32
  let v111 : BitVec 32 := Scalar.divsi v109 c1_i32_76
  let v112 : BitVec 32 := Scalar.muli v111 c1_i32_76
  let v113 : BitVec 32 := Scalar.addi c0_i32_75 v112
  let c1_i32_78 : BitVec 32 := 1#32
  let arg18 : BitVec 32 := Scf.iv v113 c1_i32_78 k0_t2
  let v129 : BitVec 32 := Scalar.muli c2_i32_92 arg18
  let v130 : BitVec 32 := Scalar.addi v5 v129
  let c7_i32_127 : BitVec 32 := 7#32
  let v179 : BitVec 32 := Scalar.minsi v130 c7_i32_127
  let v269 : Index := Scalar.indexCast v179
  let c0_180 : Index := 0#32
  let c0_181 : Index := 0#32
  ![1, v269.toNat, 0, 0]
def k0_mult8 (i : grid0.Coords) (k0_t2 : Fin (k0_t2_loop i).trips) : BitVec 32 :=
  let c2_i32 : BitVec 32 := 2#32
  let arg2 : BitVec 32 := BitVec.ofNat 32 (i 2).val
  let v5 : BitVec 32 := Scalar.muli c2_i32 arg2
  let c2_i32_92 : BitVec 32 := 2#32
  let c0_i32_75 : BitVec 32 := 0#32
  let c8_i32_66 : BitVec 32 := 8#32
  let v90 : BitVec 32 := Scalar.subi c8_i32_66 v5
  let c1_i32 : BitVec 32 := 1#32
  let v91 : BitVec 32 := Scalar.addi v90 c1_i32
  let c0_i32_68 : BitVec 32 := 0#32
  let v93 : BitVec 1 := Scalar.cmpi .sgt v91 c0_i32_68
  let v94 : BitVec 32 := Scalar.extui v93
  let c0_i32_69 : BitVec 32 := 0#32
  let v95 : BitVec 1 := Scalar.cmpi .slt v91 c0_i32_69
  let v96 : BitVec 32 := Scalar.extui v95
  let v97 : BitVec 32 := Scalar.subi v94 v96
  let c2_i32_67 : BitVec 32 := 2#32
  let c0_i32_70 : BitVec 32 := 0#32
  let v98 : BitVec 1 := Scalar.cmpi .sgt c2_i32_67 c0_i32_70
  let v99 : BitVec 32 := Scalar.extui v98
  let c0_i32_71 : BitVec 32 := 0#32
  let v100 : BitVec 1 := Scalar.cmpi .slt c2_i32_67 c0_i32_71
  let v101 : BitVec 32 := Scalar.extui v100
  let v102 : BitVec 32 := Scalar.subi v99 v101
  let v103 : BitVec 1 := Scalar.cmpi .ne v97 v102
  let v104 : BitVec 32 := Scalar.remsi v91 c2_i32_67
  let c0_i32_72 : BitVec 32 := 0#32
  let v105 : BitVec 1 := Scalar.cmpi .ne v104 c0_i32_72
  let v106 : BitVec 1 := Scalar.andi v103 v105
  let v92 : BitVec 32 := Scalar.divsi v91 c2_i32_67
  let c1_i32_73 : BitVec 32 := 1#32
  let v107 : BitVec 32 := Scalar.subi v92 c1_i32_73
  let v108 : BitVec 32 := Scalar.select v106 v107 v92
  let v109 : BitVec 32 := Scalar.subi v108 c0_i32_75
  let c1_i32_76 : BitVec 32 := 1#32
  let v111 : BitVec 32 := Scalar.divsi v109 c1_i32_76
  let v112 : BitVec 32 := Scalar.muli v111 c1_i32_76
  let v113 : BitVec 32 := Scalar.addi c0_i32_75 v112
  let c1_i32_78 : BitVec 32 := 1#32
  let arg18 : BitVec 32 := Scf.iv v113 c1_i32_78 k0_t2
  let v129 : BitVec 32 := Scalar.muli c2_i32_92 arg18
  let v130 : BitVec 32 := Scalar.addi v5 v129
  let c2_i32_186 : BitVec 32 := 2#32
  let v278 : BitVec 32 := Scalar.addi v130 c2_i32_186
  let c7_i32_187 : BitVec 32 := 7#32
  let v279 : BitVec 32 := Scalar.minsi v278 c7_i32_187
  let c256_i32_188 : BitVec 32 := 256#32
  let v280 : BitVec 32 := Scalar.muli v279 c256_i32_188
  v280
def k0_mult9 (i : grid0.Coords) (k0_t2 : Fin (k0_t2_loop i).trips) : BitVec 32 :=
  let c2_i32 : BitVec 32 := 2#32
  let arg2 : BitVec 32 := BitVec.ofNat 32 (i 2).val
  let v5 : BitVec 32 := Scalar.muli c2_i32 arg2
  let c2_i32_92 : BitVec 32 := 2#32
  let c0_i32_75 : BitVec 32 := 0#32
  let c8_i32_66 : BitVec 32 := 8#32
  let v90 : BitVec 32 := Scalar.subi c8_i32_66 v5
  let c1_i32 : BitVec 32 := 1#32
  let v91 : BitVec 32 := Scalar.addi v90 c1_i32
  let c0_i32_68 : BitVec 32 := 0#32
  let v93 : BitVec 1 := Scalar.cmpi .sgt v91 c0_i32_68
  let v94 : BitVec 32 := Scalar.extui v93
  let c0_i32_69 : BitVec 32 := 0#32
  let v95 : BitVec 1 := Scalar.cmpi .slt v91 c0_i32_69
  let v96 : BitVec 32 := Scalar.extui v95
  let v97 : BitVec 32 := Scalar.subi v94 v96
  let c2_i32_67 : BitVec 32 := 2#32
  let c0_i32_70 : BitVec 32 := 0#32
  let v98 : BitVec 1 := Scalar.cmpi .sgt c2_i32_67 c0_i32_70
  let v99 : BitVec 32 := Scalar.extui v98
  let c0_i32_71 : BitVec 32 := 0#32
  let v100 : BitVec 1 := Scalar.cmpi .slt c2_i32_67 c0_i32_71
  let v101 : BitVec 32 := Scalar.extui v100
  let v102 : BitVec 32 := Scalar.subi v99 v101
  let v103 : BitVec 1 := Scalar.cmpi .ne v97 v102
  let v104 : BitVec 32 := Scalar.remsi v91 c2_i32_67
  let c0_i32_72 : BitVec 32 := 0#32
  let v105 : BitVec 1 := Scalar.cmpi .ne v104 c0_i32_72
  let v106 : BitVec 1 := Scalar.andi v103 v105
  let v92 : BitVec 32 := Scalar.divsi v91 c2_i32_67
  let c1_i32_73 : BitVec 32 := 1#32
  let v107 : BitVec 32 := Scalar.subi v92 c1_i32_73
  let v108 : BitVec 32 := Scalar.select v106 v107 v92
  let v109 : BitVec 32 := Scalar.subi v108 c0_i32_75
  let c1_i32_76 : BitVec 32 := 1#32
  let v111 : BitVec 32 := Scalar.divsi v109 c1_i32_76
  let v112 : BitVec 32 := Scalar.muli v111 c1_i32_76
  let v113 : BitVec 32 := Scalar.addi c0_i32_75 v112
  let c1_i32_78 : BitVec 32 := 1#32
  let arg18 : BitVec 32 := Scf.iv v113 c1_i32_78 k0_t2
  let v129 : BitVec 32 := Scalar.muli c2_i32_92 arg18
  let v130 : BitVec 32 := Scalar.addi v5 v129
  let c1_i32_220 : BitVec 32 := 1#32
  let v330 : BitVec 32 := Scalar.addi v130 c1_i32_220
  let c7_i32_221 : BitVec 32 := 7#32
  let v331 : BitVec 32 := Scalar.minsi v330 c7_i32_221
  let c256_i32_222 : BitVec 32 := 256#32
  let v332 : BitVec 32 := Scalar.muli v331 c256_i32_222
  v332
def k0_off21 (i : grid0.Coords) (k0_t2 : Fin (k0_t2_loop i).trips) : Fin 4 → Nat :=
  let c2_i32 : BitVec 32 := 2#32
  let arg2 : BitVec 32 := BitVec.ofNat 32 (i 2).val
  let v5 : BitVec 32 := Scalar.muli c2_i32 arg2
  let c2_i32_92 : BitVec 32 := 2#32
  let c0_i32_75 : BitVec 32 := 0#32
  let c8_i32_66 : BitVec 32 := 8#32
  let v90 : BitVec 32 := Scalar.subi c8_i32_66 v5
  let c1_i32 : BitVec 32 := 1#32
  let v91 : BitVec 32 := Scalar.addi v90 c1_i32
  let c0_i32_68 : BitVec 32 := 0#32
  let v93 : BitVec 1 := Scalar.cmpi .sgt v91 c0_i32_68
  let v94 : BitVec 32 := Scalar.extui v93
  let c0_i32_69 : BitVec 32 := 0#32
  let v95 : BitVec 1 := Scalar.cmpi .slt v91 c0_i32_69
  let v96 : BitVec 32 := Scalar.extui v95
  let v97 : BitVec 32 := Scalar.subi v94 v96
  let c2_i32_67 : BitVec 32 := 2#32
  let c0_i32_70 : BitVec 32 := 0#32
  let v98 : BitVec 1 := Scalar.cmpi .sgt c2_i32_67 c0_i32_70
  let v99 : BitVec 32 := Scalar.extui v98
  let c0_i32_71 : BitVec 32 := 0#32
  let v100 : BitVec 1 := Scalar.cmpi .slt c2_i32_67 c0_i32_71
  let v101 : BitVec 32 := Scalar.extui v100
  let v102 : BitVec 32 := Scalar.subi v99 v101
  let v103 : BitVec 1 := Scalar.cmpi .ne v97 v102
  let v104 : BitVec 32 := Scalar.remsi v91 c2_i32_67
  let c0_i32_72 : BitVec 32 := 0#32
  let v105 : BitVec 1 := Scalar.cmpi .ne v104 c0_i32_72
  let v106 : BitVec 1 := Scalar.andi v103 v105
  let v92 : BitVec 32 := Scalar.divsi v91 c2_i32_67
  let c1_i32_73 : BitVec 32 := 1#32
  let v107 : BitVec 32 := Scalar.subi v92 c1_i32_73
  let v108 : BitVec 32 := Scalar.select v106 v107 v92
  let v109 : BitVec 32 := Scalar.subi v108 c0_i32_75
  let c1_i32_76 : BitVec 32 := 1#32
  let v111 : BitVec 32 := Scalar.divsi v109 c1_i32_76
  let v112 : BitVec 32 := Scalar.muli v111 c1_i32_76
  let v113 : BitVec 32 := Scalar.addi c0_i32_75 v112
  let c1_i32_78 : BitVec 32 := 1#32
  let arg18 : BitVec 32 := Scf.iv v113 c1_i32_78 k0_t2
  let v129 : BitVec 32 := Scalar.muli c2_i32_92 arg18
  let v130 : BitVec 32 := Scalar.addi v5 v129
  let c1_i32_220 : BitVec 32 := 1#32
  let v330 : BitVec 32 := Scalar.addi v130 c1_i32_220
  let c7_i32_221 : BitVec 32 := 7#32
  let v331 : BitVec 32 := Scalar.minsi v330 c7_i32_221
  let v358 : Index := Scalar.indexCast v331
  let c0_230 : Index := 0#32
  let c0_231 : Index := 0#32
  let c0_232 : Index := 0#32
  ![v358.toNat, 0, 0, 0]
def k0_off22 (i : grid0.Coords) (k0_t2 : Fin (k0_t2_loop i).trips) : Fin 4 → Nat :=
  let c0_248 : Index := 0#32
  let c2_i32 : BitVec 32 := 2#32
  let arg2 : BitVec 32 := BitVec.ofNat 32 (i 2).val
  let v5 : BitVec 32 := Scalar.muli c2_i32 arg2
  let c2_i32_92 : BitVec 32 := 2#32
  let c0_i32_75 : BitVec 32 := 0#32
  let c8_i32_66 : BitVec 32 := 8#32
  let v90 : BitVec 32 := Scalar.subi c8_i32_66 v5
  let c1_i32 : BitVec 32 := 1#32
  let v91 : BitVec 32 := Scalar.addi v90 c1_i32
  let c0_i32_68 : BitVec 32 := 0#32
  let v93 : BitVec 1 := Scalar.cmpi .sgt v91 c0_i32_68
  let v94 : BitVec 32 := Scalar.extui v93
  let c0_i32_69 : BitVec 32 := 0#32
  let v95 : BitVec 1 := Scalar.cmpi .slt v91 c0_i32_69
  let v96 : BitVec 32 := Scalar.extui v95
  let v97 : BitVec 32 := Scalar.subi v94 v96
  let c2_i32_67 : BitVec 32 := 2#32
  let c0_i32_70 : BitVec 32 := 0#32
  let v98 : BitVec 1 := Scalar.cmpi .sgt c2_i32_67 c0_i32_70
  let v99 : BitVec 32 := Scalar.extui v98
  let c0_i32_71 : BitVec 32 := 0#32
  let v100 : BitVec 1 := Scalar.cmpi .slt c2_i32_67 c0_i32_71
  let v101 : BitVec 32 := Scalar.extui v100
  let v102 : BitVec 32 := Scalar.subi v99 v101
  let v103 : BitVec 1 := Scalar.cmpi .ne v97 v102
  let v104 : BitVec 32 := Scalar.remsi v91 c2_i32_67
  let c0_i32_72 : BitVec 32 := 0#32
  let v105 : BitVec 1 := Scalar.cmpi .ne v104 c0_i32_72
  let v106 : BitVec 1 := Scalar.andi v103 v105
  let v92 : BitVec 32 := Scalar.divsi v91 c2_i32_67
  let c1_i32_73 : BitVec 32 := 1#32
  let v107 : BitVec 32 := Scalar.subi v92 c1_i32_73
  let v108 : BitVec 32 := Scalar.select v106 v107 v92
  let v109 : BitVec 32 := Scalar.subi v108 c0_i32_75
  let c1_i32_76 : BitVec 32 := 1#32
  let v111 : BitVec 32 := Scalar.divsi v109 c1_i32_76
  let v112 : BitVec 32 := Scalar.muli v111 c1_i32_76
  let v113 : BitVec 32 := Scalar.addi c0_i32_75 v112
  let c1_i32_78 : BitVec 32 := 1#32
  let arg18 : BitVec 32 := Scf.iv v113 c1_i32_78 k0_t2
  let v129 : BitVec 32 := Scalar.muli c2_i32_92 arg18
  let v130 : BitVec 32 := Scalar.addi v5 v129
  let c1_i32_220 : BitVec 32 := 1#32
  let v330 : BitVec 32 := Scalar.addi v130 c1_i32_220
  let c7_i32_221 : BitVec 32 := 7#32
  let v331 : BitVec 32 := Scalar.minsi v330 c7_i32_221
  let v385 : Index := Scalar.indexCast v331
  let c0_249 : Index := 0#32
  let c0_250 : Index := 0#32
  ![0, v385.toNat, 0, 0]
def k0_off23 (i : grid0.Coords) (k0_t2 : Fin (k0_t2_loop i).trips) : Fin 4 → Nat :=
  let c2_i32 : BitVec 32 := 2#32
  let arg2 : BitVec 32 := BitVec.ofNat 32 (i 2).val
  let v5 : BitVec 32 := Scalar.muli c2_i32 arg2
  let c2_i32_92 : BitVec 32 := 2#32
  let c0_i32_75 : BitVec 32 := 0#32
  let c8_i32_66 : BitVec 32 := 8#32
  let v90 : BitVec 32 := Scalar.subi c8_i32_66 v5
  let c1_i32 : BitVec 32 := 1#32
  let v91 : BitVec 32 := Scalar.addi v90 c1_i32
  let c0_i32_68 : BitVec 32 := 0#32
  let v93 : BitVec 1 := Scalar.cmpi .sgt v91 c0_i32_68
  let v94 : BitVec 32 := Scalar.extui v93
  let c0_i32_69 : BitVec 32 := 0#32
  let v95 : BitVec 1 := Scalar.cmpi .slt v91 c0_i32_69
  let v96 : BitVec 32 := Scalar.extui v95
  let v97 : BitVec 32 := Scalar.subi v94 v96
  let c2_i32_67 : BitVec 32 := 2#32
  let c0_i32_70 : BitVec 32 := 0#32
  let v98 : BitVec 1 := Scalar.cmpi .sgt c2_i32_67 c0_i32_70
  let v99 : BitVec 32 := Scalar.extui v98
  let c0_i32_71 : BitVec 32 := 0#32
  let v100 : BitVec 1 := Scalar.cmpi .slt c2_i32_67 c0_i32_71
  let v101 : BitVec 32 := Scalar.extui v100
  let v102 : BitVec 32 := Scalar.subi v99 v101
  let v103 : BitVec 1 := Scalar.cmpi .ne v97 v102
  let v104 : BitVec 32 := Scalar.remsi v91 c2_i32_67
  let c0_i32_72 : BitVec 32 := 0#32
  let v105 : BitVec 1 := Scalar.cmpi .ne v104 c0_i32_72
  let v106 : BitVec 1 := Scalar.andi v103 v105
  let v92 : BitVec 32 := Scalar.divsi v91 c2_i32_67
  let c1_i32_73 : BitVec 32 := 1#32
  let v107 : BitVec 32 := Scalar.subi v92 c1_i32_73
  let v108 : BitVec 32 := Scalar.select v106 v107 v92
  let v109 : BitVec 32 := Scalar.subi v108 c0_i32_75
  let c1_i32_76 : BitVec 32 := 1#32
  let v111 : BitVec 32 := Scalar.divsi v109 c1_i32_76
  let v112 : BitVec 32 := Scalar.muli v111 c1_i32_76
  let v113 : BitVec 32 := Scalar.addi c0_i32_75 v112
  let c1_i32_78 : BitVec 32 := 1#32
  let arg18 : BitVec 32 := Scf.iv v113 c1_i32_78 k0_t2
  let v129 : BitVec 32 := Scalar.muli c2_i32_92 arg18
  let v130 : BitVec 32 := Scalar.addi v5 v129
  let c1_i32_220 : BitVec 32 := 1#32
  let v330 : BitVec 32 := Scalar.addi v130 c1_i32_220
  let c7_i32_221 : BitVec 32 := 7#32
  let v331 : BitVec 32 := Scalar.minsi v330 c7_i32_221
  let v394 : Index := Scalar.indexCast v331
  let c1_255 : Index := 1#32
  let c0_256 : Index := 0#32
  let c0_257 : Index := 0#32
  ![v394.toNat, 1, 0, 0]
def k0_off24 (i : grid0.Coords) (k0_t2 : Fin (k0_t2_loop i).trips) : Fin 4 → Nat :=
  let c1_273 : Index := 1#32
  let c2_i32 : BitVec 32 := 2#32
  let arg2 : BitVec 32 := BitVec.ofNat 32 (i 2).val
  let v5 : BitVec 32 := Scalar.muli c2_i32 arg2
  let c2_i32_92 : BitVec 32 := 2#32
  let c0_i32_75 : BitVec 32 := 0#32
  let c8_i32_66 : BitVec 32 := 8#32
  let v90 : BitVec 32 := Scalar.subi c8_i32_66 v5
  let c1_i32 : BitVec 32 := 1#32
  let v91 : BitVec 32 := Scalar.addi v90 c1_i32
  let c0_i32_68 : BitVec 32 := 0#32
  let v93 : BitVec 1 := Scalar.cmpi .sgt v91 c0_i32_68
  let v94 : BitVec 32 := Scalar.extui v93
  let c0_i32_69 : BitVec 32 := 0#32
  let v95 : BitVec 1 := Scalar.cmpi .slt v91 c0_i32_69
  let v96 : BitVec 32 := Scalar.extui v95
  let v97 : BitVec 32 := Scalar.subi v94 v96
  let c2_i32_67 : BitVec 32 := 2#32
  let c0_i32_70 : BitVec 32 := 0#32
  let v98 : BitVec 1 := Scalar.cmpi .sgt c2_i32_67 c0_i32_70
  let v99 : BitVec 32 := Scalar.extui v98
  let c0_i32_71 : BitVec 32 := 0#32
  let v100 : BitVec 1 := Scalar.cmpi .slt c2_i32_67 c0_i32_71
  let v101 : BitVec 32 := Scalar.extui v100
  let v102 : BitVec 32 := Scalar.subi v99 v101
  let v103 : BitVec 1 := Scalar.cmpi .ne v97 v102
  let v104 : BitVec 32 := Scalar.remsi v91 c2_i32_67
  let c0_i32_72 : BitVec 32 := 0#32
  let v105 : BitVec 1 := Scalar.cmpi .ne v104 c0_i32_72
  let v106 : BitVec 1 := Scalar.andi v103 v105
  let v92 : BitVec 32 := Scalar.divsi v91 c2_i32_67
  let c1_i32_73 : BitVec 32 := 1#32
  let v107 : BitVec 32 := Scalar.subi v92 c1_i32_73
  let v108 : BitVec 32 := Scalar.select v106 v107 v92
  let v109 : BitVec 32 := Scalar.subi v108 c0_i32_75
  let c1_i32_76 : BitVec 32 := 1#32
  let v111 : BitVec 32 := Scalar.divsi v109 c1_i32_76
  let v112 : BitVec 32 := Scalar.muli v111 c1_i32_76
  let v113 : BitVec 32 := Scalar.addi c0_i32_75 v112
  let c1_i32_78 : BitVec 32 := 1#32
  let arg18 : BitVec 32 := Scf.iv v113 c1_i32_78 k0_t2
  let v129 : BitVec 32 := Scalar.muli c2_i32_92 arg18
  let v130 : BitVec 32 := Scalar.addi v5 v129
  let c1_i32_220 : BitVec 32 := 1#32
  let v330 : BitVec 32 := Scalar.addi v130 c1_i32_220
  let c7_i32_221 : BitVec 32 := 7#32
  let v331 : BitVec 32 := Scalar.minsi v330 c7_i32_221
  let v421 : Index := Scalar.indexCast v331
  let c0_274 : Index := 0#32
  let c0_275 : Index := 0#32
  ![1, v421.toNat, 0, 0]
def k0_cond2 (i : grid0.Coords) : BitVec 1 :=
  let arg2 : BitVec 32 := BitVec.ofNat 32 (i 2).val
  let c3_i32 : BitVec 32 := 3#32
  let v126 : BitVec 1 := Scalar.cmpi .eq arg2 c3_i32
  let v127 : BitVec 32 := Scalar.extui v126
  let c0_i32_91 : BitVec 32 := 0#32
  let v128 : BitVec 1 := Scalar.cmpi .ne v127 c0_i32_91
  v128

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c3_i32 : BitVec 32 := 3#32
  let v2 : BitVec 32 := Scalar.addi c3_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c6_i32 : BitVec 32 := 6#32
  let v2 : BitVec 32 := Scalar.addi c6_i32 arg1
  let c0_i32 : BitVec 32 := 0#32
  ![v1.toNat, v2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, arg2.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S9x512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S8x2x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S8x2x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x2x2x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== DilReferenceIdeal.lean ====
abbrev S4x2048x384 : Shape := ⟨3, ![4, 2048, 384]⟩
abbrev S4x2048x6x64 : Shape := ⟨4, ![4, 2048, 6, 64]⟩
abbrev S4x6x2048x2048 : Shape := ⟨4, ![4, 6, 2048, 2048]⟩
abbrev S_ : Shape := ⟨0, ![]⟩
abbrev S2048x2048 : Shape := ⟨2, ![2048, 2048]⟩
abbrev S4x6x2048 : Shape := ⟨3, ![4, 6, 2048]⟩
abbrev S4x6x2048x1 : Shape := ⟨4, ![4, 6, 2048, 1]⟩
abbrev S4x6x2048x64 : Shape := ⟨4, ![4, 6, 2048, 64]⟩
abbrev S4x2048x6 : Shape := ⟨3, ![4, 2048, 6]⟩
abbrev S4x6x64x2048 : Shape := ⟨4, ![4, 6, 64, 2048]⟩
abbrev S8192x384 : Shape := ⟨2, ![8192, 384]⟩

abbrev nBuf : Space → Nat
  | .hbm => 400
  | .vmem => 0
  | .smem => 0
  | _ => 0

abbrev hbmTy0_0 (i : Nat) : BufTy := match i % 128 with
  | 0 => ⟨S4x2048x384, .f32⟩
  | 1 => ⟨S4x2048x384, .f32⟩
  | 2 => ⟨S4x2048x384, .f32⟩
  | 3 => ⟨S4x2048x384, .f32⟩
  | 4 => ⟨S4x2048x6x64, .f32⟩
  | 5 => ⟨S4x2048x6x64, .f32⟩
  | 6 => ⟨S4x2048x6x64, .f32⟩
  | 7 => ⟨S4x6x2048x2048, .f32⟩
  | 8 => ⟨S_, .f32⟩
  | 9 => ⟨S4x6x2048x2048, .f32⟩
  | 10 => ⟨S4x6x2048x2048, .f32⟩
  | 11 => ⟨S2048x2048, .i32⟩
  | 12 => ⟨S2048x2048, .i32⟩
  | 13 => ⟨S2048x2048, .i32⟩
  | 14 => ⟨S_, .i32⟩
  | 15 => ⟨S2048x2048, .i32⟩
  | 16 => ⟨S2048x2048, .i1⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S2048x2048, .i32⟩
  | 24 => ⟨S2048x2048, .i32⟩
  | 25 => ⟨S_, .i32⟩
  | 26 => ⟨S2048x2048, .i32⟩
  | 27 => ⟨S2048x2048, .i1⟩
  | 28 => ⟨S_, .i32⟩
  | 29 => ⟨S2048x2048, .i32⟩
  | 30 => ⟨S2048x2048, .i1⟩
  | 31 => ⟨S_, .i32⟩
  | 32 => ⟨S_, .i1⟩
  | 33 => ⟨S2048x2048, .i1⟩
  | 34 => ⟨S2048x2048, .i1⟩
  | 35 => ⟨S2048x2048, .i1⟩
  | 36 => ⟨S2048x2048, .i32⟩
  | 37 => ⟨S2048x2048, .i32⟩
  | 38 => ⟨S2048x2048, .i32⟩
  | 39 => ⟨S_, .i32⟩
  | 40 => ⟨S2048x2048, .i32⟩
  | 41 => ⟨S2048x2048, .i1⟩
  | 42 => ⟨S2048x2048, .i1⟩
  | 43 => ⟨S_, .i32⟩
  | 44 => ⟨S2048x2048, .i32⟩
  | 45 => ⟨S2048x2048, .i1⟩
  | 46 => ⟨S2048x2048, .i1⟩
  | 47 => ⟨S_, .f32⟩
  | 48 => ⟨S_, .f32⟩
  | 49 => ⟨S4x6x2048x2048, .i1⟩
  | 50 => ⟨S4x6x2048x2048, .f32⟩
  | 51 => ⟨S4x6x2048x2048, .f32⟩
  | 52 => ⟨S_, .f32⟩
  | 53 => ⟨S4x6x2048x2048, .f32⟩
  | 54 => ⟨S_, .f32⟩
  | 55 => ⟨S4x6x2048, .f32⟩
  | 56 => ⟨S4x6x2048x1, .f32⟩
  | 57 => ⟨S4x6x2048x2048, .f32⟩
  | 58 => ⟨S4x6x2048x2048, .i1⟩
  | 59 => ⟨S4x6x2048x2048, .f32⟩
  | 60 => ⟨S_, .f32⟩
  | 61 => ⟨S4x6x2048, .f32⟩
  | 62 => ⟨S4x6x2048x1, .f32⟩
  | 63 => ⟨S4x6x2048x2048, .f32⟩
  | 64 => ⟨S4x6x2048x2048, .f32⟩
  | 65 => ⟨S4x6x2048x2048, .f32⟩
  | 66 => ⟨S4x6x2048x64, .f32⟩
  | 67 => ⟨S_, .f32⟩
  | 68 => ⟨S4x6x2048, .f32⟩
  | 69 => ⟨S_, .i32⟩
  | 70 => ⟨S2048x2048, .i32⟩
  | 71 => ⟨S2048x2048, .i1⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S2048x2048, .i32⟩
  | 79 => ⟨S2048x2048, .i32⟩
  | 80 => ⟨S_, .i32⟩
  | 81 => ⟨S2048x2048, .i32⟩
  | 82 => ⟨S2048x2048, .i1⟩
  | 83 => ⟨S_, .i32⟩
  | 84 => ⟨S2048x2048, .i32⟩
  | 85 => ⟨S2048x2048, .i1⟩
  | 86 => ⟨S_, .i32⟩
  | 87 => ⟨S_, .i1⟩
  | 88 => ⟨S2048x2048, .i1⟩
  | 89 => ⟨S2048x2048, .i1⟩
  | 90 => ⟨S2048x2048, .i1⟩
  | 91 => ⟨S2048x2048, .i32⟩
  | 92 => ⟨S2048x2048, .i32⟩
  | 93 => ⟨S2048x2048, .i32⟩
  | 94 => ⟨S_, .i32⟩
  | 95 => ⟨S2048x2048, .i32⟩
  | 96 => ⟨S2048x2048, .i1⟩
  | 97 => ⟨S2048x2048, .i1⟩
  | 98 => ⟨S_, .i32⟩
  | 99 => ⟨S2048x2048, .i32⟩
  | 100 => ⟨S2048x2048, .i1⟩
  | 101 => ⟨S2048x2048, .i1⟩
  | 102 => ⟨S_, .f32⟩
  | 103 => ⟨S_, .f32⟩
  | 104 => ⟨S4x6x2048x2048, .i1⟩
  | 105 => ⟨S4x6x2048x2048, .f32⟩
  | 106 => ⟨S4x6x2048x2048, .f32⟩
  | 107 => ⟨S_, .f32⟩
  | 108 => ⟨S4x6x2048x2048, .f32⟩
  | 109 => ⟨S_, .f32⟩
  | 110 => ⟨S4x6x2048, .f32⟩
  | 111 => ⟨S4x6x2048x1, .f32⟩
  | 112 => ⟨S4x6x2048x2048, .f32⟩
  | 113 => ⟨S4x6x2048x2048, .i1⟩
  | 114 => ⟨S4x6x2048x2048, .f32⟩
  | 115 => ⟨S_, .f32⟩
  | 116 => ⟨S4x6x2048, .f32⟩
  | 117 => ⟨S4x6x2048x1, .f32⟩
  | 118 => ⟨S4x6x2048x2048, .f32⟩
  | 119 => ⟨S4x6x2048x2048, .f32⟩
  | 120 => ⟨S4x6x2048x2048, .f32⟩
  | 121 => ⟨S4x6x2048x64, .f32⟩
  | 122 => ⟨S_, .f32⟩
  | 123 => ⟨S4x6x2048, .f32⟩
  | 124 => ⟨S_, .i32⟩
  | 125 => ⟨S2048x2048, .i32⟩
  | 126 => ⟨S2048x2048, .i1⟩
  | 127 => ⟨S_, .i32⟩
  | _ => ⟨S4x2048x384, .f32⟩

abbrev hbmTy0_1 (i : Nat) : BufTy := match i % 128 with
  | 0 => ⟨S_, .i32⟩
  | 1 => ⟨S_, .i32⟩
  | 2 => ⟨S_, .i1⟩
  | 3 => ⟨S_, .i32⟩
  | 4 => ⟨S_, .i32⟩
  | 5 => ⟨S2048x2048, .i32⟩
  | 6 => ⟨S2048x2048, .i32⟩
  | 7 => ⟨S_, .i32⟩
  | 8 => ⟨S2048x2048, .i32⟩
  | 9 => ⟨S2048x2048, .i1⟩
  | 10 => ⟨S_, .i32⟩
  | 11 => ⟨S2048x2048, .i32⟩
  | 12 => ⟨S2048x2048, .i1⟩
  | 13 => ⟨S_, .i32⟩
  | 14 => ⟨S_, .i1⟩
  | 15 => ⟨S2048x2048, .i1⟩
  | 16 => ⟨S2048x2048, .i1⟩
  | 17 => ⟨S2048x2048, .i1⟩
  | 18 => ⟨S2048x2048, .i32⟩
  | 19 => ⟨S2048x2048, .i32⟩
  | 20 => ⟨S2048x2048, .i32⟩
  | 21 => ⟨S_, .i32⟩
  | 22 => ⟨S2048x2048, .i32⟩
  | 23 => ⟨S2048x2048, .i1⟩
  | 24 => ⟨S2048x2048, .i1⟩
  | 25 => ⟨S_, .i32⟩
  | 26 => ⟨S2048x2048, .i32⟩
  | 27 => ⟨S2048x2048, .i1⟩
  | 28 => ⟨S2048x2048, .i1⟩
  | 29 => ⟨S_, .f32⟩
  | 30 => ⟨S_, .f32⟩
  | 31 => ⟨S4x6x2048x2048, .i1⟩
  | 32 => ⟨S4x6x2048x2048, .f32⟩
  | 33 => ⟨S4x6x2048x2048, .f32⟩
  | 34 => ⟨S_, .f32⟩
  | 35 => ⟨S4x6x2048x2048, .f32⟩
  | 36 => ⟨S_, .f32⟩
  | 37 => ⟨S4x6x2048, .f32⟩
  | 38 => ⟨S4x6x2048x1, .f32⟩
  | 39 => ⟨S4x6x2048x2048, .f32⟩
  | 40 => ⟨S4x6x2048x2048, .i1⟩
  | 41 => ⟨S4x6x2048x2048, .f32⟩
  | 42 => ⟨S_, .f32⟩
  | 43 => ⟨S4x6x2048, .f32⟩
  | 44 => ⟨S4x6x2048x1, .f32⟩
  | 45 => ⟨S4x6x2048x2048, .f32⟩
  | 46 => ⟨S4x6x2048x2048, .f32⟩
  | 47 => ⟨S4x6x2048x2048, .f32⟩
  | 48 => ⟨S4x6x2048x64, .f32⟩
  | 49 => ⟨S_, .f32⟩
  | 50 => ⟨S4x6x2048, .f32⟩
  | 51 => ⟨S4x6x2048, .f32⟩
  | 52 => ⟨S4x6x2048, .i1⟩
  | 53 => ⟨S4x6x2048, .i1⟩
  | 54 => ⟨S_, .f32⟩
  | 55 => ⟨S4x6x2048, .f32⟩
  | 56 => ⟨S_, .f32⟩
  | 57 => ⟨S4x6x2048, .f32⟩
  | 58 => ⟨S_, .f32⟩
  | 59 => ⟨S4x6x2048, .f32⟩
  | 60 => ⟨S4x6x2048, .f32⟩
  | 61 => ⟨S4x6x2048, .f32⟩
  | 62 => ⟨S4x6x2048, .i1⟩
  | 63 => ⟨S4x6x2048, .i1⟩
  | 64 => ⟨S_, .f32⟩
  | 65 => ⟨S4x6x2048, .f32⟩
  | 66 => ⟨S_, .f32⟩
  | 67 => ⟨S4x6x2048, .f32⟩
  | 68 => ⟨S_, .f32⟩
  | 69 => ⟨S4x6x2048, .f32⟩
  | 70 => ⟨S4x6x2048, .f32⟩
  | 71 => ⟨S4x6x2048, .f32⟩
  | 72 => ⟨S4x6x2048, .f32⟩
  | 73 => ⟨S4x6x2048, .i1⟩
  | 74 => ⟨S4x6x2048, .i1⟩
  | 75 => ⟨S_, .f32⟩
  | 76 => ⟨S4x6x2048, .f32⟩
  | 77 => ⟨S_, .f32⟩
  | 78 => ⟨S4x6x2048, .f32⟩
  | 79 => ⟨S_, .f32⟩
  | 80 => ⟨S4x6x2048, .f32⟩
  | 81 => ⟨S4x6x2048, .f32⟩
  | 82 => ⟨S4x6x2048, .f32⟩
  | 83 => ⟨S4x6x2048, .i1⟩
  | 84 => ⟨S4x6x2048, .i1⟩
  | 85 => ⟨S_, .f32⟩
  | 86 => ⟨S4x6x2048, .f32⟩
  | 87 => ⟨S_, .f32⟩
  | 88 => ⟨S4x6x2048, .f32⟩
  | 89 => ⟨S_, .f32⟩
  | 90 => ⟨S4x6x2048, .f32⟩
  | 91 => ⟨S4x6x2048, .f32⟩
  | 92 => ⟨S4x6x2048, .f32⟩
  | 93 => ⟨S4x6x2048, .f32⟩
  | 94 => ⟨S4x6x2048, .f32⟩
  | 95 => ⟨S4x6x2048x1, .f32⟩
  | 96 => ⟨S4x6x2048x64, .f32⟩
  | 97 => ⟨S4x6x2048x64, .f32⟩
  | 98 => ⟨S_, .f32⟩
  | 99 => ⟨S4x6x2048x64, .f32⟩
  | 100 => ⟨S4x6x2048x64, .f32⟩
  | 101 => ⟨S4x6x2048, .f32⟩
  | 102 => ⟨S_, .f32⟩
  | 103 => ⟨S4x6x2048, .f32⟩
  | 104 => ⟨S4x6x2048, .f32⟩
  | 105 => ⟨S4x6x2048, .f32⟩
  | 106 => ⟨S4x6x2048, .f32⟩
  | 107 => ⟨S4x6x2048x1, .f32⟩
  | 108 => ⟨S4x6x2048x64, .f32⟩
  | 109 => ⟨S4x6x2048x64, .f32⟩
  | 110 => ⟨S4x6x2048x64, .f32⟩
  | 111 => ⟨S4x6x2048, .f32⟩
  | 112 => ⟨S4x6x2048, .f32⟩
  | 113 => ⟨S4x6x2048, .f32⟩
  | 114 => ⟨S4x6x2048, .f32⟩
  | 115 => ⟨S4x6x2048x1, .f32⟩
  | 116 => ⟨S4x6x2048x64, .f32⟩
  | 117 => ⟨S4x6x2048x64, .f32⟩
  | 118 => ⟨S4x6x2048x64, .f32⟩
  | 119 => ⟨S4x6x2048, .f32⟩
  | 120 => ⟨S4x6x2048, .f32⟩
  | 121 => ⟨S4x6x2048x1, .f32⟩
  | 122 => ⟨S4x6x2048x64, .f32⟩
  | 123 => ⟨S4x6x2048x64, .f32⟩
  | 124 => ⟨S4x6x2048x1, .f32⟩
  | 125 => ⟨S_, .f32⟩
  | 126 => ⟨S4x6x2048x1, .f32⟩
  | 127 => ⟨S4x6x2048x1, .f32⟩
  | _ => ⟨S4x2048x384, .f32⟩

abbrev hbmTy0_2 (i : Nat) : BufTy := match i % 128 with
  | 0 => ⟨S4x2048x6x64, .f32⟩
  | 1 => ⟨S4x2048x6, .f32⟩
  | 2 => ⟨S4x2048x6, .f32⟩
  | 3 => ⟨S4x2048x384, .f32⟩
  | 4 => ⟨S4x2048x6x64, .f32⟩
  | 5 => ⟨S4x6x2048x64, .f32⟩
  | 6 => ⟨S4x6x2048x64, .f32⟩
  | 7 => ⟨S4x6x2048x64, .f32⟩
  | 8 => ⟨S4x6x2048x64, .f32⟩
  | 9 => ⟨S_, .f32⟩
  | 10 => ⟨S4x6x2048, .f32⟩
  | 11 => ⟨S4x6x2048x1, .f32⟩
  | 12 => ⟨S4x6x2048x1, .f32⟩
  | 13 => ⟨S4x6x2048x64, .f32⟩
  | 14 => ⟨S4x6x2048x64, .f32⟩
  | 15 => ⟨S_, .f32⟩
  | 16 => ⟨S4x6x2048, .f32⟩
  | 17 => ⟨S4x6x2048, .f32⟩
  | 18 => ⟨S4x6x2048, .f32⟩
  | 19 => ⟨S4x6x2048x64, .f32⟩
  | 20 => ⟨S4x6x2048x64, .f32⟩
  | 21 => ⟨S4x6x2048x64, .f32⟩
  | 22 => ⟨S_, .f32⟩
  | 23 => ⟨S4x6x2048, .f32⟩
  | 24 => ⟨S4x6x2048x1, .f32⟩
  | 25 => ⟨S_, .f32⟩
  | 26 => ⟨S4x6x2048, .f32⟩
  | 27 => ⟨S4x6x2048, .f32⟩
  | 28 => ⟨S4x6x2048, .f32⟩
  | 29 => ⟨S4x6x2048, .f32⟩
  | 30 => ⟨S4x6x2048, .f32⟩
  | 31 => ⟨S4x6x2048, .f32⟩
  | 32 => ⟨S4x6x2048x64, .f32⟩
  | 33 => ⟨S4x6x2048x64, .f32⟩
  | 34 => ⟨S4x6x2048x64, .f32⟩
  | 35 => ⟨S_, .f32⟩
  | 36 => ⟨S4x6x2048, .f32⟩
  | 37 => ⟨S4x6x2048x1, .f32⟩
  | 38 => ⟨S_, .f32⟩
  | 39 => ⟨S4x6x2048, .f32⟩
  | 40 => ⟨S4x6x2048, .f32⟩
  | 41 => ⟨S4x6x2048, .f32⟩
  | 42 => ⟨S4x6x2048, .f32⟩
  | 43 => ⟨S4x6x2048, .f32⟩
  | 44 => ⟨S4x6x2048, .f32⟩
  | 45 => ⟨S4x6x2048, .f32⟩
  | 46 => ⟨S4x6x2048x64, .f32⟩
  | 47 => ⟨S4x6x2048x64, .f32⟩
  | 48 => ⟨S4x6x2048x64, .f32⟩
  | 49 => ⟨S_, .f32⟩
  | 50 => ⟨S4x6x2048, .f32⟩
  | 51 => ⟨S4x6x2048x1, .f32⟩
  | 52 => ⟨S_, .f32⟩
  | 53 => ⟨S4x6x2048, .f32⟩
  | 54 => ⟨S4x6x2048, .f32⟩
  | 55 => ⟨S4x6x2048, .f32⟩
  | 56 => ⟨S4x6x2048, .f32⟩
  | 57 => ⟨S4x6x2048, .f32⟩
  | 58 => ⟨S4x6x2048, .f32⟩
  | 59 => ⟨S4x6x2048, .f32⟩
  | 60 => ⟨S4x6x2048, .f32⟩
  | 61 => ⟨S4x6x2048, .f32⟩
  | 62 => ⟨S4x6x2048, .f32⟩
  | 63 => ⟨S4x6x2048, .f32⟩
  | 64 => ⟨S4x6x2048, .f32⟩
  | 65 => ⟨S4x6x2048x2048, .f32⟩
  | 66 => ⟨S4x6x64x2048, .f32⟩
  | 67 => ⟨S4x2048x6x64, .f32⟩
  | 68 => ⟨S4x6x2048x2048, .f32⟩
  | 69 => ⟨S4x6x2048x2048, .f32⟩
  | 70 => ⟨S4x6x2048x2048, .f32⟩
  | 71 => ⟨S4x6x2048x2048, .f32⟩
  | 72 => ⟨S_, .f32⟩
  | 73 => ⟨S4x6x2048, .f32⟩
  | 74 => ⟨S4x6x2048x1, .f32⟩
  | 75 => ⟨S_, .f32⟩
  | 76 => ⟨S4x6x2048, .f32⟩
  | 77 => ⟨S4x6x2048, .f32⟩
  | 78 => ⟨S4x6x2048, .f32⟩
  | 79 => ⟨S4x6x2048x2048, .f32⟩
  | 80 => ⟨S4x6x2048x2048, .f32⟩
  | 81 => ⟨S4x6x2048x2048, .f32⟩
  | 82 => ⟨S_, .f32⟩
  | 83 => ⟨S4x6x2048x2048, .f32⟩
  | 84 => ⟨S4x6x2048x2048, .f32⟩
  | 85 => ⟨S4x6x2048x2048, .f32⟩
  | 86 => ⟨S4x6x64x2048, .f32⟩
  | 87 => ⟨S4x2048x6x64, .f32⟩
  | 88 => ⟨S4x2048x6x64, .f32⟩
  | 89 => ⟨S4x6x2048x2048, .f32⟩
  | 90 => ⟨S4x6x2048x2048, .f32⟩
  | 91 => ⟨S4x6x2048x2048, .f32⟩
  | 92 => ⟨S4x6x2048x2048, .f32⟩
  | 93 => ⟨S_, .f32⟩
  | 94 => ⟨S4x6x2048, .f32⟩
  | 95 => ⟨S4x6x2048x1, .f32⟩
  | 96 => ⟨S_, .f32⟩
  | 97 => ⟨S4x6x2048, .f32⟩
  | 98 => ⟨S4x6x2048, .f32⟩
  | 99 => ⟨S4x6x2048, .f32⟩
  | 100 => ⟨S4x6x2048x2048, .f32⟩
  | 101 => ⟨S4x6x2048x2048, .f32⟩
  | 102 => ⟨S4x6x2048x2048, .f32⟩
  | 103 => ⟨S_, .f32⟩
  | 104 => ⟨S4x6x2048x2048, .f32⟩
  | 105 => ⟨S4x6x2048x2048, .f32⟩
  | 106 => ⟨S4x6x2048x2048, .f32⟩
  | 107 => ⟨S4x6x2048x2048, .f32⟩
  | 108 => ⟨S4x6x64x2048, .f32⟩
  | 109 => ⟨S4x2048x6x64, .f32⟩
  | 110 => ⟨S4x2048x6x64, .f32⟩
  | 111 => ⟨S4x6x2048x2048, .f32⟩
  | 112 => ⟨S4x6x2048x2048, .f32⟩
  | 113 => ⟨S4x6x2048x2048, .f32⟩
  | 114 => ⟨S4x6x2048x2048, .f32⟩
  | 115 => ⟨S_, .f32⟩
  | 116 => ⟨S4x6x2048, .f32⟩
  | 117 => ⟨S4x6x2048x1, .f32⟩
  | 118 => ⟨S_, .f32⟩
  | 119 => ⟨S4x6x2048, .f32⟩
  | 120 => ⟨S4x6x2048, .f32⟩
  | 121 => ⟨S4x6x2048, .f32⟩
  | 122 => ⟨S4x6x2048x2048, .f32⟩
  | 123 => ⟨S4x6x2048x2048, .f32⟩
  | 124 => ⟨S4x6x2048x2048, .f32⟩
  | 125 => ⟨S_, .f32⟩
  | 126 => ⟨S4x6x2048x2048, .f32⟩
  | 127 => ⟨S4x6x2048x2048, .f32⟩
  | _ => ⟨S4x2048x384, .f32⟩

abbrev hbmTy0_3 (i : Nat) : BufTy := match i % 128 with
  | 0 => ⟨S4x6x2048x2048, .f32⟩
  | 1 => ⟨S_, .f32⟩
  | 2 => ⟨S4x6x2048x2048, .f32⟩
  | 3 => ⟨S4x6x2048x2048, .f32⟩
  | 4 => ⟨S4x6x2048x64, .f32⟩
  | 5 => ⟨S4x2048x6x64, .f32⟩
  | 6 => ⟨S4x6x2048x64, .f32⟩
  | 7 => ⟨S4x2048x6x64, .f32⟩
  | 8 => ⟨S4x2048x384, .f32⟩
  | 9 => ⟨S4x2048x384, .f32⟩
  | 10 => ⟨S4x2048x384, .f32⟩
  | 11 => ⟨S8192x384, .f32⟩
  | 12 => ⟨S8192x384, .f32⟩
  | 13 => ⟨S8192x384, .bf16⟩
  | 14 => ⟨S8192x384, .f32⟩
  | 15 => ⟨S8192x384, .bf16⟩
  | _ => ⟨S4x2048x384, .f32⟩

abbrev hbmTy (i : Nat) : BufTy := match i / 128 with
  | 0 => hbmTy0_0 i
  | 1 => hbmTy0_1 i
  | 2 => hbmTy0_2 i
  | 3 => hbmTy0_3 i
  | _ => ⟨S4x2048x384, .f32⟩

abbrev bufTy : (tb : Table) → Fin (tcTables nBuf tb) → BufTy
  | .hbm, ⟨i, _⟩ => hbmTy i
  | _, _ => ⟨S4x2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_1 : Ref sig .tc := ⟨.hbm, 25, rfl⟩
abbrev main_call0_v5 : Ref sig .tc := ⟨.hbm, 26, rfl⟩
abbrev main_call0_v6 : Ref sig .tc := ⟨.hbm, 27, rfl⟩
abbrev main_call0_c_2 : Ref sig .tc := ⟨.hbm, 28, rfl⟩
abbrev main_call0_v7 : Ref sig .tc := ⟨.hbm, 29, rfl⟩
abbrev main_call0_v8 : Ref sig .tc := ⟨.hbm, 30, rfl⟩
abbrev main_call0_c_3 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_v11 : Ref sig .tc := ⟨.hbm, 38, rfl⟩
abbrev main_c_1 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_c_2 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_3 : Ref sig .tc := ⟨.hbm, 47, rfl⟩
abbrev main_call1_v0 : Ref sig .tc := ⟨.hbm, 48, rfl⟩
abbrev main_v18_1 : Ref sig .tc := ⟨.hbm, 49, rfl⟩
abbrev main_call1_v2 : Ref sig .tc := ⟨.hbm, 50, rfl⟩
abbrev main_v18_0 : Ref sig .tc := ⟨.hbm, 51, rfl⟩
abbrev main_call1_cst : Ref sig .tc := ⟨.hbm, 52, rfl⟩
abbrev main_v18_2 : Ref sig .tc := ⟨.hbm, 53, rfl⟩
abbrev main_cst_4 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_cst_5 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_cst_6 : Ref sig .tc := ⟨.hbm, 67, rfl⟩
abbrev main_v30 : Ref sig .tc := ⟨.hbm, 68, rfl⟩
abbrev main_c_7 : Ref sig .tc := ⟨.hbm, 69, rfl⟩
abbrev main_v31 : Ref sig .tc := ⟨.hbm, 70, rfl⟩
abbrev main_v32 : Ref sig .tc := ⟨.hbm, 71, rfl⟩
abbrev main_c_8 : Ref sig .tc := ⟨.hbm, 72, rfl⟩
abbrev main_call2_v0 : Ref sig .tc := ⟨.hbm, 73, rfl⟩
abbrev main_call2_c : Ref sig .tc := ⟨.hbm, 74, rfl⟩
abbrev main_call2_v1 : Ref sig .tc := ⟨.hbm, 75, rfl⟩
abbrev main_call2_c_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_c_1 : Ref sig .tc := ⟨.hbm, 80, rfl⟩
abbrev main_call2_v5 : Ref sig .tc := ⟨.hbm, 81, rfl⟩
abbrev main_call2_v6 : Ref sig .tc := ⟨.hbm, 82, rfl⟩
abbrev main_call2_c_2 : Ref sig .tc := ⟨.hbm, 83, rfl⟩
abbrev main_call2_v7 : Ref sig .tc := ⟨.hbm, 84, rfl⟩
abbrev main_call2_v8 : Ref sig .tc := ⟨.hbm, 85, rfl⟩
abbrev main_call2_c_3 : Ref sig .tc := ⟨.hbm, 86, rfl⟩
abbrev main_call2_v9 : Ref sig .tc := ⟨.hbm, 87, rfl⟩
abbrev main_call2_v10 : Ref sig .tc := ⟨.hbm, 88, rfl⟩
abbrev main_call2_v11 : Ref sig .tc := ⟨.hbm, 89, rfl⟩
abbrev main_call2_v12 : Ref sig .tc := ⟨.hbm, 90, rfl⟩
abbrev main_call2_v13 : Ref sig .tc := ⟨.hbm, 91, rfl⟩
abbrev main_call2_v14 : Ref sig .tc := ⟨.hbm, 92, rfl⟩
abbrev main_v33 : Ref sig .tc := ⟨.hbm, 93, rfl⟩
abbrev main_c_9 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_c_10 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_cst_11 : Ref sig .tc := ⟨.hbm, 102, rfl⟩
abbrev main_call3_v0 : Ref sig .tc := ⟨.hbm, 103, rfl⟩
abbrev main_v40_1 : Ref sig .tc := ⟨.hbm, 104, rfl⟩
abbrev main_call3_v2 : Ref sig .tc := ⟨.hbm, 105, rfl⟩
abbrev main_v40_0 : Ref sig .tc := ⟨.hbm, 106, rfl⟩
abbrev main_call3_cst : Ref sig .tc := ⟨.hbm, 107, rfl⟩
abbrev main_v40_2 : Ref sig .tc := ⟨.hbm, 108, rfl⟩
abbrev main_cst_12 : Ref sig .tc := ⟨.hbm, 109, rfl⟩
abbrev main_v41 : Ref sig .tc := ⟨.hbm, 110, rfl⟩
abbrev main_v42 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_cst_13 : Ref sig .tc := ⟨.hbm, 115, rfl⟩
abbrev main_v46 : Ref sig .tc := ⟨.hbm, 116, rfl⟩
abbrev main_v47 : Ref sig .tc := ⟨.hbm, 117, rfl⟩
abbrev main_v48 : Ref sig .tc := ⟨.hbm, 118, rfl⟩
abbrev main_v49 : Ref sig .tc := ⟨.hbm, 119, rfl⟩
abbrev main_v50 : Ref sig .tc := ⟨.hbm, 120, rfl⟩
abbrev main_v51 : Ref sig .tc := ⟨.hbm, 121, rfl⟩
abbrev main_cst_14 : Ref sig .tc := ⟨.hbm, 122, rfl⟩
abbrev main_v52 : Ref sig .tc := ⟨.hbm, 123, rfl⟩
abbrev main_c_15 : Ref sig .tc := ⟨.hbm, 124, rfl⟩
abbrev main_v53 : Ref sig .tc := ⟨.hbm, 125, rfl⟩
abbrev main_v54 : Ref sig .tc := ⟨.hbm, 126, rfl⟩
abbrev main_c_16 : Ref sig .tc := ⟨.hbm, 127, rfl⟩
abbrev main_call4_v0 : Ref sig .tc := ⟨.hbm, 128, rfl⟩
abbrev main_call4_c : Ref sig .tc := ⟨.hbm, 129, rfl⟩
abbrev main_call4_v1 : Ref sig .tc := ⟨.hbm, 130, rfl⟩
abbrev main_call4_c_0 : Ref sig .tc := ⟨.hbm, 131, rfl⟩
abbrev main_call4_v2 : Ref sig .tc := ⟨.hbm, 132, rfl⟩
abbrev main_call4_v3 : Ref sig .tc := ⟨.hbm, 133, rfl⟩
abbrev main_call4_v4 : Ref sig .tc := ⟨.hbm, 134, rfl⟩
abbrev main_call4_c_1 : Ref sig .tc := ⟨.hbm, 135, rfl⟩
abbrev main_call4_v5 : Ref sig .tc := ⟨.hbm, 136, rfl⟩
abbrev main_call4_v6 : Ref sig .tc := ⟨.hbm, 137, rfl⟩
abbrev main_call4_c_2 : Ref sig .tc := ⟨.hbm, 138, rfl⟩
abbrev main_call4_v7 : Ref sig .tc := ⟨.hbm, 139, rfl⟩
abbrev main_call4_v8 : Ref sig .tc := ⟨.hbm, 140, rfl⟩
abbrev main_call4_c_3 : Ref sig .tc := ⟨.hbm, 141, rfl⟩
abbrev main_call4_v9 : Ref sig .tc := ⟨.hbm, 142, rfl⟩
abbrev main_call4_v10 : Ref sig .tc := ⟨.hbm, 143, rfl⟩
abbrev main_call4_v11 : Ref sig .tc := ⟨.hbm, 144, rfl⟩
abbrev main_call4_v12 : Ref sig .tc := ⟨.hbm, 145, rfl⟩
abbrev main_call4_v13 : Ref sig .tc := ⟨.hbm, 146, rfl⟩
abbrev main_call4_v14 : Ref sig .tc := ⟨.hbm, 147, rfl⟩
abbrev main_v55 : Ref sig .tc := ⟨.hbm, 148, rfl⟩
abbrev main_c_17 : Ref sig .tc := ⟨.hbm, 149, rfl⟩
abbrev main_v56 : Ref sig .tc := ⟨.hbm, 150, rfl⟩
abbrev main_v57 : Ref sig .tc := ⟨.hbm, 151, rfl⟩
abbrev main_v58 : Ref sig .tc := ⟨.hbm, 152, rfl⟩
abbrev main_c_18 : Ref sig .tc := ⟨.hbm, 153, rfl⟩
abbrev main_v59 : Ref sig .tc := ⟨.hbm, 154, rfl⟩
abbrev main_v60 : Ref sig .tc := ⟨.hbm, 155, rfl⟩
abbrev main_v61 : Ref sig .tc := ⟨.hbm, 156, rfl⟩
abbrev main_cst_19 : Ref sig .tc := ⟨.hbm, 157, rfl⟩
abbrev main_call5_v0 : Ref sig .tc := ⟨.hbm, 158, rfl⟩
abbrev main_v62_1 : Ref sig .tc := ⟨.hbm, 159, rfl⟩
abbrev main_call5_v2 : Ref sig .tc := ⟨.hbm, 160, rfl⟩
abbrev main_v62_0 : Ref sig .tc := ⟨.hbm, 161, rfl⟩
abbrev main_call5_cst : Ref sig .tc := ⟨.hbm, 162, rfl⟩
abbrev main_v62_2 : Ref sig .tc := ⟨.hbm, 163, rfl⟩
abbrev main_cst_20 : Ref sig .tc := ⟨.hbm, 164, rfl⟩
abbrev main_v63 : Ref sig .tc := ⟨.hbm, 165, rfl⟩
abbrev main_v64 : Ref sig .tc := ⟨.hbm, 166, rfl⟩
abbrev main_v65 : Ref sig .tc := ⟨.hbm, 167, rfl⟩
abbrev main_v66 : Ref sig .tc := ⟨.hbm, 168, rfl⟩
abbrev main_v67 : Ref sig .tc := ⟨.hbm, 169, rfl⟩
abbrev main_cst_21 : Ref sig .tc := ⟨.hbm, 170, rfl⟩
abbrev main_v68 : Ref sig .tc := ⟨.hbm, 171, rfl⟩
abbrev main_v69 : Ref sig .tc := ⟨.hbm, 172, rfl⟩
abbrev main_v70 : Ref sig .tc := ⟨.hbm, 173, rfl⟩
abbrev main_v71 : Ref sig .tc := ⟨.hbm, 174, rfl⟩
abbrev main_v72 : Ref sig .tc := ⟨.hbm, 175, rfl⟩
abbrev main_v73 : Ref sig .tc := ⟨.hbm, 176, rfl⟩
abbrev main_cst_22 : Ref sig .tc := ⟨.hbm, 177, rfl⟩
abbrev main_v74 : Ref sig .tc := ⟨.hbm, 178, rfl⟩
abbrev main_v75 : Ref sig .tc := ⟨.hbm, 179, rfl⟩
abbrev main_v76 : Ref sig .tc := ⟨.hbm, 180, rfl⟩
abbrev main_v77 : Ref sig .tc := ⟨.hbm, 181, rfl⟩
abbrev main_cst_23 : Ref sig .tc := ⟨.hbm, 182, rfl⟩
abbrev main_v78 : Ref sig .tc := ⟨.hbm, 183, rfl⟩
abbrev main_cst_24 : Ref sig .tc := ⟨.hbm, 184, rfl⟩
abbrev main_v79 : Ref sig .tc := ⟨.hbm, 185, rfl⟩
abbrev main_cst_25 : Ref sig .tc := ⟨.hbm, 186, rfl⟩
abbrev main_v80 : Ref sig .tc := ⟨.hbm, 187, rfl⟩
abbrev main_v81 : Ref sig .tc := ⟨.hbm, 188, rfl⟩
abbrev main_v82 : Ref sig .tc := ⟨.hbm, 189, rfl⟩
abbrev main_v83 : Ref sig .tc := ⟨.hbm, 190, rfl⟩
abbrev main_v84 : Ref sig .tc := ⟨.hbm, 191, rfl⟩
abbrev main_cst_26 : Ref sig .tc := ⟨.hbm, 192, rfl⟩
abbrev main_v85 : Ref sig .tc := ⟨.hbm, 193, rfl⟩
abbrev main_cst_27 : Ref sig .tc := ⟨.hbm, 194, rfl⟩
abbrev main_v86 : Ref sig .tc := ⟨.hbm, 195, rfl⟩
abbrev main_cst_28 : Ref sig .tc := ⟨.hbm, 196, rfl⟩
abbrev main_v87 : Ref sig .tc := ⟨.hbm, 197, rfl⟩
abbrev main_v88 : Ref sig .tc := ⟨.hbm, 198, rfl⟩
abbrev main_v89 : Ref sig .tc := ⟨.hbm, 199, rfl⟩
abbrev main_v90 : Ref sig .tc := ⟨.hbm, 200, rfl⟩
abbrev main_v91 : Ref sig .tc := ⟨.hbm, 201, rfl⟩
abbrev main_v92 : Ref sig .tc := ⟨.hbm, 202, rfl⟩
abbrev main_cst_29 : Ref sig .tc := ⟨.hbm, 203, rfl⟩
abbrev main_v93 : Ref sig .tc := ⟨.hbm, 204, rfl⟩
abbrev main_cst_30 : Ref sig .tc := ⟨.hbm, 205, rfl⟩
abbrev main_v94 : Ref sig .tc := ⟨.hbm, 206, rfl⟩
abbrev main_cst_31 : Ref sig .tc := ⟨.hbm, 207, rfl⟩
abbrev main_v95 : Ref sig .tc := ⟨.hbm, 208, rfl⟩
abbrev main_v96 : Ref sig .tc := ⟨.hbm, 209, rfl⟩
abbrev main_v97 : Ref sig .tc := ⟨.hbm, 210, rfl⟩
abbrev main_v98 : Ref sig .tc := ⟨.hbm, 211, rfl⟩
abbrev main_v99 : Ref sig .tc := ⟨.hbm, 212, rfl⟩
abbrev main_cst_32 : Ref sig .tc := ⟨.hbm, 213, rfl⟩
abbrev main_v100 : Ref sig .tc := ⟨.hbm, 214, rfl⟩
abbrev main_cst_33 : Ref sig .tc := ⟨.hbm, 215, rfl⟩
abbrev main_v101 : Ref sig .tc := ⟨.hbm, 216, rfl⟩
abbrev main_cst_34 : Ref sig .tc := ⟨.hbm, 217, rfl⟩
abbrev main_v102 : Ref sig .tc := ⟨.hbm, 218, rfl⟩
abbrev main_v103 : Ref sig .tc := ⟨.hbm, 219, rfl⟩
abbrev main_v104 : Ref sig .tc := ⟨.hbm, 220, rfl⟩
abbrev main_v105 : Ref sig .tc := ⟨.hbm, 221, rfl⟩
abbrev main_v106 : Ref sig .tc := ⟨.hbm, 222, rfl⟩
abbrev main_v107 : Ref sig .tc := ⟨.hbm, 223, rfl⟩
abbrev main_v108 : Ref sig .tc := ⟨.hbm, 224, rfl⟩
abbrev main_v109 : Ref sig .tc := ⟨.hbm, 225, rfl⟩
abbrev main_cst_35 : Ref sig .tc := ⟨.hbm, 226, rfl⟩
abbrev main_v110 : Ref sig .tc := ⟨.hbm, 227, rfl⟩
abbrev main_v111 : Ref sig .tc := ⟨.hbm, 228, rfl⟩
abbrev main_v112 : Ref sig .tc := ⟨.hbm, 229, rfl⟩
abbrev main_cst_36 : Ref sig .tc := ⟨.hbm, 230, rfl⟩
abbrev main_v113 : Ref sig .tc := ⟨.hbm, 231, rfl⟩
abbrev main_v114 : Ref sig .tc := ⟨.hbm, 232, rfl⟩
abbrev main_v115 : Ref sig .tc := ⟨.hbm, 233, rfl⟩
abbrev main_v116 : Ref sig .tc := ⟨.hbm, 234, rfl⟩
abbrev main_v117 : Ref sig .tc := ⟨.hbm, 235, rfl⟩
abbrev main_v118 : Ref sig .tc := ⟨.hbm, 236, rfl⟩
abbrev main_v119 : Ref sig .tc := ⟨.hbm, 237, rfl⟩
abbrev main_v120 : Ref sig .tc := ⟨.hbm, 238, rfl⟩
abbrev main_v121 : Ref sig .tc := ⟨.hbm, 239, rfl⟩
abbrev main_v122 : Ref sig .tc := ⟨.hbm, 240, rfl⟩
abbrev main_v123 : Ref sig .tc := ⟨.hbm, 241, rfl⟩
abbrev main_v124 : Ref sig .tc := ⟨.hbm, 242, rfl⟩
abbrev main_v125 : Ref sig .tc := ⟨.hbm, 243, rfl⟩
abbrev main_v126 : Ref sig .tc := ⟨.hbm, 244, rfl⟩
abbrev main_v127 : Ref sig .tc := ⟨.hbm, 245, rfl⟩
abbrev main_v128 : Ref sig .tc := ⟨.hbm, 246, rfl⟩
abbrev main_v129 : Ref sig .tc := ⟨.hbm, 247, rfl⟩
abbrev main_v130 : Ref sig .tc := ⟨.hbm, 248, rfl⟩
abbrev main_v131 : Ref sig .tc := ⟨.hbm, 249, rfl⟩
abbrev main_v132 : Ref sig .tc := ⟨.hbm, 250, rfl⟩
abbrev main_v133 : Ref sig .tc := ⟨.hbm, 251, rfl⟩
abbrev main_v134 : Ref sig .tc := ⟨.hbm, 252, rfl⟩
abbrev main_cst_37 : Ref sig .tc := ⟨.hbm, 253, rfl⟩
abbrev main_v135 : Ref sig .tc := ⟨.hbm, 254, rfl⟩
abbrev main_v136 : Ref sig .tc := ⟨.hbm, 255, rfl⟩
abbrev main_v137 : Ref sig .tc := ⟨.hbm, 256, rfl⟩
abbrev main_v138 : Ref sig .tc := ⟨.hbm, 257, rfl⟩
abbrev main_v139 : Ref sig .tc := ⟨.hbm, 258, rfl⟩
abbrev main_v140 : Ref sig .tc := ⟨.hbm, 259, rfl⟩
abbrev main_v141 : Ref sig .tc := ⟨.hbm, 260, rfl⟩
abbrev main_v142 : Ref sig .tc := ⟨.hbm, 261, rfl⟩
abbrev main_v143 : Ref sig .tc := ⟨.hbm, 262, rfl⟩
abbrev main_v144 : Ref sig .tc := ⟨.hbm, 263, rfl⟩
abbrev main_v145 : Ref sig .tc := ⟨.hbm, 264, rfl⟩
abbrev main_cst_38 : Ref sig .tc := ⟨.hbm, 265, rfl⟩
abbrev main_v146 : Ref sig .tc := ⟨.hbm, 266, rfl⟩
abbrev main_v147 : Ref sig .tc := ⟨.hbm, 267, rfl⟩
abbrev main_v148 : Ref sig .tc := ⟨.hbm, 268, rfl⟩
abbrev main_v149 : Ref sig .tc := ⟨.hbm, 269, rfl⟩
abbrev main_v150 : Ref sig .tc := ⟨.hbm, 270, rfl⟩
abbrev main_cst_39 : Ref sig .tc := ⟨.hbm, 271, rfl⟩
abbrev main_v151 : Ref sig .tc := ⟨.hbm, 272, rfl⟩
abbrev main_v152 : Ref sig .tc := ⟨.hbm, 273, rfl⟩
abbrev main_v153 : Ref sig .tc := ⟨.hbm, 274, rfl⟩
abbrev main_v154 : Ref sig .tc := ⟨.hbm, 275, rfl⟩
abbrev main_v155 : Ref sig .tc := ⟨.hbm, 276, rfl⟩
abbrev main_v156 : Ref sig .tc := ⟨.hbm, 277, rfl⟩
abbrev main_cst_40 : Ref sig .tc := ⟨.hbm, 278, rfl⟩
abbrev main_v157 : Ref sig .tc := ⟨.hbm, 279, rfl⟩
abbrev main_v158 : Ref sig .tc := ⟨.hbm, 280, rfl⟩
abbrev main_cst_41 : Ref sig .tc := ⟨.hbm, 281, rfl⟩
abbrev main_v159 : Ref sig .tc := ⟨.hbm, 282, rfl⟩
abbrev main_v160 : Ref sig .tc := ⟨.hbm, 283, rfl⟩
abbrev main_v161 : Ref sig .tc := ⟨.hbm, 284, rfl⟩
abbrev main_v162 : Ref sig .tc := ⟨.hbm, 285, rfl⟩
abbrev main_v163 : Ref sig .tc := ⟨.hbm, 286, rfl⟩
abbrev main_v164 : Ref sig .tc := ⟨.hbm, 287, rfl⟩
abbrev main_v165 : Ref sig .tc := ⟨.hbm, 288, rfl⟩
abbrev main_v166 : Ref sig .tc := ⟨.hbm, 289, rfl⟩
abbrev main_v167 : Ref sig .tc := ⟨.hbm, 290, rfl⟩
abbrev main_cst_42 : Ref sig .tc := ⟨.hbm, 291, rfl⟩
abbrev main_v168 : Ref sig .tc := ⟨.hbm, 292, rfl⟩
abbrev main_v169 : Ref sig .tc := ⟨.hbm, 293, rfl⟩
abbrev main_cst_43 : Ref sig .tc := ⟨.hbm, 294, rfl⟩
abbrev main_v170 : Ref sig .tc := ⟨.hbm, 295, rfl⟩
abbrev main_v171 : Ref sig .tc := ⟨.hbm, 296, rfl⟩
abbrev main_v172 : Ref sig .tc := ⟨.hbm, 297, rfl⟩
abbrev main_v173 : Ref sig .tc := ⟨.hbm, 298, rfl⟩
abbrev main_v174 : Ref sig .tc := ⟨.hbm, 299, rfl⟩
abbrev main_v175 : Ref sig .tc := ⟨.hbm, 300, rfl⟩
abbrev main_v176 : Ref sig .tc := ⟨.hbm, 301, rfl⟩
abbrev main_v177 : Ref sig .tc := ⟨.hbm, 302, rfl⟩
abbrev main_v178 : Ref sig .tc := ⟨.hbm, 303, rfl⟩
abbrev main_v179 : Ref sig .tc := ⟨.hbm, 304, rfl⟩
abbrev main_cst_44 : Ref sig .tc := ⟨.hbm, 305, rfl⟩
abbrev main_v180 : Ref sig .tc := ⟨.hbm, 306, rfl⟩
abbrev main_v181 : Ref sig .tc := ⟨.hbm, 307, rfl⟩
abbrev main_cst_45 : Ref sig .tc := ⟨.hbm, 308, rfl⟩
abbrev main_v182 : Ref sig .tc := ⟨.hbm, 309, rfl⟩
abbrev main_v183 : Ref sig .tc := ⟨.hbm, 310, rfl⟩
abbrev main_v184 : Ref sig .tc := ⟨.hbm, 311, rfl⟩
abbrev main_v185 : Ref sig .tc := ⟨.hbm, 312, rfl⟩
abbrev main_v186 : Ref sig .tc := ⟨.hbm, 313, rfl⟩
abbrev main_v187 : Ref sig .tc := ⟨.hbm, 314, rfl⟩
abbrev main_v188 : Ref sig .tc := ⟨.hbm, 315, rfl⟩
abbrev main_v189 : Ref sig .tc := ⟨.hbm, 316, rfl⟩
abbrev main_v190 : Ref sig .tc := ⟨.hbm, 317, rfl⟩
abbrev main_v191 : Ref sig .tc := ⟨.hbm, 318, rfl⟩
abbrev main_v192 : Ref sig .tc := ⟨.hbm, 319, rfl⟩
abbrev main_v193 : Ref sig .tc := ⟨.hbm, 320, rfl⟩
abbrev main_v194 : Ref sig .tc := ⟨.hbm, 321, rfl⟩
abbrev main_v195 : Ref sig .tc := ⟨.hbm, 322, rfl⟩
abbrev main_v196 : Ref sig .tc := ⟨.hbm, 323, rfl⟩
abbrev main_v197 : Ref sig .tc := ⟨.hbm, 324, rfl⟩
abbrev main_v198 : Ref sig .tc := ⟨.hbm, 325, rfl⟩
abbrev main_v199 : Ref sig .tc := ⟨.hbm, 326, rfl⟩
abbrev main_v200 : Ref sig .tc := ⟨.hbm, 327, rfl⟩
abbrev main_cst_46 : Ref sig .tc := ⟨.hbm, 328, rfl⟩
abbrev main_v201 : Ref sig .tc := ⟨.hbm, 329, rfl⟩
abbrev main_v202 : Ref sig .tc := ⟨.hbm, 330, rfl⟩
abbrev main_cst_47 : Ref sig .tc := ⟨.hbm, 331, rfl⟩
abbrev main_v203 : Ref sig .tc := ⟨.hbm, 332, rfl⟩
abbrev main_v204 : Ref sig .tc := ⟨.hbm, 333, rfl⟩
abbrev main_v205 : Ref sig .tc := ⟨.hbm, 334, rfl⟩
abbrev main_v206 : Ref sig .tc := ⟨.hbm, 335, rfl⟩
abbrev main_v207 : Ref sig .tc := ⟨.hbm, 336, rfl⟩
abbrev main_v208 : Ref sig .tc := ⟨.hbm, 337, rfl⟩
abbrev main_call6_cst : Ref sig .tc := ⟨.hbm, 338, rfl⟩
abbrev main_call6_v0 : Ref sig .tc := ⟨.hbm, 339, rfl⟩
abbrev main_v209 : Ref sig .tc := ⟨.hbm, 340, rfl⟩
abbrev main_v210 : Ref sig .tc := ⟨.hbm, 341, rfl⟩
abbrev main_v211 : Ref sig .tc := ⟨.hbm, 342, rfl⟩
abbrev main_v212 : Ref sig .tc := ⟨.hbm, 343, rfl⟩
abbrev main_v213 : Ref sig .tc := ⟨.hbm, 344, rfl⟩
abbrev main_v214 : Ref sig .tc := ⟨.hbm, 345, rfl⟩
abbrev main_v215 : Ref sig .tc := ⟨.hbm, 346, rfl⟩
abbrev main_v216 : Ref sig .tc := ⟨.hbm, 347, rfl⟩
abbrev main_v217 : Ref sig .tc := ⟨.hbm, 348, rfl⟩
abbrev main_cst_48 : Ref sig .tc := ⟨.hbm, 349, rfl⟩
abbrev main_v218 : Ref sig .tc := ⟨.hbm, 350, rfl⟩
abbrev main_v219 : Ref sig .tc := ⟨.hbm, 351, rfl⟩
abbrev main_cst_49 : Ref sig .tc := ⟨.hbm, 352, rfl⟩
abbrev main_v220 : Ref sig .tc := ⟨.hbm, 353, rfl⟩
abbrev main_v221 : Ref sig .tc := ⟨.hbm, 354, rfl⟩
abbrev main_v222 : Ref sig .tc := ⟨.hbm, 355, rfl⟩
abbrev main_v223 : Ref sig .tc := ⟨.hbm, 356, rfl⟩
abbrev main_v224 : Ref sig .tc := ⟨.hbm, 357, rfl⟩
abbrev main_v225 : Ref sig .tc := ⟨.hbm, 358, rfl⟩
abbrev main_call7_cst : Ref sig .tc := ⟨.hbm, 359, rfl⟩
abbrev main_call7_v0 : Ref sig .tc := ⟨.hbm, 360, rfl⟩
abbrev main_v226 : Ref sig .tc := ⟨.hbm, 361, rfl⟩
abbrev main_v227 : Ref sig .tc := ⟨.hbm, 362, rfl⟩
abbrev main_v228 : Ref sig .tc := ⟨.hbm, 363, rfl⟩
abbrev main_v229 : Ref sig .tc := ⟨.hbm, 364, rfl⟩
abbrev main_v230 : Ref sig .tc := ⟨.hbm, 365, rfl⟩
abbrev main_v231 : Ref sig .tc := ⟨.hbm, 366, rfl⟩
abbrev main_v232 : Ref sig .tc := ⟨.hbm, 367, rfl⟩
abbrev main_v233 : Ref sig .tc := ⟨.hbm, 368, rfl⟩
abbrev main_v234 : Ref sig .tc := ⟨.hbm, 369, rfl⟩
abbrev main_v235 : Ref sig .tc := ⟨.hbm, 370, rfl⟩
abbrev main_cst_50 : Ref sig .tc := ⟨.hbm, 371, rfl⟩
abbrev main_v236 : Ref sig .tc := ⟨.hbm, 372, rfl⟩
abbrev main_v237 : Ref sig .tc := ⟨.hbm, 373, rfl⟩
abbrev main_cst_51 : Ref sig .tc := ⟨.hbm, 374, rfl⟩
abbrev main_v238 : Ref sig .tc := ⟨.hbm, 375, rfl⟩
abbrev main_v239 : Ref sig .tc := ⟨.hbm, 376, rfl⟩
abbrev main_v240 : Ref sig .tc := ⟨.hbm, 377, rfl⟩
abbrev main_v241 : Ref sig .tc := ⟨.hbm, 378, rfl⟩
abbrev main_v242 : Ref sig .tc := ⟨.hbm, 379, rfl⟩
abbrev main_v243 : Ref sig .tc := ⟨.hbm, 380, rfl⟩
abbrev main_call8_cst : Ref sig .tc := ⟨.hbm, 381, rfl⟩
abbrev main_call8_v0 : Ref sig .tc := ⟨.hbm, 382, rfl⟩
abbrev main_v244 : Ref sig .tc := ⟨.hbm, 383, rfl⟩
abbrev main_v245 : Ref sig .tc := ⟨.hbm, 384, rfl⟩
abbrev main_cst_52 : Ref sig .tc := ⟨.hbm, 385, rfl⟩
abbrev main_v246 : Ref sig .tc := ⟨.hbm, 386, rfl⟩
abbrev main_v247 : Ref sig .tc := ⟨.hbm, 387, rfl⟩
abbrev main_v248 : Ref sig .tc := ⟨.hbm, 388, rfl⟩
abbrev main_v249 : Ref sig .tc := ⟨.hbm, 389, rfl⟩
abbrev main_v250 : Ref sig .tc := ⟨.hbm, 390, rfl⟩
abbrev main_v251 : Ref sig .tc := ⟨.hbm, 391, rfl⟩
abbrev main_v252 : Ref sig .tc := ⟨.hbm, 392, rfl⟩
abbrev main_v253 : Ref sig .tc := ⟨.hbm, 393, rfl⟩
abbrev main_v254 : Ref sig .tc := ⟨.hbm, 394, rfl⟩
abbrev main_v255 : Ref sig .tc := ⟨.hbm, 395, rfl⟩
abbrev main_v256 : Ref sig .tc := ⟨.hbm, 396, rfl⟩
abbrev main_v257 : Ref sig .tc := ⟨.hbm, 397, rfl⟩
abbrev main_v258 : Ref sig .tc := ⟨.hbm, 398, rfl⟩
abbrev main_v259 : Ref sig .tc := ⟨.hbm, 399, rfl⟩

abbrev nD : Nat := 1
abbrev τ : Topo := Topo.v7x

variable {F : FTy → Type} [FloatOps F]
-- ==== Proof.Lift.lean ====
/- Arithmetic on reals inside the extended reals: what the exact operations give on coerced reals, and how a
   finiteness precondition hands out the reals. Shared by every pair of this certificate. -/
module

public import Idealize.ShloMosaic.PureOps.Ideal.Laws
public import Idealize.ShloMosaic.Lib.IdealHost
public import Idealize.ShloMosaic.Lib.ReduceAll
public import Mathlib.Tactic.FieldSimp
public import Mathlib.Tactic.Ring
public import Mathlib.Tactic.Linarith
public import Mathlib.Tactic.Positivity
public import Mathlib.Tactic.NormNum

@[expose] public section

noncomputable section

open Idealize.ShloMosaic
open scoped BigOperators

namespace Cert.Lift

/-- A sum of coerced reals is the coerced sum. -/
theorem sum_coe {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- Division of reals by a nonzero real. -/
theorem div_real (a : ℝ) {b : ℝ} (hb : b ≠ 0) : Ideal.div (a : EReal) (b : EReal) = ((a / b : ℝ) : EReal) := by
  rw [Ideal.div_coe hb, ← EReal.coe_mul]; congr 1; ring

/-- The reciprocal square root of a positive real. -/
theorem rsqrt_real {a : ℝ} (ha : 0 < a) : Ideal.rsqrt (a : EReal) = (((Real.sqrt a)⁻¹ : ℝ) : EReal) := by
  rw [Ideal.rsqrt_coe, if_neg (not_lt.2 ha.le), if_neg ha.ne']

/-- An extended real below infinity in absolute value is a real. -/
theorem real_of_abs_lt_top {a : EReal} (h : max a (-a) < ⊤) : a = ((a.toReal : ℝ) : EReal) := by
  refine (EReal.coe_toReal ?_ ?_).symm
  · rintro rfl; simp at h
  · rintro rfl; simp at h

/-- The bit pattern of infinity. -/
theorem bits_inf : Ideal.ofBits .f32 0x7F800000#32 = ⊤ := by simp [Ideal.ofBits, Ideal.ieee]
theorem bits_1024 : Ideal.ofBits .f32 0x44800000#32 = ((1024 : ℝ) : EReal) := by
  simp [Ideal.ofBits, Ideal.ieee, -EReal.coe_mul]; norm_num
theorem bits_half : Ideal.ofBits .f32 0x3F000000#32 = ((1 / 2 : ℝ) : EReal) := by
  simp [Ideal.ofBits, Ideal.ieee, -EReal.coe_mul]; norm_num
theorem bits_neg_half : Ideal.ofBits .f32 0xBF000000#32 = ((-(1 / 2) : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_inv1024 : Ideal.ofBits .f32 0x3A800000#32 = ((1 / 1024 : ℝ) : EReal) := by
  simp [Ideal.ofBits, Ideal.ieee, -EReal.coe_mul]; norm_num

/-- The norm's epsilon, the single-precision number nearest to a millionth. -/
def eps : ℝ := 8796093 * 2 ^ (-43 : ℤ)
theorem eps_pos : 0 < eps := by unfold eps; positivity
theorem bits_eps : Ideal.ofBits .f32 0x358637BD#32 = ((eps : ℝ) : EReal) := by
  simp [Ideal.ofBits, Ideal.ieee, eps, -EReal.coe_mul]

/-- One conjunct of a finiteness precondition, read back: every element of the array is a real. -/
theorem finite_of_all {s : Shape} {axes : List (Fin s.rank)} {t : Shape} [Subsingleton t.Idx] (x : FVec Ideal s .f32)
    (b : (⟨0, ![]⟩ : Shape).BroadcastsInDim s (![] : Fin 0 → Fin s.rank))
    (c : FVec Ideal ⟨0, ![]⟩ .f32) (hc : ∀ i, c i = ⊤) (init : t.Idx → BitVec 1) (h : s.ReducesTo axes t) (ht : 0 < t.numel) (j : t.Idx)
    (e : Host.reduce IntOp.andi (cmpf .olt (Host.absf x) (broadcastInDim s ![] b c)) init h ht j = 1#1) (i : s.Idx) :
    x i = (((x i).toReal : ℝ) : EReal) := by
  refine real_of_abs_lt_top ?_
  have h1 : Ideal.cmp .olt (max (x i) (-x i)) (broadcastInDim s ![] b c i) = 1#1 := Host.reduce_andi_all _ _ _ _ j e i
  have h2 : broadcastInDim s ![] b c i = (⊤ : EReal) := hc _
  rw [h2] at h1
  by_contra hn
  simp [Ideal.cmp, hn] at h1

end Cert.Lift

end
-- ==== Proof.Rms.lean ====
/- The root-mean-square norm of one row over the reals, and its gradient in the two forms met here: as the chain rule
   writes it, and with the row's projection taken out in one step. -/
module

public import proofs.«01_k».proof.Proof.Lift

@[expose] public section

noncomputable section

open scoped BigOperators

namespace Cert.Rms

variable {ι : Type} [Fintype ι]

/-- Mean square plus epsilon of a row of `N` entries. -/
def var (N : ℝ) (x : ι → ℝ) : ℝ := (∑ k, x k * x k) / N + Cert.Lift.eps
/-- The reciprocal root mean square of the row. -/
def inv (N : ℝ) (x : ι → ℝ) : ℝ := (Real.sqrt (var N x))⁻¹

theorem var_pos {N : ℝ} (hN : 0 < N) (x : ι → ℝ) : 0 < var N x :=
  add_pos_of_nonneg_of_pos (div_nonneg (Finset.sum_nonneg fun k _ => mul_self_nonneg (x k)) hN.le) Cert.Lift.eps_pos

theorem var_ne {N : ℝ} (hN : 0 < N) (x : ι → ℝ) : var N x ≠ 0 := (var_pos hN x).ne'

theorem inv_sq {N : ℝ} (hN : 0 < N) (x : ι → ℝ) : inv N x * inv N x * var N x = 1 := by
  have h := var_pos hN x
  have hs : Real.sqrt (var N x) * Real.sqrt (var N x) = var N x := Real.mul_self_sqrt h.le
  have hp : Real.sqrt (var N x) ≠ 0 := (Real.sqrt_pos.2 h).ne'
  unfold inv
  field_simp
  rw [pow_two, hs]

/-- The reciprocal root read at the extended reals. -/
theorem rsqrt_var {N : ℝ} (hN : 0 < N) (x : ι → ℝ) :
    Idealize.ShloMosaic.Ideal.rsqrt ((var N x : ℝ) : EReal) = ((inv N x : ℝ) : EReal) :=
  Cert.Lift.rsqrt_real (var_pos hN x)

/-- The same, the mean square written out. -/
theorem rsqrt_raw {N : ℝ} (hN : 0 < N) (x : ι → ℝ) :
    Idealize.ShloMosaic.Ideal.rsqrt (((∑ k, x k * x k) / N + Cert.Lift.eps : ℝ) : EReal) = ((inv N x : ℝ) : EReal) :=
  rsqrt_var hN x

/-- The gradient of `x * inv x` against the cotangent `h`, its projection on the normalised row taken out. -/
def back (N : ℝ) (x h : ι → ℝ) (d : ι) : ℝ :=
  inv N x * (h d - x d * inv N x * ((∑ k, h k * (x k * inv N x)) / N))

/-- The chain rule's form of the same gradient. -/
theorem chain_eq_back {N : ℝ} (hN : 0 < N) (x h : ι → ℝ) (d : ι) :
    h d * inv N x + x d * ((∑ k, x k * h k) * (-(1 / 2) * (inv N x / var N x)) / N)
        + (∑ k, x k * h k) * (-(1 / 2) * (inv N x / var N x)) / N * x d
      = back N x h d := by
  have hv := var_ne hN x
  have h1 : inv N x / var N x = inv N x * (inv N x * inv N x) := by
    rw [div_eq_iff hv, mul_assoc, inv_sq hN x, mul_one]
  have h2 : (∑ k, h k * (x k * inv N x)) = (∑ k, x k * h k) * inv N x := by
    rw [Finset.sum_mul]; exact Finset.sum_congr rfl fun k _ => by ring
  rw [back, h1, h2]
  ring

end Cert.Rms

end
-- ==== Proof.Sums.lean ====
/- Sums of a rank-3 array over its two leading axes, as the sum over both coordinates. -/
module

public import Idealize.ShloMosaic.Lib.Pointwise
public import Idealize.ShloMosaic.Lib.IdealHost

@[expose] public section

noncomputable section

open Idealize.ShloMosaic Idealize.ShloMosaic.TcCoe
open scoped BigOperators

namespace Cert.Sums

variable {n0 n1 n2 : ℕ}

/-- The indices over `d` of a sum along the two leading axes. -/
theorem drop_lead (h : (⟨3, ![n0, n1, n2]⟩ : Shape).ReducesTo [0, 1] ⟨1, ![n2]⟩) (d : Fin n2)
    (i : (⟨3, ![n0, n1, n2]⟩ : Shape).Idx) : h.drop i = ix1 d ↔ ∃ k : Fin n0 × Fin n1, ix3 k.1 k.2 d = i := by
  have hd : ∀ i : (⟨3, ![n0, n1, n2]⟩ : Shape).Idx, (h.drop i 0).val = (i 2).val := fun i => rfl
  refine ⟨fun e => ⟨(i 0, i 1), ?_⟩, ?_⟩
  · have e2 : (i 2).val = d.val := (hd i).symm.trans (congrArg Fin.val (congrFun e 0))
    funext a
    match a with
    | ⟨0, _⟩ => rfl
    | ⟨1, _⟩ => rfl
    | ⟨2, _⟩ => exact Fin.ext e2.symm
  · rintro ⟨k, rfl⟩
    funext b
    match b with
    | ⟨0, _⟩ => exact Fin.ext (hd _)

/-- The host's float sum over the two leading axes. -/
theorem hostReduceAdd_lead (h : (⟨3, ![n0, n1, n2]⟩ : Shape).ReducesTo [0, 1] ⟨1, ![n2]⟩)
    (v : (⟨3, ![n0, n1, n2]⟩ : Shape).Idx → EReal) (z : EReal) (d : Fin n2) :
    Ideal.hostReduceAdd h v z (ix1 d) = z + ∑ a : Fin n0, ∑ b : Fin n1, v (ix3 a b d) := by
  refine congrArg (z + ·) ((Finset.sum_filter_eq_sum_of_fiber _ (fun k : Fin n0 × Fin n1 => ix3 k.1 k.2 d)
    (fun _ _ e => Prod.ext (congrFun e 0) (congrFun e 1)) (drop_lead h d) v).trans ?_)
  rw [Fintype.sum_prod_type]

/-- Blocks of `B` consecutive numbers, one after the other, are the numbers below `A * B`. -/
theorem sum_blocks {M : Type} [AddCommMonoid M] (A B : ℕ) (F : ℕ → M) :
    ∑ p : Fin A, ∑ r : Fin B, F (p.val * B + r.val) = ∑ n ∈ Finset.range (A * B), F n := by
  induction A with
  | zero => simp
  | succ A ih =>
    rw [Fin.sum_univ_castSucc, Nat.succ_mul, Finset.sum_range_add, ← ih]
    refine congrArg₂ (· + ·) rfl ?_
    exact (Finset.sum_range fun r => F (A * B + r)).symm

/-- Numbers below `A * B` counted in blocks of `B`, and the same in `A'` blocks of `B'`: a function of the two
    coordinates of the second kind. -/
theorem sum_reblock {M : Type} [AddCommMonoid M] {A B A' B' : ℕ} (e : A * B = A' * B') (hB' : 0 < B')
    (f : Fin A' → Fin B' → M) (q : Fin A → Fin B → Fin A') (o : Fin A → Fin B → Fin B')
    (hq : ∀ p r, (q p r).val = (p.val * B + r.val) / B') (ho : ∀ p r, (o p r).val = (p.val * B + r.val) % B') :
    ∑ p : Fin A, ∑ r : Fin B, f (q p r) (o p r) = ∑ a : Fin A', ∑ b : Fin B', f a b := by
  let F : ℕ → M := fun n => if h : n / B' < A' then f ⟨n / B', h⟩ ⟨n % B', Nat.mod_lt _ hB'⟩ else 0
  have h1 : ∀ p r, f (q p r) (o p r) = F (p.val * B + r.val) := by
    intro p r
    have hlt : (p.val * B + r.val) / B' < A' := by rw [← hq p r]; exact (q p r).isLt
    show _ = dite _ _ _
    rw [dif_pos hlt]
    exact congrArg₂ f (Fin.ext (hq p r)) (Fin.ext (ho p r))
  have h2 : ∀ a b, f a b = F (a.val * B' + b.val) := by
    intro a b
    have e1 : (a.val * B' + b.val) / B' = a.val := by
      rw [Nat.mul_comm, Nat.mul_add_div hB', Nat.div_eq_of_lt b.isLt, Nat.add_zero]
    have e2 : (a.val * B' + b.val) % B' = b.val := by
      rw [Nat.mul_comm, Nat.mul_add_mod, Nat.mod_eq_of_lt b.isLt]
    have hlt : (a.val * B' + b.val) / B' < A' := by rw [e1]; exact a.isLt
    show _ = dite _ _ _
    rw [dif_pos hlt]
    exact congrArg₂ f (Fin.ext e1.symm) (Fin.ext e2.symm)
  simp only [h1, h2]
  rw [sum_blocks, sum_blocks, e]

end Cert.Sums

end
-- ==== Proof.LossRef.lean ====
/- The loss pair's reference, read element by element: on real arguments its three results are the real numbers
   `dx`, `loss` and `dg` below. -/
module

public import proofs.«01_k».proof.Proof.Rms
public import proofs.«01_k».proof.Proof.Sums
public import proofs.«01_k».proof.Proof.Gen.LossReferenceIdeal
public import proofs.«01_k».proof.Proof.Gen.LossReferenceIdeal.Read
public import Idealize.ShloMosaic.Lib.Pointwise
public import Idealize.ShloMosaic.Lib.IdealHost

@[expose] public section

set_option maxRecDepth 16384

noncomputable section

open Idealize.ShloMosaic Idealize.ShloMosaic.TcCoe Idealize.SL.Sem
open scoped BigOperators

namespace Cert.LossReal

/-- How far a row's normalised entry is from its target. -/
def err (x g t : Fin 1024 → ℝ) (d : Fin 1024) : ℝ := x d * Rms.inv 1024 x * g d - t d
/-- The cotangent that reaches the normalised entry. -/
def cot (x g t : Fin 1024 → ℝ) (d : Fin 1024) : ℝ := err x g t d * (1 / 1024)

end Cert.LossReal

namespace Cert.LossReferenceIdeal.Real

open Cert.LossReferenceIdeal Cert.LossReferenceIdeal.Gen Cert.LossReferenceIdeal.Read Cert.LossReal Cert.Lift

variable (X : FVec Ideal S4x2048x1024 .f32) (G : FVec Ideal S1024 .f32) (Y : FVec Ideal S4x2048x1024 .f32)
  (x : Fin 4 → Fin 2048 → Fin 1024 → ℝ) (g : Fin 1024 → ℝ) (y : Fin 4 → Fin 2048 → Fin 1024 → ℝ)
  (hX : ∀ a b d, X (ix3 a b d) = ((x a b d : ℝ) : EReal)) (hG : ∀ d, G (ix1 d) = ((g d : ℝ) : EReal))
  (hY : ∀ a b d, Y (ix3 a b d) = ((y a b d : ℝ) : EReal))
include hX

theorem v6_at (a : Fin 4) (b : Fin 2048) : val_main_v6 (F := Ideal) X (ix3 a b 0) = ((Rms.var 1024 (x a b) : ℝ) : EReal) := by
  pointwise [val_main_v6, val_main_v5, val_main_v4, val_main_v3, val_main_v2, val_main_v1, val_main_v0, val_main_cst_1, val_main_cst_0, val_main_cst]
  simp only [hX, bits_1024, bits_eps, ← EReal.coe_mul, sum_coe, zero_add]
  rw [div_real _ (by norm_num), ← EReal.coe_add]; rfl

theorem v7_at (a : Fin 4) (b : Fin 2048) : val_main_v7 (F := Ideal) X (ix3 a b 0) = ((Rms.inv 1024 (x a b) : ℝ) : EReal) := by
  pointwise [val_main_v7, v6_at X x hX]
  rw [Rms.rsqrt_var (by norm_num)]

theorem v10_at (a : Fin 4) (b : Fin 2048) : val_main_v10 (F := Ideal) X (ix3 a b 0)
    = ((-(1 / 2) * (Rms.inv 1024 (x a b) / Rms.var 1024 (x a b)) : ℝ) : EReal) := by
  pointwise [val_main_v10, val_main_v9, val_main_v8, val_main_cst_2, v6_at X x hX, v7_at X x hX]
  rw [div_real _ (Rms.var_ne (by norm_num) _), bits_neg_half, ← EReal.coe_mul]

theorem v10_any (a : Fin 4) (b : Fin 2048) (z : Fin 1) : val_main_v10 (F := Ideal) X (ix3 a b z)
    = ((-(1 / 2) * (Rms.inv 1024 (x a b) / Rms.var 1024 (x a b)) : ℝ) : EReal) := by
  rw [Subsingleton.elim z 0, v10_at X x hX a b]

include hG hY

theorem v16_at (a : Fin 4) (b : Fin 2048) (d : Fin 1024) : val_main_v16 (F := Ideal) X G Y (ix3 a b d)
    = ((err (x a b) g (y a b) d : ℝ) : EReal) := by
  pointwise [val_main_v16, val_main_v15, val_main_v14, val_main_v13, val_main_v12, val_main_v11, v7_at X x hX]
  simp only [hX, hG, hY, ← EReal.coe_mul, ← EReal.coe_sub]; rfl

theorem v30_at (a : Fin 4) (b : Fin 2048) (d : Fin 1024) : val_main_v30 (F := Ideal) X G Y (ix3 a b d)
    = ((cot (x a b) g (y a b) d : ℝ) : EReal) := by
  pointwise [val_main_v30, val_main_v29, val_main_v28, val_main_v27, val_main_v26, val_main_v25, val_main_v19, val_main_v18,
    val_main_cst_8, val_main_cst_9, val_main_cst_10, val_main_cst_3, v16_at X G Y x g y hX hG hY]
  simp only [bits_half, bits_1024, bits_two, Ideal.ofBits_one_f32, mul_one]
  rw [div_real _ (by norm_num)]
  simp only [← EReal.coe_mul]
  refine congrArg _ ?_
  unfold cot; ring

theorem v35_at (a : Fin 4) (b : Fin 2048) (d : Fin 1024) : val_main_v35 (F := Ideal) X G Y (ix3 a b d)
    = ((cot (x a b) g (y a b) d * g d : ℝ) : EReal) := by
  pointwise [val_main_v35, val_main_v34, val_main_v13, v30_at X G Y x g y hX hG hY]
  simp only [hG, ← EReal.coe_mul]

theorem v50_at (a : Fin 4) (b : Fin 2048) (d : Fin 1024) : val_main_v50 (F := Ideal) X G Y (ix3 a b d)
    = ((Rms.back 1024 (x a b) (fun k => cot (x a b) g (y a b) k * g k) d : ℝ) : EReal) := by
  pointwise [val_main_v50, val_main_v49, val_main_v48, val_main_v47, val_main_v46, val_main_v45, val_main_v44, val_main_v43, val_main_v42,
    val_main_v41, val_main_v40, val_main_v39, val_main_v38, val_main_v37, val_main_cst_13, val_main_cst_14, val_main_cst_15,
    v35_at X G Y x g y hX hG hY, v7_at X x hX]
  simp only [Fin.sum_univ_one, Finset.univ_unique, Finset.sum_singleton]
  simp only [v10_any X x hX a b, hX, bits_1024, ← EReal.coe_mul, sum_coe, zero_add]
  rw [div_real _ (by norm_num)]
  simp only [← EReal.coe_mul, ← EReal.coe_add]
  exact congrArg _ (Rms.chain_eq_back (show (0 : ℝ) < 1024 by norm_num) (x a b) (fun k => cot (x a b) g (y a b) k * g k) d)

theorem v24_at (i : S_.Idx) : val_main_v24 (F := Ideal) X G Y i
    = ((1 / 2 * ∑ a : Fin 4, ∑ b : Fin 2048, (∑ k, err (x a b) g (y a b) k * err (x a b) g (y a b) k) / 1024 : ℝ) : EReal) := by
  pointwise [val_main_v24, val_main_v23, val_main_v22, val_main_v21, val_main_v20, val_main_v17, val_main_cst_4, val_main_cst_5,
    val_main_cst_6, val_main_cst_7, v16_at X G Y x g y hX hG hY]
  simp only [bits_1024, bits_half, ← EReal.coe_mul, sum_coe, zero_add, div_real _ (show (1024 : ℝ) ≠ 0 by norm_num)]

theorem v36_at (d : Fin 1024) : val_main_v36 (F := Ideal) X G Y (ix1 d)
    = ((∑ a : Fin 4, ∑ b : Fin 2048, cot (x a b) g (y a b) d * (x a b d * Rms.inv 1024 (x a b)) : ℝ) : EReal) := by
  pointwise [val_main_v36, val_main_v33, val_main_v32, val_main_v31, val_main_v12, val_main_v11, v7_at X x hX, v30_at X G Y x g y hX hG hY,
    Sums.hostReduceAdd_lead, val_main_cst_11, val_main_cst_12]
  simp only [Fin.sum_univ_one, Finset.univ_unique, Finset.sum_singleton, hX, ← EReal.coe_mul, sum_coe]
  exact congrArg _ (Finset.sum_congr rfl fun a _ => Finset.sum_congr rfl fun b _ => by ring)

end Cert.LossReferenceIdeal.Real

end
-- ==== Proof.LossKernel.lean ====
/- The loss pair's kernel, point by point: on real arguments its three result arrays are the real numbers the reference
   computes. -/
module

public import proofs.«01_k».proof.Proof.LossRef
public import proofs.«01_k».proof.Proof.Gen.LossKernelIdeal.Value
public import Idealize.ShloMosaic.Lib.Pipeline.ValueKit

@[expose] public section

set_option maxRecDepth 16384

noncomputable section

open Idealize.ShloMosaic Idealize.ShloMosaic.TcCoe Idealize.SL.Sem
open scoped BigOperators

namespace Cert.LossKernelIdeal.Real

open Cert.LossKernelIdeal Cert.LossKernelIdeal.Gen Cert.LossReal Cert.Lift
open Idealize.ShloMosaic.Pipeline (Dat)

section payloads

variable (v4 v21 v36 : FVec Ideal S512x1024 .f32) (v6 : FVec Ideal S1x1024 .f32)
  (x : Fin 512 → Fin 1024 → ℝ) (hx : ∀ r d, v4 (ix2 r d) = ((x r d : ℝ) : EReal))
include hx

/-- The reciprocal root mean square of a block's row. -/
theorem pay2_at (r : Fin 512) : k0_pay2 (F := Ideal) v4 (ix2 r 0) = ((Rms.inv 1024 (x r) : ℝ) : EReal) := by
  pointwise [k0_pay2]
  simp only [hx, bits_1024, bits_eps, ← EReal.coe_mul, sum_coe, zero_add]
  rw [div_real _ (by norm_num), ← EReal.coe_add]
  exact Rms.rsqrt_var (by norm_num) _

theorem pay3_at (r : Fin 512) (d : Fin 1024) : k0_pay3 (F := Ideal) v4 (ix2 r d) = ((x r d * Rms.inv 1024 (x r) : ℝ) : EReal) := by
  pointwise [k0_pay3, pay2_at v4 x hx]
  simp only [hx, ← EReal.coe_mul]

theorem pay4_at (g : Fin 1024 → ℝ) (h : Fin 512 → Fin 1024 → ℝ) (hg : ∀ d, v6 (ix2 0 d) = ((g d : ℝ) : EReal))
    (h1 : ∀ r d, v21 (ix2 r d) * v36 (ix2 r d) = ((h r d : ℝ) : EReal)) (r : Fin 512) (d : Fin 1024) :
    k0_pay4 (F := Ideal) v4 v6 v21 v36 (ix2 r d) = ((Rms.back 1024 (x r) (fun k => h r k * g k) d : ℝ) : EReal) := by
  pointwise [k0_pay4, k0_pay1, pay2_at v4 x hx, pay3_at v4 x hx]
  simp only [h1, hg, bits_1024, ← EReal.coe_mul, sum_coe]
  rw [div_real _ (by norm_num)]
  simp only [← EReal.coe_mul, ← EReal.coe_sub]
  rfl

theorem pay5_at (h : Fin 512 → Fin 1024 → ℝ) (v64 : Vec Ideal S1x1024 .f32)
    (h1 : ∀ r d, v21 (ix2 r d) * v36 (ix2 r d) = ((h r d : ℝ) : EReal)) (d : Fin 1024) :
    k0_pay5 (F := Ideal) v4 v21 v36 v64 (ix2 0 d)
      = v64 (ix2 0 d) + ((∑ r : Fin 512, h r d * (x r d * Rms.inv 1024 (x r)) : ℝ) : EReal) := by
  pointwise [k0_pay5, k0_pay1, pay3_at v4 x hx]
  simp only [h1, ← EReal.coe_mul, sum_coe]

end payloads

section point

variable (v3 v19 : Vec Ideal S512x1024 .f32) (v5 : Vec Ideal S1x1024 .f32) (x y : Fin 512 → Fin 1024 → ℝ) (g : Fin 1024 → ℝ)
  (hx : ∀ r d, v3 (ix2 r d) = ((x r d : ℝ) : EReal)) (hg : ∀ d, v5 (ix2 0 d) = ((g d : ℝ) : EReal))
  (hy : ∀ r d, v19 (ix2 r d) = ((y r d : ℝ) : EReal))
include hx hg hy

theorem pay10_at (r : Fin 512) (d : Fin 1024) :
    k0_pay10 (F := Ideal) v3 v5 v19 (ix2 r d) = ((err (x r) g (y r) d : ℝ) : EReal) := by
  pointwise [k0_pay10, k0_pay8, k0_pay9]
  simp only [hx, hg, hy, bits_1024, bits_eps, ← EReal.coe_mul, sum_coe]
  rw [div_real _ (by norm_num), ← EReal.coe_add,
    Rms.rsqrt_raw (show (0 : ℝ) < 1024 by norm_num) (x r)]
  simp only [← EReal.coe_mul, ← EReal.coe_sub]
  rfl

/-- The cotangent entry the block's two gradients start from. -/
theorem cot_at (r : Fin 512) (d : Fin 1024) :
    k0_pay10 (F := Ideal) v3 v5 v19 (ix2 r d) * k0_pay12 (F := Ideal) (ix2 r d) = ((cot (x r) g (y r) d : ℝ) : EReal) := by
  pointwise [k0_pay12, pay10_at v3 v19 v5 x y g hx hg hy]
  rw [bits_inv1024, ← EReal.coe_mul]; rfl

theorem pay11_at (v22 : Vec Ideal S1x128 .f32) (l : Fin 128) :
    k0_pay11 (F := Ideal) v3 v5 v19 v22 (ix2 0 l)
      = v22 (ix2 0 l) + ((1 / 2 * ∑ r : Fin 512, (∑ k, err (x r) g (y r) k * err (x r) g (y r) k) / 1024 : ℝ) : EReal) := by
  pointwise [k0_pay11, pay10_at v3 v19 v5 x y g hx hg hy]
  simp only [bits_1024, bits_half, ← EReal.coe_mul, sum_coe, div_real _ (show (1024 : ℝ) ≠ 0 by norm_num)]

/-- The block of `dx`. -/
theorem dx_at (r : Fin 512) (d : Fin 1024) :
    k0_pay4 (F := Ideal) (k0_pay8 v3) (k0_pay9 v5) (k0_pay10 v3 v5 v19) (k0_pay12 (F := Ideal)) (ix2 r d)
      = ((Rms.back 1024 (x r) (fun k => cot (x r) g (y r) k * g k) d : ℝ) : EReal) :=
  pay4_at _ _ _ _ x (fun r d => by pointwise [k0_pay8]; exact hx r d) g _ (fun d => by pointwise [k0_pay9]; exact hg d)
    (cot_at v3 v19 v5 x y g hx hg hy) r d

/-- What the block adds to `dg`. -/
theorem dg_at (v64 : Vec Ideal S1x1024 .f32) (d : Fin 1024) :
    k0_pay5 (F := Ideal) (k0_pay8 v3) (k0_pay10 v3 v5 v19) (k0_pay12 (F := Ideal)) v64 (ix2 0 d)
      = v64 (ix2 0 d) + ((∑ r : Fin 512, cot (x r) g (y r) d * (x r d * Rms.inv 1024 (x r)) : ℝ) : EReal) :=
  pay5_at _ _ _ x (fun r d => by pointwise [k0_pay8]; exact hx r d) _ v64 (cot_at v3 v19 v5 x y g hx hg hy) d

end point

section run

variable (m : (ℓ : Loc nD τ sig) → Buf (Elt Ideal) ℓ) (c : Dev nD)

/-- Where each window sits at a grid point. -/
theorem idx_val : ∀ t : Fin cfg0.N, win0_0.index t = ![t.val, 0] ∧ win0_1.index t = ![t.val, 0] ∧ win0_2.index t = ![0, 0]
    ∧ win0_3.index t = ![t.val, 0] :=
  (by decide +kernel : ∀ t : Fin grid0.N, win0_0.index t = ![t.val, 0] ∧ win0_1.index t = ![t.val, 0] ∧ win0_2.index t = ![0, 0]
    ∧ win0_3.index t = ![t.val, 0])

theorem pt_lt (t : Fin cfg0.N) : t.val < 16 := lt_of_lt_of_eq t.isLt N_0

/-- Row `r` of point `t`'s block: its batch, and its place in the sequence. -/
def bat (t : Fin cfg0.N) (r : Fin 512) : Fin 4 := ⟨(t.val * 512 + r.val) / 2048, by have := pt_lt t; omega⟩
def pos (t : Fin cfg0.N) (r : Fin 512) : Fin 2048 := ⟨(t.val * 512 + r.val) % 2048, by omega⟩

/-- Batch and place of a row of the flattened array. -/
def row (i : S8192x1024.Idx) : Fin 4 × Fin 2048 :=
  (⟨(i 0).val / 2048, by have : (i 0).val < 8192 := (i 0).isLt; omega⟩, ⟨(i 0).val % 2048, by omega⟩)

/-- The points' rows, one block after the other, are the rows of the batch. -/
theorem sum_rows (f : Fin 4 → Fin 2048 → ℝ) :
    ∑ p : Fin cfg0.N, ∑ r : Fin 512, f (bat p r) (pos p r) = ∑ a : Fin 4, ∑ b : Fin 2048, f a b :=
  Sums.sum_reblock (by rw [show cfg0.N = 16 from N_0]) (by norm_num) f bat pos (fun _ _ => rfl) (fun _ _ => rfl)

theorem iblk0_at (t : Fin cfg0.N) (r : Fin 512) (d : Fin 1024) :
    iblk m c 0 t (ix2 r d) = m ((c : Thread nD τ).loc main_arg0) (ix3 (bat t r) (pos t r) d) := by
  blk_simp [iblk, idx_val t]
  entry_read
  pointwise
  unfold bat pos
  blk_ext [idx_val t]

theorem iblk1_at (t : Fin cfg0.N) (r : Fin 512) (d : Fin 1024) :
    iblk m c 1 t (ix2 r d) = m ((c : Thread nD τ).loc main_arg2) (ix3 (bat t r) (pos t r) d) := by
  blk_simp [iblk, idx_val t]
  entry_read
  pointwise
  unfold bat pos
  blk_ext [idx_val t]

theorem iblk2_at (t : Fin cfg0.N) (d : Fin 1024) :
    iblk m c 2 t (ix2 0 d) = m ((c : Thread nD τ).loc main_arg1) (ix1 d) := by
  blk_simp [iblk, idx_val t]
  entry_read
  pointwise
  blk_ext [idx_val t]

variable (x : Fin 4 → Fin 2048 → Fin 1024 → ℝ) (g : Fin 1024 → ℝ) (y : Fin 4 → Fin 2048 → Fin 1024 → ℝ)
  (hX : ∀ a b d, m ((c : Thread nD τ).loc main_arg0) (ix3 a b d) = ((x a b d : ℝ) : EReal))
  (hG : ∀ d, m ((c : Thread nD τ).loc main_arg1) (ix1 d) = ((g d : ℝ) : EReal))
  (hY : ∀ a b d, m ((c : Thread nD τ).loc main_arg2) (ix3 a b d) = ((y a b d : ℝ) : EReal))
include hX hG hY

/-- The array of `dx` after the run. -/
theorem final_dx : (dats m 0 c).arrAt 3 cfg0.N = fun i => ((Rms.back 1024 (x (row i).1 (row i).2)
      (fun k => cot (x (row i).1 (row i).2) g (y (row i).1 (row i).2) k * g k) (i 1) : ℝ) : EReal) := by
  have key := fun (t : Fin cfg0.N) => dx_at (iblk m c 0 t) (iblk m c 1 t) (iblk m c 2 t) (fun r => x (bat t r) (pos t r)) (fun r => y (bat t r) (pos t r)) g
    (fun r d => (iblk0_at m c t r d).trans (hX _ _ _)) (fun d => (iblk2_at m c t d).trans (hG d)) (fun r d => (iblk1_at m c t r d).trans (hY _ _ _))
  refine (dats m 0 c).arrAt_eq_of_covers 3 _ (by decide +kernel) fun t hf i => ?_
  have hw : win0_3.index t 0 = t.val := congrFun (idx_val t).2.2.2 0
  have e0 : ∀ (i0 : Fin 512) (i1 : Fin 1024), ((((cfg0.win 3).blk t).view.emb (ix2 i0 i1) 0 : Fin 8192)).val = t.val * 512 + i0.val := by
    intro i0 i1
    blk_simp
    rw [hw]
  have e : ∀ (i0 : Fin 512) (i1 : Fin 1024), row (((cfg0.win 3).blk t).view.emb (ix2 i0 i1)) = (bat t i0, pos t i0) := by
    intro i0 i1
    exact Prod.ext (Fin.ext (congrArg (· / 2048) (e0 i0 i1))) (Fin.ext (congrArg (· % 2048) (e0 i0 i1)))
  have e1 : ∀ (i0 : Fin 512) (i1 : Fin 1024), ((cfg0.win 3).blk t).view.emb (ix2 i0 i1) 1 = i1 := by
    intro i0 i1
    refine Fin.ext (show (((((cfg0.win 3).blk t).view.emb (ix2 i0 i1) 1 : Fin 1024)).val = i1.val) from ?_)
    blk_simp
    rw [show win0_3.index t 1 = 0 from congrFun (idx_val t).2.2.2 1, Nat.zero_mul, Nat.zero_add]
  idx_vars i
  show _ = ((Rms.back 1024 (x (row _).1 (row _).2) (fun k => cot (x (row _).1 (row _).2) g (y (row _).1 (row _).2) k * g k) _ : ℝ) : EReal)
  rw [e, e1]
  blk_simp
  rw [after0_3]
  by_cases h : t.val % 16 = 0
  · rw [outsAt0_A m c t h]
    dsimp only
    frame_out
    exact key t _ _
  · rw [outsAt0_B m c t h]
    dsimp only
    frame_out
    exact key t _ _

/-- The array of the loss after the run. -/
theorem final_loss (l : Fin 128) : (dats m 0 c).arrAt 4 cfg0.N (ix2 0 l)
     = ((1 / 2 * ∑ a : Fin 4, ∑ b : Fin 2048, (∑ k, err (x a b) g (y a b) k * err (x a b) g (y a b) k) / 1024 : ℝ) : EReal) := by
  have key := fun (t : Fin cfg0.N) => pay11_at (iblk m c 0 t) (iblk m c 1 t) (iblk m c 2 t) (fun r => x (bat t r) (pos t r)) (fun r => y (bat t r) (pos t r)) g
    (fun r d => (iblk0_at m c t r d).trans (hX _ _ _)) (fun d => (iblk2_at m c t d).trans (hG d)) (fun r d => (iblk1_at m c t r d).trans (hY _ _ _))
  have hzero : ∀ j, k0_pay6 (F := Ideal) j = 0 := fun j => by pointwise [k0_pay6]
  refine congrFun ((dats m 0 c).arrAt_eq_of_after_last 4 t0_15 (by decide +kernel) (fun _ => _) fun j => ?_) (ix2 0 l)
  blk_simp
  rw [after0_4, Pipeline.eq_sum_fin_of_reset_step_apply_last (fun n h => (outsAt0 m c n h).2.1) 16 (fun _ => 0)
    (fun t j => ((1 / 2 * ∑ r : Fin 512, (∑ k, err (x (bat t r) (pos t r)) g (y (bat t r) (pos t r)) k * err (x (bat t r) (pos t r)) g (y (bat t r) (pos t r)) k) / 1024 : ℝ) : EReal))
      (fun t h j => by
        rw [outsAt0_A m c t h]; frame_out; idx_vars j
        obtain rfl : j0 = 0 := Subsingleton.elim _ _
        rw [key t, hzero])
      (fun t h j => by
        rw [outsAt0_B m c t h]; frame_out; idx_vars j
        obtain rfl : j0 = 0 := Subsingleton.elim _ _
        rw [key t])
      (le_of_eq N_0) t0_15 rfl j, zero_add, sum_coe, ← Finset.mul_sum]
  exact congrArg (fun s : ℝ => ((1 / 2 * s : ℝ) : EReal)) (sum_rows fun a b => (∑ k, err (x a b) g (y a b) k * err (x a b) g (y a b) k) / 1024)

/-- The array of `dg` after the run. -/
theorem final_dg (d : Fin 1024) : (dats m 0 c).arrAt 5 cfg0.N (ix2 0 d)
     = ((∑ a : Fin 4, ∑ b : Fin 2048, cot (x a b) g (y a b) d * (x a b d * Rms.inv 1024 (x a b)) : ℝ) : EReal) := by
  have key := fun (t : Fin cfg0.N) => dg_at (iblk m c 0 t) (iblk m c 1 t) (iblk m c 2 t) (fun r => x (bat t r) (pos t r)) (fun r => y (bat t r) (pos t r)) g
    (fun r d => (iblk0_at m c t r d).trans (hX _ _ _)) (fun d => (iblk2_at m c t d).trans (hG d)) (fun r d => (iblk1_at m c t r d).trans (hY _ _ _))
  have hzero : ∀ j, k0_pay7 (F := Ideal) j = 0 := fun j => by pointwise [k0_pay7]
  refine congrFun ((dats m 0 c).arrAt_eq_of_after_last 5 t0_15 (by decide +kernel) (fun j => ((∑ a : Fin 4, ∑ b : Fin 2048, cot (x a b) g (y a b) (j 1) * (x a b (j 1) * Rms.inv 1024 (x a b)) : ℝ) : EReal)) fun j => ?_) (ix2 0 d)
  idx_vars j
  blk_simp
  rw [after0_5, Pipeline.eq_sum_fin_of_reset_step_apply_last (fun n h => (outsAt0 m c n h).2.2) 16 (fun _ => 0)
    (fun t j => ((∑ r : Fin 512, cot (x (bat t r) (pos t r)) g (y (bat t r) (pos t r)) (j 1) * (x (bat t r) (pos t r) (j 1) * Rms.inv 1024 (x (bat t r) (pos t r))) : ℝ) : EReal))
      (fun t h j => by
        rw [outsAt0_A m c t h]; frame_out; idx_vars j
        obtain rfl : j0 = 0 := Subsingleton.elim _ _
        rw [key t, hzero])
      (fun t h j => by
        rw [outsAt0_B m c t h]; frame_out; idx_vars j
        obtain rfl : j0 = 0 := Subsingleton.elim _ _
        rw [key t])
      (le_of_eq N_0) t0_15 rfl _, zero_add, sum_coe]
  exact congrArg _ (sum_rows fun a b => cot (x a b) g (y a b) _ * (x a b _ * Rms.inv 1024 (x a b)))

end run

end Cert.LossKernelIdeal.Real

end
-- ==== Proof.Loss.lean ====
/- The claims about the loss pair. -/
module

public import proofs.«01_k».proof.Defs
public import proofs.«01_k».proof.Proof.LossKernel
public import proofs.«01_k».proof.Proof.Gen.LossKernel.Frame
public import proofs.«01_k».proof.Proof.Gen.LossReferenceIdeal.Run
public import proofs.«01_k».proof.Proof.Gen.Pre_loss_finite
public import Idealize.ShloMosaic.Adequacy
public import Idealize.ShloMosaic.Init
public import Idealize.ShloMosaic.Lib.Claim

@[expose] public section

set_option maxRecDepth 16384

noncomputable section

open Idealize.ShloMosaic Idealize.ShloMosaic.TcCoe Idealize.SL.Sem

namespace Cert.LossProof

open Cert.Lift

theorem frame_kernel : Cert.quiescent_LossKernel := fun m ρ _ => Cert.LossKernel.Gen.frame m ρ
theorem frame_ideal : Cert.quiescent_LossKernelIdeal := fun m ρ _ => Cert.LossKernelIdeal.Gen.frame m ρ
theorem frame_ideal_pre : Cert.quiescent_LossKernelIdeal_pre_loss_finite := fun m ρ _ => Cert.LossKernelIdeal.Gen.frame m ρ
theorem frame_ref : Cert.quiescent_LossReferenceIdeal := fun m ρ _ =>
  (θ_run _ _ _).mono (fun _ h => ⟨fun c => (h c).2.2.2, sem_eq_zero_of_no_sems (by decide) _⟩) (Cert.LossReferenceIdeal.Value.run m ρ)
theorem frame_ref_pre : Cert.quiescent_LossReferenceIdeal_pre_loss_finite := fun m ρ _ => frame_ref m ρ trivial

/-- The precondition: every argument element is a real number. -/
theorem finite (X : FVec Ideal Cert.Pre_loss_finite.S4x2048x1024 .f32) (G : FVec Ideal Cert.Pre_loss_finite.S1024 .f32)
    (Y : FVec Ideal Cert.Pre_loss_finite.S4x2048x1024 .f32) (h : Cert.Pre_loss_finite.fn (F := Ideal) X G Y = fun _ => 1#1) :
    (∀ i, X i = ((EReal.toReal (X i) : ℝ) : EReal)) ∧ (∀ i, G i = ((EReal.toReal (G i) : ℝ) : EReal))
      ∧ (∀ i, Y i = ((EReal.toReal (Y i) : ℝ) : EReal)) := by
  have h0 := congrFun h ix0
  simp only [Cert.Pre_loss_finite.fn, andi, IntOp.andi_eq_one] at h0
  obtain ⟨⟨⟨-, ha⟩, hb⟩, hd⟩ := h0
  exact ⟨fun i => finite_of_all _ _ _ (fun _ => bits_inf) _ _ _ _ ha i, fun i => finite_of_all _ _ _ (fun _ => bits_inf) _ _ _ _ hb i,
    fun i => finite_of_all _ _ _ (fun _ => bits_inf) _ _ _ _ hd i⟩

open Cert.LossReal in
/-- Kernel and reference end with the same three arrays. -/
theorem value : Cert.algebraic_LossKernelIdeal_LossReferenceIdeal_pre_loss_finite := by
  intro m ρ m' ρ' hpre hagree
  refine ⟨_, _, _, Cert.LossKernelIdeal.Value.run_blocks m ρ, (θ_run _ _ _).mono (fun r h c => ?_) (Cert.LossReferenceIdeal.Value.run m' ρ')⟩
  obtain ⟨hX, hG, hY⟩ := finite _ _ _ (hpre c)
  obtain ⟨a0, a1, a2⟩ := hagree c
  have kX := fun a b d => hX (ix3 a b d)
  have kG := fun d => hG (ix1 d)
  have kY := fun a b d => hY (ix3 a b d)
  obtain ⟨h51, h52, h53, hargs⟩ := h c
  refine ⟨h51.trans ?_, h52.trans ?_, h53.trans ?_, hargs⟩
  · rw [Cert.LossKernelIdeal.Real.final_dx m c _ _ _ kX kG kY, Cert.LossReferenceIdeal.Read.val_main_v51_eq, a0, a1, a2]
    funext i
    idx_vars i
    pointwise [Cert.LossReferenceIdeal.Read.val_main_v51, Cert.LossReferenceIdeal.Real.v50_at _ _ _ _ _ _ kX kG kY]
    rfl
  · refine (Cert.LossReferenceIdeal.Read.val_main_v52_eq _ _ _).trans ?_
    rw [a0, a1, a2]
    funext i
    idx_vars i
    obtain rfl : i0 = 0 := Subsingleton.elim _ _
    refine Eq.trans ?_ (Cert.LossKernelIdeal.Real.final_loss m c _ _ _ kX kG kY i1).symm
    pointwise [Cert.LossReferenceIdeal.Read.val_main_v52, Cert.LossReferenceIdeal.Real.v24_at _ _ _ _ _ _ kX kG kY]
  · refine (Cert.LossReferenceIdeal.Read.val_main_v53_eq _ _ _).trans ?_
    rw [a0, a1, a2]
    funext i
    idx_vars i
    obtain rfl : i0 = 0 := Subsingleton.elim _ _
    refine Eq.trans ?_ (Cert.LossKernelIdeal.Real.final_dg m c _ _ _ kX kG kY i1).symm
    pointwise [Cert.LossReferenceIdeal.Read.val_main_v53, Cert.LossReferenceIdeal.Real.v36_at _ _ _ _ _ _ kX kG kY]

end Cert.LossProof

end
-- ==== Proof.DxUpRef.lean ====
/- The reference of the up projection's input gradient, read element by element: on real arguments its two results are
   the real numbers below. -/
module

public import proofs.«01_k».proof.Proof.Rms
public import proofs.«01_k».proof.Proof.Sums
public import proofs.«01_k».proof.Proof.Gen.DxUpReferenceIdeal
public import proofs.«01_k».proof.Proof.Gen.DxUpReferenceIdeal.Read
public import Idealize.ShloMosaic.Lib.Pointwise
public import Idealize.ShloMosaic.Lib.IdealHost

@[expose] public section

set_option maxRecDepth 16384

noncomputable section

open Idealize.ShloMosaic Idealize.ShloMosaic.TcCoe Idealize.SL.Sem
open scoped BigOperators

namespace Cert.DxUpReferenceIdeal.Real

open Cert.DxUpReferenceIdeal Cert.DxUpReferenceIdeal.Gen Cert.DxUpReferenceIdeal.Read Cert.Lift

variable (U : FVec Ideal S4x2048x5632 .f32) (W : FVec Ideal S1024x5632 .f32) (X : FVec Ideal S4x2048x1024 .f32)
  (G : FVec Ideal S1024 .f32) (Z : FVec Ideal S4x2048x1024 .f32)
  (u : Fin 4 → Fin 2048 → Fin 5632 → ℝ) (w : Fin 1024 → Fin 5632 → ℝ) (x : Fin 4 → Fin 2048 → Fin 1024 → ℝ) (g : Fin 1024 → ℝ)
  (hU : ∀ a b f, U (ix3 a b f) = ((u a b f : ℝ) : EReal)) (hW : ∀ d f, W (ix2 d f) = ((w d f : ℝ) : EReal))
  (hX : ∀ a b d, X (ix3 a b d) = ((x a b d : ℝ) : EReal)) (hG : ∀ d, G (ix1 d) = ((g d : ℝ) : EReal))

section norm
include hX

theorem v6_at (a : Fin 4) (b : Fin 2048) : val_main_v6 (F := Ideal) X (ix3 a b 0) = ((Rms.var 1024 (x a b) : ℝ) : EReal) := by
  pointwise [val_main_v6, val_main_v5, val_main_v4, val_main_v3, val_main_v2, val_main_v1, val_main_v0, val_main_cst_1, val_main_cst_0, val_main_cst]
  simp only [hX, bits_1024, bits_eps, ← EReal.coe_mul, sum_coe, zero_add]
  rw [div_real _ (by norm_num), ← EReal.coe_add]; rfl

theorem v7_at (a : Fin 4) (b : Fin 2048) : val_main_v7 (F := Ideal) X (ix3 a b 0) = ((Rms.inv 1024 (x a b) : ℝ) : EReal) := by
  pointwise [val_main_v7, v6_at X x hX]
  rw [Rms.rsqrt_var (by norm_num)]

theorem v10_any (a : Fin 4) (b : Fin 2048) (z : Fin 1) : val_main_v10 (F := Ideal) X (ix3 a b z)
    = ((-(1 / 2) * (Rms.inv 1024 (x a b) / Rms.var 1024 (x a b)) : ℝ) : EReal) := by
  rw [Subsingleton.elim z 0]
  pointwise [val_main_v10, val_main_v9, val_main_v8, val_main_cst_2, v6_at X x hX, v7_at X x hX]
  rw [div_real _ (Rms.var_ne (by norm_num) _), bits_neg_half, ← EReal.coe_mul]

theorem v12_at (a : Fin 4) (b : Fin 2048) (d : Fin 1024) : val_main_v12 (F := Ideal) X (ix3 a b d)
    = ((x a b d * Rms.inv 1024 (x a b) : ℝ) : EReal) := by
  pointwise [val_main_v12, val_main_v11, v7_at X x hX]
  simp only [hX, ← EReal.coe_mul]

end norm

include hU hW in
/-- The cotangent of the normalised row: the product with the projection's weights. -/
theorem v17_at (a : Fin 4) (b : Fin 2048) (d : Fin 1024) : val_main_v17 (F := Ideal) U W (ix3 a b d)
    = ((∑ f, u a b f * w d f : ℝ) : EReal) := by
  pointwise [val_main_v17]
  simp only [hU, hW, ← EReal.coe_mul, sum_coe]

variable (h : Fin 4 → Fin 2048 → Fin 1024 → ℝ)
  (hH : ∀ a b d, val_main_v17 (F := Ideal) U W (ix3 a b d) = ((h a b d : ℝ) : EReal))
include hX hG hH

theorem v22_at (a : Fin 4) (b : Fin 2048) (d : Fin 1024) : val_main_v22 (F := Ideal) U W G (ix3 a b d)
    = ((h a b d * g d : ℝ) : EReal) := by
  pointwise [val_main_v22, val_main_v21, val_main_v13, hH]
  simp only [hG, ← EReal.coe_mul]

theorem v38_at (a : Fin 4) (b : Fin 2048) (d : Fin 1024) : val_main_v38 (F := Ideal) U W X G Z (ix3 a b d)
    = Z (ix3 a b d) + ((Rms.back 1024 (x a b) (fun k => h a b k * g k) d : ℝ) : EReal) := by
  pointwise [val_main_v38, val_main_v37, val_main_v36, val_main_v35, val_main_v34, val_main_v33, val_main_v32, val_main_v31, val_main_v30,
    val_main_v29, val_main_v28, val_main_v27, val_main_v26, val_main_v25, val_main_v24, val_main_cst_5, val_main_cst_6, val_main_cst_7,
    v22_at U W X G x g hX hG h hH, v7_at X x hX]
  simp only [Fin.sum_univ_one, Finset.univ_unique, Finset.sum_singleton]
  simp only [v10_any X x hX a b, hX, bits_1024, ← EReal.coe_mul, sum_coe, zero_add]
  rw [div_real _ (by norm_num)]
  simp only [← EReal.coe_mul, add_assoc, ← EReal.coe_add]
  rw [← add_assoc (h a b d * g d * _)]
  exact congrArg (fun r : ℝ => Z (ix3 a b d) + (r : EReal))
    (Rms.chain_eq_back (show (0 : ℝ) < 1024 by norm_num) (x a b) (fun k => h a b k * g k) d)

omit hG in
theorem v23_at (d : Fin 1024) : val_main_v23 (F := Ideal) U W X (ix1 d)
    = ((∑ a : Fin 4, ∑ b : Fin 2048, h a b d * (x a b d * Rms.inv 1024 (x a b)) : ℝ) : EReal) := by
  pointwise [val_main_v23, val_main_v20, val_main_v19, val_main_v18, v12_at X x hX, hH,
    Sums.hostReduceAdd_lead, val_main_cst_3, val_main_cst_4]
  simp only [Fin.sum_univ_one, Finset.univ_unique, Finset.sum_singleton, ← EReal.coe_mul, sum_coe]
  exact congrArg _ (Finset.sum_congr rfl fun a _ => Finset.sum_congr rfl fun b _ => by ring)

end Cert.DxUpReferenceIdeal.Real

end
-- ==== Proof.DxUpKernel.lean ====
/- The up projection's input gradient with the norm's, point by point: on real arguments the kernel's two result arrays
   are the real numbers the reference computes. -/
module

public import proofs.«01_k».proof.Proof.Rms
public import proofs.«01_k».proof.Proof.Sums
public import proofs.«01_k».proof.Proof.Gen.DxUpKernelIdeal.Value
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open scoped BigOperators

namespace Cert.DxUpKernelIdeal.Real

open Cert.DxUpKernelIdeal Cert.DxUpKernelIdeal.Gen Cert.Lift
open Idealize.ShloMosaic.Pipeline (Dat)

section payloads

variable (v50 v79 : Vec Ideal S256x1024 .f32) (v43 : FVec Ideal S256x1024 .f32) (v45 : FVec Ideal S256x704 .bf16)
  (v46 : Vec Ideal S1x1x1024x704 .bf16) (v52 v83 : Vec Ideal S1x1024 .f32)
  (x h : Fin 256 → Fin 1024 → ℝ) (g : Fin 1024 → ℝ)
  (hx : ∀ r d, v50 (ix2 r d) = ((x r d : ℝ) : EReal)) (hg : ∀ d, v52 (ix2 0 d) = ((g d : ℝ) : EReal))
  (hh : ∀ r d, k0_pay6 (F := Ideal) v43 v45 v46 (ix2 r d) = ((h r d : ℝ) : EReal))

include hx

theorem pay8_at (r : Fin 256) : k0_pay8 (F := Ideal) v50 (ix2 r 0) = ((Rms.inv 1024 (x r) : ℝ) : EReal) := by
  pointwise [k0_pay8, k0_pay7]
  simp only [hx, bits_1024, bits_eps, ← EReal.coe_mul, sum_coe, zero_add]
  rw [div_real _ (by norm_num), ← EReal.coe_add]
  exact Rms.rsqrt_var (by norm_num) _

theorem pay9_at (r : Fin 256) (d : Fin 1024) : k0_pay9 (F := Ideal) v50 (ix2 r d) = ((x r d * Rms.inv 1024 (x r) : ℝ) : EReal) := by
  pointwise [k0_pay9, k0_pay7, pay8_at v50 x hx]
  simp only [hx, ← EReal.coe_mul]

include hh

/-- The block of the input's gradient: the residual's cotangent plus the norm's gradient. -/
theorem pay10_at (hg : ∀ d, v52 (ix2 0 d) = ((g d : ℝ) : EReal)) (r : Fin 256) (d : Fin 1024) :
    k0_pay10 (F := Ideal) v43 v45 v46 v50 v52 v79 (ix2 r d)
      = v79 (ix2 r d) + ((Rms.back 1024 (x r) (fun k => h r k * g k) d : ℝ) : EReal) := by
  pointwise [k0_pay10, pay8_at v50 x hx, pay9_at v50 x hx, hh]
  simp only [hg, bits_1024, ← EReal.coe_mul, sum_coe]
  rw [div_real _ (by norm_num)]
  simp only [← EReal.coe_mul, ← EReal.coe_sub]
  rfl

/-- What the block adds to the gain's gradient. -/
theorem pay11_at (d : Fin 1024) :
    k0_pay11 (F := Ideal) v43 v45 v46 v50 v83 (ix2 0 d)
      = v83 (ix2 0 d) + ((∑ r : Fin 256, h r d * (x r d * Rms.inv 1024 (x r)) : ℝ) : EReal) := by
  pointwise [k0_pay11, pay9_at v50 x hx, hh]
  simp only [← EReal.coe_mul, sum_coe]

end payloads

/-- Column of part `k` of half `p`. -/
def col (p : Fin 2) (k : Fin 4) (j : Fin 704) : Fin 5632 := ⟨p.val * 2816 + k.val * 704 + j.val, by omega⟩

/-- A row of 5632 summed in eight parts of 704, in the order in which the kernel adds them. -/
theorem sum_parts (F : Fin 5632 → ℝ) (P : Fin 2 → Fin 4 → ℝ) (hP : ∀ p k, P p k = ∑ j, F (col p k j)) :
    P 0 0 + P 1 0 + P 0 1 + P 1 1 + P 0 2 + P 1 2 + P 0 3 + P 1 3 = ∑ f, F f := by
  have h := Sums.sum_reblock (A := 8) (B := 704) (A' := 1) (B' := 5632) (by norm_num) (by norm_num) (fun _ f => F f)
    (fun _ _ => 0) (fun p r => ⟨p.val * 704 + r.val, by omega⟩)
    (fun p r => (Nat.div_eq_of_lt (by omega)).symm) (fun p r => (Nat.mod_eq_of_lt (by omega)).symm)
  rw [Fin.sum_univ_one, Fin.sum_univ_eight] at h
  have e : ∀ (p : Fin 2) (k : Fin 4) (q : Fin 8) (hq : q.val = p.val * 4 + k.val),
      P p k = ∑ r : Fin 704, F ⟨q.val * 704 + r.val, by omega⟩ := fun p k q hq => by
    rw [hP]
    refine Finset.sum_congr rfl fun r _ => congrArg F (Fin.ext ?_)
    show p.val * 2816 + k.val * 704 + r.val = q.val * 704 + r.val
    omega
  rw [← h, e 0 0 0 rfl, e 0 1 1 rfl, e 0 2 2 rfl, e 0 3 3 rfl, e 1 0 4 rfl, e 1 1 5 rfl, e 1 2 6 rfl, e 1 3 7 rfl]
  ring

section product

variable (A : Vec Ideal S2x4x256x704 .bf16) (B : Vec Ideal S2x4x1024x704 .bf16)
  (a : Fin 256 → Fin 5632 → ℝ) (b : Fin 1024 → Fin 5632 → ℝ)
  (hA : ∀ p k r j, A (ix4 p k r j) = ((a r (col p k j) : ℝ) : EReal)) (hB : ∀ p k d j, B (ix4 p k d j) = ((b d (col p k j) : ℝ) : EReal))
include hA hB

/-- The eight products of a point, added up, are the product of its rows with the weights. -/
theorem prod_at (r : Fin 256) (d : Fin 1024) :
    k0_pay6 (F := Ideal)
      (k0_pay4
        (k0_pay2
          (View.ld A (Rect.unit ![0, 0, 0, 0] ![1, 1, 256, 704] inb_S2x4x256x704_S1x1x256x704_0_0_0_0))
          (View.ld B (Rect.unit ![0, 0, 0, 0] ![1, 1, 1024, 704] inb_S2x4x1024x704_S1x1x1024x704_0_0_0_0))
          (View.ld A (Rect.unit ![1, 0, 0, 0] ![1, 1, 256, 704] inb_S2x4x256x704_S1x1x256x704_1_0_0_0))
          (View.ld B (Rect.unit ![1, 0, 0, 0] ![1, 1, 1024, 704] inb_S2x4x1024x704_S1x1x1024x704_1_0_0_0))
          (View.ld A (Rect.unit ![0, 1, 0, 0] ![1, 1, 256, 704] inb_S2x4x256x704_S1x1x256x704_0_1_0_0))
          (View.ld B (Rect.unit ![0, 1, 0, 0] ![1, 1, 1024, 704] inb_S2x4x1024x704_S1x1x1024x704_0_1_0_0)))
        (k0_pay3
          (View.ld A (Rect.unit ![1, 1, 0, 0] ![1, 1, 256, 704] inb_S2x4x256x704_S1x1x256x704_1_1_0_0)))
        (View.ld B (Rect.unit ![1, 1, 0, 0] ![1, 1, 1024, 704] inb_S2x4x1024x704_S1x1x1024x704_1_1_0_0))
        (View.ld A (Rect.unit ![0, 2, 0, 0] ![1, 1, 256, 704] inb_S2x4x256x704_S1x1x256x704_0_2_0_0))
        (View.ld B (Rect.unit ![0, 2, 0, 0] ![1, 1, 1024, 704] inb_S2x4x1024x704_S1x1x1024x704_0_2_0_0))
        (View.ld A (Rect.unit ![1, 2, 0, 0] ![1, 1, 256, 704] inb_S2x4x256x704_S1x1x256x704_1_2_0_0))
        (View.ld B (Rect.unit ![1, 2, 0, 0] ![1, 1, 1024, 704] inb_S2x4x1024x704_S1x1x1024x704_1_2_0_0))
        (View.ld A (Rect.unit ![0, 3, 0, 0] ![1, 1, 256, 704] inb_S2x4x256x704_S1x1x256x704_0_3_0_0))
        (View.ld B (Rect.unit ![0, 3, 0, 0] ![1, 1, 1024, 704] inb_S2x4x1024x704_S1x1x1024x704_0_3_0_0)))
      (k0_pay5
        (View.ld A (Rect.unit ![1, 3, 0, 0] ![1, 1, 256, 704] inb_S2x4x256x704_S1x1x256x704_1_3_0_0)))
      (View.ld B (Rect.unit ![1, 3, 0, 0] ![1, 1, 1024, 704] inb_S2x4x1024x704_S1x1x1024x704_1_3_0_0)) (ix2 r d)
     = ((∑ f, a r f * b d f : ℝ) : EReal) := by
  pointwise [k0_pay6, k0_pay5, k0_pay4, k0_pay3, k0_pay2]
  simp only [hA, hB, ← EReal.coe_mul, sum_coe, ← EReal.coe_add, zero_add]
  exact congrArg _ (sum_parts (fun f => a r f * b d f) _ fun _ _ => rfl)

end product

section run

variable (m : (ℓ : Loc nD τ sig) → Buf (Elt Ideal) ℓ) (c : Dev nD)

/-- Where each window sits at a grid point. -/
theorem idx_val : ∀ t : Fin cfg0.N, win0_0.index t = ![0, 0, t.val, 0] ∧ win0_1.index t = ![0, 0, 0, 0] ∧ win0_2.index t = ![t.val, 0]
    ∧ win0_3.index t = ![0, 0] ∧ win0_4.index t = ![t.val, 0] ∧ win0_5.index t = ![t.val, 0] :=
  (by decide +kernel : ∀ t : Fin grid0.N, win0_0.index t = ![0, 0, t.val, 0] ∧ win0_1.index t = ![0, 0, 0, 0] ∧ win0_2.index t = ![t.val, 0]
    ∧ win0_3.index t = ![0, 0] ∧ win0_4.index t = ![t.val, 0] ∧ win0_5.index t = ![t.val, 0])

/-- The last grid point. -/
def tlast : Fin cfg0.N := ⟨31, by rw [show cfg0.N = 32 from N_0]; norm_num⟩

theorem pt_lt (t : Fin cfg0.N) : t.val < 32 := lt_of_lt_of_eq t.isLt N_0

/-- Row `r` of point `t`'s block: its batch, and its place in the sequence. -/
def bat (t : Fin cfg0.N) (r : Fin 256) : Fin 4 := ⟨(t.val * 256 + r.val) / 2048, by have := pt_lt t; omega⟩
def pos (t : Fin cfg0.N) (r : Fin 256) : Fin 2048 := ⟨(t.val * 256 + r.val) % 2048, by omega⟩

/-- Batch and place of a row of the flattened array. -/
def row (i : S8192x1024.Idx) : Fin 4 × Fin 2048 :=
  (⟨(i 0).val / 2048, by have : (i 0).val < 8192 := (i 0).isLt; omega⟩, ⟨(i 0).val % 2048, by omega⟩)

/-- The points' rows, one block after the other, are the rows of the batch. -/
theorem sum_rows (f : Fin 4 → Fin 2048 → ℝ) :
    ∑ p : Fin cfg0.N, ∑ r : Fin 256, f (bat p r) (pos p r) = ∑ a : Fin 4, ∑ b : Fin 2048, f a b :=
  Sums.sum_reblock (by rw [show cfg0.N = 32 from N_0]) (by norm_num) f bat pos (fun _ _ => rfl) (fun _ _ => rfl)

theorem iblk0_at (t : Fin cfg0.N) (p : Fin 2) (k : Fin 4) (r : Fin 256) (j : Fin 704) :
    iblk m c 0 t (ix4 p k r j) = m ((c : Thread nD τ).loc main_arg0) (ix3 (bat t r) (pos t r) (col p k j)) := by
  blk_simp [iblk, idx_val t]
  entry_read
  pointwise
  unfold bat pos col
  blk_ext [idx_val t]

theorem iblk1_at (t : Fin cfg0.N) (p : Fin 2) (k : Fin 4) (r : Fin 1024) (j : Fin 704) :
    iblk m c 1 t (ix4 p k r j) = m ((c : Thread nD τ).loc main_arg1) (ix2 r (col p k j)) := by
  blk_simp [iblk, idx_val t]
  entry_read
  pointwise
  unfold col
  blk_ext [idx_val t]

theorem iblk2_at (t : Fin cfg0.N) (r : Fin 256) (d : Fin 1024) :
    iblk m c 2 t (ix2 r d) = m ((c : Thread nD τ).loc main_arg2) (ix3 (bat t r) (pos t r) d) := by
  blk_simp [iblk, idx_val t]
  entry_read
  pointwise
  unfold bat pos
  blk_ext [idx_val t]

theorem iblk3_at (t : Fin cfg0.N) (d : Fin 1024) :
    iblk m c 3 t (ix2 0 d) = m ((c : Thread nD τ).loc main_arg3) (ix1 d) := by
  blk_simp [iblk, idx_val t]
  entry_read
  pointwise
  blk_ext [idx_val t]

theorem iblk4_at (t : Fin cfg0.N) (r : Fin 256) (d : Fin 1024) :
    iblk m c 4 t (ix2 r d) = m ((c : Thread nD τ).loc main_arg4) (ix3 (bat t r) (pos t r) d) := by
  blk_simp [iblk, idx_val t]
  entry_read
  pointwise
  unfold bat pos
  blk_ext [idx_val t]

variable (u : Fin 4 → Fin 2048 → Fin 5632 → ℝ) (w : Fin 1024 → Fin 5632 → ℝ) (x : Fin 4 → Fin 2048 → Fin 1024 → ℝ) (g : Fin 1024 → ℝ)
  (z : Fin 4 → Fin 2048 → Fin 1024 → EReal)
  (hU : ∀ a b f, m ((c : Thread nD τ).loc main_arg0) (ix3 a b f) = ((u a b f : ℝ) : EReal))
  (hW : ∀ d f, m ((c : Thread nD τ).loc main_arg1) (ix2 d f) = ((w d f : ℝ) : EReal))
  (hX : ∀ a b d, m ((c : Thread nD τ).loc main_arg2) (ix3 a b d) = ((x a b d : ℝ) : EReal))
  (hG : ∀ d, m ((c : Thread nD τ).loc main_arg3) (ix1 d) = ((g d : ℝ) : EReal))
  (hZ : ∀ a b d, m ((c : Thread nD τ).loc main_arg4) (ix3 a b d) = z a b d)
include hU hW hX hG

include hZ in
/-- The array of the input's gradient after the run. -/
theorem final_dx : (dats m 0 c).arrAt 5 cfg0.N = fun i => z (row i).1 (row i).2 (i 1)
      + ((Rms.back 1024 (x (row i).1 (row i).2) (fun k => (∑ f, u (row i).1 (row i).2 f * w k f) * g k) (i 1) : ℝ) : EReal) := by
  have key := fun (t : Fin cfg0.N) (r : Fin 256) (d : Fin 1024) =>
    (pay10_at (iblk m c 2 t) (iblk m c 4 t) _ _ _ (iblk m c 3 t) (fun r => x (bat t r) (pos t r)) (fun r d => ∑ f, u (bat t r) (pos t r) f * w d f) g
      (fun r d => (iblk2_at m c t r d).trans (hX _ _ _))
      (prod_at (iblk m c 0 t) (iblk m c 1 t) (fun r => u (bat t r) (pos t r)) w (fun p k r j => (iblk0_at m c t p k r j).trans (hU _ _ _))
        (fun p k d j => (iblk1_at m c t p k d j).trans (hW _ _)))
      (fun d => (iblk3_at m c t d).trans (hG d)) r d).trans
    (congrArg (· + _) ((iblk4_at m c t r d).trans (hZ _ _ _)))
  refine (dats m 0 c).arrAt_eq_of_covers 5 _ (by decide +kernel) fun t hf i => ?_
  have hw : win0_5.index t 0 = t.val := congrFun (idx_val t).2.2.2.2.2 0
  have e0 : ∀ (i0 : Fin 256) (i1 : Fin 1024), ((((cfg0.win 5).blk t).view.emb (ix2 i0 i1) 0 : Fin 8192)).val = t.val * 256 + i0.val := by
    intro i0 i1
    blk_simp
    rw [hw]
  have e : ∀ (i0 : Fin 256) (i1 : Fin 1024), row (((cfg0.win 5).blk t).view.emb (ix2 i0 i1)) = (bat t i0, pos t i0) := by
    intro i0 i1
    exact Prod.ext (Fin.ext (congrArg (· / 2048) (e0 i0 i1))) (Fin.ext (congrArg (· % 2048) (e0 i0 i1)))
  have e1 : ∀ (i0 : Fin 256) (i1 : Fin 1024), ((cfg0.win 5).blk t).view.emb (ix2 i0 i1) 1 = i1 := by
    intro i0 i1
    refine Fin.ext (show (((((cfg0.win 5).blk t).view.emb (ix2 i0 i1) 1 : Fin 1024)).val = i1.val) from ?_)
    blk_simp
    rw [show win0_5.index t 1 = 0 from congrFun (idx_val t).2.2.2.2.2 1, Nat.zero_mul, Nat.zero_add]
  idx_vars i
  show _ = z (row _).1 (row _).2 _
    + ((Rms.back 1024 (x (row _).1 (row _).2) (fun k => (∑ f, u (row _).1 (row _).2 f * w k f) * g k) _ : ℝ) : EReal)
  rw [e, e1]
  blk_simp
  rw [after0_5]
  by_cases h : t.val % 32 = 0
  · rw [outsAt0_A m c t h]
    dsimp only
    frame_out
    exact key t _ _
  · rw [outsAt0_B m c t h]
    dsimp only
    frame_out
    exact key t _ _

/-- The array of the gain's gradient after the run. -/
theorem final_dg (d : Fin 1024) : (dats m 0 c).arrAt 6 cfg0.N (ix2 0 d)
     = ((∑ a : Fin 4, ∑ b : Fin 2048, (∑ f, u a b f * w d f) * (x a b d * Rms.inv 1024 (x a b)) : ℝ) : EReal) := by
  have key := fun (t : Fin cfg0.N) (v83 : Vec Ideal S1x1024 .f32) (d : Fin 1024) =>
    pay11_at (iblk m c 2 t) _ _ _ v83 (fun r => x (bat t r) (pos t r)) (fun r d => ∑ f, u (bat t r) (pos t r) f * w d f)
      (fun r d => (iblk2_at m c t r d).trans (hX _ _ _))
      (prod_at (iblk m c 0 t) (iblk m c 1 t) (fun r => u (bat t r) (pos t r)) w (fun p k r j => (iblk0_at m c t p k r j).trans (hU _ _ _))
        (fun p k d j => (iblk1_at m c t p k d j).trans (hW _ _))) d
  have hzero : ∀ j, k0_pay1 (F := Ideal) j = 0 := fun j => by pointwise [k0_pay1]
  refine congrFun ((dats m 0 c).arrAt_eq_of_after_last 6 tlast (by decide +kernel) (fun j => ((∑ a : Fin 4, ∑ b : Fin 2048, (∑ f, u a b f * w (j 1) f) * (x a b (j 1) * Rms.inv 1024 (x a b)) : ℝ) : EReal)) fun j => ?_) (ix2 0 d)
  idx_vars j
  blk_simp
  rw [after0_6, Pipeline.eq_sum_fin_of_reset_step_apply_last (fun n h => (outsAt0 m c n h).2) 32 (fun _ => 0)
    (fun t j => ((∑ r : Fin 256, (∑ f, u (bat t r) (pos t r) f * w (j 1) f) * (x (bat t r) (pos t r) (j 1) * Rms.inv 1024 (x (bat t r) (pos t r))) : ℝ) : EReal))
      (fun t h j => by
        rw [outsAt0_A m c t h]; frame_out; idx_vars j
        obtain rfl : j0 = 0 := Subsingleton.elim _ _
        rw [key t, hzero])
      (fun t h j => by
        rw [outsAt0_B m c t h]; frame_out; idx_vars j
        obtain rfl : j0 = 0 := Subsingleton.elim _ _
        rw [key t])
      (le_of_eq N_0) tlast rfl _, zero_add, sum_coe]
  exact congrArg _ (sum_rows fun a b => (∑ f, u a b f * w _ f) * (x a b _ * Rms.inv 1024 (x a b)))

end run

end Cert.DxUpKernelIdeal.Real

end
-- ==== Proof.DxUp.lean ====
/- The claims about the up projection's input gradient. -/
module

public import proofs.«01_k».proof.Defs
public import proofs.«01_k».proof.Proof.DxUpRef
public import proofs.«01_k».proof.Proof.DxUpKernel
public import proofs.«01_k».proof.Proof.Gen.DxUpKernel.Frame
public import proofs.«01_k».proof.Proof.Gen.DxUpReferenceIdeal.Run
public import proofs.«01_k».proof.Proof.Gen.Pre_dxup_finite
public import Idealize.ShloMosaic.Adequacy
public import Idealize.ShloMosaic.Init
public import Idealize.ShloMosaic.Lib.Claim

@[expose] public section

set_option maxRecDepth 16384

noncomputable section

open Idealize.ShloMosaic Idealize.ShloMosaic.TcCoe Idealize.SL.Sem

namespace Cert.DxUpProof

open Cert.Lift

theorem frame_kernel : Cert.quiescent_DxUpKernel := fun m ρ _ => Cert.DxUpKernel.Gen.frame m ρ
theorem frame_ideal : Cert.quiescent_DxUpKernelIdeal := fun m ρ _ => Cert.DxUpKernelIdeal.Gen.frame m ρ
theorem frame_ideal_pre : Cert.quiescent_DxUpKernelIdeal_pre_dxup_finite := fun m ρ _ => Cert.DxUpKernelIdeal.Gen.frame m ρ
theorem frame_ref : Cert.quiescent_DxUpReferenceIdeal := fun m ρ _ =>
  (θ_run _ _ _).mono (fun _ h => ⟨fun c => (h c).2.2, sem_eq_zero_of_no_sems (by decide) _⟩) (Cert.DxUpReferenceIdeal.Value.run m ρ)
theorem frame_ref_pre : Cert.quiescent_DxUpReferenceIdeal_pre_dxup_finite := fun m ρ _ => frame_ref m ρ trivial

/-- The precondition: every entry of the arguments but the residual's cotangent is a real number. -/
theorem finite (U : FVec Ideal Cert.Pre_dxup_finite.S4x2048x5632 .f32) (W : FVec Ideal Cert.Pre_dxup_finite.S1024x5632 .f32)
    (X : FVec Ideal Cert.Pre_dxup_finite.S4x2048x1024 .f32) (G : FVec Ideal Cert.Pre_dxup_finite.S1024 .f32)
    (Z : FVec Ideal Cert.Pre_dxup_finite.S4x2048x1024 .f32) (h : Cert.Pre_dxup_finite.fn (F := Ideal) U W X G Z = fun _ => 1#1) :
    (∀ i, U i = ((EReal.toReal (U i) : ℝ) : EReal)) ∧ (∀ i, W i = ((EReal.toReal (W i) : ℝ) : EReal))
      ∧ (∀ i, X i = ((EReal.toReal (X i) : ℝ) : EReal)) ∧ (∀ i, G i = ((EReal.toReal (G i) : ℝ) : EReal)) := by
  have h0 := congrFun h ix0
  simp only [Cert.Pre_dxup_finite.fn, Cert.Pre_dxup_finite.fn_part1, andi, IntOp.andi_eq_one] at h0
  obtain ⟨⟨⟨⟨-, ha⟩, hb⟩, hd⟩, he⟩ := h0
  exact ⟨fun i => finite_of_all _ _ _ (fun _ => bits_inf) _ _ _ _ ha i, fun i => finite_of_all _ _ _ (fun _ => bits_inf) _ _ _ _ hb i,
    fun i => finite_of_all _ _ _ (fun _ => bits_inf) _ _ _ _ hd i, fun i => finite_of_all _ _ _ (fun _ => bits_inf) _ _ _ _ he i⟩

/-- Kernel and reference end with the same two arrays. -/
theorem value : Cert.algebraic_DxUpKernelIdeal_DxUpReferenceIdeal_pre_dxup_finite := by
  intro m ρ m' ρ' hpre hagree
  refine ⟨_, _, Cert.DxUpKernelIdeal.Value.run_blocks m ρ, (θ_run _ _ _).mono (fun r h c => ?_) (Cert.DxUpReferenceIdeal.Value.run m' ρ')⟩
  obtain ⟨hU, hW, hX, hG⟩ := finite _ _ _ _ _ (hpre c)
  obtain ⟨a0, a1, a2, a3, a4⟩ := hagree c
  have kU := fun a b f => hU (ix3 a b f)
  have kW := fun d f => hW (ix2 d f)
  have kX := fun a b d => hX (ix3 a b d)
  have kG := fun d => hG (ix1 d)
  obtain ⟨h39, h40, hargs⟩ := h c
  refine ⟨h39.trans ?_, h40.trans ?_, hargs⟩
  · rw [Cert.DxUpKernelIdeal.Real.final_dx m c _ _ _ _ _ kU kW kX kG fun _ _ _ => rfl, Cert.DxUpReferenceIdeal.Read.val_main_v39_eq, a0, a1, a2, a3, a4]
    funext i
    idx_vars i
    pointwise [Cert.DxUpReferenceIdeal.Read.val_main_v39, Cert.DxUpReferenceIdeal.Real.v38_at _ _ _ _ _ _ _ kX kG _
      (Cert.DxUpReferenceIdeal.Real.v17_at _ _ _ _ kU kW)]
    rfl
  · refine (Cert.DxUpReferenceIdeal.Read.val_main_v40_eq _ _ _).trans ?_
    rw [a0, a1, a2]
    funext i
    idx_vars i
    obtain rfl : i0 = 0 := Subsingleton.elim _ _
    refine Eq.trans ?_ (Cert.DxUpKernelIdeal.Real.final_dg m c _ _ _ _ kU kW kX kG i1).symm
    pointwise [Cert.DxUpReferenceIdeal.Read.val_main_v40, Cert.DxUpReferenceIdeal.Real.v23_at _ _ _ _ kX _
      (Cert.DxUpReferenceIdeal.Real.v17_at _ _ _ _ kU kW)]

end Cert.DxUpProof

end
-- ==== Proof.DxInRef.lean ====
/- The reference of the input projection's input gradient, read element by element: on real arguments its two results are
   the real numbers below. -/
module

public import proofs.«01_k».proof.Proof.DxUpRef
public import proofs.«01_k».proof.Proof.Sums
public import proofs.«01_k».proof.Proof.Gen.DxInReferenceIdeal
public import proofs.«01_k».proof.Proof.Gen.DxInReferenceIdeal.Read
public import Idealize.ShloMosaic.Lib.Pointwise
public import Idealize.ShloMosaic.Lib.IdealHost

@[expose] public section

set_option maxRecDepth 16384

noncomputable section

open Idealize.ShloMosaic Idealize.ShloMosaic.TcCoe Idealize.SL.Sem
open scoped BigOperators

namespace Cert.DxInReferenceIdeal.Real

open Cert.DxInReferenceIdeal Cert.DxInReferenceIdeal.Gen Cert.DxInReferenceIdeal.Read Cert.Lift

variable (U : FVec Ideal S4x2048x2822 .f32) (W : FVec Ideal S1024x2822 .f32) (X : FVec Ideal S4x2048x1024 .f32)
  (G : FVec Ideal S1024 .f32) (Z : FVec Ideal S4x2048x1024 .f32)
  (u : Fin 4 → Fin 2048 → Fin 2822 → ℝ) (w : Fin 1024 → Fin 2822 → ℝ) (x : Fin 4 → Fin 2048 → Fin 1024 → ℝ) (g : Fin 1024 → ℝ)
  (hU : ∀ a b f, U (ix3 a b f) = ((u a b f : ℝ) : EReal)) (hW : ∀ d f, W (ix2 d f) = ((w d f : ℝ) : EReal))
  (hX : ∀ a b d, X (ix3 a b d) = ((x a b d : ℝ) : EReal)) (hG : ∀ d, G (ix1 d) = ((g d : ℝ) : EReal))

section norm
include hX

theorem v7_at (a : Fin 4) (b : Fin 2048) : val_main_v7 (F := Ideal) X (ix3 a b 0) = ((Rms.inv 1024 (x a b) : ℝ) : EReal) :=
  Cert.DxUpReferenceIdeal.Real.v7_at X x hX a b

theorem v10_any (a : Fin 4) (b : Fin 2048) (z : Fin 1) : val_main_v10 (F := Ideal) X (ix3 a b z)
    = ((-(1 / 2) * (Rms.inv 1024 (x a b) / Rms.var 1024 (x a b)) : ℝ) : EReal) :=
  Cert.DxUpReferenceIdeal.Real.v10_any X x hX a b z

theorem v12_at (a : Fin 4) (b : Fin 2048) (d : Fin 1024) : val_main_v12 (F := Ideal) X (ix3 a b d)
    = ((x a b d * Rms.inv 1024 (x a b) : ℝ) : EReal) :=
  Cert.DxUpReferenceIdeal.Real.v12_at X x hX a b d

end norm

include hU hW in
/-- The cotangent of the normalised row: the product with the projection's weights. -/
theorem v17_at (a : Fin 4) (b : Fin 2048) (d : Fin 1024) : val_main_v17 (F := Ideal) U W (ix3 a b d)
    = ((∑ f, u a b f * w d f : ℝ) : EReal) := by
  pointwise [val_main_v17]
  simp only [hU, hW, ← EReal.coe_mul, sum_coe]

variable (h : Fin 4 → Fin 2048 → Fin 1024 → ℝ)
  (hH : ∀ a b d, val_main_v17 (F := Ideal) U W (ix3 a b d) = ((h a b d : ℝ) : EReal))
include hX hG hH

theorem v22_at (a : Fin 4) (b : Fin 2048) (d : Fin 1024) : val_main_v22 (F := Ideal) U W G (ix3 a b d)
    = ((h a b d * g d : ℝ) : EReal) := by
  pointwise [val_main_v22, val_main_v21, val_main_v13, hH]
  simp only [hG, ← EReal.coe_mul]

theorem v38_at (a : Fin 4) (b : Fin 2048) (d : Fin 1024) : val_main_v38 (F := Ideal) U W X G Z (ix3 a b d)
    = Z (ix3 a b d) + ((Rms.back 1024 (x a b) (fun k => h a b k * g k) d : ℝ) : EReal) := by
  pointwise [val_main_v38, val_main_v37, val_main_v36, val_main_v35, val_main_v34, val_main_v33, val_main_v32, val_main_v31, val_main_v30,
    val_main_v29, val_main_v28, val_main_v27, val_main_v26, val_main_v25, val_main_v24, val_main_cst_5, val_main_cst_6, val_main_cst_7,
    v22_at U W X G x g hX hG h hH, v7_at X x hX]
  simp only [Fin.sum_univ_one, Finset.univ_unique, Finset.sum_singleton]
  simp only [v10_any X x hX a b, hX, bits_1024, ← EReal.coe_mul, sum_coe, zero_add]
  rw [div_real _ (by norm_num)]
  simp only [← EReal.coe_mul, add_assoc, ← EReal.coe_add]
  rw [← add_assoc (h a b d * g d * _)]
  exact congrArg (fun r : ℝ => Z (ix3 a b d) + (r : EReal))
    (Rms.chain_eq_back (show (0 : ℝ) < 1024 by norm_num) (x a b) (fun k => h a b k * g k) d)

omit hG in
theorem v23_at (d : Fin 1024) : val_main_v23 (F := Ideal) U W X (ix1 d)
    = ((∑ a : Fin 4, ∑ b : Fin 2048, h a b d * (x a b d * Rms.inv 1024 (x a b)) : ℝ) : EReal) := by
  pointwise [val_main_v23, val_main_v20, val_main_v19, val_main_v18, v12_at X x hX, hH,
    Sums.hostReduceAdd_lead, val_main_cst_3, val_main_cst_4]
  simp only [Fin.sum_univ_one, Finset.univ_unique, Finset.sum_singleton, ← EReal.coe_mul, sum_coe]
  exact congrArg _ (Finset.sum_congr rfl fun a _ => Finset.sum_congr rfl fun b _ => by ring)

end Cert.DxInReferenceIdeal.Real

end
-- ==== Proof.Pad.lean ====
/- The packed order of the input projection's 2822 columns: the forget gate's six columns go behind the others, and zeros
   fill the row up to 3072. A row's products summed in that order are the products summed as given. -/
module

public import proofs.«01_k».proof.Proof.Lift

@[expose] public section

noncomputable section

open scoped BigOperators

namespace Cert.Pad

variable {M : Type} [Zero M]

/-- A row of 2822 entries as a function of the number of its column, zero past the end. -/
def ext (f : Fin 2822 → M) (n : ℕ) : M := if h : n < 2822 then f ⟨n, h⟩ else 0

/-- The packed row. -/
def pad (f : ℕ → M) (j : ℕ) : M := if j < 1152 then f j else if j < 2816 then f (j + 6) else if j < 2822 then f (j - 1664) else 0

theorem ext_val (f : Fin 2822 → M) (k : Fin 2822) : ext f k.val = f k := dif_pos k.isLt

/-- The packed row as the four pieces laid end to end. -/
theorem pieces_eq (f : Fin 2822 → M) (j : ℕ) :
    (if h : j < 1152 then f ⟨j, by omega⟩ else if h : j - 1152 < 1664 then f ⟨1158 + (j - 1152), by omega⟩
      else if h : j - 1152 - 1664 < 6 then f ⟨1152 + (j - 1152 - 1664), by omega⟩ else 0) = pad (ext f) j := by
  have e : ∀ (k : ℕ) (hk : k < 2822) (n : ℕ), n = k → ext f n = f ⟨k, hk⟩ := by
    rintro k hk _ rfl
    exact dif_pos hk
  unfold pad
  by_cases h1 : j < 1152
  · rw [dif_pos h1, if_pos h1, e j (by omega) _ rfl]
  rw [dif_neg h1, if_neg h1]
  by_cases h2 : j < 2816
  · rw [dif_pos (by omega), if_pos h2, e (1158 + (j - 1152)) (by omega) _ (by omega)]
  rw [dif_neg (by omega), if_neg h2]
  by_cases h3 : j < 2822
  · rw [dif_pos (by omega), if_pos h3, e (1152 + (j - 1152 - 1664)) (by omega) _ (by omega)]
  · rw [dif_neg (by omega), if_neg h3]

theorem coe_pad_ext (f : Fin 2822 → ℝ) (j : ℕ) :
    pad (ext fun k => ((f k : ℝ) : EReal)) j = ((pad (ext f) j : ℝ) : EReal) := by
  unfold pad ext
  split_ifs <;> rfl

theorem pad_mul (f g : ℕ → ℝ) (j : ℕ) : pad f j * pad g j = pad (fun n => f n * g n) j := by
  unfold pad
  split_ifs <;> simp

theorem sum_pad (f : ℕ → ℝ) : ∑ j : Fin 3072, pad f j.val = ∑ k : Fin 2822, f k.val := by
  rw [← Finset.sum_range (fun j => pad f j), ← Finset.sum_range (fun k => f k),
    show 3072 = 1152 + 1664 + 6 + 250 from rfl, Finset.sum_range_add, Finset.sum_range_add, Finset.sum_range_add,
    show 2822 = 1152 + 6 + 1664 from rfl, Finset.sum_range_add, Finset.sum_range_add]
  have e1 : ∀ j ∈ Finset.range 1152, pad f j = f j := fun j hj => by
    have := Finset.mem_range.1 hj
    exact if_pos this
  have e2 : ∀ j ∈ Finset.range 1664, pad f (1152 + j) = f (1152 + 6 + j) := fun j hj => by
    have := Finset.mem_range.1 hj
    rw [pad, if_neg (by omega), if_pos (by omega)]
    exact congrArg f (by omega)
  have e3 : ∀ j ∈ Finset.range 6, pad f (1152 + 1664 + j) = f (1152 + j) := fun j hj => by
    have := Finset.mem_range.1 hj
    rw [pad, if_neg (by omega), if_neg (by omega), if_pos (by omega)]
    exact congrArg f (by omega)
  have e4 : ∀ j ∈ Finset.range 250, pad f (1152 + 1664 + 6 + j) = 0 := fun j _ => by
    rw [pad, if_neg (by omega), if_neg (by omega), if_neg (by omega)]
  rw [Finset.sum_congr rfl e1, Finset.sum_congr rfl e2, Finset.sum_congr rfl e3, Finset.sum_congr rfl e4, Finset.sum_const_zero]
  ring

/-- Two packed rows have the inner product of the rows themselves. -/
theorem dot_pad (f g : Fin 2822 → ℝ) : ∑ j : Fin 3072, pad (ext f) j.val * pad (ext g) j.val = ∑ k, f k * g k := by
  simp only [pad_mul, sum_pad, ext_val]

end Cert.Pad

end
-- ==== Proof.DxInKernel.lean ====
/- The input projection's input gradient with the norm's, point by point: on real arguments the kernel's two result arrays
   are the real numbers the reference computes. -/
module

public import proofs.«01_k».proof.Proof.Rms
public import proofs.«01_k».proof.Proof.Pad
public import proofs.«01_k».proof.Proof.Sums
public import proofs.«01_k».proof.Proof.Gen.DxInKernelIdeal.Value
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open scoped BigOperators

namespace Cert.DxInKernelIdeal.Real

open Cert.DxInKernelIdeal Cert.DxInKernelIdeal.Gen Cert.Lift
open Idealize.ShloMosaic.Pipeline (Dat)

section payloads

variable (v3 : Vec Ideal S512x3072 .bf16) (v5 : Vec Ideal S1024x3072 .bf16) (v8 : Vec Ideal S512x1024 .f32) (v10 v41 : Vec Ideal S1x1024 .f32)
  (a : Fin 512 → Fin 2822 → ℝ) (b : Fin 1024 → Fin 2822 → ℝ) (x : Fin 512 → Fin 1024 → ℝ) (g : Fin 1024 → ℝ)
  (hA : ∀ r j, v3 (ix2 r j) = ((Pad.pad (Pad.ext (a r)) j.val : ℝ) : EReal))
  (hB : ∀ d j, v5 (ix2 d j) = ((Pad.pad (Pad.ext (b d)) j.val : ℝ) : EReal))
  (hx : ∀ r d, v8 (ix2 r d) = ((x r d : ℝ) : EReal))

include hA hB in
/-- The product of the block's packed rows with the packed weights. -/
theorem pay4_at (r : Fin 512) (d : Fin 1024) : k0_pay4 (F := Ideal) v3 v5 (ix2 r d) = ((∑ f, a r f * b d f : ℝ) : EReal) := by
  pointwise [k0_pay4]
  simp only [hA, hB, ← EReal.coe_mul, sum_coe, zero_add]
  exact congrArg _ (Pad.dot_pad (a r) (b d))

include hx

theorem pay6_at (r : Fin 512) : k0_pay6 (F := Ideal) v8 (ix2 r 0) = ((Rms.inv 1024 (x r) : ℝ) : EReal) := by
  pointwise [k0_pay6, k0_pay5]
  simp only [hx, bits_1024, bits_eps, ← EReal.coe_mul, sum_coe, zero_add]
  rw [div_real _ (by norm_num), ← EReal.coe_add]
  exact Rms.rsqrt_var (by norm_num) _

theorem pay7_at (r : Fin 512) (d : Fin 1024) : k0_pay7 (F := Ideal) v8 (ix2 r d) = ((x r d * Rms.inv 1024 (x r) : ℝ) : EReal) := by
  pointwise [k0_pay7, k0_pay5, pay6_at v8 x hx]
  simp only [hx, ← EReal.coe_mul]

include hA hB

/-- What the block adds to the gain's gradient. -/
theorem pay8_at (d : Fin 1024) : k0_pay2 (F := Ideal) (k0_pay8 v3 v5 v8) v41 (ix2 0 d)
    = v41 (ix2 0 d) + ((∑ r : Fin 512, (∑ f, a r f * b d f) * (x r d * Rms.inv 1024 (x r)) : ℝ) : EReal) := by
  pointwise [k0_pay2, k0_pay8, pay4_at v3 v5 a b hA hB, pay7_at v8 x hx]
  simp only [← EReal.coe_mul, sum_coe]

/-- The norm's gradient in the block. -/
theorem pay9_at (hg : ∀ d, v10 (ix2 0 d) = ((g d : ℝ) : EReal)) (v37 : Vec Ideal S512x1024 .f32) (r : Fin 512) (d : Fin 1024) :
    k0_pay1 (F := Ideal) (k0_pay9 v3 v5 v8 v10) (k0_pay10 v37) (ix2 r d)
      = v37 (ix2 r d) + ((Rms.back 1024 (x r) (fun k => (∑ f, a r f * b k f) * g k) d : ℝ) : EReal) := by
  pointwise [k0_pay1, k0_pay10, k0_pay9, pay4_at v3 v5 a b hA hB, pay6_at v8 x hx, pay7_at v8 x hx]
  simp only [hg, bits_1024, ← EReal.coe_mul, sum_coe]
  rw [div_real _ (by norm_num)]
  simp only [← EReal.coe_mul, ← EReal.coe_sub]
  rfl

end payloads

section run

variable (m : (ℓ : Loc nD τ sig) → Buf (Elt Ideal) ℓ) (c : Dev nD)

/-- Where each window sits at a grid point. -/
theorem idx_val : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, win0_0.index t = ![t.val, 0] ∧ win0_1.index t = ![0, 0] ∧ win0_2.index t = ![t.val, 0]
    ∧ win0_3.index t = ![0, 0] ∧ win0_4.index t = ![t.val, 0] ∧ win0_5.index t = ![t.val, 0])

/-- The last grid point. -/
def tlast : Fin cfg0.N := ⟨15, by rw [show cfg0.N = 16 from N_0]; norm_num⟩

theorem pt_lt (t : Fin cfg0.N) : t.val < 16 := lt_of_lt_of_eq t.isLt N_0

/-- Row `r` of point `t`'s block: its batch, and its place in the sequence. -/
def bat (t : Fin cfg0.N) (r : Fin 512) : Fin 4 := ⟨(t.val * 512 + r.val) / 2048, by have := pt_lt t; omega⟩
def pos (t : Fin cfg0.N) (r : Fin 512) : Fin 2048 := ⟨(t.val * 512 + r.val) % 2048, by omega⟩

/-- Batch and place of a row of the flattened array. -/
def row (i : S8192x1024.Idx) : Fin 4 × Fin 2048 :=
  (⟨(i 0).val / 2048, by have : (i 0).val < 8192 := (i 0).isLt; omega⟩, ⟨(i 0).val % 2048, by omega⟩)

/-- The points' rows, one block after the other, are the rows of the batch. -/
theorem sum_rows (f : Fin 4 → Fin 2048 → ℝ) :
    ∑ p : Fin cfg0.N, ∑ r : Fin 512, f (bat p r) (pos p r) = ∑ a : Fin 4, ∑ b : Fin 2048, f a b :=
  Sums.sum_reblock (by rw [show cfg0.N = 16 from N_0]) (by norm_num) f bat pos (fun _ _ => rfl) (fun _ _ => rfl)

/-- The rows of the projection's gradient with their columns in packed order. -/
def packP (P : FVec Ideal S4x2048x2822 .f32) : FVec Ideal S4x2048x3072 .bf16 :=
  let Q : FVec Ideal S4x2048x2822 .bf16 := truncf .bf16 P bitsLt_bf16_f32
  let q0 : FVec Ideal S4x2048x1152 .bf16 := extractStridedSlice S4x2048x1152 ![0, 0, 0] Q slices_S4x2048x2822_S4x2048x1152_0_0_0
  let q1 : FVec Ideal S4x2048x1664 .bf16 := extractStridedSlice S4x2048x1664 ![0, 0, 1158] Q slices_S4x2048x2822_S4x2048x1664_0_0_1158
  let q2 : FVec Ideal S4x2048x6 .bf16 := extractStridedSlice S4x2048x6 ![0, 0, 1152] Q slices_S4x2048x2822_S4x2048x6_0_0_1152
  let q3 : FVec Ideal S4x2048x250 .bf16 := broadcastInDim S4x2048x250 ![] bcast_S_S4x2048x250 (constant (F := Ideal) S_ .bf16 0x0000#16)
  concatenate S4x2048x3072 2 [⟨S4x2048x1152, q0⟩, ⟨S4x2048x1664, q1⟩, ⟨S4x2048x6, q2⟩, ⟨S4x2048x250, q3⟩]
    concatenates_S4x2048x1152_S4x2048x1664_S4x2048x6_S4x2048x250_S4x2048x3072_d2

/-- The projection's matrix with its columns in packed order. -/
def packW (P : FVec Ideal S1024x2822 .f32) : FVec Ideal S1024x3072 .bf16 :=
  let Q : FVec Ideal S1024x2822 .bf16 := truncf .bf16 P bitsLt_bf16_f32
  let q0 : FVec Ideal S1024x1152 .bf16 := extractStridedSlice S1024x1152 ![0, 0] Q slices_S1024x2822_S1024x1152_0_0
  let q1 : FVec Ideal S1024x1664 .bf16 := extractStridedSlice S1024x1664 ![0, 1158] Q slices_S1024x2822_S1024x1664_0_1158
  let q2 : FVec Ideal S1024x6 .bf16 := extractStridedSlice S1024x6 ![0, 1152] Q slices_S1024x2822_S1024x6_0_1152
  let q3 : FVec Ideal S1024x250 .bf16 := broadcastInDim S1024x250 ![] bcast_S_S1024x250 (constant (F := Ideal) S_ .bf16 0x0000#16)
  concatenate S1024x3072 1 [⟨S1024x1152, q0⟩, ⟨S1024x1664, q1⟩, ⟨S1024x6, q2⟩, ⟨S1024x250, q3⟩]
    concatenates_S1024x1152_S1024x1664_S1024x6_S1024x250_S1024x3072_d1

theorem packP_at (P : FVec Ideal S4x2048x2822 .f32) (a : Fin 4) (b : Fin 2048) (j : Fin 3072) :
    packP P (ix3 a b j) = Pad.pad (Pad.ext (M := EReal) fun f => P (ix3 a b f)) j.val := by
  unfold packP
  pointwise [Ideal.ofBits_zero_bf16]
  exact Pad.pieces_eq (M := EReal) (fun f => P (ix3 a b f)) j.val

theorem packW_at (P : FVec Ideal S1024x2822 .f32) (d : Fin 1024) (j : Fin 3072) :
    packW P (ix2 d j) = Pad.pad (Pad.ext (M := EReal) fun f => P (ix2 d f)) j.val := by
  unfold packW
  pointwise [Ideal.ofBits_zero_bf16]
  exact Pad.pieces_eq (M := EReal) (fun f => P (ix2 d f)) j.val

theorem entry_v6 : V m c main_v6 = shapeCast S8192x3072 (packP (m ((c : Thread nD τ).loc main_arg0))) shapeCasts_S4x2048x3072_S8192x3072 :=
  rfl

theorem entry_v12 : V m c main_v12 = packW (m ((c : Thread nD τ).loc main_arg1)) :=
  rfl

theorem iblk0_at (t : Fin cfg0.N) (r : Fin 512) (j : Fin 3072) :
    iblk m c 0 t (ix2 r j) = Pad.pad (Pad.ext (M := EReal) fun f => m ((c : Thread nD τ).loc main_arg0) (ix3 (bat t r) (pos t r) f)) j.val := by
  refine Eq.trans ?_ (packP_at (m ((c : Thread nD τ).loc main_arg0)) (bat t r) (pos t r) j)
  blk_simp [iblk, idx_val t]
  rw [entry_v6]
  generalize packP _ = X
  pointwise
  unfold bat pos
  blk_ext [idx_val t]

theorem iblk1_at (t : Fin cfg0.N) (d : Fin 1024) (j : Fin 3072) :
    iblk m c 1 t (ix2 d j) = Pad.pad (Pad.ext (M := EReal) fun f => m ((c : Thread nD τ).loc main_arg1) (ix2 d f)) j.val := by
  refine Eq.trans ?_ (packW_at (m ((c : Thread nD τ).loc main_arg1)) d j)
  blk_simp [iblk, idx_val t]
  rw [entry_v12]
  generalize packW _ = X
  blk_ext [idx_val t]

theorem iblk2_at (t : Fin cfg0.N) (r : Fin 512) (d : Fin 1024) :
    iblk m c 2 t (ix2 r d) = m ((c : Thread nD τ).loc main_arg2) (ix3 (bat t r) (pos t r) d) := by
  blk_simp [iblk, idx_val t]
  entry_read
  pointwise
  unfold bat pos
  blk_ext [idx_val t]

theorem iblk3_at (t : Fin cfg0.N) (d : Fin 1024) :
    iblk m c 3 t (ix2 0 d) = m ((c : Thread nD τ).loc main_arg3) (ix1 d) := by
  blk_simp [iblk, idx_val t]
  entry_read
  pointwise
  blk_ext [idx_val t]

theorem iblk4_at (t : Fin cfg0.N) (r : Fin 512) (d : Fin 1024) :
    iblk m c 4 t (ix2 r d) = m ((c : Thread nD τ).loc main_arg4) (ix3 (bat t r) (pos t r) d) := by
  blk_simp [iblk, idx_val t]
  entry_read
  pointwise
  unfold bat pos
  blk_ext [idx_val t]

theorem iblk0_real (u : Fin 4 → Fin 2048 → Fin 2822 → ℝ) (hU : ∀ a b f, m ((c : Thread nD τ).loc main_arg0) (ix3 a b f) = ((u a b f : ℝ) : EReal))
    (t : Fin cfg0.N) (r : Fin 512) (j : Fin 3072) :
    iblk m c 0 t (ix2 r j) = ((Pad.pad (Pad.ext (u (bat t r) (pos t r))) j.val : ℝ) : EReal) := by
  rw [iblk0_at, ← Pad.coe_pad_ext]
  exact congrArg (fun f => Pad.pad (Pad.ext (M := EReal) f) j.val) (funext fun f => hU _ _ f)

theorem iblk1_real (w : Fin 1024 → Fin 2822 → ℝ) (hW : ∀ d f, m ((c : Thread nD τ).loc main_arg1) (ix2 d f) = ((w d f : ℝ) : EReal))
    (t : Fin cfg0.N) (d : Fin 1024) (j : Fin 3072) :
    iblk m c 1 t (ix2 d j) = ((Pad.pad (Pad.ext (w d)) j.val : ℝ) : EReal) := by
  rw [iblk1_at, ← Pad.coe_pad_ext]
  exact congrArg (fun f => Pad.pad (Pad.ext (M := EReal) f) j.val) (funext fun f => hW _ f)

variable (u : Fin 4 → Fin 2048 → Fin 2822 → ℝ) (w : Fin 1024 → Fin 2822 → ℝ) (x : Fin 4 → Fin 2048 → Fin 1024 → ℝ) (g : Fin 1024 → ℝ)
  (z : Fin 4 → Fin 2048 → Fin 1024 → EReal)
  (hU : ∀ a b f, m ((c : Thread nD τ).loc main_arg0) (ix3 a b f) = ((u a b f : ℝ) : EReal))
  (hW : ∀ d f, m ((c : Thread nD τ).loc main_arg1) (ix2 d f) = ((w d f : ℝ) : EReal))
  (hX : ∀ a b d, m ((c : Thread nD τ).loc main_arg2) (ix3 a b d) = ((x a b d : ℝ) : EReal))
  (hG : ∀ d, m ((c : Thread nD τ).loc main_arg3) (ix1 d) = ((g d : ℝ) : EReal))
  (hZ : ∀ a b d, m ((c : Thread nD τ).loc main_arg4) (ix3 a b d) = z a b d)
include hU hW hX hG

include hZ in
/-- The array of the input's gradient after the run. -/
theorem final_dx : (dats m 0 c).arrAt 5 cfg0.N = fun i => z (row i).1 (row i).2 (i 1)
      + ((Rms.back 1024 (x (row i).1 (row i).2) (fun k => (∑ f, u (row i).1 (row i).2 f * w k f) * g k) (i 1) : ℝ) : EReal) := by
  have key := fun (t : Fin cfg0.N) (r : Fin 512) (d : Fin 1024) =>
    (pay9_at (iblk m c 0 t) (iblk m c 1 t) (iblk m c 2 t) (iblk m c 3 t) (fun r => u (bat t r) (pos t r)) w (fun r => x (bat t r) (pos t r)) g
      (iblk0_real m c u hU t) (iblk1_real m c w hW t) (fun r d => (iblk2_at m c t r d).trans (hX _ _ _))
      (fun d => (iblk3_at m c t d).trans (hG d)) (iblk m c 4 t) r d).trans
    (congrArg (· + _) ((iblk4_at m c t r d).trans (hZ _ _ _)))
  refine (dats m 0 c).arrAt_eq_of_covers 5 _ (by decide +kernel) fun t hf i => ?_
  have hw : win0_5.index t 0 = t.val := congrFun (idx_val t).2.2.2.2.2 0
  have e0 : ∀ (i0 : Fin 512) (i1 : Fin 1024), ((((cfg0.win 5).blk t).view.emb (ix2 i0 i1) 0 : Fin 8192)).val = t.val * 512 + i0.val := by
    intro i0 i1
    blk_simp
    rw [hw]
  have e : ∀ (i0 : Fin 512) (i1 : Fin 1024), row (((cfg0.win 5).blk t).view.emb (ix2 i0 i1)) = (bat t i0, pos t i0) := by
    intro i0 i1
    exact Prod.ext (Fin.ext (congrArg (· / 2048) (e0 i0 i1))) (Fin.ext (congrArg (· % 2048) (e0 i0 i1)))
  have e1 : ∀ (i0 : Fin 512) (i1 : Fin 1024), ((cfg0.win 5).blk t).view.emb (ix2 i0 i1) 1 = i1 := by
    intro i0 i1
    refine Fin.ext (show (((((cfg0.win 5).blk t).view.emb (ix2 i0 i1) 1 : Fin 1024)).val = i1.val) from ?_)
    blk_simp
    rw [show win0_5.index t 1 = 0 from congrFun (idx_val t).2.2.2.2.2 1, Nat.zero_mul, Nat.zero_add]
  idx_vars i
  show _ = z (row _).1 (row _).2 _
    + ((Rms.back 1024 (x (row _).1 (row _).2) (fun k => (∑ f, u (row _).1 (row _).2 f * w k f) * g k) _ : ℝ) : EReal)
  rw [e, e1]
  blk_simp
  rw [after0_5]
  by_cases h : t.val % 16 = 0
  · rw [outsAt0_A m c t h]
    dsimp only
    frame_out
    exact key t _ _
  · rw [outsAt0_B m c t h]
    dsimp only
    frame_out
    exact key t _ _

/-- The array of the gain's gradient after the run. -/
theorem final_dg (d : Fin 1024) : (dats m 0 c).arrAt 6 cfg0.N (ix2 0 d)
     = ((∑ a : Fin 4, ∑ b : Fin 2048, (∑ f, u a b f * w d f) * (x a b d * Rms.inv 1024 (x a b)) : ℝ) : EReal) := by
  have key := fun (t : Fin cfg0.N) (v41 : Vec Ideal S1x1024 .f32) (d : Fin 1024) =>
    pay8_at (iblk m c 0 t) (iblk m c 1 t) (iblk m c 2 t) v41 (fun r => u (bat t r) (pos t r)) w (fun r => x (bat t r) (pos t r))
      (iblk0_real m c u hU t) (iblk1_real m c w hW t) (fun r d => (iblk2_at m c t r d).trans (hX _ _ _)) d
  have hzero : ∀ j, k0_pay3 (F := Ideal) j = 0 := fun j => by pointwise [k0_pay3]
  refine congrFun ((dats m 0 c).arrAt_eq_of_after_last 6 tlast (by decide +kernel) (fun j => ((∑ a : Fin 4, ∑ b : Fin 2048, (∑ f, u a b f * w (j 1) f) * (x a b (j 1) * Rms.inv 1024 (x a b)) : ℝ) : EReal)) fun j => ?_) (ix2 0 d)
  idx_vars j
  blk_simp
  rw [after0_6, Pipeline.eq_sum_fin_of_reset_step_apply_last (fun n h => (outsAt0 m c n h).2) 16 (fun _ => 0)
    (fun t j => ((∑ r : Fin 512, (∑ f, u (bat t r) (pos t r) f * w (j 1) f) * (x (bat t r) (pos t r) (j 1) * Rms.inv 1024 (x (bat t r) (pos t r))) : ℝ) : EReal))
      (fun t h j => by
        rw [outsAt0_A m c t h]; frame_out; idx_vars j
        obtain rfl : j0 = 0 := Subsingleton.elim _ _
        rw [key t, hzero])
      (fun t h j => by
        rw [outsAt0_B m c t h]; frame_out; idx_vars j
        obtain rfl : j0 = 0 := Subsingleton.elim _ _
        rw [key t])
      (le_of_eq N_0) tlast rfl _, zero_add, sum_coe]
  exact congrArg _ (sum_rows fun a b => (∑ f, u a b f * w _ f) * (x a b _ * Rms.inv 1024 (x a b)))

end run

end Cert.DxInKernelIdeal.Real

end
-- ==== Proof.DxIn.lean ====
/- The claims about the input projection's input gradient. -/
module

public import proofs.«01_k».proof.Defs
public import proofs.«01_k».proof.Proof.DxInRef
public import proofs.«01_k».proof.Proof.DxInKernel
public import proofs.«01_k».proof.Proof.Gen.DxInKernel.Frame
public import proofs.«01_k».proof.Proof.Gen.DxInReferenceIdeal.Run
public import proofs.«01_k».proof.Proof.Gen.Pre_dxin_finite
public import Idealize.ShloMosaic.Adequacy
public import Idealize.ShloMosaic.Init
public import Idealize.ShloMosaic.Lib.Claim

@[expose] public section

set_option maxRecDepth 16384

noncomputable section

open Idealize.ShloMosaic Idealize.ShloMosaic.TcCoe Idealize.SL.Sem

namespace Cert.DxInProof

open Cert.Lift

theorem frame_kernel : Cert.quiescent_DxInKernel := fun m ρ _ => Cert.DxInKernel.Gen.frame m ρ
theorem frame_ideal : Cert.quiescent_DxInKernelIdeal := fun m ρ _ => Cert.DxInKernelIdeal.Gen.frame m ρ
theorem frame_ideal_pre : Cert.quiescent_DxInKernelIdeal_pre_dxin_finite := fun m ρ _ => Cert.DxInKernelIdeal.Gen.frame m ρ
theorem frame_ref : Cert.quiescent_DxInReferenceIdeal := fun m ρ _ =>
  (θ_run _ _ _).mono (fun _ h => ⟨fun c => (h c).2.2, sem_eq_zero_of_no_sems (by decide) _⟩) (Cert.DxInReferenceIdeal.Value.run m ρ)
theorem frame_ref_pre : Cert.quiescent_DxInReferenceIdeal_pre_dxin_finite := fun m ρ _ => frame_ref m ρ trivial

/-- The precondition: every entry of the arguments but the residual's cotangent is a real number. -/
theorem finite (U : FVec Ideal Cert.Pre_dxin_finite.S4x2048x2822 .f32) (W : FVec Ideal Cert.Pre_dxin_finite.S1024x2822 .f32)
    (X : FVec Ideal Cert.Pre_dxin_finite.S4x2048x1024 .f32) (G : FVec Ideal Cert.Pre_dxin_finite.S1024 .f32)
    (Z : FVec Ideal Cert.Pre_dxin_finite.S4x2048x1024 .f32) (h : Cert.Pre_dxin_finite.fn (F := Ideal) U W X G Z = fun _ => 1#1) :
    (∀ i, U i = ((EReal.toReal (U i) : ℝ) : EReal)) ∧ (∀ i, W i = ((EReal.toReal (W i) : ℝ) : EReal))
      ∧ (∀ i, X i = ((EReal.toReal (X i) : ℝ) : EReal)) ∧ (∀ i, G i = ((EReal.toReal (G i) : ℝ) : EReal)) := by
  have h0 := congrFun h ix0
  simp only [Cert.Pre_dxin_finite.fn, Cert.Pre_dxin_finite.fn_part1, andi, IntOp.andi_eq_one] at h0
  obtain ⟨⟨⟨⟨-, ha⟩, hb⟩, hd⟩, he⟩ := h0
  exact ⟨fun i => finite_of_all _ _ _ (fun _ => bits_inf) _ _ _ _ ha i, fun i => finite_of_all _ _ _ (fun _ => bits_inf) _ _ _ _ hb i,
    fun i => finite_of_all _ _ _ (fun _ => bits_inf) _ _ _ _ hd i, fun i => finite_of_all _ _ _ (fun _ => bits_inf) _ _ _ _ he i⟩

/-- Kernel and reference end with the same two arrays. -/
theorem value : Cert.algebraic_DxInKernelIdeal_DxInReferenceIdeal_pre_dxin_finite := by
  intro m ρ m' ρ' hpre hagree
  refine ⟨_, _, Cert.DxInKernelIdeal.Value.run_blocks m ρ, (θ_run _ _ _).mono (fun r h c => ?_) (Cert.DxInReferenceIdeal.Value.run m' ρ')⟩
  obtain ⟨hU, hW, hX, hG⟩ := finite _ _ _ _ _ (hpre c)
  obtain ⟨a0, a1, a2, a3, a4⟩ := hagree c
  have kU := fun a b f => hU (ix3 a b f)
  have kW := fun d f => hW (ix2 d f)
  have kX := fun a b d => hX (ix3 a b d)
  have kG := fun d => hG (ix1 d)
  obtain ⟨h39, h40, hargs⟩ := h c
  refine ⟨h39.trans ?_, h40.trans ?_, hargs⟩
  · rw [Cert.DxInKernelIdeal.Real.final_dx m c _ _ _ _ _ kU kW kX kG fun _ _ _ => rfl, Cert.DxInReferenceIdeal.Read.val_main_v39_eq, a0, a1, a2, a3, a4]
    funext i
    idx_vars i
    pointwise [Cert.DxInReferenceIdeal.Read.val_main_v39, Cert.DxInReferenceIdeal.Real.v38_at _ _ _ _ _ _ _ kX kG _
      (Cert.DxInReferenceIdeal.Real.v17_at _ _ _ _ kU kW)]
    rfl
  · refine (Cert.DxInReferenceIdeal.Read.val_main_v40_eq _ _ _).trans ?_
    rw [a0, a1, a2]
    funext i
    idx_vars i
    obtain rfl : i0 = 0 := Subsingleton.elim _ _
    refine Eq.trans ?_ (Cert.DxInKernelIdeal.Real.final_dg m c _ _ _ _ kU kW kX kG i1).symm
    pointwise [Cert.DxInReferenceIdeal.Read.val_main_v40, Cert.DxInReferenceIdeal.Real.v23_at _ _ _ _ kX _
      (Cert.DxInReferenceIdeal.Real.v17_at _ _ _ _ kU kW)]

end Cert.DxInProof

end
-- ==== Proof.Att.lean ====
/- One row of an attention and its gradient, over the reals: weights `w` (zero where a key is masked), scores `S`. The
   normalised row `prob` does not depend on the shift a softmax takes the exponentials at, and both the gradient as a
   chain of a softmax's steps and the one with the logarithm of the row's mass subtracted are `grad`. -/
module

public import Mathlib.Analysis.SpecialFunctions.Log.Basic
public import Mathlib.Algebra.BigOperators.Ring.Finset
public import Mathlib.Algebra.BigOperators.Field
public import Mathlib.Algebra.Order.BigOperators.Group.Finset
public import Mathlib.Tactic.FieldSimp
public import Mathlib.Tactic.Ring
public import Mathlib.Tactic.Linarith
public import Mathlib.Tactic.Positivity

@[expose] public section

noncomputable section

open scoped BigOperators

namespace Cert.Att

variable {N : Type} [Fintype N]

/-- The row's mass with the exponentials shifted by `M`. -/
def mass (w S : N → ℝ) (M : ℝ) : ℝ := ∑ s, w s * Real.exp (S s - M)
/-- The normalised row. -/
def prob (w S : N → ℝ) (s : N) : ℝ := w s * Real.exp (S s) / mass w S 0
/-- The gradient of the scores, `p` being the cotangents of the normalised row. -/
def grad (w S p : N → ℝ) (s : N) : ℝ := prob w S s * (p s - ∑ r, prob w S r * p r)

variable {w S : N → ℝ}

theorem mass_shift (M : ℝ) : mass w S M = mass w S 0 * Real.exp (-M) := by
  unfold mass
  rw [Finset.sum_mul]
  refine Finset.sum_congr rfl fun s _ => ?_
  rw [sub_zero, mul_assoc, ← Real.exp_add, sub_eq_add_neg]

theorem mass_pos (hw : ∀ s, 0 ≤ w s) (h0 : ∃ s, 0 < w s) (M : ℝ) : 0 < mass w S M := by
  obtain ⟨s, hs⟩ := h0
  exact Finset.sum_pos' (fun r _ => mul_nonneg (hw r) (Real.exp_pos _).le) ⟨s, Finset.mem_univ _, mul_pos hs (Real.exp_pos _)⟩

/-- A shifted exponential over the shifted mass. -/
theorem div_mass (M : ℝ) (s : N) : w s * Real.exp (S s - M) / mass w S M = prob w S s := by
  rw [mass_shift, prob, sub_eq_add_neg, Real.exp_add, ← mul_assoc, mul_div_mul_right _ _ (Real.exp_pos _).ne']

/-- The exponential with the logarithm of the mass subtracted. -/
theorem exp_sub_log (hw : ∀ s, 0 ≤ w s) (h0 : ∃ s, 0 < w s) (M : ℝ) (s : N) :
    w s * Real.exp (S s - (M + Real.log (mass w S M))) = prob w S s := by
  rw [← div_mass M s, ← sub_sub, Real.exp_sub (S s - M), Real.exp_log (mass_pos hw h0 M), mul_div_assoc]

theorem prob_zero {s : N} (h : w s = 0) : prob w S s = 0 := by rw [prob, h, zero_mul, zero_div]
theorem grad_zero {p : N → ℝ} {s : N} (h : w s = 0) : grad w S p s = 0 := by rw [grad, prob_zero h, zero_mul]

/-- The gradient as a softmax's steps give it: the quotient's two cotangents, then the exponential's. -/
theorem softmax_grad (hw : ∀ s, 0 ≤ w s) (h0 : ∃ s, 0 < w s) (M : ℝ) (p : N → ℝ) (s : N) :
    (p s / mass w S M + -(∑ r, p r * (1 / (mass w S M * mass w S M)) * (w r * Real.exp (S r - M)))) * (w s * Real.exp (S s - M))
      = grad w S p s := by
  have hm := (mass_pos (S := S) hw h0 M).ne'
  have e : ∀ r, w r * Real.exp (S r - M) = prob w S r * mass w S M := fun r => by rw [← div_mass M r, div_mul_cancel₀ _ hm]
  rw [e s, grad]
  have : (∑ r, p r * (1 / (mass w S M * mass w S M)) * (w r * Real.exp (S r - M))) = (∑ r, prob w S r * p r) / mass w S M := by
    rw [Finset.sum_div]
    refine Finset.sum_congr rfl fun r _ => ?_
    rw [e r]; field_simp
  rw [this]; field_simp; ring

end Cert.Att

end
-- ==== Proof.Fold.lean ====
/- Host folds over reals: a window sum of reals is a real, a maximum of reals and −∞ (not all −∞) is a real. Which real
   does not matter where both sides of a comparison hold the same fold. -/
module

public import proofs.«01_k».proof.Proof.Lift
public import Mathlib.Data.Finset.Fold

@[expose] public section

noncomputable section

open Idealize.ShloMosaic
open scoped BigOperators

namespace Cert.Fold

theorem foldl_real {α : Type} (g : α → EReal) (hg : ∀ n, ∃ r : ℝ, g n = (r : EReal)) (l : List α) :
    ∀ v : ℝ, ∃ r : ℝ, l.foldl (fun a n => a + g n) (v : EReal) = (r : EReal) := by
  induction l with
  | nil => exact fun v => ⟨v, rfl⟩
  | cons a l ih =>
    intro v
    obtain ⟨r, hr⟩ := hg a
    obtain ⟨q, hq⟩ := ih (v + r)
    exact ⟨q, by rw [List.foldl_cons, hr, ← EReal.coe_add, hq]⟩

/-- A window sum of reals from zero is a real. -/
theorem window_real {s t u : Shape} (window strides lo hi : Fin s.rank → Nat) (x : FVec Ideal s .f32) (init : FVec Ideal u .f32)
    (h : s.ReduceWindows window strides lo hi t) (hu : 0 < u.numel) (hx : ∀ i, ∃ r : ℝ, x i = (r : EReal))
    (hz : ∀ i, init i = ((0 : ℝ) : EReal)) (j : t.Idx) :
    ∃ r : ℝ, Host.reduceWindowAdd window strides lo hi x init h hu j = (r : EReal) := by
  have e : init (Shape.Idx.first hu) = ((0 : ℝ) : EReal) := hz _
  unfold Host.reduceWindowAdd
  rw [Ideal.hostReduceWindowAdd_def, e]
  unfold Ideal.hostReduceWindowAdd Host.reduceWindow
  refine foldl_real (fun n => if hin : ∀ a, lo a ≤ _ ∧ _ - lo a < s.size a then x (fun a => ⟨_ - lo a, (hin a).2⟩) else ((0 : ℝ) : EReal))
    (fun n => ?_) _ 0
  split_ifs with hin
  · exact hx _
  · exact ⟨0, rfl⟩

/-- The maximum of finitely many reals and −∞, one of them a real, is a real. -/
theorem max_real {ι : Type} [Fintype ι] (f : ι → EReal) (ht : ∀ i, f i ≠ ⊤) (i₀ : ι) (hb : f i₀ ≠ ⊥) :
    ∃ r : ℝ, Finset.univ.fold max ⊥ f = (r : EReal) := by
  have h1 : Finset.univ.fold max ⊥ f < ⊤ := (Finset.fold_max_lt _).mpr ⟨bot_lt_top, fun i _ => lt_top_iff_ne_top.mpr (ht i)⟩
  have h2 : ⊥ < Finset.univ.fold max ⊥ f :=
    lt_of_lt_of_le (bot_lt_iff_ne_bot.mpr hb) ((Finset.le_fold_max _).mpr (Or.inr ⟨i₀, Finset.mem_univ _, le_rfl⟩))
  exact ⟨_, (EReal.coe_toReal h1.ne h2.ne').symm⟩

theorem bits_neg_inf : Ideal.ofBits .f32 0xFF800000#32 = ⊥ := by simp [Ideal.ofBits, Ideal.ieee]
theorem bits_eighth : Ideal.ofBits .f32 0x3E000000#32 = ((1 / 8 : ℝ) : EReal) := by
  simp [Ideal.ofBits, Ideal.ieee, -EReal.coe_mul]; norm_num

/-- The exponential of a weighted score: −∞ where the weight is zero. -/
theorem exp_if (p : Prop) [Decidable p] (x M : ℝ) :
    Ideal.exp ((if p then ((x : ℝ) : EReal) else ⊥) - (M : EReal)) = (((if p then 1 else 0) * Real.exp (x - M) : ℝ) : EReal) := by
  split_ifs
  · rw [← EReal.coe_sub, Ideal.exp_coe, one_mul]
  · rw [EReal.bot_sub, Ideal.exp_bot, zero_mul]; rfl

end Cert.Fold

end
-- ==== Proof.FoxRef.lean ====
/- The forgetting attention's reference, read element by element: on real arguments its five results are the real numbers
   below, per batch and head the gradients of one attention (`Att`) over the keys up to the row. -/
module

public import proofs.«01_k».proof.Proof.Att
public import proofs.«01_k».proof.Proof.Fold
public import proofs.«01_k».proof.Proof.Gen.FoxReferenceIdeal
public import proofs.«01_k».proof.Proof.Gen.FoxReferenceIdeal.Read
public import Idealize.ShloMosaic.Lib.Pointwise
public import Idealize.ShloMosaic.Lib.IdealHost
public import Idealize.ShloMosaic.Lib.WordCmp

@[expose] public section

set_option maxRecDepth 16384

noncomputable section

open Idealize.ShloMosaic Idealize.ShloMosaic.TcCoe Idealize.SL.Sem
open scoped BigOperators

namespace Cert.FoxReal

/-- A column of a packed row: lane `d` of head `h`. -/
def col (h : Fin 6) (d : Fin 64) : Fin 384 := ⟨64 * h.val + d.val, by omega⟩

/-- A key is seen by the rows from its own on. -/
def see (t s : Fin 2048) : ℝ := if s ≤ t then 1 else 0

/-- A head's scores: the scaled products and the difference of the two gates' sums. -/
def score (q k : Fin 2048 → Fin 64 → ℝ) (c : Fin 2048 → ℝ) (t s : Fin 2048) : ℝ := (∑ d, q t d * k s d) * (1 / 8) + c t - c s
/-- The cotangents of the normalised rows. -/
def dp (v o : Fin 2048 → Fin 64 → ℝ) (t s : Fin 2048) : ℝ := ∑ d, o t d * v s d
/-- The normalised rows. -/
def p (q k : Fin 2048 → Fin 64 → ℝ) (c : Fin 2048 → ℝ) (t s : Fin 2048) : ℝ := Att.prob (see t) (score q k c t) s
/-- The gradient of the scores. -/
def ds (q k v o : Fin 2048 → Fin 64 → ℝ) (c : Fin 2048 → ℝ) (t s : Fin 2048) : ℝ := Att.grad (see t) (score q k c t) (dp v o t) s

theorem see_nonneg (t s : Fin 2048) : 0 ≤ see t s := by unfold see; split_ifs <;> norm_num
theorem see_self (t : Fin 2048) : ∃ s, 0 < see t s := ⟨t, by unfold see; rw [if_pos le_rfl]; norm_num⟩

end Cert.FoxReal

namespace Cert.FoxReferenceIdeal.Real

open Cert.FoxReferenceIdeal Cert.FoxReferenceIdeal.Gen Cert.FoxReferenceIdeal.Read Cert.FoxReal Cert.Lift Cert.Fold

variable (Q K V : FVec Ideal S4x2048x384 .f32) (C : FVec Ideal S4x2048x6 .f32) (O : FVec Ideal S4x2048x384 .f32)
  (q k v o : Fin 4 → Fin 6 → Fin 2048 → Fin 64 → ℝ) (c : Fin 4 → Fin 6 → Fin 2048 → ℝ)
  (hQ : ∀ b t h d, Q (ix3 b t (col h d)) = ((q b h t d : ℝ) : EReal)) (hK : ∀ b t h d, K (ix3 b t (col h d)) = ((k b h t d : ℝ) : EReal))
  (hV : ∀ b t h d, V (ix3 b t (col h d)) = ((v b h t d : ℝ) : EReal)) (hO : ∀ b t h d, O (ix3 b t (col h d)) = ((o b h t d : ℝ) : EReal))
  (hC : ∀ b t h, val_main_v0 (F := Ideal) C (ix3 b t h) = ((c b h t : ℝ) : EReal))

theorem heads_at (X : FVec Ideal S4x2048x384 .f32) (x : Fin 4 → Fin 6 → Fin 2048 → Fin 64 → ℝ)
    (hX : ∀ b t h d, X (ix3 b t (col h d)) = ((x b h t d : ℝ) : EReal)) (b : Fin 4) (t : Fin 2048) (h : Fin 6) (d : Fin 64) :
    val_main_v1 (F := Ideal) X (ix4 b t h d) = ((x b h t d : ℝ) : EReal) := by
  rw [val_main_v1_apply, ← hX]
  refine congrArg X (funext fun a => Fin.ext ?_)
  match a with
  | ⟨0, _⟩ => show (((b.val * 2048 + t.val) * 6 + h.val) * 64 + d.val) / 786432 = b.val; omega
  | ⟨1, _⟩ => show (((b.val * 2048 + t.val) * 6 + h.val) * 64 + d.val) / 384 % 2048 = t.val; omega
  | ⟨2, _⟩ => show (((b.val * 2048 + t.val) * 6 + h.val) * 64 + d.val) % 384 = 64 * h.val + d.val; omega

theorem v17_at (t s : Fin 2048) : val_main_v17 (F := Ideal) (ix2 t s) = if s ≤ t then 1#1 else 0#1 := by
  rw [val_main_v17_apply, val_main_v16_apply, val_main_v15_apply]
  show IntOp.cmpi .sle (BitVec.ofNat 32 s.val) (BitVec.ofNat 32 t.val) = _
  have h1 : s.val < 2 ^ (32 - 1) := lt_trans s.isLt (by norm_num)
  have h2 : t.val < 2 ^ (32 - 1) := lt_trans t.isLt (by norm_num)
  split_ifs with h
  · exact (WordCmp.cmpi_sle_ofNat_eq_one_iff h1 h2).2 h
  · exact (WordCmp.cmpi_sle_ofNat_eq_zero_iff h1 h2).2 h

section scores
include hQ hK hC

theorem v14_at (b : Fin 4) (h : Fin 6) (t s : Fin 2048) : val_main_v14 (F := Ideal) Q K C (ix4 b h t s)
    = ((score (q b h) (k b h) (c b h) t s : ℝ) : EReal) := by
  pointwise [val_main_v14, val_main_v13, val_main_v12, val_main_v11, val_main_v10, val_main_v9, val_main_v8, val_main_v7, val_main_v6,
    val_main_v5, val_main_cst, val_main_v4]
  simp only [heads_at Q q hQ, heads_at K k hK, show val_main_v2 (F := Ideal) K = val_main_v1 K from rfl, hC, bits_eighth, ← EReal.coe_mul,
    sum_coe, ← EReal.coe_add, ← EReal.coe_sub]
  rfl

theorem v18_at (b : Fin 4) (h : Fin 6) (t s : Fin 2048) : val_main_v18_0 (F := Ideal) Q K C (ix4 b h t s)
    = if s ≤ t then ((score (q b h) (k b h) (c b h) t s : ℝ) : EReal) else ⊥ := by
  pointwise [val_main_v18_0, val_main_v18_1, val_main_call1_v2, val_main_call1_v0, val_main_cst_0, v17_at,
    v14_at Q K C q k c hQ hK hC]
  rw [show id (constant (F := Ideal) S_ .f32 0xFF800000#32) ix0 = ⊥ from bits_neg_inf]
  split_ifs <;> rfl

/-- The row's maximum is a real. -/
theorem max_at (b : Fin 4) (h : Fin 6) (t : Fin 2048) : ∃ r : ℝ, val_main_v19 (F := Ideal) Q K C (ix3 b h t) = (r : EReal) := by
  pointwise [val_main_v19, val_main_cst_1, v18_at Q K C q k c hQ hK hC]
  rw [bits_neg_inf]
  refine max_real _ (fun s => ?_) t ?_
  · split_ifs
    · exact EReal.coe_ne_top _
    · exact bot_ne_top
  · rw [if_pos le_rfl]; exact EReal.coe_ne_bot _

variable (M : Fin 4 → Fin 6 → Fin 2048 → ℝ)
  (hM : ∀ b h t, val_main_v19 (F := Ideal) Q K C (ix3 b h t) = ((M b h t : ℝ) : EReal))
include hM

theorem v26_at (b : Fin 4) (h : Fin 6) (t : Fin 2048) : val_main_v26 (F := Ideal) Q K C (ix3 b h t) = ((M b h t : ℝ) : EReal) := by
  rw [val_main_v26_apply, val_main_v25_apply, val_main_cst_3_apply, hM]
  exact (congrArg (max · _) bits_neg_inf).trans (max_eq_right bot_le)

theorem v38_at (b : Fin 4) (h : Fin 6) (t s : Fin 2048) : val_main_v38 (F := Ideal) Q K C (ix4 b h t s)
    = (if s ≤ t then ((score (q b h) (k b h) (c b h) t s : ℝ) : EReal) else ⊥) - ((M b h t : ℝ) : EReal) := by
  pointwise [val_main_v38, val_main_v37, val_main_v36, v26_at Q K C q k c hQ hK hC M hM, v18_at Q K C q k c hQ hK hC]

theorem v39_at (b : Fin 4) (h : Fin 6) (t s : Fin 2048) : val_main_v39 (F := Ideal) Q K C (ix4 b h t s)
    = ((see t s * Real.exp (score (q b h) (k b h) (c b h) t s - M b h t) : ℝ) : EReal) := by
  rw [val_main_v39_apply, v38_at Q K C q k c hQ hK hC M hM]
  rw [see]
  exact exp_if (s ≤ t) _ _

theorem v41_at (b : Fin 4) (h : Fin 6) (t : Fin 2048) : val_main_v41 (F := Ideal) Q K C (ix4 b h t 0)
    = ((Att.mass (see t) (score (q b h) (k b h) (c b h) t) (M b h t) : ℝ) : EReal) := by
  pointwise [val_main_v41, val_main_v40, val_main_cst_9, v39_at Q K C q k c hQ hK hC M hM]
  rw [sum_coe]; rfl

theorem v43_at (b : Fin 4) (h : Fin 6) (t s : Fin 2048) : val_main_v43 (F := Ideal) Q K C (ix4 b h t s)
    = ((p (q b h) (k b h) (c b h) t s : ℝ) : EReal) := by
  pointwise [val_main_v43, val_main_v42, v39_at Q K C q k c hQ hK hC M hM, v41_at Q K C q k c hQ hK hC M hM]
  rw [div_real _ (Att.mass_pos (see_nonneg t) (see_self t) _).ne', Att.div_mass]; rfl

include hO in
/-- The values' gradient. -/
theorem v53_at (b : Fin 4) (h : Fin 6) (d : Fin 64) (s : Fin 2048) : val_main_v53 (F := Ideal) Q K C O (ix4 b h d s)
    = ((∑ t, o b h t d * p (q b h) (k b h) (c b h) t s : ℝ) : EReal) := by
  pointwise [val_main_v53, val_main_v51, v43_at Q K C q k c hQ hK hC M hM]
  simp only [heads_at O o hO, show val_main_v50 (F := Ideal) O = val_main_v1 O from rfl, ← EReal.coe_mul, sum_coe]

include hV hO

theorem v52_at (b : Fin 4) (h : Fin 6) (t s : Fin 2048) : val_main_v52 (F := Ideal) V O (ix4 b h t s)
    = ((dp (v b h) (o b h) t s : ℝ) : EReal) := by
  pointwise [val_main_v52, val_main_v51]
  simp only [heads_at O o hO, heads_at V v hV, show val_main_v50 (F := Ideal) O = val_main_v1 O from rfl,
    show val_main_v3 (F := Ideal) V = val_main_v1 V from rfl, ← EReal.coe_mul, sum_coe]
  rfl

/-- The gradient of the scores. -/
theorem v67_at (b : Fin 4) (h : Fin 6) (t s : Fin 2048) : val_main_v67 (F := Ideal) Q K V C O (ix4 b h t s)
    = ((ds (q b h) (k b h) (v b h) (o b h) (c b h) t s : ℝ) : EReal) := by
  have hm := (Att.mass_pos (S := score (q b h) (k b h) (c b h) t) (see_nonneg t) (see_self t) (M b h t)).ne'
  pointwise [val_main_v67, val_main_v66, val_main_v65, val_main_v64, val_main_v63, val_main_v62, val_main_v61, val_main_v60, val_main_v59,
    val_main_v58, val_main_v57, val_main_v56, val_main_v55, val_main_v46, val_main_v45, val_main_v44, val_main_cst_10, val_main_cst_11,
    val_main_cst_12, val_main_v18_1, val_main_call2_v0, val_main_call2_cst, v17_at,
    v39_at Q K C q k c hQ hK hC M hM, v41_at Q K C q k c hQ hK hC M hM]
  simp only [v52_at Q K V C O q k v o c hQ hK hV hO hC M hM, Finset.univ_unique, Finset.sum_singleton, div_real _ hm,
    show (1 : EReal) = ((1 : ℝ) : EReal) from rfl, ← EReal.coe_mul, div_real _ (mul_ne_zero hm hm), sum_coe, ← EReal.coe_neg, ← EReal.coe_add]
  rw [Att.softmax_grad (see_nonneg t) (see_self t)]
  split_ifs with hs
  · rfl
  · have h0 : see t s = 0 := by rw [see, if_neg hs]
    rw [ds, Att.grad_zero h0]; rfl

theorem v81_at (b : Fin 4) (h : Fin 6) (t : Fin 2048) (d : Fin 64) : val_main_v81 (F := Ideal) Q K V C O (ix4 b h t d)
    = ((∑ s, ds (q b h) (k b h) (v b h) (o b h) (c b h) t s * (1 / 8) * k b h s d : ℝ) : EReal) := by
  pointwise [val_main_v81, val_main_v78, val_main_v77, val_main_cst_17, v67_at Q K V C O q k v o c hQ hK hV hO hC M hM]
  simp only [heads_at K k hK, show val_main_v2 (F := Ideal) K = val_main_v1 K from rfl, bits_eighth, ← EReal.coe_mul, sum_coe]

theorem v79_at (b : Fin 4) (h : Fin 6) (s : Fin 2048) (d : Fin 64) : val_main_v79 (F := Ideal) Q K V C O (ix4 b h s d)
    = ((∑ t, ds (q b h) (k b h) (v b h) (o b h) (c b h) t s * (1 / 8) * q b h t d : ℝ) : EReal) := by
  pointwise [val_main_v79, val_main_v78, val_main_v77, val_main_cst_17, v67_at Q K V C O q k v o c hQ hK hV hO hC M hM]
  simp only [heads_at Q q hQ, bits_eighth, ← EReal.coe_mul, sum_coe]

/-- A gate's gradient as a query: the sum of its row. -/
theorem v76_at (b : Fin 4) (t : Fin 2048) (h : Fin 6) : val_main_v76 (F := Ideal) Q K V C O (ix3 b t h)
    = ((∑ s, ds (q b h) (k b h) (v b h) (o b h) (c b h) t s : ℝ) : EReal) := by
  pointwise [val_main_v76, val_main_v75, val_main_v74, val_main_v73, val_main_cst_15, val_main_cst_16,
    v67_at Q K V C O q k v o c hQ hK hV hO hC M hM]
  simp only [Finset.univ_unique, Finset.sum_singleton, sum_coe]

/-- A gate's gradient as a key, negated twice: the sum of its column. -/
theorem v95_at (b : Fin 4) (s : Fin 2048) (h : Fin 6) : val_main_v95 (F := Ideal) Q K V C O (ix3 b s h)
    = ((∑ t, ds (q b h) (k b h) (v b h) (o b h) (c b h) t s : ℝ) : EReal) := by
  pointwise [val_main_v95, val_main_v72, val_main_v71, val_main_v70, val_main_v69, val_main_v68, val_main_cst_13, val_main_cst_14,
    v67_at Q K V C O q k v o c hQ hK hV hO hC M hM]
  simp only [Finset.univ_unique, Finset.sum_singleton, ← EReal.coe_neg, sum_coe, Finset.sum_neg_distrib, neg_neg]

end scores

end Cert.FoxReferenceIdeal.Real

end
-- ==== Proof.FoxOps.lean ====
module

public import proofs.«01_k».proof.Proof.Gen.FoxKernelIdeal.Loops
public import proofs.«01_k».proof.Proof.Lift
public import Idealize.ShloMosaic.Lib.Pointwise
public import Idealize.ShloMosaic.Lib.WritesUnit
public import Idealize.ShloMosaic.Lib.VecWindow

/-!
The operations of one trip of the backward attention loop, named once: a trip takes four blocks
of scores (two query blocks, two heads) through the same operations, so each reading is proved
for the named operation and used four times.
-/

@[expose] public section

set_option maxRecDepth 16384

noncomputable section

open Idealize.ShloMosaic Idealize.ShloMosaic.TcCoe Idealize.SL.Sem
open Cert.Lift
open scoped BigOperators

namespace Cert.FoxLoop

open Cert.FoxKernelIdeal Cert.FoxKernelIdeal.Gen

/-! ## The operations -/

/-- The query block with the lanes of the other head replaced by the spare lanes. -/
def qsel (m : IVec S1x128 1) (q : FVec Ideal S256x128 .bf16) (a : FVec Ideal S1x256x128 .bf16) :
    FVec Ideal S256x128 .bf16 :=
  select (broadcastTo S256x128 (shapeCast S1x128 m shapeCasts_S1x128_S1x128) broadcasts_S1x128_S256x128)
    (mulf (shapeCast S256x128 q shapeCasts_S256x128_S256x128)
      (broadcast S256x128 (Scalar.ofBits .bf16 0x3E00#16)))
    (shapeCast S256x128 a shapeCasts_S1x256x128_S256x128)

/-- The cotangent block with the lanes of the other head set to zero. -/
def osel (m : IVec S1x128 1) (o : FVec Ideal S256x128 .bf16) : FVec Ideal S256x128 .bf16 :=
  select (broadcastTo S256x128 (shapeCast S1x128 m shapeCasts_S1x128_S1x128) broadcasts_S1x128_S256x128)
    (shapeCast S256x128 o shapeCasts_S256x128_S256x128)
    (broadcast S256x128 (Scalar.ofBits .bf16 0x0000#16))

/-- Every key's product with every query row. -/
def dots (k : FVec Ideal S512x128 .bf16) (q : FVec Ideal S256x128 .bf16) : FVec Ideal S512x256 .f32 :=
  matmul dot_S512x128_S256x128_S512x256_1_1_0_0_n_n none k q (constant S512x256 .f32 0x00000000#32)

/-- The products with the mask's table added. -/
def scores (k : FVec Ideal S512x128 .bf16) (q : FVec Ideal S256x128 .bf16)
    (t : FVec Ideal S1x512x256 .f32) : FVec Ideal S512x256 .f32 :=
  addf (dots k q) (shapeCast S512x256 t shapeCasts_S1x512x256_S512x256)

/-- A row of 256 numbers, under every key. -/
def under (y : FVec Ideal S1x1x1x256 .f32) : FVec Ideal S512x256 .f32 :=
  broadcastTo S512x256 (shapeCast S1x256 y shapeCasts_S1x1x1x256_S1x256) broadcasts_S1x256_S512x256

/-- The probabilities of a block of scores. -/
def probs (s : FVec Ideal S512x256 .f32) (y : FVec Ideal S1x1x1x256 .f32) : FVec Ideal S512x256 .f32 :=
  exp (subf s (under y))

/-- The scores' gradients of a block. -/
def grads (s d : FVec Ideal S512x256 .f32) (y z : FVec Ideal S1x1x1x256 .f32) :
    FVec Ideal S512x256 .bf16 :=
  truncf .bf16 (mulf (probs s y) (subf d (under z))) bitsLt_bf16_f32

/-- The values' gradient with a block's share added. -/
def addV (s : FVec Ideal S512x256 .f32) (o : FVec Ideal S256x128 .bf16) (y : FVec Ideal S1x1x1x256 .f32)
    (w : FVec Ideal S512x128 .f32) : FVec Ideal S512x128 .f32 :=
  shapeCast S512x128 (addf w (matmul dot_S512x256_S256x128_S512x128_1_0_0_1_n_n none
    (truncf .bf16 (probs s y) bitsLt_bf16_f32) o (constant S512x128 .f32 0x00000000#32)))
    shapeCasts_S512x128_S512x128

/-- The keys' gradient of one head with a block's share added. -/
def addK (g : FVec Ideal S512x256 .bf16) (q : FVec Ideal S256x128 .bf16) (w : FVec Ideal S1x512x128 .f32) :
    FVec Ideal S1x512x128 .f32 :=
  shapeCast S1x512x128 (addf (shapeCast S512x128 w shapeCasts_S1x512x128_S512x128)
    (matmul dot_S512x256_S256x128_S512x128_1_0_0_1_n_n none g q (constant S512x128 .f32 0x00000000#32)))
    shapeCasts_S512x128_S1x512x128

/-- The queries' gradient of one head and one query block with a block's share added. -/
def addQ (k : FVec Ideal S128x512 .bf16) (g : FVec Ideal S512x256 .bf16) (w : FVec Ideal S1x1x128x256 .f32) :
    FVec Ideal S1x1x128x256 .f32 :=
  shapeCast S1x1x128x256 (addf (shapeCast S128x256 w shapeCasts_S1x1x128x256_S128x256)
    (matmul dot_S128x512_S512x256_S128x256_1_0_0_1_n_n none k g (constant S128x256 .f32 0x00000000#32)))
    shapeCasts_S128x256_S1x1x128x256

/-- A block of scores as the scratch keeps it. -/
def keep (s : FVec Ideal S512x256 .f32) : FVec Ideal S1x1x512x256 .f32 :=
  shapeCast S1x1x512x256 s shapeCasts_S512x256_S1x1x512x256

/-- A kept block of scores. -/
def kept (s : FVec Ideal S1x1x512x256 .f32) : FVec Ideal S512x256 .f32 :=
  shapeCast S512x256 s shapeCasts_S1x1x512x256_S512x256

/-! ## Their entries, of real arrays -/

/-- What the mask's table adds where the weight is `w`. -/
def bias (w : ℝ) : EReal := if w = 0 then ⊥ else ((Real.log w : ℝ) : EReal)

theorem exp_bias (x y w : ℝ) (hw : 0 ≤ w) :
    Ideal.exp ((((x : ℝ) : EReal) + bias w) - ((y : ℝ) : EReal)) = ((w * Real.exp (x - y) : ℝ) : EReal) := by
  unfold bias
  split_ifs with h
  · subst h
    rw [zero_mul, EReal.add_bot, EReal.bot_sub, Ideal.exp_bot, EReal.coe_zero]
  · rw [← EReal.coe_add, ← EReal.coe_sub, Ideal.exp_coe]
    congr 1
    rw [show x + Real.log w - y = Real.log w + (x - y) by ring, Real.exp_add,
      Real.exp_log (lt_of_le_of_ne hw (Ne.symm h))]

theorem bits_eighth16 : Ideal.ofBits .bf16 0x3E00#16 = ((1 / 8 : ℝ) : EReal) := by
  simp [Ideal.ofBits, Ideal.ieee, -EReal.coe_mul]; norm_num

/-- What one grid point reads, as reals: the query rows by block, the spare lanes, the cotangent,
the two rows of statistics, the keys with their spare lanes, the values, and the mask's weights. -/
structure Data where
  q : Fin 8 → Fin 256 → Fin 128 → ℝ
  a : Fin 8 → Fin 256 → Fin 128 → ℝ
  o : Fin 8 → Fin 256 → Fin 128 → ℝ
  y : Fin 2 → Fin 8 → Fin 256 → ℝ
  z : Fin 2 → Fin 8 → Fin 256 → ℝ
  k : Fin 2 → Fin 512 → Fin 128 → ℝ
  v : Fin 512 → Fin 128 → ℝ
  w : Fin 9 → Fin 512 → Fin 256 → ℝ
  w_nonneg : ∀ n s r, 0 ≤ w n s r

namespace Data

variable (D : Data) (h : Fin 2) (n : Fin 9) (b : Fin 8)

/-- Whether lane `l` belongs to head `h` of the pair. -/
abbrev own (h : Fin 2) (l : Fin 128) : Prop := l.val / 64 = h.val

/-- The query block of one head, scaled, the spare lanes in the other head's place. -/
def qa (r : Fin 256) (l : Fin 128) : ℝ := if own h l then D.q b r l * (1 / 8) else D.a b r l

/-- The cotangent block of one head. -/
def oh (r : Fin 256) (l : Fin 128) : ℝ := if own h l then D.o b r l else 0

/-- The score before the mask. -/
def x (s : Fin 512) (r : Fin 256) : ℝ := ∑ l, D.k h s l * D.qa h b r l

/-- The probability's gradient. -/
def d (s : Fin 512) (r : Fin 256) : ℝ := ∑ l, D.v s l * D.oh h b r l

/-- The probability. -/
def p (s : Fin 512) (r : Fin 256) : ℝ := D.w n s r * Real.exp (D.x h b s r - D.y h b r)

/-- The score's gradient. -/
def g (s : Fin 512) (r : Fin 256) : ℝ := D.p h n b s r * (D.d h b s r - D.z h b r)

/-- A block's share of the values' gradient. -/
def dv (s : Fin 512) (l : Fin 128) : ℝ := ∑ r, D.p h n b s r * D.oh h b r l

/-- A block's share of the keys' gradient. -/
def dk (s : Fin 512) (l : Fin 128) : ℝ := ∑ r, D.g h n b s r * D.qa h b r l

/-- The queries' gradient a block of keys gives. -/
def dq (l : Fin 128) (r : Fin 256) : ℝ := ∑ s, D.k h s l * D.g h n b s r

end Data

section entries

variable (D : Data) {h : Fin 2} {n : Fin 9} {b : Fin 8}

/-- The lane mask of one head. -/
def IsMask (h : Fin 2) (m : IVec S1x128 1) : Prop := ∀ l, m (ix2 0 l) = 1#1 ↔ Data.own h l

theorem qsel_at {m : IVec S1x128 1} {Q : FVec Ideal S256x128 .bf16} {A : FVec Ideal S1x256x128 .bf16}
    (hm : IsMask h m) (hQ : ∀ r l, Q (ix2 r l) = ((D.q b r l : ℝ) : EReal))
    (hA : ∀ r l, A (ix3 0 r l) = ((D.a b r l : ℝ) : EReal)) (r : Fin 256) (l : Fin 128) :
    qsel m Q A (ix2 r l) = ((D.qa h b r l : ℝ) : EReal) := by
  pointwise [qsel]
  rw [hQ, hA, bits_eighth16, ← EReal.coe_mul]
  unfold Data.qa
  by_cases e : Data.own h l
  · rw [if_pos e, (hm l).mpr e]; rfl
  · rw [if_neg e]; exact if_neg fun e' => e ((hm l).mp e')

theorem osel_at {m : IVec S1x128 1} {O : FVec Ideal S256x128 .bf16}
    (hm : IsMask h m) (hO : ∀ r l, O (ix2 r l) = ((D.o b r l : ℝ) : EReal)) (r : Fin 256) (l : Fin 128) :
    osel m O (ix2 r l) = ((D.oh h b r l : ℝ) : EReal) := by
  pointwise [osel]
  rw [hO]
  unfold Data.oh
  by_cases e : Data.own h l
  · rw [if_pos e, (hm l).mpr e]; rfl
  · rw [if_neg e]; exact if_neg fun e' => e ((hm l).mp e')

theorem dots_at {K : FVec Ideal S512x128 .bf16} {Q : FVec Ideal S256x128 .bf16}
    {k : Fin 512 → Fin 128 → ℝ} {q : Fin 256 → Fin 128 → ℝ}
    (hK : ∀ s l, K (ix2 s l) = ((k s l : ℝ) : EReal)) (hQ : ∀ r l, Q (ix2 r l) = ((q r l : ℝ) : EReal))
    (s : Fin 512) (r : Fin 256) : dots K Q (ix2 s r) = ((∑ l, k s l * q r l : ℝ) : EReal) := by
  pointwise [dots]
  simp only [hK, hQ, ← EReal.coe_mul, sum_coe, zero_add]

/-- The scores of a block. -/
def IsScore (h : Fin 2) (n : Fin 9) (b : Fin 8) (S : FVec Ideal S512x256 .f32) : Prop :=
  ∀ s r, S (ix2 s r) = ((D.x h b s r : ℝ) : EReal) + bias (D.w n s r)

theorem scores_at {K : FVec Ideal S512x128 .bf16} {Q : FVec Ideal S256x128 .bf16}
    {T : FVec Ideal S1x512x256 .f32} (hK : ∀ s l, K (ix2 s l) = ((D.k h s l : ℝ) : EReal))
    (hQ : ∀ r l, Q (ix2 r l) = ((D.qa h b r l : ℝ) : EReal))
    (hT : ∀ s r, T (ix3 0 s r) = bias (D.w n s r)) : IsScore D h n b (scores K Q T) := by
  intro s r
  have e : scores K Q T (ix2 s r) = dots K Q (ix2 s r) + T (ix3 0 s r) := by pointwise [scores]
  rw [e, dots_at hK hQ, hT]
  rfl

theorem probs_at {S : FVec Ideal S512x256 .f32} {Y : FVec Ideal S1x1x1x256 .f32} (hS : IsScore D h n b S)
    (hY : ∀ r, Y (ix4 0 0 0 r) = ((D.y h b r : ℝ) : EReal)) (s : Fin 512) (r : Fin 256) :
    probs S Y (ix2 s r) = ((D.p h n b s r : ℝ) : EReal) := by
  have e : probs S Y (ix2 s r) = Ideal.exp (S (ix2 s r) - Y (ix4 0 0 0 r)) := by pointwise [probs, under]
  rw [e, hS, hY, exp_bias _ _ _ (D.w_nonneg n s r)]
  rfl

theorem grads_at {S G : FVec Ideal S512x256 .f32} {Y Z : FVec Ideal S1x1x1x256 .f32} (hS : IsScore D h n b S)
    (hG : ∀ s r, G (ix2 s r) = ((D.d h b s r : ℝ) : EReal))
    (hY : ∀ r, Y (ix4 0 0 0 r) = ((D.y h b r : ℝ) : EReal))
    (hZ : ∀ r, Z (ix4 0 0 0 r) = ((D.z h b r : ℝ) : EReal)) (s : Fin 512) (r : Fin 256) :
    grads S G Y Z (ix2 s r) = ((D.g h n b s r : ℝ) : EReal) := by
  have e : grads S G Y Z (ix2 s r) = probs S Y (ix2 s r) * (G (ix2 s r) - Z (ix4 0 0 0 r)) := by
    pointwise [grads, under]
  rw [e, probs_at D hS hY, hG, hZ, ← EReal.coe_sub, ← EReal.coe_mul]
  rfl

theorem addV_at {S : FVec Ideal S512x256 .f32} {Y : FVec Ideal S1x1x1x256 .f32} {O : FVec Ideal S256x128 .bf16}
    {W : FVec Ideal S512x128 .f32} {A : Fin 512 → Fin 128 → ℝ} (hS : IsScore D h n b S)
    (hO : ∀ r l, O (ix2 r l) = ((D.oh h b r l : ℝ) : EReal))
    (hY : ∀ r, Y (ix4 0 0 0 r) = ((D.y h b r : ℝ) : EReal))
    (hW : ∀ s l, W (ix2 s l) = ((A s l : ℝ) : EReal)) (s : Fin 512) (l : Fin 128) :
    addV S O Y W (ix2 s l) = ((A s l + D.dv h n b s l : ℝ) : EReal) := by
  have e : addV S O Y W (ix2 s l) = W (ix2 s l) + ∑ r, probs S Y (ix2 s r) * O (ix2 r l) := by
    pointwise [addV]
  rw [e, hW]
  simp only [probs_at D hS hY, hO, ← EReal.coe_mul, sum_coe, ← EReal.coe_add]
  rfl

theorem addK_at {G : FVec Ideal S512x256 .bf16} {Q : FVec Ideal S256x128 .bf16} {W : FVec Ideal S1x512x128 .f32}
    {A : Fin 512 → Fin 128 → ℝ} (hG : ∀ s r, G (ix2 s r) = ((D.g h n b s r : ℝ) : EReal))
    (hQ : ∀ r l, Q (ix2 r l) = ((D.qa h b r l : ℝ) : EReal))
    (hW : ∀ s l, W (ix3 0 s l) = ((A s l : ℝ) : EReal)) (s : Fin 512) (l : Fin 128) :
    addK G Q W (ix3 0 s l) = ((A s l + D.dk h n b s l : ℝ) : EReal) := by
  pointwise [addK]
  simp only [hW, hG, hQ, ← EReal.coe_mul, sum_coe, ← EReal.coe_add, zero_add]
  rfl

theorem addQ_at {K : FVec Ideal S128x512 .bf16} {G : FVec Ideal S512x256 .bf16}
    {W : FVec Ideal S1x1x128x256 .f32} {A : Fin 128 → Fin 256 → ℝ}
    (hK : ∀ s l, K (ix2 l s) = ((D.k h s l : ℝ) : EReal))
    (hG : ∀ s r, G (ix2 s r) = ((D.g h n b s r : ℝ) : EReal))
    (hW : ∀ l r, W (ix4 0 0 l r) = ((A l r : ℝ) : EReal)) (l : Fin 128) (r : Fin 256) :
    addQ K G W (ix4 0 0 l r) = ((A l r + D.dq h n b l r : ℝ) : EReal) := by
  pointwise [addQ]
  simp only [hW, hG, hK, ← EReal.coe_mul, sum_coe, ← EReal.coe_add, zero_add]
  rfl

theorem keep_at (S : FVec Ideal S512x256 .f32) (s : Fin 512) (r : Fin 256) :
    keep S (ix4 0 0 s r) = S (ix2 s r) := by pointwise [keep]

theorem kept_at (S : FVec Ideal S1x1x512x256 .f32) (s : Fin 512) (r : Fin 256) :
    kept S (ix2 s r) = S (ix4 0 0 s r) := by pointwise [kept]

end entries

/-! ## The trip's expressions are those operations -/

section names

variable (m : IVec S1x128 1) (q o O Q : FVec Ideal S256x128 .bf16) (a : FVec Ideal S1x256x128 .bf16)
  (k u : FVec Ideal S512x128 .bf16) (j : FVec Ideal S128x512 .bf16) (t : FVec Ideal S1x512x256 .f32)
  (s d : FVec Ideal S512x256 .f32) (g : FVec Ideal S512x256 .bf16) (y z : FVec Ideal S1x1x1x256 .f32)
  (w : FVec Ideal S1x1x512x256 .f32) (V : FVec Ideal S512x128 .f32) (K : FVec Ideal S1x512x128 .f32)
  (D : FVec Ideal S1x1x128x256 .f32)

theorem pay5_eq : k0_pay5 w = kept w := rfl
theorem pay6_eq : k0_pay6 w = kept w := rfl
theorem pay7_eq : k0_pay7 w = kept w := rfl
theorem pay8_eq : k0_pay8 w = kept w := rfl
theorem pay11_eq : k0_pay11 m q a = qsel m q a := rfl
theorem pay15_eq : k0_pay15 k Q t = scores k Q t := rfl
theorem pay16_eq : k0_pay16 m u (k0_pay10 o) = dots u (osel m o) := rfl
theorem pay17_eq : k0_pay17 k (k0_pay9 q) (k0_pay12 a) (k0_pay13 m) t = scores k (qsel m q a) t := rfl
theorem pay18_eq : k0_pay18 m u (k0_pay10 o) = dots u (osel m o) := rfl
theorem pay21_eq : k0_pay21 m q a = qsel m q a := rfl
theorem pay22_eq : k0_pay22 m (k0_pay19 q) a = qsel m q a := rfl
theorem pay23_eq : k0_pay23 m (k0_pay20 o) = osel m o := rfl
theorem pay25_eq : k0_pay25 s d y z = grads s d y z := rfl
theorem pay26_eq : k0_pay26 m s (k0_pay20 o) y V = addV s (osel m o) y V := rfl
theorem pay27_eq : k0_pay27 s d Q y z K = addK (grads s d y z) Q K := rfl
theorem pay28_eq : k0_pay28 j g D = addQ j g D := rfl
theorem pay30_eq : k0_pay30 s d y z = grads s d y z := rfl
theorem pay31_eq : k0_pay31 s O y V = addV s O y V := rfl
theorem pay33_eq : k0_pay33 (k0_pay32 s d Q y z K) = addK (grads s d y z) Q K := rfl
theorem pay34_eq : k0_pay34 j g D = addQ j g D := rfl
theorem pay37_eq : k0_pay37 m q a = qsel m q a := rfl
theorem pay38_eq : k0_pay38 m q a = qsel m q a := rfl
theorem pay42_eq : k0_pay42 k Q t = keep (scores k Q t) := rfl
theorem pay43_eq : k0_pay43 u (k0_pay36 o) k0_pay39 (k0_pay40 m) = keep (dots u (osel m o)) := rfl
theorem pay44_eq : k0_pay44 k Q t = keep (scores k Q t) := rfl
theorem pay45_eq : k0_pay45 m u (k0_pay36 o) = keep (dots u (osel m o)) := rfl
theorem pay48_eq : k0_pay48 m q a = qsel m q a := rfl
theorem pay49_eq : k0_pay49 m q a = qsel m q a := rfl
theorem pay50_eq : k0_pay50 m o = osel m o := rfl
theorem pay51_eq : k0_pay51 m o = osel m o := rfl
theorem pay55_eq : k0_pay55 O (k0_pay52 s y) V = addV s O y V := rfl
theorem pay56_eq : k0_pay56 Q (k0_pay53 s d y z) K = addK (grads s d y z) Q K := rfl
theorem pay57_eq : k0_pay57 j (k0_pay53 s d y z) D = addQ j (grads s d y z) D := rfl
theorem pay166_eq : k0_pay166 O (k0_pay58 s y) V = addV s O y V := rfl
theorem pay167_eq : k0_pay167 d Q (k0_pay58 s y) z K = addK (grads s d y z) Q K := rfl
theorem pay168_eq : k0_pay168 j d (k0_pay58 s y) z D = addQ j (grads s d y z) D := rfl

end names

/-! ## Where a trip reads and writes -/

section offsets

variable {j : ℕ} {b : Fin 8}

theorem trips_eq : ∀ i : grid0.Coords, (k0_t1_loop i).trips = 4 - (i 2).val := by decide +kernel
theorem off4_one : ∀ (i : grid0.Coords) (k : Fin (k0_t1_loop i).trips),
    k0_off4 i k 1#32 = ![256 * (2 * (i 2).val + 2 * k.val + 1), 0] := by decide +kernel
theorem off4_two : ∀ (i : grid0.Coords) (k : Fin (k0_t1_loop i).trips),
    k0_off4 i k 2#32 = ![256 * min (2 * (i 2).val + 2 * k.val + 2) 7, 0] := by decide +kernel
theorem off5_one : ∀ (i : grid0.Coords) (k : Fin (k0_t1_loop i).trips),
    k0_off5 i k 1#32 = ![0, 256 * (2 * (i 2).val + 2 * k.val + 1), 0] := by decide +kernel
theorem off5_two : ∀ (i : grid0.Coords) (k : Fin (k0_t1_loop i).trips),
    k0_off5 i k 2#32 = ![0, 256 * min (2 * (i 2).val + 2 * k.val + 2) 7, 0] := by decide +kernel
theorem off6_one : ∀ (i : grid0.Coords) (k : Fin (k0_t1_loop i).trips),
    k0_off6 i k 1#32 = ![2 * k.val + 1, 0, 0] := by decide +kernel
theorem off6_two : ∀ (i : grid0.Coords) (k : Fin (k0_t1_loop i).trips),
    k0_off6 i k 2#32 = ![if 2 * (i 2).val + 2 * k.val + 2 < 8 then 2 * k.val + 2 else 8, 0, 0] := by decide +kernel
theorem off7_eq : ∀ (i : grid0.Coords) (k : Fin (k0_t1_loop i).trips),
    k0_off7 i k = ![256 * (2 * (i 2).val + 2 * k.val), 0] := by decide +kernel
theorem off8_eq : ∀ (i : grid0.Coords) (k : Fin (k0_t1_loop i).trips),
    k0_off8 i k = ![0, 256 * (2 * (i 2).val + 2 * k.val), 0] := by decide +kernel
theorem off9_eq : ∀ (i : grid0.Coords) (k : Fin (k0_t1_loop i).trips),
    k0_off9 i k = ![2 * (i 2).val + 2 * k.val, 0, 0, 0] := by decide +kernel
theorem off10_eq : ∀ (i : grid0.Coords) (k : Fin (k0_t1_loop i).trips),
    k0_off10 i k = ![0, 2 * (i 2).val + 2 * k.val, 0, 0] := by decide +kernel
theorem off11_eq : ∀ (i : grid0.Coords) (k : Fin (k0_t1_loop i).trips),
    k0_off11 i k = ![2 * (i 2).val + 2 * k.val, 1, 0, 0] := by decide +kernel
theorem off12_eq : ∀ (i : grid0.Coords) (k : Fin (k0_t1_loop i).trips),
    k0_off12 i k = ![1, 2 * (i 2).val + 2 * k.val, 0, 0] := by decide +kernel
theorem off13_eq : ∀ (i : grid0.Coords) (k : Fin (k0_t1_loop i).trips),
    k0_off13 i k = ![2 * (i 2).val + 2 * k.val + 1, 0, 0, 0] := by decide +kernel
theorem off14_eq : ∀ (i : grid0.Coords) (k : Fin (k0_t1_loop i).trips),
    k0_off14 i k = ![0, 2 * (i 2).val + 2 * k.val + 1, 0, 0] := by decide +kernel
theorem off15_eq : ∀ (i : grid0.Coords) (k : Fin (k0_t1_loop i).trips),
    k0_off15 i k = ![2 * (i 2).val + 2 * k.val + 1, 1, 0, 0] := by decide +kernel
theorem off16_eq : ∀ (i : grid0.Coords) (k : Fin (k0_t1_loop i).trips),
    k0_off16 i k = ![1, 2 * (i 2).val + 2 * k.val + 1, 0, 0] := by decide +kernel

end offsets

/-- A load's entry is the buffer's entry at the load's offsets and the entry's own place. -/
theorem load_at {sig : RefSig} {κ : Kind} {sp : Space} {s : Shape} {e : EltTy} {Val : EltTy → Type}
    (v : View sig κ sp s e) (f : v.ty.Contents Val) {off off' size : Fin s.rank → ℕ}
    (inb : ∀ a, off a + size a ≤ s.size a) (x : (Rect.unit off size inb).shape.Idx) (y : s.Idx)
    (heq : off = off') (hy : ∀ a, (y a).val = off' a + (x a).val) :
    v.readAt Val (Rect.unit off size inb).toLoadRect f x = v.read Val f y := by
  subst heq
  rw [View.readAt_apply]
  refine congrArg _ (funext fun a => Fin.ext ?_)
  show off a + 1 * (x a).val = (y a).val
  rw [hy a, Nat.one_mul]

end Cert.FoxLoop
-- ==== Proof.FoxTrip.lean ====
module

public import proofs.«01_k».proof.Proof.FoxOps

/-!
One trip of the backward attention loop: what the four scratch arrays hold after it, from what
they held before it, in real numbers.
-/

@[expose] public section

set_option maxRecDepth 16384

noncomputable section

open Idealize.ShloMosaic Idealize.ShloMosaic.TcCoe Idealize.SL.Sem
open Cert.Lift
open scoped BigOperators

namespace Cert.FoxLoop

open Cert.FoxKernelIdeal Cert.FoxKernelIdeal.Gen

/-- Row `r` of query block `b`. -/
def row (b : Fin 8) (r : Fin 256) : Fin 2048 := ⟨256 * b.val + r.val, by omega⟩

variable {𝒱 : Variants} {c : Dev nD} {bd : Option 𝒱.V} {i : grid0.Coords} {arg3 : Memref sig .tc .vmem S2048x128 .bf16}
  {harg3 : arg3.IsWhole} {arg4 : Memref sig .tc .vmem S512x128 .bf16} {harg4 : arg4.IsWhole}
  {arg5 : Memref sig .tc .vmem S512x128 .bf16} {harg5 : arg5.IsWhole}
  {arg6 : Memref sig .tc .vmem S9x512x256 .f32} {harg6 : arg6.IsWhole}
  {arg7 : Memref sig .tc .vmem S2048x128 .bf16} {harg7 : arg7.IsWhole}
  {arg8 : Memref sig .tc .vmem S8x2x1x256 .f32} {harg8 : arg8.IsWhole}
  {arg9 : Memref sig .tc .vmem S8x2x1x256 .f32} {harg9 : arg9.IsWhole}
  {arg10 : Memref sig .tc .vmem S1x1x2x2x128x256 .bf16} {harg10 : arg10.IsWhole}
  {arg11 : Memref sig .tc .vmem S1x2048x128 .bf16} {harg11 : arg11.IsWhole}
  {arg12 : Memref sig .tc .vmem S1x512x128 .bf16} {harg12 : arg12.IsWhole}
  {arg13 : Memref sig .tc .vmem S2048x128 .f32} {harg13 : arg13.IsWhole}
  {arg14 : Memref sig .tc .vmem S512x128 .bf16} {harg14 : arg14.IsWhole}
  {arg15 : Memref sig .tc .vmem S512x128 .bf16} {harg15 : arg15.IsWhole}
  {arg16 : Memref sig .tc .vmem S2048x128 .f32} {harg16 : arg16.IsWhole}
  {arg17 : Memref sig .tc .vmem S512x128 .f32} {harg17 : arg17.IsWhole}
  {arg18 : Memref sig .tc .vmem S2x8x128x256 .f32} {harg18 : arg18.IsWhole}
  {arg19 : Memref sig .tc .vmem S2x512x128 .f32} {harg19 : arg19.IsWhole}
  {arg20 : Memref sig .tc .vmem S512x128 .f32} {harg20 : arg20.IsWhole}
  {arg21 : Memref sig .tc .vmem S2x2x512x256 .f32} {harg21 : arg21.IsWhole} {v2 : IVec S1x128 1}
  {v4 : IVec S1x128 1} {v5 : BitVec 32} {v20 : FVec Ideal S512x128 .bf16} {v25 : FVec Ideal S512x128 .bf16}
  {v30 : FVec Ideal S512x128 .bf16} {v35 : FVec Ideal S128x512 .bf16} {v40 : FVec Ideal S128x512 .bf16}
  {v83 : FVec Ideal S512x256 .f32} {X_arg3 : BufTy.Contents (Elt Ideal) arg3.view.ty}
  {X_arg6 : BufTy.Contents (Elt Ideal) arg6.view.ty} {X_arg7 : BufTy.Contents (Elt Ideal) arg7.view.ty}
  {X_arg8 : BufTy.Contents (Elt Ideal) arg8.view.ty} {X_arg9 : BufTy.Contents (Elt Ideal) arg9.view.ty}
  {X_arg11 : BufTy.Contents (Elt Ideal) arg11.view.ty} {k : Fin (k0_t1_loop i).trips}
  {f_arg18 : BufTy.Contents (Elt Ideal) arg18.view.ty} {f_arg19 : BufTy.Contents (Elt Ideal) arg19.view.ty}
  {f_arg20 : BufTy.Contents (Elt Ideal) arg20.view.ty} {f_arg21 : BufTy.Contents (Elt Ideal) arg21.view.ty}
variable (D : Data)
  (h3 : ∀ b r l, arg3.view.read (Elt Ideal) X_arg3 (ix2 (row b r) l) = ((D.q b r l : ℝ) : EReal))
  (h6 : ∀ n s r, arg6.view.read (Elt Ideal) X_arg6 (ix3 n s r) = bias (D.w n s r))
  (h7 : ∀ b r l, arg7.view.read (Elt Ideal) X_arg7 (ix2 (row b r) l) = ((D.o b r l : ℝ) : EReal))
  (h8 : ∀ b h r, arg8.view.read (Elt Ideal) X_arg8 (ix4 b h 0 r) = ((D.y h b r : ℝ) : EReal))
  (h9 : ∀ b h r, arg9.view.read (Elt Ideal) X_arg9 (ix4 b h 0 r) = ((D.z h b r : ℝ) : EReal))
  (h11 : ∀ b r l, arg11.view.read (Elt Ideal) X_arg11 (ix3 0 (row b r) l) = ((D.a b r l : ℝ) : EReal))
  (m2 : IsMask 0 v2) (m4 : IsMask 1 v4)
  (h20 : ∀ s l, v20 (ix2 s l) = ((D.v s l : ℝ) : EReal))
  (h25 : ∀ s l, v25 (ix2 s l) = ((D.k 0 s l : ℝ) : EReal))
  (h30 : ∀ s l, v30 (ix2 s l) = ((D.k 1 s l : ℝ) : EReal))
  (h35 : ∀ s l, v35 (ix2 l s) = ((D.k 0 s l : ℝ) : EReal))
  (h40 : ∀ s l, v40 (ix2 l s) = ((D.k 1 s l : ℝ) : EReal))

section reads

variable {b : Fin 8} {off2 : Fin 2 → ℕ} {off3 : Fin 3 → ℕ} {off4 : Fin 4 → ℕ}

include h3 in
theorem q_at (inb) (e : off2 = ![256 * b.val, 0]) (r : Fin 256) (l : Fin 128) :
    arg3.view.readAt (Elt Ideal) (Rect.unit (s := S2048x128) off2 S256x128.size inb).toLoadRect X_arg3 (ix2 r l) = ((D.q b r l : ℝ) : EReal) :=
  (load_at _ _ inb (ix2 r l) (ix2 (row b r) l) e (by unfold row; intro a; fin_cases a <;> simp [ix2])).trans (h3 b r l)

include h7 in
theorem o_at (inb) (e : off2 = ![256 * b.val, 0]) (r : Fin 256) (l : Fin 128) :
    arg7.view.readAt (Elt Ideal) (Rect.unit (s := S2048x128) off2 S256x128.size inb).toLoadRect X_arg7 (ix2 r l) = ((D.o b r l : ℝ) : EReal) :=
  (load_at _ _ inb (ix2 r l) (ix2 (row b r) l) e (by unfold row; intro a; fin_cases a <;> simp [ix2])).trans (h7 b r l)

include h11 in
theorem a_at (inb) (e : off3 = ![0, 256 * b.val, 0]) (r : Fin 256) (l : Fin 128) :
    arg11.view.readAt (Elt Ideal) (Rect.unit (s := S1x2048x128) off3 S1x256x128.size inb).toLoadRect X_arg11 (ix3 0 r l) = ((D.a b r l : ℝ) : EReal) :=
  (load_at _ _ inb (ix3 0 r l) (ix3 0 (row b r) l) e (by unfold row; intro a; fin_cases a <;> simp [ix3])).trans (h11 b r l)

include h6 in
theorem t_at {n : Fin 9} (inb) (e : off3 = ![n.val, 0, 0]) (s : Fin 512) (r : Fin 256) :
    arg6.view.readAt (Elt Ideal) (Rect.unit (s := S9x512x256) off3 S1x512x256.size inb).toLoadRect X_arg6 (ix3 0 s r) = bias (D.w n s r) :=
  (load_at _ _ inb (ix3 0 s r) (ix3 n s r) e (by intro a; fin_cases a <;> simp [ix3])).trans (h6 n s r)

include h8 in
theorem y_at {h : Fin 2} (inb) (e : off4 = ![b.val, h.val, 0, 0]) (r : Fin 256) :
    arg8.view.readAt (Elt Ideal) (Rect.unit (s := S8x2x1x256) off4 S1x1x1x256.size inb).toLoadRect X_arg8 (ix4 0 0 0 r) = ((D.y h b r : ℝ) : EReal) :=
  (load_at _ _ inb (ix4 0 0 0 r) (ix4 b h 0 r) e (by intro a; fin_cases a <;> simp [ix4])).trans (h8 b h r)

include h9 in
theorem z_at {h : Fin 2} (inb) (e : off4 = ![b.val, h.val, 0, 0]) (r : Fin 256) :
    arg9.view.readAt (Elt Ideal) (Rect.unit (s := S8x2x1x256) off4 S1x1x1x256.size inb).toLoadRect X_arg9 (ix4 0 0 0 r) = ((D.z h b r : ℝ) : EReal) :=
  (load_at _ _ inb (ix4 0 0 0 r) (ix4 b h 0 r) e (by intro a; fin_cases a <;> simp [ix4])).trans (h9 b h r)

/-- The kept scores of head `h`, or their cotangents. -/
theorem kept_read (h c : Fin 2) (inb) (s : Fin 512) (r : Fin 256) :
    kept (arg21.view.readAt (Elt Ideal) (Rect.unit (s := S2x2x512x256) ![h.val, c.val, 0, 0] S1x1x512x256.size inb).toLoadRect f_arg21) (ix2 s r)
      = arg21.view.read (Elt Ideal) f_arg21 (ix4 h c s r) :=
  (kept_at _ s r).trans (load_at _ _ inb (ix4 0 0 s r) (ix4 h c s r) rfl (by intro a; fin_cases a <;> simp [ix4]))

end reads

variable {b0 b1 b2 : Fin 8} {n0 n1 n2 : Fin 9}
  (hb0 : b0.val = 2 * (i 2).val + 2 * k.val) (hb1 : b1.val = 2 * (i 2).val + 2 * k.val + 1)
  (hb2 : b2.val = min (2 * (i 2).val + 2 * k.val + 2) 7)
  (hn0 : n0.val = 2 * k.val) (hn1 : n1.val = 2 * k.val + 1)
  (hn2 : n2.val = if 2 * (i 2).val + 2 * k.val + 2 < 8 then 2 * k.val + 2 else 8)
  (hs : ∀ h s r, arg21.view.read (Elt Ideal) f_arg21 (ix4 h 0 s r) = ((D.x h b0 s r : ℝ) : EReal) + bias (D.w n0 s r))
  (hd : ∀ h s r, arg21.view.read (Elt Ideal) f_arg21 (ix4 h 1 s r) = ((D.d h b0 s r : ℝ) : EReal))

/-! ### The blocks of a trip -/

section blocks

include h3 h11 hb0 in
theorem r14_at (m2 : IsMask 0 v2) (r : Fin 256) (l : Fin 128) :
    trip_k0_t1.sl.r_14 i arg3 arg11 v2 X_arg3 X_arg11 k (ix2 r l) = ((D.qa 0 b0 r l : ℝ) : EReal) := by
  unfold trip_k0_t1.sl.r_14
  rw [pay21_eq]
  exact qsel_at D m2 (fun r l => q_at D h3 _ ((off7_eq i k).trans (by rw [hb0])) r l)
    (fun r l => a_at D h11 _ ((off8_eq i k).trans (by rw [hb0])) r l) r l

include h3 h11 hb0 in
theorem r16_at (m4 : IsMask 1 v4) (r : Fin 256) (l : Fin 128) :
    trip_k0_t1.sl.r_16 i arg3 arg11 v4 X_arg3 X_arg11 k (ix2 r l) = ((D.qa 1 b0 r l : ℝ) : EReal) := by
  unfold trip_k0_t1.sl.r_16 trip_k0_t1.sl.r_12 trip_k0_t1.sl.r_15
  rw [pay22_eq]
  exact qsel_at D m4 (fun r l => q_at D h3 _ ((off7_eq i k).trans (by rw [hb0])) r l)
    (fun r l => a_at D h11 _ ((off8_eq i k).trans (by rw [hb0])) r l) r l

include h3 h11 hb1 in
theorem r25_at (m2 : IsMask 0 v2) (r : Fin 256) (l : Fin 128) :
    trip_k0_t1.sl.r_25 i arg3 arg11 v2 X_arg3 X_arg11 k (ix2 r l) = ((D.qa 0 b1 r l : ℝ) : EReal) := by
  unfold trip_k0_t1.sl.r_25
  rw [pay48_eq]
  exact qsel_at D m2 (fun r l => q_at D h3 _ ((off4_one i k).trans (by rw [hb1])) r l)
    (fun r l => a_at D h11 _ ((off5_one i k).trans (by rw [hb1])) r l) r l

include h3 h11 hb1 in
theorem r26_at (m4 : IsMask 1 v4) (r : Fin 256) (l : Fin 128) :
    trip_k0_t1.sl.r_26 i arg3 arg11 v4 X_arg3 X_arg11 k (ix2 r l) = ((D.qa 1 b1 r l : ℝ) : EReal) := by
  unfold trip_k0_t1.sl.r_26
  rw [pay49_eq]
  exact qsel_at D m4 (fun r l => q_at D h3 _ ((off4_one i k).trans (by rw [hb1])) r l)
    (fun r l => a_at D h11 _ ((off5_one i k).trans (by rw [hb1])) r l) r l

include h3 h6 h11 hb1 hn1 in
theorem r8_at (m2 : IsMask 0 v2) (h25 : ∀ s l, v25 (ix2 s l) = ((D.k 0 s l : ℝ) : EReal)) :
    IsScore D 0 n1 b1 (trip_k0_t1.sl.r_8 i arg3 arg6 arg11 v2 v25 X_arg3 X_arg6 X_arg11 k) := by
  unfold trip_k0_t1.sl.r_8 trip_k0_t1.sl.r_6
  rw [pay15_eq, pay11_eq]
  exact scores_at D h25 (qsel_at D m2 (fun r l => q_at D h3 _ ((off4_one i k).trans (by rw [hb1])) r l)
    (fun r l => a_at D h11 _ ((off5_one i k).trans (by rw [hb1])) r l))
    (fun s r => t_at D h6 _ ((off6_one i k).trans (by rw [hn1])) s r)

include h3 h6 h11 hb1 hn1 in
theorem r10_at (m4 : IsMask 1 v4) (h30 : ∀ s l, v30 (ix2 s l) = ((D.k 1 s l : ℝ) : EReal)) :
    IsScore D 1 n1 b1 (trip_k0_t1.sl.r_10 i arg3 arg6 arg11 v4 v30 X_arg3 X_arg6 X_arg11 k) := by
  unfold trip_k0_t1.sl.r_10 trip_k0_t1.sl.r_4 trip_k0_t1.sl.r_7
  rw [pay17_eq]
  exact scores_at D h30 (qsel_at D m4 (fun r l => q_at D h3 _ ((off4_one i k).trans (by rw [hb1])) r l)
    (fun r l => a_at D h11 _ ((off5_one i k).trans (by rw [hb1])) r l))
    (fun s r => t_at D h6 _ ((off6_one i k).trans (by rw [hn1])) s r)

include h7 hb1 in
theorem r9_at (m2 : IsMask 0 v2) (h20 : ∀ s l, v20 (ix2 s l) = ((D.v s l : ℝ) : EReal)) (s : Fin 512) (r : Fin 256) :
    trip_k0_t1.sl.r_9 i arg7 v2 v20 X_arg7 k (ix2 s r) = ((D.d 0 b1 s r : ℝ) : EReal) := by
  unfold trip_k0_t1.sl.r_9 trip_k0_t1.sl.r_5
  rw [pay16_eq]
  exact dots_at h20 (osel_at D m2 (fun r l => o_at D h7 _ ((off4_one i k).trans (by rw [hb1])) r l)) s r

include h7 hb1 in
theorem r11_at (m4 : IsMask 1 v4) (h20 : ∀ s l, v20 (ix2 s l) = ((D.v s l : ℝ) : EReal)) (s : Fin 512) (r : Fin 256) :
    trip_k0_t1.sl.r_11 i arg7 v4 v20 X_arg7 k (ix2 s r) = ((D.d 1 b1 s r : ℝ) : EReal) := by
  unfold trip_k0_t1.sl.r_11 trip_k0_t1.sl.r_5
  rw [pay18_eq]
  exact dots_at h20 (osel_at D m4 (fun r l => o_at D h7 _ ((off4_one i k).trans (by rw [hb1])) r l)) s r

include hs in
theorem kept0 (h : Fin 2) (inb) : IsScore D h n0 b0
    (kept (arg21.view.readAt (Elt Ideal) (Rect.unit (s := S2x2x512x256) ![h.val, 0, 0, 0] S1x1x512x256.size inb).toLoadRect f_arg21)) :=
  fun s r => (kept_read h 0 _ s r).trans (hs h s r)

include hd in
theorem kept1 (h : Fin 2) (inb) (s : Fin 512) (r : Fin 256) :
    kept (arg21.view.readAt (Elt Ideal) (Rect.unit (s := S2x2x512x256) ![h.val, 1, 0, 0] S1x1x512x256.size inb).toLoadRect f_arg21) (ix2 s r)
      = ((D.d h b0 s r : ℝ) : EReal) :=
  (kept_read h 1 _ s r).trans (hd h s r)

include h8 h9 hb0 hs hd in
theorem r18_at (s : Fin 512) (r : Fin 256) :
    trip_k0_t1.sl.r_18 i arg8 arg9 arg21 X_arg8 X_arg9 k f_arg21 (ix2 s r) = ((D.g 0 n0 b0 s r : ℝ) : EReal) := by
  unfold trip_k0_t1.sl.r_18 trip_k0_t1.sl.r trip_k0_t1.sl.r_1
  rw [pay25_eq, pay5_eq, pay6_eq]
  exact grads_at D (kept0 D hs 0 _) (kept1 D hd 0 _)
    (fun r => y_at D h8 _ ((off9_eq i k).trans (by rw [hb0]; rfl)) r)
    (fun r => z_at D h9 _ ((off9_eq i k).trans (by rw [hb0]; rfl)) r) s r

include h8 h9 hb0 hs hd in
theorem r20_at (s : Fin 512) (r : Fin 256) :
    trip_k0_t1.sl.r_20 i arg8 arg9 arg21 X_arg8 X_arg9 k f_arg21 (ix2 s r) = ((D.g 1 n0 b0 s r : ℝ) : EReal) := by
  unfold trip_k0_t1.sl.r_20 trip_k0_t1.sl.r_2 trip_k0_t1.sl.r_3
  rw [pay30_eq, pay7_eq, pay8_eq]
  exact grads_at D (kept0 D hs 1 _) (kept1 D hd 1 _)
    (fun r => y_at D h8 _ ((off11_eq i k).trans (by rw [hb0]; rfl)) r)
    (fun r => z_at D h9 _ ((off11_eq i k).trans (by rw [hb0]; rfl)) r) s r

/-- A piece of the keys' gradient under an index. -/
theorem put_k {sig : RefSig} {κ : Kind} {sp : Space} (v : View sig κ sp S2x512x128 .f32) (f : v.ty.Contents (Elt Ideal))
    (a h : Fin 2) (inb) (w : FVec Ideal S1x512x128 .f32) (L) (s : Fin 512) (l : Fin 128) :
    v.read (Elt Ideal) (v.writes (Elt Ideal) f (⟨Rect.unit (s := S2x512x128) ![a.val, 0, 0] S1x512x128.size inb, w⟩ :: L)) (ix3 h s l)
      = if h = a then w (ix3 0 s l) else v.read (Elt Ideal) (v.writes (Elt Ideal) f L) (ix3 h s l) := by
  split_ifs with e
  · subst e
    exact View.read_writes_cons_unit_of_mem v f inb w L (ix3 h s l) (ix3 0 s l) rfl (by intro a; fin_cases a <;> simp [ix3])
  · exact View.read_writes_cons_unit_of_not_mem v f inb w L (ix3 h s l) rfl 0
      (by show h.val < a.val ∨ a.val + 1 ≤ h.val; omega)

/-- A piece of the queries' gradient under an index. -/
theorem put_q {sig : RefSig} {κ : Kind} {sp : Space} (v : View sig κ sp S2x8x128x256 .f32) (f : v.ty.Contents (Elt Ideal))
    (a h : Fin 2) (b' b : Fin 8) {off : Fin 4 → ℕ} (e : off = ![a.val, b'.val, 0, 0]) (inb) (w : FVec Ideal S1x1x128x256 .f32) (L)
    (l : Fin 128) (r : Fin 256) :
    v.read (Elt Ideal) (v.writes (Elt Ideal) f (⟨Rect.unit (s := S2x8x128x256) off S1x1x128x256.size inb, w⟩ :: L)) (ix4 h b l r)
      = if h = a ∧ b = b' then w (ix4 0 0 l r) else v.read (Elt Ideal) (v.writes (Elt Ideal) f L) (ix4 h b l r) := by
  subst e
  split_ifs with e
  · obtain ⟨rfl, rfl⟩ := e
    exact View.read_writes_cons_unit_of_mem v f inb w L (ix4 h b l r) (ix4 0 0 l r) rfl (by intro a; fin_cases a <;> simp [ix4])
  · rcases not_and_or.mp e with e | e
    · exact View.read_writes_cons_unit_of_not_mem v f inb w L (ix4 h b l r) rfl 0
        (by show h.val < a.val ∨ a.val + 1 ≤ h.val; omega)
    · exact View.read_writes_cons_unit_of_not_mem v f inb w L (ix4 h b l r) rfl 1
        (by show b.val < b'.val ∨ b'.val + 1 ≤ b.val; omega)

/-- A piece of the kept scores under an index. -/
theorem put_s {sig : RefSig} {κ : Kind} {sp : Space} (v : View sig κ sp S2x2x512x256 .f32) (f : v.ty.Contents (Elt Ideal))
    (a h b' b : Fin 2) (inb) (w : FVec Ideal S1x1x512x256 .f32) (L) (s : Fin 512) (r : Fin 256) :
    v.read (Elt Ideal) (v.writes (Elt Ideal) f (⟨Rect.unit (s := S2x2x512x256) ![a.val, b'.val, 0, 0] S1x1x512x256.size inb, w⟩ :: L)) (ix4 h b s r)
      = if h = a ∧ b = b' then w (ix4 0 0 s r) else v.read (Elt Ideal) (v.writes (Elt Ideal) f L) (ix4 h b s r) := by
  split_ifs with e
  · obtain ⟨rfl, rfl⟩ := e
    exact View.read_writes_cons_unit_of_mem v f inb w L (ix4 h b s r) (ix4 0 0 s r) rfl (by intro a; fin_cases a <;> simp [ix4])
  · rcases not_and_or.mp e with e | e
    · exact View.read_writes_cons_unit_of_not_mem v f inb w L (ix4 h b s r) rfl 0
        (by show h.val < a.val ∨ a.val + 1 ≤ h.val; omega)
    · exact View.read_writes_cons_unit_of_not_mem v f inb w L (ix4 h b s r) rfl 1
        (by show b.val < b'.val ∨ b'.val + 1 ≤ b.val; omega)

end blocks

/-! ### The values' gradient -/

section values

variable (A : Fin 512 → Fin 128 → ℝ)
  (hA : ∀ s l, arg20.view.read (Elt Ideal) f_arg20 (ix2 s l) = ((A s l : ℝ) : EReal))

include h7 h8 m2 hb0 hs hA in
/-- After the first head of the first block. -/
theorem v277_at (s : Fin 512) (l : Fin 128) :
    trip_k0_t1.sl.v277 i arg7 arg8 arg20 arg21 v2 X_arg7 X_arg8 k f_arg20 f_arg21 (ix2 s l)
      = ((A s l + D.dv 0 n0 b0 s l : ℝ) : EReal) := by
  refine (congrFun (View.readCov_full _ _ _ _ _ : trip_k0_t1.sl.v277 i arg7 arg8 arg20 arg21 v2 X_arg7 X_arg8 k f_arg20 f_arg21 = _) (ix2 s l)).trans ?_
  unfold trip_k0_t1.sl.r trip_k0_t1.sl.r_13
  rw [pay5_eq, pay26_eq]
  refine addV_at D (kept0 D hs 0 _)
    (osel_at D m2 fun r l => o_at D h7 _ ((off7_eq i k).trans (by rw [hb0])) r l)
    (fun r => y_at D h8 _ ((off9_eq i k).trans (by rw [hb0]; rfl)) r) (A := A) ?_ s l
  intro s l
  exact (load_at _ _ _ (ix2 s l) (ix2 s l) (off' := ![0, 0]) rfl (by intro a; fin_cases a <;> simp)).trans (hA s l)

include h7 h8 m2 m4 hb0 hs hA in
/-- After the second head of the first block. -/
theorem v401_at (s : Fin 512) (l : Fin 128) :
    trip_k0_t1.sl.v401 i arg7 arg8 arg20 arg21 v2 v4 X_arg7 X_arg8 k f_arg20 f_arg21 (ix2 s l)
      = ((A s l + D.dv 0 n0 b0 s l + D.dv 1 n0 b0 s l : ℝ) : EReal) := by
  refine (congrFun (View.readCov_full _ _ _ _ _ : trip_k0_t1.sl.v401 i arg7 arg8 arg20 arg21 v2 v4 X_arg7 X_arg8 k f_arg20 f_arg21 = _) (ix2 s l)).trans ?_
  unfold trip_k0_t1.sl.r_2 trip_k0_t1.sl.r_17 trip_k0_t1.sl.r_13
  rw [pay7_eq, pay23_eq, pay31_eq]
  exact addV_at D (kept0 D hs 1 _)
    (osel_at D m4 fun r l => o_at D h7 _ ((off7_eq i k).trans (by rw [hb0])) r l)
    (fun r => y_at D h8 _ ((off11_eq i k).trans (by rw [hb0]; rfl)) r)
    (v277_at D h7 h8 m2 hb0 hs A hA) s l

include h3 h6 h7 h8 h11 m2 m4 h25 hb0 hb1 hn1 hs hA in
/-- After the first head of the second block. -/
theorem v437_at (s : Fin 512) (l : Fin 128) :
    trip_k0_t1.sl.v437 i arg3 arg6 arg7 arg8 arg11 arg20 arg21 v2 v4 v25 X_arg3 X_arg6 X_arg7 X_arg8 X_arg11 k f_arg20 f_arg21 (ix2 s l)
      = ((A s l + D.dv 0 n0 b0 s l + D.dv 1 n0 b0 s l + D.dv 0 n1 b1 s l : ℝ) : EReal) := by
  refine (congrFun (View.readCov_full _ _ _ _ _ : trip_k0_t1.sl.v437 i arg3 arg6 arg7 arg8 arg11 arg20 arg21 v2 v4 v25 X_arg3 X_arg6 X_arg7 X_arg8 X_arg11 k f_arg20 f_arg21 = _) (ix2 s l)).trans ?_
  unfold trip_k0_t1.sl.r_27 trip_k0_t1.sl.r_29
  rw [pay50_eq, pay55_eq]
  exact addV_at D (r8_at D h3 h6 h11 hb1 hn1 m2 h25)
    (osel_at D m2 fun r l => o_at D h7 _ ((off4_one i k).trans (by rw [hb1])) r l)
    (fun r => y_at D h8 _ ((off13_eq i k).trans (by rw [hb1]; rfl)) r)
    (v401_at D h7 h8 m2 m4 hb0 hs A hA) s l

include h3 h6 h7 h8 h11 m2 m4 h25 h30 hb0 hb1 hn1 hs hA in
/-- The values' gradient after a trip. -/
theorem trip_v (s : Fin 512) (l : Fin 128) :
    arg20.view.read (Elt Ideal) (arg20.view.writes (Elt Ideal) f_arg20
      ((trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2 v4 v5 v20 v25 v30 v35 v40 v83 X_arg3 X_arg6 X_arg7 X_arg8 X_arg9 X_arg11 k).2.2.1 f_arg18 f_arg19 f_arg20 f_arg21)) (ix2 s l)
      = ((A s l + D.dv 0 n0 b0 s l + D.dv 1 n0 b0 s l + D.dv 0 n1 b1 s l + D.dv 1 n1 b1 s l : ℝ) : EReal) := by
  unfold trip_k0_t1
  dsimp only
  refine (congrFun (View.read_writes_full _ _ _ _ _) (ix2 s l)).trans ?_
  unfold trip_k0_t1.sl.r_28 trip_k0_t1.sl.r_31
  rw [pay51_eq, pay166_eq]
  exact addV_at D (r10_at D h3 h6 h11 hb1 hn1 m4 h30)
    (osel_at D m4 fun r l => o_at D h7 _ ((off4_one i k).trans (by rw [hb1])) r l)
    (fun r => y_at D h8 _ ((off15_eq i k).trans (by rw [hb1]; rfl)) r)
    (v437_at D h3 h6 h7 h8 h11 m2 m4 h25 hb0 hb1 hn1 hs A hA) s l

end values

/-! ### The keys' gradient -/

section keys

variable (A : Fin 2 → Fin 512 → Fin 128 → ℝ)
  (hA : ∀ h s l, arg19.view.read (Elt Ideal) f_arg19 (ix3 h s l) = ((A h s l : ℝ) : EReal))

include h3 h8 h9 h11 m2 hb0 hs hd hA in
theorem r19_at (s : Fin 512) (l : Fin 128) :
    trip_k0_t1.sl.r_19 i arg3 arg8 arg9 arg11 arg19 arg21 v2 X_arg3 X_arg8 X_arg9 X_arg11 k f_arg19 f_arg21 (ix3 0 s l)
      = ((A 0 s l + D.dk 0 n0 b0 s l : ℝ) : EReal) := by
  unfold trip_k0_t1.sl.r_19
  rw [pay27_eq]
  exact addK_at D (r18_at D h8 h9 hb0 hs hd) (r14_at D h3 h11 hb0 m2)
    (fun s l => (load_at _ _ _ (ix3 0 s l) (ix3 0 s l) (off' := ![0, 0, 0]) rfl (by intro a; fin_cases a <;> simp)).trans (hA 0 s l)) s l

include h3 h8 h9 h11 m4 hb0 hs hd hA in
theorem r21_at (s : Fin 512) (l : Fin 128) :
    k0_pay33 (trip_k0_t1.sl.r_21 i arg3 arg8 arg9 arg11 arg19 arg21 v4 X_arg3 X_arg8 X_arg9 X_arg11 k f_arg19 f_arg21) (ix3 0 s l)
      = ((A 1 s l + D.dk 1 n0 b0 s l : ℝ) : EReal) := by
  unfold trip_k0_t1.sl.r_21
  rw [pay33_eq]
  exact addK_at D (r20_at D h8 h9 hb0 hs hd) (r16_at D h3 h11 hb0 m4)
    (fun s l => (load_at _ _ _ (ix3 0 s l) (ix3 1 s l) (off' := ![1, 0, 0]) rfl (by intro a; fin_cases a <;> simp [ix3])).trans (hA 1 s l)) s l

include h3 h8 h9 h11 m2 hb0 hs hd hA in
theorem v408_at (s : Fin 512) (l : Fin 128) :
    trip_k0_t1.sl.v408 i arg3 arg8 arg9 arg11 arg19 arg21 v2 v4 X_arg3 X_arg8 X_arg9 X_arg11 k f_arg19 f_arg21 (ix3 0 s l)
      = ((A 0 s l + D.dk 0 n0 b0 s l : ℝ) : EReal) := by
  refine (load_at arg19.view _ _ (ix3 0 s l) (ix3 0 s l) (off' := ![0, 0, 0]) rfl (by intro a; fin_cases a <;> simp)).trans ?_
  refine (put_k arg19.view _ 1 0 _ _ _ s l).trans ?_
  rw [if_neg (by decide)]
  refine (put_k arg19.view _ 0 0 _ _ _ s l).trans ?_
  rw [if_pos rfl]
  exact r19_at D h3 h8 h9 h11 m2 hb0 hs hd A hA s l

include h3 h6 h7 h8 h9 h11 m2 h20 h25 hb0 hb1 hn1 hs hd hA in
theorem p56_at (s : Fin 512) (l : Fin 128) :
    k0_pay56 (trip_k0_t1.sl.r_25 i arg3 arg11 v2 X_arg3 X_arg11 k)
      (trip_k0_t1.sl.r_30 i arg3 arg6 arg7 arg8 arg9 arg11 v2 v20 v25 X_arg3 X_arg6 X_arg7 X_arg8 X_arg9 X_arg11 k)
      (trip_k0_t1.sl.v408 i arg3 arg8 arg9 arg11 arg19 arg21 v2 v4 X_arg3 X_arg8 X_arg9 X_arg11 k f_arg19 f_arg21) (ix3 0 s l)
      = ((A 0 s l + D.dk 0 n0 b0 s l + D.dk 0 n1 b1 s l : ℝ) : EReal) := by
  unfold trip_k0_t1.sl.r_30
  rw [pay56_eq]
  exact addK_at D (grads_at D (r8_at D h3 h6 h11 hb1 hn1 m2 h25) (r9_at D h7 hb1 m2 h20)
      (fun r => y_at D h8 _ ((off13_eq i k).trans (by rw [hb1]; rfl)) r)
      (fun r => z_at D h9 _ ((off13_eq i k).trans (by rw [hb1]; rfl)) r))
    (r25_at D h3 h11 hb1 m2) (v408_at D h3 h8 h9 h11 m2 hb0 hs hd A hA) s l

include h3 h8 h9 h11 m4 hb0 hs hd hA in
theorem v444_at (s : Fin 512) (l : Fin 128) :
    trip_k0_t1.sl.v444 i arg3 arg6 arg7 arg8 arg9 arg11 arg19 arg21 v2 v4 v20 v25 X_arg3 X_arg6 X_arg7 X_arg8 X_arg9 X_arg11 k f_arg19 f_arg21 (ix3 0 s l)
      = ((A 1 s l + D.dk 1 n0 b0 s l : ℝ) : EReal) := by
  refine (load_at arg19.view _ _ (ix3 0 s l) (ix3 1 s l) (off' := ![1, 0, 0]) rfl (by intro a; fin_cases a <;> simp [ix3])).trans ?_
  refine (put_k arg19.view _ 0 1 _ _ _ s l).trans ?_
  rw [if_neg (by decide)]
  refine (put_k arg19.view _ 1 1 _ _ _ s l).trans ?_
  rw [if_pos rfl]
  exact r21_at D h3 h8 h9 h11 m4 hb0 hs hd A hA s l

include h3 h6 h7 h8 h9 h11 m2 m4 h20 h25 h30 hb0 hb1 hn1 hs hd hA in
/-- The keys' gradient after a trip. -/
theorem trip_k (h : Fin 2) (s : Fin 512) (l : Fin 128) :
    arg19.view.read (Elt Ideal) (arg19.view.writes (Elt Ideal) f_arg19
      ((trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2 v4 v5 v20 v25 v30 v35 v40 v83 X_arg3 X_arg6 X_arg7 X_arg8 X_arg9 X_arg11 k).2.1 f_arg18 f_arg19 f_arg20 f_arg21)) (ix3 h s l)
      = ((A h s l + D.dk h n0 b0 s l + D.dk h n1 b1 s l : ℝ) : EReal) := by
  unfold trip_k0_t1
  dsimp only
  refine (put_k arg19.view _ 1 h _ _ _ s l).trans ?_
  obtain rfl | rfl : h = 1 ∨ h = 0 := by fin_cases h <;> simp
  · rw [if_pos rfl]
    unfold trip_k0_t1.sl.r_31 trip_k0_t1.sl.r_32
    rw [pay167_eq]
    exact addK_at D (grads_at D (r10_at D h3 h6 h11 hb1 hn1 m4 h30) (r11_at D h7 hb1 m4 h20)
        (fun r => y_at D h8 _ ((off15_eq i k).trans (by rw [hb1]; rfl)) r)
        (fun r => z_at D h9 _ ((off15_eq i k).trans (by rw [hb1]; rfl)) r))
      (r26_at D h3 h11 hb1 m4) (v444_at D h3 h8 h9 h11 m4 hb0 hs hd A hA) s l
  · rw [if_neg (by decide)]
    refine (put_k arg19.view _ 0 0 _ _ _ s l).trans ?_
    rw [if_pos rfl]
    exact p56_at D h3 h6 h7 h8 h9 h11 m2 h20 h25 hb0 hb1 hn1 hs hd A hA s l

end keys

/-! ### The queries' gradient -/

section queries

variable (A : Fin 2 → Fin 8 → Fin 128 → Fin 256 → ℝ)
  (hA : ∀ h b l r, arg18.view.read (Elt Ideal) f_arg18 (ix4 h b l r) = ((A h b l r : ℝ) : EReal))

/-- A block of the queries' gradient as a trip loads it. -/
theorem lq_at {sig : RefSig} {κ : Kind} {sp : Space} (v : View sig κ sp S2x8x128x256 .f32) (f : v.ty.Contents (Elt Ideal)) (h : Fin 2) (b : Fin 8)
    {off : Fin 4 → ℕ} (e : off = ![h.val, b.val, 0, 0]) (inb) (l : Fin 128) (r : Fin 256) :
    v.readAt (Elt Ideal) (Rect.unit (s := S2x8x128x256) off S1x1x128x256.size inb).toLoadRect f (ix4 0 0 l r)
      = v.read (Elt Ideal) f (ix4 h b l r) :=
  load_at v f inb (ix4 0 0 l r) (ix4 h b l r) e (by intro a; fin_cases a <;> simp [ix4])

include hb0 hb1 in
theorem b1_ne_b0 : b1 ≠ b0 := fun e => by
  have := congrArg Fin.val e
  omega

include h8 h9 h35 h40 hb0 hs hd hA in
/-- After the first block. -/
theorem q2_at (h : Fin 2) (b : Fin 8) (l : Fin 128) (r : Fin 256) :
    arg18.view.read (Elt Ideal) (arg18.view.writes (Elt Ideal) f_arg18
      (trip_k0_t1.sl.HW_arg18_2 i arg8 arg9 arg18 arg21 v35 v40 X_arg8 X_arg9 k f_arg18 f_arg21)) (ix4 h b l r)
      = ((A h b l r + (if b = b0 then D.dq h n0 b0 l r else 0) : ℝ) : EReal) := by
  unfold trip_k0_t1.sl.HW_arg18_2
  refine (put_q arg18.view _ 1 h b0 b ((off12_eq i k).trans (by rw [hb0]; rfl)) _ _ _ l r).trans ?_
  by_cases e : b = b0
  · obtain rfl | rfl : h = 1 ∨ h = 0 := by fin_cases h <;> simp
    · rw [if_pos ⟨rfl, e⟩, if_pos e, e, pay34_eq]
      exact addQ_at D h40 (r20_at D h8 h9 hb0 hs hd)
        (fun l r => (lq_at _ _ 1 b0 ((off12_eq i k).trans (by rw [hb0]; rfl)) _ l r).trans (hA 1 b0 l r)) l r
    · rw [if_neg (fun e => absurd e.1 (by decide)), if_pos e]
      refine (put_q arg18.view _ 0 0 b0 b ((off10_eq i k).trans (by rw [hb0]; rfl)) _ _ _ l r).trans ?_
      rw [if_pos ⟨rfl, e⟩, e, pay28_eq]
      exact addQ_at D h35 (r18_at D h8 h9 hb0 hs hd)
        (fun l r => (lq_at _ _ 0 b0 ((off10_eq i k).trans (by rw [hb0]; rfl)) _ l r).trans (hA 0 b0 l r)) l r
  · rw [if_neg (fun e' => e e'.2), if_neg e, add_zero]
    refine (put_q arg18.view _ 0 h b0 b ((off10_eq i k).trans (by rw [hb0]; rfl)) _ _ _ l r).trans ?_
    rw [if_neg (fun e' => e e'.2)]
    exact hA h b l r

include h3 h6 h7 h8 h9 h11 m2 h20 h25 h35 h40 hb0 hb1 hn1 hs hd hA in
/-- After the second block's first head. -/
theorem q3_at (h : Fin 2) (b : Fin 8) (l : Fin 128) (r : Fin 256) :
    arg18.view.read (Elt Ideal) (arg18.view.writes (Elt Ideal) f_arg18
      (trip_k0_t1.sl.HW_arg18_3 i arg3 arg6 arg7 arg8 arg9 arg11 arg18 arg21 v2 v20 v25 v35 v40 X_arg3 X_arg6 X_arg7 X_arg8 X_arg9 X_arg11 k f_arg18 f_arg21)) (ix4 h b l r)
      = ((A h b l r + (if b = b0 then D.dq h n0 b0 l r else 0) + (if h = 0 ∧ b = b1 then D.dq h n1 b1 l r else 0) : ℝ) : EReal) := by
  unfold trip_k0_t1.sl.HW_arg18_3
  refine (put_q arg18.view _ 0 h b1 b ((off14_eq i k).trans (by rw [hb1]; rfl)) _ _ _ l r).trans ?_
  by_cases e : h = 0 ∧ b = b1
  · obtain ⟨rfl, rfl⟩ := e
    rw [if_pos ⟨rfl, rfl⟩, if_pos (⟨rfl, rfl⟩ : (0 : Fin 2) = 0 ∧ b = b)]
    unfold trip_k0_t1.sl.r_30
    rw [pay57_eq]
    exact addQ_at D (A := fun l r => A 0 b l r + (if b = b0 then D.dq 0 n0 b0 l r else 0)) h35 (grads_at D (r8_at D h3 h6 h11 hb1 hn1 m2 h25) (r9_at D h7 hb1 m2 h20)
        (fun r => y_at D h8 _ ((off13_eq i k).trans (by rw [hb1]; rfl)) r)
        (fun r => z_at D h9 _ ((off13_eq i k).trans (by rw [hb1]; rfl)) r))
      (fun l r => (lq_at _ _ 0 b ((off14_eq i k).trans (by rw [hb1]; rfl)) _ l r).trans (q2_at D h8 h9 h35 h40 hb0 hs hd A hA 0 b l r)) l r
  · rw [if_neg e, if_neg e, add_zero]
    exact q2_at D h8 h9 h35 h40 hb0 hs hd A hA h b l r

include h3 h6 h7 h8 h9 h11 m2 m4 h20 h25 h30 h35 h40 hb0 hb1 hn1 hs hd hA in
/-- The queries' gradient after a trip. -/
theorem trip_q (h : Fin 2) (b : Fin 8) (l : Fin 128) (r : Fin 256) :
    arg18.view.read (Elt Ideal) (arg18.view.writes (Elt Ideal) f_arg18
      ((trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2 v4 v5 v20 v25 v30 v35 v40 v83 X_arg3 X_arg6 X_arg7 X_arg8 X_arg9 X_arg11 k).1 f_arg18 f_arg19 f_arg20 f_arg21)) (ix4 h b l r)
      = ((A h b l r + (if b = b0 then D.dq h n0 b0 l r else 0) + (if b = b1 then D.dq h n1 b1 l r else 0) : ℝ) : EReal) := by
  unfold trip_k0_t1
  dsimp only
  refine (put_q arg18.view _ 1 h b1 b ((off16_eq i k).trans (by rw [hb1]; rfl)) _ _ _ l r).trans ?_
  by_cases e : b = b1
  · obtain rfl | rfl : h = 1 ∨ h = 0 := by fin_cases h <;> simp
    · rw [if_pos ⟨rfl, e⟩, if_pos e, e]
      unfold trip_k0_t1.sl.r_31 trip_k0_t1.sl.r_32
      rw [pay168_eq]
      refine addQ_at D (A := fun l r => A 1 b1 l r + (if b1 = b0 then D.dq 1 n0 b0 l r else 0)) h40 (grads_at D (r10_at D h3 h6 h11 hb1 hn1 m4 h30) (r11_at D h7 hb1 m4 h20)
          (fun r => y_at D h8 _ ((off15_eq i k).trans (by rw [hb1]; rfl)) r)
          (fun r => z_at D h9 _ ((off15_eq i k).trans (by rw [hb1]; rfl)) r))
        (fun l r => (lq_at _ _ 1 b1 ((off16_eq i k).trans (by rw [hb1]; rfl)) _ l r).trans
            ((q3_at D h3 h6 h7 h8 h9 h11 m2 h20 h25 h35 h40 hb0 hb1 hn1 hs hd A hA 1 b1 l r).trans
              (by rw [if_neg (fun e => absurd e.1 (by decide) : ¬ ((1 : Fin 2) = 0 ∧ b1 = b1)), add_zero]))) l r
    · rw [if_neg (fun e => absurd e.1 (by decide)), if_pos e]
      refine (q3_at D h3 h6 h7 h8 h9 h11 m2 h20 h25 h35 h40 hb0 hb1 hn1 hs hd A hA 0 b l r).trans ?_
      rw [if_pos (⟨rfl, e⟩ : (0 : Fin 2) = 0 ∧ b = b1)]
  · rw [if_neg (fun e' => e e'.2), if_neg e]
    refine (q3_at D h3 h6 h7 h8 h9 h11 m2 h20 h25 h35 h40 hb0 hb1 hn1 hs hd A hA h b l r).trans ?_
    rw [if_neg (fun e' => e e'.2 : ¬ (h = 0 ∧ b = b1))]

end queries

/-! ### The next block's scores -/

section next

include h3 h6 h7 h11 m2 m4 h20 h25 h30 hb2 hn2 in
/-- The scores and their cotangents a trip leaves for the next. -/
theorem trip_s (h : Fin 2) (s : Fin 512) (r : Fin 256) :
    arg21.view.read (Elt Ideal) (arg21.view.writes (Elt Ideal) f_arg21
      ((trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2 v4 v5 v20 v25 v30 v35 v40 v83 X_arg3 X_arg6 X_arg7 X_arg8 X_arg9 X_arg11 k).2.2.2.1 f_arg18 f_arg19 f_arg20 f_arg21)) (ix4 h 0 s r) = ((D.x h b2 s r : ℝ) : EReal) + bias (D.w n2 s r)
    ∧ arg21.view.read (Elt Ideal) (arg21.view.writes (Elt Ideal) f_arg21
      ((trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2 v4 v5 v20 v25 v30 v35 v40 v83 X_arg3 X_arg6 X_arg7 X_arg8 X_arg9 X_arg11 k).2.2.2.1 f_arg18 f_arg19 f_arg20 f_arg21)) (ix4 h 1 s r) = ((D.d h b2 s r : ℝ) : EReal) := by
  have hq : ∀ inb r l, arg3.view.readAt (Elt Ideal) (Rect.unit (s := S2048x128) (k0_off4 i k 2#32) S256x128.size inb).toLoadRect X_arg3 (ix2 r l) = ((D.q b2 r l : ℝ) : EReal) :=
    fun inb r l => q_at D h3 inb ((off4_two i k).trans (by rw [hb2])) r l
  have ho : ∀ inb r l, arg7.view.readAt (Elt Ideal) (Rect.unit (s := S2048x128) (k0_off4 i k 2#32) S256x128.size inb).toLoadRect X_arg7 (ix2 r l) = ((D.o b2 r l : ℝ) : EReal) :=
    fun inb r l => o_at D h7 inb ((off4_two i k).trans (by rw [hb2])) r l
  have ha : ∀ inb r l, arg11.view.readAt (Elt Ideal) (Rect.unit (s := S1x2048x128) (k0_off5 i k 2#32) S1x256x128.size inb).toLoadRect X_arg11 (ix3 0 r l) = ((D.a b2 r l : ℝ) : EReal) :=
    fun inb r l => a_at D h11 inb ((off5_two i k).trans (by rw [hb2])) r l
  have ht : ∀ inb s r, arg6.view.readAt (Elt Ideal) (Rect.unit (s := S9x512x256) (k0_off6 i k 2#32) S1x512x256.size inb).toLoadRect X_arg6 (ix3 0 s r) = bias (D.w n2 s r) :=
    fun inb s r => t_at D h6 inb ((off6_two i k).trans (by rw [hn2])) s r
  unfold trip_k0_t1
  dsimp only
  unfold trip_k0_t1.sl.r_22 trip_k0_t1.sl.r_23 trip_k0_t1.sl.r_24
  rw [pay45_eq, pay44_eq, pay43_eq, pay42_eq, pay37_eq, pay38_eq]
  obtain rfl | rfl : h = 1 ∨ h = 0 := by fin_cases h <;> simp
  · constructor
    · refine (put_s arg21.view _ 1 1 1 0 _ _ _ s r).trans ?_
      rw [if_neg (by decide)]
      refine (put_s arg21.view _ 1 1 0 0 _ _ _ s r).trans ?_
      rw [if_pos ⟨rfl, rfl⟩]
      exact (keep_at _ s r).trans (scores_at D h30 (qsel_at D m4 (hq _) (ha _)) (ht _) s r)
    · refine (put_s arg21.view _ 1 1 1 1 _ _ _ s r).trans ?_
      rw [if_pos ⟨rfl, rfl⟩]
      exact (keep_at _ s r).trans (dots_at h20 (osel_at D m4 (ho _)) s r)
  · constructor
    · refine (put_s arg21.view _ 1 0 1 0 _ _ _ s r).trans ?_
      rw [if_neg (by decide)]
      refine (put_s arg21.view _ 1 0 0 0 _ _ _ s r).trans ?_
      rw [if_neg (by decide)]
      refine (put_s arg21.view _ 0 0 1 0 _ _ _ s r).trans ?_
      rw [if_neg (by decide)]
      refine (put_s arg21.view _ 0 0 0 0 _ _ _ s r).trans ?_
      rw [if_pos ⟨rfl, rfl⟩]
      exact (keep_at _ s r).trans (scores_at D h25 (qsel_at D m2 (hq _) (ha _)) (ht _) s r)
    · refine (put_s arg21.view _ 1 0 1 1 _ _ _ s r).trans ?_
      rw [if_neg (by decide)]
      refine (put_s arg21.view _ 1 0 0 1 _ _ _ s r).trans ?_
      rw [if_neg (by decide)]
      refine (put_s arg21.view _ 0 0 1 1 _ _ _ s r).trans ?_
      rw [if_pos ⟨rfl, rfl⟩]
      exact (keep_at _ s r).trans (dots_at h20 (osel_at D m2 (ho _)) s r)

end next

end Cert.FoxLoop
-- ==== Proof.FoxLoop.lean ====
module

public import proofs.«01_k».proof.Proof.FoxTrip

/-!
The whole backward attention loop of one grid point: what its trips leave in the scratch arrays.
-/

@[expose] public section

set_option maxRecDepth 16384

noncomputable section

open Idealize.ShloMosaic Idealize.ShloMosaic.TcCoe Idealize.SL.Sem
open Cert.Lift
open scoped BigOperators

namespace Cert.FoxLoop

open Cert.FoxKernelIdeal Cert.FoxKernelIdeal.Gen

/-- The query block a key block's `m`-th step takes. -/
def blk (j m : ℕ) : Fin 8 := ⟨(2 * j + m) % 8, Nat.mod_lt _ (by decide)⟩

/-- The mask table it takes. -/
def tab (m : ℕ) : Fin 9 := ⟨m % 9, Nat.mod_lt _ (by decide)⟩

variable {𝒱 : Variants} {c : Dev nD} {bd : Option 𝒱.V} {i : grid0.Coords} {arg3 : Memref sig .tc .vmem S2048x128 .bf16}
  {harg3 : arg3.IsWhole} {arg4 : Memref sig .tc .vmem S512x128 .bf16} {harg4 : arg4.IsWhole}
  {arg5 : Memref sig .tc .vmem S512x128 .bf16} {harg5 : arg5.IsWhole}
  {arg6 : Memref sig .tc .vmem S9x512x256 .f32} {harg6 : arg6.IsWhole}
  {arg7 : Memref sig .tc .vmem S2048x128 .bf16} {harg7 : arg7.IsWhole}
  {arg8 : Memref sig .tc .vmem S8x2x1x256 .f32} {harg8 : arg8.IsWhole}
  {arg9 : Memref sig .tc .vmem S8x2x1x256 .f32} {harg9 : arg9.IsWhole}
  {arg10 : Memref sig .tc .vmem S1x1x2x2x128x256 .bf16} {harg10 : arg10.IsWhole}
  {arg11 : Memref sig .tc .vmem S1x2048x128 .bf16} {harg11 : arg11.IsWhole}
  {arg12 : Memref sig .tc .vmem S1x512x128 .bf16} {harg12 : arg12.IsWhole}
  {arg13 : Memref sig .tc .vmem S2048x128 .f32} {harg13 : arg13.IsWhole}
  {arg14 : Memref sig .tc .vmem S512x128 .bf16} {harg14 : arg14.IsWhole}
  {arg15 : Memref sig .tc .vmem S512x128 .bf16} {harg15 : arg15.IsWhole}
  {arg16 : Memref sig .tc .vmem S2048x128 .f32} {harg16 : arg16.IsWhole}
  {arg17 : Memref sig .tc .vmem S512x128 .f32} {harg17 : arg17.IsWhole}
  {arg18 : Memref sig .tc .vmem S2x8x128x256 .f32} {harg18 : arg18.IsWhole}
  {arg19 : Memref sig .tc .vmem S2x512x128 .f32} {harg19 : arg19.IsWhole}
  {arg20 : Memref sig .tc .vmem S512x128 .f32} {harg20 : arg20.IsWhole}
  {arg21 : Memref sig .tc .vmem S2x2x512x256 .f32} {harg21 : arg21.IsWhole} {v2 : IVec S1x128 1}
  {v4 : IVec S1x128 1} {v5 : BitVec 32} {v20 : FVec Ideal S512x128 .bf16} {v25 : FVec Ideal S512x128 .bf16}
  {v30 : FVec Ideal S512x128 .bf16} {v35 : FVec Ideal S128x512 .bf16} {v40 : FVec Ideal S128x512 .bf16}
  {v83 : FVec Ideal S512x256 .f32} {X_arg3 : BufTy.Contents (Elt Ideal) arg3.view.ty}
  {X_arg6 : BufTy.Contents (Elt Ideal) arg6.view.ty} {X_arg7 : BufTy.Contents (Elt Ideal) arg7.view.ty}
  {X_arg8 : BufTy.Contents (Elt Ideal) arg8.view.ty} {X_arg9 : BufTy.Contents (Elt Ideal) arg9.view.ty}
  {X_arg11 : BufTy.Contents (Elt Ideal) arg11.view.ty}
  {G_arg18 : BufTy.Contents (Elt Ideal) arg18.view.ty} {G_arg19 : BufTy.Contents (Elt Ideal) arg19.view.ty}
  {G_arg20 : BufTy.Contents (Elt Ideal) arg20.view.ty} {G_arg21 : BufTy.Contents (Elt Ideal) arg21.view.ty}
variable (D : Data)
  (h3 : ∀ b r l, arg3.view.read (Elt Ideal) X_arg3 (ix2 (row b r) l) = ((D.q b r l : ℝ) : EReal))
  (h6 : ∀ n s r, arg6.view.read (Elt Ideal) X_arg6 (ix3 n s r) = bias (D.w n s r))
  (h7 : ∀ b r l, arg7.view.read (Elt Ideal) X_arg7 (ix2 (row b r) l) = ((D.o b r l : ℝ) : EReal))
  (h8 : ∀ b h r, arg8.view.read (Elt Ideal) X_arg8 (ix4 b h 0 r) = ((D.y h b r : ℝ) : EReal))
  (h9 : ∀ b h r, arg9.view.read (Elt Ideal) X_arg9 (ix4 b h 0 r) = ((D.z h b r : ℝ) : EReal))
  (h11 : ∀ b r l, arg11.view.read (Elt Ideal) X_arg11 (ix3 0 (row b r) l) = ((D.a b r l : ℝ) : EReal))
  (m2 : IsMask 0 v2) (m4 : IsMask 1 v4)
  (h20 : ∀ s l, v20 (ix2 s l) = ((D.v s l : ℝ) : EReal))
  (h25 : ∀ s l, v25 (ix2 s l) = ((D.k 0 s l : ℝ) : EReal))
  (h30 : ∀ s l, v30 (ix2 s l) = ((D.k 1 s l : ℝ) : EReal))
  (h35 : ∀ s l, v35 (ix2 l s) = ((D.k 0 s l : ℝ) : EReal))
  (h40 : ∀ s l, v40 (ix2 l s) = ((D.k 1 s l : ℝ) : EReal))

variable (AV : Fin 512 → Fin 128 → ℝ) (AK : Fin 2 → Fin 512 → Fin 128 → ℝ) (AQ : Fin 2 → Fin 8 → Fin 128 → Fin 256 → ℝ)
  (hV : ∀ s l, arg20.view.read (Elt Ideal) G_arg20 (ix2 s l) = ((AV s l : ℝ) : EReal))
  (hK : ∀ h s l, arg19.view.read (Elt Ideal) G_arg19 (ix3 h s l) = ((AK h s l : ℝ) : EReal))
  (hQ : ∀ h b l r, arg18.view.read (Elt Ideal) G_arg18 (ix4 h b l r) = ((AQ h b l r : ℝ) : EReal))
  (hs : ∀ h s r, arg21.view.read (Elt Ideal) G_arg21 (ix4 h 0 s r)
    = ((D.x h (blk (i 2).val 0) s r : ℝ) : EReal) + bias (D.w (tab 0) s r))
  (hd : ∀ h s r, arg21.view.read (Elt Ideal) G_arg21 (ix4 h 1 s r) = ((D.d h (blk (i 2).val 0) s r : ℝ) : EReal))

include h3 h6 h7 h8 h9 h11 m2 m4 h20 h25 h30 h35 h40 hV hK hQ hs hd in
/-- After `n` trips each scratch array holds its start and the first `2 n` blocks' shares. -/
theorem loop_at (n : ℕ) (hn : n ≤ 4 - (i 2).val) :
    (∀ s l, arg20.view.read (Elt Ideal) (arg20.view.writes (Elt Ideal) G_arg20
        (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2 v4 v5 v20 v25 v30 v35 v40 v83 X_arg3 X_arg6 X_arg7 X_arg8 X_arg9 X_arg11 G_arg18 G_arg19 G_arg20 G_arg21 n).2.2.1) (ix2 s l)
      = ((AV s l + ∑ m ∈ Finset.range (2 * n), (D.dv 0 (tab m) (blk (i 2).val m) s l + D.dv 1 (tab m) (blk (i 2).val m) s l) : ℝ) : EReal))
    ∧ (∀ h s l, arg19.view.read (Elt Ideal) (arg19.view.writes (Elt Ideal) G_arg19
        (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2 v4 v5 v20 v25 v30 v35 v40 v83 X_arg3 X_arg6 X_arg7 X_arg8 X_arg9 X_arg11 G_arg18 G_arg19 G_arg20 G_arg21 n).2.1) (ix3 h s l)
      = ((AK h s l + ∑ m ∈ Finset.range (2 * n), D.dk h (tab m) (blk (i 2).val m) s l : ℝ) : EReal))
    ∧ (∀ h b l r, arg18.view.read (Elt Ideal) (arg18.view.writes (Elt Ideal) G_arg18
        (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2 v4 v5 v20 v25 v30 v35 v40 v83 X_arg3 X_arg6 X_arg7 X_arg8 X_arg9 X_arg11 G_arg18 G_arg19 G_arg20 G_arg21 n).1) (ix4 h b l r)
      = ((AQ h b l r + ∑ m ∈ Finset.range (2 * n), (if b = blk (i 2).val m then D.dq h (tab m) (blk (i 2).val m) l r else 0) : ℝ) : EReal))
    ∧ (n < 4 - (i 2).val → ∀ h s r, arg21.view.read (Elt Ideal) (arg21.view.writes (Elt Ideal) G_arg21
        (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2 v4 v5 v20 v25 v30 v35 v40 v83 X_arg3 X_arg6 X_arg7 X_arg8 X_arg9 X_arg11 G_arg18 G_arg19 G_arg20 G_arg21 n).2.2.2) (ix4 h 0 s r)
        = ((D.x h (blk (i 2).val (2 * n)) s r : ℝ) : EReal) + bias (D.w (tab (2 * n)) s r)
      ∧ arg21.view.read (Elt Ideal) (arg21.view.writes (Elt Ideal) G_arg21
        (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2 v4 v5 v20 v25 v30 v35 v40 v83 X_arg3 X_arg6 X_arg7 X_arg8 X_arg9 X_arg11 G_arg18 G_arg19 G_arg20 G_arg21 n).2.2.2) (ix4 h 1 s r)
        = ((D.d h (blk (i 2).val (2 * n)) s r : ℝ) : EReal)) := by
  induction n with
  | zero =>
    rw [show pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2 v4 v5 v20 v25 v30 v35 v40 v83 X_arg3 X_arg6 X_arg7 X_arg8 X_arg9 X_arg11 G_arg18 G_arg19 G_arg20 G_arg21 0 = ([], [], [], []) from rfl]
    simp only [View.writes_nil, Nat.mul_zero, Finset.range_zero, Finset.sum_empty, add_zero]
    exact ⟨hV, hK, hQ, fun _ h s r => ⟨hs h s r, hd h s r⟩⟩
  | succ n ih =>
    obtain ⟨iV, iK, iQ, iS⟩ := ih (by omega)
    have iS' := iS (by omega)
    have hk : n < (k0_t1_loop i).trips := by rw [trips_eq]; omega
    have e0 : (blk (i 2).val (2 * n)).val = 2 * (i 2).val + 2 * n := Nat.mod_eq_of_lt (by omega)
    have e1 : (blk (i 2).val (2 * n + 1)).val = 2 * (i 2).val + 2 * n + 1 := Nat.mod_eq_of_lt (by omega)
    have t0 : (tab (2 * n)).val = 2 * n := Nat.mod_eq_of_lt (by omega)
    have t1 : (tab (2 * n + 1)).val = 2 * n + 1 := Nat.mod_eq_of_lt (by omega)
    rw [pb_k0_t1_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2 v4 v5 v20 v25 v30 v35 v40 v83 X_arg3 X_arg6 X_arg7 X_arg8 X_arg9 X_arg11 G_arg18 G_arg19 G_arg20 G_arg21 (⟨n, hk⟩ : Fin (k0_t1_loop i).trips)]
    simp only [View.writes_append]
    have sums : ∀ f : ℕ → ℝ, ∑ m ∈ Finset.range (2 * (n + 1)), f m = ∑ m ∈ Finset.range (2 * n), f m + f (2 * n) + f (2 * n + 1) := by
      intro f
      rw [show 2 * (n + 1) = 2 * n + 1 + 1 by ring, Finset.sum_range_succ, Finset.sum_range_succ]
    refine ⟨fun s l => ?_, fun h s l => ?_, fun h b l r => ?_, fun hlt h s r => ?_⟩
    · refine (trip_v (k := ⟨n, hk⟩) D h3 h6 h7 h8 h11 m2 m4 h25 h30 e0 e1 t1 (fun h s r => (iS' h s r).1) _ iV s l).trans (congrArg _ ?_)
      rw [sums]; ring
    · refine (trip_k (k := ⟨n, hk⟩) D h3 h6 h7 h8 h9 h11 m2 m4 h20 h25 h30 e0 e1 t1 (fun h s r => (iS' h s r).1)
        (fun h s r => (iS' h s r).2) _ iK h s l).trans (congrArg _ ?_)
      rw [sums]; ring
    · refine (trip_q (k := ⟨n, hk⟩) D h3 h6 h7 h8 h9 h11 m2 m4 h20 h25 h30 h35 h40 e0 e1 t1 (fun h s r => (iS' h s r).1)
        (fun h s r => (iS' h s r).2) _ iQ h b l r).trans (congrArg _ ?_)
      rw [sums]; ring
    · have e2 : (blk (i 2).val (2 * (n + 1))).val = min (2 * (i 2).val + 2 * n + 2) 7 := by
        rw [min_eq_left (by omega)]
        exact (Nat.mod_eq_of_lt (by omega)).trans (by ring)
      have t2 : (tab (2 * (n + 1))).val = if 2 * (i 2).val + 2 * n + 2 < 8 then 2 * n + 2 else 8 := by
        rw [if_pos (by omega)]
        exact (Nat.mod_eq_of_lt (by omega)).trans (by ring)
      exact trip_s (k := ⟨n, hk⟩) D h3 h6 h7 h11 m2 m4 h20 h25 h30 e2 t2 h s r

end Cert.FoxLoop
-- ==== Proof.FoxRun.lean ====
module

public import proofs.«01_k».proof.Proof.FoxLoop
public import proofs.«01_k».proof.Proof.Fold
public import proofs.«01_k».proof.Proof.Gen.FoxKernelIdeal.Value

/-!
One grid point of the backward attention kernel: what its run leaves, of the blocks it reads.
-/

@[expose] public section

set_option maxRecDepth 16384

noncomputable section

open Idealize.ShloMosaic Idealize.ShloMosaic.TcCoe Idealize.SL.Sem
open Cert.Lift
open scoped BigOperators

namespace Cert.FoxLoop

open Cert.FoxKernelIdeal Cert.FoxKernelIdeal.Gen

theorem mask0 : IsMask 0 k0_pay145 := by
  intro l
  rw [show k0_pay145 (ix2 0 l) = Scalar.cmpi .slt (BitVec.ofNat 32 l.val) 64#32 by pointwise [k0_pay145]; rfl]
  revert l
  decide +kernel

theorem mask1 : IsMask 1 k0_pay146 := by
  intro l
  rw [show k0_pay146 (ix2 0 l) = Scalar.cmpi .sge (BitVec.ofNat 32 l.val) 64#32 by pointwise [k0_pay146]; rfl]
  revert l
  decide +kernel

theorem own_one (l : Fin 128) : Data.own 1 l ↔ ¬ Data.own 0 l := by
  unfold Data.own
  have := l.isLt
  constructor <;> intro h <;> simp at * <;> omega

/-! ## The operations around the loop -/

/-- The key block with the lanes of the other head replaced by the spare lanes. -/
def ksel (m : IVec S1x128 1) (k : FVec Ideal S512x128 .bf16) (a : FVec Ideal S1x512x128 .bf16) :
    FVec Ideal S512x128 .bf16 :=
  select (broadcastTo S512x128 (shapeCast S1x128 m shapeCasts_S1x128_S1x128) broadcasts_S1x128_S512x128)
    (shapeCast S512x128 k shapeCasts_S512x128_S512x128) (shapeCast S512x128 a shapeCasts_S1x512x128_S512x128)

/-- The two halves of a transposed key block side by side. -/
def cols (u w : FVec Ideal S1x1x1x1x128x256 .bf16) : FVec Ideal S128x512 .bf16 :=
  concatenate S128x512 1 [⟨S128x256, shapeCast S128x256 u shapeCasts_S1x1x1x1x128x256_S128x256⟩,
    ⟨S128x256, shapeCast S128x256 w shapeCasts_S1x1x1x1x128x256_S128x256⟩] concatenates_S128x256_S128x256_S128x512_d1

/-- One head's array on its own lanes, the other's on the others. -/
def pick (m : IVec S1x128 1) (u w : FVec Ideal S1x512x128 .f32) : FVec Ideal S512x128 .f32 :=
  select (broadcastTo S512x128 (shapeCast S1x128 m shapeCasts_S1x128_S1x128) broadcasts_S1x128_S512x128)
    (shapeCast S512x128 u shapeCasts_S1x512x128_S512x128) (shapeCast S512x128 w shapeCasts_S1x512x128_S512x128)

/-- A block the scratch keeps transposed, turned back. -/
def turn (u : FVec Ideal S1x1x128x256 .f32) : FVec Ideal S256x128 .f32 :=
  transpose S256x128 [1, 0] (shapeCast S128x256 u shapeCasts_S1x1x128x256_S128x256) transposes_S128x256_p1_0_S256x128

/-- One head's rows on its own lanes, the other's on the others. -/
def pickQ (m : IVec S1x128 1) (u w : FVec Ideal S256x128 .f32) : FVec Ideal S256x128 .f32 :=
  select (broadcastTo S256x128 (shapeCast S1x128 m shapeCasts_S1x128_S1x128) broadcasts_S1x128_S256x128) u w

/-- The queries' gradient of a block of rows. -/
def rowsQ (m : IVec S1x128 1) (u w : FVec Ideal S1x1x128x256 .f32) : FVec Ideal S256x128 .f32 :=
  mulf (pickQ m (turn u) (turn w)) (broadcast S256x128 (Scalar.ofBits .f32 0x3E000000#32))

section

variable (m : IVec S1x128 1) (k u : FVec Ideal S512x128 .bf16) (q o : FVec Ideal S256x128 .bf16) (a : FVec Ideal S1x256x128 .bf16)
  (t : FVec Ideal S1x512x256 .f32)

theorem pay161_eq : k0_pay161 k (k0_pay158 m q a) t = keep (scores k (qsel m q a) t) := rfl
theorem pay162_eq : k0_pay162 m u (k0_pay157 o) = keep (dots u (osel m o)) := rfl
theorem pay163_eq : k0_pay163 m k (k0_pay156 q) a t = keep (scores k (qsel m q a) t) := rfl
theorem pay164_eq : k0_pay164 (k0_pay160 m u (k0_pay157 o)) = keep (dots u (osel m o)) := rfl

end

theorem ksel_at {h : Fin 2} {m : IVec S1x128 1} {K : FVec Ideal S512x128 .bf16} {A : FVec Ideal S1x512x128 .bf16}
    {k : Fin 512 → Fin 128 → ℝ} (hm : IsMask h m) (hK : ∀ s l, Data.own h l → K (ix2 s l) = ((k s l : ℝ) : EReal))
    (hA : ∀ s l, ¬ Data.own h l → A (ix3 0 s l) = ((k s l : ℝ) : EReal)) (s : Fin 512) (l : Fin 128) :
    ksel m K A (ix2 s l) = ((k s l : ℝ) : EReal) := by
  pointwise [ksel]
  by_cases e : Data.own h l
  · rw [(hm l).mpr e]; exact hK s l e
  · exact (if_neg fun e' => e ((hm l).mp e')).trans (hA s l e)

theorem pick_at {m : IVec S1x128 1} {U W : FVec Ideal S1x512x128 .f32} {u w : Fin 512 → Fin 128 → ℝ} (hm : IsMask 0 m)
    (hU : ∀ s l, U (ix3 0 s l) = ((u s l : ℝ) : EReal)) (hW : ∀ s l, W (ix3 0 s l) = ((w s l : ℝ) : EReal))
    (s : Fin 512) (l : Fin 128) :
    pick m U W (ix2 s l) = ((if Data.own 0 l then u s l else w s l : ℝ) : EReal) := by
  pointwise [pick]
  by_cases e : Data.own 0 l
  · rw [if_pos e, (hm l).mpr e]; exact hU s l
  · rw [if_neg e]; exact (if_neg fun e' => e ((hm l).mp e')).trans (hW s l)

theorem turn_at (u : FVec Ideal S1x1x128x256 .f32) (r : Fin 256) (l : Fin 128) :
    turn u (ix2 r l) = u (ix4 0 0 l r) := by pointwise [turn]

theorem pickQ_at {m : IVec S1x128 1} {U W : FVec Ideal S1x1x128x256 .f32} {u w : Fin 128 → Fin 256 → ℝ} (hm : IsMask 0 m)
    (hU : ∀ l r, U (ix4 0 0 l r) = ((u l r : ℝ) : EReal)) (hW : ∀ l r, W (ix4 0 0 l r) = ((w l r : ℝ) : EReal))
    (r : Fin 256) (l : Fin 128) :
    pickQ m (turn U) (turn W) (ix2 r l) = ((if Data.own 0 l then u l r else w l r : ℝ) : EReal) := by
  have e : pickQ m (turn U) (turn W) (ix2 r l) = Scalar.select (m (ix2 0 l)) (turn U (ix2 r l)) (turn W (ix2 r l)) := by
    pointwise [pickQ]
  rw [e, turn_at, turn_at]
  by_cases e : Data.own 0 l
  · rw [if_pos e, (hm l).mpr e]; exact hU l r
  · rw [if_neg e]; exact (if_neg fun e' => e ((hm l).mp e')).trans (hW l r)

theorem rowsQ_at {m : IVec S1x128 1} {U W : FVec Ideal S1x1x128x256 .f32} {u w : Fin 128 → Fin 256 → ℝ} (hm : IsMask 0 m)
    (hU : ∀ l r, U (ix4 0 0 l r) = ((u l r : ℝ) : EReal)) (hW : ∀ l r, W (ix4 0 0 l r) = ((w l r : ℝ) : EReal))
    (r : Fin 256) (l : Fin 128) :
    rowsQ m U W (ix2 r l) = (((if Data.own 0 l then u l r else w l r) * (1 / 8) : ℝ) : EReal) := by
  have e : rowsQ m U W (ix2 r l) = pickQ m (turn U) (turn W) (ix2 r l) * Ideal.ofBits .f32 0x3E000000#32 := by
    pointwise [rowsQ]
  rw [e, pickQ_at hm hU hW, Fold.bits_eighth, ← EReal.coe_mul]

theorem cols_at {U W : FVec Ideal S1x1x1x1x128x256 .bf16} {k : Fin 512 → Fin 128 → ℝ}
    (hU : ∀ (s : Fin 512) (r : Fin 256) l, s.val = r.val → U (ix6 0 0 0 0 l r) = ((k s l : ℝ) : EReal))
    (hW : ∀ (s : Fin 512) (r : Fin 256) l, s.val = 256 + r.val → W (ix6 0 0 0 0 l r) = ((k s l : ℝ) : EReal))
    (s : Fin 512) (l : Fin 128) : cols U W (ix2 l s) = ((k s l : ℝ) : EReal) := by
  pointwise [cols]
  split_ifs with h h'
  · exact hU s ⟨s.val, h⟩ l rfl
  · exact hW s ⟨s.val - 256, by omega⟩ l (by show s.val = 256 + (s.val - 256); omega)
  · exact absurd rfl h'

/-- A memref that holds a block reads it. -/
theorem held {sig : RefSig} {κ : Kind} {sp : Space} {s : Shape} {e : EltTy} {m : Memref sig κ sp s e} (h : m.IsWhole)
    (X : s.Idx → Elt Ideal e) {x : s.Idx} {y : Elt Ideal e} (hx : X x = y) :
    m.view.read (Elt Ideal) (h.unread X) x = y := (congrFun (h.read_unread X) x).trans hx

/-- A piece of rows over an index. -/
theorem put_rows {sig : RefSig} {κ : Kind} {sp : Space} (v : View sig κ sp S2048x128 .f32) (f : v.ty.Contents (Elt Ideal))
    {o : ℕ} (n : Fin 8) (ho : o = 256 * n.val) {inb} {w : FVec Ideal S256x128 .f32} {L} {F : Fin 8 → Fin 256 → Fin 128 → EReal}
    {b : Fin 8} {r : Fin 256} {l : Fin 128} (hw : ∀ r l, w (ix2 r l) = F n r l)
    (hL : b ≠ n → v.read (Elt Ideal) (v.writes (Elt Ideal) f L) (ix2 (row b r) l) = F b r l) :
    v.read (Elt Ideal) (v.writes (Elt Ideal) f (⟨Rect.unit (s := S2048x128) ![o, 0] S256x128.size inb, w⟩ :: L)) (ix2 (row b r) l)
      = F b r l := by
  subst ho
  by_cases e : b = n
  · subst e
    exact (View.read_writes_cons_unit_of_mem v f inb w L (ix2 (row b r) l) (ix2 r l) rfl
      (by unfold row; intro a; fin_cases a <;> simp [ix2])).trans (hw r l)
  · refine (View.read_writes_cons_unit_of_not_mem v f inb w L (ix2 (row b r) l) rfl 0 ?_).trans (hL e)
    show 256 * b.val + r.val < 256 * n.val ∨ 256 * n.val + 256 ≤ 256 * b.val + r.val
    have := r.isLt
    omega

theorem off1_eq : ∀ i : grid0.Coords, k0_off1 i = ![256 * (2 * (i 2).val), 0] := by decide +kernel
theorem off2_eq : ∀ i : grid0.Coords, k0_off2 i = ![0, 256 * (2 * (i 2).val), 0] := by decide +kernel
theorem off3_eq : ∀ i : grid0.Coords, k0_off3 i = ![0, 0, 0] := by decide +kernel

theorem trips2 (i : grid0.Coords) : Scf.trips (k0_t2_loop i).lb (k0_t2_loop i).ub (k0_t2_loop i).st = 0 :=
  Nat.le_zero.mp (k0_t2_abs i).2.1

variable {c : Dev nD} {i : grid0.Coords}
  {arg3 : Memref sig .tc .vmem S2048x128 .bf16}
  {harg3 : arg3.IsWhole}
  {arg4 : Memref sig .tc .vmem S512x128 .bf16}
  {harg4 : arg4.IsWhole}
  {arg5 : Memref sig .tc .vmem S512x128 .bf16}
  {harg5 : arg5.IsWhole}
  {arg6 : Memref sig .tc .vmem S9x512x256 .f32}
  {harg6 : arg6.IsWhole}
  {arg7 : Memref sig .tc .vmem S2048x128 .bf16}
  {harg7 : arg7.IsWhole}
  {arg8 : Memref sig .tc .vmem S8x2x1x256 .f32}
  {harg8 : arg8.IsWhole}
  {arg9 : Memref sig .tc .vmem S8x2x1x256 .f32}
  {harg9 : arg9.IsWhole}
  {arg10 : Memref sig .tc .vmem S1x1x2x2x128x256 .bf16}
  {harg10 : arg10.IsWhole}
  {arg11 : Memref sig .tc .vmem S1x2048x128 .bf16}
  {harg11 : arg11.IsWhole}
  {arg12 : Memref sig .tc .vmem S1x512x128 .bf16}
  {harg12 : arg12.IsWhole}
  {arg13 : Memref sig .tc .vmem S2048x128 .f32}
  {harg13 : arg13.IsWhole}
  {arg14 : Memref sig .tc .vmem S512x128 .bf16}
  {harg14 : arg14.IsWhole}
  {arg15 : Memref sig .tc .vmem S512x128 .bf16}
  {harg15 : arg15.IsWhole}
  {arg16 : Memref sig .tc .vmem S2048x128 .f32}
  {harg16 : arg16.IsWhole}
  {arg17 : Memref sig .tc .vmem S512x128 .f32}
  {harg17 : arg17.IsWhole}
  {arg18 : Memref sig .tc .vmem S2x8x128x256 .f32}
  {harg18 : arg18.IsWhole}
  {arg19 : Memref sig .tc .vmem S2x512x128 .f32}
  {harg19 : arg19.IsWhole}
  {arg20 : Memref sig .tc .vmem S512x128 .f32}
  {harg20 : arg20.IsWhole}
  {arg21 : Memref sig .tc .vmem S2x2x512x256 .f32}
  {harg21 : arg21.IsWhole}
  {x0 : FVec Ideal S2048x128 .bf16} {x1 : FVec Ideal S512x128 .bf16} {x2 : FVec Ideal S512x128 .bf16} {x3 : FVec Ideal S9x512x256 .f32} {x4 : FVec Ideal S2048x128 .bf16} {x5 : FVec Ideal S8x2x1x256 .f32} {x6 : FVec Ideal S8x2x1x256 .f32} {x7 : FVec Ideal S1x1x2x2x128x256 .bf16} {x8 : FVec Ideal S1x2048x128 .bf16} {x9 : FVec Ideal S1x512x128 .bf16} {xs0 : FVec Ideal S2x8x128x256 .f32}
variable (D : Data)
  (e0 : ∀ b r l, x0 (ix2 (row b r) l) = ((D.q b r l : ℝ) : EReal))
  (e1 : ∀ h s l, Data.own h l → x1 (ix2 s l) = ((D.k h s l : ℝ) : EReal))
  (e2 : ∀ s l, x2 (ix2 s l) = ((D.v s l : ℝ) : EReal))
  (e3 : ∀ n s r, x3 (ix3 n s r) = bias (D.w n s r))
  (e4 : ∀ b r l, x4 (ix2 (row b r) l) = ((D.o b r l : ℝ) : EReal))
  (e5 : ∀ b h r, x5 (ix4 b h 0 r) = ((D.y h b r : ℝ) : EReal))
  (e6 : ∀ b h r, x6 (ix4 b h 0 r) = ((D.z h b r : ℝ) : EReal))
  (e7 : ∀ h (n : Fin 2) (s : Fin 512) (r : Fin 256) l, s.val = 256 * n.val + r.val → x7 (ix6 0 0 h n l r) = ((D.k h s l : ℝ) : EReal))
  (e8 : ∀ b r l, x8 (ix3 0 (row b r) l) = ((D.a b r l : ℝ) : EReal))
  (e9 : ∀ h s l, ¬ Data.own h l → x9 (ix3 0 s l) = ((D.k h s l : ℝ) : EReal))

/-! ## The states before the loop -/

include e2 in
theorem start_v (s : Fin 512) (l : Fin 128) : kernelRun0_B.sl.r (F := Ideal) c arg5 harg5 x2 (ix2 s l) = ((D.v s l : ℝ) : EReal) := by
  unfold kernelRun0_B.sl.r
  rw [show ∀ w : FVec Ideal S512x128 .bf16, k0_pay151 w = shapeCast S512x128 w shapeCasts_S512x128_S512x128 from fun _ => rfl]
  have h : ∀ w : FVec Ideal S512x128 .bf16, shapeCast S512x128 w shapeCasts_S512x128_S512x128 (ix2 s l) = w (ix2 s l) := by
    intro w; pointwise
  rw [h]
  exact (load_at _ _ _ (ix2 s l) (ix2 s l) (off' := ![0, 0]) rfl (by intro a; fin_cases a <;> simp)).trans
    (held harg5 x2 (e2 s l))

include e1 e9 in
theorem start_k (s : Fin 512) (l : Fin 128) :
    kernelRun0_B.sl.r_1 (F := Ideal) c arg4 harg4 arg12 harg12 x1 x9 (ix2 s l) = ((D.k 0 s l : ℝ) : EReal)
    ∧ kernelRun0_B.sl.r_2 (F := Ideal) c arg4 harg4 arg12 harg12 x1 x9 (ix2 s l) = ((D.k 1 s l : ℝ) : EReal) := by
  have h4 : ∀ inb h s l, Data.own h l → arg4.view.readAt (Elt Ideal) (Rect.unit (s := S512x128) ![0, 0] S512x128.size inb).toLoadRect (harg4.unread x1) (ix2 s l) = ((D.k h s l : ℝ) : EReal) :=
    fun inb h s l e => (load_at _ _ _ (ix2 s l) (ix2 s l) (off' := ![0, 0]) rfl (by intro a; fin_cases a <;> simp)).trans
      (held harg4 x1 (e1 h s l e))
  have h12 : ∀ inb h s l, ¬ Data.own h l → arg12.view.readAt (Elt Ideal) (Rect.unit (s := S1x512x128) ![0, 0, 0] S1x512x128.size inb).toLoadRect (harg12.unread x9) (ix3 0 s l) = ((D.k h s l : ℝ) : EReal) :=
    fun inb h s l e => (load_at _ _ _ (ix3 0 s l) (ix3 0 s l) (off' := ![0, 0, 0]) rfl (by intro a; fin_cases a <;> simp)).trans
      (held harg12 x9 (e9 h s l e))
  exact ⟨ksel_at mask0 (h4 _ 0) (h12 _ 0) s l, ksel_at mask1 (h4 _ 1) (h12 _ 1) s l⟩

include e7 in
theorem start_t (s : Fin 512) (l : Fin 128) :
    kernelRun0_B.sl.r_3 (F := Ideal) c arg10 harg10 x7 (ix2 l s) = ((D.k 0 s l : ℝ) : EReal)
    ∧ kernelRun0_B.sl.r_4 (F := Ideal) c arg10 harg10 x7 (ix2 l s) = ((D.k 1 s l : ℝ) : EReal) := by
  have h10 : ∀ (h n : Fin 2) inb (s : Fin 512) (r : Fin 256) l, s.val = 256 * n.val + r.val →
      arg10.view.readAt (Elt Ideal) (Rect.unit (s := S1x1x2x2x128x256) ![0, 0, h.val, n.val, 0, 0] S1x1x1x1x128x256.size inb).toLoadRect
        (harg10.unread x7) (ix6 0 0 0 0 l r) = ((D.k h s l : ℝ) : EReal) :=
    fun h n inb s r l e => (load_at _ _ _ (ix6 0 0 0 0 l r) (ix6 0 0 h n l r) (off' := ![0, 0, h.val, n.val, 0, 0]) rfl
      (by intro a; fin_cases a <;> simp [ix6])).trans (held harg10 x7 (e7 h n s r l e))
  exact ⟨cols_at (fun s r l e => h10 0 0 _ s r l (by rw [e]; simp)) (fun s r l e => h10 0 1 _ s r l (by rw [e]; simp)) s l,
    cols_at (fun s r l e => h10 1 0 _ s r l (by rw [e]; simp)) (fun s r l e => h10 1 1 _ s r l (by rw [e]; simp)) s l⟩

theorem start_zero {s : Shape} {sig : RefSig} {κ : Kind} {sp : Space} (v : View sig κ sp s .f32) {off : Fin s.rank → ℕ} (inb)
    (w : FVec Ideal s .f32) (hoff : ∀ a, off a = 0) (hw : ∀ x, w x = 0) (x : s.Idx) :
    v.read (Elt Ideal) (v.writes (Elt Ideal) v.junk [⟨Rect.unit off s.size inb, w⟩]) x = ((0 : ℝ) : EReal) := by
  rw [EReal.coe_zero]
  have h := View.read_writes_cons_unit_of_mem v (v.junk (Val := Elt Ideal)) inb w [] x x rfl (fun a => by rw [hoff]; exact (Nat.zero_add _).symm)
  exact h.trans (hw x)

set_option maxHeartbeats 1600000 in
include e0 e1 e2 e3 e4 e8 e9 in
theorem start_s (h : Fin 2) (s : Fin 512) (r : Fin 256) :
    arg21.view.read (Elt Ideal) (arg21.view.writes (Elt Ideal) arg21.view.junk
        (kernelRun0_B.sl.HS3_4 c i arg3 harg3 arg4 harg4 arg5 harg5 arg6 harg6 arg7 harg7 arg11 harg11 arg12 harg12 x0 x1 x2 x3 x4 x8 x9))
        (ix4 h 0 s r) = ((D.x h (blk (i 2).val 0) s r : ℝ) : EReal) + bias (D.w (tab 0) s r)
    ∧ arg21.view.read (Elt Ideal) (arg21.view.writes (Elt Ideal) arg21.view.junk
        (kernelRun0_B.sl.HS3_4 c i arg3 harg3 arg4 harg4 arg5 harg5 arg6 harg6 arg7 harg7 arg11 harg11 arg12 harg12 x0 x1 x2 x3 x4 x8 x9))
        (ix4 h 1 s r) = ((D.d h (blk (i 2).val 0) s r : ℝ) : EReal) := by
  have hj : (i 2).val < 4 := (i 2).isLt
  have eb : (blk (i 2).val 0).val = 2 * (i 2).val := (Nat.mod_eq_of_lt (by omega)).trans (by ring)
  have hq : ∀ inb r l, arg3.view.readAt (Elt Ideal) (Rect.unit (s := S2048x128) (k0_off1 i) S256x128.size inb).toLoadRect (harg3.unread x0) (ix2 r l) = ((D.q (blk (i 2).val 0) r l : ℝ) : EReal) :=
    fun inb r l => q_at D (fun b r l => held harg3 x0 (e0 b r l)) inb ((off1_eq i).trans (by rw [eb])) r l
  have ho : ∀ inb r l, arg7.view.readAt (Elt Ideal) (Rect.unit (s := S2048x128) (k0_off1 i) S256x128.size inb).toLoadRect (harg7.unread x4) (ix2 r l) = ((D.o (blk (i 2).val 0) r l : ℝ) : EReal) :=
    fun inb r l => o_at D (fun b r l => held harg7 x4 (e4 b r l)) inb ((off1_eq i).trans (by rw [eb])) r l
  have ha : ∀ inb r l, arg11.view.readAt (Elt Ideal) (Rect.unit (s := S1x2048x128) (k0_off2 i) S1x256x128.size inb).toLoadRect (harg11.unread x8) (ix3 0 r l) = ((D.a (blk (i 2).val 0) r l : ℝ) : EReal) :=
    fun inb r l => a_at D (fun b r l => held harg11 x8 (e8 b r l)) inb ((off2_eq i).trans (by rw [eb])) r l
  have ht : ∀ inb s r, arg6.view.readAt (Elt Ideal) (Rect.unit (s := S9x512x256) (k0_off3 i) S1x512x256.size inb).toLoadRect (harg6.unread x3) (ix3 0 s r) = bias (D.w (tab 0) s r) :=
    fun inb s r => t_at D (fun n s r => held harg6 x3 (e3 n s r)) inb (off3_eq i) s r
  have hv := start_v (c := c) (harg5 := harg5) D e2
  have hk0 := fun s l => (start_k (c := c) (harg4 := harg4) (harg12 := harg12) D e1 e9 s l).1
  have hk1 := fun s l => (start_k (c := c) (harg4 := harg4) (harg12 := harg12) D e1 e9 s l).2
  unfold kernelRun0_B.sl.HS3_4 kernelRun0_B.sl.r_5 kernelRun0_B.sl.r_7 kernelRun0_B.sl.r_8
  unfold kernelRun0_B.sl.r_6
  rw [pay161_eq, pay162_eq, pay163_eq, pay164_eq]
  obtain rfl | rfl : h = 1 ∨ h = 0 := by fin_cases h <;> simp
  · constructor
    · refine (put_s arg21.view _ 1 1 1 0 _ _ _ s r).trans ?_
      rw [if_neg (by decide)]
      refine (put_s arg21.view _ 1 1 0 0 _ _ _ s r).trans ?_
      rw [if_pos ⟨rfl, rfl⟩]
      exact (keep_at _ s r).trans (scores_at D hk1 (qsel_at D mask1 (hq _) (ha _)) (ht _) s r)
    · refine (put_s arg21.view _ 1 1 1 1 _ _ _ s r).trans ?_
      rw [if_pos ⟨rfl, rfl⟩]
      exact (keep_at _ s r).trans (dots_at hv (osel_at D mask1 (ho _)) s r)
  · constructor
    · refine (put_s arg21.view _ 1 0 1 0 _ _ _ s r).trans ?_
      rw [if_neg (by decide)]
      refine (put_s arg21.view _ 1 0 0 0 _ _ _ s r).trans ?_
      rw [if_neg (by decide)]
      refine (put_s arg21.view _ 0 0 1 0 _ _ _ s r).trans ?_
      rw [if_neg (by decide)]
      refine (put_s arg21.view _ 0 0 0 0 _ _ _ s r).trans ?_
      rw [if_pos ⟨rfl, rfl⟩]
      exact (keep_at _ s r).trans (scores_at D hk0 (qsel_at D mask0 (hq _) (ha _)) (ht _) s r)
    · refine (put_s arg21.view _ 1 0 1 1 _ _ _ s r).trans ?_
      rw [if_neg (by decide)]
      refine (put_s arg21.view _ 1 0 0 1 _ _ _ s r).trans ?_
      rw [if_neg (by decide)]
      refine (put_s arg21.view _ 0 0 1 1 _ _ _ s r).trans ?_
      rw [if_pos ⟨rfl, rfl⟩]
      exact (keep_at _ s r).trans (dots_at hv (osel_at D mask0 (ho _)) s r)

/-! ## The states after the loop -/

/-- The pieces the loop's trips write. -/
def lists (c : Dev nD) (i : grid0.Coords) (arg3 : Memref sig .tc .vmem S2048x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S9x512x256 .f32) (harg6 : arg6.IsWhole) (arg7 : Memref sig .tc .vmem S2048x128 .bf16) (harg7 : arg7.IsWhole) (arg8 : Memref sig .tc .vmem S8x2x1x256 .f32) (harg8 : arg8.IsWhole) (arg9 : Memref sig .tc .vmem S8x2x1x256 .f32) (harg9 : arg9.IsWhole) (arg10 : Memref sig .tc .vmem S1x1x2x2x128x256 .bf16) (harg10 : arg10.IsWhole) (arg11 : Memref sig .tc .vmem S1x2048x128 .bf16) (harg11 : arg11.IsWhole) (arg12 : Memref sig .tc .vmem S1x512x128 .bf16) (harg12 : arg12.IsWhole) (arg13 : Memref sig .tc .vmem S2048x128 .f32) (harg13 : arg13.IsWhole) (arg14 : Memref sig .tc .vmem S512x128 .bf16) (harg14 : arg14.IsWhole) (arg15 : Memref sig .tc .vmem S512x128 .bf16) (harg15 : arg15.IsWhole) (arg16 : Memref sig .tc .vmem S2048x128 .f32) (harg16 : arg16.IsWhole) (arg17 : Memref sig .tc .vmem S512x128 .f32) (harg17 : arg17.IsWhole) (arg18 : Memref sig .tc .vmem S2x8x128x256 .f32) (harg18 : arg18.IsWhole) (arg19 : Memref sig .tc .vmem S2x512x128 .f32) (harg19 : arg19.IsWhole) (arg20 : Memref sig .tc .vmem S512x128 .f32) (harg20 : arg20.IsWhole) (arg21 : Memref sig .tc .vmem S2x2x512x256 .f32) (harg21 : arg21.IsWhole)
    (x0 : FVec Ideal S2048x128 .bf16) (x1 : FVec Ideal S512x128 .bf16) (x2 : FVec Ideal S512x128 .bf16) (x3 : FVec Ideal S9x512x256 .f32) (x4 : FVec Ideal S2048x128 .bf16) (x5 : FVec Ideal S8x2x1x256 .f32) (x6 : FVec Ideal S8x2x1x256 .f32) (x7 : FVec Ideal S1x1x2x2x128x256 .bf16) (x8 : FVec Ideal S1x2048x128 .bf16) (x9 : FVec Ideal S1x512x128 .bf16) (G : arg18.view.ty.Contents (Elt Ideal)) :=
  pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_pay145 k0_pay146 (kernelRun0_B.sl.v5 i)
    (kernelRun0_B.sl.r c arg5 harg5 x2) (kernelRun0_B.sl.r_1 (F := Ideal) c arg4 harg4 arg12 harg12 x1 x9)
    (kernelRun0_B.sl.r_2 (F := Ideal) c arg4 harg4 arg12 harg12 x1 x9) (kernelRun0_B.sl.r_3 (F := Ideal) c arg10 harg10 x7)
    (kernelRun0_B.sl.r_4 (F := Ideal) c arg10 harg10 x7) (kernelRun0_B.sl.r_8 c i arg5 harg5 arg7 harg7 x2 x4)
    (harg3.unread x0) (harg6.unread x3) (harg7.unread x4) (harg8.unread x5) (harg9.unread x6) (harg11.unread x8) G
    (arg19.view.writes (Elt Ideal) arg19.view.junk kernelRun0_B.sl.HS1_1)
    (arg20.view.writes (Elt Ideal) arg20.view.junk kernelRun0_B.sl.HS2_1)
    (arg21.view.writes (Elt Ideal) arg21.view.junk
      (kernelRun0_B.sl.HS3_4 c i arg3 harg3 arg4 harg4 arg5 harg5 arg6 harg6 arg7 harg7 arg11 harg11 arg12 harg12 x0 x1 x2 x3 x4 x8 x9))
    (k0_t1_loop i).trips

/-- The values' gradient of a key block. -/
def Data.sumV (D : Data) (j : ℕ) (s : Fin 512) (l : Fin 128) : ℝ :=
  ∑ m ∈ Finset.range (2 * (4 - j)), (D.dv 0 (tab m) (blk j m) s l + D.dv 1 (tab m) (blk j m) s l)

/-- The keys' gradient of a key block, by head. -/
def Data.sumK (D : Data) (j : ℕ) (h : Fin 2) (s : Fin 512) (l : Fin 128) : ℝ :=
  ∑ m ∈ Finset.range (2 * (4 - j)), D.dk h (tab m) (blk j m) s l

/-- The queries' gradient a key block gives, by head and query block. -/
def Data.sumQ (D : Data) (j : ℕ) (h : Fin 2) (b : Fin 8) (l : Fin 128) (r : Fin 256) : ℝ :=
  ∑ m ∈ Finset.range (2 * (4 - j)), (if b = blk j m then D.dq h (tab m) (blk j m) l r else 0)

set_option maxHeartbeats 1600000 in
include e0 e1 e2 e3 e4 e5 e6 e7 e8 e9 in
theorem after (G : arg18.view.ty.Contents (Elt Ideal)) (AQ : Fin 2 → Fin 8 → Fin 128 → Fin 256 → ℝ)
    (hG : ∀ h b l r, arg18.view.read (Elt Ideal) G (ix4 h b l r) = ((AQ h b l r : ℝ) : EReal)) :
    (∀ s l, arg20.view.read (Elt Ideal) (arg20.view.writes (Elt Ideal) arg20.view.junk ((lists c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 G).2.2.1 ++ kernelRun0_B.sl.HS2_1)) (ix2 s l)
      = ((D.sumV (i 2).val s l : ℝ) : EReal))
    ∧ (∀ h s l, arg19.view.read (Elt Ideal) (arg19.view.writes (Elt Ideal) arg19.view.junk ((lists c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 G).2.1 ++ kernelRun0_B.sl.HS1_1)) (ix3 h s l)
      = ((D.sumK (i 2).val h s l : ℝ) : EReal))
    ∧ (∀ h b l r, arg18.view.read (Elt Ideal) (arg18.view.writes (Elt Ideal) G (lists c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 G).1) (ix4 h b l r)
      = ((AQ h b l r + D.sumQ (i 2).val h b l r : ℝ) : EReal)) := by
  have hz2 : ∀ s l, arg20.view.read (Elt Ideal) (arg20.view.writes (Elt Ideal) arg20.view.junk (kernelRun0_B.sl.HS2_1 (F := Ideal))) (ix2 s l) = ((0 : ℝ) : EReal) :=
    fun s l => start_zero arg20.view (s := S512x128) _ _ (fun a => by fin_cases a <;> rfl) (fun x => Ideal.ofBits_zero_f32) (ix2 s l)
  have hz1 : ∀ h s l, arg19.view.read (Elt Ideal) (arg19.view.writes (Elt Ideal) arg19.view.junk (kernelRun0_B.sl.HS1_1 (F := Ideal))) (ix3 h s l) = ((0 : ℝ) : EReal) :=
    fun h s l => start_zero arg19.view (s := S2x512x128) _ _ (fun a => by fin_cases a <;> rfl) (fun x => Ideal.ofBits_zero_f32) (ix3 h s l)
  have key := loop_at (𝒱 := Variants.none) (c := c) (bd := none) (i := i) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (v5 := kernelRun0_B.sl.v5 i)
    (v83 := kernelRun0_B.sl.r_8 c i arg5 harg5 arg7 harg7 x2 x4) (G_arg18 := G) D
    (fun b r l => held harg3 x0 (e0 b r l))
    (fun n s r => held harg6 x3 (e3 n s r))
    (fun b r l => held harg7 x4 (e4 b r l))
    (fun b h r => held harg8 x5 (e5 b h r))
    (fun b h r => held harg9 x6 (e6 b h r))
    (fun b r l => held harg11 x8 (e8 b r l))
    mask0 mask1 (start_v (c := c) (harg5 := harg5) D e2)
    (fun s l => (start_k (c := c) (harg4 := harg4) (harg12 := harg12) D e1 e9 s l).1)
    (fun s l => (start_k (c := c) (harg4 := harg4) (harg12 := harg12) D e1 e9 s l).2)
    (fun s l => (start_t (c := c) (harg10 := harg10) D e7 s l).1)
    (fun s l => (start_t (c := c) (harg10 := harg10) D e7 s l).2)
    (fun _ _ => 0) (fun _ _ _ => 0) AQ hz2 hz1 hG
    (fun h s r => (start_s (c := c) (i := i) (harg3 := harg3) (harg4 := harg4) (harg5 := harg5) (harg6 := harg6) (harg7 := harg7) (harg11 := harg11) (harg12 := harg12) D e0 e1 e2 e3 e4 e8 e9 h s r).1)
    (fun h s r => (start_s (c := c) (i := i) (harg3 := harg3) (harg4 := harg4) (harg5 := harg5) (harg6 := harg6) (harg7 := harg7) (harg11 := harg11) (harg12 := harg12) D e0 e1 e2 e3 e4 e8 e9 h s r).2)
    (4 - (i 2).val) le_rfl
  rw [← trips_eq i] at key
  obtain ⟨k1, k2, k3, -⟩ := key
  rw [trips_eq i] at k1 k2 k3
  refine ⟨fun s l => ?_, fun h s l => ?_, fun h b l r => ?_⟩
  · rw [View.writes_append]
    unfold lists
    rw [trips_eq i]
    exact (k1 s l).trans (congrArg _ (zero_add _))
  · rw [View.writes_append]
    unfold lists
    rw [trips_eq i]
    exact (k2 h s l).trans (congrArg _ (zero_add _))
  · unfold lists
    rw [trips_eq i]
    exact k3 h b l r

end Cert.FoxLoop
-- ==== Proof.FoxSum.lean ====
module

public import proofs.«01_k».proof.Proof.FoxRun
public import proofs.«01_k».proof.Proof.FoxRef
public import proofs.«01_k».proof.Proof.Att
public import Mathlib.Tactic.IntervalCases
public import Mathlib.Tactic.FinCases

/-!
What a grid point of the backward attention kernel adds up, in the terms of the attention: the blocks of queries and of keys
are rows of the sequence, the spare lanes carry the sums of the gates.
-/

@[expose] public section

set_option maxRecDepth 16384

noncomputable section

open scoped BigOperators

namespace Cert.FoxLoop

/-- Head `e` of pair `p`. -/
def head (p : Fin 3) (e : Fin 2) : Fin 6 := ⟨2 * p.val + e.val, by omega⟩
/-- Row `r` of query block `b`, and row `s` of key block `j`. -/
def tpos (b : Fin 8) (r : Fin 256) : Fin 2048 := ⟨256 * b.val + r.val, by omega⟩
def kpos (j : Fin 4) (s : Fin 512) : Fin 2048 := ⟨512 * j.val + s.val, by omega⟩
/-- The head a lane belongs to, the other one, and the lane's place in its head. -/
def half (l : Fin 128) : Fin 2 := ⟨l.val / 64, by omega⟩
def oth (l : Fin 128) : Fin 2 := ⟨1 - l.val / 64, by omega⟩
def dim (l : Fin 128) : Fin 64 := ⟨l.val % 64, by omega⟩

/-- The spare lanes of a query and of a key. -/
def spq (x : ℝ) (d : ℕ) : ℝ := if d = 0 then x else if d < 3 then 0 else if d < 6 then 1 else 0
def spk (x : ℝ) (d : ℕ) : ℝ := if d < 3 then 1 else if d = 3 then -x else 0

theorem own_half {h : Fin 2} {l : Fin 128} (e : Data.own h l) : half l = h := Fin.ext e
theorem not_own_oth {h : Fin 2} {l : Fin 128} (e : ¬ Data.own h l) : oth l = h := by
  refine Fin.ext ?_
  have := l.isLt
  have := h.isLt
  unfold Data.own at e
  show 1 - l.val / 64 = h.val
  omega

theorem sum_spare (x y : ℝ) : ∑ d : Fin 64, spk y d.val * spq x d.val = x - y := by
  have e : ∀ d : Fin 64, spk y d.val * spq x d.val = (if d = 0 then x else 0) + (if d = 3 then -y else 0) := by
    intro d
    unfold spk spq
    have h3 : (d = 3) ↔ d.val = 3 := ⟨fun e => by rw [e]; rfl, fun e => Fin.ext e⟩
    have h0 : (d = 0) ↔ d.val = 0 := ⟨fun e => by rw [e]; rfl, fun e => Fin.ext e⟩
    rw [if_congr h3 rfl rfl, if_congr h0 rfl rfl]
    split_ifs <;> first | omega | simp
  rw [Finset.sum_congr rfl fun d _ => e d, Finset.sum_add_distrib, Finset.sum_ite_eq' Finset.univ, Finset.sum_ite_eq' Finset.univ,
    if_pos (Finset.mem_univ _), if_pos (Finset.mem_univ _), sub_eq_add_neg]

/-- A sum over a pair's lanes: one head's lanes and the other's. -/
theorem sum_lanes (h : Fin 2) (f : Fin 128 → ℝ) (F : Fin 64 → ℝ) (G : Fin 64 → ℝ) (hF : ∀ l, Data.own h l → f l = F (dim l))
    (hG : ∀ l, ¬ Data.own h l → f l = G (dim l)) : ∑ l, f l = ∑ d, F d + ∑ d, G d := by
  have e := Fin.sum_univ_add (a := 64) (b := 64) f
  have e1 : ∀ d : Fin 64, dim (Fin.castAdd 64 d : Fin (64 + 64)) = d := fun d => Fin.ext (Nat.mod_eq_of_lt d.isLt)
  have e2 : ∀ d : Fin 64, dim (Fin.natAdd 64 d : Fin (64 + 64)) = d := fun d =>
    Fin.ext ((Nat.add_mod_left 64 d.val).trans (Nat.mod_eq_of_lt d.isLt))
  have o1 : ∀ d : Fin 64, (Fin.castAdd 64 d : Fin (64 + 64)).val / 64 = 0 := fun d => Nat.div_eq_of_lt d.isLt
  have o2 : ∀ d : Fin 64, (Fin.natAdd 64 d : Fin (64 + 64)).val / 64 = 1 := fun d => by
    show (64 + d.val) / 64 = 1
    omega
  rw [e]
  obtain rfl | rfl : h = 0 ∨ h = 1 := by fin_cases h <;> simp
  · exact congrArg₂ _ (Finset.sum_congr rfl fun d _ => (hF _ (o1 d)).trans (congrArg F (e1 d)))
      (Finset.sum_congr rfl fun d _ => (hG _ (fun e => absurd ((o2 d).symm.trans e) (by decide))).trans (congrArg G (e2 d)))
  · rw [add_comm]
    exact congrArg₂ _ (Finset.sum_congr rfl fun d _ => (hF _ (o2 d)).trans (congrArg F (e2 d)))
      (Finset.sum_congr rfl fun d _ => (hG _ (fun e => absurd ((o1 d).symm.trans e) (by decide))).trans (congrArg G (e1 d)))

theorem sum_tpos (f : Fin 2048 → ℝ) : ∑ b : Fin 8, ∑ r : Fin 256, f (tpos b r) = ∑ t, f t := by
  rw [← Fintype.sum_prod_type']
  refine Fintype.sum_equiv (finProdFinEquiv (m := 8) (n := 256)) _ _ fun x => congrArg f (Fin.ext ?_)
  show 256 * x.1.val + x.2.val = x.2.val + 256 * x.1.val
  omega

theorem sum_kpos (f : Fin 2048 → ℝ) : ∑ j : Fin 4, ∑ s : Fin 512, f (kpos j s) = ∑ t, f t := by
  rw [← Fintype.sum_prod_type']
  refine Fintype.sum_equiv (finProdFinEquiv (m := 4) (n := 512)) _ _ fun x => congrArg f (Fin.ext ?_)
  show 512 * x.1.val + x.2.val = x.2.val + 512 * x.1.val
  omega

/-- The query blocks from a key block's own on are all whose terms do not vanish. -/
theorem sum_blocks (j : Fin 4) (F : Fin 8 → ℝ) (h : ∀ b : Fin 8, b.val < 2 * j.val → F b = 0) :
    ∑ m ∈ Finset.range (2 * (4 - j.val)), F (blk j.val m) = ∑ b, F b := by
  have e : ∀ b : Fin 8, ∀ n : ℕ, n = b.val → F b = F (Fin.ofNat 8 n) := fun b n hn => congrArg F (Fin.ext (by rw [hn]; exact (Nat.mod_eq_of_lt b.isLt).symm))
  rw [Fin.sum_univ_eight]
  fin_cases j <;> simp [Finset.sum_range_succ, blk] at h ⊢
  · rw [h 0 (by decide), h 1 (by decide)]; ring_nf
  · rw [h 0 (by decide), h 1 (by decide), h 2 (by decide), h 3 (by decide)]; ring_nf
  · rw [h 0 (by decide), h 1 (by decide), h 2 (by decide), h 3 (by decide), h 4 (by decide), h 5 (by decide)]; ring_nf

/-- One of a key block's query blocks. -/
theorem sum_one (j : Fin 4) (b : Fin 8) (x : ℝ) :
    ∑ m ∈ Finset.range (2 * (4 - j.val)), (if b = blk j.val m then x else 0) = if 2 * j.val ≤ b.val then x else 0 := by
  have key := sum_blocks j (fun b' => if 2 * j.val ≤ b'.val then (if b = b' then x else 0) else 0) (fun b' h => if_neg (by omega))
  have e : ∀ m ∈ Finset.range (2 * (4 - j.val)), (if b = blk j.val m then x else 0)
      = if 2 * j.val ≤ (blk j.val m).val then (if b = blk j.val m then x else 0) else 0 := by
    intro m hm
    have hm := Finset.mem_range.mp hm
    have := j.isLt
    refine (if_pos ?_).symm
    show 2 * j.val ≤ (2 * j.val + m) % 8
    omega
  rw [Finset.sum_congr rfl e]
  refine key.trans ?_
  have e' : ∀ b' : Fin 8, (if 2 * j.val ≤ b'.val then (if b = b' then x else 0) else 0)
      = if b = b' then (if 2 * j.val ≤ b.val then x else 0) else 0 := by
    intro b'
    by_cases h : b = b'
    · subst h; simp
    · simp [h]
  rw [Finset.sum_congr rfl fun b' _ => e' b', Finset.sum_ite_eq Finset.univ, if_pos (Finset.mem_univ _)]

variable (q k v o : Fin 6 → Fin 2048 → Fin 64 → ℝ) (c y z : Fin 6 → Fin 2048 → ℝ)

/-- The blocks a grid point reads, of the attention's arrays. -/
def data (p : Fin 3) (j : Fin 4) : Data where
  q b r l := q (head p (half l)) (tpos b r) (dim l)
  a b r l := spq (c (head p (oth l)) (tpos b r)) (l.val % 64)
  o b r l := o (head p (half l)) (tpos b r) (dim l)
  y h b r := y (head p h) (tpos b r)
  z h b r := z (head p h) (tpos b r)
  k h s l := if Data.own h l then k (head p h) (kpos j s) (dim l) else spk (c (head p h) (kpos j s)) (l.val % 64)
  v s l := v (head p (half l)) (kpos j s) (dim l)
  w n s r := if n.val < 8 ∧ s.val ≤ 256 * n.val + r.val then 1 else 0
  w_nonneg n s r := by split_ifs <;> norm_num

variable (p : Fin 3) (j : Fin 4)

theorem data_x (h : Fin 2) (b : Fin 8) (s : Fin 512) (r : Fin 256) :
    (data q k v o c y z p j).x h b s r = FoxReal.score (q (head p h)) (k (head p h)) (c (head p h)) (tpos b r) (kpos j s) := by
  refine (sum_lanes h _ (fun d => k (head p h) (kpos j s) d * (q (head p h) (tpos b r) d * (1 / 8)))
    (fun d => spk (c (head p h) (kpos j s)) d.val * spq (c (head p h) (tpos b r)) d.val) (fun l e => ?_) (fun l e => ?_)).trans ?_
  · unfold Data.qa
    rw [if_pos e]
    show (if Data.own h l then _ else _) * (q (head p (half l)) _ _ * (1 / 8)) = _
    rw [if_pos e, own_half e]
  · unfold Data.qa
    rw [if_neg e]
    show (if Data.own h l then _ else _) * spq (c (head p (oth l)) _) _ = _
    rw [if_neg e, not_own_oth e]
    rfl
  · rw [sum_spare]
    unfold FoxReal.score
    rw [Finset.sum_mul, add_sub_assoc]
    exact congrArg (· + _) (Finset.sum_congr rfl fun d _ => by ring)

theorem data_d (h : Fin 2) (b : Fin 8) (s : Fin 512) (r : Fin 256) :
    (data q k v o c y z p j).d h b s r = FoxReal.dp (v (head p h)) (o (head p h)) (tpos b r) (kpos j s) := by
  refine (sum_lanes h _ (fun d => o (head p h) (tpos b r) d * v (head p h) (kpos j s) d) (fun _ => 0) (fun l e => ?_) (fun l e => ?_)).trans ?_
  · unfold Data.oh
    rw [if_pos e]
    show v (head p (half l)) _ _ * o (head p (half l)) _ _ = _
    rw [own_half e, mul_comm]
  · unfold Data.oh
    rw [if_neg e, mul_zero]
  · rw [Finset.sum_const_zero, add_zero]
    rfl

theorem data_w (m : ℕ) (hm : m < 2 * (4 - j.val)) (s : Fin 512) (r : Fin 256) :
    (data q k v o c y z p j).w (tab m) s r = FoxReal.see (tpos (blk j.val m) r) (kpos j s) := by
  have := j.isLt
  unfold FoxReal.see
  show (if m % 9 < 8 ∧ s.val ≤ 256 * (m % 9) + r.val then (1 : ℝ) else 0) = _
  refine if_congr ?_ rfl rfl
  rw [Fin.le_def]
  show _ ↔ 512 * j.val + s.val ≤ 256 * ((2 * j.val + m) % 8) + r.val
  rw [Nat.mod_eq_of_lt (show m < 9 by omega), Nat.mod_eq_of_lt (show 2 * j.val + m < 8 by omega)]
  constructor
  · rintro ⟨-, h⟩; omega
  · intro h; exact ⟨by omega, by omega⟩

variable (M : Fin 6 → Fin 2048 → ℝ)
  (hy : ∀ h t, y h t = M h t + Real.log (Att.mass (FoxReal.see t) (FoxReal.score (q h) (k h) (c h) t) (M h t)))
  (hz : ∀ h t, z h t = ∑ s, FoxReal.p (q h) (k h) (c h) t s * FoxReal.dp (v h) (o h) t s)

include hy in
theorem data_p (h : Fin 2) (m : ℕ) (hm : m < 2 * (4 - j.val)) (s : Fin 512) (r : Fin 256) :
    (data q k v o c y z p j).p h (tab m) (blk j.val m) s r
      = FoxReal.p (q (head p h)) (k (head p h)) (c (head p h)) (tpos (blk j.val m) r) (kpos j s) := by
  unfold Data.p FoxReal.p
  rw [data_x, data_w _ _ _ _ _ _ _ _ _ _ hm, ← Att.exp_sub_log (FoxReal.see_nonneg _) (FoxReal.see_self _) (M (head p h) (tpos (blk j.val m) r)), ← hy]
  rfl

include hy hz in
theorem data_g (h : Fin 2) (m : ℕ) (hm : m < 2 * (4 - j.val)) (s : Fin 512) (r : Fin 256) :
    (data q k v o c y z p j).g h (tab m) (blk j.val m) s r
      = FoxReal.ds (q (head p h)) (k (head p h)) (v (head p h)) (o (head p h)) (c (head p h)) (tpos (blk j.val m) r) (kpos j s) := by
  unfold Data.g
  rw [data_p _ _ _ _ _ _ _ _ _ M hy h m hm, data_d]
  show _ * (_ - z (head p h) _) = _
  rw [hz]
  rfl

theorem see_before (b : Fin 8) (hb : b.val < 2 * j.val) (r : Fin 256) (s : Fin 512) : FoxReal.see (tpos b r) (kpos j s) = 0 := by
  refine if_neg ?_
  rw [Fin.le_def]
  show ¬ 512 * j.val + s.val ≤ 256 * b.val + r.val
  omega

include hy in
/-- The values' gradient of a key block is the attention's. -/
theorem sumV_eq (s : Fin 512) (l : Fin 128) : (data q k v o c y z p j).sumV j.val s l
    = ∑ t, FoxReal.p (q (head p (half l))) (k (head p (half l))) (c (head p (half l))) t (kpos j s) * o (head p (half l)) t (dim l) := by
  rw [← sum_tpos, ← sum_blocks j _ (fun b hb => Finset.sum_eq_zero fun r _ => ?_)]
  · refine Finset.sum_congr rfl fun m hm => ?_
    have hm := Finset.mem_range.mp hm
    unfold Data.dv
    rw [← Finset.sum_add_distrib]
    refine Finset.sum_congr rfl fun r _ => ?_
    rw [data_p _ _ _ _ _ _ _ _ _ M hy 0 m hm, data_p _ _ _ _ _ _ _ _ _ M hy 1 m hm]
    unfold Data.oh
    by_cases e : Data.own 0 l
    · rw [if_pos e, if_neg (fun e' => absurd (e.symm.trans e') (by decide)), mul_zero, add_zero, ← own_half e]
      rfl
    · have e' : Data.own 1 l := (own_one l).mpr e
      rw [if_neg e, if_pos e', mul_zero, zero_add, ← own_half e']
      rfl
  · unfold FoxReal.p
    rw [Att.prob_zero (see_before _ _ hb _ _), zero_mul]

include hy hz in
/-- The keys' gradient of a key block, by head, is the attention's. -/
theorem sumK_eq (h : Fin 2) (s : Fin 512) (l : Fin 128) : (data q k v o c y z p j).sumK j.val h s l
    = ∑ t, FoxReal.ds (q (head p h)) (k (head p h)) (v (head p h)) (o (head p h)) (c (head p h)) t (kpos j s)
        * (if Data.own h l then q (head p h) t (dim l) * (1 / 8) else spq (c (head p h) t) (l.val % 64)) := by
  rw [← sum_tpos, ← sum_blocks j _ (fun b hb => Finset.sum_eq_zero fun r _ => ?_)]
  · refine Finset.sum_congr rfl fun m hm => ?_
    have hm := Finset.mem_range.mp hm
    unfold Data.dk
    refine Finset.sum_congr rfl fun r _ => ?_
    rw [data_g _ _ _ _ _ _ _ _ _ M hy hz h m hm]
    unfold Data.qa
    by_cases e : Data.own h l
    · rw [if_pos e, if_pos e, ← own_half e]
      rfl
    · rw [if_neg e, if_neg e, ← not_own_oth e]
      rfl
  · unfold FoxReal.ds
    rw [Att.grad_zero (see_before _ _ hb _ _), zero_mul]

include hy hz in
/-- The queries' gradient a key block gives is the attention's. -/
theorem sumQ_eq (h : Fin 2) (b : Fin 8) (l : Fin 128) (r : Fin 256) : (data q k v o c y z p j).sumQ j.val h b l r
    = ∑ s, (if Data.own h l then k (head p h) (kpos j s) (dim l) else spk (c (head p h) (kpos j s)) (l.val % 64))
        * FoxReal.ds (q (head p h)) (k (head p h)) (v (head p h)) (o (head p h)) (c (head p h)) (tpos b r) (kpos j s) := by
  have e : (data q k v o c y z p j).sumQ j.val h b l r = ∑ m ∈ Finset.range (2 * (4 - j.val)), (if b = blk j.val m then
      (∑ s, (if Data.own h l then k (head p h) (kpos j s) (dim l) else spk (c (head p h) (kpos j s)) (l.val % 64))
        * FoxReal.ds (q (head p h)) (k (head p h)) (v (head p h)) (o (head p h)) (c (head p h)) (tpos b r) (kpos j s)) else 0) := by
    refine Finset.sum_congr rfl fun m hm => ?_
    have hm := Finset.mem_range.mp hm
    by_cases e : b = blk j.val m
    · rw [if_pos e, if_pos e, e]
      exact Finset.sum_congr rfl fun s _ => by
        rw [data_g _ _ _ _ _ _ _ _ _ M hy hz h m hm]
        rfl
    · rw [if_neg e, if_neg e]
  rw [e, sum_one]
  by_cases hb : 2 * j.val ≤ b.val
  · rw [if_pos hb]
  · rw [if_neg hb]
    refine (Finset.sum_eq_zero (M := ℝ) fun s _ => ?_).symm
    unfold FoxReal.ds
    rw [Att.grad_zero (see_before _ _ (by omega) _ _), mul_zero]

end Cert.FoxLoop
-- ==== Proof.FoxHost.lean ====
/- What the host prepares for the backward attention kernel, element by element. -/
module

public import proofs.«01_k».proof.Proof.FoxRef
public import proofs.«01_k».proof.Proof.FoxSum
public import proofs.«01_k».proof.Proof.Gen.FoxKernelIdeal.Value
public import Idealize.ShloMosaic.Lib.Pointwise
public import Idealize.ShloMosaic.Lib.IdealHost
public import Idealize.ShloMosaic.Lib.WordCmp
public import Idealize.ShloMosaic.Lib.StableHlo.RunRead

@[expose] public section

set_option maxRecDepth 16384

noncomputable section

open Idealize.ShloMosaic Idealize.ShloMosaic.TcCoe Idealize.SL.Sem
open scoped BigOperators

namespace Cert.FoxKernelIdeal.Host

open Cert.FoxKernelIdeal Cert.FoxKernelIdeal.Gen

/-- The exponentials, their sums over the keys, and the rows' logarithms of them. -/
def expo (X : FVec Ideal S4x6x2048x2048 .f32) (M : FVec Ideal S4x6x2048 .f32) : FVec Ideal S4x6x2048x2048 .f32 :=
  Host.exp (subf X (broadcastInDim S4x6x2048x2048 ![0, 1, 2, 3] bcast_S4x6x2048x1_S4x6x2048x2048_0_1_2_3
    (broadcastInDim S4x6x2048x1 ![0, 1, 2] bcast_S4x6x2048_S4x6x2048x1_0_1_2 M)))
def total (e : FVec Ideal S4x6x2048x2048 .f32) : FVec Ideal S4x6x2048 .f32 :=
  Host.reduceAdd e (constant (F := Ideal) S_ .f32 0x00000000#32) reducesTo_S4x6x2048x2048_S4x6x2048_d3 h_S_
/-- A statistic of the rows, block by block. -/
def stat (x : FVec Ideal S4x2048x6 .f32) : FVec Ideal S32x6x1x256 .f32 :=
  let y : FVec Ideal S32x256x6 .f32 := shapeCast S32x256x6 x shapeCasts_S4x2048x6_S32x256x6
  broadcastInDim S32x6x1x256 ![0, 1, 3] bcast_S32x6x256_S32x6x1x256_0_1_3 (transpose S32x6x256 [0, 2, 1] y transposes_S32x256x6_S32x6x256_0_2_1)
def lse (M l : FVec Ideal S4x6x2048 .f32) : FVec Ideal S4x2048x6 .f32 :=
  let y : FVec Ideal S4x6x2048 .f32 := addf M (Host.log l)
  transpose S4x2048x6 [0, 2, 1] y transposes_S4x6x2048_S4x2048x6_0_2_1
/-- The attention's rows, and the products of a row's cotangent and the row. -/
def normed (e : FVec Ideal S4x6x2048x2048 .f32) (l : FVec Ideal S4x6x2048 .f32) (V : FVec Ideal S4x2048x384 .f32) : FVec Ideal S4x6x2048x64 .f32 :=
  let v : FVec Ideal S4x2048x6x64 .f32 := shapeCast S4x2048x6x64 V shapeCasts_S4x2048x384_S4x2048x6x64
  Host.divf (Host.dotGeneral dot_S4x6x2048x2048_S4x2048x6x64_S4x6x2048x64_3_1_2_3_01_02 none e v)
    (broadcastInDim S4x6x2048x64 ![0, 1, 2, 3] bcast_S4x6x2048x1_S4x6x2048x64_0_1_2_3
      (broadcastInDim S4x6x2048x1 ![0, 1, 2] bcast_S4x6x2048_S4x6x2048x1_0_1_2 l))
def dots (y : FVec Ideal S4x6x2048x64 .f32) (O : FVec Ideal S4x2048x384 .f32) : FVec Ideal S4x2048x6 .f32 :=
  let o : FVec Ideal S4x2048x6x64 .f32 := shapeCast S4x2048x6x64 O shapeCasts_S4x2048x384_S4x2048x6x64
  Host.reduceAdd (mulf o (transpose S4x2048x6x64 [0, 2, 1, 3] y transposes_S4x6x2048x64_S4x2048x6x64_0_2_1_3))
    (constant (F := Ideal) S_ .f32 0x00000000#32) reducesTo_S4x2048x6x64_S4x2048x6_d3 h_S_

/-- Six heads' numbers, then two heads' more. -/
def join (x : FVec Ideal S32x6x1x256 .f32) (y : FVec Ideal S32x2x1x256 .f32) : FVec Ideal S32x8x1x256 .f32 :=
  concatenate S32x8x1x256 1 [⟨S32x6x1x256, x⟩, ⟨S32x2x1x256, y⟩] concatenates_S32x6x1x256_S32x2x1x256_S32x8x1x256_d1

/-- Zeros for two more heads than there are. -/
def more (x : FVec Ideal S32x6x1x256 .f32) : FVec Ideal S32x8x1x256 .f32 :=
  join x (broadcastInDim S32x2x1x256 ![] bcast_S_S32x2x1x256 (constant (F := Ideal) S_ .f32 0x00000000#32))

/-- The gates' sums in three parts, and the ones beside them. -/
def flat (C : FVec Ideal S4x2048x6 .f32) : FVec Ideal S8192x6 .f32 := shapeCast S8192x6 C shapeCasts_S4x2048x6_S8192x6
def hi (C : FVec Ideal S4x2048x6 .f32) : FVec Ideal S8192x6 .bf16 := truncf .bf16 (flat C) bitsLt_bf16_f32
def mid (C : FVec Ideal S4x2048x6 .f32) : FVec Ideal S8192x6 .bf16 :=
  truncf .bf16 (subf (flat C) (extf .f32 (hi C) bitsLt_bf16_f32)) bitsLt_bf16_f32
def lo (C : FVec Ideal S4x2048x6 .f32) : FVec Ideal S8192x6 .bf16 :=
  truncf .bf16 (subf (subf (flat C) (extf .f32 (hi C) bitsLt_bf16_f32)) (extf .f32 (mid C) bitsLt_bf16_f32)) bitsLt_bf16_f32
def one : FVec Ideal S8192x6 .bf16 := broadcastInDim S8192x6 ![] bcast_S_S8192x6 (constant (F := Ideal) S_ .bf16 0x3F80#16)

/-- Six numbers per row and head, then zeros. -/
def six (a b c d e f : FVec Ideal S8192x6 .bf16) : FVec Ideal S8192x6x64 .bf16 :=
  let up (x : FVec Ideal S8192x6 .bf16) : FVec Ideal S8192x6x1 .bf16 := broadcastInDim S8192x6x1 ![0, 1] bcast_S8192x6_S8192x6x1_0_1 x
  concatenate S8192x6x64 2 [⟨S8192x6x6, concatenate S8192x6x6 2 [⟨S8192x6x1, up a⟩, ⟨S8192x6x1, up b⟩, ⟨S8192x6x1, up c⟩, ⟨S8192x6x1, up d⟩,
      ⟨S8192x6x1, up e⟩, ⟨S8192x6x1, up f⟩] concatenates_S8192x6x1_S8192x6x1_S8192x6x1_S8192x6x1_S8192x6x1_S8192x6x1_S8192x6x6_d2⟩,
    ⟨S8192x6x58, broadcastInDim S8192x6x58 ![] bcast_S_S8192x6x58 (constant (F := Ideal) S_ .bf16 0x0000#16)⟩]
    concatenates_S8192x6x6_S8192x6x58_S8192x6x64_d2
/-- The lanes of one head moved to the other head of its pair. -/
def swapped (x : FVec Ideal S8192x6x64 .bf16) : FVec Ideal S3x8192x128 .bf16 :=
  let y : FVec Ideal S8192x3x2x64 .bf16 := shapeCast S8192x3x2x64 x shapeCasts_S8192x6x64_S8192x3x2x64
  let z : FVec Ideal S8192x3x2x64 .bf16 := Host.reverse [2] y
  let w : FVec Ideal S8192x3x128 .bf16 := shapeCast S8192x3x128 z shapeCasts_S8192x3x2x64_S8192x3x128
  transpose S3x8192x128 [1, 0, 2] w transposes_S8192x3x128_S3x8192x128_1_0_2
def aq (C : FVec Ideal S4x2048x6 .f32) : FVec Ideal S3x8192x128 .bf16 := swapped (six (hi C) (mid C) (lo C) one one one)
def ak (C : FVec Ideal S4x2048x6 .f32) : FVec Ideal S3x8192x128 .bf16 :=
  swapped (six one one one (Host.negf (hi C)) (Host.negf (mid C)) (Host.negf (lo C)))

/-- The packed arguments. -/
def packed (Q K V : FVec Ideal S4x2048x384 .f32) : FVec Ideal S8192x1152 .bf16 :=
  let x : FVec Ideal S4x2048x1152 .f32 := concatenate S4x2048x1152 2 [⟨S4x2048x384, Q⟩, ⟨S4x2048x384, K⟩, ⟨S4x2048x384, V⟩]
    concatenates_S4x2048x384_S4x2048x384_S4x2048x384_S4x2048x1152_d2
  let y : FVec Ideal S4x2048x1152 .bf16 := truncf .bf16 x bitsLt_bf16_f32
  shapeCast S8192x1152 y shapeCasts_S4x2048x1152_S8192x1152
def rows (O : FVec Ideal S4x2048x384 .f32) : FVec Ideal S8192x384 .bf16 :=
  let y : FVec Ideal S4x2048x384 .bf16 := truncf .bf16 O bitsLt_bf16_f32
  shapeCast S8192x384 y shapeCasts_S4x2048x384_S8192x384

/-- The keys by block, transposed: each head's own lanes, the spare ones in the other's. -/
def pairs (K : FVec Ideal S4x2048x384 .f32) : FVec Ideal S3x8192x128 .bf16 :=
  let x : FVec Ideal S4x2048x384 .bf16 := truncf .bf16 K bitsLt_bf16_f32
  let y : FVec Ideal S8192x3x128 .bf16 := shapeCast S8192x3x128 x shapeCasts_S4x2048x384_S8192x3x128
  transpose S3x8192x128 [1, 0, 2] y transposes_S8192x3x128_S3x8192x128_1_0_2
def lanes : IVec S1x128 32 := iotaInDim S1x128 32 1
def c64 : IVec S1x128 32 := broadcastInDim S1x128 ![] bcast_S_S1x128 (constantI S_ 32 64#32)
def either (h : IVec S1x128 1) (x y : FVec Ideal S3x8192x128 .bf16) : FVec Ideal S3x8192x128 .bf16 :=
  select (broadcastInDim S3x8192x128 ![1, 2] bcast_S1x128_S3x8192x128_1_2 h) x y
def blocks (x y : FVec Ideal S3x8192x128 .bf16) : FVec Ideal S4x3x2x8x128x256 .bf16 :=
  let x' : FVec Ideal S3x1x8192x128 .bf16 := broadcastInDim S3x1x8192x128 ![0, 2, 3] bcast_S3x8192x128_S3x1x8192x128_0_2_3 x
  let y' : FVec Ideal S3x1x8192x128 .bf16 := broadcastInDim S3x1x8192x128 ![0, 2, 3] bcast_S3x8192x128_S3x1x8192x128_0_2_3 y
  let z : FVec Ideal S3x2x8192x128 .bf16 := concatenate S3x2x8192x128 1 [⟨S3x1x8192x128, x'⟩, ⟨S3x1x8192x128, y'⟩]
    concatenates_S3x1x8192x128_S3x1x8192x128_S3x2x8192x128_d1
  let w : FVec Ideal S3x2x4x8x256x128 .bf16 := shapeCast S3x2x4x8x256x128 z shapeCasts_S3x2x8192x128_S3x2x4x8x256x128
  transpose S4x3x2x8x128x256 [2, 0, 1, 3, 5, 4] w transposes_S3x2x4x8x256x128_S4x3x2x8x128x256_2_0_1_3_5_4

/-- How far a query is behind a key, the mask this is, and the table of its logarithms. -/
def delta : IVec S8x512x256 32 :=
  subi (addi (muli (addi (iotaInDim S8x512x256 32 0) (broadcastInDim S8x512x256 ![] bcast_S_S8x512x256 (constantI S_ 32 0#32)))
    (broadcastInDim S8x512x256 ![] bcast_S_S8x512x256 (constantI S_ 32 256#32))) (iotaInDim S8x512x256 32 2)) (iotaInDim S8x512x256 32 1)
def mult : FVec Ideal S8x512x256 .f32 :=
  uitofp .f32 (cmpi .sge delta (broadcastInDim S8x512x256 ![] bcast_S_S8x512x256 (constantI S_ 32 0#32)))
def table (M : FVec Ideal S8x512x256 .f32) : FVec Ideal S9x512x256 .f32 :=
  let x : FVec Ideal S8x512x256 .f32 :=
    select (cmpf .ogt M (broadcastInDim S8x512x256 ![] bcast_S_S8x512x256 (constant (F := Ideal) S_ .f32 0x00000000#32)))
      (Host.log (maximumf M (broadcastInDim S8x512x256 ![] bcast_S_S8x512x256 (constant (F := Ideal) S_ .f32 0x0DA24260#32))))
      (broadcastInDim S8x512x256 ![] bcast_S_S8x512x256 (constant (F := Ideal) S_ .f32 0xFF800000#32))
  concatenate S9x512x256 0 [⟨S8x512x256, x⟩, ⟨S1x512x256, broadcastInDim S1x512x256 ![] bcast_S_S1x512x256 (constant (F := Ideal) S_ .f32 0xFF800000#32)⟩]
    concatenates_S8x512x256_S1x512x256_S9x512x256_d0

section entries

variable (m : (ℓ : Loc nD τ sig) → Buf (Elt Ideal) ℓ) (c : Dev nD)

abbrev aQ : FVec Ideal S4x2048x384 .f32 := m ((c : Thread nD τ).loc main_arg0)
abbrev aK : FVec Ideal S4x2048x384 .f32 := m ((c : Thread nD τ).loc main_arg1)
abbrev aV : FVec Ideal S4x2048x384 .f32 := m ((c : Thread nD τ).loc main_arg2)
abbrev aC : FVec Ideal S4x2048x6 .f32 := m ((c : Thread nD τ).loc main_arg3)
abbrev aO : FVec Ideal S4x2048x384 .f32 := m ((c : Thread nD τ).loc main_arg4)

open Cert.FoxReferenceIdeal.Read

abbrev hX : FVec Ideal S4x6x2048x2048 .f32 := val_main_v18_0 (F := Ideal) (aQ m c) (aK m c) (aC m c)
abbrev hM : FVec Ideal S4x6x2048 .f32 := val_main_v19 (F := Ideal) (aQ m c) (aK m c) (aC m c)

abbrev hC : FVec Ideal S4x2048x6 .f32 := val_main_v0 (F := Ideal) (aC m c)
abbrev hE : FVec Ideal S4x6x2048x2048 .f32 := expo (hX m c) (hM m c)

theorem entry_v122 : V m c main_v122 = stat (lse (hM m c) (total (hE m c))) := by
  after_reads_simp
  rfl

theorem entry_v27 : V m c main_v27 = normed (hE m c) (total (hE m c)) (aV m c) := by
  after_reads_simp
  rfl

theorem entry_v34 : V m c main_v34 = dots (V m c main_v27) (aO m c) := by
  after_reads_simp
  rfl

theorem entry_v39' : V m c main_v39 = more (stat (V m c main_v34)) := by
  after_reads_simp
  refine (congrArg₂ join ?_ ?_ : join _ _ = join _ _)
  · after_reads_simp
    rfl
  · after_reads_simp

theorem entry_v39 : V m c main_v39 = more (stat (dots (normed (hE m c) (total (hE m c)) (aV m c)) (aO m c))) := by
  rw [entry_v39', entry_v34, entry_v27]

theorem entry_v63 : V m c main_v63 = aq (hC m c) := by
  after_reads_simp
  rfl

theorem entry_v79 : V m c main_v79 = ak (hC m c) := by
  after_reads_simp
  rfl

theorem entry_v82 : V m c main_v82 = packed (aQ m c) (aK m c) (aV m c) := by
  after_reads_simp
  rfl

theorem entry_v119 : V m c main_v119 = rows (aO m c) := by
  after_reads_simp
  rfl

set_option maxHeartbeats 1600000 in
theorem entry_v97 : V m c main_v97 = blocks (either (cmpi .slt lanes c64) (pairs (aK m c)) (ak (hC m c)))
    (either (cmpi .sge lanes c64) (pairs (aK m c)) (ak (hC m c))) := by
  after_reads_simp
  unfold blocks either pairs ak swapped six hC
  dsimp only
  rfl

theorem entry_v117 : V m c main_v117 = table mult := by
  after_reads_simp
  rfl

end entries

end Cert.FoxKernelIdeal.Host

end
-- ==== Proof.FoxRefOut.lean ====
/- The forgetting attention's reference: the five results, row by row of all batches. -/
module

public import proofs.«01_k».proof.Proof.FoxRef
public import proofs.«01_k».proof.Proof.FoxSum

@[expose] public section

set_option maxRecDepth 16384

noncomputable section

open Idealize.ShloMosaic Idealize.ShloMosaic.TcCoe Idealize.SL.Sem
open scoped BigOperators

namespace Cert.FoxLoop

/-- Position `t` of batch `b` among all rows, a lane of a pair among all columns. -/
def seq (b : Fin 4) (t : Fin 2048) : Fin 8192 := ⟨2048 * b.val + t.val, by omega⟩
def lane (p : Fin 3) (l : Fin 128) : Fin 384 := ⟨128 * p.val + l.val, by omega⟩

theorem lane_eq (p : Fin 3) (l : Fin 128) : lane p l = FoxReal.col (head p (half l)) (dim l) := by
  refine Fin.ext ?_
  show 128 * p.val + l.val = 64 * (2 * p.val + l.val / 64) + l.val % 64
  omega

end Cert.FoxLoop

namespace Cert.FoxReferenceIdeal.Real

open Cert.FoxReferenceIdeal Cert.FoxReferenceIdeal.Gen Cert.FoxReferenceIdeal.Read Cert.FoxReal Cert.Lift Cert.Fold Cert.FoxLoop

/-- A head's rows laid side by side: the array's element at row `seq b t` and a pair's lane. -/
theorem flat_at (X : FVec Ideal S4x2048x6x64 .f32) (b : Fin 4) (t : Fin 2048) (p : Fin 3) (l : Fin 128) :
    shapeCast S8192x384 (shapeCast S4x2048x384 X shapeCasts_S4x2048x6x64_S4x2048x384) shapeCasts_S4x2048x384_S8192x384
      (ix2 (seq b t) (lane p l)) = X (ix4 b t (head p (half l)) (dim l)) := by
  refine (shapeCast_apply _ _ _ (ix3 b t (lane p l)) ?_).trans ((shapeCast_apply _ _ _ (ix4 b t (head p (half l)) (dim l)) ?_))
  · rw [Shape.rowMajor_val_three, Shape.rowMajor_val_two]
    show (b.val * 2048 + t.val) * 384 + (128 * p.val + l.val) = (2048 * b.val + t.val) * 384 + (128 * p.val + l.val)
    omega
  · rw [Shape.rowMajor_val_four, Shape.rowMajor_val_three]
    show ((b.val * 2048 + t.val) * 6 + (2 * p.val + l.val / 64)) * 64 + l.val % 64 = (b.val * 2048 + t.val) * 384 + (128 * p.val + l.val)
    omega

/-- A number per row and head, on the spare lanes of the head beside. -/
theorem spare_at (X : FVec Ideal S4x2048x6 .f32) (b : Fin 4) (t : Fin 2048) (p : Fin 3) (l : Fin 128) :
    shapeCast S8192x384 (broadcastInDim S8192x3x2x64 ![0, 1, 2, 3] bcast_S8192x3x2x1_S8192x3x2x64_0_1_2_3
      (Host.reverse [2] (shapeCast S8192x3x2x1 X shapeCasts_S4x2048x6_S8192x3x2x1))) shapeCasts_S8192x3x2x64_S8192x384
      (ix2 (seq b t) (lane p l)) = X (ix3 b t (head p (oth l))) := by
  refine (shapeCast_apply _ _ _ (ix4 (seq b t) p (half l) (dim l)) ?_).trans ?_
  · rw [Shape.rowMajor_val_four, Shape.rowMajor_val_two]
    show (((2048 * b.val + t.val) * 3 + p.val) * 2 + l.val / 64) * 64 + l.val % 64 = (2048 * b.val + t.val) * 384 + (128 * p.val + l.val)
    omega
  · refine (broadcastInDim_apply _ _ _ _ (ix4 (seq b t) p (half l) 0) (fun a => by fin_cases a <;> rfl)).trans ?_
    have e : Host.reverse [2] (shapeCast S8192x3x2x1 X shapeCasts_S4x2048x6_S8192x3x2x1) (ix4 (seq b t) p (half l) 0)
        = shapeCast S8192x3x2x1 X shapeCasts_S4x2048x6_S8192x3x2x1 (ix4 (seq b t) p (oth l) 0) := by
      generalize shapeCast S8192x3x2x1 X shapeCasts_S4x2048x6_S8192x3x2x1 = Y
      pointwise
      refine congrArg Y (congrArg (fun a : Fin 2 => ix4 (seq b t) p a (0 : Fin 1)) (Fin.ext ?_))
      show 2 - (l.val / 64 + 1) = 1 - l.val / 64
      omega
    rw [e]
    refine shapeCast_apply _ _ _ (ix3 b t (head p (oth l))) ?_
    rw [Shape.rowMajor_val_three, Shape.rowMajor_val_four]
    show (b.val * 2048 + t.val) * 6 + (2 * p.val + (1 - l.val / 64)) = (((2048 * b.val + t.val) * 3 + p.val) * 2 + (1 - l.val / 64)) * 1 + 0
    omega

/-- The sums of the gates are reals. -/
theorem v0_real (C : FVec Ideal S4x2048x6 .f32) (hC : ∀ i, ∃ r : ℝ, C i = (r : EReal)) (i : S4x2048x6.Idx) :
    ∃ r : ℝ, val_main_v0 (F := Ideal) C i = (r : EReal) :=
  window_real _ _ _ _ _ _ _ _ hC (fun _ => Ideal.ofBits_zero_f32) i

variable (Q K V : FVec Ideal S4x2048x384 .f32) (C : FVec Ideal S4x2048x6 .f32) (O : FVec Ideal S4x2048x384 .f32)
  (q k v o : Fin 4 → Fin 6 → Fin 2048 → Fin 64 → ℝ) (c : Fin 4 → Fin 6 → Fin 2048 → ℝ)
  (hQ : ∀ b t h d, Q (ix3 b t (col h d)) = ((q b h t d : ℝ) : EReal)) (hK : ∀ b t h d, K (ix3 b t (col h d)) = ((k b h t d : ℝ) : EReal))
  (hV : ∀ b t h d, V (ix3 b t (col h d)) = ((v b h t d : ℝ) : EReal)) (hO : ∀ b t h d, O (ix3 b t (col h d)) = ((o b h t d : ℝ) : EReal))
  (hC : ∀ b t h, val_main_v0 (F := Ideal) C (ix3 b t h) = ((c b h t : ℝ) : EReal))
  (M : Fin 4 → Fin 6 → Fin 2048 → ℝ) (hM : ∀ b h t, val_main_v19 (F := Ideal) Q K C (ix3 b h t) = ((M b h t : ℝ) : EReal))
include hQ hK hO hC hM

theorem dv_at (b : Fin 4) (s : Fin 2048) (p : Fin 3) (l : Fin 128) : val_main_v90 (F := Ideal) Q K C O (ix2 (seq b s) (lane p l))
    = ((∑ t, FoxReal.p (q b (head p (half l))) (k b (head p (half l))) (c b (head p (half l))) t s * o b (head p (half l)) t (dim l) : ℝ) : EReal) := by
  have e : val_main_v90 (F := Ideal) Q K C O (ix2 (seq b s) (lane p l)) = val_main_v54 (F := Ideal) Q K C O (ix4 b s (head p (half l)) (dim l)) := by
    unfold val_main_v90 val_main_v89 val_main_v83
    generalize val_main_v54 (F := Ideal) Q K C O = X
    exact flat_at X b s p l
  have e' : val_main_v54 (F := Ideal) Q K C O (ix4 b s (head p (half l)) (dim l)) = val_main_v53 (F := Ideal) Q K C O (ix4 b (head p (half l)) (dim l) s) := by
    rw [val_main_v54_apply]
    exact congrArg _ (funext fun a => by fin_cases a <;> rfl)
  rw [e, e']
  rw [v53_at Q K C O q k o c hQ hK hO hC M hM, Finset.sum_congr rfl fun t _ => mul_comm _ _]

include hV

theorem dq_at (b : Fin 4) (t : Fin 2048) (p : Fin 3) (l : Fin 128) : val_main_v86 (F := Ideal) Q K V C O (ix2 (seq b t) (lane p l))
    = ((∑ s, ds (q b (head p (half l))) (k b (head p (half l))) (v b (head p (half l))) (o b (head p (half l))) (c b (head p (half l))) t s
        * (1 / 8) * k b (head p (half l)) s (dim l) : ℝ) : EReal) := by
  have e : val_main_v86 (F := Ideal) Q K V C O (ix2 (seq b t) (lane p l)) = val_main_v82 (F := Ideal) Q K V C O (ix4 b t (head p (half l)) (dim l)) := by
    unfold val_main_v86 val_main_v85
    generalize val_main_v82 (F := Ideal) Q K V C O = X
    exact flat_at X b t p l
  have e' : val_main_v82 (F := Ideal) Q K V C O (ix4 b t (head p (half l)) (dim l)) = val_main_v81 (F := Ideal) Q K V C O (ix4 b (head p (half l)) t (dim l)) := by
    rw [val_main_v82_apply]
    exact congrArg _ (funext fun a => by fin_cases a <;> rfl)
  rw [e, e']
  exact v81_at Q K V C O q k v o c hQ hK hV hO hC M hM b (head p (half l)) t (dim l)

theorem dk_at (b : Fin 4) (s : Fin 2048) (p : Fin 3) (l : Fin 128) : val_main_v88 (F := Ideal) Q K V C O (ix2 (seq b s) (lane p l))
    = ((∑ t, ds (q b (head p (half l))) (k b (head p (half l))) (v b (head p (half l))) (o b (head p (half l))) (c b (head p (half l))) t s
        * (1 / 8) * q b (head p (half l)) t (dim l) : ℝ) : EReal) := by
  have e : val_main_v88 (F := Ideal) Q K V C O (ix2 (seq b s) (lane p l)) = val_main_v80 (F := Ideal) Q K V C O (ix4 b s (head p (half l)) (dim l)) := by
    unfold val_main_v88 val_main_v87 val_main_v84
    generalize val_main_v80 (F := Ideal) Q K V C O = X
    exact flat_at X b s p l
  have e' : val_main_v80 (F := Ideal) Q K V C O (ix4 b s (head p (half l)) (dim l)) = val_main_v79 (F := Ideal) Q K V C O (ix4 b (head p (half l)) s (dim l)) := by
    rw [val_main_v80_apply]
    exact congrArg _ (funext fun a => by fin_cases a <;> rfl)
  rw [e, e']
  exact v79_at Q K V C O q k v o c hQ hK hV hO hC M hM b (head p (half l)) s (dim l)

theorem dcq_at (b : Fin 4) (t : Fin 2048) (p : Fin 3) (l : Fin 128) : val_main_v94 (F := Ideal) Q K V C O (ix2 (seq b t) (lane p l))
    = ((∑ s, ds (q b (head p (oth l))) (k b (head p (oth l))) (v b (head p (oth l))) (o b (head p (oth l))) (c b (head p (oth l))) t s : ℝ) : EReal) :=
  (spare_at (val_main_v76 (F := Ideal) Q K V C O) b t p l).trans (v76_at Q K V C O q k v o c hQ hK hV hO hC M hM b t (head p (oth l)))

theorem dck_at (b : Fin 4) (s : Fin 2048) (p : Fin 3) (l : Fin 128) : val_main_v99 (F := Ideal) Q K V C O (ix2 (seq b s) (lane p l))
    = ((∑ t, ds (q b (head p (oth l))) (k b (head p (oth l))) (v b (head p (oth l))) (o b (head p (oth l))) (c b (head p (oth l))) t s : ℝ) : EReal) :=
  (spare_at (val_main_v95 (F := Ideal) Q K V C O) b s p l).trans (v95_at Q K V C O q k v o c hQ hK hV hO hC M hM b s (head p (oth l)))

end Cert.FoxReferenceIdeal.Real

end
-- ==== Proof.FoxHostAt.lean ====
/- The host's arrays for the backward attention kernel, element by element. -/
module

public import proofs.«01_k».proof.Proof.FoxHost
public import proofs.«01_k».proof.Proof.FoxRefOut
public import Idealize.ShloMosaic.Lib.Pipeline.ValueKit

@[expose] public section

set_option maxRecDepth 16384

noncomputable section

open Idealize.ShloMosaic Idealize.ShloMosaic.TcCoe Idealize.SL.Sem
open scoped BigOperators

namespace Cert.FoxKernelIdeal.Host

open Cert.FoxKernelIdeal Cert.FoxKernelIdeal.Gen Cert.FoxLoop Cert.FoxReal

/-- Block `n` of batch `b` among all blocks. -/
def block (b : Fin 4) (n : Fin 8) : Fin 32 := ⟨8 * b.val + n.val, by omega⟩

theorem expo_at (X : FVec Ideal S4x6x2048x2048 .f32) (M : FVec Ideal S4x6x2048 .f32) (b : Fin 4) (h : Fin 6) (t s : Fin 2048) :
    expo X M (ix4 b h t s) = Ideal.exp (X (ix4 b h t s) - M (ix3 b h t)) := by
  unfold expo
  pointwise

theorem total_at (e : FVec Ideal S4x6x2048x2048 .f32) (b : Fin 4) (h : Fin 6) (t : Fin 2048) :
    total e (ix3 b h t) = ∑ s : Fin 2048, e (ix4 b h t s) := by
  unfold total
  pointwise

theorem lse_at (M l : FVec Ideal S4x6x2048 .f32) (b : Fin 4) (t : Fin 2048) (h : Fin 6) :
    lse M l (ix3 b t h) = M (ix3 b h t) + Ideal.log (l (ix3 b h t)) := by
  unfold lse
  pointwise

theorem stat_at (x : FVec Ideal S4x2048x6 .f32) (b : Fin 4) (n : Fin 8) (h : Fin 6) (r : Fin 256) :
    stat x (ix4 (block b n) h 0 r) = x (ix3 b (tpos n r) h) := by
  unfold stat
  pointwise
  unfold block tpos
  blk_ext

theorem normed_at (e : FVec Ideal S4x6x2048x2048 .f32) (l : FVec Ideal S4x6x2048 .f32) (V : FVec Ideal S4x2048x384 .f32)
    (b : Fin 4) (h : Fin 6) (t : Fin 2048) (d : Fin 64) :
    normed e l V (ix4 b h t d) = Ideal.div (∑ s : Fin 2048, e (ix4 b h t s) * V (ix3 b s (col h d))) (l (ix3 b h t)) := by
  unfold normed
  pointwise
  refine congrArg₂ Ideal.div (Finset.sum_congr rfl fun s _ => congrArg (e (ix4 b h t s) * V ·) ?_) rfl
  unfold col
  blk_ext

theorem dots_at (y : FVec Ideal S4x6x2048x64 .f32) (O : FVec Ideal S4x2048x384 .f32) (b : Fin 4) (t : Fin 2048) (h : Fin 6) :
    dots y O (ix3 b t h) = ∑ d : Fin 64, O (ix3 b t (col h d)) * y (ix4 b h t d) := by
  unfold dots
  pointwise
  refine Finset.sum_congr rfl fun d _ => congrArg (O · * y (ix4 b h t d)) ?_
  unfold col
  blk_ext

theorem more_at (x : FVec Ideal S32x6x1x256 .f32) (n : Fin 32) (h : Fin 6) (r : Fin 256) :
    more x (ix4 n ⟨h.val, by omega⟩ 0 r) = x (ix4 n h 0 r) := by
  unfold more join
  pointwise

theorem flat_at (C : FVec Ideal S4x2048x6 .f32) (b : Fin 4) (t : Fin 2048) (h : Fin 6) :
    flat C (ix2 (seq b t) h) = C (ix3 b t h) := by
  unfold flat
  pointwise
  unfold seq
  blk_ext

theorem six_at (a b c d e f : FVec Ideal S8192x6 .bf16) (t : Fin 8192) (h : Fin 6) (i : Fin 64) :
    six a b c d e f (ix3 t h i) = if i.val = 0 then a (ix2 t h) else if i.val = 1 then b (ix2 t h) else if i.val = 2 then c (ix2 t h)
      else if i.val = 3 then d (ix2 t h) else if i.val = 4 then e (ix2 t h) else if i.val = 5 then f (ix2 t h) else (0 : EReal) := by
  unfold six
  pointwise [Ideal.ofBits_zero_bf16]
  have := i.isLt
  by_cases h6 : i.val < 6
  · rw [dif_pos h6]
    obtain h | h | h | h | h | h : i.val = 0 ∨ i.val = 1 ∨ i.val = 2 ∨ i.val = 3 ∨ i.val = 4 ∨ i.val = 5 := by omega
    all_goals simp [h]
  · rw [dif_neg h6, if_neg (by omega), if_neg (by omega), if_neg (by omega), if_neg (by omega), if_neg (by omega), if_neg (by omega)]

theorem swapped_at (x : FVec Ideal S8192x6x64 .bf16) (p : Fin 3) (t : Fin 8192) (l : Fin 128) :
    swapped x (ix3 p t l) = x (ix3 t (head p (oth l)) (dim l)) := by
  unfold swapped
  pointwise
  refine congrArg x ((congrArg (fun a : Fin 6 => ix3 t a (dim l)) (Fin.ext ?_)))
  show p.val * 2 + (2 - (l.val / 64 + 1)) = 2 * p.val + (1 - l.val / 64)
  omega

theorem packed_at (Q K V : FVec Ideal S4x2048x384 .f32) (b : Fin 4) (t : Fin 2048) (j : Fin 1152) :
    packed Q K V (ix2 (seq b t) j) = if h : j.val < 384 then Q (ix3 b t ⟨j.val, h⟩) else if h : j.val - 384 < 384 then K (ix3 b t ⟨j.val - 384, h⟩)
      else V (ix3 b t ⟨j.val - 384 - 384, by omega⟩) := by
  unfold packed
  pointwise
  unfold seq
  refine dite_congr rfl (fun _ => ?_) fun _ => dite_congr rfl (fun _ => ?_) fun _ => ?_ <;> blk_ext

theorem rows_at (O : FVec Ideal S4x2048x384 .f32) (b : Fin 4) (t : Fin 2048) (j : Fin 384) :
    rows O (ix2 (seq b t) j) = O (ix3 b t j) := by
  unfold rows
  pointwise
  unfold seq
  blk_ext

theorem pairs_at (K : FVec Ideal S4x2048x384 .f32) (p : Fin 3) (b : Fin 4) (t : Fin 2048) (l : Fin 128) :
    pairs K (ix3 p (seq b t) l) = K (ix3 b t (lane p l)) := by
  unfold pairs
  pointwise
  unfold seq lane
  blk_ext

theorem either_at (h : IVec S1x128 1) (x y : FVec Ideal S3x8192x128 .bf16) (p : Fin 3) (t : Fin 8192) (l : Fin 128) :
    either h x y (ix3 p t l) = if h (ix2 0 l) = 1#1 then x (ix3 p t l) else y (ix3 p t l) := by
  unfold either
  pointwise
  rfl

theorem slt_at (l : Fin 128) : cmpi .slt lanes c64 (ix2 0 l) = BitVec.ofBool (decide (l.val < 64)) := by
  unfold lanes c64
  pointwise
  exact WordCmp.cmpi_slt_ofNat (b := 64) (lt_trans l.isLt (by norm_num)) (by norm_num)

theorem sge_at (l : Fin 128) : cmpi .sge lanes c64 (ix2 0 l) = BitVec.ofBool (decide (64 ≤ l.val)) := by
  unfold lanes c64
  pointwise
  exact WordCmp.cmpi_sge_ofNat (b := 64) (lt_trans l.isLt (by norm_num)) (by norm_num)

theorem pile_at (x y : FVec Ideal S3x1x8192x128 .bf16) (p : Fin 3) (h : Fin 2) (t : Fin 8192) (l : Fin 128) :
    concatenate S3x2x8192x128 1 [⟨S3x1x8192x128, x⟩, ⟨S3x1x8192x128, y⟩] concatenates_S3x1x8192x128_S3x1x8192x128_S3x2x8192x128_d1
      (ix4 p h t l) = if h.val = 0 then x (ix4 p 0 t l) else y (ix4 p 0 t l) := by
  pointwise
  obtain rfl | rfl : h = 0 ∨ h = 1 := by fin_cases h <;> simp
  · rfl
  · rfl

theorem blocks_at (x y : FVec Ideal S3x8192x128 .bf16) (b : Fin 4) (p : Fin 3) (h : Fin 2) (n : Fin 8) (l : Fin 128) (r : Fin 256) :
    blocks x y (ix6 b p h n l r) = if h.val = 0 then x (ix3 p (seq b (tpos n r)) l) else y (ix3 p (seq b (tpos n r)) l) := by
  unfold blocks
  dsimp only
  refine (transpose_apply _ _ _ (ix6 b p h n l r) (ix6 p h b n r l) (fun a => by fin_cases a <;> rfl)).trans ?_
  refine (shapeCast_apply _ _ (ix6 p h b n r l) (ix4 p h (seq b (tpos n r)) l) ?_).trans ?_
  · rw [Shape.rowMajor_val_four, Shape.rowMajor_val_six]
    show ((p.val * 2 + h.val) * 8192 + (2048 * b.val + (256 * n.val + r.val))) * 128 + l.val
      = ((((p.val * 2 + h.val) * 4 + b.val) * 8 + n.val) * 256 + r.val) * 128 + l.val
    omega
  · rw [pile_at]
    refine if_congr Iff.rfl ?_ ?_ <;> pointwise

/-- A query and a key of one block see each other as their words say. -/
theorem delta_at (n : Fin 8) (s : Fin 512) (r : Fin 256) :
    delta (ix3 n s r) = BitVec.ofNat 32 n.val * 256#32 + BitVec.ofNat 32 r.val - BitVec.ofNat 32 s.val := by
  unfold delta
  pointwise
  show (BitVec.ofNat 32 n.val + 0#32) * 256#32 + BitVec.ofNat 32 r.val - BitVec.ofNat 32 s.val = _
  rw [BitVec.add_zero]

theorem sees (n : Fin 8) (s : Fin 512) (r : Fin 256) :
    IntOp.cmpi .sge (delta (ix3 n s r)) 0#32 = if s.val ≤ 256 * n.val + r.val then 1#1 else 0#1 := by
  rw [delta_at, WordCmp.cmpi_sge_zero]
  have h : (BitVec.ofNat 32 n.val * 256#32 + BitVec.ofNat 32 r.val - BitVec.ofNat 32 s.val).toNat < 2 ^ (32 - 1) ↔ s.val ≤ 256 * n.val + r.val := by
    simp only [BitVec.toNat_sub, BitVec.toNat_add, BitVec.toNat_mul, BitVec.toNat_ofNat]
    omega
  rw [decide_eq_decide.mpr h]
  split_ifs with e
  · rw [decide_eq_true e]; rfl
  · rw [decide_eq_false e]; rfl

theorem mult_at (n : Fin 8) (s : Fin 512) (r : Fin 256) :
    mult (ix3 n s r) = (((if s.val ≤ 256 * n.val + r.val then 1 else 0) : ℝ) : EReal) := by
  unfold mult
  pointwise
  rw [sees]
  split_ifs
  · show (((1#1 : BitVec 1).toNat : ℝ) : EReal) = _
    norm_num
  · show (((0#1 : BitVec 1).toNat : ℝ) : EReal) = _
    norm_num

theorem tiny : Ideal.ofBits .f32 0x0DA24260#32 ≤ ((1 : ℝ) : EReal) := by
  have h : Ideal.ofBits .f32 0x0DA24260#32 = ((332307 / 332306998946228968225951765070086144 : ℝ) : EReal) := by
    simp [Ideal.ofBits, Ideal.ieee, -EReal.coe_mul]
    norm_num
  rw [h]
  exact EReal.coe_le_coe_iff.mpr (by norm_num)

/-- The table's entries are the logarithms of the mask, −∞ where it is zero and in the last block. -/
theorem table_at (n : Fin 9) (s : Fin 512) (r : Fin 256) :
    table mult (ix3 n s r) = bias (if n.val < 8 ∧ s.val ≤ 256 * n.val + r.val then 1 else 0) := by
  have key : table mult (ix3 n s r) = if h : n.val < 8 then (if 0 < mult (ix3 ⟨n.val, h⟩ s r)
      then Ideal.log (max (mult (ix3 ⟨n.val, h⟩ s r)) (Ideal.ofBits .f32 0x0DA24260#32)) else Ideal.ofBits .f32 0xFF800000#32)
      else Ideal.ofBits .f32 0xFF800000#32 := by
    unfold table
    generalize mult = M
    pointwise
  rw [key]
  by_cases h : n.val < 8
  · rw [dif_pos h, mult_at]
    by_cases h' : s.val ≤ 256 * n.val + r.val
    · refine Eq.trans ?_ (congrArg bias (if_pos (show n.val < 8 ∧ s.val ≤ 256 * n.val + r.val from ⟨h, h'⟩)).symm)
      rw [if_pos h', if_pos (EReal.coe_pos.mpr one_pos), max_eq_left tiny, Ideal.log_coe, if_neg (by norm_num), bias, if_neg one_ne_zero]
    · refine Eq.trans ?_ (congrArg bias (if_neg fun e : n.val < 8 ∧ s.val ≤ 256 * n.val + r.val => h' e.2).symm)
      rw [if_neg h', if_neg (fun e => lt_irrefl _ (EReal.coe_pos.mp e)), bias, if_pos rfl, Fold.bits_neg_inf]
  · refine Eq.trans ?_ (congrArg bias (if_neg fun e : n.val < 8 ∧ s.val ≤ 256 * n.val + r.val => h e.1).symm)
    rw [dif_neg h, bias, if_pos rfl, Fold.bits_neg_inf]

section spare

variable (C : FVec Ideal S4x2048x6 .f32) (c : Fin 4 → Fin 6 → Fin 2048 → ℝ) (hC : ∀ b t h, C (ix3 b t h) = ((c b h t : ℝ) : EReal))
include hC

theorem hi_at (b : Fin 4) (t : Fin 2048) (h : Fin 6) : hi C (ix2 (seq b t) h) = ((c b h t : ℝ) : EReal) := (flat_at C b t h).trans (hC b t h)
theorem mid_at (b : Fin 4) (t : Fin 2048) (h : Fin 6) : mid C (ix2 (seq b t) h) = ((0 : ℝ) : EReal) := by
  show (flat C (ix2 (seq b t) h) : EReal) - hi C (ix2 (seq b t) h) = _
  rw [hi_at C c hC, flat_at, hC, ← EReal.coe_sub, sub_self]
theorem lo_at (b : Fin 4) (t : Fin 2048) (h : Fin 6) : lo C (ix2 (seq b t) h) = ((0 : ℝ) : EReal) := by
  show (mid C (ix2 (seq b t) h) : EReal) - mid C (ix2 (seq b t) h) = _
  rw [mid_at C c hC, ← EReal.coe_sub, sub_self]
omit hC in
theorem one_at (t : Fin 8192) (h : Fin 6) : one (ix2 t h) = ((1 : ℝ) : EReal) := Ideal.ofBits_one_bf16

theorem aq_at (p : Fin 3) (b : Fin 4) (t : Fin 2048) (l : Fin 128) :
    aq C (ix3 p (seq b t) l) = ((spq (c b (head p (oth l)) t) (l.val % 64) : ℝ) : EReal) := by
  unfold aq
  rw [swapped_at, six_at, hi_at C c hC, mid_at C c hC, lo_at C c hC, one_at]
  rw [show (dim l).val = l.val % 64 from rfl]
  unfold spq
  split_ifs <;> first | rfl | omega

theorem ak_at (p : Fin 3) (b : Fin 4) (t : Fin 2048) (l : Fin 128) :
    ak C (ix3 p (seq b t) l) = ((spk (c b (head p (oth l)) t) (l.val % 64) : ℝ) : EReal) := by
  have h0 : Host.negf (hi C) (ix2 (seq b t) (head p (oth l))) = ((-(c b (head p (oth l)) t) : ℝ) : EReal) := by
    show -(hi C (ix2 (seq b t) (head p (oth l))) : EReal) = _
    rw [hi_at C c hC]; rfl
  have h1 : Host.negf (mid C) (ix2 (seq b t) (head p (oth l))) = ((0 : ℝ) : EReal) := by
    show -(mid C (ix2 (seq b t) (head p (oth l))) : EReal) = _
    rw [mid_at C c hC, ← EReal.coe_neg, neg_zero]
  have h2 : Host.negf (lo C) (ix2 (seq b t) (head p (oth l))) = ((0 : ℝ) : EReal) := by
    show -(lo C (ix2 (seq b t) (head p (oth l))) : EReal) = _
    rw [lo_at C c hC, ← EReal.coe_neg, neg_zero]
  unfold ak
  rw [swapped_at, six_at, h0, h1, h2, one_at]
  rw [show (dim l).val = l.val % 64 from rfl]
  unfold spk
  split_ifs <;> first | rfl | omega

end spare

end Cert.FoxKernelIdeal.Host

end
-- ==== Proof.FoxBlk.lean ====
/- The blocks the backward attention kernel reads at a grid point: point `t` is a batch, a pair of heads and a block of keys. -/
module

public import proofs.«01_k».proof.Proof.FoxHostAt

@[expose] public section

set_option maxRecDepth 16384

noncomputable section

open Idealize.ShloMosaic Idealize.ShloMosaic.TcCoe Idealize.SL.Sem
open scoped BigOperators

namespace Cert.FoxKernelIdeal.Blk

open Cert.FoxKernelIdeal Cert.FoxKernelIdeal.Gen Cert.FoxLoop Cert.FoxReal Cert.FoxKernelIdeal.Host

theorem pt_lt (t : Fin cfg0.N) : t.val < 48 := lt_of_lt_of_eq t.isLt N_0

/-- A point's batch, pair and block of keys. -/
def tb (t : Fin cfg0.N) : Fin 4 := ⟨t.val / 12, by have := pt_lt t; omega⟩
def tp (t : Fin cfg0.N) : Fin 3 := ⟨t.val / 4 % 3, by omega⟩
def tj (t : Fin cfg0.N) : Fin 4 := ⟨t.val % 4, by omega⟩

theorem in_val (t : Fin cfg0.N) : win0_0.index t = ![t.val / 12, t.val / 4 % 3] ∧ win0_1.index t = ![4 * (t.val / 12) + t.val % 4, 3 + t.val / 4 % 3]
    ∧ win0_2.index t = ![4 * (t.val / 12) + t.val % 4, 6 + t.val / 4 % 3] ∧ win0_3.index t = ![0, 0, 0]
    ∧ win0_4.index t = ![t.val / 12, t.val / 4 % 3] ∧ win0_5.index t = ![t.val / 12, t.val / 4 % 3, 0, 0]
    ∧ win0_6.index t = ![t.val / 12, t.val / 4 % 3, 0, 0] ∧ win0_7.index t = ![t.val / 12, t.val / 4 % 3, 0, t.val % 4, 0, 0]
    ∧ win0_8.index t = ![t.val / 4 % 3, t.val / 12, 0] ∧ win0_9.index t = ![t.val / 4 % 3, 4 * (t.val / 12) + t.val % 4, 0] :=
  (by decide +kernel : ∀ t : Fin grid0.N, win0_0.index t = ![t.val / 12, t.val / 4 % 3] ∧ win0_1.index t = ![4 * (t.val / 12) + t.val % 4, 3 + t.val / 4 % 3]
    ∧ win0_2.index t = ![4 * (t.val / 12) + t.val % 4, 6 + t.val / 4 % 3] ∧ win0_3.index t = ![0, 0, 0]
    ∧ win0_4.index t = ![t.val / 12, t.val / 4 % 3] ∧ win0_5.index t = ![t.val / 12, t.val / 4 % 3, 0, 0]
    ∧ win0_6.index t = ![t.val / 12, t.val / 4 % 3, 0, 0] ∧ win0_7.index t = ![t.val / 12, t.val / 4 % 3, 0, t.val % 4, 0, 0]
    ∧ win0_8.index t = ![t.val / 4 % 3, t.val / 12, 0] ∧ win0_9.index t = ![t.val / 4 % 3, 4 * (t.val / 12) + t.val % 4, 0]) t

theorem out_val (t : Fin cfg0.N) : win0_10.index t = ![t.val / 12, t.val / 4 % 3] ∧ win0_11.index t = ![4 * (t.val / 12) + t.val % 4, t.val / 4 % 3]
    ∧ win0_12.index t = ![4 * (t.val / 12) + t.val % 4, t.val / 4 % 3] ∧ win0_13.index t = ![t.val / 12, t.val / 4 % 3]
    ∧ win0_14.index t = ![4 * (t.val / 12) + t.val % 4, t.val / 4 % 3] :=
  (by decide +kernel : ∀ t : Fin grid0.N, win0_10.index t = ![t.val / 12, t.val / 4 % 3] ∧ win0_11.index t = ![4 * (t.val / 12) + t.val % 4, t.val / 4 % 3]
    ∧ win0_12.index t = ![4 * (t.val / 12) + t.val % 4, t.val / 4 % 3] ∧ win0_13.index t = ![t.val / 12, t.val / 4 % 3]
    ∧ win0_14.index t = ![4 * (t.val / 12) + t.val % 4, t.val / 4 % 3]) t

theorem coord_val (t : Fin cfg0.N) : ((grid0.coords t) 2).val = (tj t).val :=
  (by decide +kernel : ∀ t : Fin grid0.N, ((grid0.coords t) 2).val = t.val % 4) t

section reads

variable (m : (ℓ : Loc nD τ sig) → Buf (Elt Ideal) ℓ) (c : Dev nD) (t : Fin cfg0.N)

theorem read0 (X : FVec Ideal S8192x1152 .bf16) (hX : V m c main_v82 = X) (r : Fin 2048) (l : Fin 128) :
    iblk m c 0 t (ix2 r l) = X (ix2 (seq (tb t) r) ⟨(lane (tp t) l).val, by omega⟩) := by
  blk_simp [iblk, in_val t]
  rw [hX]
  unfold seq lane tb tp
  blk_ext [in_val t]

theorem read1 (X : FVec Ideal S8192x1152 .bf16) (hX : V m c main_v82 = X) (s : Fin 512) (l : Fin 128) :
    iblk m c 1 t (ix2 s l) = X (ix2 (seq (tb t) (kpos (tj t) s)) ⟨384 + (lane (tp t) l).val, by omega⟩) := by
  blk_simp [iblk, in_val t]
  rw [hX]
  unfold seq lane kpos tb tp tj
  blk_ext [in_val t]

theorem read2 (X : FVec Ideal S8192x1152 .bf16) (hX : V m c main_v82 = X) (s : Fin 512) (l : Fin 128) :
    iblk m c 2 t (ix2 s l) = X (ix2 (seq (tb t) (kpos (tj t) s)) ⟨384 + 384 + (lane (tp t) l).val, by omega⟩) := by
  blk_simp [iblk, in_val t]
  rw [hX]
  unfold seq lane kpos tb tp tj
  blk_ext [in_val t]

theorem read3 (X : FVec Ideal S9x512x256 .f32) (hX : V m c main_v117 = X) (n : Fin 9) (s : Fin 512) (r : Fin 256) :
    iblk m c 3 t (ix3 n s r) = X (ix3 n s r) := by
  blk_simp [iblk, in_val t]
  rw [hX]
  blk_ext [in_val t]

theorem read4 (X : FVec Ideal S8192x384 .bf16) (hX : V m c main_v119 = X) (r : Fin 2048) (l : Fin 128) :
    iblk m c 4 t (ix2 r l) = X (ix2 (seq (tb t) r) (lane (tp t) l)) := by
  blk_simp [iblk, in_val t]
  rw [hX]
  unfold seq lane tb tp
  blk_ext [in_val t]

theorem read5 (f : (b : Ref sig .tc) → Buf (Elt Ideal) ((c : Thread nD τ).loc b)) (b : Fin 8) (h : Fin 2) (r : Fin 256) :
    ((cfg0.win 5).blk t).view.read (Elt Ideal) (f (Pipeline.arrRef spec0 5)) (ix4 b h 0 r) = f main_v122 (ix4 (block (tb t) b) (head (tp t) h) 0 r) := by
  blk_simp [in_val t]
  unfold block head tb tp
  blk_ext [in_val t]

theorem read6 (X : FVec Ideal S32x8x1x256 .f32) (hX : V m c main_v39 = X) (b : Fin 8) (h : Fin 2) (r : Fin 256) :
    iblk m c 6 t (ix4 b h 0 r) = X (ix4 (block (tb t) b) ⟨(head (tp t) h).val, by omega⟩ 0 r) := by
  blk_simp [iblk, in_val t]
  rw [hX]
  unfold block head tb tp
  blk_ext [in_val t]

theorem read8 (X : FVec Ideal S3x8192x128 .bf16) (hX : V m c main_v63 = X) (r : Fin 2048) (l : Fin 128) :
    iblk m c 8 t (ix3 0 r l) = X (ix3 (tp t) (seq (tb t) r) l) := by
  blk_simp [iblk, in_val t]
  rw [hX]
  unfold seq tb tp
  blk_ext [in_val t]

theorem read9 (X : FVec Ideal S3x8192x128 .bf16) (hX : V m c main_v79 = X) (s : Fin 512) (l : Fin 128) :
    iblk m c 9 t (ix3 0 s l) = X (ix3 (tp t) (seq (tb t) (kpos (tj t) s)) l) := by
  blk_simp [iblk, in_val t]
  rw [hX]
  unfold seq kpos tb tp tj
  blk_ext [in_val t]

theorem read7 (f : (b : Ref sig .tc) → Buf (Elt Ideal) ((c : Thread nD τ).loc b)) (h n : Fin 2) (l : Fin 128) (r : Fin 256) :
    ((cfg0.win 7).blk t).view.read (Elt Ideal) (f (Pipeline.arrRef spec0 7)) (ix6 0 0 h n l r)
      = f main_v97 (ix6 (tb t) (tp t) h ⟨2 * (tj t).val + n.val, by omega⟩ l r) := by
  blk_simp [in_val t]
  unfold tb tp tj
  blk_ext [in_val t]

theorem iblk0_at (r : Fin 2048) (l : Fin 128) : iblk m c 0 t (ix2 r l) = aQ m c (ix3 (tb t) r (lane (tp t) l)) :=
  (read0 m c t _ (entry_v82 m c) r l).trans ((packed_at _ _ _ _ _ _).trans (dif_pos (lane (tp t) l).isLt))

theorem iblk1_at (s : Fin 512) (l : Fin 128) : iblk m c 1 t (ix2 s l) = aK m c (ix3 (tb t) (kpos (tj t) s) (lane (tp t) l)) := by
  have hl := (lane (tp t) l).isLt
  refine (read1 m c t _ (entry_v82 m c) s l).trans ((packed_at _ _ _ _ _ _).trans
    ((dif_neg (show ¬ 384 + (lane (tp t) l).val < 384 by omega)).trans ((dif_pos (show 384 + (lane (tp t) l).val - 384 < 384 by omega)).trans ?_)))
  exact congrArg (fun i : Fin 384 => aK m c (ix3 (tb t) (kpos (tj t) s) i)) (Fin.ext (Nat.add_sub_cancel_left ..))

theorem iblk2_at (s : Fin 512) (l : Fin 128) : iblk m c 2 t (ix2 s l) = aV m c (ix3 (tb t) (kpos (tj t) s) (lane (tp t) l)) := by
  have hl := (lane (tp t) l).isLt
  refine (read2 m c t _ (entry_v82 m c) s l).trans ((packed_at _ _ _ _ _ _).trans
    ((dif_neg (show ¬ 384 + 384 + (lane (tp t) l).val < 384 by omega)).trans ((dif_neg (show ¬ 384 + 384 + (lane (tp t) l).val - 384 < 384 by omega)).trans ?_)))
  exact congrArg (fun i : Fin 384 => aV m c (ix3 (tb t) (kpos (tj t) s) i)) (Fin.ext (show 384 + 384 + (lane (tp t) l).val - 384 - 384 = _ by omega))

theorem iblk4_at (r : Fin 2048) (l : Fin 128) : iblk m c 4 t (ix2 r l) = aO m c (ix3 (tb t) r (lane (tp t) l)) :=
  (read4 m c t _ (entry_v119 m c) r l).trans (rows_at _ _ _ _)

theorem iblk5_at (b : Fin 8) (h : Fin 2) (r : Fin 256) :
    iblk m c 5 t (ix4 b h 0 r) = lse (hM m c) (total (hE m c)) (ix3 (tb t) (tpos b r) (head (tp t) h)) :=
  (read5 c t (V m c) b h r).trans <| (congrFun (entry_v122 m c) _).trans <| (stat_at _ _ _ _ _)

theorem iblk6_at (b : Fin 8) (h : Fin 2) (r : Fin 256) :
    iblk m c 6 t (ix4 b h 0 r) = dots (normed (hE m c) (total (hE m c)) (aV m c)) (aO m c) (ix3 (tb t) (tpos b r) (head (tp t) h)) :=
  (read6 m c t _ (entry_v39 m c) b h r).trans ((more_at _ _ _ _).trans (stat_at _ _ _ _ _))

theorem iblk7_at (h : Fin 2) (n : Fin 2) (l : Fin 128) (r : Fin 256) (s : Fin 512) (hs : s.val = 256 * n.val + r.val) :
    iblk m c 7 t (ix6 0 0 h n l r) = if Data.own h l then aK m c (ix3 (tb t) (kpos (tj t) s) (lane (tp t) l))
      else ak (hC m c) (ix3 (tp t) (seq (tb t) (kpos (tj t) s)) l) := by
  have key := blocks_at (either (cmpi .slt lanes c64) (pairs (aK m c)) (ak (hC m c))) (either (cmpi .sge lanes c64) (pairs (aK m c)) (ak (hC m c)))
    (tb t) (tp t) h ⟨2 * (tj t).val + n.val, by omega⟩ l r
  have e : tpos ⟨2 * (tj t).val + n.val, by omega⟩ r = kpos (tj t) s := Fin.ext (show 256 * (2 * (tj t).val + n.val) + r.val = 512 * (tj t).val + s.val by omega)
  rw [e, either_at, either_at, slt_at, sge_at, pairs_at] at key
  refine (read7 c t (V m c) h n l r).trans ((congrFun (entry_v97 m c) _).trans (key.trans ?_))
  have hl := l.isLt
  unfold Data.own
  obtain rfl | rfl : h = 0 ∨ h = 1 := by fin_cases h <;> simp
  · refine (if_pos (show (0 : Fin 2).val = 0 from rfl)).trans ?_
    by_cases e' : l.val < 64
    · rw [decide_eq_true e', if_pos (show BitVec.ofBool true = 1#1 from rfl), if_pos (show l.val / 64 = (0 : Fin 2).val by show l.val / 64 = 0; omega)]
    · rw [decide_eq_false e', if_neg (show ¬ BitVec.ofBool false = 1#1 by decide), if_neg (show ¬ l.val / 64 = (0 : Fin 2).val by show ¬ l.val / 64 = 0; omega)]
  · refine (if_neg (show ¬ (1 : Fin 2).val = 0 by decide)).trans ?_
    by_cases e' : 64 ≤ l.val
    · rw [decide_eq_true e', if_pos (show BitVec.ofBool true = 1#1 from rfl), if_pos (show l.val / 64 = (1 : Fin 2).val by show l.val / 64 = 1; omega)]
    · rw [decide_eq_false e', if_neg (show ¬ BitVec.ofBool false = 1#1 by decide), if_neg (show ¬ l.val / 64 = (1 : Fin 2).val by show ¬ l.val / 64 = 1; omega)]

end reads

end Cert.FoxKernelIdeal.Blk

end
-- ==== Proof.FoxStat.lean ====
/- The blocks a grid point reads, as the data of its part of the attention: on real arguments every block holds the reals
   of `FoxLoop.data`, the row statistics included. -/
module

public import proofs.«01_k».proof.Proof.FoxBlk

@[expose] public section

set_option maxRecDepth 16384

noncomputable section

open Idealize.ShloMosaic Idealize.ShloMosaic.TcCoe Idealize.SL.Sem
open scoped BigOperators

namespace Cert.FoxKernelIdeal.Stat

open Cert.FoxKernelIdeal Cert.FoxKernelIdeal.Gen Cert.FoxLoop Cert.FoxReal Cert.FoxKernelIdeal.Host Cert.FoxKernelIdeal.Blk Cert.Lift

variable (q k v o : Fin 4 → Fin 6 → Fin 2048 → Fin 64 → ℝ) (g M : Fin 4 → Fin 6 → Fin 2048 → ℝ)

/-- A row's logarithm of its mass, and the product of its output and its cotangents. -/
def yy (b : Fin 4) (h : Fin 6) (t : Fin 2048) : ℝ := M b h t + Real.log (Att.mass (see t) (score (q b h) (k b h) (g b h) t) (M b h t))
def zz (b : Fin 4) (h : Fin 6) (t : Fin 2048) : ℝ := ∑ s, FoxReal.p (q b h) (k b h) (g b h) t s * dp (v b h) (o b h) t s

/-- A grid point's part of the attention. -/
def dat (t : Fin cfg0.N) : Data :=
  data (q (tb t)) (k (tb t)) (v (tb t)) (o (tb t)) (g (tb t)) (yy q k g M (tb t)) (zz q k v o g (tb t)) (tp t) (tj t)

variable (m : (ℓ : Loc nD τ sig) → Buf (Elt Ideal) ℓ) (c : Dev nD)
  (hQ : ∀ b t h d, aQ m c (ix3 b t (col h d)) = ((q b h t d : ℝ) : EReal)) (hK : ∀ b t h d, aK m c (ix3 b t (col h d)) = ((k b h t d : ℝ) : EReal))
  (hV : ∀ b t h d, aV m c (ix3 b t (col h d)) = ((v b h t d : ℝ) : EReal)) (hO : ∀ b t h d, aO m c (ix3 b t (col h d)) = ((o b h t d : ℝ) : EReal))
  (hG : ∀ b t h, hC m c (ix3 b t h) = ((g b h t : ℝ) : EReal))
  (hS : ∀ b h t, hM m c (ix3 b h t) = ((M b h t : ℝ) : EReal))

include hQ hK hG hS in
theorem e_at (b : Fin 4) (h : Fin 6) (t s : Fin 2048) : hE m c (ix4 b h t s)
    = ((see t s * Real.exp (score (q b h) (k b h) (g b h) t s - M b h t) : ℝ) : EReal) := by
  refine (expo_at _ _ _ _ _ _).trans ?_
  rw [hS]
  refine (congrArg (fun x : EReal => Ideal.exp (x - ((M b h t : ℝ) : EReal)))
    (FoxReferenceIdeal.Real.v18_at (aQ m c) (aK m c) (aC m c) q k g hQ hK hG b h t s)).trans ?_
  rw [see]
  exact Fold.exp_if (s ≤ t) _ _

include hQ hK hG hS in
theorem mass_at (b : Fin 4) (h : Fin 6) (t : Fin 2048) : total (hE m c) (ix3 b h t)
    = ((Att.mass (see t) (score (q b h) (k b h) (g b h) t) (M b h t) : ℝ) : EReal) := by
  rw [total_at, Finset.sum_congr rfl fun s _ => e_at q k g M m c hQ hK hG hS b h t s, sum_coe]
  rfl

include hQ hK hG hS in
theorem y_at (b : Fin 4) (h : Fin 6) (t : Fin 2048) : lse (hM m c) (total (hE m c)) (ix3 b t h) = ((yy q k g M b h t : ℝ) : EReal) := by
  rw [lse_at, hS, mass_at q k g M m c hQ hK hG hS, Ideal.log_coe, if_neg (not_le.2 (Att.mass_pos (see_nonneg t) (see_self t) _)), ← EReal.coe_add]
  rfl

/-- A row's product with its cotangents, by keys instead of by lanes. -/
theorem by_keys {N D : Type} [Fintype N] [Fintype D] (w S : N → ℝ) (x : ℝ) (o : D → ℝ) (v : N → D → ℝ) :
    (∑ d, o d * ((∑ s, w s * Real.exp (S s - x) * v s d) / Att.mass w S x)) = ∑ s, Att.prob w S s * ∑ d, o d * v s d := by
  have e : ∀ d, o d * ((∑ s, w s * Real.exp (S s - x) * v s d) / Att.mass w S x) = ∑ s, Att.prob w S s * (o d * v s d) := by
    intro d
    rw [Finset.sum_div, Finset.mul_sum]
    refine Finset.sum_congr rfl fun s _ => ?_
    rw [← Att.div_mass x s]
    ring
  rw [Finset.sum_congr rfl fun d _ => e d, Finset.sum_comm]
  exact Finset.sum_congr rfl fun s _ => (Finset.mul_sum _ _ _).symm

include hQ hK hG hS hV hO in
theorem z_at (b : Fin 4) (h : Fin 6) (t : Fin 2048) :
    Host.dots (normed (hE m c) (total (hE m c)) (aV m c)) (aO m c) (ix3 b t h) = ((zz q k v o g b h t : ℝ) : EReal) := by
  have e : ∀ d : Fin 64, (aO m c (ix3 b t (col h d)) : EReal) * normed (hE m c) (total (hE m c)) (aV m c) (ix4 b h t d)
      = ((o b h t d * ((∑ s, see t s * Real.exp (score (q b h) (k b h) (g b h) t s - M b h t) * v b h s d)
          / Att.mass (see t) (score (q b h) (k b h) (g b h) t) (M b h t)) : ℝ) : EReal) := by
    intro d
    have e' : (∑ s : Fin 2048, hE m c (ix4 b h t s) * (aV m c (ix3 b s (col h d)) : EReal))
        = ((∑ s, see t s * Real.exp (score (q b h) (k b h) (g b h) t s - M b h t) * v b h s d : ℝ) : EReal) := by
      rw [← sum_coe]
      refine Finset.sum_congr rfl fun s _ => ?_
      rw [e_at q k g M m c hQ hK hG hS b h t s, hV, ← EReal.coe_mul]
    rw [normed_at, e', mass_at q k g M m c hQ hK hG hS, hO, div_real _ (Att.mass_pos (see_nonneg t) (see_self t) _).ne', ← EReal.coe_mul]
  rw [Host.dots_at, Finset.sum_congr rfl fun d _ => e d, sum_coe, by_keys]
  rfl

/-- A key's lane of its own head, and the spare lane of the other head. -/
theorem own_at (X : FVec Ideal S4x2048x384 .f32) (x : Fin 4 → Fin 6 → Fin 2048 → Fin 64 → ℝ)
    (hX : ∀ b t h d, X (ix3 b t (col h d)) = ((x b h t d : ℝ) : EReal)) (b : Fin 4) (t : Fin 2048) (p : Fin 3) (l : Fin 128) :
    X (ix3 b t (lane p l)) = ((x b (head p (half l)) t (dim l) : ℝ) : EReal) :=
  (congrArg (fun i => X (ix3 b t i)) (lane_eq p l)).trans (hX b t _ _)

include hK in
theorem key_at (t : Fin cfg0.N) (h : Fin 2) (s : Fin 512) (l : Fin 128) (e : Data.own h l) :
    aK m c (ix3 (tb t) (kpos (tj t) s) (lane (tp t) l)) = (((dat q k v o g M t).k h s l : ℝ) : EReal) := by
  refine (own_at _ k hK _ _ _ _).trans (congrArg _ ?_)
  show _ = if Data.own h l then _ else _
  rw [if_pos e, own_half e]

include hG in
theorem spare_at (t : Fin cfg0.N) (h : Fin 2) (s : Fin 512) (l : Fin 128) (e : ¬ Data.own h l) :
    ak (hC m c) (ix3 (tp t) (seq (tb t) (kpos (tj t) s)) l) = (((dat q k v o g M t).k h s l : ℝ) : EReal) := by
  refine (ak_at _ g hG _ _ _ _).trans (congrArg _ ?_)
  show _ = if Data.own h l then _ else _
  rw [if_neg e, not_own_oth e]

include hQ in
theorem e0 (t : Fin cfg0.N) (b : Fin 8) (r : Fin 256) (l : Fin 128) : iblk m c 0 t (ix2 (row b r) l) = (((dat q k v o g M t).q b r l : ℝ) : EReal) :=
  (iblk0_at m c t (row b r) l).trans (own_at _ q hQ _ _ _ _)

include hK in
theorem e1 (t : Fin cfg0.N) (h : Fin 2) (s : Fin 512) (l : Fin 128) (e : Data.own h l) :
    iblk m c 1 t (ix2 s l) = (((dat q k v o g M t).k h s l : ℝ) : EReal) :=
  (iblk1_at m c t s l).trans (key_at q k v o g M m c hK t h s l e)

include hV in
theorem e2 (t : Fin cfg0.N) (s : Fin 512) (l : Fin 128) : iblk m c 2 t (ix2 s l) = (((dat q k v o g M t).v s l : ℝ) : EReal) :=
  (iblk2_at m c t s l).trans (own_at _ v hV _ _ _ _)

theorem e3 (t : Fin cfg0.N) (n : Fin 9) (s : Fin 512) (r : Fin 256) : iblk m c 3 t (ix3 n s r) = bias ((dat q k v o g M t).w n s r) :=
  (read3 m c t _ (entry_v117 m c) n s r).trans (table_at n s r)

include hO in
theorem e4 (t : Fin cfg0.N) (b : Fin 8) (r : Fin 256) (l : Fin 128) : iblk m c 4 t (ix2 (row b r) l) = (((dat q k v o g M t).o b r l : ℝ) : EReal) :=
  (iblk4_at m c t (row b r) l).trans (own_at _ o hO _ _ _ _)

include hQ hK hG hS in
theorem e5 (t : Fin cfg0.N) (b : Fin 8) (h : Fin 2) (r : Fin 256) : iblk m c 5 t (ix4 b h 0 r) = (((dat q k v o g M t).y h b r : ℝ) : EReal) :=
  (iblk5_at m c t b h r).trans (y_at q k g M m c hQ hK hG hS _ _ _)

include hQ hK hV hO hG hS in
theorem e6 (t : Fin cfg0.N) (b : Fin 8) (h : Fin 2) (r : Fin 256) : iblk m c 6 t (ix4 b h 0 r) = (((dat q k v o g M t).z h b r : ℝ) : EReal) :=
  (iblk6_at m c t b h r).trans (z_at q k v o g M m c hQ hK hV hO hG hS _ _ _)

include hK hG in
theorem e7 (t : Fin cfg0.N) (h n : Fin 2) (s : Fin 512) (r : Fin 256) (l : Fin 128) (hs : s.val = 256 * n.val + r.val) :
    iblk m c 7 t (ix6 0 0 h n l r) = (((dat q k v o g M t).k h s l : ℝ) : EReal) := by
  refine (iblk7_at m c t h n l r s hs).trans ?_
  by_cases e : Data.own h l
  · rw [if_pos e]; exact key_at q k v o g M m c hK t h s l e
  · rw [if_neg e]; exact spare_at q k v o g M m c hG t h s l e

include hG in
theorem e8 (t : Fin cfg0.N) (b : Fin 8) (r : Fin 256) (l : Fin 128) : iblk m c 8 t (ix3 0 (row b r) l) = (((dat q k v o g M t).a b r l : ℝ) : EReal) :=
  (read8 m c t _ (entry_v63 m c) (row b r) l).trans (aq_at _ g hG _ _ _ _)

include hG in
theorem e9 (t : Fin cfg0.N) (h : Fin 2) (s : Fin 512) (l : Fin 128) (e : ¬ Data.own h l) :
    iblk m c 9 t (ix3 0 s l) = (((dat q k v o g M t).k h s l : ℝ) : EReal) :=
  (read9 m c t _ (entry_v79 m c) s l).trans (spare_at q k v o g M m c hG t h s l e)

end Cert.FoxKernelIdeal.Stat

end
-- ==== Proof.FoxOut.lean ====
module

public import proofs.«01_k».proof.Proof.FoxRun

/-!
The outputs of one grid point of the backward attention kernel, by the point's place in its row of key blocks.
-/

@[expose] public section

set_option maxRecDepth 16384

noncomputable section

open Idealize.ShloMosaic Idealize.ShloMosaic.TcCoe Idealize.SL.Sem
open Cert.Lift
open scoped BigOperators

namespace Cert.FoxLoop

open Cert.FoxKernelIdeal Cert.FoxKernelIdeal.Gen

theorem pay2_at (w : FVec Ideal S512x128 .f32) (s : Fin 512) (l : Fin 128) : k0_pay2 (F := Ideal) w (ix2 s l) = (w (ix2 s l) : EReal) := by
  pointwise [k0_pay2]

theorem pay1_at (w : FVec Ideal S512x128 .f32) (s : Fin 512) (l : Fin 128) : k0_pay1 (F := Ideal) w (ix2 s l) = w (ix2 s l) := by
  pointwise [k0_pay1]

/-- The queries' gradient once the last key block is added. -/
def Data.finQ (D : Data) (j : ℕ) (AQ : Fin 2 → Fin 8 → Fin 128 → Fin 256 → ℝ) (b : Fin 8) (r : Fin 256) (l : Fin 128) : ℝ :=
  (if Data.own 0 l then AQ 0 b l r + D.sumQ j 0 b l r else AQ 1 b l r + D.sumQ j 1 b l r) * (1 / 8)

/-- The same of the spare lanes, which lie among the other head's. -/
def Data.finQa (D : Data) (j : ℕ) (AQ : Fin 2 → Fin 8 → Fin 128 → Fin 256 → ℝ) (b : Fin 8) (r : Fin 256) (l : Fin 128) : ℝ :=
  if Data.own 0 l then AQ 1 b l r + D.sumQ j 1 b l r else AQ 0 b l r + D.sumQ j 0 b l r

variable {c : Dev nD} {i : grid0.Coords}
  {arg3 : Memref sig .tc .vmem S2048x128 .bf16}
  {harg3 : arg3.IsWhole}
  {arg4 : Memref sig .tc .vmem S512x128 .bf16}
  {harg4 : arg4.IsWhole}
  {arg5 : Memref sig .tc .vmem S512x128 .bf16}
  {harg5 : arg5.IsWhole}
  {arg6 : Memref sig .tc .vmem S9x512x256 .f32}
  {harg6 : arg6.IsWhole}
  {arg7 : Memref sig .tc .vmem S2048x128 .bf16}
  {harg7 : arg7.IsWhole}
  {arg8 : Memref sig .tc .vmem S8x2x1x256 .f32}
  {harg8 : arg8.IsWhole}
  {arg9 : Memref sig .tc .vmem S8x2x1x256 .f32}
  {harg9 : arg9.IsWhole}
  {arg10 : Memref sig .tc .vmem S1x1x2x2x128x256 .bf16}
  {harg10 : arg10.IsWhole}
  {arg11 : Memref sig .tc .vmem S1x2048x128 .bf16}
  {harg11 : arg11.IsWhole}
  {arg12 : Memref sig .tc .vmem S1x512x128 .bf16}
  {harg12 : arg12.IsWhole}
  {arg13 : Memref sig .tc .vmem S2048x128 .f32}
  {harg13 : arg13.IsWhole}
  {arg14 : Memref sig .tc .vmem S512x128 .bf16}
  {harg14 : arg14.IsWhole}
  {arg15 : Memref sig .tc .vmem S512x128 .bf16}
  {harg15 : arg15.IsWhole}
  {arg16 : Memref sig .tc .vmem S2048x128 .f32}
  {harg16 : arg16.IsWhole}
  {arg17 : Memref sig .tc .vmem S512x128 .f32}
  {harg17 : arg17.IsWhole}
  {arg18 : Memref sig .tc .vmem S2x8x128x256 .f32}
  {harg18 : arg18.IsWhole}
  {arg19 : Memref sig .tc .vmem S2x512x128 .f32}
  {harg19 : arg19.IsWhole}
  {arg20 : Memref sig .tc .vmem S512x128 .f32}
  {harg20 : arg20.IsWhole}
  {arg21 : Memref sig .tc .vmem S2x2x512x256 .f32}
  {harg21 : arg21.IsWhole}
  {x0 : FVec Ideal S2048x128 .bf16} {x1 : FVec Ideal S512x128 .bf16} {x2 : FVec Ideal S512x128 .bf16} {x3 : FVec Ideal S9x512x256 .f32} {x4 : FVec Ideal S2048x128 .bf16} {x5 : FVec Ideal S8x2x1x256 .f32} {x6 : FVec Ideal S8x2x1x256 .f32} {x7 : FVec Ideal S1x1x2x2x128x256 .bf16} {x8 : FVec Ideal S1x2048x128 .bf16} {x9 : FVec Ideal S1x512x128 .bf16} {xs0 : FVec Ideal S2x8x128x256 .f32}
variable (D : Data)
  (e0 : ∀ b r l, x0 (ix2 (row b r) l) = ((D.q b r l : ℝ) : EReal))
  (e1 : ∀ h s l, Data.own h l → x1 (ix2 s l) = ((D.k h s l : ℝ) : EReal))
  (e2 : ∀ s l, x2 (ix2 s l) = ((D.v s l : ℝ) : EReal))
  (e3 : ∀ n s r, x3 (ix3 n s r) = bias (D.w n s r))
  (e4 : ∀ b r l, x4 (ix2 (row b r) l) = ((D.o b r l : ℝ) : EReal))
  (e5 : ∀ b h r, x5 (ix4 b h 0 r) = ((D.y h b r : ℝ) : EReal))
  (e6 : ∀ b h r, x6 (ix4 b h 0 r) = ((D.z h b r : ℝ) : EReal))
  (e7 : ∀ h (n : Fin 2) (s : Fin 512) (r : Fin 256) l, s.val = 256 * n.val + r.val → x7 (ix6 0 0 h n l r) = ((D.k h s l : ℝ) : EReal))
  (e8 : ∀ b r l, x8 (ix3 0 (row b r) l) = ((D.a b r l : ℝ) : EReal))
  (e9 : ∀ h s l, ¬ Data.own h l → x9 (ix3 0 s l) = ((D.k h s l : ℝ) : EReal))

set_option maxHeartbeats 1600000 in
include e0 e1 e2 e3 e4 e5 e6 e7 e8 e9 in
theorem keptV_A (s : Fin 512) (l : Fin 128) :
    kernelRun0_A.sl.v129 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 (ix2 s l) = ((D.sumV (i 2).val s l : ℝ) : EReal) := by
  unfold kernelRun0_A.sl.v129
  rw [trips2]
  refine (load_at arg20.view (arg20.view.writes (Elt Ideal) arg20.view.junk _) _ (ix2 s l) (ix2 s l) (off' := ![0, 0]) rfl (by intro a; fin_cases a <;> simp)).trans ?_
  exact (after (c := c) (i := i) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) D e0 e1 e2 e3 e4 e5 e6 e7 e8 e9 (arg18.view.writes (Elt Ideal) arg18.view.junk kernelRun0_A.sl.HS0_1) (fun _ _ _ _ => 0) (fun h b l r => start_zero arg18.view (s := S2x8x128x256) _ _ (fun a => by fin_cases a <;> rfl) (fun x => Ideal.ofBits_zero_f32) (ix4 h b l r))).1 s l

set_option maxHeartbeats 1600000 in
include e0 e1 e2 e3 e4 e5 e6 e7 e8 e9 in
theorem keptK_v120_A (s : Fin 512) (l : Fin 128) :
    kernelRun0_A.sl.v120 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 (ix3 0 s l) = ((D.sumK (i 2).val 0 s l : ℝ) : EReal) := by
  unfold kernelRun0_A.sl.v120
  rw [trips2]
  refine (load_at arg19.view (arg19.view.writes (Elt Ideal) arg19.view.junk _) _ (ix3 0 s l) (ix3 0 s l) (off' := ![0, 0, 0]) rfl (by intro a; fin_cases a <;> simp [ix3])).trans ?_
  exact (after (c := c) (i := i) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) D e0 e1 e2 e3 e4 e5 e6 e7 e8 e9 (arg18.view.writes (Elt Ideal) arg18.view.junk kernelRun0_A.sl.HS0_1) (fun _ _ _ _ => 0) (fun h b l r => start_zero arg18.view (s := S2x8x128x256) _ _ (fun a => by fin_cases a <;> rfl) (fun x => Ideal.ofBits_zero_f32) (ix4 h b l r))).2.1 0 s l

set_option maxHeartbeats 1600000 in
include e0 e1 e2 e3 e4 e5 e6 e7 e8 e9 in
theorem keptK_v122_A (s : Fin 512) (l : Fin 128) :
    kernelRun0_A.sl.v122 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 (ix3 0 s l) = ((D.sumK (i 2).val 1 s l : ℝ) : EReal) := by
  unfold kernelRun0_A.sl.v122
  rw [trips2]
  refine (load_at arg19.view (arg19.view.writes (Elt Ideal) arg19.view.junk _) _ (ix3 0 s l) (ix3 1 s l) (off' := ![1, 0, 0]) rfl (by intro a; fin_cases a <;> simp [ix3])).trans ?_
  exact (after (c := c) (i := i) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) D e0 e1 e2 e3 e4 e5 e6 e7 e8 e9 (arg18.view.writes (Elt Ideal) arg18.view.junk kernelRun0_A.sl.HS0_1) (fun _ _ _ _ => 0) (fun h b l r => start_zero arg18.view (s := S2x8x128x256) _ _ (fun a => by fin_cases a <;> rfl) (fun x => Ideal.ofBits_zero_f32) (ix4 h b l r))).2.1 1 s l

set_option maxHeartbeats 1600000 in
include e0 e1 e2 e3 e4 e5 e6 e7 e8 e9 in
theorem keptK_v132_A (s : Fin 512) (l : Fin 128) :
    kernelRun0_A.sl.v132 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 (ix3 0 s l) = ((D.sumK (i 2).val 1 s l : ℝ) : EReal) := by
  unfold kernelRun0_A.sl.v132
  rw [trips2]
  refine (load_at arg19.view (arg19.view.writes (Elt Ideal) arg19.view.junk _) _ (ix3 0 s l) (ix3 1 s l) (off' := ![1, 0, 0]) rfl (by intro a; fin_cases a <;> simp [ix3])).trans ?_
  exact (after (c := c) (i := i) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) D e0 e1 e2 e3 e4 e5 e6 e7 e8 e9 (arg18.view.writes (Elt Ideal) arg18.view.junk kernelRun0_A.sl.HS0_1) (fun _ _ _ _ => 0) (fun h b l r => start_zero arg18.view (s := S2x8x128x256) _ _ (fun a => by fin_cases a <;> rfl) (fun x => Ideal.ofBits_zero_f32) (ix4 h b l r))).2.1 1 s l

set_option maxHeartbeats 1600000 in
include e0 e1 e2 e3 e4 e5 e6 e7 e8 e9 in
theorem keptK_v134_A (s : Fin 512) (l : Fin 128) :
    kernelRun0_A.sl.v134 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 (ix3 0 s l) = ((D.sumK (i 2).val 0 s l : ℝ) : EReal) := by
  unfold kernelRun0_A.sl.v134
  rw [trips2]
  refine (load_at arg19.view (arg19.view.writes (Elt Ideal) arg19.view.junk _) _ (ix3 0 s l) (ix3 0 s l) (off' := ![0, 0, 0]) rfl (by intro a; fin_cases a <;> simp [ix3])).trans ?_
  exact (after (c := c) (i := i) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) D e0 e1 e2 e3 e4 e5 e6 e7 e8 e9 (arg18.view.writes (Elt Ideal) arg18.view.junk kernelRun0_A.sl.HS0_1) (fun _ _ _ _ => 0) (fun h b l r => start_zero arg18.view (s := S2x8x128x256) _ _ (fun a => by fin_cases a <;> rfl) (fun x => Ideal.ofBits_zero_f32) (ix4 h b l r))).2.1 0 s l

set_option maxHeartbeats 1600000 in
include e0 e1 e2 e3 e4 e5 e6 e7 e8 e9 in
theorem outV_A (hc0 : cond0_0 i) (hc1 : ¬ cond0_1 i) (s : Fin 512) (l : Fin 128) :
    out0_A_12 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 (ix2 s l) = ((D.sumV (i 2).val s l : ℝ) : EReal) := by
  have e : out0_A_12 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 = k0_pay2 (kernelRun0_A.sl.v129 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9) := View.read_writes_full _ _ _ _ []
  rw [e]
  exact (pay2_at _ s l).trans (keptV_A (c := c) (i := i) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) D e0 e1 e2 e3 e4 e5 e6 e7 e8 e9 s l)

set_option maxHeartbeats 1600000 in
include e0 e1 e2 e3 e4 e5 e6 e7 e8 e9 in
theorem outK_A (hc0 : cond0_0 i) (hc1 : ¬ cond0_1 i) (s : Fin 512) (l : Fin 128) :
    out0_A_11 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 (ix2 s l) = ((if Data.own 0 l then D.sumK (i 2).val 0 s l else D.sumK (i 2).val 1 s l : ℝ) : EReal) := by
  have e : out0_A_11 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 = k0_pay1 (k0_pay173 k0_pay145 (kernelRun0_A.sl.v120 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9) (kernelRun0_A.sl.v122 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9)) := View.read_writes_full _ _ _ _ []
  rw [e]
  exact (pay1_at _ s l).trans (pick_at mask0 (keptK_v120_A (c := c) (i := i) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) D e0 e1 e2 e3 e4 e5 e6 e7 e8 e9) (keptK_v122_A (c := c) (i := i) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) D e0 e1 e2 e3 e4 e5 e6 e7 e8 e9) s l)

set_option maxHeartbeats 1600000 in
include e0 e1 e2 e3 e4 e5 e6 e7 e8 e9 in
theorem outKa_A (hc0 : cond0_0 i) (hc1 : ¬ cond0_1 i) (s : Fin 512) (l : Fin 128) :
    out0_A_14 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 (ix2 s l) = ((if Data.own 0 l then D.sumK (i 2).val 1 s l else D.sumK (i 2).val 0 s l : ℝ) : EReal) := by
  have e : out0_A_14 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 = pick k0_pay145 (kernelRun0_A.sl.v132 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9) (kernelRun0_A.sl.v134 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9) := View.read_writes_full _ _ _ _ []
  rw [e]
  exact pick_at mask0 (keptK_v132_A (c := c) (i := i) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) D e0 e1 e2 e3 e4 e5 e6 e7 e8 e9) (keptK_v134_A (c := c) (i := i) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) D e0 e1 e2 e3 e4 e5 e6 e7 e8 e9) s l

set_option maxHeartbeats 1600000 in
include e0 e1 e2 e3 e4 e5 e6 e7 e8 e9 in
theorem scratch_A (hc0 : cond0_0 i) (hc1 : ¬ cond0_1 i) (h : Fin 2) (b : Fin 8) (l : Fin 128) (r : Fin 256) :
    sout0_A_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 scM0_0 (Memref.isWhole_whole _) arg19 harg19 arg20 harg20 arg21 harg21 hc0 hc1 x0 x1 x2 x3 x4 x5 x6 x7 x8 x9 (ix4 h b l r) = ((D.sumQ (i 2).val h b l r : ℝ) : EReal) := by
  unfold sout0_A_0 kernelRun0_A
  dsimp only
  rw [trips2]
  refine Eq.trans ?_ (((after (c := c) (i := i) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := Memref.isWhole_whole _) (harg19 := harg19) (harg20 := harg20) (harg21 := harg21) D e0 e1 e2 e3 e4 e5 e6 e7 e8 e9 (scM0_0.view.writes (Elt Ideal) scM0_0.view.junk kernelRun0_A.sl.HS0_1) (fun _ _ _ _ => 0) (fun h b l r => start_zero scM0_0.view (s := S2x8x128x256) _ _ (fun a => by fin_cases a <;> rfl) (fun x => Ideal.ofBits_zero_f32) (ix4 h b l r))).2.2 h b l r).trans (congrArg _ (zero_add _)))
  rw [← View.writes_append]
  rfl

set_option maxHeartbeats 1600000 in
include e0 e1 e2 e3 e4 e5 e6 e7 e8 e9 in
theorem keptV_B
    (AQ : Fin 2 → Fin 8 → Fin 128 → Fin 256 → ℝ) (hx : ∀ h b l r, xs0 (ix4 h b l r) = ((AQ h b l r : ℝ) : EReal)) (s : Fin 512) (l : Fin 128) :
    kernelRun0_B.sl.v129 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 xs0 (ix2 s l) = ((D.sumV (i 2).val s l : ℝ) : EReal) := by
  unfold kernelRun0_B.sl.v129
  rw [trips2]
  refine (load_at arg20.view (arg20.view.writes (Elt Ideal) arg20.view.junk _) _ (ix2 s l) (ix2 s l) (off' := ![0, 0]) rfl (by intro a; fin_cases a <;> simp)).trans ?_
  exact (after (c := c) (i := i) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) D e0 e1 e2 e3 e4 e5 e6 e7 e8 e9 (harg18.unread xs0) AQ (fun h b l r => held harg18 xs0 (hx h b l r))).1 s l

set_option maxHeartbeats 1600000 in
include e0 e1 e2 e3 e4 e5 e6 e7 e8 e9 in
theorem keptK_v120_B
    (AQ : Fin 2 → Fin 8 → Fin 128 → Fin 256 → ℝ) (hx : ∀ h b l r, xs0 (ix4 h b l r) = ((AQ h b l r : ℝ) : EReal)) (s : Fin 512) (l : Fin 128) :
    kernelRun0_B.sl.v120 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 xs0 (ix3 0 s l) = ((D.sumK (i 2).val 0 s l : ℝ) : EReal) := by
  unfold kernelRun0_B.sl.v120
  rw [trips2]
  refine (load_at arg19.view (arg19.view.writes (Elt Ideal) arg19.view.junk _) _ (ix3 0 s l) (ix3 0 s l) (off' := ![0, 0, 0]) rfl (by intro a; fin_cases a <;> simp [ix3])).trans ?_
  exact (after (c := c) (i := i) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) D e0 e1 e2 e3 e4 e5 e6 e7 e8 e9 (harg18.unread xs0) AQ (fun h b l r => held harg18 xs0 (hx h b l r))).2.1 0 s l

set_option maxHeartbeats 1600000 in
include e0 e1 e2 e3 e4 e5 e6 e7 e8 e9 in
theorem keptK_v122_B
    (AQ : Fin 2 → Fin 8 → Fin 128 → Fin 256 → ℝ) (hx : ∀ h b l r, xs0 (ix4 h b l r) = ((AQ h b l r : ℝ) : EReal)) (s : Fin 512) (l : Fin 128) :
    kernelRun0_B.sl.v122 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 xs0 (ix3 0 s l) = ((D.sumK (i 2).val 1 s l : ℝ) : EReal) := by
  unfold kernelRun0_B.sl.v122
  rw [trips2]
  refine (load_at arg19.view (arg19.view.writes (Elt Ideal) arg19.view.junk _) _ (ix3 0 s l) (ix3 1 s l) (off' := ![1, 0, 0]) rfl (by intro a; fin_cases a <;> simp [ix3])).trans ?_
  exact (after (c := c) (i := i) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) D e0 e1 e2 e3 e4 e5 e6 e7 e8 e9 (harg18.unread xs0) AQ (fun h b l r => held harg18 xs0 (hx h b l r))).2.1 1 s l

set_option maxHeartbeats 1600000 in
include e0 e1 e2 e3 e4 e5 e6 e7 e8 e9 in
theorem keptK_v132_B
    (AQ : Fin 2 → Fin 8 → Fin 128 → Fin 256 → ℝ) (hx : ∀ h b l r, xs0 (ix4 h b l r) = ((AQ h b l r : ℝ) : EReal)) (s : Fin 512) (l : Fin 128) :
    kernelRun0_B.sl.v132 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 xs0 (ix3 0 s l) = ((D.sumK (i 2).val 1 s l : ℝ) : EReal) := by
  unfold kernelRun0_B.sl.v132
  rw [trips2]
  refine (load_at arg19.view (arg19.view.writes (Elt Ideal) arg19.view.junk _) _ (ix3 0 s l) (ix3 1 s l) (off' := ![1, 0, 0]) rfl (by intro a; fin_cases a <;> simp [ix3])).trans ?_
  exact (after (c := c) (i := i) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) D e0 e1 e2 e3 e4 e5 e6 e7 e8 e9 (harg18.unread xs0) AQ (fun h b l r => held harg18 xs0 (hx h b l r))).2.1 1 s l

set_option maxHeartbeats 1600000 in
include e0 e1 e2 e3 e4 e5 e6 e7 e8 e9 in
theorem keptK_v134_B
    (AQ : Fin 2 → Fin 8 → Fin 128 → Fin 256 → ℝ) (hx : ∀ h b l r, xs0 (ix4 h b l r) = ((AQ h b l r : ℝ) : EReal)) (s : Fin 512) (l : Fin 128) :
    kernelRun0_B.sl.v134 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 xs0 (ix3 0 s l) = ((D.sumK (i 2).val 0 s l : ℝ) : EReal) := by
  unfold kernelRun0_B.sl.v134
  rw [trips2]
  refine (load_at arg19.view (arg19.view.writes (Elt Ideal) arg19.view.junk _) _ (ix3 0 s l) (ix3 0 s l) (off' := ![0, 0, 0]) rfl (by intro a; fin_cases a <;> simp [ix3])).trans ?_
  exact (after (c := c) (i := i) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) D e0 e1 e2 e3 e4 e5 e6 e7 e8 e9 (harg18.unread xs0) AQ (fun h b l r => held harg18 xs0 (hx h b l r))).2.1 0 s l

set_option maxHeartbeats 1600000 in
include e0 e1 e2 e3 e4 e5 e6 e7 e8 e9 in
theorem outV_B (hc0 : ¬ cond0_0 i) (hc1 : ¬ cond0_1 i)
    (AQ : Fin 2 → Fin 8 → Fin 128 → Fin 256 → ℝ) (hx : ∀ h b l r, xs0 (ix4 h b l r) = ((AQ h b l r : ℝ) : EReal)) (s : Fin 512) (l : Fin 128) :
    out0_B_12 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 xs0 (ix2 s l) = ((D.sumV (i 2).val s l : ℝ) : EReal) := by
  have e : out0_B_12 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 xs0 = k0_pay2 (kernelRun0_B.sl.v129 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 xs0) := View.read_writes_full _ _ _ _ []
  rw [e]
  exact (pay2_at _ s l).trans (keptV_B (c := c) (i := i) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) D e0 e1 e2 e3 e4 e5 e6 e7 e8 e9 AQ hx s l)

set_option maxHeartbeats 1600000 in
include e0 e1 e2 e3 e4 e5 e6 e7 e8 e9 in
theorem outK_B (hc0 : ¬ cond0_0 i) (hc1 : ¬ cond0_1 i)
    (AQ : Fin 2 → Fin 8 → Fin 128 → Fin 256 → ℝ) (hx : ∀ h b l r, xs0 (ix4 h b l r) = ((AQ h b l r : ℝ) : EReal)) (s : Fin 512) (l : Fin 128) :
    out0_B_11 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 xs0 (ix2 s l) = ((if Data.own 0 l then D.sumK (i 2).val 0 s l else D.sumK (i 2).val 1 s l : ℝ) : EReal) := by
  have e : out0_B_11 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 xs0 = k0_pay1 (k0_pay173 k0_pay145 (kernelRun0_B.sl.v120 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 xs0) (kernelRun0_B.sl.v122 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 xs0)) := View.read_writes_full _ _ _ _ []
  rw [e]
  exact (pay1_at _ s l).trans (pick_at mask0 (keptK_v120_B (c := c) (i := i) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) D e0 e1 e2 e3 e4 e5 e6 e7 e8 e9 AQ hx) (keptK_v122_B (c := c) (i := i) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) D e0 e1 e2 e3 e4 e5 e6 e7 e8 e9 AQ hx) s l)

set_option maxHeartbeats 1600000 in
include e0 e1 e2 e3 e4 e5 e6 e7 e8 e9 in
theorem outKa_B (hc0 : ¬ cond0_0 i) (hc1 : ¬ cond0_1 i)
    (AQ : Fin 2 → Fin 8 → Fin 128 → Fin 256 → ℝ) (hx : ∀ h b l r, xs0 (ix4 h b l r) = ((AQ h b l r : ℝ) : EReal)) (s : Fin 512) (l : Fin 128) :
    out0_B_14 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 xs0 (ix2 s l) = ((if Data.own 0 l then D.sumK (i 2).val 1 s l else D.sumK (i 2).val 0 s l : ℝ) : EReal) := by
  have e : out0_B_14 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 xs0 = pick k0_pay145 (kernelRun0_B.sl.v132 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 xs0) (kernelRun0_B.sl.v134 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 xs0) := View.read_writes_full _ _ _ _ []
  rw [e]
  exact pick_at mask0 (keptK_v132_B (c := c) (i := i) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) D e0 e1 e2 e3 e4 e5 e6 e7 e8 e9 AQ hx) (keptK_v134_B (c := c) (i := i) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) D e0 e1 e2 e3 e4 e5 e6 e7 e8 e9 AQ hx) s l

set_option maxHeartbeats 1600000 in
include e0 e1 e2 e3 e4 e5 e6 e7 e8 e9 in
theorem scratch_B (hc0 : ¬ cond0_0 i) (hc1 : ¬ cond0_1 i)
    (AQ : Fin 2 → Fin 8 → Fin 128 → Fin 256 → ℝ) (hx : ∀ h b l r, xs0 (ix4 h b l r) = ((AQ h b l r : ℝ) : EReal)) (h : Fin 2) (b : Fin 8) (l : Fin 128) (r : Fin 256) :
    sout0_B_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 xs0 (ix4 h b l r) = ((AQ h b l r + D.sumQ (i 2).val h b l r : ℝ) : EReal) := by
  unfold sout0_B_0 kernelRun0_B
  dsimp only
  rw [trips2]
  exact (after (c := c) (i := i) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) D e0 e1 e2 e3 e4 e5 e6 e7 e8 e9 (harg18.unread xs0) AQ (fun h b l r => held harg18 xs0 (hx h b l r))).2.2 h b l r

set_option maxHeartbeats 1600000 in
include e0 e1 e2 e3 e4 e5 e6 e7 e8 e9 in
theorem keptV_C
    (AQ : Fin 2 → Fin 8 → Fin 128 → Fin 256 → ℝ) (hx : ∀ h b l r, xs0 (ix4 h b l r) = ((AQ h b l r : ℝ) : EReal)) (s : Fin 512) (l : Fin 128) :
    kernelRun0_C.sl.v129 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 xs0 (ix2 s l) = ((D.sumV (i 2).val s l : ℝ) : EReal) := by
  unfold kernelRun0_C.sl.v129
  rw [trips2]
  refine (load_at arg20.view (arg20.view.writes (Elt Ideal) arg20.view.junk _) _ (ix2 s l) (ix2 s l) (off' := ![0, 0]) rfl (by intro a; fin_cases a <;> simp)).trans ?_
  exact (after (c := c) (i := i) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) D e0 e1 e2 e3 e4 e5 e6 e7 e8 e9 (harg18.unread xs0) AQ (fun h b l r => held harg18 xs0 (hx h b l r))).1 s l

set_option maxHeartbeats 1600000 in
include e0 e1 e2 e3 e4 e5 e6 e7 e8 e9 in
theorem keptK_v120_C
    (AQ : Fin 2 → Fin 8 → Fin 128 → Fin 256 → ℝ) (hx : ∀ h b l r, xs0 (ix4 h b l r) = ((AQ h b l r : ℝ) : EReal)) (s : Fin 512) (l : Fin 128) :
    kernelRun0_C.sl.v120 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 xs0 (ix3 0 s l) = ((D.sumK (i 2).val 0 s l : ℝ) : EReal) := by
  unfold kernelRun0_C.sl.v120
  rw [trips2]
  refine (load_at arg19.view (arg19.view.writes (Elt Ideal) arg19.view.junk _) _ (ix3 0 s l) (ix3 0 s l) (off' := ![0, 0, 0]) rfl (by intro a; fin_cases a <;> simp [ix3])).trans ?_
  exact (after (c := c) (i := i) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) D e0 e1 e2 e3 e4 e5 e6 e7 e8 e9 (harg18.unread xs0) AQ (fun h b l r => held harg18 xs0 (hx h b l r))).2.1 0 s l

set_option maxHeartbeats 1600000 in
include e0 e1 e2 e3 e4 e5 e6 e7 e8 e9 in
theorem keptK_v122_C
    (AQ : Fin 2 → Fin 8 → Fin 128 → Fin 256 → ℝ) (hx : ∀ h b l r, xs0 (ix4 h b l r) = ((AQ h b l r : ℝ) : EReal)) (s : Fin 512) (l : Fin 128) :
    kernelRun0_C.sl.v122 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 xs0 (ix3 0 s l) = ((D.sumK (i 2).val 1 s l : ℝ) : EReal) := by
  unfold kernelRun0_C.sl.v122
  rw [trips2]
  refine (load_at arg19.view (arg19.view.writes (Elt Ideal) arg19.view.junk _) _ (ix3 0 s l) (ix3 1 s l) (off' := ![1, 0, 0]) rfl (by intro a; fin_cases a <;> simp [ix3])).trans ?_
  exact (after (c := c) (i := i) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) D e0 e1 e2 e3 e4 e5 e6 e7 e8 e9 (harg18.unread xs0) AQ (fun h b l r => held harg18 xs0 (hx h b l r))).2.1 1 s l

set_option maxHeartbeats 1600000 in
include e0 e1 e2 e3 e4 e5 e6 e7 e8 e9 in
theorem keptK_v132_C
    (AQ : Fin 2 → Fin 8 → Fin 128 → Fin 256 → ℝ) (hx : ∀ h b l r, xs0 (ix4 h b l r) = ((AQ h b l r : ℝ) : EReal)) (s : Fin 512) (l : Fin 128) :
    kernelRun0_C.sl.v132 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 xs0 (ix3 0 s l) = ((D.sumK (i 2).val 1 s l : ℝ) : EReal) := by
  unfold kernelRun0_C.sl.v132
  rw [trips2]
  refine (load_at arg19.view (arg19.view.writes (Elt Ideal) arg19.view.junk _) _ (ix3 0 s l) (ix3 1 s l) (off' := ![1, 0, 0]) rfl (by intro a; fin_cases a <;> simp [ix3])).trans ?_
  exact (after (c := c) (i := i) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) D e0 e1 e2 e3 e4 e5 e6 e7 e8 e9 (harg18.unread xs0) AQ (fun h b l r => held harg18 xs0 (hx h b l r))).2.1 1 s l

set_option maxHeartbeats 1600000 in
include e0 e1 e2 e3 e4 e5 e6 e7 e8 e9 in
theorem keptK_v134_C
    (AQ : Fin 2 → Fin 8 → Fin 128 → Fin 256 → ℝ) (hx : ∀ h b l r, xs0 (ix4 h b l r) = ((AQ h b l r : ℝ) : EReal)) (s : Fin 512) (l : Fin 128) :
    kernelRun0_C.sl.v134 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 xs0 (ix3 0 s l) = ((D.sumK (i 2).val 0 s l : ℝ) : EReal) := by
  unfold kernelRun0_C.sl.v134
  rw [trips2]
  refine (load_at arg19.view (arg19.view.writes (Elt Ideal) arg19.view.junk _) _ (ix3 0 s l) (ix3 0 s l) (off' := ![0, 0, 0]) rfl (by intro a; fin_cases a <;> simp [ix3])).trans ?_
  exact (after (c := c) (i := i) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) D e0 e1 e2 e3 e4 e5 e6 e7 e8 e9 (harg18.unread xs0) AQ (fun h b l r => held harg18 xs0 (hx h b l r))).2.1 0 s l

set_option maxHeartbeats 1600000 in
include e0 e1 e2 e3 e4 e5 e6 e7 e8 e9 in
theorem outV_C (hc0 : ¬ cond0_0 i) (hc1 : cond0_1 i)
    (AQ : Fin 2 → Fin 8 → Fin 128 → Fin 256 → ℝ) (hx : ∀ h b l r, xs0 (ix4 h b l r) = ((AQ h b l r : ℝ) : EReal)) (s : Fin 512) (l : Fin 128) :
    out0_C_12 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 xs0 (ix2 s l) = ((D.sumV (i 2).val s l : ℝ) : EReal) := by
  have e : out0_C_12 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 xs0 = k0_pay2 (kernelRun0_C.sl.v129 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 xs0) := View.read_writes_full _ _ _ _ []
  rw [e]
  exact (pay2_at _ s l).trans (keptV_C (c := c) (i := i) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) D e0 e1 e2 e3 e4 e5 e6 e7 e8 e9 AQ hx s l)

set_option maxHeartbeats 1600000 in
include e0 e1 e2 e3 e4 e5 e6 e7 e8 e9 in
theorem outK_C (hc0 : ¬ cond0_0 i) (hc1 : cond0_1 i)
    (AQ : Fin 2 → Fin 8 → Fin 128 → Fin 256 → ℝ) (hx : ∀ h b l r, xs0 (ix4 h b l r) = ((AQ h b l r : ℝ) : EReal)) (s : Fin 512) (l : Fin 128) :
    out0_C_11 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 xs0 (ix2 s l) = ((if Data.own 0 l then D.sumK (i 2).val 0 s l else D.sumK (i 2).val 1 s l : ℝ) : EReal) := by
  have e : out0_C_11 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 xs0 = k0_pay1 (k0_pay173 k0_pay145 (kernelRun0_C.sl.v120 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 xs0) (kernelRun0_C.sl.v122 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 xs0)) := View.read_writes_full _ _ _ _ []
  rw [e]
  exact (pay1_at _ s l).trans (pick_at mask0 (keptK_v120_C (c := c) (i := i) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) D e0 e1 e2 e3 e4 e5 e6 e7 e8 e9 AQ hx) (keptK_v122_C (c := c) (i := i) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) D e0 e1 e2 e3 e4 e5 e6 e7 e8 e9 AQ hx) s l)

set_option maxHeartbeats 1600000 in
include e0 e1 e2 e3 e4 e5 e6 e7 e8 e9 in
theorem outKa_C (hc0 : ¬ cond0_0 i) (hc1 : cond0_1 i)
    (AQ : Fin 2 → Fin 8 → Fin 128 → Fin 256 → ℝ) (hx : ∀ h b l r, xs0 (ix4 h b l r) = ((AQ h b l r : ℝ) : EReal)) (s : Fin 512) (l : Fin 128) :
    out0_C_14 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 xs0 (ix2 s l) = ((if Data.own 0 l then D.sumK (i 2).val 1 s l else D.sumK (i 2).val 0 s l : ℝ) : EReal) := by
  have e : out0_C_14 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 xs0 = pick k0_pay145 (kernelRun0_C.sl.v132 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 xs0) (kernelRun0_C.sl.v134 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 xs0) := View.read_writes_full _ _ _ _ []
  rw [e]
  exact pick_at mask0 (keptK_v132_C (c := c) (i := i) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) D e0 e1 e2 e3 e4 e5 e6 e7 e8 e9 AQ hx) (keptK_v134_C (c := c) (i := i) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) D e0 e1 e2 e3 e4 e5 e6 e7 e8 e9 AQ hx) s l

set_option maxHeartbeats 1600000 in
include e0 e1 e2 e3 e4 e5 e6 e7 e8 e9 in
theorem scratch_C (hc0 : ¬ cond0_0 i) (hc1 : cond0_1 i)
    (AQ : Fin 2 → Fin 8 → Fin 128 → Fin 256 → ℝ) (hx : ∀ h b l r, xs0 (ix4 h b l r) = ((AQ h b l r : ℝ) : EReal)) (h : Fin 2) (b : Fin 8) (l : Fin 128) (r : Fin 256) :
    sout0_C_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 xs0 (ix4 h b l r) = ((AQ h b l r + D.sumQ (i 2).val h b l r : ℝ) : EReal) := by
  unfold sout0_C_0 kernelRun0_C
  dsimp only
  rw [trips2]
  exact (after (c := c) (i := i) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) D e0 e1 e2 e3 e4 e5 e6 e7 e8 e9 (harg18.unread xs0) AQ (fun h b l r => held harg18 xs0 (hx h b l r))).2.2 h b l r

set_option maxHeartbeats 1600000 in
include e0 e1 e2 e3 e4 e5 e6 e7 e8 e9 in
/-- The blocks of the queries' gradient read back after the loops. -/
theorem keptQ
    (AQ : Fin 2 → Fin 8 → Fin 128 → Fin 256 → ℝ) (hx : ∀ h b l r, xs0 (ix4 h b l r) = ((AQ h b l r : ℝ) : EReal)) (l : Fin 128) (r : Fin 256) :
    kernelRun0_C.sl.v143 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 xs0 (ix4 0 0 l r) = ((AQ 0 0 l r + D.sumQ (i 2).val 0 0 l r : ℝ) : EReal)
    ∧ kernelRun0_C.sl.v146 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 xs0 (ix4 0 0 l r) = ((AQ 1 0 l r + D.sumQ (i 2).val 1 0 l r : ℝ) : EReal)
    ∧ kernelRun0_C.sl.v159 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 xs0 (ix4 0 0 l r) = ((AQ 0 1 l r + D.sumQ (i 2).val 0 1 l r : ℝ) : EReal)
    ∧ kernelRun0_C.sl.v162 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 xs0 (ix4 0 0 l r) = ((AQ 1 1 l r + D.sumQ (i 2).val 1 1 l r : ℝ) : EReal)
    ∧ kernelRun0_C.sl.v175 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 xs0 (ix4 0 0 l r) = ((AQ 0 2 l r + D.sumQ (i 2).val 0 2 l r : ℝ) : EReal)
    ∧ kernelRun0_C.sl.v178 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 xs0 (ix4 0 0 l r) = ((AQ 1 2 l r + D.sumQ (i 2).val 1 2 l r : ℝ) : EReal)
    ∧ kernelRun0_C.sl.v191 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 xs0 (ix4 0 0 l r) = ((AQ 0 3 l r + D.sumQ (i 2).val 0 3 l r : ℝ) : EReal)
    ∧ kernelRun0_C.sl.v194 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 xs0 (ix4 0 0 l r) = ((AQ 1 3 l r + D.sumQ (i 2).val 1 3 l r : ℝ) : EReal)
    ∧ kernelRun0_C.sl.v207 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 xs0 (ix4 0 0 l r) = ((AQ 0 4 l r + D.sumQ (i 2).val 0 4 l r : ℝ) : EReal)
    ∧ kernelRun0_C.sl.v210 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 xs0 (ix4 0 0 l r) = ((AQ 1 4 l r + D.sumQ (i 2).val 1 4 l r : ℝ) : EReal)
    ∧ kernelRun0_C.sl.v223 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 xs0 (ix4 0 0 l r) = ((AQ 0 5 l r + D.sumQ (i 2).val 0 5 l r : ℝ) : EReal)
    ∧ kernelRun0_C.sl.v226 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 xs0 (ix4 0 0 l r) = ((AQ 1 5 l r + D.sumQ (i 2).val 1 5 l r : ℝ) : EReal)
    ∧ kernelRun0_C.sl.v239 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 xs0 (ix4 0 0 l r) = ((AQ 0 6 l r + D.sumQ (i 2).val 0 6 l r : ℝ) : EReal)
    ∧ kernelRun0_C.sl.v242 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 xs0 (ix4 0 0 l r) = ((AQ 1 6 l r + D.sumQ (i 2).val 1 6 l r : ℝ) : EReal)
    ∧ kernelRun0_C.sl.v255 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 xs0 (ix4 0 0 l r) = ((AQ 0 7 l r + D.sumQ (i 2).val 0 7 l r : ℝ) : EReal)
    ∧ kernelRun0_C.sl.v258 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 xs0 (ix4 0 0 l r) = ((AQ 1 7 l r + D.sumQ (i 2).val 1 7 l r : ℝ) : EReal) := by
  have key : ∀ (h : Fin 2) (b : Fin 8) inb, arg18.view.readAt (Elt Ideal) (Rect.unit (s := S2x8x128x256) ![h.val, b.val, 0, 0] S1x1x128x256.size inb).toLoadRect
      (arg18.view.writes (Elt Ideal) (harg18.unread xs0) (lists c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 (harg18.unread xs0)).1) (ix4 0 0 l r) = ((AQ h b l r + D.sumQ (i 2).val h b l r : ℝ) : EReal) := by
    intro h b inb
    refine (load_at arg18.view _ inb (ix4 0 0 l r) (ix4 h b l r) (off' := ![h.val, b.val, 0, 0]) rfl (by intro a; fin_cases a <;> simp [ix4])).trans ?_
    exact (after (c := c) (i := i) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) D e0 e1 e2 e3 e4 e5 e6 e7 e8 e9 (harg18.unread xs0) AQ (fun h b l r => held harg18 xs0 (hx h b l r))).2.2 h b l r
  unfold kernelRun0_C.sl.v143 kernelRun0_C.sl.v146 kernelRun0_C.sl.v159 kernelRun0_C.sl.v162 kernelRun0_C.sl.v175 kernelRun0_C.sl.v178 kernelRun0_C.sl.v191 kernelRun0_C.sl.v194 kernelRun0_C.sl.v207 kernelRun0_C.sl.v210 kernelRun0_C.sl.v223 kernelRun0_C.sl.v226 kernelRun0_C.sl.v239 kernelRun0_C.sl.v242 kernelRun0_C.sl.v255 kernelRun0_C.sl.v258
  rw [trips2]
  exact ⟨key 0 0 _, key 1 0 _, key 0 1 _, key 1 1 _, key 0 2 _, key 1 2 _, key 0 3 _, key 1 3 _, key 0 4 _, key 1 4 _, key 0 5 _, key 1 5 _, key 0 6 _, key 1 6 _, key 0 7 _, key 1 7 _⟩

set_option maxHeartbeats 1600000 in
include e0 e1 e2 e3 e4 e5 e6 e7 e8 e9 in
theorem outQ (hc0 : ¬ cond0_0 i) (hc1 : cond0_1 i)
    (AQ : Fin 2 → Fin 8 → Fin 128 → Fin 256 → ℝ) (hx : ∀ h b l r, xs0 (ix4 h b l r) = ((AQ h b l r : ℝ) : EReal)) (b : Fin 8) (r : Fin 256) (l : Fin 128) :
    out0_C_10 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 xs0 (ix2 (row b r) l)
      = ((D.finQ (i 2).val AQ b r l : ℝ) : EReal) := by
  have q := fun l r => keptQ (c := c) (i := i) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) D e0 e1 e2 e3 e4 e5 e6 e7 e8 e9 AQ hx l r
  simp only [forall_and] at q
  obtain ⟨q00, q01, q10, q11, q20, q21, q30, q31, q40, q41, q50, q51, q60, q61, q70, q71⟩ := q
  let F : Fin 8 → Fin 256 → Fin 128 → EReal := fun b r l => ((D.finQ (i 2).val AQ b r l : ℝ) : EReal)
  show _ = F b r l
  unfold out0_C_10 kernelRun0_C
  dsimp only
  refine put_rows (o := 1792) (F := F) VO0_10 _ 7 rfl ?_ fun h7 => ?_
  · exact fun r l => rowsQ_at mask0 q70 q71 r l
  refine put_rows (o := 1536) (F := F) VO0_10 _ 6 rfl ?_ fun h6 => ?_
  · exact fun r l => rowsQ_at mask0 q60 q61 r l
  refine put_rows (o := 1280) (F := F) VO0_10 _ 5 rfl ?_ fun h5 => ?_
  · exact fun r l => rowsQ_at mask0 q50 q51 r l
  refine put_rows (o := 1024) (F := F) VO0_10 _ 4 rfl ?_ fun h4 => ?_
  · exact fun r l => rowsQ_at mask0 q40 q41 r l
  refine put_rows (o := 768) (F := F) VO0_10 _ 3 rfl ?_ fun h3 => ?_
  · exact fun r l => rowsQ_at mask0 q30 q31 r l
  refine put_rows (o := 512) (F := F) VO0_10 _ 2 rfl ?_ fun h2 => ?_
  · exact fun r l => rowsQ_at mask0 q20 q21 r l
  refine put_rows (o := 256) (F := F) VO0_10 _ 1 rfl ?_ fun h1 => ?_
  · exact fun r l => rowsQ_at mask0 q10 q11 r l
  refine put_rows (o := 0) (F := F) VO0_10 _ 0 rfl ?_ fun h0 => ?_
  · exact fun r l => rowsQ_at mask0 q00 q01 r l
  omega

set_option maxHeartbeats 1600000 in
include e0 e1 e2 e3 e4 e5 e6 e7 e8 e9 in
theorem outQa (hc0 : ¬ cond0_0 i) (hc1 : cond0_1 i)
    (AQ : Fin 2 → Fin 8 → Fin 128 → Fin 256 → ℝ) (hx : ∀ h b l r, xs0 (ix4 h b l r) = ((AQ h b l r : ℝ) : EReal)) (b : Fin 8) (r : Fin 256) (l : Fin 128) :
    out0_C_13 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 xs0 (ix2 (row b r) l)
      = ((D.finQa (i 2).val AQ b r l : ℝ) : EReal) := by
  have q := fun l r => keptQ (c := c) (i := i) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) D e0 e1 e2 e3 e4 e5 e6 e7 e8 e9 AQ hx l r
  simp only [forall_and] at q
  obtain ⟨q00, q01, q10, q11, q20, q21, q30, q31, q40, q41, q50, q51, q60, q61, q70, q71⟩ := q
  let F : Fin 8 → Fin 256 → Fin 128 → EReal := fun b r l => ((D.finQa (i 2).val AQ b r l : ℝ) : EReal)
  show _ = F b r l
  unfold out0_C_13 kernelRun0_C
  dsimp only
  refine put_rows (o := 1792) (F := F) VO0_13 _ 7 rfl ?_ fun h7 => ?_
  · exact fun r l => pickQ_at mask0 q71 q70 r l
  refine put_rows (o := 1536) (F := F) VO0_13 _ 6 rfl ?_ fun h6 => ?_
  · exact fun r l => pickQ_at mask0 q61 q60 r l
  refine put_rows (o := 1280) (F := F) VO0_13 _ 5 rfl ?_ fun h5 => ?_
  · exact fun r l => pickQ_at mask0 q51 q50 r l
  refine put_rows (o := 1024) (F := F) VO0_13 _ 4 rfl ?_ fun h4 => ?_
  · exact fun r l => pickQ_at mask0 q41 q40 r l
  refine put_rows (o := 768) (F := F) VO0_13 _ 3 rfl ?_ fun h3 => ?_
  · exact fun r l => pickQ_at mask0 q31 q30 r l
  refine put_rows (o := 512) (F := F) VO0_13 _ 2 rfl ?_ fun h2 => ?_
  · exact fun r l => pickQ_at mask0 q21 q20 r l
  refine put_rows (o := 256) (F := F) VO0_13 _ 1 rfl ?_ fun h1 => ?_
  · exact fun r l => pickQ_at mask0 q11 q10 r l
  refine put_rows (o := 0) (F := F) VO0_13 _ 0 rfl ?_ fun h0 => ?_
  · exact fun r l => pickQ_at mask0 q01 q00 r l
  omega

end Cert.FoxLoop
-- ==== Proof.FoxPoint.lean ====
/- The outputs and the kept scratch of the backward attention kernel at every grid point, from the blocks the point reads:
   the scratch is the sum of the key blocks so far, and the last of them writes the queries' gradients. -/
module

public import proofs.«01_k».proof.Proof.FoxOut

@[expose] public section

set_option maxRecDepth 16384

noncomputable section

open Idealize.ShloMosaic Idealize.ShloMosaic.TcCoe Idealize.SL.Sem
open scoped BigOperators

namespace Cert.FoxPoint

open Cert.FoxKernelIdeal Cert.FoxKernelIdeal.Gen Cert.FoxLoop

variable {m : (ℓ : Loc nD τ sig) → Buf (Elt Ideal) ℓ} {c : Dev nD} (D : Fin cfg0.N → Data)
  (e0 : ∀ t b r l, iblk m c 0 t (ix2 (row b r) l) = (((D t).q b r l : ℝ) : EReal))
  (e1 : ∀ t h s l, Data.own h l → iblk m c 1 t (ix2 s l) = (((D t).k h s l : ℝ) : EReal))
  (e2 : ∀ t s l, iblk m c 2 t (ix2 s l) = (((D t).v s l : ℝ) : EReal))
  (e3 : ∀ t n s r, iblk m c 3 t (ix3 n s r) = bias ((D t).w n s r))
  (e4 : ∀ t b r l, iblk m c 4 t (ix2 (row b r) l) = (((D t).o b r l : ℝ) : EReal))
  (e5 : ∀ t b h r, iblk m c 5 t (ix4 b h 0 r) = (((D t).y h b r : ℝ) : EReal))
  (e6 : ∀ t b h r, iblk m c 6 t (ix4 b h 0 r) = (((D t).z h b r : ℝ) : EReal))
  (e7 : ∀ t h (n : Fin 2) (s : Fin 512) (r : Fin 256) l, s.val = 256 * n.val + r.val → iblk m c 7 t (ix6 0 0 h n l r) = (((D t).k h s l : ℝ) : EReal))
  (e8 : ∀ t b r l, iblk m c 8 t (ix3 0 (row b r) l) = (((D t).a b r l : ℝ) : EReal))
  (e9 : ∀ t h s l, ¬ Data.own h l → iblk m c 9 t (ix3 0 s l) = (((D t).k h s l : ℝ) : EReal))

/-- What a point adds to the queries' gradients. -/
def part (D : Fin cfg0.N → Data) (t : Fin cfg0.N) (h : Fin 2) (b : Fin 8) (l : Fin 128) (r : Fin 256) : ℝ :=
  (D t).sumQ ((grid0.coords t) 2).val h b l r

/-- The point before. -/
def prev (t : Fin cfg0.N) : Fin cfg0.N := ⟨t.val - 1, Nat.lt_of_le_of_lt (Nat.sub_le _ _) t.isLt⟩

variable (A : Fin cfg0.N → Fin 2 → Fin 8 → Fin 128 → Fin 256 → ℝ)
  (hA0 : ∀ t, t.val % 4 = 0 → ∀ h b l r, A t h b l r = part D t h b l r)
  (hA : ∀ t, ¬ t.val % 4 = 0 → ∀ h b l r, A t h b l r = A (prev t) h b l r + part D t h b l r)
set_option maxHeartbeats 1600000 in
include e0 e1 e2 e3 e4 e5 e6 e7 e8 e9 hA0 hA in
theorem held (t : Fin cfg0.N) (h : Fin 2) (b : Fin 8) (l : Fin 128) (r : Fin 256) :
    (outsAt0 m c t.val t.isLt).2.2.2.2.2 (ix4 h b l r) = ((A t h b l r : ℝ) : EReal) := by
  have key : ∀ (n : ℕ) (t : Fin cfg0.N), t.val = n → ∀ h b l r, (outsAt0 m c t.val t.isLt).2.2.2.2.2 (ix4 h b l r) = ((A t h b l r : ℝ) : EReal) := by
    intro n
    induction n with
    | zero =>
      intro t e h b l r
      have h0 : t.val % 4 = 0 := by omega
      rw [outsAt0_A m c t h0 (by omega), hA0 t h0]
      dsimp only
      exact scratch_A (D t) (e0 t) (e1 t) (e2 t) (e3 t) (e4 t) (e5 t) (e6 t) (e7 t) (e8 t) (e9 t) _ _ h b l r
    | succ n ih =>
      intro t e h b l r
      by_cases h0 : t.val % 4 = 0
      · rw [outsAt0_A m c t h0 (by omega), hA0 t h0]
        dsimp only
        exact scratch_A (D t) (e0 t) (e1 t) (e2 t) (e3 t) (e4 t) (e5 t) (e6 t) (e7 t) (e8 t) (e9 t) _ _ h b l r
      · have hx := ih (prev t) (by show t.val - 1 = n; omega)
        rw [hA t h0]
        by_cases h1 : t.val % 4 = 3
        · rw [outsAt0_C m c t h0 h1]
          dsimp only
          exact scratch_C (D t) (e0 t) (e1 t) (e2 t) (e3 t) (e4 t) (e5 t) (e6 t) (e7 t) (e8 t) (e9 t) _ _ (A (prev t)) hx h b l r
        · rw [outsAt0_B m c t h0 h1]
          dsimp only
          exact scratch_B (D t) (e0 t) (e1 t) (e2 t) (e3 t) (e4 t) (e5 t) (e6 t) (e7 t) (e8 t) (e9 t) _ _ (A (prev t)) hx h b l r
  exact key t.val t rfl h b l r

set_option maxHeartbeats 1600000 in
include e0 e1 e2 e3 e4 e5 e6 e7 e8 e9 hA0 hA in
/-- The values' gradient a point writes. -/
theorem outV_pt (t : Fin cfg0.N) (s : Fin 512) (l : Fin 128) :
    (outsAt0 m c t.val t.isLt).2.2.1 (ix2 s l) = (((D t).sumV ((grid0.coords t) 2).val s l : ℝ) : EReal) := by
  by_cases h0 : t.val % 4 = 0
  · rw [outsAt0_A m c t h0 (by omega)]
    dsimp only
    exact outV_A (D t) (e0 t) (e1 t) (e2 t) (e3 t) (e4 t) (e5 t) (e6 t) (e7 t) (e8 t) (e9 t) _ _ s l
  · have hx := held D e0 e1 e2 e3 e4 e5 e6 e7 e8 e9 A hA0 hA (prev t)
    by_cases h1 : t.val % 4 = 3
    · rw [outsAt0_C m c t h0 h1]
      dsimp only
      exact outV_C (D t) (e0 t) (e1 t) (e2 t) (e3 t) (e4 t) (e5 t) (e6 t) (e7 t) (e8 t) (e9 t) _ _ (A (prev t)) hx s l
    · rw [outsAt0_B m c t h0 h1]
      dsimp only
      exact outV_B (D t) (e0 t) (e1 t) (e2 t) (e3 t) (e4 t) (e5 t) (e6 t) (e7 t) (e8 t) (e9 t) _ _ (A (prev t)) hx s l

set_option maxHeartbeats 1600000 in
include e0 e1 e2 e3 e4 e5 e6 e7 e8 e9 hA0 hA in
/-- The keys' gradient a point writes. -/
theorem outK_pt (t : Fin cfg0.N) (s : Fin 512) (l : Fin 128) :
    (outsAt0 m c t.val t.isLt).2.1 (ix2 s l) = ((if Data.own 0 l then (D t).sumK ((grid0.coords t) 2).val 0 s l else (D t).sumK ((grid0.coords t) 2).val 1 s l : ℝ) : EReal) := by
  by_cases h0 : t.val % 4 = 0
  · rw [outsAt0_A m c t h0 (by omega)]
    dsimp only
    exact outK_A (D t) (e0 t) (e1 t) (e2 t) (e3 t) (e4 t) (e5 t) (e6 t) (e7 t) (e8 t) (e9 t) _ _ s l
  · have hx := held D e0 e1 e2 e3 e4 e5 e6 e7 e8 e9 A hA0 hA (prev t)
    by_cases h1 : t.val % 4 = 3
    · rw [outsAt0_C m c t h0 h1]
      dsimp only
      exact outK_C (D t) (e0 t) (e1 t) (e2 t) (e3 t) (e4 t) (e5 t) (e6 t) (e7 t) (e8 t) (e9 t) _ _ (A (prev t)) hx s l
    · rw [outsAt0_B m c t h0 h1]
      dsimp only
      exact outK_B (D t) (e0 t) (e1 t) (e2 t) (e3 t) (e4 t) (e5 t) (e6 t) (e7 t) (e8 t) (e9 t) _ _ (A (prev t)) hx s l

set_option maxHeartbeats 1600000 in
include e0 e1 e2 e3 e4 e5 e6 e7 e8 e9 hA0 hA in
/-- The keys' spare lanes a point writes. -/
theorem outKa_pt (t : Fin cfg0.N) (s : Fin 512) (l : Fin 128) :
    (outsAt0 m c t.val t.isLt).2.2.2.2.1 (ix2 s l) = ((if Data.own 0 l then (D t).sumK ((grid0.coords t) 2).val 1 s l else (D t).sumK ((grid0.coords t) 2).val 0 s l : ℝ) : EReal) := by
  by_cases h0 : t.val % 4 = 0
  · rw [outsAt0_A m c t h0 (by omega)]
    dsimp only
    exact outKa_A (D t) (e0 t) (e1 t) (e2 t) (e3 t) (e4 t) (e5 t) (e6 t) (e7 t) (e8 t) (e9 t) _ _ s l
  · have hx := held D e0 e1 e2 e3 e4 e5 e6 e7 e8 e9 A hA0 hA (prev t)
    by_cases h1 : t.val % 4 = 3
    · rw [outsAt0_C m c t h0 h1]
      dsimp only
      exact outKa_C (D t) (e0 t) (e1 t) (e2 t) (e3 t) (e4 t) (e5 t) (e6 t) (e7 t) (e8 t) (e9 t) _ _ (A (prev t)) hx s l
    · rw [outsAt0_B m c t h0 h1]
      dsimp only
      exact outKa_B (D t) (e0 t) (e1 t) (e2 t) (e3 t) (e4 t) (e5 t) (e6 t) (e7 t) (e8 t) (e9 t) _ _ (A (prev t)) hx s l

set_option maxHeartbeats 1600000 in
include e0 e1 e2 e3 e4 e5 e6 e7 e8 e9 hA0 hA in
/-- The queries' gradient the last point of a row of key blocks writes. -/
theorem outQ_pt (t : Fin cfg0.N) (h1 : t.val % 4 = 3) (b : Fin 8) (r : Fin 256) (l : Fin 128) :
    (outsAt0 m c t.val t.isLt).1 (ix2 (row b r) l) = (((if Data.own 0 l then A t 0 b l r else A t 1 b l r) * (1 / 8) : ℝ) : EReal) := by
  have h0 : ¬ t.val % 4 = 0 := by omega
  have hx := held D e0 e1 e2 e3 e4 e5 e6 e7 e8 e9 A hA0 hA (prev t)
  rw [outsAt0_C m c t h0 h1, hA t h0, hA t h0]
  dsimp only
  exact outQ (D t) (e0 t) (e1 t) (e2 t) (e3 t) (e4 t) (e5 t) (e6 t) (e7 t) (e8 t) (e9 t) _ _ (A (prev t)) hx b r l

set_option maxHeartbeats 1600000 in
include e0 e1 e2 e3 e4 e5 e6 e7 e8 e9 hA0 hA in
/-- The queries' spare lanes the last point of a row of key blocks writes. -/
theorem outQa_pt (t : Fin cfg0.N) (h1 : t.val % 4 = 3) (b : Fin 8) (r : Fin 256) (l : Fin 128) :
    (outsAt0 m c t.val t.isLt).2.2.2.1 (ix2 (row b r) l) = ((if Data.own 0 l then A t 1 b l r else A t 0 b l r : ℝ) : EReal) := by
  have h0 : ¬ t.val % 4 = 0 := by omega
  have hx := held D e0 e1 e2 e3 e4 e5 e6 e7 e8 e9 A hA0 hA (prev t)
  rw [outsAt0_C m c t h0 h1, hA t h0, hA t h0]
  dsimp only
  exact outQa (D t) (e0 t) (e1 t) (e2 t) (e3 t) (e4 t) (e5 t) (e6 t) (e7 t) (e8 t) (e9 t) _ _ (A (prev t)) hx b r l

end Cert.FoxPoint

end
-- ==== Proof.FoxKernel.lean ====
/- The five arrays the backward attention kernel leaves, on real arguments: every row and lane is the attention's gradient. -/
module

public import proofs.«01_k».proof.Proof.FoxStat
public import proofs.«01_k».proof.Proof.FoxPoint
public import proofs.«01_k».proof.Proof.Gen.FoxKernelIdeal.Value

@[expose] public section

set_option maxRecDepth 16384

noncomputable section

open Idealize.ShloMosaic Idealize.ShloMosaic.TcCoe Idealize.SL.Sem
open scoped BigOperators

namespace Cert.FoxKernelIdeal.Real

open Cert.FoxKernelIdeal Cert.FoxKernelIdeal.Gen Cert.FoxLoop Cert.FoxReal Cert.FoxKernelIdeal.Host Cert.FoxKernelIdeal.Blk Cert.FoxKernelIdeal.Stat

variable (q k v o : Fin 4 → Fin 6 → Fin 2048 → Fin 64 → ℝ) (g M : Fin 4 → Fin 6 → Fin 2048 → ℝ)

/-- The gradient of a head's scores, and its normalised rows. -/
def dsh (b : Fin 4) (h : Fin 6) (t s : Fin 2048) : ℝ := FoxReal.ds (q b h) (k b h) (v b h) (o b h) (g b h) t s
def ph (b : Fin 4) (h : Fin 6) (t s : Fin 2048) : ℝ := FoxReal.p (q b h) (k b h) (g b h) t s

/-- The five results by batch, row, pair and lane. -/
def vq (b : Fin 4) (t : Fin 2048) (p : Fin 3) (l : Fin 128) : ℝ :=
  (∑ s, k b (head p (half l)) s (dim l) * dsh q k v o g b (head p (half l)) t s) * (1 / 8)
def vk (b : Fin 4) (s : Fin 2048) (p : Fin 3) (l : Fin 128) : ℝ :=
  ∑ t, dsh q k v o g b (head p (half l)) t s * (q b (head p (half l)) t (dim l) * (1 / 8))
def vv (b : Fin 4) (s : Fin 2048) (p : Fin 3) (l : Fin 128) : ℝ :=
  ∑ t, ph q k g b (head p (half l)) t s * o b (head p (half l)) t (dim l)
def vqa (b : Fin 4) (t : Fin 2048) (p : Fin 3) (l : Fin 128) : ℝ :=
  ∑ s, spk (g b (head p (oth l)) s) (l.val % 64) * dsh q k v o g b (head p (oth l)) t s
def vka (b : Fin 4) (s : Fin 2048) (p : Fin 3) (l : Fin 128) : ℝ :=
  ∑ t, dsh q k v o g b (head p (oth l)) t s * spq (g b (head p (oth l)) t) (l.val % 64)

/-- What a key block adds to a head's queries. -/
def sq (b : Fin 4) (p : Fin 3) (h : Fin 2) (n : Fin 8) (l : Fin 128) (r : Fin 256) (j : Fin 4) : ℝ :=
  ∑ s : Fin 512, (if Data.own h l then k b (head p h) (kpos j s) (dim l) else spk (g b (head p h) (kpos j s)) (l.val % 64))
    * dsh q k v o g b (head p h) (tpos n r) (kpos j s)

/-- The key blocks' sum up to a point's. -/
def acc (t : Fin cfg0.N) (h : Fin 2) (n : Fin 8) (l : Fin 128) (r : Fin 256) : ℝ :=
  ∑ j : Fin 4, if j.val ≤ t.val % 4 then sq q k v o g (tb t) (tp t) h n l r j else 0

theorem sum_first (f : Fin 4 → ℝ) : (∑ j : Fin 4, if j.val ≤ 0 then f j else 0) = f 0 := by
  simp [Fin.sum_univ_four]

theorem sum_next (f : Fin 4 → ℝ) (n : ℕ) (hn : n + 1 < 4) :
    (∑ j : Fin 4, if j.val ≤ n + 1 then f j else 0) = (∑ j : Fin 4, if j.val ≤ n then f j else 0) + f ⟨n + 1, hn⟩ := by
  obtain rfl | rfl | rfl : n = 0 ∨ n = 1 ∨ n = 2 := by omega
  all_goals simp [Fin.sum_univ_four]

theorem part_eq (t : Fin cfg0.N) (h : Fin 2) (n : Fin 8) (l : Fin 128) (r : Fin 256) :
    FoxPoint.part (dat q k v o g M) t h n l r = sq q k v o g (tb t) (tp t) h n l r (tj t) := by
  unfold FoxPoint.part
  rw [coord_val]
  exact sumQ_eq _ _ _ _ _ _ _ _ _ (M (tb t)) (fun _ _ => rfl) (fun _ _ => rfl) h n l r

theorem acc_first (t : Fin cfg0.N) (h0 : t.val % 4 = 0) (h : Fin 2) (n : Fin 8) (l : Fin 128) (r : Fin 256) :
    acc q k v o g t h n l r = FoxPoint.part (dat q k v o g M) t h n l r := by
  rw [part_eq]
  unfold acc
  rw [h0, sum_first, show (0 : Fin 4) = tj t from Fin.ext h0.symm]

theorem acc_next (t : Fin cfg0.N) (h0 : ¬ t.val % 4 = 0) (h : Fin 2) (n : Fin 8) (l : Fin 128) (r : Fin 256) :
    acc q k v o g t h n l r = acc q k v o g (FoxPoint.prev t) h n l r + FoxPoint.part (dat q k v o g M) t h n l r := by
  rw [part_eq]
  unfold acc
  have e1 : tb (FoxPoint.prev t) = tb t := Fin.ext (show (t.val - 1) / 12 = t.val / 12 by omega)
  have e2 : tp (FoxPoint.prev t) = tp t := Fin.ext (show (t.val - 1) / 4 % 3 = t.val / 4 % 3 by omega)
  have e3 : t.val % 4 = (FoxPoint.prev t).val % 4 + 1 := show t.val % 4 = (t.val - 1) % 4 + 1 by omega
  have hn : (FoxPoint.prev t).val % 4 + 1 < 4 := by omega
  rw [e1, e2, e3, sum_next _ _ hn, show tj t = ⟨(FoxPoint.prev t).val % 4 + 1, hn⟩ from Fin.ext e3]

/-- The last point of a row of key blocks holds the sum over all keys. -/
theorem acc_last (t : Fin cfg0.N) (h1 : t.val % 4 = 3) (h : Fin 2) (n : Fin 8) (l : Fin 128) (r : Fin 256) :
    acc q k v o g t h n l r = ∑ s, (if Data.own h l then k (tb t) (head (tp t) h) s (dim l) else spk (g (tb t) (head (tp t) h) s) (l.val % 64))
      * dsh q k v o g (tb t) (head (tp t) h) (tpos n r) s := by
  unfold acc
  rw [h1, ← sum_kpos]
  exact Finset.sum_congr rfl fun j _ => if_pos (by omega)

theorem pick_own (l : Fin 128) (f : Fin 2 → ℝ) : (if Data.own 0 l then f 0 else f 1) = f (half l) := by
  by_cases e : Data.own 0 l
  · rw [if_pos e, own_half e]
  · rw [if_neg e, own_half ((own_one l).mpr e)]

theorem pick_oth (l : Fin 128) (f : Fin 2 → ℝ) : (if Data.own 0 l then f 1 else f 0) = f (oth l) := by
  by_cases e : Data.own 0 l
  · rw [if_pos e, not_own_oth (h := 1) (fun e' => (own_one l).mp e' e)]
  · rw [if_neg e, not_own_oth e]

theorem own_half' (l : Fin 128) : Data.own (half l) l := rfl
theorem not_own_oth' (l : Fin 128) : ¬ Data.own (oth l) l := by
  have := l.isLt
  show ¬ l.val / 64 = 1 - l.val / 64
  omega

/-- A row's batch and place, a lane's pair and place in it. -/
def bat (i : S8192x384.Idx) : Fin 4 := ⟨((i 0 : Fin 8192)).val / 2048, by have : (i 0).val < 8192 := (i 0).isLt; omega⟩
def pos (i : S8192x384.Idx) : Fin 2048 := ⟨((i 0 : Fin 8192)).val % 2048, by omega⟩
def pr (i : S8192x384.Idx) : Fin 3 := ⟨((i 1 : Fin 384)).val / 128, by have : (i 1).val < 384 := (i 1).isLt; omega⟩
def ln (i : S8192x384.Idx) : Fin 128 := ⟨((i 1 : Fin 384)).val % 128, by omega⟩

/-- An array by batch, row, pair and lane. -/
def arr (f : Fin 4 → Fin 2048 → Fin 3 → Fin 128 → ℝ) (i : S8192x384.Idx) : EReal := ((f (bat i) (pos i) (pr i) (ln i) : ℝ) : EReal)

theorem arr_eq (f : Fin 4 → Fin 2048 → Fin 3 → Fin 128 → ℝ) (i : S8192x384.Idx) (b : Fin 4) (t : Fin 2048) (p : Fin 3) (l : Fin 128)
    (h0 : ((i 0 : Fin 8192)).val = 2048 * b.val + t.val) (h1 : ((i 1 : Fin 384)).val = 128 * p.val + l.val) :
    arr f i = ((f b t p l : ℝ) : EReal) := by
  have e1 : bat i = b := Fin.ext (show ((i 0 : Fin 8192)).val / 2048 = b.val by omega)
  have e2 : pos i = t := Fin.ext (show ((i 0 : Fin 8192)).val % 2048 = t.val by omega)
  have e3 : pr i = p := Fin.ext (show ((i 1 : Fin 384)).val / 128 = p.val by omega)
  have e4 : ln i = l := Fin.ext (show ((i 1 : Fin 384)).val % 128 = l.val by omega)
  unfold arr
  rw [e1, e2, e3, e4]

theorem arr_at (f : Fin 4 → Fin 2048 → Fin 3 → Fin 128 → ℝ) (b : Fin 4) (t : Fin 2048) (p : Fin 3) (l : Fin 128) :
    arr f (ix2 (seq b t) (lane p l)) = ((f b t p l : ℝ) : EReal) := arr_eq f _ b t p l rfl rfl

variable (m : (ℓ : Loc nD τ sig) → Buf (Elt Ideal) ℓ) (c : Dev nD)
  (hQ : ∀ b t h d, aQ m c (ix3 b t (col h d)) = ((q b h t d : ℝ) : EReal)) (hK : ∀ b t h d, aK m c (ix3 b t (col h d)) = ((k b h t d : ℝ) : EReal))
  (hV : ∀ b t h d, aV m c (ix3 b t (col h d)) = ((v b h t d : ℝ) : EReal)) (hO : ∀ b t h d, aO m c (ix3 b t (col h d)) = ((o b h t d : ℝ) : EReal))
  (hG : ∀ b t h, hC m c (ix3 b t h) = ((g b h t : ℝ) : EReal))
  (hS : ∀ b h t, hM m c (ix3 b h t) = ((M b h t : ℝ) : EReal))

include hQ hK hV hO hG hS in
theorem v_pt (t : Fin cfg0.N) (s : Fin 512) (l : Fin 128) :
    (outsAt0 m c t.val t.isLt).2.2.1 (ix2 s l) = ((vv q k o g (tb t) (kpos (tj t) s) (tp t) l : ℝ) : EReal) := by
  refine (FoxPoint.outV_pt (dat q k v o g M) (e0 q k v o g M m c hQ) (e1 q k v o g M m c hK) (e2 q k v o g M m c hV) (e3 q k v o g M m c) (e4 q k v o g M m c hO) (e5 q k v o g M m c hQ hK hG hS) (e6 q k v o g M m c hQ hK hV hO hG hS) (e7 q k v o g M m c hK hG) (e8 q k v o g M m c hG) (e9 q k v o g M m c hG) (acc q k v o g) (acc_first q k v o g M) (acc_next q k v o g M) t s l).trans ?_
  rw [coord_val]
  refine congrArg _ ((sumV_eq _ _ _ _ _ _ _ _ _ (M (tb t)) (fun _ _ => rfl) s l).trans ?_)
  rfl

include hQ hK hV hO hG hS in
theorem k_pt (t : Fin cfg0.N) (s : Fin 512) (l : Fin 128) :
    (outsAt0 m c t.val t.isLt).2.1 (ix2 s l) = ((vk q k v o g (tb t) (kpos (tj t) s) (tp t) l : ℝ) : EReal) := by
  refine (FoxPoint.outK_pt (dat q k v o g M) (e0 q k v o g M m c hQ) (e1 q k v o g M m c hK) (e2 q k v o g M m c hV) (e3 q k v o g M m c) (e4 q k v o g M m c hO) (e5 q k v o g M m c hQ hK hG hS) (e6 q k v o g M m c hQ hK hV hO hG hS) (e7 q k v o g M m c hK hG) (e8 q k v o g M m c hG) (e9 q k v o g M m c hG) (acc q k v o g) (acc_first q k v o g M) (acc_next q k v o g M) t s l).trans ?_
  rw [coord_val]
  refine congrArg _ ((pick_own l fun h => (dat q k v o g M t).sumK (tj t).val h s l).trans ?_)
  refine (sumK_eq _ _ _ _ _ _ _ _ _ (M (tb t)) (fun _ _ => rfl) (fun _ _ => rfl) (half l) s l).trans ?_
  exact Finset.sum_congr rfl fun r _ => congrArg (_ * ·) (if_pos (own_half' l))

include hQ hK hV hO hG hS in
theorem ka_pt (t : Fin cfg0.N) (s : Fin 512) (l : Fin 128) :
    (outsAt0 m c t.val t.isLt).2.2.2.2.1 (ix2 s l) = ((vka q k v o g (tb t) (kpos (tj t) s) (tp t) l : ℝ) : EReal) := by
  refine (FoxPoint.outKa_pt (dat q k v o g M) (e0 q k v o g M m c hQ) (e1 q k v o g M m c hK) (e2 q k v o g M m c hV) (e3 q k v o g M m c) (e4 q k v o g M m c hO) (e5 q k v o g M m c hQ hK hG hS) (e6 q k v o g M m c hQ hK hV hO hG hS) (e7 q k v o g M m c hK hG) (e8 q k v o g M m c hG) (e9 q k v o g M m c hG) (acc q k v o g) (acc_first q k v o g M) (acc_next q k v o g M) t s l).trans ?_
  rw [coord_val]
  refine congrArg _ ((pick_oth l fun h => (dat q k v o g M t).sumK (tj t).val h s l).trans ?_)
  refine (sumK_eq _ _ _ _ _ _ _ _ _ (M (tb t)) (fun _ _ => rfl) (fun _ _ => rfl) (oth l) s l).trans ?_
  exact Finset.sum_congr rfl fun r _ => congrArg (_ * ·) (if_neg (not_own_oth' l))

include hQ hK hV hO hG hS in
theorem q_pt (t : Fin cfg0.N) (h1 : t.val % 4 = 3) (b : Fin 8) (r : Fin 256) (l : Fin 128) :
    (outsAt0 m c t.val t.isLt).1 (ix2 (row b r) l) = ((vq q k v o g (tb t) (tpos b r) (tp t) l : ℝ) : EReal) := by
  refine (FoxPoint.outQ_pt (dat q k v o g M) (e0 q k v o g M m c hQ) (e1 q k v o g M m c hK) (e2 q k v o g M m c hV) (e3 q k v o g M m c) (e4 q k v o g M m c hO) (e5 q k v o g M m c hQ hK hG hS) (e6 q k v o g M m c hQ hK hV hO hG hS) (e7 q k v o g M m c hK hG) (e8 q k v o g M m c hG) (e9 q k v o g M m c hG) (acc q k v o g) (acc_first q k v o g M) (acc_next q k v o g M) t h1 b r l).trans ?_
  refine congrArg _ (congrArg (· * (1 / 8 : ℝ)) ((pick_own l fun h => acc q k v o g t h b l r).trans ?_))
  rw [acc_last q k v o g t h1]
  exact Finset.sum_congr rfl fun s _ => congrArg (· * _) (if_pos (own_half' l))

include hQ hK hV hO hG hS in
theorem qa_pt (t : Fin cfg0.N) (h1 : t.val % 4 = 3) (b : Fin 8) (r : Fin 256) (l : Fin 128) :
    (outsAt0 m c t.val t.isLt).2.2.2.1 (ix2 (row b r) l) = ((vqa q k v o g (tb t) (tpos b r) (tp t) l : ℝ) : EReal) := by
  refine (FoxPoint.outQa_pt (dat q k v o g M) (e0 q k v o g M m c hQ) (e1 q k v o g M m c hK) (e2 q k v o g M m c hV) (e3 q k v o g M m c) (e4 q k v o g M m c hO) (e5 q k v o g M m c hQ hK hG hS) (e6 q k v o g M m c hQ hK hV hO hG hS) (e7 q k v o g M m c hK hG) (e8 q k v o g M m c hG) (e9 q k v o g M m c hG) (acc q k v o g) (acc_first q k v o g M) (acc_next q k v o g M) t h1 b r l).trans ?_
  refine congrArg _ ((pick_oth l fun h => acc q k v o g t h b l r).trans ?_)
  rw [acc_last q k v o g t h1]
  exact Finset.sum_congr rfl fun s _ => congrArg (· * _) (if_neg (not_own_oth' l))

include hQ hK hV hO hG hS in
/-- The queries' gradient. -/
theorem final_q : (dats m 0 c).arrAt 10 cfg0.N = arr (vq q k v o g) := by
  refine (dats m 0 c).arrAt_eq_of_covers 10 _ (by decide +kernel) fun t hf i => ?_
  have w0 := congrFun (out_val t).1 0
  have w1 := congrFun (out_val t).1 1
  have x0 : ∀ (i0 : Fin 2048) (i1 : Fin 128), ((((cfg0.win 10).blk t).view.emb (ix2 i0 i1) 0 : Fin 8192)).val = t.val / 12 * 2048 + i0.val := by
    intro i0 i1
    blk_simp
    rw [w0]
    rfl
  have x1 : ∀ (i0 : Fin 2048) (i1 : Fin 128), ((((cfg0.win 10).blk t).view.emb (ix2 i0 i1) 1 : Fin 384)).val = t.val / 4 % 3 * 128 + i1.val := by
    intro i0 i1
    blk_simp
    rw [w1]
    rfl
  idx_vars i
  have h1 : t.val % 4 = 3 := (flush0_10 t).mp hf
  obtain ⟨b, r, rfl⟩ : ∃ (b : Fin 8) (r : Fin 256), i0 = row b r := ⟨⟨i0.val / 256, by omega⟩, ⟨i0.val % 256, by omega⟩, Fin.ext (by show i0.val = 256 * (i0.val / 256) + i0.val % 256; omega)⟩
  refine Eq.trans ?_ (arr_eq (vq q k v o g) _ (tb t) (tpos b r) (tp t) i1 ((x0 (row b r) i1).trans (by show _ = 2048 * (t.val / 12) + (256 * b.val + r.val); show t.val / 12 * 2048 + (256 * b.val + r.val) = _; omega)) ((x1 (row b r) i1).trans (by show _ = 128 * (t.val / 4 % 3) + i1.val; omega))).symm
  rw [after0_10]
  exact q_pt q k v o g M m c hQ hK hV hO hG hS t h1 b r i1

include hQ hK hV hO hG hS in
/-- The keys' gradient. -/
theorem final_k : (dats m 0 c).arrAt 11 cfg0.N = arr (vk q k v o g) := by
  refine (dats m 0 c).arrAt_eq_of_covers 11 _ (by decide +kernel) fun t hf i => ?_
  have w0 := congrFun (out_val t).2.1 0
  have w1 := congrFun (out_val t).2.1 1
  have x0 : ∀ (i0 : Fin 512) (i1 : Fin 128), ((((cfg0.win 11).blk t).view.emb (ix2 i0 i1) 0 : Fin 8192)).val = (4 * (t.val / 12) + t.val % 4) * 512 + i0.val := by
    intro i0 i1
    blk_simp
    rw [w0]
    rfl
  have x1 : ∀ (i0 : Fin 512) (i1 : Fin 128), ((((cfg0.win 11).blk t).view.emb (ix2 i0 i1) 1 : Fin 384)).val = t.val / 4 % 3 * 128 + i1.val := by
    intro i0 i1
    blk_simp
    rw [w1]
    rfl
  idx_vars i
  refine Eq.trans ?_ (arr_eq (vk q k v o g) _ (tb t) (kpos (tj t) i0) (tp t) i1 ((x0 i0 i1).trans (by show _ = 2048 * (t.val / 12) + (512 * (t.val % 4) + i0.val); omega)) ((x1 i0 i1).trans (by show _ = 128 * (t.val / 4 % 3) + i1.val; omega))).symm
  rw [after0_11]
  exact k_pt q k v o g M m c hQ hK hV hO hG hS t i0 i1

include hQ hK hV hO hG hS in
/-- The values' gradient. -/
theorem final_v : (dats m 0 c).arrAt 12 cfg0.N = arr (vv q k o g) := by
  refine (dats m 0 c).arrAt_eq_of_covers 12 _ (by decide +kernel) fun t hf i => ?_
  have w0 := congrFun (out_val t).2.2.1 0
  have w1 := congrFun (out_val t).2.2.1 1
  have x0 : ∀ (i0 : Fin 512) (i1 : Fin 128), ((((cfg0.win 12).blk t).view.emb (ix2 i0 i1) 0 : Fin 8192)).val = (4 * (t.val / 12) + t.val % 4) * 512 + i0.val := by
    intro i0 i1
    blk_simp
    rw [w0]
    rfl
  have x1 : ∀ (i0 : Fin 512) (i1 : Fin 128), ((((cfg0.win 12).blk t).view.emb (ix2 i0 i1) 1 : Fin 384)).val = t.val / 4 % 3 * 128 + i1.val := by
    intro i0 i1
    blk_simp
    rw [w1]
    rfl
  idx_vars i
  refine Eq.trans ?_ (arr_eq (vv q k o g) _ (tb t) (kpos (tj t) i0) (tp t) i1 ((x0 i0 i1).trans (by show _ = 2048 * (t.val / 12) + (512 * (t.val % 4) + i0.val); omega)) ((x1 i0 i1).trans (by show _ = 128 * (t.val / 4 % 3) + i1.val; omega))).symm
  rw [after0_12]
  exact v_pt q k v o g M m c hQ hK hV hO hG hS t i0 i1

include hQ hK hV hO hG hS in
/-- The queries' spare lanes. -/
theorem final_qa : (dats m 0 c).arrAt 13 cfg0.N = arr (vqa q k v o g) := by
  refine (dats m 0 c).arrAt_eq_of_covers 13 _ (by decide +kernel) fun t hf i => ?_
  have w0 := congrFun (out_val t).2.2.2.1 0
  have w1 := congrFun (out_val t).2.2.2.1 1
  have x0 : ∀ (i0 : Fin 2048) (i1 : Fin 128), ((((cfg0.win 13).blk t).view.emb (ix2 i0 i1) 0 : Fin 8192)).val = t.val / 12 * 2048 + i0.val := by
    intro i0 i1
    blk_simp
    rw [w0]
    rfl
  have x1 : ∀ (i0 : Fin 2048) (i1 : Fin 128), ((((cfg0.win 13).blk t).view.emb (ix2 i0 i1) 1 : Fin 384)).val = t.val / 4 % 3 * 128 + i1.val := by
    intro i0 i1
    blk_simp
    rw [w1]
    rfl
  idx_vars i
  have h1 : t.val % 4 = 3 := (flush0_13 t).mp hf
  obtain ⟨b, r, rfl⟩ : ∃ (b : Fin 8) (r : Fin 256), i0 = row b r := ⟨⟨i0.val / 256, by omega⟩, ⟨i0.val % 256, by omega⟩, Fin.ext (by show i0.val = 256 * (i0.val / 256) + i0.val % 256; omega)⟩
  refine Eq.trans ?_ (arr_eq (vqa q k v o g) _ (tb t) (tpos b r) (tp t) i1 ((x0 (row b r) i1).trans (by show _ = 2048 * (t.val / 12) + (256 * b.val + r.val); show t.val / 12 * 2048 + (256 * b.val + r.val) = _; omega)) ((x1 (row b r) i1).trans (by show _ = 128 * (t.val / 4 % 3) + i1.val; omega))).symm
  rw [after0_13]
  exact qa_pt q k v o g M m c hQ hK hV hO hG hS t h1 b r i1

include hQ hK hV hO hG hS in
/-- The keys' spare lanes. -/
theorem final_ka : (dats m 0 c).arrAt 14 cfg0.N = arr (vka q k v o g) := by
  refine (dats m 0 c).arrAt_eq_of_covers 14 _ (by decide +kernel) fun t hf i => ?_
  have w0 := congrFun (out_val t).2.2.2.2 0
  have w1 := congrFun (out_val t).2.2.2.2 1
  have x0 : ∀ (i0 : Fin 512) (i1 : Fin 128), ((((cfg0.win 14).blk t).view.emb (ix2 i0 i1) 0 : Fin 8192)).val = (4 * (t.val / 12) + t.val % 4) * 512 + i0.val := by
    intro i0 i1
    blk_simp
    rw [w0]
    rfl
  have x1 : ∀ (i0 : Fin 512) (i1 : Fin 128), ((((cfg0.win 14).blk t).view.emb (ix2 i0 i1) 1 : Fin 384)).val = t.val / 4 % 3 * 128 + i1.val := by
    intro i0 i1
    blk_simp
    rw [w1]
    rfl
  idx_vars i
  refine Eq.trans ?_ (arr_eq (vka q k v o g) _ (tb t) (kpos (tj t) i0) (tp t) i1 ((x0 i0 i1).trans (by show _ = 2048 * (t.val / 12) + (512 * (t.val % 4) + i0.val); omega)) ((x1 i0 i1).trans (by show _ = 128 * (t.val / 4 % 3) + i1.val; omega))).symm
  rw [after0_14]
  exact ka_pt q k v o g M m c hQ hK hV hO hG hS t i0 i1

end Cert.FoxKernelIdeal.Real

end
-- ==== Proof.Fox.lean ====
/- The claims about the backward attention kernel: on real arguments its five arrays are the gradients of the forgetting
   attention; of the two with spare lanes the lane that holds a gate's gradient is compared. -/
module

public import proofs.«01_k».proof.Defs
public import proofs.«01_k».proof.Proof.FoxKernel
public import proofs.«01_k».proof.Proof.FoxRefOut
public import proofs.«01_k».proof.Proof.Gen.FoxKernel.Frame
public import proofs.«01_k».proof.Proof.Gen.FoxReferenceIdeal.Run
public import proofs.«01_k».proof.Proof.Gen.Pre_fox_finite
public import Idealize.ShloMosaic.Adequacy
public import Idealize.ShloMosaic.Init
public import Idealize.ShloMosaic.Lib.Claim

@[expose] public section

set_option maxRecDepth 16384

noncomputable section

open Idealize.ShloMosaic Idealize.ShloMosaic.TcCoe Idealize.SL.Sem
open scoped BigOperators

namespace Cert.FoxProof

open Cert.Lift Cert.FoxLoop Cert.FoxReal Cert.FoxKernelIdeal.Real

theorem frame_kernel : Cert.quiescent_FoxKernel := fun m ρ _ => Cert.FoxKernel.Gen.frame m ρ
theorem frame_ideal : Cert.quiescent_FoxKernelIdeal := fun m ρ _ => Cert.FoxKernelIdeal.Gen.frame m ρ
theorem frame_ideal_pre : Cert.quiescent_FoxKernelIdeal_pre_fox_finite := fun m ρ _ => Cert.FoxKernelIdeal.Gen.frame m ρ
theorem frame_ref : Cert.quiescent_FoxReferenceIdeal := fun m ρ _ =>
  (θ_run _ _ _).mono (fun _ h => ⟨fun c => (h c).2.2.2.2.2, sem_eq_zero_of_no_sems (by decide) _⟩) (Cert.FoxReferenceIdeal.Value.run m ρ)
theorem frame_ref_pre : Cert.quiescent_FoxReferenceIdeal_pre_fox_finite := fun m ρ _ => frame_ref m ρ trivial

/-- The facts the function of the compared lanes takes. -/
instance on_facts : Cert.On_fox_lanes.Facts where
  bcast_S_S8192x384 := by decide

/-- The precondition: every entry of the arguments is a real number. -/
theorem finite (Q K V : FVec Ideal Cert.Pre_fox_finite.S4x2048x384 .f32) (C : FVec Ideal Cert.Pre_fox_finite.S4x2048x6 .f32)
    (O : FVec Ideal Cert.Pre_fox_finite.S4x2048x384 .f32) (h : Cert.Pre_fox_finite.fn (F := Ideal) Q K V C O = fun _ => 1#1) :
    (∀ i, Q i = ((EReal.toReal (Q i) : ℝ) : EReal)) ∧ (∀ i, K i = ((EReal.toReal (K i) : ℝ) : EReal))
      ∧ (∀ i, V i = ((EReal.toReal (V i) : ℝ) : EReal)) ∧ (∀ i, C i = ((EReal.toReal (C i) : ℝ) : EReal))
      ∧ (∀ i, O i = ((EReal.toReal (O i) : ℝ) : EReal)) := by
  have h0 := congrFun h ix0
  simp only [Cert.Pre_fox_finite.fn, Cert.Pre_fox_finite.fn_part1, andi, IntOp.andi_eq_one] at h0
  obtain ⟨⟨⟨⟨⟨-, ha⟩, hb⟩, hd⟩, he⟩, hf⟩ := h0
  exact ⟨fun i => finite_of_all _ _ _ (fun _ => bits_inf) _ _ _ _ ha i, fun i => finite_of_all _ _ _ (fun _ => bits_inf) _ _ _ _ hb i,
    fun i => finite_of_all _ _ _ (fun _ => bits_inf) _ _ _ _ hd i, fun i => finite_of_all _ _ _ (fun _ => bits_inf) _ _ _ _ he i,
    fun i => finite_of_all _ _ _ (fun _ => bits_inf) _ _ _ _ hf i⟩

/-- The lanes compared. -/
theorem lanes_q (n : Fin 384) : IntOp.cmpi .eq (BitVec.ofNat 32 n.val &&& 63#32) 0#32 = 1#1 → n.val % 64 = 0 := by
  revert n; decide +kernel
theorem lanes_k (n : Fin 384) : IntOp.cmpi .eq (BitVec.ofNat 32 n.val &&& 63#32) 3#32 = 1#1 → n.val % 64 = 3 := by
  revert n; decide +kernel

/-- An element's batch, row, pair and lane. -/
theorem decode (i : Cert.FoxKernelIdeal.S8192x384.Idx) : ∃ (b : Fin 4) (t : Fin 2048) (p : Fin 3) (l : Fin 128), i = ix2 (seq b t) (lane p l) := by
  idx_vars i
  refine ⟨⟨i0.val / 2048, by omega⟩, ⟨i0.val % 2048, by omega⟩, ⟨i1.val / 128, by omega⟩, ⟨i1.val % 128, by omega⟩, ?_⟩
  exact congrArg₂ ix2 (Fin.ext (show i0.val = 2048 * (i0.val / 2048) + i0.val % 2048 by omega))
    (Fin.ext (show i1.val = 128 * (i1.val / 128) + i1.val % 128 by omega))

/-- The real numbers of a device's arguments. -/
theorem reals (Q K V : FVec Ideal Cert.Pre_fox_finite.S4x2048x384 .f32) (C : FVec Ideal Cert.Pre_fox_finite.S4x2048x6 .f32)
    (O : FVec Ideal Cert.Pre_fox_finite.S4x2048x384 .f32) (h : Cert.Pre_fox_finite.fn (F := Ideal) Q K V C O = fun _ => 1#1) :
    ∃ (q k v o : Fin 4 → Fin 6 → Fin 2048 → Fin 64 → ℝ) (g M : Fin 4 → Fin 6 → Fin 2048 → ℝ),
      (∀ b t h d, Q (ix3 b t (col h d)) = ((q b h t d : ℝ) : EReal)) ∧ (∀ b t h d, K (ix3 b t (col h d)) = ((k b h t d : ℝ) : EReal))
      ∧ (∀ b t h d, V (ix3 b t (col h d)) = ((v b h t d : ℝ) : EReal)) ∧ (∀ b t h d, O (ix3 b t (col h d)) = ((o b h t d : ℝ) : EReal))
      ∧ (∀ b t h, Cert.FoxReferenceIdeal.Read.val_main_v0 (F := Ideal) C (ix3 b t h) = ((g b h t : ℝ) : EReal))
      ∧ (∀ b h t, Cert.FoxReferenceIdeal.Read.val_main_v19 (F := Ideal) Q K C (ix3 b h t) = ((M b h t : ℝ) : EReal)) := by
  obtain ⟨hQ, hK, hV, hC, hO⟩ := finite Q K V C O h
  have hg := fun (b : Fin 4) (h : Fin 6) (t : Fin 2048) => Cert.FoxReferenceIdeal.Real.v0_real C (fun i => ⟨_, hC i⟩) (ix3 b t h)
  choose g hg using hg
  have hM := fun (b : Fin 4) (h : Fin 6) (t : Fin 2048) => Cert.FoxReferenceIdeal.Real.max_at Q K C _ _ _
    (fun b t h d => hQ (ix3 b t (col h d))) (fun b t h d => hK (ix3 b t (col h d))) (fun b t h => hg b h t) b h t
  choose M hM using hM
  exact ⟨fun b h t d => (Q (ix3 b t (col h d))).toReal, fun b h t d => (K (ix3 b t (col h d))).toReal, fun b h t d => (V (ix3 b t (col h d))).toReal,
    fun b h t d => (O (ix3 b t (col h d))).toReal, g, M, fun b t h d => hQ _, fun b t h d => hK _, fun b t h d => hV _, fun b t h d => hO _,
    fun b t h => hg b h t, hM⟩

/-- A spare lane of the sums that hold a gate's gradient. -/
theorem gate_q (q k v o : Fin 4 → Fin 6 → Fin 2048 → Fin 64 → ℝ) (g : Fin 4 → Fin 6 → Fin 2048 → ℝ) (b : Fin 4) (t : Fin 2048) (p : Fin 3) (l : Fin 128)
    (e : (lane p l).val % 64 = 0) : vqa q k v o g b t p l = ∑ s, dsh q k v o g b (head p (oth l)) t s := by
  have e' : l.val % 64 = 0 := by
    have e : (128 * p.val + l.val) % 64 = 0 := e
    omega
  unfold vqa
  refine Finset.sum_congr rfl fun s _ => ?_
  rw [e', spk, if_pos (by norm_num), one_mul]
theorem gate_k (q k v o : Fin 4 → Fin 6 → Fin 2048 → Fin 64 → ℝ) (g : Fin 4 → Fin 6 → Fin 2048 → ℝ) (b : Fin 4) (s : Fin 2048) (p : Fin 3) (l : Fin 128)
    (e : (lane p l).val % 64 = 3) : vka q k v o g b s p l = ∑ t, dsh q k v o g b (head p (oth l)) t s := by
  have e' : l.val % 64 = 3 := by
    have e : (128 * p.val + l.val) % 64 = 3 := e
    omega
  unfold vka
  refine Finset.sum_congr rfl fun t _ => ?_
  rw [e', spq, if_neg (by norm_num), if_neg (by norm_num), if_pos (by norm_num), mul_one]

/-- Kernel and reference end with the same five arrays on the compared lanes. -/
theorem value : Cert.algebraic_FoxKernelIdeal_FoxReferenceIdeal_on_fox_lanes_pre_fox_finite := by
  intro m ρ m' ρ' hpre hagree
  refine ⟨fun c => (Cert.FoxKernelIdeal.Gen.dats m 0 c).arrAt 10 Cert.FoxKernelIdeal.cfg0.N, fun c => (Cert.FoxKernelIdeal.Gen.dats m 0 c).arrAt 11 Cert.FoxKernelIdeal.cfg0.N, fun c => (Cert.FoxKernelIdeal.Gen.dats m 0 c).arrAt 12 Cert.FoxKernelIdeal.cfg0.N,
    fun c => (Cert.FoxKernelIdeal.Gen.dats m 0 c).arrAt 13 Cert.FoxKernelIdeal.cfg0.N, fun c => (Cert.FoxKernelIdeal.Gen.dats m 0 c).arrAt 14 Cert.FoxKernelIdeal.cfg0.N,
    (θ_run _ _ _).mono (fun r h c => ?_) (Cert.FoxKernelIdeal.Value.run_blocks m ρ),
    (θ_run _ _ _).mono (fun r h c => ?_) (Cert.FoxReferenceIdeal.Value.run m' ρ')⟩
  · obtain ⟨h0, h1, h2, h3, h4, hargs⟩ := h c
    exact ⟨fun i _ => congrFun h0 i, fun i _ => congrFun h1 i, fun i _ => congrFun h2 i, fun i _ => congrFun h3 i, fun i _ => congrFun h4 i, hargs⟩
  · obtain ⟨q, k, v, o, g, M, hQ, hK, hV, hO, hG, hS⟩ := reals _ _ _ _ _ (hpre c)
    obtain ⟨a0, a1, a2, a3, a4⟩ := hagree c
    obtain ⟨h0, h1, h2, h3, h4, hargs⟩ := h c
    refine ⟨fun i _ => (congrFun h0 i).trans ?_, fun i _ => (congrFun h1 i).trans ?_, fun i _ => (congrFun h2 i).trans ?_,
      fun i hi => (congrFun h3 i).trans ?_, fun i hi => (congrFun h4 i).trans ?_, hargs⟩
    · rw [Cert.FoxReferenceIdeal.Read.val_main_v86_eq, a0, a1, a2, a3, a4]
      refine Eq.trans ?_ (congrFun (final_q q k v o g M m c hQ hK hV hO hG hS) i).symm
      obtain ⟨b, t, p, l, rfl⟩ := decode i
      refine Eq.trans ?_ (arr_at _ b t p l).symm
      refine (Cert.FoxReferenceIdeal.Real.dq_at _ _ _ _ _ q k v o g hQ hK hV hO hG M hS b t p l).trans (congrArg _ ?_)
      refine Eq.trans ?_ (Finset.sum_mul _ _ _).symm
      exact Finset.sum_congr rfl fun s _ => by
        show ds _ _ _ _ _ _ _ * (1 / 8) * _ = _ * ds _ _ _ _ _ _ _ * (1 / 8)
        ring
    · rw [Cert.FoxReferenceIdeal.Read.val_main_v88_eq, a0, a1, a2, a3, a4]
      refine Eq.trans ?_ (congrFun (final_k q k v o g M m c hQ hK hV hO hG hS) i).symm
      obtain ⟨b, t, p, l, rfl⟩ := decode i
      refine Eq.trans ?_ (arr_at _ b t p l).symm
      refine (Cert.FoxReferenceIdeal.Real.dk_at _ _ _ _ _ q k v o g hQ hK hV hO hG M hS b t p l).trans (congrArg _ ?_)
      exact Finset.sum_congr rfl fun s _ => by
        show ds _ _ _ _ _ _ _ * (1 / 8) * _ = ds _ _ _ _ _ _ _ * (_ * (1 / 8))
        ring
    · rw [Cert.FoxReferenceIdeal.Read.val_main_v90_eq, a0, a1, a3, a4]
      refine Eq.trans ?_ (congrFun (final_v q k v o g M m c hQ hK hV hO hG hS) i).symm
      obtain ⟨b, t, p, l, rfl⟩ := decode i
      refine Eq.trans ?_ (arr_at _ b t p l).symm
      refine (Cert.FoxReferenceIdeal.Real.dv_at _ _ _ _ q k o g hQ hK hO hG M hS b t p l).trans (congrArg _ ?_)
      rfl
    · rw [Cert.FoxReferenceIdeal.Read.val_main_v94_eq, a0, a1, a2, a3, a4]
      refine Eq.trans ?_ (congrFun (final_qa q k v o g M m c hQ hK hV hO hG hS) i).symm
      obtain ⟨b, t, p, l, rfl⟩ := decode i
      refine Eq.trans ?_ (arr_at _ b t p l).symm
      refine (Cert.FoxReferenceIdeal.Real.dcq_at _ _ _ _ _ q k v o g hQ hK hV hO hG M hS b t p l).trans (congrArg _ ?_)
      exact (gate_q q k v o g b t p l (lanes_q _ hi)).symm
    · rw [Cert.FoxReferenceIdeal.Read.val_main_v99_eq, a0, a1, a2, a3, a4]
      refine Eq.trans ?_ (congrFun (final_ka q k v o g M m c hQ hK hV hO hG hS) i).symm
      obtain ⟨b, t, p, l, rfl⟩ := decode i
      refine Eq.trans ?_ (arr_at _ b t p l).symm
      refine (Cert.FoxReferenceIdeal.Real.dck_at _ _ _ _ _ q k v o g hQ hK hV hO hG M hS b t p l).trans (congrArg _ ?_)
      exact (gate_k q k v o g b t p l (lanes_k _ hi)).symm

end Cert.FoxProof

end
-- ==== Proof.GateBits.lean ====
/- The gate's comparisons of counters: which spare lane belongs to which head, and which rows come later. -/
module

public import proofs.«01_k».proof.Proof.Gen.GateKernelIdeal.Skeleton
public import Idealize.ShloMosaic.Lib.Pointwise
public import Idealize.ShloMosaic.Lib.Pipeline.ValueKit

@[expose] public section

set_option maxRecDepth 16384

noncomputable section

open Idealize.ShloMosaic Idealize.ShloMosaic.TcCoe
open scoped BigOperators

namespace Cert.GateKernelIdeal.Real

open Cert.GateKernelIdeal Cert.GateKernelIdeal.Gen

/-- The lane of a head's number, and the lane of its pair's other head in which its gradient lies. -/
def ln (h : Fin 6) : Fin 128 := ⟨h.val, by omega⟩
def sp (h : Fin 6) (e : Fin 4) : Fin 384 := ⟨128 * (h.val / 2) + 64 * (1 - h.val % 2) + e.val, by omega⟩

theorem bit_q : ∀ (k : Fin 384) (h : Fin 6), cmpi .eq (iota .tc S384x128 32 [0] iota_S384x128_d0_w32)
    (addi (k0_pay9 k0_pay6 2#32 k0_pay7 k0_pay8 0#32) (broadcast S384x128 0#32)) (ix2 k (ln h))
      = if k = sp h 0 then 1#1 else 0#1 := by decide +kernel
theorem bit_k : ∀ (k : Fin 384) (h : Fin 6), cmpi .eq (iota .tc S384x128 32 [0] iota_S384x128_d0_w32)
    (addi (k0_pay9 k0_pay6 2#32 k0_pay7 k0_pay8 0#32) (broadcast S384x128 3#32)) (ix2 k (ln h))
      = if k = sp h 3 then 1#1 else 0#1 := by decide +kernel

theorem later_bit : ∀ i k : Fin 256, cmpi .sge (iota .tc S256x256 32 [1] iota_S256x256_d1_w32) (iota .tc S256x256 32 [0] iota_S256x256_d0_w32) (ix2 i k)
    = if i.val ≤ k.val then 1#1 else 0#1 := by decide +kernel
end Cert.GateKernelIdeal.Real

end
-- ==== Proof.GateOps.lean ====
/- One block of the gate's gradient: picking each head's spare lanes by a product with zeros and ones, summing the block's
   rows from each row on by a product with a triangle of ones, and the logistic factor. -/
module

public import proofs.«01_k».proof.Proof.Gen.GateKernelIdeal.Skeleton
public import proofs.«01_k».proof.Proof.GateBits
public import Idealize.ShloMosaic.Lib.Pointwise
public import Idealize.ShloMosaic.Lib.Pipeline.ValueKit

@[expose] public section

set_option maxRecDepth 16384

noncomputable section

open Idealize.ShloMosaic Idealize.ShloMosaic.TcCoe
open scoped BigOperators

namespace Cert.Gate

/-- A number of each row, over all natural numbers. -/
def ext (f : Fin 2048 → EReal) (n : ℕ) : EReal := if h : n < 2048 then f ⟨n, h⟩ else 0

/-- The sum of a column from row `n` on. -/
def from_ (f : Fin 2048 → EReal) (n : ℕ) : EReal := ∑ k ∈ Finset.Ico n 2048, ext f k

theorem from_end (f : Fin 2048 → EReal) : from_ f 2048 = 0 := by simp [from_]

/-- A block's sum from a row on, by ones and zeros. -/
theorem block_sum (F : ℕ → EReal) (o i : ℕ) (hi : i < 256) :
    ∑ k : Fin 256, (if i ≤ k.val then (1 : EReal) else 0) * F (o + k.val) = ∑ k ∈ Finset.Ico (o + i) (o + 256), F k := by
  have e : ∀ k : Fin 256, (if i ≤ k.val then (1 : EReal) else 0) * F (o + k.val) = if i ≤ k.val then F (o + k.val) else 0 := fun k => by
    split_ifs
    · rw [one_mul]
    · rw [zero_mul]
  rw [Finset.sum_congr rfl fun k _ => e k, Fin.sum_univ_eq_sum_range (fun k => if i ≤ k then F (o + k) else 0) 256, ← Finset.sum_filter]
  have s : (Finset.range 256).filter (fun k => i ≤ k) = Finset.Ico i 256 := by
    ext k
    simp only [Finset.mem_filter, Finset.mem_range, Finset.mem_Ico]
    omega
  rw [s, Finset.sum_Ico_add F i 256 o, Nat.add_comm i o, Nat.add_comm 256 o]

theorem from_block (f : Fin 2048 → EReal) (o i : ℕ) (hi : i < 256) (ho : o + 256 ≤ 2048) :
    ∑ k : Fin 256, (if i ≤ k.val then (1 : EReal) else 0) * ext f (o + k.val) + from_ f (o + 256) = from_ f (o + i) := by
  rw [block_sum _ _ _ hi]
  exact Finset.sum_Ico_consecutive (ext f) (by omega) ho

/-- The gradient of the gate's logits: a row's sum to the end of its batch times the logistic factor, on the heads' lanes. -/
def gz (q k : Fin 4 → Fin 2048 → Fin 384 → EReal) (x : Fin 4 → Fin 2048 → Fin 6 → ℝ) (y : Fin 6 → ℝ) (a : Fin 4) (l : Fin 128) (s : Fin 2048) : EReal :=
  if h : l.val < 6 then from_ (fun s => q a s (Cert.GateKernelIdeal.Real.sp ⟨l.val, h⟩ 0) - k a s (Cert.GateKernelIdeal.Real.sp ⟨l.val, h⟩ 3)) s.val
    * ((1 / (1 + Real.exp (x a s ⟨l.val, h⟩ + y ⟨l.val, h⟩)) : ℝ) : EReal) else 0

/-- Row `s` of batch `a` in the flattened arrays. -/
def fl (a : Fin 4) (s : Fin 2048) : Fin 8192 := ⟨a.val * 2048 + s.val, by omega⟩

/-- The column of a head's logit. -/
def lc (h : Fin 6) : Fin 2822 := ⟨1152 + h.val, by omega⟩

theorem from_zero (f : Fin 2048 → EReal) : from_ f 0 = ∑ s, f s := by
  have e : ∀ s : Fin 2048, f s = ext f s.val := fun s => by rw [ext, dif_pos s.isLt]
  rw [Finset.sum_congr rfl fun s _ => e s, Fin.sum_univ_eq_sum_range (ext f) 2048, from_, Finset.range_eq_Ico]

/-- The logistic function as the kernel computes it. -/
theorem half_tanh (x : ℝ) : 1 / 2 * Real.tanh (1 / 2 * (0 - x)) + 1 / 2 = 1 / (1 + Real.exp x) := by
  have h1 : Real.exp x = Real.exp (x / 2) * Real.exp (x / 2) := by rw [← Real.exp_add]; congr 1; ring
  have h2 : Real.exp (1 / 2 * (0 - x)) = 1 / Real.exp (x / 2) := by
    rw [eq_div_iff (Real.exp_pos _).ne', ← Real.exp_add, show 1 / 2 * (0 - x) + x / 2 = 0 by ring, Real.exp_zero]
  have h3 : Real.exp (-(1 / 2 * (0 - x))) = Real.exp (x / 2) := by congr 1; ring
  have hp := Real.exp_pos (x / 2)
  rw [Real.tanh_eq_sinh_div_cosh, Real.sinh_eq, Real.cosh_eq, h2, h3, h1]
  field_simp
  ring

end Cert.Gate

namespace Cert.GateKernelIdeal.Real

open Cert.GateKernelIdeal Cert.GateKernelIdeal.Gen Cert.Gate

def pickQ : FVec Ideal S384x128 .f32 :=
  k0_pay10 (iota .tc S384x128 32 [0] iota_S384x128_d0_w32) k0_pay6 2#32 k0_pay7 k0_pay8 0#32
def pickK : FVec Ideal S384x128 .f32 :=
  k0_pay11 (iota .tc S384x128 32 [0] iota_S384x128_d0_w32) k0_pay6 2#32 k0_pay7 k0_pay8 0#32

theorem num_of {s : Shape} (x : IVec s 1) (i : s.Idx) (p : Prop) [Decidable p] (e : x i = if p then 1#1 else 0#1) :
    (sitofp (F := Ideal) .f32 (extui 32 x natLt_1_32) i : EReal) = if p then 1 else 0 := by
  show ((((x i).setWidth 32).toInt : ℝ) : EReal) = _
  rw [e]
  split_ifs <;> norm_num

theorem pickQ_at (k : Fin 384) (h : Fin 6) : pickQ (ix2 k (ln h)) = if k = sp h 0 then (1 : EReal) else 0 := by
  unfold pickQ k0_pay10
  exact num_of _ _ _ (bit_q k h)
theorem pickK_at (k : Fin 384) (h : Fin 6) : pickK (ix2 k (ln h)) = if k = sp h 3 then (1 : EReal) else 0 := by
  unfold pickK k0_pay11
  exact num_of _ _ _ (bit_k k h)

theorem later_at (i k : Fin 256) : k0_pay5 (F := Ideal) (ix2 i k) = if i.val ≤ k.val then (1 : EReal) else 0 := by
  unfold k0_pay5
  exact num_of _ _ _ (later_bit i k)

section block

/-- The two lanes of each head's gradient, subtracted. -/
def dcs (a b : FVec Ideal S256x384 .f32) : FVec Ideal S256x128 .f32 :=
  subf (matmul dot_S256x384_S384x128_S256x128_1_0_0_1_n_n (some .fp32) a pickQ (constant S256x128 .f32 0x00000000#32))
    (matmul dot_S256x384_S384x128_S256x128_1_0_0_1_n_n (some .fp32) b pickK (constant S256x128 .f32 0x00000000#32))
/-- A block's sums from each row on. -/
def part (a b : FVec Ideal S256x384 .f32) : FVec Ideal S256x128 .f32 :=
  matmul dot_S256x256_S256x128_S256x128_1_0_0_1_n_n (some .fp32) (k0_pay5 (F := Ideal)) (dcs a b) (constant S256x128 .f32 0x00000000#32)
def tot (a b : FVec Ideal S256x384 .f32) (c : FVec Ideal S1x128 .f32) : FVec Ideal S256x128 .f32 :=
  addf (part a b) (broadcastTo S256x128 c broadcasts_S1x128_S256x128)
def next (a b : FVec Ideal S256x384 .f32) (c : FVec Ideal S1x128 .f32) : FVec Ideal S1x128 .f32 :=
  addf c (extractStridedSlice S1x128 ![0, 0] (part a b) slices_S256x128_o0_0_S1x128)

/-- Row `k` of the block that begins at row `o`. -/
def rowOf (o : ℕ) (ho : o + 256 ≤ 2048) (k : Fin 256) : Fin 2048 := ⟨o + k.val, by omega⟩

variable (a b : FVec Ideal S256x384 .f32) (A B : Fin 2048 → Fin 384 → EReal) (o : ℕ)

theorem dcs_at (k : Fin 256) (h : Fin 6) : dcs a b (ix2 k (ln h)) = (a (ix2 k (sp h 0)) : EReal) - b (ix2 k (sp h 3)) := by
  pointwise [dcs]
  simp only [pickQ_at, pickK_at, mul_ite, mul_one, mul_zero, Finset.sum_ite_eq', Finset.mem_univ, if_true, zero_add]

variable (ho : o + 256 ≤ 2048) (ha : ∀ (k : Fin 256) l, a (ix2 k l) = A (rowOf o ho k) l)
  (hb : ∀ (k : Fin 256) l, b (ix2 k l) = B (rowOf o ho k) l)
include ha hb

theorem part_at (i : Fin 256) (h : Fin 6) : part a b (ix2 i (ln h))
    = ∑ k : Fin 256, (if i.val ≤ k.val then (1 : EReal) else 0) * ext (fun s => A s (sp h 0) - B s (sp h 3)) (o + k.val) := by
  pointwise [part]
  simp only [later_at, dcs_at, ha, hb, zero_add]
  refine Finset.sum_congr rfl fun k _ => congrArg _ ?_
  simp only [ext, show o + k.val < 2048 by omega, dif_pos]
  rfl

variable (c : FVec Ideal S1x128 .f32) (hc : ∀ h, c (ix2 0 (ln h)) = from_ (fun s => A s (sp h 0) - B s (sp h 3)) (o + 256))
include hc

theorem tot_at (i : Fin 256) (h : Fin 6) : tot a b c (ix2 i (ln h)) = from_ (fun s => A s (sp h 0) - B s (sp h 3)) (o + i.val) := by
  pointwise [tot]
  rw [part_at a b A B o ho ha hb i h, hc h]
  exact from_block _ o i.val i.isLt ho

theorem next_at (h : Fin 6) : next a b c (ix2 0 (ln h)) = from_ (fun s => A s (sp h 0) - B s (sp h 3)) o := by
  pointwise [next]
  rw [part_at a b A B o ho ha hb 0 h, hc h, add_comm]
  exact from_block _ o 0 (by norm_num) ho

end block

theorem bits_half : Ideal.ofBits .f32 0x3F000000#32 = ((1 / 2 : ℝ) : EReal) := by
  simp [Ideal.ofBits, Ideal.ieee, -EReal.coe_mul]; norm_num

theorem low_bit : ∀ l : Fin 128, IntOp.cmpi CmpIPredicate.slt (BitVec.ofNat 32 l.val) 6#32 = if l.val < 6 then 1#1 else 0#1 := by
  decide +kernel

/-- A block of the gradient: the sums times the logistic factor on the heads' lanes, zero on the rest. -/
def grad (T z : FVec Ideal S256x128 .f32) (q : FVec Ideal S1x128 .f32) : FVec Ideal S256x128 .f32 :=
  k0_pay19 (F := Ideal) (iota .tc S1x128 32 [1] iota_S1x128_d1_w32) T (k0_pay17 (F := Ideal) z) (k0_pay18 (F := Ideal) q)

theorem grad_low (T z : FVec Ideal S256x128 .f32) (q : FVec Ideal S1x128 .f32) (i : Fin 256) (h : Fin 6) (x y : ℝ)
    (hz : z (ix2 i (ln h)) = ((x : ℝ) : EReal)) (hq : q (ix2 0 (ln h)) = ((y : ℝ) : EReal)) :
    grad T z q (ix2 i (ln h)) = (T (ix2 i (ln h)) : EReal) * ((1 / (1 + Real.exp (x + y)) : ℝ) : EReal) := by
  have hl := low_bit (ln h)
  rw [if_pos (show (ln h).val < 6 from h.isLt)] at hl
  unfold grad k0_pay19 k0_pay17 k0_pay18
  pointwise [hz, hq, bits_half, Ideal.ofBits_zero_f32]
  rw [hl, ← half_tanh]
  refine congrArg (T (ix2 i (ln h)) * ·) ?_
  rw [show (0 : EReal) - ((x : ℝ) + (y : ℝ)) = ((0 - (x + y) : ℝ) : EReal) by norm_cast]
  rw [← EReal.coe_mul, Ideal.tanh_coe, ← EReal.coe_mul, ← EReal.coe_add]

theorem grad_high (T z : FVec Ideal S256x128 .f32) (q : FVec Ideal S1x128 .f32) (i : Fin 256) (l : Fin 128) (hl : ¬ l.val < 6) :
    grad T z q (ix2 i l) = (0 : EReal) := by
  have e := low_bit l
  rw [if_neg hl] at e
  unfold grad k0_pay19 k0_pay17 k0_pay18
  pointwise [bits_half, Ideal.ofBits_zero_f32]
  rw [e]
  rfl

end Cert.GateKernelIdeal.Real

end
-- ==== Proof.GateRef.lean ====
/- The reference of the gate's gradient, read element by element: the sum of a window that reaches from a row to the end
   of its batch, the logistic factor at real logits, and the two results. -/
module

public import proofs.«01_k».proof.Proof.GateOps
public import proofs.«01_k».proof.Proof.Lift
public import proofs.«01_k».proof.Proof.Sums
public import proofs.«01_k».proof.Proof.Gen.GateReferenceIdeal
public import proofs.«01_k».proof.Proof.Gen.GateReferenceIdeal.Read
public import Idealize.ShloMosaic.Lib.Pointwise
public import Idealize.ShloMosaic.Lib.IdealHost

@[expose] public section

set_option maxRecDepth 16384

noncomputable section

open Idealize.ShloMosaic Idealize.ShloMosaic.TcCoe Idealize.SL.Sem
open scoped BigOperators

namespace Cert.GateReferenceIdeal.Real

open Cert.GateReferenceIdeal Cert.GateReferenceIdeal.Gen Cert.GateReferenceIdeal.Read Cert.Lift Cert.Gate
open Cert.GateKernelIdeal.Real (sp)

theorem foldl_sum {α : Type} (g : α → EReal) (l : List α) : ∀ v : EReal, l.foldl (fun a n => a + g n) v = v + (l.map g).sum := by
  induction l with
  | nil => exact fun v => (add_zero v).symm
  | cons a l ih =>
    intro v
    rw [List.foldl_cons, ih, List.map_cons, List.sum_cons, add_assoc]

/-- The window's positions, one per row of the window. -/
def pos (b : Fin 2048) : (⟨3, ![1, 2048, 1]⟩ : Shape).Idx := ix3 0 b 0

theorem window_suffix (x : FVec Ideal S4x2048x6 .f32) (init : FVec Ideal S_ .f32)
    (h : S4x2048x6.ReduceWindows ![1, 2048, 1] ![1, 1, 1] ![0, 0, 0] ![0, 2047, 0] S4x2048x6) (hu : 0 < S_.numel) (hz : ∀ i, init i = (0 : EReal))
    (a : Fin 4) (s : Fin 2048) (e : Fin 6) :
    Host.reduceWindowAdd ![1, 2048, 1] ![1, 1, 1] ![0, 0, 0] ![0, 2047, 0] x init h hu (ix3 a s e) = from_ (fun n => x (ix3 a n e)) s.val := by
  have e0 : init (Shape.Idx.first hu) = (0 : EReal) := hz _
  unfold Host.reduceWindowAdd
  rw [Ideal.hostReduceWindowAdd_def, e0]
  unfold Ideal.hostReduceWindowAdd Host.reduceWindow
  dsimp only
  refine (foldl_sum _ _ _).trans ?_
  rw [zero_add, ← List.ofFn_eq_map, List.sum_ofFn]
  have R : from_ (fun n => (x (ix3 a n e) : EReal)) s.val = ∑ n : Fin 2048, ext (fun n => (x (ix3 a n e) : EReal)) (s.val + n.val) := by
    rw [Fin.sum_univ_eq_sum_range (fun n => ext (fun n => (x (ix3 a n e) : EReal)) (s.val + n)) 2048, from_]
    have T := Finset.sum_Ico_consecutive (ext fun n => (x (ix3 a n e) : EReal)) (show s.val ≤ 2048 by omega) (show 2048 ≤ s.val + 2048 by omega)
    have Z : ∑ n ∈ Finset.Ico 2048 (s.val + 2048), ext (fun n => (x (ix3 a n e) : EReal)) n = 0 :=
      Finset.sum_eq_zero fun n hn => dif_neg (by have := (Finset.mem_Ico.1 hn).1; omega)
    rw [Z, add_zero] at T
    rw [T, Finset.sum_Ico_eq_sum_range, Nat.add_sub_cancel_left]
  rw [R]
  have bij : Function.Bijective pos := by
    refine ⟨fun n n' h => congrFun h 1, fun p => ⟨p 1, ?_⟩⟩
    funext b
    fin_cases b
    · exact Subsingleton.elim (α := Fin 1) _ _
    · rfl
    · exact Subsingleton.elim (α := Fin 1) _ _
  refine (Finset.sum_congr rfl fun i _ => (?_ : _ = (fun p : (⟨3, ![1, 2048, 1]⟩ : Shape).Idx => ext (fun n => (x (ix3 a n e) : EReal)) (s.val + (p 1).val))
    ((Shape.rowMajor ⟨3, ![1, 2048, 1]⟩).symm i))).trans ((Equiv.sum_comp (Shape.rowMajor ⟨3, ![1, 2048, 1]⟩).symm
      (fun p : (⟨3, ![1, 2048, 1]⟩ : Shape).Idx => ext (fun n => (x (ix3 a n e) : EReal)) (s.val + (p 1).val))).trans
      (Function.Bijective.sum_comp bij (fun p : (⟨3, ![1, 2048, 1]⟩ : Shape).Idx => ext (fun n => (x (ix3 a n e) : EReal)) (s.val + (p 1).val))).symm)
  have q0 : ((Shape.rowMajor ⟨3, ![1, 2048, 1]⟩).symm i 0).val = 0 := Nat.lt_one_iff.1 ((Shape.rowMajor ⟨3, ![1, 2048, 1]⟩).symm i 0).isLt
  have q2 : ((Shape.rowMajor ⟨3, ![1, 2048, 1]⟩).symm i 2).val = 0 := Nat.lt_one_iff.1 ((Shape.rowMajor ⟨3, ![1, 2048, 1]⟩).symm i 2).isLt
  by_cases hn : s.val + ((Shape.rowMajor ⟨3, ![1, 2048, 1]⟩).symm i 1).val < 2048
  · refine Eq.trans ?_ (dif_pos hn).symm
    refine (dif_pos ?_).trans ?_
    · intro b
      fin_cases b
      · show 0 ≤ a.val * 1 + ((Shape.rowMajor ⟨3, ![1, 2048, 1]⟩).symm i 0).val ∧ a.val * 1 + ((Shape.rowMajor ⟨3, ![1, 2048, 1]⟩).symm i 0).val - 0 < 4
        omega
      · show 0 ≤ s.val * 1 + ((Shape.rowMajor ⟨3, ![1, 2048, 1]⟩).symm i 1).val ∧ s.val * 1 + ((Shape.rowMajor ⟨3, ![1, 2048, 1]⟩).symm i 1).val - 0 < 2048
        omega
      · show 0 ≤ e.val * 1 + ((Shape.rowMajor ⟨3, ![1, 2048, 1]⟩).symm i 2).val ∧ e.val * 1 + ((Shape.rowMajor ⟨3, ![1, 2048, 1]⟩).symm i 2).val - 0 < 6
        omega
    · refine congrArg x (funext fun b => Fin.ext ?_)
      fin_cases b
      · show a.val * 1 + ((Shape.rowMajor ⟨3, ![1, 2048, 1]⟩).symm i 0).val - 0 = a.val
        omega
      · show s.val * 1 + ((Shape.rowMajor ⟨3, ![1, 2048, 1]⟩).symm i 1).val - 0 = s.val + ((Shape.rowMajor ⟨3, ![1, 2048, 1]⟩).symm i 1).val
        omega
      · show e.val * 1 + ((Shape.rowMajor ⟨3, ![1, 2048, 1]⟩).symm i 2).val - 0 = e.val
        omega
  · have e0 : ext (fun n => x (ix3 a n e)) (s.val + ((Shape.rowMajor ⟨3, ![1, 2048, 1]⟩).symm i 1).val) = 0 := dif_neg hn
    refine Eq.trans (dif_neg ?_) e0.symm
    intro hin
    have h1 : s.val * 1 + ((Shape.rowMajor ⟨3, ![1, 2048, 1]⟩).symm i 1).val - 0 < 2048 := (hin 1).2
    omega

theorem cmax (a b : ℝ) : max (a : EReal) (b : EReal) = ((max a b : ℝ) : EReal) := (EReal.coe_strictMono.monotone.map_max).symm

/-- The logistic factor at a real logit. -/
theorem factor (z : ℝ) : Real.exp (-z - (max (-z) 0 + Real.log (1 + Real.exp (-|(-z)|)))) = 1 / (1 + Real.exp z) := by
  have hp := Real.exp_pos z
  have hn := Real.exp_pos (-z)
  have ez : Real.exp (-z) * Real.exp z = 1 := by rw [← Real.exp_add, neg_add_cancel, Real.exp_zero]
  rcases le_total 0 z with h | h
  · rw [max_eq_right (by linarith), abs_of_nonpos (by linarith), neg_neg, zero_add, Real.exp_sub, Real.exp_log (by positivity)]
    rw [div_eq_div_iff (by positivity) (by positivity)]
    nlinarith [ez]
  · rw [max_eq_left (by linarith), abs_of_nonneg (by linarith), neg_neg, show -z - (-z + Real.log (1 + Real.exp z)) = -Real.log (1 + Real.exp z) by ring,
      Real.exp_neg, Real.exp_log (by positivity), one_div]

variable (Q K : FVec Ideal S8192x384 .f32) (P : FVec Ideal S4x2048x2822 .f32) (B : FVec Ideal S6 .f32)
  (q k : Fin 4 → Fin 2048 → Fin 384 → EReal) (x : Fin 4 → Fin 2048 → Fin 6 → ℝ) (y : Fin 6 → ℝ)
  (hA : ∀ a s l, Q (ix2 (fl a s) l) = q a s l) (hB : ∀ a s l, K (ix2 (fl a s) l) = k a s l)
  (hX : ∀ a s h, P (ix3 a s (lc h)) = ((x a s h : ℝ) : EReal)) (hY : ∀ h, B (ix1 h) = ((y h : ℝ) : EReal))

include hX hY in
theorem v0_at (a : Fin 4) (s : Fin 2048) (h : Fin 6) : val_main_call0_v0 (F := Ideal) P B (ix3 a s h) = ((-(x a s h + y h) : ℝ) : EReal) := by
  have hX' : ∀ a s (h : Fin 6), P (ix3 a s ⟨1152 + h.val, by omega⟩) = ((x a s h : ℝ) : EReal) := hX
  pointwise [val_main_call0_v0, val_main_v3, val_main_v2, val_main_v1, val_main_v0, hX', hY]
  rw [← EReal.coe_add, ← EReal.coe_neg]

include hX hY in
theorem factor_at (a : Fin 4) (s : Fin 2048) (h : Fin 6) : val_main_v4_1 (F := Ideal) P B (ix3 a s h)
    = ((1 / (1 + Real.exp (x a s h + y h)) : ℝ) : EReal) := by
  have e := v0_at P B x y hX hY a s h
  rw [← factor]
  generalize x a s h + y h = z at e ⊢
  pointwise [val_main_v4_1, val_main_call0_call0_v21, val_main_call0_call0_v20, val_main_call0_call0_v16, val_main_call0_call0_v18, val_main_call0_call0_v14, val_main_call0_v1_0, val_main_call0_call0_v11, val_main_call0_call0_v10, val_main_call0_call0_v9, val_main_call0_call0_v8, val_main_call0_call0_v7, val_main_call0_call0_v6, val_main_call0_call0_v4, val_main_call0_call0_v3, val_main_call0_call0_v1, val_main_call0_call0_v0, val_main_call0_call0_v2, val_main_call0_call0_v5, val_main_call0_call0_v13, val_main_call0_call0_v15, val_main_call0_call0_v17, val_main_call0_call0_v19, val_main_call0_call0_cst, val_main_call0_call0_cst_0, val_main_call0_call0_cst_1, val_main_call0_call0_cst_2, val_main_call0_call0_cst_3, e, Ideal.ofBits_zero_f32]
  have b : (FloatOps.absf (F := Ideal) (φ := .f32) ((-z : ℝ) : EReal) : EReal) = ((|(-z)| : ℝ) : EReal) := by
    show max ((-z : ℝ) : EReal) (-((-z : ℝ) : EReal)) = _
    rw [← EReal.coe_neg, cmax, abs_eq_max_neg]
  have hlog : Ideal.log1p ((Real.exp (-|(-z)|) : ℝ) : EReal) = ((Real.log (1 + Real.exp (-|(-z)|)) : ℝ) : EReal) := by
    unfold Ideal.log1p
    rw [← EReal.coe_one, ← EReal.coe_add, Ideal.log_coe, if_neg (not_le.2 (by positivity))]
  rw [b, bits_inf, ← EReal.coe_neg (|(-z)|), Ideal.exp_coe, hlog, if_neg (EReal.coe_ne_top _), if_neg (not_not.2 rfl), ← EReal.coe_zero, cmax,
    ← EReal.coe_add, if_neg (EReal.coe_ne_top _), ← EReal.coe_sub, Ideal.exp_coe]

include hA in
theorem heads_q (a : Fin 4) (s : Fin 2048) (h : Fin 6) : val_main_v11 (F := Ideal) Q (ix3 a s h) = q a s (sp h 0) := by
  rw [← hA]
  pointwise [val_main_v11, val_main_v10, val_main_v9, val_main_v8, val_main_v7, Host.reverse_apply]
  refine congrArg Q (congrArg₂ ix2 (Fin.ext ?_) (Fin.ext ?_))
  · simp [fl]
  · simp [sp, Fin.rev]
    omega

include hB in
theorem heads_k (a : Fin 4) (s : Fin 2048) (h : Fin 6) : val_main_v16 (F := Ideal) K (ix3 a s h) = k a s (sp h 3) := by
  rw [← hB]
  pointwise [val_main_v16, val_main_v15, val_main_v14, val_main_v13, val_main_v12, Host.reverse_apply]
  refine congrArg K (congrArg₂ ix2 (Fin.ext ?_) (Fin.ext ?_))
  · simp [fl]
  · simp [sp, Fin.rev]
    omega

include hA hB hX hY

/-- The gradient of the logits. -/
theorem v20_at (a : Fin 4) (s : Fin 2048) (h : Fin 6) : val_main_v20 (F := Ideal) Q K P B (ix3 a s h) = gz q k x y a ⟨h.val, by omega⟩ s := by
  have f := factor_at P B x y hX hY a s h
  have w := window_suffix (val_main_v18 (F := Ideal) Q K) (val_main_call2_call0_v0 (F := Ideal))
    reduceWindows_S4x2048x6_S4x2048x6_w1s1p0_0_w2048s1p0_2047_w1s1p0_0 h_S_ (fun i => by pointwise [val_main_call2_call0_v0, val_main_call2_call0_cst, Ideal.ofBits_zero_f32]) a s h
  have g : (fun n => (val_main_v18 (F := Ideal) Q K (ix3 a n h) : EReal)) = fun n => q a n (sp h 0) - k a n (sp h 3) := funext fun n => by
    pointwise [val_main_v18, val_main_v17, heads_q Q q hA, heads_k K k hB]
    exact (sub_eq_add_neg _ _).symm
  rw [g] at w
  unfold gz
  rw [dif_pos (show (⟨h.val, by omega⟩ : Fin 128).val < 6 from h.isLt), ← f, ← w]
  pointwise [val_main_v20, val_main_call3_v1, val_main_call3_v0]
  rw [EReal.neg_mul, neg_neg]
  rfl

theorem dz_at (a : Fin 4) (s : Fin 2048) (l : Fin 128) : val_main_v27 (F := Ideal) Q K P B (ix2 (fl a s) l) = gz q k x y a l s := by
  pointwise [val_main_v27, val_main_v26, val_main_v25, val_main_v24, val_main_cst_1, Ideal.ofBits_zero_f32]
  by_cases h : l.val < 6
  · rw [dif_pos h]
    refine Eq.trans (congrArg (val_main_v20 (F := Ideal) Q K P B) ?_) (v20_at Q K P B q k x y hA hB hX hY a s ⟨l.val, h⟩)
    refine congrArg₂ (fun (a : Fin 4) (s : Fin 2048) => ix3 a s (⟨l.val, h⟩ : Fin 6)) (Fin.ext ?_) (Fin.ext ?_)
    · show (a.val * 2048 + s.val) / 2048 = a.val
      omega
    · show (a.val * 2048 + s.val) % 2048 = s.val
      omega
  · rw [dif_neg h, gz, dif_neg h]

theorem db_at (l : Fin 128) : val_main_v30 (F := Ideal) Q K P B (ix2 0 l) = ∑ a : Fin 4, ∑ s : Fin 2048, gz q k x y a l s := by
  pointwise [val_main_v30, val_main_v29, val_main_v28, val_main_v23, val_main_v22, val_main_v21, val_main_cst_2, val_main_cst_0, val_main_cst, Sums.hostReduceAdd_lead, Ideal.ofBits_zero_f32]
  by_cases h : l.val < 6
  · rw [dif_pos h]
    simp only [Fin.sum_univ_one, Finset.univ_unique, Finset.sum_singleton, zero_add]
    refine Finset.sum_congr rfl fun a _ => Finset.sum_congr rfl fun s _ => ?_
    exact v20_at Q K P B q k x y hA hB hX hY a s ⟨l.val, h⟩
  · rw [dif_neg h]
    refine (Finset.sum_eq_zero fun a _ => Finset.sum_eq_zero fun s _ => ?_).symm
    rw [gz, dif_neg h]
end Cert.GateReferenceIdeal.Real

end
-- ==== Proof.GateKernel.lean ====
/- The gate's gradient as the kernel leaves it: each row's sum to the end of its batch, times the logistic factor, on the
   heads' lanes, and its sum over all rows. -/
module

public import proofs.«01_k».proof.Proof.GateOps
public import proofs.«01_k».proof.Proof.Pad
public import proofs.«01_k».proof.Proof.Sums
public import proofs.«01_k».proof.Proof.Gen.GateKernelIdeal.Value
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open scoped BigOperators

namespace Cert.GateKernelIdeal.Real

open Cert.GateKernelIdeal Cert.GateKernelIdeal.Gen Cert.Gate
open Idealize.ShloMosaic.Pipeline (Dat)

section batch

variable (X Y : Vec Ideal S2048x384 .f32) (Z : Vec Ideal S2048x128 .f32) (Q : Vec Ideal S1x128 .f32)

theorem inb384 (n : Fin 8) : ∀ a, (![256 * n.val, 0] : Fin 2 → Nat) a + S256x384.size a ≤ S2048x384.size a := by
  revert n; decide
theorem inb128 (n : Fin 8) : ∀ a, (![256 * n.val, 0] : Fin 2 → Nat) a + S256x128.size a ≤ S2048x128.size a := by
  revert n; decide

/-- The block's rows `256 n` to `256 n + 255`. -/
def rowsA (X : Vec Ideal S2048x384 .f32) (n : Fin 8) : Vec Ideal S256x384 .f32 :=
  View.ld X (Rect.unit (s := S2048x384) ![256 * n.val, 0] S256x384.size (inb384 n))
def rowsZ (Z : Vec Ideal S2048x128 .f32) (n : Fin 8) : Vec Ideal S256x128 .f32 :=
  View.ld Z (Rect.unit (s := S2048x128) ![256 * n.val, 0] S256x128.size (inb128 n))

theorem rowsA_at (n : Fin 8) (k : Fin 256) (l : Fin 384) : rowsA X n (ix2 k l) = X (ix2 ⟨256 * n.val + k.val, by omega⟩ l) := by
  refine congrArg X (funext fun a => Fin.ext ?_)
  fin_cases a
  · show 256 * n.val + 1 * k.val = _
    rw [Nat.one_mul]; rfl
  · show 0 + 1 * l.val = _
    rw [Nat.one_mul, Nat.zero_add]; rfl
theorem rowsZ_at (n : Fin 8) (k : Fin 256) (l : Fin 128) : rowsZ Z n (ix2 k l) = Z (ix2 ⟨256 * n.val + k.val, by omega⟩ l) := by
  refine congrArg Z (funext fun a => Fin.ext ?_)
  fin_cases a
  · show 256 * n.val + 1 * k.val = _
    rw [Nat.one_mul]; rfl
  · show 0 + 1 * l.val = _
    rw [Nat.one_mul, Nat.zero_add]; rfl

/-- The block read `k` steps from the end. -/
def rev (k : ℕ) : Fin 8 := ⟨7 - k, by omega⟩

/-- The sums carried past `k` blocks from the end, and the gradient of the block read then. -/
def car : ℕ → FVec Ideal S1x128 .f32
  | 0 => k0_pay12 (F := Ideal)
  | k + 1 => next (rowsA X (rev k)) (rowsA Y (rev k)) (car k)
def gblk (k : ℕ) : FVec Ideal S256x128 .f32 :=
  grad (tot (rowsA X (rev k)) (rowsA Y (rev k)) (car X Y k)) (rowsZ Z (rev k)) Q
def acc : ℕ → FVec Ideal S1x128 .f32
  | 0 => k0_pay13 (F := Ideal)
  | k + 1 => addf (acc k) (shapeCast S1x128 (multiReduction .add [0] S128 (gblk X Y Z Q k) 0x00000000#32 reduces_S256x128_S128 (.inl rfl) rfl) shapeCasts_S128_S1x128)

theorem colsum (C : FVec Ideal S1x128 .f32) (G : FVec Ideal S256x128 .f32) (l : Fin 128) :
    addf C (shapeCast S1x128 (multiReduction .add [0] S128 G 0x00000000#32 reduces_S256x128_S128 (.inl rfl) rfl) shapeCasts_S128_S1x128) (ix2 0 l)
      = (C (ix2 0 l) : EReal) + ∑ i : Fin 256, (G (ix2 i l) : EReal) := by
  pointwise

/-- A head's column before its sums are taken. -/
def colr (h : Fin 6) (s : Fin 2048) : EReal := (X (ix2 s (sp h 0)) : EReal) - Y (ix2 s (sp h 3))

theorem car_at (h : Fin 6) : ∀ k : ℕ, k ≤ 8 → car X Y k (ix2 0 (ln h)) = from_ (colr X Y h) (256 * (8 - k)) := by
  have all : ∀ k : ℕ, k ≤ 8 → ∀ h, car X Y k (ix2 0 (ln h)) = from_ (colr X Y h) (256 * (8 - k)) := by
    intro k
    induction k with
    | zero =>
      intro _ h
      rw [show 256 * (8 - 0) = 2048 from rfl, from_end]
      pointwise [car, k0_pay12, Ideal.ofBits_zero_f32]
    | succ k ih =>
      intro hk h
      have r : (rev k).val = 7 - k := rfl
      refine (next_at (rowsA X (rev k)) (rowsA Y (rev k)) (fun s l => X (ix2 s l)) (fun s l => Y (ix2 s l)) (256 * (7 - k)) (by omega)
        (fun i l => rowsA_at X (rev k) i l) (fun i l => rowsA_at Y (rev k) i l) (car X Y k) (fun h => ?_) h).trans ?_
      · rw [ih (by omega) h, show 256 * (8 - k) = 256 * (7 - k) + 256 by omega]
        rfl
      · rw [show 256 * (8 - (k + 1)) = 256 * (7 - k) by omega]
        rfl
  exact fun k hk => all k hk h

variable (x : Fin 2048 → Fin 6 → ℝ) (y : Fin 6 → ℝ) (hZ : ∀ s h, Z (ix2 s (ln h)) = ((x s h : ℝ) : EReal))
  (hQ : ∀ h, Q (ix2 0 (ln h)) = ((y h : ℝ) : EReal))

/-- The gradient of a batch's row. -/
def drow (l : Fin 128) (s : Fin 2048) : EReal :=
  if h : l.val < 6 then from_ (colr X Y ⟨l.val, h⟩) s.val * ((1 / (1 + Real.exp (x s ⟨l.val, h⟩ + y ⟨l.val, h⟩)) : ℝ) : EReal) else 0

include hZ hQ

theorem gblk_at (k : ℕ) (hk : k < 8) (i : Fin 256) (l : Fin 128) :
    gblk X Y Z Q k (ix2 i l) = drow X Y x y l ⟨256 * (7 - k) + i.val, by omega⟩ := by
  unfold gblk drow
  by_cases h : l.val < 6
  · rw [dif_pos h]
    have t := tot_at (rowsA X (rev k)) (rowsA Y (rev k)) (fun s l => X (ix2 s l)) (fun s l => Y (ix2 s l)) (256 * (7 - k)) (by omega)
        (fun i l => rowsA_at X (rev k) i l) (fun i l => rowsA_at Y (rev k) i l) (car X Y k)
        (fun h => by rw [car_at X Y h k (by omega), show 256 * (8 - k) = 256 * (7 - k) + 256 by omega]; rfl) i ⟨l.val, h⟩
    refine (grad_low _ _ _ i ⟨l.val, h⟩ (x ⟨256 * (7 - k) + i.val, by omega⟩ ⟨l.val, h⟩) (y ⟨l.val, h⟩)
      ((rowsZ_at Z (rev k) i _).trans (hZ _ _)) (hQ _)).trans ?_
    exact congrArg (· * _) t
  · rw [dif_neg h, grad_high _ _ _ _ _ h]

theorem acc_at (l : Fin 128) : ∀ k : ℕ, k ≤ 8 → acc X Y Z Q k (ix2 0 l) = from_ (drow X Y x y l) (256 * (8 - k)) := by
  intro k
  induction k with
  | zero =>
    intro _
    rw [show 256 * (8 - 0) = 2048 from rfl, from_end]
    pointwise [acc, k0_pay13, Ideal.ofBits_zero_f32]
  | succ k ih =>
    intro hk
    have b := from_block (drow X Y x y l) (256 * (7 - k)) 0 (by norm_num) (by omega)
    simp only [Nat.zero_le, if_true, one_mul, Nat.add_zero] at b
    have d : acc X Y Z Q (k + 1) (ix2 0 l) = _ := colsum (acc X Y Z Q k) (gblk X Y Z Q k) l
    rw [ih (by omega), show 256 * (8 - k) = 256 * (7 - k) + 256 by omega] at d
    rw [show 256 * (8 - (k + 1)) = 256 * (7 - k) by omega, d, ← b]
    refine (congrArg (fun e : EReal => from_ (drow X Y x y l) (256 * (7 - k) + 256) + e) ?_).trans (add_comm _ _)
    refine Finset.sum_congr rfl fun i _ => ?_
    rw [ext, dif_pos (show 256 * (7 - k) + i.val < 2048 by omega)]
    exact gblk_at X Y Z Q x y hZ hQ k (by omega) i l

/-- A batch's block of the result, whichever of its eight pieces the row lies in. -/
theorem tile (k : ℕ) (hk : k < 8) (i0 : Fin 2048) (i1 : Fin 128) :
    View.TileAt (Val := Elt Ideal) (e := .bf16) (ix2 i0 i1) ![256 * (7 - k), 0] S256x128.size (truncf .bf16 (gblk X Y Z Q k) bitsLt_bf16_f32)
      (drow X Y x y i1 i0) := by
  intro j hj
  have h0 : i0.val = 256 * (7 - k) + (j 0).val := hj 0
  have h1 : i1.val = 0 + (j 1).val := hj 1
  have e : (j : S256x128.Idx) = ix2 (j 0) (j 1) := (eq_ix2 j)
  rw [e]
  refine (gblk_at X Y Z Q x y hZ hQ k hk (j 0) (j 1)).trans ?_
  rw [show (j 1 : Fin 128) = i1 from Fin.ext (by rw [h1, Nat.zero_add])]
  exact congrArg _ (Fin.ext h0.symm)

end batch

end Cert.GateKernelIdeal.Real

end
-- ==== Proof.GateRun.lean ====
/- The gate's gradient kernel over its four grid points, one batch each: its two result arrays. -/
module

public import proofs.«01_k».proof.Proof.GateKernel

@[expose] public section

set_option maxRecDepth 16384

noncomputable section

open Idealize.ShloMosaic Idealize.ShloMosaic.TcCoe Idealize.SL.Sem
open scoped BigOperators

namespace Cert.GateKernelIdeal.Real

open Cert.GateKernelIdeal Cert.GateKernelIdeal.Gen Cert.Gate
open Idealize.ShloMosaic.Pipeline (Dat)

variable (m : (ℓ : Loc nD τ sig) → Buf (Elt Ideal) ℓ) (c : Dev nD)

/-- Where each window sits at a grid point. -/
theorem idx_val : ∀ t : Fin cfg0.N, win0_0.index t = ![t.val, 0] ∧ win0_1.index t = ![t.val, 0] ∧ win0_2.index t = ![t.val, 4]
    ∧ win0_3.index t = ![0, 0] ∧ win0_4.index t = ![t.val, 0] :=
  (by decide +kernel : ∀ t : Fin grid0.N, win0_0.index t = ![t.val, 0] ∧ win0_1.index t = ![t.val, 0] ∧ win0_2.index t = ![t.val, 4]
    ∧ win0_3.index t = ![0, 0] ∧ win0_4.index t = ![t.val, 0])

/-- The last grid point. -/
def tlast : Fin cfg0.N := ⟨3, by rw [show cfg0.N = 4 from N_0]; norm_num⟩

theorem pt_lt (t : Fin cfg0.N) : t.val < 4 := lt_of_lt_of_eq t.isLt N_0

/-- The batch of a grid point. -/
def bat (t : Fin cfg0.N) : Fin 4 := ⟨t.val, pt_lt t⟩

/-- Batch and place of a row of the flattened result. -/
def row (i : S8192x128.Idx) : Fin 4 × Fin 2048 :=
  (⟨(i 0).val / 2048, by have : (i 0).val < 8192 := (i 0).isLt; omega⟩, ⟨(i 0).val % 2048, by omega⟩)

/-- The projection's output with its columns in packed order. -/
def packP (P : FVec Ideal S4x2048x2822 .f32) : FVec Ideal S4x2048x3072 .f32 :=
  let q0 : FVec Ideal S4x2048x1152 .f32 := extractStridedSlice S4x2048x1152 ![0, 0, 0] P slices_S4x2048x2822_S4x2048x1152_0_0_0
  let q1 : FVec Ideal S4x2048x1664 .f32 := extractStridedSlice S4x2048x1664 ![0, 0, 1158] P slices_S4x2048x2822_S4x2048x1664_0_0_1158
  let q2 : FVec Ideal S4x2048x6 .f32 := extractStridedSlice S4x2048x6 ![0, 0, 1152] P slices_S4x2048x2822_S4x2048x6_0_0_1152
  let q3 : FVec Ideal S4x2048x250 .f32 := broadcastInDim S4x2048x250 ![] bcast_S_S4x2048x250 (constant (F := Ideal) S_ .f32 0x00000000#32)
  concatenate S4x2048x3072 2 [⟨S4x2048x1152, q0⟩, ⟨S4x2048x1664, q1⟩, ⟨S4x2048x6, q2⟩, ⟨S4x2048x250, q3⟩]
    concatenates_S4x2048x1152_S4x2048x1664_S4x2048x6_S4x2048x250_S4x2048x3072_d2

theorem packP_at (P : FVec Ideal S4x2048x2822 .f32) (a : Fin 4) (b : Fin 2048) (j : Fin 3072) :
    packP P (ix3 a b j) = Pad.pad (Pad.ext (M := EReal) fun f => P (ix3 a b f)) j.val := by
  unfold packP
  pointwise [Ideal.ofBits_zero_f32]
  exact Pad.pieces_eq (M := EReal) (fun f => P (ix3 a b f)) j.val

theorem pad_gate (f : Fin 2822 → EReal) (h : Fin 6) : Pad.pad (Pad.ext f) (2816 + h.val) = f (lc h) := by
  unfold Pad.pad Pad.ext lc
  rw [if_neg (by omega), if_neg (by omega), if_pos (by omega), dif_pos (by omega)]
  exact congrArg f (Fin.ext (show 2816 + h.val - 1664 = 1152 + h.val by omega))

theorem entry_v6 : V m c main_v6 = shapeCast S8192x768 (extractStridedSlice S4x2048x768 ![0, 0, 2304]
    (packP (m ((c : Thread nD τ).loc main_arg2))) slices_S4x2048x3072_S4x2048x768_0_0_2304) shapeCasts_S4x2048x768_S8192x768 :=
  rfl

theorem iblk0_at (t : Fin cfg0.N) (s : Fin 2048) (l : Fin 384) :
    iblk m c 0 t (ix2 s l) = m ((c : Thread nD τ).loc main_arg0) (ix2 (fl (bat t) s) l) := by
  blk_simp [iblk, idx_val t]
  entry_read
  unfold fl bat
  blk_ext [idx_val t]

theorem iblk1_at (t : Fin cfg0.N) (s : Fin 2048) (l : Fin 384) :
    iblk m c 1 t (ix2 s l) = m ((c : Thread nD τ).loc main_arg1) (ix2 (fl (bat t) s) l) := by
  blk_simp [iblk, idx_val t]
  entry_read
  unfold fl bat
  blk_ext [idx_val t]

theorem iblk2_at (t : Fin cfg0.N) (s : Fin 2048) (h : Fin 6) :
    iblk m c 2 t (ix2 s (ln h)) = m ((c : Thread nD τ).loc main_arg2) (ix3 (bat t) s (lc h)) := by
  refine Eq.trans ?_ ((packP_at (m ((c : Thread nD τ).loc main_arg2)) (bat t) s ⟨2816 + h.val, by omega⟩).trans (pad_gate _ h))
  have p := pt_lt t
  blk_simp [iblk, idx_val t]
  rw [entry_v6]
  generalize packP _ = X
  pointwise
  unfold bat ln
  blk_ext [idx_val t]

/-- The bias on the heads' lanes, zero on the rest. -/
def bias (P : FVec Ideal S6 .f32) : FVec Ideal S1x128 .f32 :=
  let z : FVec Ideal S122 .f32 := broadcastInDim S122 ![] bcast_S_S122 (constant (F := Ideal) S_ .f32 0x00000000#32)
  broadcastInDim S1x128 ![1] bcast_S128_S1x128_1 (concatenate S128 0 [⟨S6, P⟩, ⟨S122, z⟩] concatenates_S6_S122_S128_d0)

theorem bias_at (P : FVec Ideal S6 .f32) (h : Fin 6) : bias P (ix2 0 (ln h)) = P (ix1 h) := by
  unfold bias
  pointwise
  exact dif_pos h.isLt

theorem entry_v9 : V m c main_v9 = bias (m ((c : Thread nD τ).loc main_arg3)) := rfl

theorem iblk3_at (t : Fin cfg0.N) (h : Fin 6) :
    iblk m c 3 t (ix2 0 (ln h)) = m ((c : Thread nD τ).loc main_arg3) (ix1 h) := by
  refine Eq.trans ?_ (bias_at (m ((c : Thread nD τ).loc main_arg3)) h)
  blk_simp [iblk, idx_val t]
  rw [entry_v9]
  generalize bias _ = X
  blk_ext [idx_val t]

variable (q k : Fin 4 → Fin 2048 → Fin 384 → EReal) (x : Fin 4 → Fin 2048 → Fin 6 → ℝ) (y : Fin 6 → ℝ)
  (hA : ∀ a s l, m ((c : Thread nD τ).loc main_arg0) (ix2 (fl a s) l) = q a s l)
  (hB : ∀ a s l, m ((c : Thread nD τ).loc main_arg1) (ix2 (fl a s) l) = k a s l)
  (hX : ∀ a s h, m ((c : Thread nD τ).loc main_arg2) (ix3 a s (lc h)) = ((x a s h : ℝ) : EReal))
  (hY : ∀ h, m ((c : Thread nD τ).loc main_arg3) (ix1 h) = ((y h : ℝ) : EReal))
include hA hB

theorem drow_eq (t : Fin cfg0.N) (l : Fin 128) (s : Fin 2048) :
    drow (iblk m c 0 t) (iblk m c 1 t) (x (bat t)) y l s = gz q k x y (bat t) l s := by
  have e : ∀ h, colr (iblk m c 0 t) (iblk m c 1 t) h = fun s => q (bat t) s (sp h 0) - k (bat t) s (sp h 3) := fun h => funext fun s => by
    unfold colr
    rw [iblk0_at, iblk1_at, hA, hB]
  unfold drow gz
  simp only [e]

include hX hY

/-- The array of the logits' gradient after the run. -/
theorem final_dz : (dats m 0 c).arrAt 4 cfg0.N = fun i => gz q k x y (row i).1 (i 1) (row i).2 := by
  have key := fun (t : Fin cfg0.N) (n : ℕ) (hn : n < 8) (i0 : Fin 2048) (i1 : Fin 128) =>
    tile (iblk m c 0 t) (iblk m c 1 t) (iblk m c 2 t) (iblk m c 3 t) (x (bat t)) y
      (fun s h => (iblk2_at m c t s h).trans (hX _ _ _)) (fun h => (iblk3_at m c t h).trans (hY _)) n hn i0 i1
  refine (dats m 0 c).arrAt_eq_of_covers 4 _ (by decide +kernel) fun t hf i => ?_
  have hw : win0_4.index t 0 = t.val := congrFun (idx_val t).2.2.2.2 0
  have e0 : ∀ (i0 : Fin 2048) (i1 : Fin 128), ((((cfg0.win 4).blk t).view.emb (ix2 i0 i1) 0 : Fin 8192)).val = t.val * 2048 + i0.val := by
    intro i0 i1
    blk_simp
    rw [hw]
  have e : ∀ (i0 : Fin 2048) (i1 : Fin 128), row (((cfg0.win 4).blk t).view.emb (ix2 i0 i1)) = (bat t, i0) := by
    intro i0 i1
    refine Prod.ext (Fin.ext ((congrArg (· / 2048) (e0 i0 i1)).trans ?_)) (Fin.ext ((congrArg (· % 2048) (e0 i0 i1)).trans ?_))
    · show (t.val * 2048 + i0.val) / 2048 = t.val
      omega
    · show (t.val * 2048 + i0.val) % 2048 = i0.val
      omega
  have e1 : ∀ (i0 : Fin 2048) (i1 : Fin 128), ((cfg0.win 4).blk t).view.emb (ix2 i0 i1) 1 = i1 := by
    intro i0 i1
    refine Fin.ext (show (((((cfg0.win 4).blk t).view.emb (ix2 i0 i1) 1 : Fin 128)).val = i1.val) from ?_)
    blk_simp
    rw [show win0_4.index t 1 = 0 from congrFun (idx_val t).2.2.2.2 1, Nat.zero_mul, Nat.zero_add]
  idx_vars i
  show _ = gz q k x y (row _).1 _ (row _).2
  rw [e, e1, ← drow_eq m c q k x y hA hB t]
  blk_simp
  rw [after0_4]
  by_cases h : t.val % 4 = 0
  · rw [outsAt0_A m c t h]
    dsimp only
    frame_out
    refine View.canon_eq_of_allAt _ _ _ (View.cover_of_tiled_head _ _ _ rfl _) ?_
    refine View.allAt_cons_unit _ _ _ _ _ (key t 7 (by norm_num) _ _) ?_
    refine View.allAt_cons_unit _ _ _ _ _ (key t 6 (by norm_num) _ _) ?_
    refine View.allAt_cons_unit _ _ _ _ _ (key t 5 (by norm_num) _ _) ?_
    refine View.allAt_cons_unit _ _ _ _ _ (key t 4 (by norm_num) _ _) ?_
    refine View.allAt_cons_unit _ _ _ _ _ (key t 3 (by norm_num) _ _) ?_
    refine View.allAt_cons_unit _ _ _ _ _ (key t 2 (by norm_num) _ _) ?_
    refine View.allAt_cons_unit _ _ _ _ _ (key t 1 (by norm_num) _ _) ?_
    refine View.allAt_cons_unit _ _ _ _ _ (key t 0 (by norm_num) _ _) ?_
    exact View.allAt_nil _ _
  · rw [outsAt0_B m c t h]
    dsimp only
    frame_out
    refine View.canon_eq_of_allAt _ _ _ (View.cover_of_tiled_head _ _ _ rfl _) ?_
    refine View.allAt_cons_unit _ _ _ _ _ (key t 7 (by norm_num) _ _) ?_
    refine View.allAt_cons_unit _ _ _ _ _ (key t 6 (by norm_num) _ _) ?_
    refine View.allAt_cons_unit _ _ _ _ _ (key t 5 (by norm_num) _ _) ?_
    refine View.allAt_cons_unit _ _ _ _ _ (key t 4 (by norm_num) _ _) ?_
    refine View.allAt_cons_unit _ _ _ _ _ (key t 3 (by norm_num) _ _) ?_
    refine View.allAt_cons_unit _ _ _ _ _ (key t 2 (by norm_num) _ _) ?_
    refine View.allAt_cons_unit _ _ _ _ _ (key t 1 (by norm_num) _ _) ?_
    refine View.allAt_cons_unit _ _ _ _ _ (key t 0 (by norm_num) _ _) ?_
    exact View.allAt_nil _ _

/-- The array of the bias's gradient after the run. -/
theorem final_db (l : Fin 128) : (dats m 0 c).arrAt 5 cfg0.N (ix2 0 l) = ∑ a : Fin 4, ∑ s : Fin 2048, gz q k x y a l s := by
  have key := fun (t : Fin cfg0.N) (v : Vec Ideal S1x128 .f32) (l : Fin 128) => show
      addf (F := Ideal) (shapeCast S1x128 v shapeCasts_S1x128_S1x128) (acc (iblk m c 0 t) (iblk m c 1 t) (iblk m c 2 t) (iblk m c 3 t) 8) (ix2 0 l)
        = (v (ix2 0 l) : EReal) + ∑ s : Fin 2048, gz q k x y (bat t) l s by
    have d := acc_at (iblk m c 0 t) (iblk m c 1 t) (iblk m c 2 t) (iblk m c 3 t) (x (bat t)) y
      (fun s h => (iblk2_at m c t s h).trans (hX _ _ _)) (fun h => (iblk3_at m c t h).trans (hY _)) l 8 le_rfl
    rw [show 256 * (8 - 8) = 0 from rfl, from_zero, Finset.sum_congr rfl fun s _ => drow_eq m c q k x y hA hB t l s] at d
    generalize acc _ _ _ _ 8 = A at d ⊢
    pointwise
    rw [d]
  have S : ∀ l : Fin 128, (∑ t : Fin cfg0.N, ∑ s : Fin 2048, gz q k x y (bat t) l s) = ∑ a : Fin 4, ∑ s : Fin 2048, gz q k x y a l s := fun l =>
    Fintype.sum_equiv (finCongr (show cfg0.N = 4 from N_0)) _ _ fun t => rfl
  have hzero : ∀ j, k0_pay4 (F := Ideal) j = (0 : EReal) := fun j => by pointwise [k0_pay4, Ideal.ofBits_zero_f32]
  refine congrFun ((dats m 0 c).arrAt_eq_of_after_last 5 tlast (by decide +kernel) (fun j => (∑ a : Fin 4, ∑ s : Fin 2048, gz q k x y a (j 1) s : EReal)) fun j => ?_) (ix2 0 l)
  idx_vars j
  blk_simp
  rw [after0_5, Pipeline.eq_sum_fin_of_reset_step_apply_last (fun n h => (outsAt0 m c n h).2) 4 (fun _ => 0)
    (fun t j => (∑ s : Fin 2048, gz q k x y (bat t) (j 1) s : EReal))
      (fun t h j => by
        rw [outsAt0_A m c t h]; frame_out; idx_vars j
        obtain rfl : j0 = 0 := Subsingleton.elim _ _
        exact (key t _ _).trans (congrArg (· + _) (hzero _)))
      (fun t h j => by
        rw [outsAt0_B m c t h]; frame_out; idx_vars j
        obtain rfl : j0 = 0 := Subsingleton.elim _ _
        exact key t _ _) (le_of_eq N_0) tlast rfl _, zero_add]
  exact S _

end Cert.GateKernelIdeal.Real

end
-- ==== Proof.Gate.lean ====
/- The claims about the gate's gradient. -/
module

public import proofs.«01_k».proof.Defs
public import proofs.«01_k».proof.Proof.GateRef
public import proofs.«01_k».proof.Proof.GateRun
public import proofs.«01_k».proof.Proof.Gen.GateKernel.Frame
public import proofs.«01_k».proof.Proof.Gen.GateReferenceIdeal.Run
public import proofs.«01_k».proof.Proof.Gen.Pre_gate_finite
public import Idealize.ShloMosaic.Adequacy
public import Idealize.ShloMosaic.Init
public import Idealize.ShloMosaic.Lib.Claim

@[expose] public section

set_option maxRecDepth 16384

noncomputable section

open Idealize.ShloMosaic Idealize.ShloMosaic.TcCoe Idealize.SL.Sem

namespace Cert.GateProof

open Cert.Lift Cert.Gate

theorem frame_kernel : Cert.quiescent_GateKernel := fun m ρ _ => Cert.GateKernel.Gen.frame m ρ
theorem frame_ideal : Cert.quiescent_GateKernelIdeal := fun m ρ _ => Cert.GateKernelIdeal.Gen.frame m ρ
theorem frame_ideal_pre : Cert.quiescent_GateKernelIdeal_pre_gate_finite := fun m ρ _ => Cert.GateKernelIdeal.Gen.frame m ρ
theorem frame_ref : Cert.quiescent_GateReferenceIdeal := fun m ρ _ =>
  (θ_run _ _ _).mono (fun _ h => ⟨fun c => (h c).2.2, sem_eq_zero_of_no_sems (by decide) _⟩) (Cert.GateReferenceIdeal.Value.run m ρ)
theorem frame_ref_pre : Cert.quiescent_GateReferenceIdeal_pre_gate_finite := fun m ρ _ => frame_ref m ρ trivial

/-- The precondition: the gate's six columns and its bias are real numbers. -/
theorem finite (Q K : FVec Ideal Cert.Pre_gate_finite.S8192x384 .f32) (P : FVec Ideal Cert.Pre_gate_finite.S4x2048x2822 .f32)
    (B : FVec Ideal Cert.Pre_gate_finite.S6 .f32) (h : Cert.Pre_gate_finite.fn (F := Ideal) Q K P B = fun _ => 1#1) :
    (∀ (a : Fin 4) (s : Fin 2048) (e : Fin 6), P (ix3 a s (lc e)) = ((EReal.toReal (P (ix3 a s (lc e))) : ℝ) : EReal))
      ∧ (∀ i, B i = ((EReal.toReal (B i) : ℝ) : EReal)) := by
  have h0 := congrFun h ix0
  simp only [Cert.Pre_gate_finite.fn, andi, IntOp.andi_eq_one] at h0
  obtain ⟨⟨-, ha⟩, hb⟩ := h0
  refine ⟨fun a s e => ?_, fun i => finite_of_all _ _ _ (fun _ => bits_inf) _ _ _ _ hb i⟩
  have f := finite_of_all _ _ _ (fun _ => bits_inf) _ _ _ _ ha (ix3 a s e)
  have g : extractStridedSlice Cert.Pre_gate_finite.S4x2048x6 ![0, 0, 1152] P Cert.Pre_gate_finite.Facts.slices_S4x2048x2822_S4x2048x6_0_0_1152 (ix3 a s e)
      = P (ix3 a s (lc e)) := by
    pointwise
    rfl
  rwa [g] at f

/-- Kernel and reference end with the same two arrays. -/
theorem value : Cert.algebraic_GateKernelIdeal_GateReferenceIdeal_pre_gate_finite := by
  intro m ρ m' ρ' hpre hagree
  refine ⟨_, _, Cert.GateKernelIdeal.Value.run_blocks m ρ, (θ_run _ _ _).mono (fun r h c => ?_) (Cert.GateReferenceIdeal.Value.run m' ρ')⟩
  obtain ⟨hP, hB⟩ := finite _ _ _ _ (hpre c)
  obtain ⟨a0, a1, a2, a3⟩ := hagree c
  have kB := fun e => hB (ix1 e)
  obtain ⟨h27, h30, hargs⟩ := h c
  refine ⟨h27.trans ?_, h30.trans ?_, hargs⟩
  · rw [Cert.GateKernelIdeal.Real.final_dz m c _ _ _ _ (fun _ _ _ => rfl) (fun _ _ _ => rfl) hP kB, Cert.GateReferenceIdeal.Read.val_main_v27_eq, a0, a1, a2, a3]
    funext i
    idx_vars i
    have e : i0 = fl (Cert.GateKernelIdeal.Real.row (ix2 i0 i1)).1 (Cert.GateKernelIdeal.Real.row (ix2 i0 i1)).2 :=
      Fin.ext (show i0.val = i0.val / 2048 * 2048 + i0.val % 2048 by omega)
    refine (congrArg (fun j => Cert.GateReferenceIdeal.Read.val_main_v27 (F := Ideal) _ _ _ _ (ix2 j i1)) e).trans ?_
    exact Cert.GateReferenceIdeal.Real.dz_at _ _ _ _ _ _ _ _ (fun _ _ _ => rfl) (fun _ _ _ => rfl) hP kB _ _ i1
  · refine (Cert.GateReferenceIdeal.Read.val_main_v30_eq _ _).trans ?_
    rw [a0, a1, a2, a3]
    funext i
    idx_vars i
    obtain rfl : i0 = 0 := Subsingleton.elim _ _
    exact (Cert.GateReferenceIdeal.Real.db_at _ _ _ _ _ _ _ _ (fun _ _ _ => rfl) (fun _ _ _ => rfl) hP kB i1).trans
      (Cert.GateKernelIdeal.Real.final_db m c _ _ _ _ (fun _ _ _ => rfl) (fun _ _ _ => rfl) hP kB i1).symm

end Cert.GateProof

end
-- ==== Proof.NormFwd.lean ====
/- The root-mean-square norm of a row of extended reals, as both sides compute it, and a sum in four parts. -/
module

public import proofs.«01_k».proof.Proof.Lift

@[expose] public section

noncomputable section

open Idealize.ShloMosaic
open scoped BigOperators

namespace Cert.NormFwd

/-- Entry `d` of the row `f`, divided by the row's root mean square and multiplied by the gain `g`. -/
def out (f : Fin 1024 → EReal) (g : EReal) (d : Fin 1024) : EReal :=
  f d * Ideal.rsqrt (Ideal.div (∑ k, f k * f k) (Ideal.ofBits .f32 0x44800000#32) + Ideal.ofBits .f32 0x358637BD#32) * g

/-- The sum of products of two rows on top of a first term. -/
def onto {K : ℕ} (x : EReal) (f g : Fin K → EReal) : EReal := x + ∑ k, f k * g k

/-- Entry `j` of part `k` of a row of 2816. -/
def part (k : Fin 4) (j : Fin 704) : Fin 2816 := ⟨k.val * 704 + j.val, by omega⟩

/-- A row of 2816 summed part by part onto a first term. -/
theorem sum_four (x : EReal) (F : Fin 2816 → EReal) :
    x + ∑ j, F (part 0 j) + ∑ j, F (part 1 j) + ∑ j, F (part 2 j) + ∑ j, F (part 3 j) = x + ∑ f, F f := by
  have h : ∑ f, F f = ∑ k : Fin 4, ∑ j : Fin 704, F (part k j) := by
    rw [← Fintype.sum_prod_type', ← (finProdFinEquiv (m := 4) (n := 704)).sum_comp]
    refine Finset.sum_congr rfl fun p _ => congrArg F (Fin.ext ?_)
    show p.2.val + 704 * p.1.val = p.1.val * 704 + p.2.val
    omega
  rw [h, Fin.sum_univ_four]
  simp only [add_assoc]

end Cert.NormFwd

end
-- ==== Proof.Norm.lean ====
/- The first norm of the step: kernel and reference end with the same array, for all arguments. -/
module

public import proofs.«01_k».proof.Defs
public import proofs.«01_k».proof.Proof.NormFwd
public import proofs.«01_k».proof.Proof.Gen.NormKernel.Frame
public import proofs.«01_k».proof.Proof.Gen.NormKernelIdeal.Value
public import proofs.«01_k».proof.Proof.Gen.NormReferenceIdeal.Run
public import proofs.«01_k».proof.Proof.Gen.NormReferenceIdeal.Read
public import Idealize.ShloMosaic.Lib.Pointwise
public import Idealize.ShloMosaic.Lib.IdealHost
public import Idealize.ShloMosaic.Lib.Pipeline.ValueKit
public import Idealize.ShloMosaic.Adequacy
public import Idealize.ShloMosaic.Init
public import Idealize.ShloMosaic.Lib.Claim

@[expose] public section

set_option maxRecDepth 16384

noncomputable section

open Idealize.ShloMosaic Idealize.ShloMosaic.TcCoe Idealize.SL.Sem
open scoped BigOperators

namespace Cert.NormKernelIdeal.Real

open Cert.NormKernelIdeal Cert.NormKernelIdeal.Gen Cert.NormFwd
open Idealize.ShloMosaic.Pipeline (Dat)

variable (m : (ℓ : Loc nD τ sig) → Buf (Elt Ideal) ℓ) (c : Dev nD)

theorem pay1_at (v0 : Vec Ideal S512x1024 .f32) (v12 : Vec Ideal S1x1024 .f32) (r : Fin 512) (d : Fin 1024) :
    k0_pay1 (F := Ideal) v0 v12 (ix2 r d) = out (fun k => v0 (ix2 r k)) (v12 (ix2 0 d)) d := by
  pointwise [k0_pay1]
  rfl

/-- Where each window sits at a grid point. -/
theorem idx_val : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

theorem pt_lt (t : Fin cfg0.N) : t.val < 16 := lt_of_lt_of_eq t.isLt N_0

/-- Row `r` of point `t`'s block: its batch, and its place in the sequence. -/
def bat (t : Fin cfg0.N) (r : Fin 512) : Fin 4 := ⟨(t.val * 512 + r.val) / 2048, by have := pt_lt t; omega⟩
def pos (t : Fin cfg0.N) (r : Fin 512) : Fin 2048 := ⟨(t.val * 512 + r.val) % 2048, by omega⟩

/-- Batch and place of a row of the flattened array. -/
def row (i : S8192x1024.Idx) : Fin 4 × Fin 2048 :=
  (⟨(i 0).val / 2048, by have : (i 0).val < 8192 := (i 0).isLt; omega⟩, ⟨(i 0).val % 2048, by omega⟩)

theorem iblk0_at (t : Fin cfg0.N) (r : Fin 512) (d : Fin 1024) :
    iblk m c 0 t (ix2 r d) = m ((c : Thread nD τ).loc main_arg0) (ix3 (bat t r) (pos t r) d) := by
  blk_simp [iblk, idx_val t]
  entry_read
  pointwise
  unfold bat pos
  blk_ext [idx_val t]

theorem iblk1_at (t : Fin cfg0.N) (d : Fin 1024) :
    iblk m c 1 t (ix2 0 d) = m ((c : Thread nD τ).loc main_arg1) (ix1 d) := by
  blk_simp [iblk, idx_val t]
  entry_read
  pointwise
  blk_ext [idx_val t]

theorem point (t : Fin cfg0.N) (r : Fin 512) (d : Fin 1024) :
    k0_pay1 (F := Ideal) (iblk m c 0 t) (iblk m c 1 t) (ix2 r d) = out (fun k => m ((c : Thread nD τ).loc main_arg0) (ix3 (bat t r) (pos t r) k)) (m ((c : Thread nD τ).loc main_arg1) (ix1 d)) d := by
  refine (pay1_at _ _ r d).trans ?_
  simp only [iblk0_at, iblk1_at]

/-- The array after the run. -/
theorem final : (dats m 0 c).arrAt 2 cfg0.N = fun i => out (fun k => m ((c : Thread nD τ).loc main_arg0) (ix3 (row i).1 (row i).2 k)) (m ((c : Thread nD τ).loc main_arg1) (ix1 (i 1))) (i 1) := by
  refine (dats m 0 c).arrAt_eq_of_covers 2 _ (by decide +kernel) fun t hf i => ?_
  have hw : win0_2.index t 0 = t.val := congrFun (idx_val t).2.2 0
  have e0 : ∀ (i0 : Fin 512) (i1 : Fin 1024), ((((cfg0.win 2).blk t).view.emb (ix2 i0 i1) 0 : Fin 8192)).val = t.val * 512 + i0.val := by
    intro i0 i1
    blk_simp
    rw [hw]
  have e : ∀ (i0 : Fin 512) (i1 : Fin 1024), row (((cfg0.win 2).blk t).view.emb (ix2 i0 i1)) = (bat t i0, pos t i0) := by
    intro i0 i1
    exact Prod.ext (Fin.ext (congrArg (· / 2048) (e0 i0 i1))) (Fin.ext (congrArg (· % 2048) (e0 i0 i1)))
  have e1 : ∀ (i0 : Fin 512) (i1 : Fin 1024), ((cfg0.win 2).blk t).view.emb (ix2 i0 i1) 1 = i1 := by
    intro i0 i1
    refine Fin.ext (show (((((cfg0.win 2).blk t).view.emb (ix2 i0 i1) 1 : Fin 1024)).val = i1.val) from ?_)
    blk_simp
    rw [show win0_2.index t 1 = 0 from congrFun (idx_val t).2.2 1, Nat.zero_mul, Nat.zero_add]
  idx_vars i
  show _ = out (fun k => m ((c : Thread nD τ).loc main_arg0) (ix3 (row _).1 (row _).2 k)) (m ((c : Thread nD τ).loc main_arg1) (ix1 _)) _
  rw [e, e1]
  blk_simp
  rw [after0_2]
  frame_out
  exact point m c t _ _

end Cert.NormKernelIdeal.Real

namespace Cert.NormReferenceIdeal.Real

open Cert.NormReferenceIdeal Cert.NormReferenceIdeal.Gen Cert.NormReferenceIdeal.Read Cert.NormFwd

theorem v12_at (X : FVec Ideal S4x2048x1024 .f32) (G : FVec Ideal S1024 .f32) (a : Fin 4) (b : Fin 2048) (d : Fin 1024) :
    val_main_v12 (F := Ideal) X G (ix3 a b d) = out (fun k => X (ix3 a b k)) (G (ix1 d)) d := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]
  rfl

end Cert.NormReferenceIdeal.Real

namespace Cert.NormProof

theorem frame_kernel : Cert.quiescent_NormKernel := fun m ρ _ => Cert.NormKernel.Gen.frame m ρ
theorem frame_ideal : Cert.quiescent_NormKernelIdeal := fun m ρ _ => Cert.NormKernelIdeal.Gen.frame m ρ
theorem frame_ref : Cert.quiescent_NormReferenceIdeal := fun m ρ _ =>
  (θ_run _ _ _).mono (fun _ h => ⟨fun c => (h c).2, sem_eq_zero_of_no_sems (by decide) _⟩) (Cert.NormReferenceIdeal.Value.run m ρ)

/-- Kernel and reference end with the same array. -/
theorem value : Cert.algebraic_NormKernelIdeal_NormReferenceIdeal := by
  intro m ρ m' ρ' _ hagree
  refine ⟨_, Cert.NormKernelIdeal.Value.run_blocks m ρ, (θ_run _ _ _).mono (fun r h c => ?_) (Cert.NormReferenceIdeal.Value.run m' ρ')⟩
  obtain ⟨a0, a1⟩ := hagree c
  obtain ⟨h14, hargs⟩ := h c
  refine ⟨h14.trans ?_, hargs⟩
  refine (Cert.NormReferenceIdeal.Read.val_main_v14_eq _ _).trans ?_
  rw [a0, a1, Cert.NormKernelIdeal.Real.final m c]
  funext i
  idx_vars i
  pointwise [Cert.NormReferenceIdeal.Read.val_main_v14, Cert.NormReferenceIdeal.Read.val_main_v13, Cert.NormReferenceIdeal.Real.v12_at]
  rfl

end Cert.NormProof

end
-- ==== Proof.Mmo.lean ====
/- The attention's output product with the residual and the second norm: kernel and reference end with the same two arrays, for all arguments. -/
module

public import proofs.«01_k».proof.Defs
public import proofs.«01_k».proof.Proof.NormFwd
public import proofs.«01_k».proof.Proof.Gen.MmoKernel.Frame
public import proofs.«01_k».proof.Proof.Gen.MmoKernelIdeal.Value
public import proofs.«01_k».proof.Proof.Gen.MmoReferenceIdeal.Run
public import proofs.«01_k».proof.Proof.Gen.MmoReferenceIdeal.Read
public import Idealize.ShloMosaic.Lib.Pointwise
public import Idealize.ShloMosaic.Lib.IdealHost
public import Idealize.ShloMosaic.Lib.Pipeline.ValueKit
public import Idealize.ShloMosaic.Adequacy
public import Idealize.ShloMosaic.Init
public import Idealize.ShloMosaic.Lib.Claim

@[expose] public section

set_option maxRecDepth 16384

noncomputable section

open Idealize.ShloMosaic Idealize.ShloMosaic.TcCoe Idealize.SL.Sem
open scoped BigOperators

namespace Cert.MmoKernelIdeal.Real

open Cert.MmoKernelIdeal Cert.MmoKernelIdeal.Gen Cert.NormFwd
open Idealize.ShloMosaic.Pipeline (Dat)

variable (m : (ℓ : Loc nD τ sig) → Buf (Elt Ideal) ℓ) (c : Dev nD)

theorem pay1_at (v0 : Vec Ideal S512x1024 .f32) (v2 : Vec Ideal S1x512x1024 .bf16) (v4 : Vec Ideal S1x1024x1024 .bf16) (r : Fin 512) (d : Fin 1024) :
    k0_pay1 (F := Ideal) v0 v2 v4 (ix2 r d) = (v0 (ix2 r d) : EReal) + ∑ k : Fin 1024, (v2 (ix3 0 r k) : EReal) * v4 (ix3 0 k d) := by
  pointwise [k0_pay1]

theorem pay2_at (v0 : Vec Ideal S512x1024 .f32) (v2 : Vec Ideal S1x512x1024 .bf16) (v4 : Vec Ideal S1x1024x1024 .bf16) (v19 : Vec Ideal S1x1024 .f32)
    (r : Fin 512) (d : Fin 1024) :
    k0_pay2 (F := Ideal) v0 v2 v4 v19 (ix2 r d) = out (fun k => k0_pay1 (F := Ideal) v0 v2 v4 (ix2 r k)) (v19 (ix2 0 d)) d := by
  pointwise [k0_pay2, k0_pay1]
  rfl

/-- Where each window sits at a grid point. -/
theorem idx_val : ∀ t : Fin cfg0.N, win0_0.index t = ![0, t.val, 0] ∧ win0_1.index t = ![0, 0, 0] ∧ win0_2.index t = ![t.val, 0]
    ∧ win0_3.index t = ![0, 0] ∧ win0_4.index t = ![t.val, 0] ∧ win0_5.index t = ![t.val, 0] :=
  (by decide +kernel : ∀ t : Fin grid0.N, win0_0.index t = ![0, t.val, 0] ∧ win0_1.index t = ![0, 0, 0] ∧ win0_2.index t = ![t.val, 0]
    ∧ win0_3.index t = ![0, 0] ∧ win0_4.index t = ![t.val, 0] ∧ win0_5.index t = ![t.val, 0])

theorem pt_lt (t : Fin cfg0.N) : t.val < 16 := lt_of_lt_of_eq t.isLt N_0

/-- Row `r` of point `t`'s block: its batch, and its place in the sequence. -/
def bat (t : Fin cfg0.N) (r : Fin 512) : Fin 4 := ⟨(t.val * 512 + r.val) / 2048, by have := pt_lt t; omega⟩
def pos (t : Fin cfg0.N) (r : Fin 512) : Fin 2048 := ⟨(t.val * 512 + r.val) % 2048, by omega⟩

/-- Batch and place of a row of the flattened array. -/
def row (i : S8192x1024.Idx) : Fin 4 × Fin 2048 :=
  (⟨(i 0).val / 2048, by have : (i 0).val < 8192 := (i 0).isLt; omega⟩, ⟨(i 0).val % 2048, by omega⟩)

theorem iblk0_at (t : Fin cfg0.N) (r : Fin 512) (d : Fin 1024) :
    iblk m c 0 t (ix3 0 r d) = m ((c : Thread nD τ).loc main_arg0) (ix3 (bat t r) (pos t r) d) := by
  blk_simp [iblk, idx_val t]
  entry_read
  pointwise
  unfold bat pos
  blk_ext [idx_val t]

theorem iblk1_at (t : Fin cfg0.N) (k d : Fin 1024) :
    iblk m c 1 t (ix3 0 k d) = m ((c : Thread nD τ).loc main_arg1) (ix2 k d) := by
  blk_simp [iblk, idx_val t]
  entry_read
  pointwise
  blk_ext [idx_val t]

theorem iblk2_at (t : Fin cfg0.N) (r : Fin 512) (d : Fin 1024) :
    iblk m c 2 t (ix2 r d) = m ((c : Thread nD τ).loc main_arg2) (ix3 (bat t r) (pos t r) d) := by
  blk_simp [iblk, idx_val t]
  entry_read
  pointwise
  unfold bat pos
  blk_ext [idx_val t]

theorem iblk3_at (t : Fin cfg0.N) (d : Fin 1024) :
    iblk m c 3 t (ix2 0 d) = m ((c : Thread nD τ).loc main_arg3) (ix1 d) := by
  blk_simp [iblk, idx_val t]
  entry_read
  pointwise
  blk_ext [idx_val t]

/-- A row of the residual plus the product. -/
def acc (a : Fin 4) (b : Fin 2048) (d : Fin 1024) : EReal :=
  onto (m ((c : Thread nD τ).loc main_arg2) (ix3 a b d)) (fun k => m ((c : Thread nD τ).loc main_arg0) (ix3 a b k)) (fun k => m ((c : Thread nD τ).loc main_arg1) (ix2 k d))

theorem point_x (t : Fin cfg0.N) (r : Fin 512) (d : Fin 1024) :
    k0_pay1 (F := Ideal) (iblk m c 2 t) (iblk m c 0 t) (iblk m c 1 t) (ix2 r d) = acc m c (bat t r) (pos t r) d := by
  refine (pay1_at _ _ _ r d).trans ?_
  simp only [iblk0_at, iblk1_at, iblk2_at, acc, onto]

theorem point_h (t : Fin cfg0.N) (r : Fin 512) (d : Fin 1024) :
    k0_pay2 (F := Ideal) (iblk m c 2 t) (iblk m c 0 t) (iblk m c 1 t) (iblk m c 3 t) (ix2 r d)
      = out (acc m c (bat t r) (pos t r)) (m ((c : Thread nD τ).loc main_arg3) (ix1 d)) d := by
  refine (pay2_at _ _ _ _ r d).trans ?_
  simp only [point_x, iblk3_at]

/-- The array of the sum after the run. -/
theorem final_x : (dats m 0 c).arrAt 4 cfg0.N = fun i => acc m c (row i).1 (row i).2 (i 1) := by
  refine (dats m 0 c).arrAt_eq_of_covers 4 _ (by decide +kernel) fun t hf i => ?_
  have hw : win0_4.index t 0 = t.val := congrFun (idx_val t).2.2.2.2.1 0
  have e0 : ∀ (i0 : Fin 512) (i1 : Fin 1024), ((((cfg0.win 4).blk t).view.emb (ix2 i0 i1) 0 : Fin 8192)).val = t.val * 512 + i0.val := by
    intro i0 i1
    blk_simp
    rw [hw]
  have e : ∀ (i0 : Fin 512) (i1 : Fin 1024), row (((cfg0.win 4).blk t).view.emb (ix2 i0 i1)) = (bat t i0, pos t i0) := by
    intro i0 i1
    exact Prod.ext (Fin.ext (congrArg (· / 2048) (e0 i0 i1))) (Fin.ext (congrArg (· % 2048) (e0 i0 i1)))
  have e1 : ∀ (i0 : Fin 512) (i1 : Fin 1024), ((cfg0.win 4).blk t).view.emb (ix2 i0 i1) 1 = i1 := by
    intro i0 i1
    refine Fin.ext (show (((((cfg0.win 4).blk t).view.emb (ix2 i0 i1) 1 : Fin 1024)).val = i1.val) from ?_)
    blk_simp
    rw [show win0_4.index t 1 = 0 from congrFun (idx_val t).2.2.2.2.1 1, Nat.zero_mul, Nat.zero_add]
  idx_vars i
  show _ = acc m c (row _).1 (row _).2 _
  rw [e, e1]
  blk_simp
  rw [after0_4]
  frame_out
  exact point_x m c t _ _

/-- The array of the norm after the run. -/
theorem final_h : (dats m 0 c).arrAt 5 cfg0.N = fun i => out (acc m c (row i).1 (row i).2) (m ((c : Thread nD τ).loc main_arg3) (ix1 (i 1))) (i 1) := by
  refine (dats m 0 c).arrAt_eq_of_covers 5 _ (by decide +kernel) fun t hf i => ?_
  have hw : win0_5.index t 0 = t.val := congrFun (idx_val t).2.2.2.2.2 0
  have e0 : ∀ (i0 : Fin 512) (i1 : Fin 1024), ((((cfg0.win 5).blk t).view.emb (ix2 i0 i1) 0 : Fin 8192)).val = t.val * 512 + i0.val := by
    intro i0 i1
    blk_simp
    rw [hw]
  have e : ∀ (i0 : Fin 512) (i1 : Fin 1024), row (((cfg0.win 5).blk t).view.emb (ix2 i0 i1)) = (bat t i0, pos t i0) := by
    intro i0 i1
    exact Prod.ext (Fin.ext (congrArg (· / 2048) (e0 i0 i1))) (Fin.ext (congrArg (· % 2048) (e0 i0 i1)))
  have e1 : ∀ (i0 : Fin 512) (i1 : Fin 1024), ((cfg0.win 5).blk t).view.emb (ix2 i0 i1) 1 = i1 := by
    intro i0 i1
    refine Fin.ext (show (((((cfg0.win 5).blk t).view.emb (ix2 i0 i1) 1 : Fin 1024)).val = i1.val) from ?_)
    blk_simp
    rw [show win0_5.index t 1 = 0 from congrFun (idx_val t).2.2.2.2.2 1, Nat.zero_mul, Nat.zero_add]
  idx_vars i
  show _ = out (acc m c (row _).1 (row _).2) (m ((c : Thread nD τ).loc main_arg3) (ix1 _)) _
  rw [e, e1]
  blk_simp
  rw [after0_5]
  frame_out
  exact point_h m c t _ _

end Cert.MmoKernelIdeal.Real

namespace Cert.MmoReferenceIdeal.Real

open Cert.MmoReferenceIdeal Cert.MmoReferenceIdeal.Gen Cert.MmoReferenceIdeal.Read Cert.NormFwd

variable (A : FVec Ideal S4x2048x1024 .f32) (W : FVec Ideal S1024x1024 .f32) (X : FVec Ideal S4x2048x1024 .f32) (G : FVec Ideal S1024 .f32)

theorem v1_at (a : Fin 4) (b : Fin 2048) (d : Fin 1024) :
    val_main_v1 (F := Ideal) A W X (ix3 a b d) = (X (ix3 a b d) : EReal) + ∑ k : Fin 1024, (A (ix3 a b k) : EReal) * W (ix2 k d) := by
  pointwise [val_main_v1, val_main_v0]

theorem v15_at (a : Fin 4) (b : Fin 2048) (d : Fin 1024) :
    val_main_v15 (F := Ideal) A W X G (ix3 a b d) = out (fun k => val_main_v1 (F := Ideal) A W X (ix3 a b k)) (G (ix1 d)) d := by
  pointwise [val_main_v15, val_main_v14, val_main_v13, val_main_v12, val_main_v11, val_main_v10, val_main_v9, val_main_v8, val_main_v7,
    val_main_v6, val_main_v5, val_main_v4, val_main_v3, val_main_cst, val_main_cst_0, val_main_cst_1]
  rfl

end Cert.MmoReferenceIdeal.Real

namespace Cert.MmoProof

theorem frame_kernel : Cert.quiescent_MmoKernel := fun m ρ _ => Cert.MmoKernel.Gen.frame m ρ
theorem frame_ideal : Cert.quiescent_MmoKernelIdeal := fun m ρ _ => Cert.MmoKernelIdeal.Gen.frame m ρ
theorem frame_ref : Cert.quiescent_MmoReferenceIdeal := fun m ρ _ =>
  (θ_run _ _ _).mono (fun _ h => ⟨fun c => (h c).2.2, sem_eq_zero_of_no_sems (by decide) _⟩) (Cert.MmoReferenceIdeal.Value.run m ρ)

/-- Kernel and reference end with the same two arrays. -/
theorem value : Cert.algebraic_MmoKernelIdeal_MmoReferenceIdeal := by
  intro m ρ m' ρ' _ hagree
  refine ⟨_, _, Cert.MmoKernelIdeal.Value.run_blocks m ρ, (θ_run _ _ _).mono (fun r h c => ?_) (Cert.MmoReferenceIdeal.Value.run m' ρ')⟩
  obtain ⟨a0, a1, a2, a3⟩ := hagree c
  obtain ⟨h2, h17, hargs⟩ := h c
  refine ⟨h2.trans ?_, h17.trans ?_, hargs⟩
  · refine (Cert.MmoReferenceIdeal.Read.val_main_v2_eq _ _ _).trans ?_
    rw [a0, a1, a2, Cert.MmoKernelIdeal.Real.final_x m c]
    funext i
    idx_vars i
    pointwise [Cert.MmoReferenceIdeal.Read.val_main_v2, Cert.MmoReferenceIdeal.Real.v1_at]
    rfl
  · refine (Cert.MmoReferenceIdeal.Read.val_main_v17_eq _ _ _ _).trans ?_
    rw [a0, a1, a2, a3, Cert.MmoKernelIdeal.Real.final_h m c]
    funext i
    idx_vars i
    pointwise [Cert.MmoReferenceIdeal.Read.val_main_v17, Cert.MmoReferenceIdeal.Read.val_main_v16, Cert.MmoReferenceIdeal.Real.v15_at, Cert.MmoReferenceIdeal.Real.v1_at]
    rfl

end Cert.MmoProof

end
-- ==== Proof.Mmd.lean ====
/- The product with the down projection, the residual and the next norm: kernel and reference end with the same two arrays, for all arguments. -/
module

public import proofs.«01_k».proof.Defs
public import proofs.«01_k».proof.Proof.NormFwd
public import proofs.«01_k».proof.Proof.Gen.MmdKernel.Frame
public import proofs.«01_k».proof.Proof.Gen.MmdKernelIdeal.Value
public import proofs.«01_k».proof.Proof.Gen.MmdReferenceIdeal.Run
public import proofs.«01_k».proof.Proof.Gen.MmdReferenceIdeal.Read
public import Idealize.ShloMosaic.Lib.Pointwise
public import Idealize.ShloMosaic.Lib.IdealHost
public import Idealize.ShloMosaic.Lib.Pipeline.ValueKit
public import Idealize.ShloMosaic.Adequacy
public import Idealize.ShloMosaic.Init
public import Idealize.ShloMosaic.Lib.Claim

@[expose] public section

set_option maxRecDepth 16384

noncomputable section

open Idealize.ShloMosaic Idealize.ShloMosaic.TcCoe Idealize.SL.Sem
open scoped BigOperators

namespace Cert.MmdKernelIdeal.Real

open Cert.MmdKernelIdeal Cert.MmdKernelIdeal.Gen Cert.NormFwd
open Idealize.ShloMosaic.Pipeline (Dat)

variable (m : (ℓ : Loc nD τ sig) → Buf (Elt Ideal) ℓ) (c : Dev nD)

/-- The row sums of a point's block: the residual's block plus the four products. -/
theorem sums_at (A : Vec Ideal S4x512x704 .bf16) (B : Vec Ideal S4x704x1024 .bf16) (X : Vec Ideal S512x1024 .f32) (G : Vec Ideal S1x1024 .f32)
    (a : Fin 2816 → EReal) (b : Fin 2816 → EReal)
    (r : Fin 512) (d : Fin 1024) (hA : ∀ k j, A (ix3 k r j) = a (part k j)) (hB : ∀ k j, B (ix3 k j d) = b (part k j)) :
    k0_pay3 (F := Ideal) A B X G (ix2 r d) = (X (ix2 r d) : EReal) + ∑ f, a f * b f := by
  pointwise [k0_pay3, k0_pay2, r0_0, r0_1, r0_2, r0_3, r0_4, r0_5, r0_6, r0_7, r0_8]
  simp only [hA, hB, zero_add]
  exact sum_four _ fun f => a f * b f

theorem pay1_at (v25 : FVec Ideal S512x1024 .f32) (v37 : Vec Ideal S1x1024 .f32) (r : Fin 512) (d : Fin 1024) :
    k0_pay1 (F := Ideal) v25 v37 (ix2 r d) = out (fun k => v25 (ix2 r k)) (v37 (ix2 0 d)) d := by
  pointwise [k0_pay1]
  rfl

/-- Where each window sits at a grid point. -/
theorem idx_val : ∀ t : Fin cfg0.N, win0_0.index t = ![0, t.val, 0] ∧ win0_1.index t = ![0, 0, 0] ∧ win0_2.index t = ![t.val, 0]
    ∧ win0_3.index t = ![0, 0] ∧ win0_4.index t = ![t.val, 0] ∧ win0_5.index t = ![t.val, 0] :=
  (by decide +kernel : ∀ t : Fin grid0.N, win0_0.index t = ![0, t.val, 0] ∧ win0_1.index t = ![0, 0, 0] ∧ win0_2.index t = ![t.val, 0]
    ∧ win0_3.index t = ![0, 0] ∧ win0_4.index t = ![t.val, 0] ∧ win0_5.index t = ![t.val, 0])

theorem pt_lt (t : Fin cfg0.N) : t.val < 16 := lt_of_lt_of_eq t.isLt N_0

/-- Row `r` of point `t`'s block: its batch, and its place in the sequence. -/
def bat (t : Fin cfg0.N) (r : Fin 512) : Fin 4 := ⟨(t.val * 512 + r.val) / 2048, by have := pt_lt t; omega⟩
def pos (t : Fin cfg0.N) (r : Fin 512) : Fin 2048 := ⟨(t.val * 512 + r.val) % 2048, by omega⟩

/-- Batch and place of a row of the flattened array. -/
def row (i : S8192x1024.Idx) : Fin 4 × Fin 2048 :=
  (⟨(i 0).val / 2048, by have : (i 0).val < 8192 := (i 0).isLt; omega⟩, ⟨(i 0).val % 2048, by omega⟩)

theorem iblk0_at (t : Fin cfg0.N) (k : Fin 4) (r : Fin 512) (j : Fin 704) :
    iblk m c 0 t (ix3 k r j) = m ((c : Thread nD τ).loc main_arg0) (ix3 (bat t r) (pos t r) (part k j)) := by
  blk_simp [iblk, idx_val t]
  entry_read
  pointwise
  unfold bat pos part
  blk_ext [idx_val t]

theorem iblk1_at (t : Fin cfg0.N) (k : Fin 4) (j : Fin 704) (d : Fin 1024) :
    iblk m c 1 t (ix3 k j d) = m ((c : Thread nD τ).loc main_arg1) (ix2 (part k j) d) := by
  blk_simp [iblk, idx_val t]
  entry_read
  pointwise
  unfold part
  blk_ext [idx_val t]

theorem iblk2_at (t : Fin cfg0.N) (r : Fin 512) (d : Fin 1024) :
    iblk m c 2 t (ix2 r d) = m ((c : Thread nD τ).loc main_arg2) (ix3 (bat t r) (pos t r) d) := by
  blk_simp [iblk, idx_val t]
  entry_read
  pointwise
  unfold bat pos
  blk_ext [idx_val t]

theorem iblk3_at (t : Fin cfg0.N) (d : Fin 1024) :
    iblk m c 3 t (ix2 0 d) = m ((c : Thread nD τ).loc main_arg3) (ix1 d) := by
  blk_simp [iblk, idx_val t]
  entry_read
  pointwise
  blk_ext [idx_val t]

/-- A row of the residual plus the product. -/
def acc (a : Fin 4) (b : Fin 2048) (d : Fin 1024) : EReal :=
  onto (m ((c : Thread nD τ).loc main_arg2) (ix3 a b d)) (fun k => m ((c : Thread nD τ).loc main_arg0) (ix3 a b k)) (fun k => m ((c : Thread nD τ).loc main_arg1) (ix2 k d))

theorem point_x (t : Fin cfg0.N) (r : Fin 512) (d : Fin 1024) :
    k0_pay3 (F := Ideal) (iblk m c 0 t) (iblk m c 1 t) (iblk m c 2 t) (iblk m c 3 t) (ix2 r d) = acc m c (bat t r) (pos t r) d :=
  (sums_at _ _ _ _ _ _ r d (iblk0_at m c t · r ·) (iblk1_at m c t · · d)).trans (congrArg (· + _) (iblk2_at m c t r d))

theorem point_h (t : Fin cfg0.N) (r : Fin 512) (d : Fin 1024) :
    k0_pay1 (F := Ideal) (k0_pay3 (F := Ideal) (iblk m c 0 t) (iblk m c 1 t) (iblk m c 2 t) (iblk m c 3 t)) (iblk m c 3 t) (ix2 r d)
      = out (acc m c (bat t r) (pos t r)) (m ((c : Thread nD τ).loc main_arg3) (ix1 d)) d := by
  refine (pay1_at _ _ r d).trans ?_
  simp only [point_x, iblk3_at]

/-- The array of the sum after the run. -/
theorem final_x : (dats m 0 c).arrAt 4 cfg0.N = fun i => acc m c (row i).1 (row i).2 (i 1) := by
  refine (dats m 0 c).arrAt_eq_of_covers 4 _ (by decide +kernel) fun t hf i => ?_
  have hw : win0_4.index t 0 = t.val := congrFun (idx_val t).2.2.2.2.1 0
  have e0 : ∀ (i0 : Fin 512) (i1 : Fin 1024), ((((cfg0.win 4).blk t).view.emb (ix2 i0 i1) 0 : Fin 8192)).val = t.val * 512 + i0.val := by
    intro i0 i1
    blk_simp
    rw [hw]
  have e : ∀ (i0 : Fin 512) (i1 : Fin 1024), row (((cfg0.win 4).blk t).view.emb (ix2 i0 i1)) = (bat t i0, pos t i0) := by
    intro i0 i1
    exact Prod.ext (Fin.ext (congrArg (· / 2048) (e0 i0 i1))) (Fin.ext (congrArg (· % 2048) (e0 i0 i1)))
  have e1 : ∀ (i0 : Fin 512) (i1 : Fin 1024), ((cfg0.win 4).blk t).view.emb (ix2 i0 i1) 1 = i1 := by
    intro i0 i1
    refine Fin.ext (show (((((cfg0.win 4).blk t).view.emb (ix2 i0 i1) 1 : Fin 1024)).val = i1.val) from ?_)
    blk_simp
    rw [show win0_4.index t 1 = 0 from congrFun (idx_val t).2.2.2.2.1 1, Nat.zero_mul, Nat.zero_add]
  idx_vars i
  show _ = acc m c (row _).1 (row _).2 _
  rw [e, e1]
  blk_simp
  rw [after0_4]
  frame_out
  exact point_x m c t _ _

/-- The array of the norm after the run. -/
theorem final_h : (dats m 0 c).arrAt 5 cfg0.N = fun i => out (acc m c (row i).1 (row i).2) (m ((c : Thread nD τ).loc main_arg3) (ix1 (i 1))) (i 1) := by
  refine (dats m 0 c).arrAt_eq_of_covers 5 _ (by decide +kernel) fun t hf i => ?_
  have hw : win0_5.index t 0 = t.val := congrFun (idx_val t).2.2.2.2.2 0
  have e0 : ∀ (i0 : Fin 512) (i1 : Fin 1024), ((((cfg0.win 5).blk t).view.emb (ix2 i0 i1) 0 : Fin 8192)).val = t.val * 512 + i0.val := by
    intro i0 i1
    blk_simp
    rw [hw]
  have e : ∀ (i0 : Fin 512) (i1 : Fin 1024), row (((cfg0.win 5).blk t).view.emb (ix2 i0 i1)) = (bat t i0, pos t i0) := by
    intro i0 i1
    exact Prod.ext (Fin.ext (congrArg (· / 2048) (e0 i0 i1))) (Fin.ext (congrArg (· % 2048) (e0 i0 i1)))
  have e1 : ∀ (i0 : Fin 512) (i1 : Fin 1024), ((cfg0.win 5).blk t).view.emb (ix2 i0 i1) 1 = i1 := by
    intro i0 i1
    refine Fin.ext (show (((((cfg0.win 5).blk t).view.emb (ix2 i0 i1) 1 : Fin 1024)).val = i1.val) from ?_)
    blk_simp
    rw [show win0_5.index t 1 = 0 from congrFun (idx_val t).2.2.2.2.2 1, Nat.zero_mul, Nat.zero_add]
  idx_vars i
  show _ = out (acc m c (row _).1 (row _).2) (m ((c : Thread nD τ).loc main_arg3) (ix1 _)) _
  rw [e, e1]
  blk_simp
  rw [after0_5]
  frame_out
  exact point_h m c t _ _

end Cert.MmdKernelIdeal.Real

namespace Cert.MmdReferenceIdeal.Real

open Cert.MmdReferenceIdeal Cert.MmdReferenceIdeal.Gen Cert.MmdReferenceIdeal.Read Cert.NormFwd

variable (A : FVec Ideal S4x2048x2816 .f32) (W : FVec Ideal S2816x1024 .f32) (X : FVec Ideal S4x2048x1024 .f32) (G : FVec Ideal S1024 .f32)

theorem v1_at (a : Fin 4) (b : Fin 2048) (d : Fin 1024) :
    val_main_v1 (F := Ideal) A W X (ix3 a b d) = (X (ix3 a b d) : EReal) + ∑ k : Fin 2816, (A (ix3 a b k) : EReal) * W (ix2 k d) := by
  pointwise [val_main_v1, val_main_v0]

theorem v15_at (a : Fin 4) (b : Fin 2048) (d : Fin 1024) :
    val_main_v15 (F := Ideal) A W X G (ix3 a b d) = out (fun k => val_main_v1 (F := Ideal) A W X (ix3 a b k)) (G (ix1 d)) d := by
  pointwise [val_main_v15, val_main_v14, val_main_v13, val_main_v12, val_main_v11, val_main_v10, val_main_v9, val_main_v8, val_main_v7,
    val_main_v6, val_main_v5, val_main_v4, val_main_v3, val_main_cst, val_main_cst_0, val_main_cst_1]
  rfl

end Cert.MmdReferenceIdeal.Real

namespace Cert.MmdProof

theorem frame_kernel : Cert.quiescent_MmdKernel := fun m ρ _ => Cert.MmdKernel.Gen.frame m ρ
theorem frame_ideal : Cert.quiescent_MmdKernelIdeal := fun m ρ _ => Cert.MmdKernelIdeal.Gen.frame m ρ
theorem frame_ref : Cert.quiescent_MmdReferenceIdeal := fun m ρ _ =>
  (θ_run _ _ _).mono (fun _ h => ⟨fun c => (h c).2.2, sem_eq_zero_of_no_sems (by decide) _⟩) (Cert.MmdReferenceIdeal.Value.run m ρ)

/-- Kernel and reference end with the same two arrays. -/
theorem value : Cert.algebraic_MmdKernelIdeal_MmdReferenceIdeal := by
  intro m ρ m' ρ' _ hagree
  refine ⟨_, _, Cert.MmdKernelIdeal.Value.run_blocks m ρ, (θ_run _ _ _).mono (fun r h c => ?_) (Cert.MmdReferenceIdeal.Value.run m' ρ')⟩
  obtain ⟨a0, a1, a2, a3⟩ := hagree c
  obtain ⟨h2, h17, hargs⟩ := h c
  refine ⟨h2.trans ?_, h17.trans ?_, hargs⟩
  · refine (Cert.MmdReferenceIdeal.Read.val_main_v2_eq _ _ _).trans ?_
    rw [a0, a1, a2, Cert.MmdKernelIdeal.Real.final_x m c]
    funext i
    idx_vars i
    pointwise [Cert.MmdReferenceIdeal.Read.val_main_v2, Cert.MmdReferenceIdeal.Real.v1_at]
    rfl
  · refine (Cert.MmdReferenceIdeal.Read.val_main_v17_eq _ _ _ _).trans ?_
    rw [a0, a1, a2, a3, Cert.MmdKernelIdeal.Real.final_h m c]
    funext i
    idx_vars i
    pointwise [Cert.MmdReferenceIdeal.Read.val_main_v17, Cert.MmdReferenceIdeal.Read.val_main_v16, Cert.MmdReferenceIdeal.Real.v15_at, Cert.MmdReferenceIdeal.Real.v1_at]
    rfl

end Cert.MmdProof

end
-- ==== Proof.Dy.lean ====
/- The input gradient of the attention's output product: kernel and reference end with the same array, for all arguments. -/
module

public import proofs.«01_k».proof.Defs
public import proofs.«01_k».proof.Proof.NormFwd
public import proofs.«01_k».proof.Proof.Gen.DyKernel.Frame
public import proofs.«01_k».proof.Proof.Gen.DyKernelIdeal.Value
public import proofs.«01_k».proof.Proof.Gen.DyReferenceIdeal.Run
public import proofs.«01_k».proof.Proof.Gen.DyReferenceIdeal.Read
public import Idealize.ShloMosaic.Lib.Pointwise
public import Idealize.ShloMosaic.Lib.IdealHost
public import Idealize.ShloMosaic.Lib.Pipeline.ValueKit
public import Idealize.ShloMosaic.Adequacy
public import Idealize.ShloMosaic.Init
public import Idealize.ShloMosaic.Lib.Claim

@[expose] public section

set_option maxRecDepth 16384

noncomputable section

open Idealize.ShloMosaic Idealize.ShloMosaic.TcCoe Idealize.SL.Sem
open scoped BigOperators

namespace Cert.DyKernelIdeal.Real

open Cert.DyKernelIdeal Cert.DyKernelIdeal.Gen Cert.NormFwd
open Idealize.ShloMosaic.Pipeline (Dat)

variable (m : (ℓ : Loc nD τ sig) → Buf (Elt Ideal) ℓ) (c : Dev nD)

theorem pay1_at (v0 : Vec Ideal S512x1024 .f32) (v3 : Vec Ideal S1024x1024 .bf16) (r : Fin 512) (d : Fin 1024) :
    k0_pay1 (F := Ideal) v0 v3 (ix2 r d) = onto 0 (fun k => v0 (ix2 r k)) (fun k => v3 (ix2 d k)) := by
  pointwise [k0_pay1]
  rw [onto, zero_add]

/-- Where each window sits at a grid point. -/
theorem idx_val : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

theorem pt_lt (t : Fin cfg0.N) : t.val < 16 := lt_of_lt_of_eq t.isLt N_0

/-- Row `r` of point `t`'s block: its batch, and its place in the sequence. -/
def bat (t : Fin cfg0.N) (r : Fin 512) : Fin 4 := ⟨(t.val * 512 + r.val) / 2048, by have := pt_lt t; omega⟩
def pos (t : Fin cfg0.N) (r : Fin 512) : Fin 2048 := ⟨(t.val * 512 + r.val) % 2048, by omega⟩

/-- Batch and place of a row of the flattened array. -/
def row (i : S8192x1024.Idx) : Fin 4 × Fin 2048 :=
  (⟨(i 0).val / 2048, by have : (i 0).val < 8192 := (i 0).isLt; omega⟩, ⟨(i 0).val % 2048, by omega⟩)

theorem iblk0_at (t : Fin cfg0.N) (r : Fin 512) (d : Fin 1024) :
    iblk m c 0 t (ix2 r d) = m ((c : Thread nD τ).loc main_arg0) (ix3 (bat t r) (pos t r) d) := by
  blk_simp [iblk, idx_val t]
  entry_read
  pointwise
  unfold bat pos
  blk_ext [idx_val t]

theorem iblk1_at (t : Fin cfg0.N) (d k : Fin 1024) :
    iblk m c 1 t (ix2 d k) = m ((c : Thread nD τ).loc main_arg1) (ix2 d k) := by
  blk_simp [iblk, idx_val t]
  entry_read
  pointwise
  blk_ext [idx_val t]

theorem point (t : Fin cfg0.N) (r : Fin 512) (d : Fin 1024) :
    k0_pay1 (F := Ideal) (iblk m c 0 t) (iblk m c 1 t) (ix2 r d) = onto 0 (fun k => m ((c : Thread nD τ).loc main_arg0) (ix3 (bat t r) (pos t r) k)) (fun k => m ((c : Thread nD τ).loc main_arg1) (ix2 d k)) := by
  refine (pay1_at _ _ r d).trans ?_
  simp only [iblk0_at, iblk1_at]

/-- The array after the run. -/
theorem final : (dats m 0 c).arrAt 2 cfg0.N = fun i => onto 0 (fun k => m ((c : Thread nD τ).loc main_arg0) (ix3 (row i).1 (row i).2 k)) (fun k => m ((c : Thread nD τ).loc main_arg1) (ix2 (i 1) k)) := by
  refine (dats m 0 c).arrAt_eq_of_covers 2 _ (by decide +kernel) fun t hf i => ?_
  have hw : win0_2.index t 0 = t.val := congrFun (idx_val t).2.2 0
  have e0 : ∀ (i0 : Fin 512) (i1 : Fin 1024), ((((cfg0.win 2).blk t).view.emb (ix2 i0 i1) 0 : Fin 8192)).val = t.val * 512 + i0.val := by
    intro i0 i1
    blk_simp
    rw [hw]
  have e : ∀ (i0 : Fin 512) (i1 : Fin 1024), row (((cfg0.win 2).blk t).view.emb (ix2 i0 i1)) = (bat t i0, pos t i0) := by
    intro i0 i1
    exact Prod.ext (Fin.ext (congrArg (· / 2048) (e0 i0 i1))) (Fin.ext (congrArg (· % 2048) (e0 i0 i1)))
  have e1 : ∀ (i0 : Fin 512) (i1 : Fin 1024), ((cfg0.win 2).blk t).view.emb (ix2 i0 i1) 1 = i1 := by
    intro i0 i1
    refine Fin.ext (show (((((cfg0.win 2).blk t).view.emb (ix2 i0 i1) 1 : Fin 1024)).val = i1.val) from ?_)
    blk_simp
    rw [show win0_2.index t 1 = 0 from congrFun (idx_val t).2.2 1, Nat.zero_mul, Nat.zero_add]
  idx_vars i
  show _ = onto 0 (fun k => m ((c : Thread nD τ).loc main_arg0) (ix3 (row _).1 (row _).2 k)) (fun k => m ((c : Thread nD τ).loc main_arg1) (ix2 _ k))
  rw [e, e1]
  blk_simp
  rw [after0_2]
  frame_out
  exact point m c t _ _

end Cert.DyKernelIdeal.Real

namespace Cert.DyReferenceIdeal.Real

open Cert.DyReferenceIdeal Cert.DyReferenceIdeal.Gen Cert.DyReferenceIdeal.Read Cert.NormFwd

theorem v2_at (X : FVec Ideal S4x2048x1024 .f32) (W : FVec Ideal S1024x1024 .f32) (a : Fin 4) (b : Fin 2048) (d : Fin 1024) :
    val_main_v2 (F := Ideal) X W (ix3 a b d) = onto 0 (fun k => X (ix3 a b k)) (fun k => W (ix2 d k)) := by
  pointwise [val_main_v2]
  rw [onto, zero_add]

end Cert.DyReferenceIdeal.Real

namespace Cert.DyProof

theorem frame_kernel : Cert.quiescent_DyKernel := fun m ρ _ => Cert.DyKernel.Gen.frame m ρ
theorem frame_ideal : Cert.quiescent_DyKernelIdeal := fun m ρ _ => Cert.DyKernelIdeal.Gen.frame m ρ
theorem frame_ref : Cert.quiescent_DyReferenceIdeal := fun m ρ _ =>
  (θ_run _ _ _).mono (fun _ h => ⟨fun c => (h c).2, sem_eq_zero_of_no_sems (by decide) _⟩) (Cert.DyReferenceIdeal.Value.run m ρ)

/-- Kernel and reference end with the same array. -/
theorem value : Cert.algebraic_DyKernelIdeal_DyReferenceIdeal := by
  intro m ρ m' ρ' _ hagree
  refine ⟨_, Cert.DyKernelIdeal.Value.run_blocks m ρ, (θ_run _ _ _).mono (fun r h c => ?_) (Cert.DyReferenceIdeal.Value.run m' ρ')⟩
  obtain ⟨a0, a1⟩ := hagree c
  obtain ⟨h3, hargs⟩ := h c
  refine ⟨h3.trans ?_, hargs⟩
  refine (Cert.DyReferenceIdeal.Read.val_main_v3_eq _ _).trans ?_
  rw [a0, a1, Cert.DyKernelIdeal.Real.final m c]
  funext i
  idx_vars i
  pointwise [Cert.DyReferenceIdeal.Read.val_main_v3, Cert.DyReferenceIdeal.Real.v2_at]
  rfl

end Cert.DyProof

end
-- ==== Proof.Wgo.lean ====
/- The gradient of the attention's output weight: kernel and reference end with the same array, for all arguments. -/
module

public import proofs.«01_k».proof.Defs
public import proofs.«01_k».proof.Proof.NormFwd
public import proofs.«01_k».proof.Proof.Sums
public import proofs.«01_k».proof.Proof.Gen.WgoKernel.Frame
public import proofs.«01_k».proof.Proof.Gen.WgoKernelIdeal.Value
public import proofs.«01_k».proof.Proof.Gen.WgoReferenceIdeal.Run
public import proofs.«01_k».proof.Proof.Gen.WgoReferenceIdeal.Read
public import Idealize.ShloMosaic.Lib.Pointwise
public import Idealize.ShloMosaic.Lib.IdealHost
public import Idealize.ShloMosaic.Lib.Pipeline.ValueKit
public import Idealize.ShloMosaic.Adequacy
public import Idealize.ShloMosaic.Init
public import Idealize.ShloMosaic.Lib.Claim

@[expose] public section

set_option maxRecDepth 16384

noncomputable section

open Idealize.ShloMosaic Idealize.ShloMosaic.TcCoe Idealize.SL.Sem
open scoped BigOperators

namespace Cert.WgoKernelIdeal.Real

open Cert.WgoKernelIdeal Cert.WgoKernelIdeal.Gen Cert.NormFwd
open Idealize.ShloMosaic.Pipeline (Dat)

variable (m : (ℓ : Loc nD τ sig) → Buf (Elt Ideal) ℓ) (c : Dev nD)

/-- One point's step: the products of its rows are added to what is held. -/
theorem pay2_at (v3 : Vec Ideal S1x1024x1024 .f32) (v6 : Vec Ideal S1x1024x1024 .bf16) (v8 : Vec Ideal S1x1x1024x1024 .f32) (a d : Fin 1024) :
    k0_pay2 (F := Ideal) v3 v6 v8 (ix4 0 0 a d) = onto (v8 (ix4 0 0 a d)) (fun k => v6 (ix3 0 k a)) (fun k => v3 (ix3 0 k d)) := by
  pointwise [k0_pay2]
  rw [onto]

/-- Where each window sits at a grid point. -/
theorem idx_val : ∀ t : Fin cfg0.N, win0_0.index t = ![0, t.val, 0] ∧ win0_1.index t = ![0, t.val, 0] ∧ win0_2.index t = ![0, 0, 0, 0] :=
  (by decide +kernel : ∀ t : Fin grid0.N, win0_0.index t = ![0, t.val, 0] ∧ win0_1.index t = ![0, t.val, 0] ∧ win0_2.index t = ![0, 0, 0, 0])

theorem pt_lt (t : Fin cfg0.N) : t.val < 8 := lt_of_lt_of_eq t.isLt N_0

/-- Row `r` of point `t`'s block: its batch, and its place in the sequence. -/
def bat (t : Fin cfg0.N) (r : Fin 1024) : Fin 4 := ⟨(t.val * 1024 + r.val) / 2048, by have := pt_lt t; omega⟩
def pos (t : Fin cfg0.N) (r : Fin 1024) : Fin 2048 := ⟨(t.val * 1024 + r.val) % 2048, by omega⟩

theorem iblk0_at (t : Fin cfg0.N) (r : Fin 1024) (d : Fin 1024) :
    iblk m c 0 t (ix3 0 r d) = m ((c : Thread nD τ).loc main_arg0) (ix3 (bat t r) (pos t r) d) := by
  blk_simp [iblk, idx_val t]
  entry_read
  pointwise
  unfold bat pos
  blk_ext [idx_val t]

theorem iblk1_at (t : Fin cfg0.N) (r : Fin 1024) (d : Fin 1024) :
    iblk m c 1 t (ix3 0 r d) = m ((c : Thread nD τ).loc main_arg1) (ix3 (bat t r) (pos t r) d) := by
  blk_simp [iblk, idx_val t]
  entry_read
  pointwise
  unfold bat pos
  blk_ext [idx_val t]

/-- The products of the rows of point `t`. -/
def term (t : Fin cfg0.N) (i : S1x1x1024x1024.Idx) : EReal :=
  onto 0 (fun r : Fin 1024 => m ((c : Thread nD τ).loc main_arg0) (ix3 (bat t r) (pos t r) (i 2))) (fun r => m ((c : Thread nD τ).loc main_arg1) (ix3 (bat t r) (pos t r) (i 3)))

theorem step (t : Fin cfg0.N) (v8 : Vec Ideal S1x1x1024x1024 .f32) (a d : Fin 1024) :
    k0_pay2 (F := Ideal) (iblk m c 1 t) (iblk m c 0 t) v8 (ix4 0 0 a d) = v8 (ix4 0 0 a d) + term m c t (ix4 0 0 a d) := by
  refine (pay2_at _ _ v8 a d).trans ?_
  simp only [iblk0_at, iblk1_at]
  rw [onto, term, onto, zero_add]
  rfl

/-- What the scratch holds after the last point. -/
theorem held (i : S1x1x1024x1024.Idx) : (outsAt0 m c t0_7.val t0_7.isLt).2 i = 0 + ∑ p : Fin cfg0.N, term m c p i := by
  have hzero : ∀ j, k0_pay1 (F := Ideal) j = 0 := fun j => by pointwise [k0_pay1]
  refine Pipeline.eq_sum_fin_of_reset_step_apply_last (fun n h => (outsAt0 m c n h).2) 8 (fun _ => (0 : EReal)) (term m c)
      (fun t h j => ?_) (fun t h j => ?_) (le_of_eq N_0) t0_7 rfl i
  · have := pt_lt t
    rw [outsAt0_A m c t h (by omega)]; frame_out; idx_vars j
    obtain rfl : j0 = 0 := Subsingleton.elim _ _
    obtain rfl : j1 = 0 := Subsingleton.elim _ _
    rw [step m c t, hzero]
  · by_cases h1 : t.val % 8 = 7
    · rw [outsAt0_C m c t h h1]; frame_out; idx_vars j
      obtain rfl : j0 = 0 := Subsingleton.elim _ _
      obtain rfl : j1 = 0 := Subsingleton.elim _ _
      rw [step m c t]
      exact congrArg (· + _) (congrFun ((Memref.isWhole_whole _).read_unread _) _)
    · rw [outsAt0_B m c t h h1]; frame_out; idx_vars j
      obtain rfl : j0 = 0 := Subsingleton.elim _ _
      obtain rfl : j1 = 0 := Subsingleton.elim _ _
      rw [step m c t]
      exact congrArg (· + _) (congrFun ((Memref.isWhole_whole _).read_unread _) _)

/-- The last point writes what the scratch holds. -/
theorem last (i : S1x1x1024x1024.Idx) : (outsAt0 m c t0_7.val t0_7.isLt).1 i = (outsAt0 m c t0_7.val t0_7.isLt).2 i := by
  rw [outsAt0_C m c t0_7 (by decide) (by decide)]
  dsimp only
  frame_out
  pointwise [k0_pay3]

/-- The sum over all rows, batch by batch, of the products of one entry of each. -/
def total (X Y : FVec Ideal S4x2048x1024 .f32) (a d : Fin 1024) : EReal := ∑ p : Fin 4, ∑ q : Fin 2048, X (ix3 p q a) * Y (ix3 p q d)

theorem regroup (X Y : FVec Ideal S4x2048x1024 .f32) (a d : Fin 1024) :
    ∑ p : Fin cfg0.N, onto 0 (fun r : Fin 1024 => X (ix3 (bat p r) (pos p r) a)) (fun r => Y (ix3 (bat p r) (pos p r) d)) = total X Y a d := by
  simp only [onto, zero_add]
  exact Sums.sum_reblock (by rw [show cfg0.N = 8 from N_0]) (by norm_num) (fun p q => X (ix3 p q a) * Y (ix3 p q d)) bat pos (fun _ _ => rfl) (fun _ _ => rfl)

theorem sum_term (i : S1x1x1024x1024.Idx) :
    0 + ∑ p : Fin cfg0.N, term m c p i = total (m ((c : Thread nD τ).loc main_arg0)) (m ((c : Thread nD τ).loc main_arg1)) (i 2) (i 3) := by
  rw [zero_add]
  exact regroup (m ((c : Thread nD τ).loc main_arg0)) (m ((c : Thread nD τ).loc main_arg1)) (i 2) (i 3)

/-- The array after the run. -/
theorem final : (dats m 0 c).arrAt 2 cfg0.N = fun i => total (m ((c : Thread nD τ).loc main_arg0)) (m ((c : Thread nD τ).loc main_arg1)) (i 2) (i 3) := by
  refine (dats m 0 c).arrAt_eq_of_after_last 2 t0_7 (by decide +kernel) _ fun j => ?_
  idx_vars j
  blk_simp
  rw [after0_2, last, held, sum_term]

end Cert.WgoKernelIdeal.Real

namespace Cert.WgoReferenceIdeal.Real

open Cert.WgoReferenceIdeal Cert.WgoReferenceIdeal.Gen Cert.WgoReferenceIdeal.Read Cert.NormFwd

theorem v2_at (X Y : FVec Ideal S4x2048x1024 .f32) (a d : Fin 1024) :
    val_main_v2 (F := Ideal) X Y (ix2 d a) = Cert.WgoKernelIdeal.Real.total X Y a d := by
  pointwise [val_main_v2]
  exact Finset.sum_congr rfl fun _ _ => Finset.sum_congr rfl fun _ _ => mul_comm _ _

end Cert.WgoReferenceIdeal.Real

namespace Cert.WgoProof

theorem frame_kernel : Cert.quiescent_WgoKernel := fun m ρ _ => Cert.WgoKernel.Gen.frame m ρ
theorem frame_ideal : Cert.quiescent_WgoKernelIdeal := fun m ρ _ => Cert.WgoKernelIdeal.Gen.frame m ρ
theorem frame_ref : Cert.quiescent_WgoReferenceIdeal := fun m ρ _ =>
  (θ_run _ _ _).mono (fun _ h => ⟨fun c => (h c).2, sem_eq_zero_of_no_sems (by decide) _⟩) (Cert.WgoReferenceIdeal.Value.run m ρ)

/-- Kernel and reference end with the same array. -/
theorem value : Cert.algebraic_WgoKernelIdeal_WgoReferenceIdeal := by
  intro m ρ m' ρ' _ hagree
  refine ⟨_, Cert.WgoKernelIdeal.Value.run_blocks m ρ, (θ_run _ _ _).mono (fun r h c => ?_) (Cert.WgoReferenceIdeal.Value.run m' ρ')⟩
  obtain ⟨a0, a1⟩ := hagree c
  obtain ⟨h5, hargs⟩ := h c
  refine ⟨h5.trans ?_, hargs⟩
  refine (Cert.WgoReferenceIdeal.Read.val_main_v5_eq _ _).trans ?_
  rw [a0, a1, Cert.WgoKernelIdeal.Real.final m c]
  funext i
  idx_vars i
  pointwise [Cert.WgoReferenceIdeal.Read.val_main_v5, Cert.WgoReferenceIdeal.Read.val_main_v4, Cert.WgoReferenceIdeal.Read.val_main_v3, Cert.WgoReferenceIdeal.Real.v2_at]
  try rfl

end Cert.WgoProof

end
-- ==== Proof.Inp.lean ====
/- The input product of the attention: kernel and reference end with the same two arrays, for all arguments. -/
module

public import proofs.«01_k».proof.Defs
public import proofs.«01_k».proof.Proof.NormFwd
public import proofs.«01_k».proof.Proof.Gen.InpKernel.Frame
public import proofs.«01_k».proof.Proof.Gen.InpKernelIdeal.Value
public import proofs.«01_k».proof.Proof.Gen.InpReferenceIdeal.Run
public import proofs.«01_k».proof.Proof.Gen.InpReferenceIdeal.Read
public import Idealize.ShloMosaic.Lib.Pointwise
public import Idealize.ShloMosaic.Lib.IdealHost
public import Idealize.ShloMosaic.Lib.Pipeline.ValueKit
public import Idealize.ShloMosaic.Adequacy
public import Idealize.ShloMosaic.Init
public import Idealize.ShloMosaic.Lib.Claim

@[expose] public section

set_option maxRecDepth 16384

noncomputable section

open Idealize.ShloMosaic Idealize.ShloMosaic.TcCoe Idealize.SL.Sem
open scoped BigOperators

namespace Cert.InpKernelIdeal.Real

open Cert.InpKernelIdeal Cert.InpKernelIdeal.Gen Cert.NormFwd
open Idealize.ShloMosaic.Pipeline (Dat)

variable (m : (ℓ : Loc nD τ sig) → Buf (Elt Ideal) ℓ) (c : Dev nD)

/-- The first 2304 columns of the product. -/
theorem pay2_at (v0 : Vec Ideal S512x1024 .bf16) (v2 : Vec Ideal S1024x2304 .bf16) (r : Fin 512) (d : Fin 2304) :
    k0_pay2 (F := Ideal) v0 v2 (ix2 r d) = onto 0 (fun k => v0 (ix2 r k)) (fun k => v2 (ix2 k d)) := by
  pointwise [k0_pay2, k0_pay1]
  rw [onto, zero_add]

/-- The other 768 columns. -/
theorem pay3_at (v0 : Vec Ideal S512x1024 .bf16) (v2 : Vec Ideal S1024x768 .bf16) (r : Fin 512) (d : Fin 768) :
    k0_pay3 (F := Ideal) v0 v2 (ix2 r d) = onto 0 (fun k => v0 (ix2 r k)) (fun k => v2 (ix2 k d)) := by
  pointwise [k0_pay3, k0_pay1]
  rw [onto, zero_add]

/-- Where each window sits at a grid point. -/
theorem idx_val : ∀ t : Fin cfg0.N, win0_0.index t = ![t.val, 0] ∧ win0_1.index t = ![0, 0] ∧ win0_2.index t = ![t.val, 0] ∧ win0_3.index t = ![t.val, 0] :=
  (by decide +kernel : ∀ t : Fin grid0.N, win0_0.index t = ![t.val, 0] ∧ win0_1.index t = ![0, 0] ∧ win0_2.index t = ![t.val, 0] ∧ win0_3.index t = ![t.val, 0])

theorem pt_lt (t : Fin cfg0.N) : t.val < 16 := lt_of_lt_of_eq t.isLt N_0

/-- Row `r` of point `t`'s block: its batch, and its place in the sequence. -/
def bat (t : Fin cfg0.N) (r : Fin 512) : Fin 4 := ⟨(t.val * 512 + r.val) / 2048, by have := pt_lt t; omega⟩
def pos (t : Fin cfg0.N) (r : Fin 512) : Fin 2048 := ⟨(t.val * 512 + r.val) % 2048, by omega⟩

/-- Batch and place of a row of the flattened array. -/
def row (i : Fin 8192) : Fin 4 × Fin 2048 := (⟨i.val / 2048, by omega⟩, ⟨i.val % 2048, by omega⟩)

/-- A column among the first 2304, and one among the others. -/
def lo (d : Fin 2304) : Fin 3072 := ⟨d.val, by omega⟩
def hi (d : Fin 768) : Fin 3072 := ⟨2304 + d.val, by omega⟩

theorem iblk0_at (t : Fin cfg0.N) (r : Fin 512) (d : Fin 1024) :
    iblk m c 0 t (ix2 r d) = m ((c : Thread nD τ).loc main_arg0) (ix3 (bat t r) (pos t r) d) := by
  blk_simp [iblk, idx_val t]
  entry_read
  pointwise
  unfold bat pos
  blk_ext [idx_val t]

theorem iblk1_at (t : Fin cfg0.N) (k : Fin 1024) (d : Fin 3072) :
    iblk m c 1 t (ix2 k d) = m ((c : Thread nD τ).loc main_arg1) (ix2 k d) := by
  blk_simp [iblk, idx_val t]
  entry_read
  pointwise
  blk_ext [idx_val t]

/-- The weight's columns as the point reads them. -/
theorem ld1_at (X : Vec Ideal S1024x3072 .bf16) (k : Fin 1024) (d : Fin 2304) : View.ld X r0_1 (ix2 k d) = X (ix2 k (lo d)) := by
  pointwise [r0_1]
  refine congrArg X (congrArg (ix2 k) (Fin.ext ?_))
  show _ = d.val
  simp

theorem ld3_at (X : Vec Ideal S1024x3072 .bf16) (k : Fin 1024) (d : Fin 768) : View.ld X r0_3 (ix2 k d) = X (ix2 k (hi d)) := by
  pointwise [r0_3]
  refine congrArg X (congrArg (ix2 k) (Fin.ext ?_))
  show _ = 2304 + d.val
  simp

/-- One entry of the product. -/
def prod (a : Fin 4) (b : Fin 2048) (d : Fin 3072) : EReal :=
  onto 0 (fun k : Fin 1024 => m ((c : Thread nD τ).loc main_arg0) (ix3 a b k)) (fun k => m ((c : Thread nD τ).loc main_arg1) (ix2 k d))

/-- The array of the first columns after the run. -/
theorem final_2 : (dats m 0 c).arrAt 2 cfg0.N = fun i : (⟨2, ![8192, 2304]⟩ : Shape).Idx => prod m c (row (i 0)).1 (row (i 0)).2 (lo (i 1)) := by
  refine (dats m 0 c).arrAt_eq_of_covers 2 _ (by decide +kernel) fun t hf i => ?_
  have hw : win0_2.index t 0 = t.val := congrFun (idx_val t).2.2.1 0
  have e0 : ∀ (i0 : Fin 512) (i1 : Fin 2304), ((((cfg0.win 2).blk t).view.emb (ix2 i0 i1) 0 : Fin 8192)).val = t.val * 512 + i0.val := by
    intro i0 i1
    blk_simp
    rw [hw]
  have e : ∀ (i0 : Fin 512) (i1 : Fin 2304), row (((cfg0.win 2).blk t).view.emb (ix2 i0 i1) 0) = (bat t i0, pos t i0) := by
    intro i0 i1
    exact Prod.ext (Fin.ext (congrArg (· / 2048) (e0 i0 i1))) (Fin.ext (congrArg (· % 2048) (e0 i0 i1)))
  have e1 : ∀ (i0 : Fin 512) (i1 : Fin 2304), ((cfg0.win 2).blk t).view.emb (ix2 i0 i1) 1 = i1 := by
    intro i0 i1
    refine Fin.ext (show (((((cfg0.win 2).blk t).view.emb (ix2 i0 i1) 1 : Fin 2304)).val = i1.val) from ?_)
    blk_simp
    rw [show win0_2.index t 1 = 0 from congrFun (idx_val t).2.2.1 1, Nat.zero_mul, Nat.zero_add]
  idx_vars i
  show _ = prod m c (row _).1 (row _).2 (lo _)
  rw [e, e1]
  blk_simp
  rw [after0_2]
  frame_out
  refine (pay2_at _ _ _ _).trans ?_
  simp only [iblk0_at, prod]
  refine congrArg (onto 0 _) (funext fun k => ?_)
  exact (ld1_at (iblk m c 1 t) k _).trans (iblk1_at m c t k (lo _))

/-- The array of the other columns after the run. -/
theorem final_3 : (dats m 0 c).arrAt 3 cfg0.N = fun i : (⟨2, ![8192, 768]⟩ : Shape).Idx => prod m c (row (i 0)).1 (row (i 0)).2 (hi (i 1)) := by
  refine (dats m 0 c).arrAt_eq_of_covers 3 _ (by decide +kernel) fun t hf i => ?_
  have hw : win0_3.index t 0 = t.val := congrFun (idx_val t).2.2.2 0
  have e0 : ∀ (i0 : Fin 512) (i1 : Fin 768), ((((cfg0.win 3).blk t).view.emb (ix2 i0 i1) 0 : Fin 8192)).val = t.val * 512 + i0.val := by
    intro i0 i1
    blk_simp
    rw [hw]
  have e : ∀ (i0 : Fin 512) (i1 : Fin 768), row (((cfg0.win 3).blk t).view.emb (ix2 i0 i1) 0) = (bat t i0, pos t i0) := by
    intro i0 i1
    exact Prod.ext (Fin.ext (congrArg (· / 2048) (e0 i0 i1))) (Fin.ext (congrArg (· % 2048) (e0 i0 i1)))
  have e1 : ∀ (i0 : Fin 512) (i1 : Fin 768), ((cfg0.win 3).blk t).view.emb (ix2 i0 i1) 1 = i1 := by
    intro i0 i1
    refine Fin.ext (show (((((cfg0.win 3).blk t).view.emb (ix2 i0 i1) 1 : Fin 768)).val = i1.val) from ?_)
    blk_simp
    rw [show win0_3.index t 1 = 0 from congrFun (idx_val t).2.2.2 1, Nat.zero_mul, Nat.zero_add]
  idx_vars i
  show _ = prod m c (row _).1 (row _).2 (hi _)
  rw [e, e1]
  blk_simp
  rw [after0_3]
  frame_out
  refine (pay3_at _ _ _ _).trans ?_
  simp only [iblk0_at, prod]
  refine congrArg (onto 0 _) (funext fun k => ?_)
  exact (ld3_at (iblk m c 1 t) k _).trans (iblk1_at m c t k (hi _))

end Cert.InpKernelIdeal.Real

namespace Cert.InpReferenceIdeal.Real

open Cert.InpReferenceIdeal Cert.InpReferenceIdeal.Gen Cert.InpReferenceIdeal.Read Cert.NormFwd

theorem v0_at (X : FVec Ideal S4x2048x1024 .f32) (W : FVec Ideal S1024x3072 .f32) (a : Fin 4) (b : Fin 2048) (d : Fin 3072) :
    val_main_v0 (F := Ideal) X W (ix3 a b d) = onto 0 (fun k => X (ix3 a b k)) (fun k => W (ix2 k d)) := by
  pointwise [val_main_v0]
  rw [onto, zero_add]

end Cert.InpReferenceIdeal.Real

namespace Cert.InpProof

theorem frame_kernel : Cert.quiescent_InpKernel := fun m ρ _ => Cert.InpKernel.Gen.frame m ρ
theorem frame_ideal : Cert.quiescent_InpKernelIdeal := fun m ρ _ => Cert.InpKernelIdeal.Gen.frame m ρ
theorem frame_ref : Cert.quiescent_InpReferenceIdeal := fun m ρ _ =>
  (θ_run _ _ _).mono (fun _ h => ⟨fun c => (h c).2.2, sem_eq_zero_of_no_sems (by decide) _⟩) (Cert.InpReferenceIdeal.Value.run m ρ)

/-- Kernel and reference end with the same two arrays. -/
theorem value : Cert.algebraic_InpKernelIdeal_InpReferenceIdeal := by
  intro m ρ m' ρ' _ hagree
  refine ⟨_, _, Cert.InpKernelIdeal.Value.run_blocks m ρ, (θ_run _ _ _).mono (fun r h c => ?_) (Cert.InpReferenceIdeal.Value.run m' ρ')⟩
  obtain ⟨a0, a1⟩ := hagree c
  obtain ⟨h3, h5, hargs⟩ := h c
  refine ⟨h3.trans ?_, h5.trans ?_, hargs⟩
  · refine (Cert.InpReferenceIdeal.Read.val_main_v3_eq _ _).trans ?_
    rw [a0, a1, Cert.InpKernelIdeal.Real.final_2 m c]
    funext i
    idx_vars i
    pointwise [Cert.InpReferenceIdeal.Read.val_main_v3, Cert.InpReferenceIdeal.Read.val_main_v2, Cert.InpReferenceIdeal.Read.val_main_v1, Cert.InpReferenceIdeal.Real.v0_at]
    rfl
  · refine (Cert.InpReferenceIdeal.Read.val_main_v5_eq _ _).trans ?_
    rw [a0, a1, Cert.InpKernelIdeal.Real.final_3 m c]
    funext i
    idx_vars i
    pointwise [Cert.InpReferenceIdeal.Read.val_main_v5, Cert.InpReferenceIdeal.Read.val_main_v4, Cert.InpReferenceIdeal.Real.v0_at]
    rfl

end Cert.InpProof

end
-- ==== Proof.UpKer.lean ====
/- The feed-forward input product with its causal filter and gate: what the kernel leaves in its three arrays. -/
module

public import proofs.«01_k».proof.Defs
public import proofs.«01_k».proof.Proof.NormFwd
public import proofs.«01_k».proof.Proof.Gen.UpKernelIdeal.Value
public import Idealize.ShloMosaic.Lib.Pointwise
public import Idealize.ShloMosaic.Lib.IdealHost
public import Idealize.ShloMosaic.Lib.Pipeline.ValueKit
public import Idealize.ShloMosaic.Adequacy
public import Idealize.ShloMosaic.Init
public import Idealize.ShloMosaic.Lib.Claim

@[expose] public section

set_option maxRecDepth 16384

noncomputable section

open Idealize.ShloMosaic Idealize.ShloMosaic.TcCoe Idealize.SL.Sem
open scoped BigOperators

namespace Cert.UpKernelIdeal.Real

open Cert.UpKernelIdeal Cert.UpKernelIdeal.Gen Cert.NormFwd
open Idealize.ShloMosaic.Pipeline (Dat)

variable (m : (ℓ : Loc nD τ sig) → Buf (Elt Ideal) ℓ) (c : Dev nD)

/-- The rows of the first scratch: 512 rows of the point's block, then the 8 rows before them. -/
def rows (P : Vec Ideal S512x1024 .bf16) (Q : Vec Ideal S8x1024 .bf16) : Vec Ideal S520x1024 .bf16 :=
  fun j => if hj : (j 0).val < 512 then P (ix2 ⟨(j 0).val, hj⟩ (j 1)) else Q (ix2 ⟨(j 0).val - 512, by have : (j 0).val < 520 := (j 0).isLt; omega⟩ (j 1))

theorem read_rows (P : Vec Ideal S512x1024 .bf16) (Q : Vec Ideal S8x1024 .bf16) (h1 h2 h3) :
    (View.whole cc0_scratch1).readCov
      [⟨Rect.unit ![512, 0] ![8, 1024] h1, Q⟩, ⟨Rect.unit ![0, 0] ![512, 1024] h2, P⟩]
      (Rect.unit (s := S520x1024) ![0, 0] ![520, 1024] h3).toLoadRect = rows P Q := by
  rw [View.readCov_eq_canon']
  funext j
  have hj1 : (j 1).val < 1024 := (j 1).isLt
  have hj0 : (j 0).val < 520 := (j 0).isLt
  refine View.canon_eq_of_allAt _ _ _ ?_ ?_
  · by_cases hj : (j 0).val < 512
    · refine ⟨_, List.mem_cons_of_mem _ List.mem_cons_self, ?_⟩
      rw [Rect.mem_set_unit]
      intro a
      fin_cases a
      · simpa using hj
      · simpa using hj1
    · refine ⟨_, List.mem_cons_self, ?_⟩
      rw [Rect.mem_set_unit]
      intro a
      fin_cases a
      · simp; omega
      · simpa using hj1
  · refine View.allAt_cons_unit _ _ _ _ _ (fun x hx => ?_) (View.allAt_cons_unit _ _ _ _ _ (fun x hx => ?_) (View.allAt_nil _ _))
    · have e0 : (j 0).val = 512 + (x 0).val := by simpa using hx 0
      have e1 : (j 1).val = (x 1).val := by simpa using hx 1
      unfold rows
      rw [dif_neg (by omega)]
      refine congrArg Q (funext fun a => Fin.ext ?_)
      fin_cases a
      · show (x 0).val = (j 0).val - 512; omega
      · exact e1.symm
    · have e0 : (j 0).val = (x 0).val := by simpa using hx 0
      have e1 : (j 1).val = (x 1).val := by simpa using hx 1
      have hx0 : (x 0).val < 512 := (x 0).isLt
      unfold rows
      rw [dif_pos (by omega)]
      refine congrArg P (funext fun a => Fin.ext ?_)
      fin_cases a
      · exact e0.symm
      · exact e1.symm

/-- The row of the first scratch that fills row `q` of the second: the second keeps the 8 rows before the block first. -/
def turn (q : Fin 520) : Fin 520 := if hq : 8 ≤ q.val then ⟨q.val - 8, by omega⟩ else ⟨q.val + 512, by omega⟩

/-- Row `q` of one half of the second scratch, from what was stored in it. -/
def held (P : Vec Ideal S1x512x704 .f32) (Q : Vec Ideal S1x8x704 .f32) (q : Fin 520) (d : Fin 704) : EReal :=
  if hq : 8 ≤ q.val then P (ix3 0 ⟨q.val - 8, by omega⟩ d) else Q (ix3 0 ⟨q.val, by omega⟩ d)

def at_ (o : ℕ) (ho : o + 512 ≤ 520) (r : Fin 512) : Fin 520 := ⟨o + r.val, by omega⟩

theorem read_buf0 (P : Vec Ideal S1x512x704 .f32) (Q : Vec Ideal S1x8x704 .f32) (o : ℕ) (ho : o + 512 ≤ 520) (h1 h2 h3) (r : Fin 512) (d : Fin 704) :
    (View.whole cc0_scratch0).readCov
      [⟨Rect.unit ![0, 8, 0] ![1, 512, 704] h1, P⟩, ⟨Rect.unit ![0, 0, 0] ![1, 8, 704] h2, Q⟩]
      (Rect.unit (s := S2x520x704) ![0, o, 0] ![1, 512, 704] h3).toLoadRect (ix3 0 r d) = held P Q (at_ o ho r) d := by
  rw [View.readCov_eq_canon']
  refine View.canon_eq_of_allAt _ _ _ ?_ ?_
  · by_cases hj : 8 ≤ o + r.val
    · refine ⟨_, List.mem_cons_self, ?_⟩
      rw [Rect.mem_set_unit]
      intro a
      fin_cases a
      · exact ⟨Nat.le_add_right _ _, show 0 + 1 * (0 : Fin 1).val < 0 + 1 by simp⟩
      · exact ⟨show 8 ≤ o + 1 * r.val by omega, show o + 1 * r.val < 8 + 512 by omega⟩
      · exact ⟨Nat.zero_le _, show 0 + 1 * d.val < 0 + 704 by omega⟩
    · refine ⟨_, List.mem_cons_of_mem _ List.mem_cons_self, ?_⟩
      rw [Rect.mem_set_unit]
      intro a
      fin_cases a
      · exact ⟨Nat.le_add_right _ _, show 0 + 1 * (0 : Fin 1).val < 0 + 1 by simp⟩
      · exact ⟨Nat.zero_le _, show o + 1 * r.val < 0 + 8 by omega⟩
      · exact ⟨Nat.zero_le _, show 0 + 1 * d.val < 0 + 704 by omega⟩
  · refine View.allAt_cons_unit _ _ _ _ _ (fun x hx => ?_) (View.allAt_cons_unit _ _ _ _ _ (fun x hx => ?_) (View.allAt_nil _ _))
    · have e1 : o + 1 * r.val = 8 + (x 1).val := hx 1
      have e2 : 0 + 1 * d.val = 0 + (x 2).val := hx 2
      have hx0 : (x 0).val < 1 := (x 0).isLt
      unfold held
      rw [dif_pos (show 8 ≤ (at_ o ho r).val by show 8 ≤ o + r.val; omega)]
      refine congrArg P (funext fun a => Fin.ext ?_)
      fin_cases a
      · show (x 0).val = 0; omega
      · show (x 1).val = o + r.val - 8; omega
      · show (x 2).val = d.val; omega
    · have e1 : o + 1 * r.val = 0 + (x 1).val := hx 1
      have e2 : 0 + 1 * d.val = 0 + (x 2).val := hx 2
      have hx0 : (x 0).val < 1 := (x 0).isLt
      have hx1 : (x 1).val < 8 := (x 1).isLt
      unfold held
      rw [dif_neg (show ¬ 8 ≤ (at_ o ho r).val by show ¬ 8 ≤ o + r.val; omega)]
      refine congrArg Q (funext fun a => Fin.ext ?_)
      fin_cases a
      · show (x 0).val = 0; omega
      · show (x 1).val = o + r.val; omega
      · show (x 2).val = d.val; omega

theorem read_buf1 (P : Vec Ideal S1x512x704 .f32) (Q : Vec Ideal S1x8x704 .f32) (P' : Vec Ideal S1x512x704 .f32) (Q' : Vec Ideal S1x8x704 .f32) (o : ℕ) (ho : o + 512 ≤ 520) (h1 h2 h3 h4 h5) (r : Fin 512) (d : Fin 704) :
    (View.whole cc0_scratch0).readCov
      [⟨Rect.unit ![1, 8, 0] ![1, 512, 704] h1, P⟩, ⟨Rect.unit ![1, 0, 0] ![1, 8, 704] h2, Q⟩, ⟨Rect.unit ![0, 8, 0] ![1, 512, 704] h4, P'⟩, ⟨Rect.unit ![0, 0, 0] ![1, 8, 704] h5, Q'⟩]
      (Rect.unit (s := S2x520x704) ![1, o, 0] ![1, 512, 704] h3).toLoadRect (ix3 0 r d) = held P Q (at_ o ho r) d := by
  rw [View.readCov_eq_canon']
  refine View.canon_eq_of_allAt _ _ _ ?_ ?_
  · by_cases hj : 8 ≤ o + r.val
    · refine ⟨_, List.mem_cons_self, ?_⟩
      rw [Rect.mem_set_unit]
      intro a
      fin_cases a
      · exact ⟨Nat.le_add_right _ _, show 1 + 1 * (0 : Fin 1).val < 1 + 1 by simp⟩
      · exact ⟨show 8 ≤ o + 1 * r.val by omega, show o + 1 * r.val < 8 + 512 by omega⟩
      · exact ⟨Nat.zero_le _, show 0 + 1 * d.val < 0 + 704 by omega⟩
    · refine ⟨_, List.mem_cons_of_mem _ List.mem_cons_self, ?_⟩
      rw [Rect.mem_set_unit]
      intro a
      fin_cases a
      · exact ⟨Nat.le_add_right _ _, show 1 + 1 * (0 : Fin 1).val < 1 + 1 by simp⟩
      · exact ⟨Nat.zero_le _, show o + 1 * r.val < 0 + 8 by omega⟩
      · exact ⟨Nat.zero_le _, show 0 + 1 * d.val < 0 + 704 by omega⟩
  · refine View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_nil _ _))))
    · have e1 : o + 1 * r.val = 8 + (x 1).val := hx 1
      have e2 : 0 + 1 * d.val = 0 + (x 2).val := hx 2
      have hx0 : (x 0).val < 1 := (x 0).isLt
      unfold held
      rw [dif_pos (show 8 ≤ (at_ o ho r).val by show 8 ≤ o + r.val; omega)]
      refine congrArg P (funext fun a => Fin.ext ?_)
      fin_cases a
      · show (x 0).val = 0; omega
      · show (x 1).val = o + r.val - 8; omega
      · show (x 2).val = d.val; omega
    · have e1 : o + 1 * r.val = 0 + (x 1).val := hx 1
      have e2 : 0 + 1 * d.val = 0 + (x 2).val := hx 2
      have hx0 : (x 0).val < 1 := (x 0).isLt
      have hx1 : (x 1).val < 8 := (x 1).isLt
      unfold held
      rw [dif_neg (show ¬ 8 ≤ (at_ o ho r).val by show ¬ 8 ≤ o + r.val; omega)]
      refine congrArg Q (funext fun a => Fin.ext ?_)
      fin_cases a
      · show (x 0).val = 0; omega
      · show (x 1).val = o + r.val; omega
      · show (x 2).val = d.val; omega
    · have e0 : 1 + (0 : Fin 1).val = 0 + (x 0).val := hx 0
      have hx0 : (x 0).val < 1 := (x 0).isLt
      have e0' : 1 + 0 = 0 + (x 0).val := e0
      omega
    · have e0 : 1 + (0 : Fin 1).val = 0 + (x 0).val := hx 0
      have hx0 : (x 0).val < 1 := (x 0).isLt
      have e0' : 1 + 0 = 0 + (x 0).val := e0
      omega

/-- Row `q` of the products. -/
def lin (A : Vec Ideal S520x1024 .bf16) (W : Vec Ideal S1x1x1024x704 .bf16) (q : Fin 520) (d : Fin 704) : EReal :=
  onto 0 (fun k : Fin 1024 => A (ix2 (turn q) k)) (fun k => W (ix4 0 0 k d))

/-- A filter of three taps with its offset. -/
def taps (b w0 w1 w2 p0 p1 p2 : EReal) : EReal := b + w0 * p0 + w1 * p1 + w2 * p2

theorem held_first (A : Vec Ideal S520x1024 .bf16) (W : Vec Ideal S1x1x1024x704 .bf16) (q : Fin 520) (d : Fin 704) :
    held (k0_pay11 (F := Ideal) (k0_pay8 (F := Ideal) A W)) (k0_pay10 (F := Ideal) (k0_pay7 (F := Ideal) A W)) q d = lin A W q d := by
  unfold held lin turn
  split_ifs with h
  · pointwise [k0_pay11, k0_pay8, k0_pay7]
    rw [onto, zero_add]
    first | done | rfl
  · pointwise [k0_pay10, k0_pay7]
    rw [onto, zero_add]
    refine Finset.sum_congr rfl fun k _ => congrArg (· * _) (congrArg A (congrArg (ix2 · k) (Fin.ext ?_)))
    show _ = q.val + 512
    simp [Nat.add_comm]

theorem held_second (A : Vec Ideal S520x1024 .bf16) (W : Vec Ideal S1x1x1024x704 .bf16) (q : Fin 520) (d : Fin 704) :
    held (k0_pay17 (F := Ideal) A W) (k0_pay16 (F := Ideal) A W) q d = lin A W q d := by
  refine Eq.trans ?_ (held_first A W q d)
  rfl

theorem u_first (A : Vec Ideal S520x1024 .bf16) (W : Vec Ideal S1x1x1024x704 .bf16) (r : Fin 512) (d : Fin 704) :
    k0_pay8 (F := Ideal) A W (ix2 r d) = lin A W (at_ 8 (by norm_num) r) d := by
  refine Eq.trans ?_ (held_first A W _ d)
  unfold held
  rw [dif_pos (show 8 ≤ (at_ 8 (by norm_num) r).val by show 8 ≤ 8 + r.val; omega)]
  pointwise [k0_pay11]
  refine congrArg (k0_pay8 (F := Ideal) A W) (congrArg (ix2 · d) (Fin.ext ?_))
  show r.val = 8 + r.val - 8
  omega

/-- The filter on the first half. -/
theorem c_first (A : Vec Ideal S520x1024 .bf16) (W : Vec Ideal S1x1x1024x704 .bf16) (v38 : Vec Ideal S1x1x3x704 .f32) (v40 : Vec Ideal S1x1x1x704 .f32)
    (v43 v50 : Vec Ideal S1x512x704 .f32) (r : Fin 512) (d : Fin 704) :
    k0_pay12 (F := Ideal) (k0_pay8 (F := Ideal) A W) v38 v40 v43 v50 (ix2 r d)
      = taps (v40 (ix4 0 0 0 d)) (v38 (ix4 0 0 0 d)) (v38 (ix4 0 0 1 d)) (v38 (ix4 0 0 2 d)) (v43 (ix3 0 r d)) (v50 (ix3 0 r d)) (lin A W (at_ 8 (by norm_num) r) d) := by
  pointwise [k0_pay12, u_first]
  rfl

theorem c_second (A : Vec Ideal S520x1024 .bf16) (W : Vec Ideal S1x1x1024x704 .bf16) (v38 : Vec Ideal S1x1x3x704 .f32) (v40 : Vec Ideal S1x1x1x704 .f32)
    (v43 v50 : Vec Ideal S1x512x704 .f32) (r : Fin 512) (d : Fin 704) :
    k0_pay1 (F := Ideal) (k0_pay14 (F := Ideal) A W) (k0_pay19 (F := Ideal) v38 v40 v43 v50) (k0_pay20 (F := Ideal) v38) (ix2 r d)
      = taps (v40 (ix4 0 0 0 d)) (v38 (ix4 0 0 0 d)) (v38 (ix4 0 0 1 d)) (v38 (ix4 0 0 2 d)) (v43 (ix3 0 r d)) (v50 (ix3 0 r d)) (lin A W (at_ 8 (by norm_num) r) d) := by
  refine Eq.trans ?_ (c_first A W v38 v40 v43 v50 r d)
  rfl

/-- Where each window sits at a grid point. -/
theorem idx_val : ∀ t : Fin cfg0.N, win0_0.index t = ![t.val % 16, 0] ∧ win0_1.index t = ![t.val % 16 * 64 - 1, 0] ∧ win0_2.index t = ![0, t.val / 16, 0, 0]
    ∧ win0_3.index t = ![0, t.val / 16, 0, 0] ∧ win0_4.index t = ![0, t.val / 16, 0, 0] :=
  (by decide +kernel : ∀ t : Fin grid0.N, win0_0.index t = ![t.val % 16, 0] ∧ win0_1.index t = ![t.val % 16 * 64 - 1, 0] ∧ win0_2.index t = ![0, t.val / 16, 0, 0]
    ∧ win0_3.index t = ![0, t.val / 16, 0, 0] ∧ win0_4.index t = ![0, t.val / 16, 0, 0])

theorem out_val : ∀ t : Fin cfg0.N, win0_5.index t = ![0, t.val / 16, t.val % 16, 0] ∧ win0_6.index t = ![0, t.val / 16, t.val % 16, 0] ∧ win0_7.index t = ![t.val / 16, t.val % 16, 0] :=
  (by decide +kernel : ∀ t : Fin grid0.N, win0_5.index t = ![0, t.val / 16, t.val % 16, 0] ∧ win0_6.index t = ![0, t.val / 16, t.val % 16, 0] ∧ win0_7.index t = ![t.val / 16, t.val % 16, 0])

theorem pt_lt (t : Fin cfg0.N) : t.val < 64 := lt_of_lt_of_eq t.isLt N_0

/-- The point's block of columns, its batch, and the place in the sequence of its row `r`. -/
def colBlk (t : Fin cfg0.N) : Fin 4 := ⟨t.val / 16, by have := pt_lt t; omega⟩
def bat (t : Fin cfg0.N) : Fin 4 := ⟨t.val % 16 / 4, by omega⟩
def pos (t : Fin cfg0.N) (r : Fin 512) : Fin 2048 := ⟨t.val % 4 * 512 + r.val, by omega⟩

/-- The column of the weight that is column `d` of block `j` of half `h`. -/
def col (h : Fin 2) (j : Fin 4) (d : Fin 704) : Fin 5632 := ⟨h.val * 2816 + j.val * 704 + d.val, by omega⟩

theorem iblk0_at (t : Fin cfg0.N) (r : Fin 512) (d : Fin 1024) :
    iblk m c 0 t (ix2 r d) = m ((c : Thread nD τ).loc main_arg0) (ix3 (bat t) (pos t r) d) := by
  blk_simp [iblk, idx_val t]
  entry_read
  pointwise
  unfold bat pos
  blk_ext [idx_val t]

theorem iblk1_at (t : Fin cfg0.N) (ht : t.val % 4 ≠ 0) (r : Fin 8) (d : Fin 1024) :
    iblk m c 1 t (ix2 r d) = m ((c : Thread nD τ).loc main_arg0) (ix3 (bat t) ⟨t.val % 4 * 512 + r.val - 8, by omega⟩ d) := by
  blk_simp [iblk, idx_val t]
  entry_read
  pointwise
  unfold bat
  blk_ext [idx_val t]

theorem iblk2_at (t : Fin cfg0.N) (h : Fin 2) (k : Fin 1024) (d : Fin 704) :
    iblk m c 2 t (ix4 h 0 k d) = m ((c : Thread nD τ).loc main_arg1) (ix2 k (col h (colBlk t) d)) := by
  blk_simp [iblk, idx_val t]
  entry_read
  pointwise
  unfold col colBlk
  blk_ext [idx_val t]

theorem iblk3_at (t : Fin cfg0.N) (h : Fin 2) (k : Fin 3) (d : Fin 704) :
    iblk m c 3 t (ix4 h 0 k d) = m ((c : Thread nD τ).loc main_arg2) (ix2 k (col h (colBlk t) d)) := by
  blk_simp [iblk, idx_val t]
  entry_read
  pointwise
  unfold col colBlk
  blk_ext [idx_val t]

theorem iblk4_at (t : Fin cfg0.N) (h : Fin 2) (d : Fin 704) :
    iblk m c 4 t (ix4 h 0 0 d) = m ((c : Thread nD τ).loc main_arg3) (ix1 (col h (colBlk t) d)) := by
  blk_simp [iblk, idx_val t]
  entry_read
  pointwise
  unfold col colBlk
  blk_ext [idx_val t]

/-- Whether the point's block begins a sequence. -/
theorem first_bit : ∀ t : Fin cfg0.N, Scalar.cmpi .eq (Scalar.select (Scalar.andi (Scalar.xori (Scalar.cmpi .slt (Scalar.remsi (BitVec.ofNat 32 (grid0.coords t 1).val) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (BitVec.ofNat 32 (grid0.coords t 1).val) (Scalar.select (Scalar.cmpi .eq 4#32 0#32) 1#32 4#32)) 0#32)) (Scalar.addi (Scalar.remsi (BitVec.ofNat 32 (grid0.coords t 1).val) (Scalar.select (Scalar.cmpi .eq 4#32 0#32) 1#32 4#32)) (Scalar.select (Scalar.cmpi .eq 4#32 0#32) 1#32 4#32)) (Scalar.remsi (BitVec.ofNat 32 (grid0.coords t 1).val) (Scalar.select (Scalar.cmpi .eq 4#32 0#32) 1#32 4#32))) 0#32
      = if t.val % 4 = 0 then 1#1 else 0#1 :=
  (by decide +kernel : ∀ t : Fin grid0.N, Scalar.cmpi .eq (Scalar.select (Scalar.andi (Scalar.xori (Scalar.cmpi .slt (Scalar.remsi (BitVec.ofNat 32 (grid0.coords t 1).val) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (BitVec.ofNat 32 (grid0.coords t 1).val) (Scalar.select (Scalar.cmpi .eq 4#32 0#32) 1#32 4#32)) 0#32)) (Scalar.addi (Scalar.remsi (BitVec.ofNat 32 (grid0.coords t 1).val) (Scalar.select (Scalar.cmpi .eq 4#32 0#32) 1#32 4#32)) (Scalar.select (Scalar.cmpi .eq 4#32 0#32) 1#32 4#32)) (Scalar.remsi (BitVec.ofNat 32 (grid0.coords t 1).val) (Scalar.select (Scalar.cmpi .eq 4#32 0#32) 1#32 4#32))) 0#32
      = if t.val % 4 = 0 then 1#1 else 0#1)

theorem pay6_zero (t : Fin cfg0.N) (ht : t.val % 4 = 0) (v : Vec Ideal S8x1024 .bf16) (r : Fin 8) (k : Fin 1024) :
    k0_pay6 (F := Ideal) (grid0.coords t) v (ix2 r k) = (0 : EReal) := by
  have e := first_bit t
  rw [if_pos ht] at e
  unfold k0_pay6
  simp only []
  rw [e]
  pointwise [Scalar.select]
  simp [Ideal.ofBits_zero_bf16]
  rfl

theorem pay6_block (t : Fin cfg0.N) (ht : t.val % 4 ≠ 0) (v : Vec Ideal S8x1024 .bf16) (r : Fin 8) (k : Fin 1024) :
    k0_pay6 (F := Ideal) (grid0.coords t) v (ix2 r k) = v (ix2 r k) := by
  have e := first_bit t
  rw [if_neg ht] at e
  unfold k0_pay6
  simp only []
  rw [e]
  pointwise [Scalar.select]
  rfl

theorem rows_lo (P : Vec Ideal S512x1024 .bf16) (Q : Vec Ideal S8x1024 .bf16) (r : Fin 520) (h : r.val < 512) (k : Fin 1024) : rows P Q (ix2 r k) = P (ix2 ⟨r.val, h⟩ k) := dif_pos h
theorem rows_hi (P : Vec Ideal S512x1024 .bf16) (Q : Vec Ideal S8x1024 .bf16) (r : Fin 520) (h : ¬ r.val < 512) (k : Fin 1024) : rows P Q (ix2 r k) = Q (ix2 ⟨r.val - 512, by omega⟩ k) := dif_neg h

/-- The rows the point multiplies. -/
def src (t : Fin cfg0.N) : Vec Ideal S520x1024 .bf16 := rows (k0_pay5 (F := Ideal) (iblk m c 0 t)) (k0_pay6 (F := Ideal) (grid0.coords t) (iblk m c 1 t))

/-- A sequence with eight rows of zeros in front. -/
def lead (X : Fin 2048 → EReal) (s : ℕ) : EReal := if h : 8 ≤ s ∧ s - 8 < 2048 then X ⟨s - 8, h.2⟩ else 0

theorem src_at (t : Fin cfg0.N) (q : Fin 520) (k : Fin 1024) :
    src m c t (ix2 (turn q) k) = lead (fun b => m ((c : Thread nD τ).loc main_arg0) (ix3 (bat t) b k)) (t.val % 4 * 512 + q.val) := by
  by_cases hq : 8 ≤ q.val
  · have e : turn q = ⟨q.val - 8, by omega⟩ := by unfold turn; rw [dif_pos hq]
    rw [e]
    refine (rows_lo _ _ _ (show q.val - 8 < 512 by omega) k).trans ?_
    unfold lead
    rw [dif_pos (show 8 ≤ t.val % 4 * 512 + q.val ∧ t.val % 4 * 512 + q.val - 8 < 2048 by omega)]
    refine Eq.trans ?_ ((iblk0_at m c t ⟨q.val - 8, by omega⟩ k).trans ?_)
    · pointwise [k0_pay5]
    · refine congrArg (fun b => m ((c : Thread nD τ).loc main_arg0) (ix3 (bat t) b k)) (Fin.ext ?_)
      show t.val % 4 * 512 + (q.val - 8) = t.val % 4 * 512 + q.val - 8
      omega
  · have e : turn q = ⟨q.val + 512, by omega⟩ := by unfold turn; rw [dif_neg hq]
    rw [e]
    refine (rows_hi _ _ _ (show ¬ q.val + 512 < 512 by omega) k).trans ?_
    have hi : (⟨q.val + 512 - 512, by omega⟩ : Fin 8) = ⟨q.val, by omega⟩ := Fin.ext (Nat.add_sub_cancel _ _)
    refine Eq.trans (congrArg (fun r : Fin 8 => k0_pay6 (F := Ideal) (grid0.coords t) (iblk m c 1 t) (ix2 r k)) hi) ?_
    unfold lead
    by_cases ht : t.val % 4 = 0
    · rw [dif_neg (show ¬ (8 ≤ t.val % 4 * 512 + q.val ∧ t.val % 4 * 512 + q.val - 8 < 2048) by omega)]
      exact pay6_zero t ht _ _ _
    · rw [dif_pos (show 8 ≤ t.val % 4 * 512 + q.val ∧ t.val % 4 * 512 + q.val - 8 < 2048 by omega)]
      exact (pay6_block t ht _ _ _).trans (iblk1_at m c t ht _ _)

/-- One entry of the product, of the filtered product, and of the result. -/
def prod (a : Fin 4) (f : Fin 5632) (b : Fin 2048) : EReal :=
  onto 0 (fun k : Fin 1024 => m ((c : Thread nD τ).loc main_arg0) (ix3 a b k)) (fun k => m ((c : Thread nD τ).loc main_arg1) (ix2 k f))

theorem lead_zero_or (s : ℕ) : (∃ b : Fin 2048, ∀ X : Fin 2048 → EReal, lead X s = X b) ∨ ∀ X : Fin 2048 → EReal, lead X s = 0 := by
  by_cases h : 8 ≤ s ∧ s - 8 < 2048
  · exact .inl ⟨⟨s - 8, h.2⟩, fun X => dif_pos h⟩
  · exact .inr fun X => dif_neg h

theorem lin_at (t : Fin cfg0.N) (h : Fin 2) (W : Vec Ideal S1x1x1024x704 .bf16) (hW : ∀ k d, W (ix4 0 0 k d) = iblk m c 2 t (ix4 h 0 k d)) (q : Fin 520) (d : Fin 704) :
    lin (src m c t) W q d = lead (prod m c (bat t) (col h (colBlk t) d)) (t.val % 4 * 512 + q.val) := by
  unfold lin
  simp only [src_at, hW, iblk2_at]
  rcases lead_zero_or (t.val % 4 * 512 + q.val) with ⟨b, e⟩ | e
  · simp only [e]
    rfl
  · simp only [e]
    simp [onto]

theorem ld_w (h : Fin 2) (X : Vec Ideal S2x1x1024x704 .bf16) (hr) (k : Fin 1024) (d : Fin 704) :
    View.ld X (Rect.unit (s := S2x1x1024x704) ![h.val, 0, 0, 0] ![1, 1, 1024, 704] hr) (ix4 0 0 k d) = X (ix4 h 0 k d) := by
  refine congrArg X (funext fun a => Fin.ext ?_)
  fin_cases a
  · show h.val + 1 * 0 = h.val; omega
  · rfl
  · show 0 + 1 * k.val = k.val; omega
  · show 0 + 1 * d.val = d.val; omega

theorem ld_f (h : Fin 2) (X : Vec Ideal S2x1x3x704 .f32) (hr) (k : Fin 3) (d : Fin 704) :
    View.ld X (Rect.unit (s := S2x1x3x704) ![h.val, 0, 0, 0] ![1, 1, 3, 704] hr) (ix4 0 0 k d) = X (ix4 h 0 k d) := by
  refine congrArg X (funext fun a => Fin.ext ?_)
  fin_cases a
  · show h.val + 1 * 0 = h.val; omega
  · rfl
  · show 0 + 1 * k.val = k.val; omega
  · show 0 + 1 * d.val = d.val; omega

theorem ld_b (h : Fin 2) (X : Vec Ideal S2x1x1x704 .f32) (hr) (d : Fin 704) :
    View.ld X (Rect.unit (s := S2x1x1x704) ![h.val, 0, 0, 0] ![1, 1, 1, 704] hr) (ix4 0 0 0 d) = X (ix4 h 0 0 d) := by
  refine congrArg X (funext fun a => Fin.ext ?_)
  fin_cases a
  · show h.val + 1 * 0 = h.val; omega
  · rfl
  · rfl
  · show 0 + 1 * d.val = d.val; omega

/-- The filter at one place, from the products of the sequence. -/
def filt (a : Fin 4) (f : Fin 5632) (b : Fin 2048) : EReal :=
  taps (m ((c : Thread nD τ).loc main_arg3) (ix1 f)) (m ((c : Thread nD τ).loc main_arg2) (ix2 0 f)) (m ((c : Thread nD τ).loc main_arg2) (ix2 1 f)) (m ((c : Thread nD τ).loc main_arg2) (ix2 2 f))
    (lead (prod m c a f) (b.val + 6)) (lead (prod m c a f) (b.val + 7)) (prod m c a f b)

theorem lead_pos (t : Fin cfg0.N) (X : Fin 2048 → EReal) (r : Fin 512) (o : ℕ) (ho : o + 512 ≤ 520) :
    lead X (t.val % 4 * 512 + (at_ o ho r).val) = lead X ((pos t r).val + o) := by
  refine congrArg (lead X) ?_
  show t.val % 4 * 512 + (o + r.val) = t.val % 4 * 512 + r.val + o
  omega

theorem lead_eight (X : Fin 2048 → EReal) (b : Fin 2048) : lead X (b.val + 8) = X b :=
  (dif_pos (show 8 ≤ b.val + 8 ∧ b.val + 8 - 8 < 2048 by omega)).trans (congrArg X (Fin.ext (Nat.add_sub_cancel _ _)))

variable (A : Vec Ideal S520x1024 .bf16)

theorem u_val (t : Fin cfg0.N) (hA : A = src m c t) (h : Fin 2) (W : Vec Ideal S1x1x1024x704 .bf16) (hW : ∀ k d, W (ix4 0 0 k d) = iblk m c 2 t (ix4 h 0 k d)) (r : Fin 512) (d : Fin 704) :
    lin A W (at_ 8 (by norm_num) r) d = prod m c (bat t) (col h (colBlk t) d) (pos t r) := by
  rw [hA, lin_at m c t h W hW, lead_pos, lead_eight]

theorem filt_val (t : Fin cfg0.N) (hA : A = src m c t) (h : Fin 2) (W : Vec Ideal S1x1x1024x704 .bf16) (hW : ∀ k d, W (ix4 0 0 k d) = iblk m c 2 t (ix4 h 0 k d))
    (v38 : Vec Ideal S1x1x3x704 .f32) (hv : ∀ k d, v38 (ix4 0 0 k d) = iblk m c 3 t (ix4 h 0 k d))
    (v40 : Vec Ideal S1x1x1x704 .f32) (hb : ∀ d, v40 (ix4 0 0 0 d) = iblk m c 4 t (ix4 h 0 0 d)) (r : Fin 512) (d : Fin 704) :
    taps (v40 (ix4 0 0 0 d)) (v38 (ix4 0 0 0 d)) (v38 (ix4 0 0 1 d)) (v38 (ix4 0 0 2 d)) (lin A W (at_ 6 (by norm_num) r) d) (lin A W (at_ 7 (by norm_num) r) d) (lin A W (at_ 8 (by norm_num) r) d)
      = filt m c (bat t) (col h (colBlk t) d) (pos t r) := by
  rw [u_val m c A t hA h W hW, hA, lin_at m c t h W hW, lin_at m c t h W hW, lead_pos, lead_pos, hb, hv, hv, hv, iblk4_at, iblk3_at, iblk3_at, iblk3_at]
  rfl

theorem c_first_of (W : Vec Ideal S1x1x1024x704 .bf16) (v38 : Vec Ideal S1x1x3x704 .f32) (v40 : Vec Ideal S1x1x1x704 .f32) (v43 v50 : Vec Ideal S1x512x704 .f32) (r : Fin 512) (d : Fin 704)
    (p q : EReal) (hp : v43 (ix3 0 r d) = p) (hq : v50 (ix3 0 r d) = q) :
    k0_pay12 (F := Ideal) (k0_pay8 (F := Ideal) A W) v38 v40 v43 v50 (ix2 r d)
      = taps (v40 (ix4 0 0 0 d)) (v38 (ix4 0 0 0 d)) (v38 (ix4 0 0 1 d)) (v38 (ix4 0 0 2 d)) p q (lin A W (at_ 8 (by norm_num) r) d) := by
  subst hp hq
  exact c_first A W v38 v40 v43 v50 r d

theorem c_second_of (W : Vec Ideal S1x1x1024x704 .bf16) (v38 : Vec Ideal S1x1x3x704 .f32) (v40 : Vec Ideal S1x1x1x704 .f32) (v43 v50 : Vec Ideal S1x512x704 .f32) (r : Fin 512) (d : Fin 704)
    (p q : EReal) (hp : v43 (ix3 0 r d) = p) (hq : v50 (ix3 0 r d) = q) :
    k0_pay1 (F := Ideal) (k0_pay14 (F := Ideal) A W) (k0_pay19 (F := Ideal) v38 v40 v43 v50) (k0_pay20 (F := Ideal) v38) (ix2 r d)
      = taps (v40 (ix4 0 0 0 d)) (v38 (ix4 0 0 0 d)) (v38 (ix4 0 0 1 d)) (v38 (ix4 0 0 2 d)) p q (lin A W (at_ 8 (by norm_num) r) d) := by
  subst hp hq
  exact c_second A W v38 v40 v43 v50 r d

theorem c0_at (W : Vec Ideal S1x1x1024x704 .bf16) (v38 : Vec Ideal S1x1x3x704 .f32) (v40 : Vec Ideal S1x1x1x704 .f32) (h1 h2 h3 h4) (r : Fin 512) (d : Fin 704) :
    k0_pay12 (F := Ideal) (k0_pay8 (F := Ideal) A W) v38 v40
      ((View.whole cc0_scratch0).readCov
        [⟨Rect.unit ![0, 8, 0] ![1, 512, 704] h1, k0_pay11 (F := Ideal) (k0_pay8 (F := Ideal) A W)⟩, ⟨Rect.unit ![0, 0, 0] ![1, 8, 704] h2, k0_pay10 (F := Ideal) (k0_pay7 (F := Ideal) A W)⟩]
        (Rect.unit (s := S2x520x704) ![0, 6, 0] ![1, 512, 704] h3).toLoadRect)
      ((View.whole cc0_scratch0).readCov
        [⟨Rect.unit ![0, 8, 0] ![1, 512, 704] h1, k0_pay11 (F := Ideal) (k0_pay8 (F := Ideal) A W)⟩, ⟨Rect.unit ![0, 0, 0] ![1, 8, 704] h2, k0_pay10 (F := Ideal) (k0_pay7 (F := Ideal) A W)⟩]
        (Rect.unit (s := S2x520x704) ![0, 7, 0] ![1, 512, 704] h4).toLoadRect) (ix2 r d)
      = taps (v40 (ix4 0 0 0 d)) (v38 (ix4 0 0 0 d)) (v38 (ix4 0 0 1 d)) (v38 (ix4 0 0 2 d)) (lin A W (at_ 6 (by norm_num) r) d) (lin A W (at_ 7 (by norm_num) r) d) (lin A W (at_ 8 (by norm_num) r) d) := by
  have e6 := (read_buf0 (k0_pay11 (F := Ideal) (k0_pay8 (F := Ideal) A W)) (k0_pay10 (F := Ideal) (k0_pay7 (F := Ideal) A W)) 6 (by norm_num) h1 h2 h3 r d).trans (held_first A W _ d)
  have e7 := (read_buf0 (k0_pay11 (F := Ideal) (k0_pay8 (F := Ideal) A W)) (k0_pay10 (F := Ideal) (k0_pay7 (F := Ideal) A W)) 7 (by norm_num) h1 h2 h4 r d).trans (held_first A W _ d)
  exact c_first_of A W v38 v40 _ _ r d _ _ e6 e7

theorem c1_at (W : Vec Ideal S1x1x1024x704 .bf16) (v38 : Vec Ideal S1x1x3x704 .f32) (v40 : Vec Ideal S1x1x1x704 .f32) (P' : Vec Ideal S1x512x704 .f32) (Q' : Vec Ideal S1x8x704 .f32) (h1 h2 h3 h4 h5 h6) (r : Fin 512) (d : Fin 704) :
    k0_pay1 (F := Ideal) (k0_pay14 (F := Ideal) A W) (k0_pay19 (F := Ideal) v38 v40
      ((View.whole cc0_scratch0).readCov
        [⟨Rect.unit ![1, 8, 0] ![1, 512, 704] h1, k0_pay17 (F := Ideal) A W⟩, ⟨Rect.unit ![1, 0, 0] ![1, 8, 704] h2, k0_pay16 (F := Ideal) A W⟩, ⟨Rect.unit ![0, 8, 0] ![1, 512, 704] h5, P'⟩, ⟨Rect.unit ![0, 0, 0] ![1, 8, 704] h6, Q'⟩]
        (Rect.unit (s := S2x520x704) ![1, 6, 0] ![1, 512, 704] h3).toLoadRect)
      ((View.whole cc0_scratch0).readCov
        [⟨Rect.unit ![1, 8, 0] ![1, 512, 704] h1, k0_pay17 (F := Ideal) A W⟩, ⟨Rect.unit ![1, 0, 0] ![1, 8, 704] h2, k0_pay16 (F := Ideal) A W⟩, ⟨Rect.unit ![0, 8, 0] ![1, 512, 704] h5, P'⟩, ⟨Rect.unit ![0, 0, 0] ![1, 8, 704] h6, Q'⟩]
        (Rect.unit (s := S2x520x704) ![1, 7, 0] ![1, 512, 704] h4).toLoadRect)) (k0_pay20 (F := Ideal) v38) (ix2 r d)
      = taps (v40 (ix4 0 0 0 d)) (v38 (ix4 0 0 0 d)) (v38 (ix4 0 0 1 d)) (v38 (ix4 0 0 2 d)) (lin A W (at_ 6 (by norm_num) r) d) (lin A W (at_ 7 (by norm_num) r) d) (lin A W (at_ 8 (by norm_num) r) d) := by
  have e6 := (read_buf1 (k0_pay17 (F := Ideal) A W) (k0_pay16 (F := Ideal) A W) P' Q' 6 (by norm_num) h1 h2 h3 h5 h6 r d).trans (held_second A W _ d)
  have e7 := (read_buf1 (k0_pay17 (F := Ideal) A W) (k0_pay16 (F := Ideal) A W) P' Q' 7 (by norm_num) h1 h2 h4 h5 h6 r d).trans (held_second A W _ d)
  exact c_second_of A W v38 v40 _ _ r d _ _ e6 e7

/-- A value times its logistic factor, the factor taken by a hyperbolic tangent. -/
def gated (x y : EReal) : EReal :=
  x * (((1 / 2 : ℝ) : EReal) * Ideal.tanh (((1 / 2 : ℝ) : EReal) * x) + ((1 / 2 : ℝ) : EReal)) * y

theorem bits_half : Ideal.ofBits .f32 0x3F000000#32 = ((1 / 2 : ℝ) : EReal) := by
  simp [Ideal.ofBits, Ideal.ieee, -EReal.coe_mul]; norm_num

theorem pay4_at (v58 v63 v90 : FVec Ideal S512x704 .f32) (v91 : FVec Ideal S1x704 .f32) (r : Fin 512) (d : Fin 704) :
    k0_pay4 (F := Ideal) v58 v63 v90 v91 (ix3 0 r d) = gated (v58 (ix2 r d)) (k0_pay1 (F := Ideal) v63 v90 v91 (ix2 r d)) := by
  unfold k0_pay4 gated
  pointwise [bits_half]

theorem pay15_at (W : Vec Ideal S1x1x1024x704 .bf16) (r : Fin 512) (d : Fin 704) : k0_pay15 (F := Ideal) A W (ix4 0 0 r d) = lin A W (at_ 8 (by norm_num) r) d := by
  refine Eq.trans ?_ (u_first A W r d)
  pointwise [k0_pay15]
  rfl

theorem pay9_at (W : Vec Ideal S1x1x1024x704 .bf16) (r : Fin 512) (d : Fin 704) : k0_pay9 (F := Ideal) (k0_pay8 (F := Ideal) A W) (ix4 0 0 r d) = lin A W (at_ 8 (by norm_num) r) d := by
  refine Eq.trans ?_ (u_first A W r d)
  pointwise [k0_pay9]

theorem pay3_at (v63 v90 : FVec Ideal S512x704 .f32) (v91 : FVec Ideal S1x704 .f32) (r : Fin 512) (d : Fin 704) : k0_pay3 (F := Ideal) v63 v90 v91 (ix4 0 0 r d) = k0_pay1 (F := Ideal) v63 v90 v91 (ix2 r d) := by
  unfold k0_pay3
  generalize k0_pay1 (F := Ideal) v63 v90 v91 = y
  pointwise

theorem pay2_at (v58 : FVec Ideal S512x704 .f32) (r : Fin 512) (d : Fin 704) : k0_pay2 (F := Ideal) v58 (ix4 0 0 r d) = v58 (ix2 r d) := by
  pointwise [k0_pay2]

theorem tile (V : Fin 2 → EReal) (h : Fin 2) (r : Fin 512) (d : Fin 704) (w : Vec Ideal S1x1x512x704 .f32) (hw : w (ix4 0 0 r d) = V h) (i : Fin 2) (x : S1x1x512x704.Idx)
    (e0 : i.val = h.val + (x 0).val) (e2 : r.val = 0 + (x 2).val) (e3 : d.val = 0 + (x 3).val) : w x = V i := by
  have hx0 : (x 0).val < 1 := (x 0).isLt
  have hx1 : (x 1).val < 1 := (x 1).isLt
  have ei : i = h := Fin.ext (by omega)
  rw [ei, ← hw]
  refine congrArg w (funext fun a => Fin.ext ?_)
  fin_cases a
  · show (x 0).val = 0; omega
  · show (x 1).val = 0; omega
  · show (x 2).val = r.val; omega
  · show (x 3).val = d.val; omega

theorem out5 (t : Fin cfg0.N) (i : Fin 2) (r : Fin 512) (d : Fin 704) : (outsAt0 m c t).1 (ix4 i 0 r d) = prod m c (bat t) (col i (colBlk t) d) (pos t r) := by
  unfold outsAt0
  dsimp only
  frame_out
  refine View.canon_eq_of_allAt _ _ _ (View.cover_of_tiled_head _ _ _ rfl _) ?_
  refine View.allAt_cons_unit _ _ _ _ _ (fun x hx => ?_) (View.allAt_cons_unit _ _ _ _ _ (fun x hx => ?_) (View.allAt_nil _ _))
  · refine tile (fun i => prod m c (bat t) (col i (colBlk t) d) (pos t r)) 1 r d _ ?_ i x (hx 0) (hx 2) (hx 3)
    exact (pay15_at _ _ r d).trans (u_val m c _ t (read_rows _ _ _ _ _) 1 _ (fun k d => ld_w 1 _ _ k d) r d)
  · refine tile (fun i => prod m c (bat t) (col i (colBlk t) d) (pos t r)) 0 r d _ ?_ i x (hx 0) (hx 2) (hx 3)
    exact (pay9_at _ _ r d).trans (u_val m c _ t (read_rows _ _ _ _ _) 0 _ (fun k d => ld_w 0 _ _ k d) r d)

theorem out6 (t : Fin cfg0.N) (i : Fin 2) (r : Fin 512) (d : Fin 704) : (outsAt0 m c t).2.1 (ix4 i 0 r d) = filt m c (bat t) (col i (colBlk t) d) (pos t r) := by
  unfold outsAt0
  dsimp only
  frame_out
  refine View.canon_eq_of_allAt _ _ _ (View.cover_of_tiled_head _ _ _ rfl _) ?_
  refine View.allAt_cons_unit _ _ _ _ _ (fun x hx => ?_) (View.allAt_cons_unit _ _ _ _ _ (fun x hx => ?_) (View.allAt_nil _ _))
  · refine tile (fun i => filt m c (bat t) (col i (colBlk t) d) (pos t r)) 1 r d _ ?_ i x (hx 0) (hx 2) (hx 3)
    refine (pay3_at _ _ _ r d).trans ?_
    exact (c1_at _ _ _ _ _ _ _ _ _ _ _ _ r d).trans (filt_val m c _ t (read_rows _ _ _ _ _) 1 _ (fun k d => ld_w 1 _ _ k d) _ (fun k d => ld_f 1 _ _ k d) _ (fun d => ld_b 1 _ _ d) r d)
  · refine tile (fun i => filt m c (bat t) (col i (colBlk t) d) (pos t r)) 0 r d _ ?_ i x (hx 0) (hx 2) (hx 3)
    refine (pay2_at _ r d).trans ?_
    exact (c0_at _ _ _ _ _ _ _ _ r d).trans (filt_val m c _ t (read_rows _ _ _ _ _) 0 _ (fun k d => ld_w 0 _ _ k d) _ (fun k d => ld_f 0 _ _ k d) _ (fun d => ld_b 0 _ _ d) r d)

theorem out7 (t : Fin cfg0.N) (r : Fin 512) (d : Fin 704) :
    (outsAt0 m c t).2.2 (ix3 0 r d) = gated (filt m c (bat t) (col 0 (colBlk t) d) (pos t r)) (filt m c (bat t) (col 1 (colBlk t) d) (pos t r)) := by
  unfold outsAt0
  dsimp only
  frame_out
  refine (pay4_at _ _ _ _ r d).trans (congrArg₂ gated ?_ ?_)
  · exact (c0_at _ _ _ _ _ _ _ _ r d).trans (filt_val m c _ t (read_rows _ _ _ _ _) 0 _ (fun k d => ld_w 0 _ _ k d) _ (fun k d => ld_f 0 _ _ k d) _ (fun d => ld_b 0 _ _ d) r d)
  · exact (c1_at _ _ _ _ _ _ _ _ _ _ _ _ r d).trans (filt_val m c _ t (read_rows _ _ _ _ _) 1 _ (fun k d => ld_w 1 _ _ k d) _ (fun k d => ld_f 1 _ _ k d) _ (fun d => ld_b 1 _ _ d) r d)

/-- Batch and place of a row of the flattened arrays. -/
def row (i : Fin 8192) : Fin 4 × Fin 2048 := (⟨i.val / 2048, by omega⟩, ⟨i.val % 2048, by omega⟩)

theorem row_of (t : Fin cfg0.N) (r : Fin 512) (i : Fin 8192) (h : i.val = t.val % 16 * 512 + r.val) : row i = (bat t, pos t r) := by
  refine Prod.ext (Fin.ext ?_) (Fin.ext ?_)
  · show i.val / 2048 = t.val % 16 / 4
    omega
  · show i.val % 2048 = t.val % 4 * 512 + r.val
    omega

/-- The array of the products after the run. -/
theorem final_5 : (dats m 0 c).arrAt 5 cfg0.N = fun i : (⟨4, ![2, 4, 8192, 704]⟩ : Shape).Idx => prod m c (row (i 2)).1 (col (i 0) (i 1) (i 3)) (row (i 2)).2 := by
  refine (dats m 0 c).arrAt_eq_of_covers 5 _ (by decide +kernel) fun t hf i => ?_
  have w0 : win0_5.index t 0 = 0 := congrFun (out_val t).1 0
  have w1 : win0_5.index t 1 = t.val / 16 := congrFun (out_val t).1 1
  have w2 : win0_5.index t 2 = t.val % 16 := congrFun (out_val t).1 2
  have w3 : win0_5.index t 3 = 0 := congrFun (out_val t).1 3
  have e0 : ∀ (i0 : Fin 2) (i1 : Fin 1) (i2 : Fin 512) (i3 : Fin 704), ((cfg0.win 5).blk t).view.emb (ix4 i0 i1 i2 i3) 0 = i0 := by
    intro i0 i1 i2 i3
    refine Fin.ext (show ((((cfg0.win 5).blk t).view.emb (ix4 i0 i1 i2 i3) 0 : Fin 2)).val = i0.val from ?_)
    blk_simp
    rw [w0]; omega
  have e1 : ∀ (i0 : Fin 2) (i1 : Fin 1) (i2 : Fin 512) (i3 : Fin 704), ((cfg0.win 5).blk t).view.emb (ix4 i0 i1 i2 i3) 1 = colBlk t := by
    intro i0 i1 i2 i3
    refine Fin.ext (show ((((cfg0.win 5).blk t).view.emb (ix4 i0 i1 i2 i3) 1 : Fin 4)).val = t.val / 16 from ?_)
    blk_simp
    rw [w1]
  have e2 : ∀ (i0 : Fin 2) (i1 : Fin 1) (i2 : Fin 512) (i3 : Fin 704), row (((cfg0.win 5).blk t).view.emb (ix4 i0 i1 i2 i3) 2) = (bat t, pos t i2) := by
    intro i0 i1 i2 i3
    refine row_of t i2 _ ?_
    blk_simp
    rw [w2]
  have e3 : ∀ (i0 : Fin 2) (i1 : Fin 1) (i2 : Fin 512) (i3 : Fin 704), ((cfg0.win 5).blk t).view.emb (ix4 i0 i1 i2 i3) 3 = i3 := by
    intro i0 i1 i2 i3
    refine Fin.ext (show ((((cfg0.win 5).blk t).view.emb (ix4 i0 i1 i2 i3) 3 : Fin 704)).val = i3.val from ?_)
    blk_simp
    rw [w3]; omega
  idx_vars i
  show _ = prod m c (row _).1 (col _ _ _) (row _).2
  rw [e0, e1, e2, e3]
  blk_simp
  rw [after0_5]
  obtain rfl : i1 = 0 := Subsingleton.elim _ _
  exact out5 m c t _ _ _

/-- The array of the filtered products after the run. -/
theorem final_6 : (dats m 0 c).arrAt 6 cfg0.N = fun i : (⟨4, ![2, 4, 8192, 704]⟩ : Shape).Idx => filt m c (row (i 2)).1 (col (i 0) (i 1) (i 3)) (row (i 2)).2 := by
  refine (dats m 0 c).arrAt_eq_of_covers 6 _ (by decide +kernel) fun t hf i => ?_
  have w0 : win0_6.index t 0 = 0 := congrFun (out_val t).2.1 0
  have w1 : win0_6.index t 1 = t.val / 16 := congrFun (out_val t).2.1 1
  have w2 : win0_6.index t 2 = t.val % 16 := congrFun (out_val t).2.1 2
  have w3 : win0_6.index t 3 = 0 := congrFun (out_val t).2.1 3
  have e0 : ∀ (i0 : Fin 2) (i1 : Fin 1) (i2 : Fin 512) (i3 : Fin 704), ((cfg0.win 6).blk t).view.emb (ix4 i0 i1 i2 i3) 0 = i0 := by
    intro i0 i1 i2 i3
    refine Fin.ext (show ((((cfg0.win 6).blk t).view.emb (ix4 i0 i1 i2 i3) 0 : Fin 2)).val = i0.val from ?_)
    blk_simp
    rw [w0]; omega
  have e1 : ∀ (i0 : Fin 2) (i1 : Fin 1) (i2 : Fin 512) (i3 : Fin 704), ((cfg0.win 6).blk t).view.emb (ix4 i0 i1 i2 i3) 1 = colBlk t := by
    intro i0 i1 i2 i3
    refine Fin.ext (show ((((cfg0.win 6).blk t).view.emb (ix4 i0 i1 i2 i3) 1 : Fin 4)).val = t.val / 16 from ?_)
    blk_simp
    rw [w1]
  have e2 : ∀ (i0 : Fin 2) (i1 : Fin 1) (i2 : Fin 512) (i3 : Fin 704), row (((cfg0.win 6).blk t).view.emb (ix4 i0 i1 i2 i3) 2) = (bat t, pos t i2) := by
    intro i0 i1 i2 i3
    refine row_of t i2 _ ?_
    blk_simp
    rw [w2]
  have e3 : ∀ (i0 : Fin 2) (i1 : Fin 1) (i2 : Fin 512) (i3 : Fin 704), ((cfg0.win 6).blk t).view.emb (ix4 i0 i1 i2 i3) 3 = i3 := by
    intro i0 i1 i2 i3
    refine Fin.ext (show ((((cfg0.win 6).blk t).view.emb (ix4 i0 i1 i2 i3) 3 : Fin 704)).val = i3.val from ?_)
    blk_simp
    rw [w3]; omega
  idx_vars i
  show _ = filt m c (row _).1 (col _ _ _) (row _).2
  rw [e0, e1, e2, e3]
  blk_simp
  rw [after0_6]
  obtain rfl : i1 = 0 := Subsingleton.elim _ _
  exact out6 m c t _ _ _

/-- The array of the gated products after the run. -/
theorem final_7 : (dats m 0 c).arrAt 7 cfg0.N = fun i : (⟨3, ![4, 8192, 704]⟩ : Shape).Idx =>
    gated (filt m c (row (i 1)).1 (col 0 (i 0) (i 2)) (row (i 1)).2) (filt m c (row (i 1)).1 (col 1 (i 0) (i 2)) (row (i 1)).2) := by
  refine (dats m 0 c).arrAt_eq_of_covers 7 _ (by decide +kernel) fun t hf i => ?_
  have w1 : win0_7.index t 0 = t.val / 16 := congrFun (out_val t).2.2 0
  have w2 : win0_7.index t 1 = t.val % 16 := congrFun (out_val t).2.2 1
  have w3 : win0_7.index t 2 = 0 := congrFun (out_val t).2.2 2
  have e1 : ∀ (i1 : Fin 1) (i2 : Fin 512) (i3 : Fin 704), ((cfg0.win 7).blk t).view.emb (ix3 i1 i2 i3) 0 = colBlk t := by
    intro i1 i2 i3
    refine Fin.ext (show ((((cfg0.win 7).blk t).view.emb (ix3 i1 i2 i3) 0 : Fin 4)).val = t.val / 16 from ?_)
    blk_simp
    rw [w1]
  have e2 : ∀ (i1 : Fin 1) (i2 : Fin 512) (i3 : Fin 704), row (((cfg0.win 7).blk t).view.emb (ix3 i1 i2 i3) 1) = (bat t, pos t i2) := by
    intro i1 i2 i3
    refine row_of t i2 _ ?_
    blk_simp
    rw [w2]
  have e3 : ∀ (i1 : Fin 1) (i2 : Fin 512) (i3 : Fin 704), ((cfg0.win 7).blk t).view.emb (ix3 i1 i2 i3) 2 = i3 := by
    intro i1 i2 i3
    refine Fin.ext (show ((((cfg0.win 7).blk t).view.emb (ix3 i1 i2 i3) 2 : Fin 704)).val = i3.val from ?_)
    blk_simp
    rw [w3]; omega
  idx_vars i
  show _ = gated (filt m c (row _).1 (col 0 _ _) (row _).2) (filt m c (row _).1 (col 1 _ _) (row _).2)
  rw [e1, e2, e3]
  blk_simp
  rw [after0_7]
  obtain rfl : i0 = 0 := Subsingleton.elim _ _
  exact out7 m c t _ _

end Cert.UpKernelIdeal.Real
-- ==== Proof.Up.lean ====
/- The feed-forward input product with its causal filter and gate: kernel and reference end with the same three arrays, for all arguments. -/
module

public import proofs.«01_k».proof.Defs
public import proofs.«01_k».proof.Proof.NormFwd
public import proofs.«01_k».proof.Proof.UpKer
public import proofs.«01_k».proof.Proof.Gen.UpKernel.Frame
public import proofs.«01_k».proof.Proof.Gen.UpReferenceIdeal.Run
public import proofs.«01_k».proof.Proof.Gen.UpReferenceIdeal.Read
public import Idealize.ShloMosaic.Lib.Pointwise
public import Idealize.ShloMosaic.Lib.IdealHost
public import Idealize.ShloMosaic.Lib.KernelVsHost
public import Idealize.ShloMosaic.Lib.Pipeline.ValueKit
public import Idealize.ShloMosaic.Adequacy
public import Idealize.ShloMosaic.Init
public import Idealize.ShloMosaic.Lib.Claim

@[expose] public section

set_option maxRecDepth 16384

noncomputable section

open Idealize.ShloMosaic Idealize.ShloMosaic.TcCoe Idealize.SL.Sem
open scoped BigOperators

namespace Cert.UpReferenceIdeal.Real

open Cert.UpReferenceIdeal Cert.UpReferenceIdeal.Gen Cert.UpReferenceIdeal.Read Cert.NormFwd
open Cert.UpKernelIdeal.Real (lead lead_eight taps gated)

theorem v0_at (X : FVec Ideal S4x2048x1024 .f32) (W : FVec Ideal S1024x5632 .f32) (a : Fin 4) (b : Fin 2048) (d : Fin 5632) :
    val_main_v0 (F := Ideal) X W (ix3 a b d) = onto 0 (fun k => X (ix3 a b k)) (fun k => W (ix2 k d)) := by
  pointwise [val_main_v0]
  rw [onto, zero_add]

/-- The padded products. -/
theorem v1_at (X : FVec Ideal S4x2048x1024 .f32) (W : FVec Ideal S1024x5632 .f32) (a : Fin 4) (s : Fin 2050) (d : Fin 5632) :
    val_main_v1 (F := Ideal) X W (ix3 a s d) = lead (fun b => val_main_v0 (F := Ideal) X W (ix3 a b d)) (s.val + 6) := by
  unfold val_main_v1 lead
  by_cases hs : 2 ≤ s.val
  · rw [dif_pos (show 8 ≤ s.val + 6 ∧ s.val + 6 - 8 < 2048 by omega)]
    refine pad_apply_of_inside _ _ _ _ _ _ _ _ (ix3 a ⟨s.val + 6 - 8, by omega⟩ d) fun x => ?_
    fin_cases x
    · show a.val = 0 + a.val * 1; omega
    · show s.val = 2 + (s.val + 6 - 8) * 1; omega
    · show d.val = 0 + d.val * 1; omega
  · rw [dif_neg (show ¬ (8 ≤ s.val + 6 ∧ s.val + 6 - 8 < 2048) by omega)]
    refine (pad_apply_of_not_inside _ _ _ _ _ _ _ _ 1 ?_).trans ?_
    · intro h
      exact hs h.1
    · pointwise [val_main_call0_v0, val_main_c]
      exact congrArg (fun z : ℝ => (z : EReal)) (by simp : ((((0#32 : BitVec 32).toInt : ℤ)) : ℝ) = 0)

/-- The filtered products. -/
theorem v26_at (X : FVec Ideal S4x2048x1024 .f32) (W : FVec Ideal S1024x5632 .f32) (w : FVec Ideal S3x5632 .f32) (v : FVec Ideal S5632 .f32) (a : Fin 4) (b : Fin 2048) (d : Fin 5632) :
    val_main_v26 (F := Ideal) X W w v (ix3 a b d)
      = taps (v (ix1 d)) (w (ix2 0 d)) (w (ix2 1 d)) (w (ix2 2 d)) (lead (fun b => val_main_v0 (F := Ideal) X W (ix3 a b d)) (b.val + 6))
          (lead (fun b => val_main_v0 (F := Ideal) X W (ix3 a b d)) (b.val + 7)) (val_main_v0 (F := Ideal) X W (ix3 a b d)) := by
  unfold val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_cst
  pointwise [v1_at]
  rw [show 1 + b.val + 6 = b.val + 7 by omega, show 2 + b.val + 6 = b.val + 8 by omega, lead_eight]
  unfold taps
  rw [add_comm _ (v (ix1 d)), ← add_assoc, ← add_assoc]

theorem half (x : ℝ) : 1 / 2 * Real.tanh (1 / 2 * x) + 1 / 2 = 1 / (1 + Real.exp (-x)) := by
  have h1 : Real.exp (-x) = Real.exp (-(1 / 2 * x)) * Real.exp (-(1 / 2 * x)) := by rw [← Real.exp_add]; congr 1; ring
  have h2 : Real.exp (1 / 2 * x) = 1 / Real.exp (-(1 / 2 * x)) := by
    rw [eq_div_iff (Real.exp_pos _).ne', ← Real.exp_add, show 1 / 2 * x + -(1 / 2 * x) = 0 by ring, Real.exp_zero]
  have hp := Real.exp_pos (-(1 / 2 * x))
  rw [Real.tanh_eq_sinh_div_cosh, Real.sinh_eq, Real.cosh_eq, h2, h1]
  field_simp
  ring

/-- The logistic factor, taken by a hyperbolic tangent and by an exponential. -/
theorem factor (x : EReal) : ((1 / 2 : ℝ) : EReal) * Ideal.tanh (((1 / 2 : ℝ) : EReal) * x) + ((1 / 2 : ℝ) : EReal) = Ideal.div 1 (1 + Ideal.exp (-x)) := by
  have h1 : (1 : EReal) = ((1 : ℝ) : EReal) := rfl
  induction x using EReal.rec with
  | bot =>
    rw [EReal.coe_mul_bot_of_pos (by norm_num), Ideal.tanh_bot, EReal.neg_bot, Ideal.exp_top]
    have h2 : (-1 : EReal) = ((-1 : ℝ) : EReal) := rfl
    rw [h2, ← EReal.coe_mul, ← EReal.coe_add, h1, EReal.coe_add_top, Ideal.div, if_neg EReal.top_ne_zero, EReal.inv_top, mul_zero]
    norm_num
  | coe r =>
    rw [← EReal.coe_mul, Ideal.tanh_coe, ← EReal.coe_mul, ← EReal.coe_add, ← EReal.coe_neg, Ideal.exp_coe]
    have h := half r
    rw [h, h1, ← EReal.coe_add]
    rw [Ideal.div_coe (by have := Real.exp_pos (-r); positivity), ← EReal.coe_mul, one_mul]
  | top =>
    rw [EReal.coe_mul_top_of_pos (by norm_num), Ideal.tanh_top, EReal.neg_top, Ideal.exp_bot]
    rw [h1, ← EReal.coe_mul, ← EReal.coe_add, add_zero, Ideal.div_coe one_ne_zero, ← EReal.coe_mul]
    norm_num

/-- The gated products. -/
theorem v37_at (X : FVec Ideal S4x2048x1024 .f32) (W : FVec Ideal S1024x5632 .f32) (w : FVec Ideal S3x5632 .f32) (v : FVec Ideal S5632 .f32) (a : Fin 4) (b : Fin 2048) (d : Fin 2816) :
    val_main_v30 (F := Ideal) X W w v (ix3 a b d) = gated (val_main_v26 (F := Ideal) X W w v (ix3 a b ⟨d.val, by omega⟩)) (val_main_v26 (F := Ideal) X W w v (ix3 a b ⟨2816 + d.val, by omega⟩)) := by
  unfold gated
  rw [factor]
  unfold val_main_v30 val_main_v29 val_main_v28 val_main_call1_v5 val_main_call1_v4 val_main_call1_v3 val_main_call1_v2 val_main_call1_v1 val_main_call1_v0 val_main_call1_cst val_main_call1_cst_0 val_main_v27
  generalize val_main_v26 (F := Ideal) X W w v = y
  pointwise

end Cert.UpReferenceIdeal.Real

namespace Cert.UpProof

open Cert.UpKernelIdeal.Real (prod filt gated col row)

theorem frame_kernel : Cert.quiescent_UpKernel := fun m ρ _ => Cert.UpKernel.Gen.frame m ρ
theorem frame_ideal : Cert.quiescent_UpKernelIdeal := fun m ρ _ => Cert.UpKernelIdeal.Gen.frame m ρ
theorem frame_ref : Cert.quiescent_UpReferenceIdeal := fun m ρ _ =>
  (θ_run _ _ _).mono (fun _ h => ⟨fun c => (h c).2.2.2, sem_eq_zero_of_no_sems (by decide) _⟩) (Cert.UpReferenceIdeal.Value.run m ρ)

/-- Kernel and reference end with the same three arrays. -/
theorem value : Cert.algebraic_UpKernelIdeal_UpReferenceIdeal := by
  intro m ρ m' ρ' _ hagree
  refine ⟨_, _, _, Cert.UpKernelIdeal.Value.run_blocks m ρ, (θ_run _ _ _).mono (fun r h c => ?_) (Cert.UpReferenceIdeal.Value.run m' ρ')⟩
  obtain ⟨a0, a1, a2, a3⟩ := hagree c
  obtain ⟨h3, h5, h7, hargs⟩ := h c
  have hp : ∀ (a : Fin 4) (b : Fin 2048) (f : Fin 5632), Cert.UpReferenceIdeal.Read.val_main_v0 (F := Ideal) (m ((c : Thread Cert.UpKernelIdeal.nD Cert.UpKernelIdeal.τ).loc Cert.UpKernelIdeal.main_arg0)) (m ((c : Thread Cert.UpKernelIdeal.nD Cert.UpKernelIdeal.τ).loc Cert.UpKernelIdeal.main_arg1)) (ix3 a b f) = prod m c a f b :=
    fun a b f => Cert.UpReferenceIdeal.Real.v0_at _ _ a b f
  have hf : ∀ (a : Fin 4) (b : Fin 2048) (f : Fin 5632), Cert.UpReferenceIdeal.Read.val_main_v26 (F := Ideal) (m ((c : Thread Cert.UpKernelIdeal.nD Cert.UpKernelIdeal.τ).loc Cert.UpKernelIdeal.main_arg0)) (m ((c : Thread Cert.UpKernelIdeal.nD Cert.UpKernelIdeal.τ).loc Cert.UpKernelIdeal.main_arg1)) (m ((c : Thread Cert.UpKernelIdeal.nD Cert.UpKernelIdeal.τ).loc Cert.UpKernelIdeal.main_arg2)) (m ((c : Thread Cert.UpKernelIdeal.nD Cert.UpKernelIdeal.τ).loc Cert.UpKernelIdeal.main_arg3)) (ix3 a b f) = filt m c a f b := by
    intro a b f
    rw [Cert.UpReferenceIdeal.Real.v26_at]
    simp only [hp]
    rfl
  refine ⟨h3.trans ?_, h5.trans ?_, h7.trans ?_, hargs⟩
  · refine (Cert.UpReferenceIdeal.Read.val_main_v32_eq _ _).trans ?_
    rw [a0, a1, Cert.UpKernelIdeal.Real.final_5 m c]
    funext i
    idx_vars i
    refine Eq.trans ?_ (hp (row i2).1 (row i2).2 (col i0 i1 i3))
    unfold Cert.UpReferenceIdeal.Read.val_main_v32 Cert.UpReferenceIdeal.Read.val_main_v31
    generalize Cert.UpReferenceIdeal.Read.val_main_v0 (F := Ideal) _ _ = y
    pointwise
    rfl
  · refine (Cert.UpReferenceIdeal.Read.val_main_v34_eq _ _ _ _).trans ?_
    rw [a0, a1, a2, a3, Cert.UpKernelIdeal.Real.final_6 m c]
    funext i
    idx_vars i
    refine Eq.trans ?_ (hf (row i2).1 (row i2).2 (col i0 i1 i3))
    unfold Cert.UpReferenceIdeal.Read.val_main_v34 Cert.UpReferenceIdeal.Read.val_main_v33
    generalize Cert.UpReferenceIdeal.Read.val_main_v26 (F := Ideal) _ _ _ _ = y
    pointwise
    rfl
  · refine (Cert.UpReferenceIdeal.Read.val_main_v37_eq _ _).trans ?_
    rw [a0, a1, a2, a3, Cert.UpKernelIdeal.Real.final_7 m c]
    funext i
    idx_vars i
    show _ = gated (filt m c (row i1).1 (col 0 i0 i2) (row i1).2) (filt m c (row i1).1 (col 1 i0 i2) (row i1).2)
    rw [← hf, ← hf]
    unfold Cert.UpReferenceIdeal.Read.val_main_v37 Cert.UpReferenceIdeal.Read.val_main_v36 Cert.UpReferenceIdeal.Read.val_main_v35
    pointwise
    refine (Cert.UpReferenceIdeal.Real.v37_at _ _ _ _ _ _ _).trans ?_
    refine congrArg₂ gated (congrArg _ (congrArg (ix3 _ _) (Fin.ext ?_))) (congrArg _ (congrArg (ix3 _ _) (Fin.ext ?_)))
    · show i0.val * 704 + i2.val = 0 * 2816 + i0.val * 704 + i2.val
      omega
    · show 2816 + (i0.val * 704 + i2.val) = 1 * 2816 + i0.val * 704 + i2.val
      omega

end Cert.UpProof

end
-- ==== Proof.Ffn.lean ====
/- The frames of the feed-forward block's backward call, kernel and reference. -/
module

public import proofs.«01_k».proof.Defs
public import proofs.«01_k».proof.Proof.Gen.FfnKernel.Frame
public import proofs.«01_k».proof.Proof.Gen.FfnKernelIdeal.Frame
public import proofs.«01_k».proof.Proof.Gen.FfnReferenceIdeal.Run
public import Idealize.ShloMosaic.Adequacy
public import Idealize.ShloMosaic.Init

@[expose] public section

set_option maxRecDepth 16384

noncomputable section

open Idealize.ShloMosaic Idealize.ShloMosaic.TcCoe Idealize.SL.Sem

namespace Cert.FfnProof

theorem frame_kernel : Cert.quiescent_FfnKernel := fun m ρ _ => Cert.FfnKernel.Gen.frame m ρ
theorem frame_ideal : Cert.quiescent_FfnKernelIdeal := fun m ρ _ => Cert.FfnKernelIdeal.Gen.frame m ρ
theorem frame_ref : Cert.quiescent_FfnReferenceIdeal := fun m ρ _ =>
  (θ_run _ _ _).mono (fun _ h => ⟨fun c => (h c).2.2, sem_eq_zero_of_no_sems (by decide) _⟩) (Cert.FfnReferenceIdeal.Value.run m ρ)

end Cert.FfnProof

end
-- ==== Proof.Mix.lean ====
/- The frames of the mixer's backward call, kernel and reference. -/
module

public import proofs.«01_k».proof.Defs
public import proofs.«01_k».proof.Proof.Gen.MixKernel.Frame
public import proofs.«01_k».proof.Proof.Gen.MixKernelIdeal.Frame
public import proofs.«01_k».proof.Proof.Gen.MixReferenceIdeal.Run
public import Idealize.ShloMosaic.Adequacy
public import Idealize.ShloMosaic.Init

@[expose] public section

set_option maxRecDepth 16384

noncomputable section

open Idealize.ShloMosaic Idealize.ShloMosaic.TcCoe Idealize.SL.Sem

namespace Cert.MixProof

theorem frame_kernel : Cert.quiescent_MixKernel := fun m ρ _ => Cert.MixKernel.Gen.frame m ρ
theorem frame_ideal : Cert.quiescent_MixKernelIdeal := fun m ρ _ => Cert.MixKernelIdeal.Gen.frame m ρ
theorem frame_ref : Cert.quiescent_MixReferenceIdeal := fun m ρ _ =>
  (θ_run _ _ _).mono (fun _ h => ⟨fun c => (h c).2.2.2.2.2.2.2.2, sem_eq_zero_of_no_sems (by decide) _⟩) (Cert.MixReferenceIdeal.Value.run m ρ)

end Cert.MixProof

end
-- ==== Proof.Dil.lean ====
/- The frames of the dilated attention's backward call, kernel and reference. -/
module

public import proofs.«01_k».proof.Defs
public import proofs.«01_k».proof.Proof.Gen.DilKernel.Frame
public import proofs.«01_k».proof.Proof.Gen.DilKernelIdeal.Frame
public import proofs.«01_k».proof.Proof.Gen.DilReferenceIdeal.Run
public import Idealize.ShloMosaic.Adequacy
public import Idealize.ShloMosaic.Init

@[expose] public section

set_option maxRecDepth 16384

noncomputable section

open Idealize.ShloMosaic Idealize.ShloMosaic.TcCoe Idealize.SL.Sem

namespace Cert.DilProof

theorem frame_kernel : Cert.quiescent_DilKernel := fun m ρ _ => Cert.DilKernel.Gen.frame m ρ
theorem frame_ideal : Cert.quiescent_DilKernelIdeal := fun m ρ _ => Cert.DilKernelIdeal.Gen.frame m ρ
theorem frame_ref : Cert.quiescent_DilReferenceIdeal := fun m ρ _ =>
  (θ_run _ _ _).mono (fun _ h => ⟨fun c => (h c).2.2.2, sem_eq_zero_of_no_sems (by decide) _⟩) (Cert.DilReferenceIdeal.Value.run m ρ)

end Cert.DilProof

end
-- ==== Proof.lean ====
module

public import proofs.«01_k».proof.Defs
public import proofs.«01_k».proof.Proof.Gen.LossKernel
public import proofs.«01_k».proof.Proof.Gen.LossKernel.Skeleton
public import proofs.«01_k».proof.Proof.Gen.LossKernel.Launch
public import proofs.«01_k».proof.Proof.Gen.LossKernel.Points
public import proofs.«01_k».proof.Proof.Gen.LossKernel.Frame
public import proofs.«01_k».proof.Proof.Gen.LossKernelIdeal
public import proofs.«01_k».proof.Proof.Gen.LossKernelIdeal.Skeleton
public import proofs.«01_k».proof.Proof.Gen.LossKernelIdeal.Launch
public import proofs.«01_k».proof.Proof.Gen.LossKernelIdeal.Points
public import proofs.«01_k».proof.Proof.Gen.LossKernelIdeal.Frame
public import proofs.«01_k».proof.Proof.Gen.LossReferenceIdeal
public import proofs.«01_k».proof.Proof.Gen.LossKernelIdeal.Value
public import proofs.«01_k».proof.Proof.Gen.LossReferenceIdeal.Run
public import proofs.«01_k».proof.Proof.Gen.LossReferenceIdeal.Read
public import proofs.«01_k».proof.Proof.Gen.DxUpKernel
public import proofs.«01_k».proof.Proof.Gen.DxUpKernel.Skeleton
public import proofs.«01_k».proof.Proof.Gen.DxUpKernel.Launch
public import proofs.«01_k».proof.Proof.Gen.DxUpKernel.Points
public import proofs.«01_k».proof.Proof.Gen.DxUpKernel.Frame
public import proofs.«01_k».proof.Proof.Gen.DxUpKernelIdeal
public import proofs.«01_k».proof.Proof.Gen.DxUpKernelIdeal.Skeleton
public import proofs.«01_k».proof.Proof.Gen.DxUpKernelIdeal.Launch
public import proofs.«01_k».proof.Proof.Gen.DxUpKernelIdeal.Points
public import proofs.«01_k».proof.Proof.Gen.DxUpKernelIdeal.Frame
public import proofs.«01_k».proof.Proof.Gen.DxUpReferenceIdeal
public import proofs.«01_k».proof.Proof.Gen.DxUpKernelIdeal.Value
public import proofs.«01_k».proof.Proof.Gen.DxUpReferenceIdeal.Run
public import proofs.«01_k».proof.Proof.Gen.DxUpReferenceIdeal.Read
public import proofs.«01_k».proof.Proof.Gen.DxInKernel
public import proofs.«01_k».proof.Proof.Gen.DxInKernel.Skeleton
public import proofs.«01_k».proof.Proof.Gen.DxInKernel.Launch
public import proofs.«01_k».proof.Proof.Gen.DxInKernel.Points
public import proofs.«01_k».proof.Proof.Gen.DxInKernel.Frame
public import proofs.«01_k».proof.Proof.Gen.DxInKernelIdeal
public import proofs.«01_k».proof.Proof.Gen.DxInKernelIdeal.Skeleton
public import proofs.«01_k».proof.Proof.Gen.DxInKernelIdeal.Launch
public import proofs.«01_k».proof.Proof.Gen.DxInKernelIdeal.Points
public import proofs.«01_k».proof.Proof.Gen.DxInKernelIdeal.Frame
public import proofs.«01_k».proof.Proof.Gen.DxInReferenceIdeal
public import proofs.«01_k».proof.Proof.Gen.DxInKernelIdeal.Value
public import proofs.«01_k».proof.Proof.Gen.DxInReferenceIdeal.Run
public import proofs.«01_k».proof.Proof.Gen.DxInReferenceIdeal.Read
public import proofs.«01_k».proof.Proof.Gen.FoxKernel
public import proofs.«01_k».proof.Proof.Gen.FoxKernel.Skeleton
public import proofs.«01_k».proof.Proof.Gen.FoxKernel.Launch
public import proofs.«01_k».proof.Proof.Gen.FoxKernel.Points
public import proofs.«01_k».proof.Proof.Gen.FoxKernel.Frame
public import proofs.«01_k».proof.Proof.Gen.FoxKernelIdeal
public import proofs.«01_k».proof.Proof.Gen.FoxKernelIdeal.Skeleton
public import proofs.«01_k».proof.Proof.Gen.FoxKernelIdeal.Launch
public import proofs.«01_k».proof.Proof.Gen.FoxKernelIdeal.Points
public import proofs.«01_k».proof.Proof.Gen.FoxKernelIdeal.Frame
public import proofs.«01_k».proof.Proof.Gen.FoxReferenceIdeal
public import proofs.«01_k».proof.Proof.Gen.FoxKernelIdeal.Value
public import proofs.«01_k».proof.Proof.Gen.FoxReferenceIdeal.Run
public import proofs.«01_k».proof.Proof.Gen.FoxReferenceIdeal.Read
public import proofs.«01_k».proof.Proof.Gen.GateKernel
public import proofs.«01_k».proof.Proof.Gen.GateKernel.Skeleton
public import proofs.«01_k».proof.Proof.Gen.GateKernel.Launch
public import proofs.«01_k».proof.Proof.Gen.GateKernel.Points
public import proofs.«01_k».proof.Proof.Gen.GateKernel.Frame
public import proofs.«01_k».proof.Proof.Gen.GateKernelIdeal
public import proofs.«01_k».proof.Proof.Gen.GateKernelIdeal.Skeleton
public import proofs.«01_k».proof.Proof.Gen.GateKernelIdeal.Launch
public import proofs.«01_k».proof.Proof.Gen.GateKernelIdeal.Points
public import proofs.«01_k».proof.Proof.Gen.GateKernelIdeal.Frame
public import proofs.«01_k».proof.Proof.Gen.GateReferenceIdeal
public import proofs.«01_k».proof.Proof.Gen.GateKernelIdeal.Value
public import proofs.«01_k».proof.Proof.Gen.GateReferenceIdeal.Run
public import proofs.«01_k».proof.Proof.Gen.GateReferenceIdeal.Read
public import proofs.«01_k».proof.Proof.Gen.NormKernel
public import proofs.«01_k».proof.Proof.Gen.NormKernel.Skeleton
public import proofs.«01_k».proof.Proof.Gen.NormKernel.Launch
public import proofs.«01_k».proof.Proof.Gen.NormKernel.Points
public import proofs.«01_k».proof.Proof.Gen.NormKernel.Frame
public import proofs.«01_k».proof.Proof.Gen.NormKernelIdeal
public import proofs.«01_k».proof.Proof.Gen.NormKernelIdeal.Skeleton
public import proofs.«01_k».proof.Proof.Gen.NormKernelIdeal.Launch
public import proofs.«01_k».proof.Proof.Gen.NormKernelIdeal.Points
public import proofs.«01_k».proof.Proof.Gen.NormKernelIdeal.Frame
public import proofs.«01_k».proof.Proof.Gen.NormReferenceIdeal
public import proofs.«01_k».proof.Proof.Gen.NormKernelIdeal.Value
public import proofs.«01_k».proof.Proof.Gen.NormReferenceIdeal.Run
public import proofs.«01_k».proof.Proof.Gen.NormReferenceIdeal.Read
public import proofs.«01_k».proof.Proof.Gen.MmoKernel
public import proofs.«01_k».proof.Proof.Gen.MmoKernel.Skeleton
public import proofs.«01_k».proof.Proof.Gen.MmoKernel.Launch
public import proofs.«01_k».proof.Proof.Gen.MmoKernel.Points
public import proofs.«01_k».proof.Proof.Gen.MmoKernel.Frame
public import proofs.«01_k».proof.Proof.Gen.MmoKernelIdeal
public import proofs.«01_k».proof.Proof.Gen.MmoKernelIdeal.Skeleton
public import proofs.«01_k».proof.Proof.Gen.MmoKernelIdeal.Launch
public import proofs.«01_k».proof.Proof.Gen.MmoKernelIdeal.Points
public import proofs.«01_k».proof.Proof.Gen.MmoKernelIdeal.Frame
public import proofs.«01_k».proof.Proof.Gen.MmoReferenceIdeal
public import proofs.«01_k».proof.Proof.Gen.MmoKernelIdeal.Value
public import proofs.«01_k».proof.Proof.Gen.MmoReferenceIdeal.Run
public import proofs.«01_k».proof.Proof.Gen.MmoReferenceIdeal.Read
public import proofs.«01_k».proof.Proof.Gen.MmdKernel
public import proofs.«01_k».proof.Proof.Gen.MmdKernel.Skeleton
public import proofs.«01_k».proof.Proof.Gen.MmdKernel.Launch
public import proofs.«01_k».proof.Proof.Gen.MmdKernel.Points
public import proofs.«01_k».proof.Proof.Gen.MmdKernel.Frame
public import proofs.«01_k».proof.Proof.Gen.MmdKernelIdeal
public import proofs.«01_k».proof.Proof.Gen.MmdKernelIdeal.Skeleton
public import proofs.«01_k».proof.Proof.Gen.MmdKernelIdeal.Launch
public import proofs.«01_k».proof.Proof.Gen.MmdKernelIdeal.Points
public import proofs.«01_k».proof.Proof.Gen.MmdKernelIdeal.Frame
public import proofs.«01_k».proof.Proof.Gen.MmdReferenceIdeal
public import proofs.«01_k».proof.Proof.Gen.MmdKernelIdeal.Value
public import proofs.«01_k».proof.Proof.Gen.MmdReferenceIdeal.Run
public import proofs.«01_k».proof.Proof.Gen.MmdReferenceIdeal.Read
public import proofs.«01_k».proof.Proof.Gen.DyKernel
public import proofs.«01_k».proof.Proof.Gen.DyKernel.Skeleton
public import proofs.«01_k».proof.Proof.Gen.DyKernel.Launch
public import proofs.«01_k».proof.Proof.Gen.DyKernel.Points
public import proofs.«01_k».proof.Proof.Gen.DyKernel.Frame
public import proofs.«01_k».proof.Proof.Gen.DyKernelIdeal
public import proofs.«01_k».proof.Proof.Gen.DyKernelIdeal.Skeleton
public import proofs.«01_k».proof.Proof.Gen.DyKernelIdeal.Launch
public import proofs.«01_k».proof.Proof.Gen.DyKernelIdeal.Points
public import proofs.«01_k».proof.Proof.Gen.DyKernelIdeal.Frame
public import proofs.«01_k».proof.Proof.Gen.DyReferenceIdeal
public import proofs.«01_k».proof.Proof.Gen.DyKernelIdeal.Value
public import proofs.«01_k».proof.Proof.Gen.DyReferenceIdeal.Run
public import proofs.«01_k».proof.Proof.Gen.DyReferenceIdeal.Read
public import proofs.«01_k».proof.Proof.Gen.WgoKernel
public import proofs.«01_k».proof.Proof.Gen.WgoKernel.Skeleton
public import proofs.«01_k».proof.Proof.Gen.WgoKernel.Launch
public import proofs.«01_k».proof.Proof.Gen.WgoKernel.Points
public import proofs.«01_k».proof.Proof.Gen.WgoKernel.Frame
public import proofs.«01_k».proof.Proof.Gen.WgoKernelIdeal
public import proofs.«01_k».proof.Proof.Gen.WgoKernelIdeal.Skeleton
public import proofs.«01_k».proof.Proof.Gen.WgoKernelIdeal.Launch
public import proofs.«01_k».proof.Proof.Gen.WgoKernelIdeal.Points
public import proofs.«01_k».proof.Proof.Gen.WgoKernelIdeal.Frame
public import proofs.«01_k».proof.Proof.Gen.WgoReferenceIdeal
public import proofs.«01_k».proof.Proof.Gen.WgoKernelIdeal.Value
public import proofs.«01_k».proof.Proof.Gen.WgoReferenceIdeal.Run
public import proofs.«01_k».proof.Proof.Gen.WgoReferenceIdeal.Read
public import proofs.«01_k».proof.Proof.Gen.InpKernel
public import proofs.«01_k».proof.Proof.Gen.InpKernel.Skeleton
public import proofs.«01_k».proof.Proof.Gen.InpKernel.Launch
public import proofs.«01_k».proof.Proof.Gen.InpKernel.Points
public import proofs.«01_k».proof.Proof.Gen.InpKernel.Frame
public import proofs.«01_k».proof.Proof.Gen.InpKernelIdeal
public import proofs.«01_k».proof.Proof.Gen.InpKernelIdeal.Skeleton
public import proofs.«01_k».proof.Proof.Gen.InpKernelIdeal.Launch
public import proofs.«01_k».proof.Proof.Gen.InpKernelIdeal.Points
public import proofs.«01_k».proof.Proof.Gen.InpKernelIdeal.Frame
public import proofs.«01_k».proof.Proof.Gen.InpReferenceIdeal
public import proofs.«01_k».proof.Proof.Gen.InpKernelIdeal.Value
public import proofs.«01_k».proof.Proof.Gen.InpReferenceIdeal.Run
public import proofs.«01_k».proof.Proof.Gen.InpReferenceIdeal.Read
public import proofs.«01_k».proof.Proof.Gen.UpKernel
public import proofs.«01_k».proof.Proof.Gen.UpKernel.Skeleton
public import proofs.«01_k».proof.Proof.Gen.UpKernel.Launch
public import proofs.«01_k».proof.Proof.Gen.UpKernel.Points
public import proofs.«01_k».proof.Proof.Gen.UpKernel.Frame
public import proofs.«01_k».proof.Proof.Gen.UpKernelIdeal
public import proofs.«01_k».proof.Proof.Gen.UpKernelIdeal.Skeleton
public import proofs.«01_k».proof.Proof.Gen.UpKernelIdeal.Launch
public import proofs.«01_k».proof.Proof.Gen.UpKernelIdeal.Points
public import proofs.«01_k».proof.Proof.Gen.UpKernelIdeal.Frame
public import proofs.«01_k».proof.Proof.Gen.UpReferenceIdeal
public import proofs.«01_k».proof.Proof.Gen.UpKernelIdeal.Value
public import proofs.«01_k».proof.Proof.Gen.UpReferenceIdeal.Run
public import proofs.«01_k».proof.Proof.Gen.UpReferenceIdeal.Read
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnReferenceIdeal
public import proofs.«01_k».proof.Proof.Gen.FfnReferenceIdeal.Run
public import proofs.«01_k».proof.Proof.Gen.MixKernel
public import proofs.«01_k».proof.Proof.Gen.MixKernel.Skeleton
public import proofs.«01_k».proof.Proof.Gen.MixKernel.Launch
public import proofs.«01_k».proof.Proof.Gen.MixKernel.Points
public import proofs.«01_k».proof.Proof.Gen.MixKernel.Frame
public import proofs.«01_k».proof.Proof.Gen.MixKernelIdeal
public import proofs.«01_k».proof.Proof.Gen.MixKernelIdeal.Skeleton
public import proofs.«01_k».proof.Proof.Gen.MixKernelIdeal.Launch
public import proofs.«01_k».proof.Proof.Gen.MixKernelIdeal.Points
public import proofs.«01_k».proof.Proof.Gen.MixKernelIdeal.Frame
public import proofs.«01_k».proof.Proof.Gen.MixReferenceIdeal
public import proofs.«01_k».proof.Proof.Gen.MixReferenceIdeal.Run
public import proofs.«01_k».proof.Proof.Gen.DilKernel
public import proofs.«01_k».proof.Proof.Gen.DilKernel.Skeleton
public import proofs.«01_k».proof.Proof.Gen.DilKernel.Launch
public import proofs.«01_k».proof.Proof.Gen.DilKernel.Points
public import proofs.«01_k».proof.Proof.Gen.DilKernel.Frame
public import proofs.«01_k».proof.Proof.Gen.DilKernelIdeal
public import proofs.«01_k».proof.Proof.Gen.DilKernelIdeal.Skeleton
public import proofs.«01_k».proof.Proof.Gen.DilKernelIdeal.Launch
public import proofs.«01_k».proof.Proof.Gen.DilKernelIdeal.Points
public import proofs.«01_k».proof.Proof.Gen.DilKernelIdeal.Frame
public import proofs.«01_k».proof.Proof.Gen.DilReferenceIdeal
public import proofs.«01_k».proof.Proof.Gen.DilReferenceIdeal.Run
public import proofs.«01_k».proof.Proof.Gen.Pre_loss_finite
public import proofs.«01_k».proof.Proof.Gen.Pre_dxup_finite
public import proofs.«01_k».proof.Proof.Gen.Pre_dxin_finite
public import proofs.«01_k».proof.Proof.Gen.Pre_fox_finite
public import proofs.«01_k».proof.Proof.Gen.Pre_gate_finite
public import proofs.«01_k».proof.Proof.Loss
public import proofs.«01_k».proof.Proof.DxUp
public import proofs.«01_k».proof.Proof.DxIn
public import proofs.«01_k».proof.Proof.Fox
public import proofs.«01_k».proof.Proof.Gate
public import proofs.«01_k».proof.Proof.Norm
public import proofs.«01_k».proof.Proof.Mmo
public import proofs.«01_k».proof.Proof.Mmd
public import proofs.«01_k».proof.Proof.Dy
public import proofs.«01_k».proof.Proof.Wgo
public import proofs.«01_k».proof.Proof.Inp
public import proofs.«01_k».proof.Proof.Up
public import proofs.«01_k».proof.Proof.Ffn
public import proofs.«01_k».proof.Proof.Mix
public import proofs.«01_k».proof.Proof.Dil
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.LossKernel.Gen.facts, Cert.LossKernelIdeal.Gen.facts, Cert.LossReferenceIdeal.Gen.facts, Cert.DxUpKernel.Gen.facts, Cert.DxUpKernelIdeal.Gen.facts, Cert.DxUpReferenceIdeal.Gen.facts, Cert.DxInKernel.Gen.facts, Cert.DxInKernelIdeal.Gen.facts, Cert.DxInReferenceIdeal.Gen.facts, Cert.FoxKernel.Gen.facts, Cert.FoxKernelIdeal.Gen.facts, Cert.FoxReferenceIdeal.Gen.facts, Cert.GateKernel.Gen.facts, Cert.GateKernelIdeal.Gen.facts, Cert.GateReferenceIdeal.Gen.facts, Cert.NormKernel.Gen.facts, Cert.NormKernelIdeal.Gen.facts, Cert.NormReferenceIdeal.Gen.facts, Cert.MmoKernel.Gen.facts, Cert.MmoKernelIdeal.Gen.facts, Cert.MmoReferenceIdeal.Gen.facts, Cert.MmdKernel.Gen.facts, Cert.MmdKernelIdeal.Gen.facts, Cert.MmdReferenceIdeal.Gen.facts, Cert.DyKernel.Gen.facts, Cert.DyKernelIdeal.Gen.facts, Cert.DyReferenceIdeal.Gen.facts, Cert.WgoKernel.Gen.facts, Cert.WgoKernelIdeal.Gen.facts, Cert.WgoReferenceIdeal.Gen.facts, Cert.InpKernel.Gen.facts, Cert.InpKernelIdeal.Gen.facts, Cert.InpReferenceIdeal.Gen.facts, Cert.UpKernel.Gen.facts, Cert.UpKernelIdeal.Gen.facts, Cert.UpReferenceIdeal.Gen.facts, Cert.FfnKernel.Gen.facts, Cert.FfnKernelIdeal.Gen.facts, Cert.FfnReferenceIdeal.Gen.facts, Cert.MixKernel.Gen.facts, Cert.MixKernelIdeal.Gen.facts, Cert.MixReferenceIdeal.Gen.facts, Cert.DilKernel.Gen.facts, Cert.DilKernelIdeal.Gen.facts, Cert.DilReferenceIdeal.Gen.facts, Cert.Pre_loss_finite.Gen.facts, Cert.Pre_dxup_finite.Gen.facts, Cert.Pre_dxin_finite.Gen.facts, Cert.Pre_fox_finite.Gen.facts, Cert.Pre_gate_finite.Gen.facts, Cert.FoxProof.on_facts,
   Cert.LossProof.frame_kernel,
   Cert.LossProof.frame_ideal,
   Cert.LossProof.frame_ideal_pre,
   Cert.LossProof.frame_ref,
   Cert.LossProof.frame_ref_pre,
   Cert.DxUpProof.frame_kernel,
   Cert.DxUpProof.frame_ideal,
   Cert.DxUpProof.frame_ideal_pre,
   Cert.DxUpProof.frame_ref,
   Cert.DxUpProof.frame_ref_pre,
   Cert.DxInProof.frame_kernel,
   Cert.DxInProof.frame_ideal,
   Cert.DxInProof.frame_ideal_pre,
   Cert.DxInProof.frame_ref,
   Cert.DxInProof.frame_ref_pre,
   Cert.FoxProof.frame_kernel,
   Cert.FoxProof.frame_ideal,
   Cert.FoxProof.frame_ideal_pre,
   Cert.FoxProof.frame_ref,
   Cert.FoxProof.frame_ref_pre,
   Cert.GateProof.frame_kernel,
   Cert.GateProof.frame_ideal,
   Cert.GateProof.frame_ideal_pre,
   Cert.GateProof.frame_ref,
   Cert.GateProof.frame_ref_pre,
   Cert.NormProof.frame_kernel,
   Cert.NormProof.frame_ideal,
   Cert.NormProof.frame_ref,
   Cert.MmoProof.frame_kernel,
   Cert.MmoProof.frame_ideal,
   Cert.MmoProof.frame_ref,
   Cert.MmdProof.frame_kernel,
   Cert.MmdProof.frame_ideal,
   Cert.MmdProof.frame_ref,
   Cert.DyProof.frame_kernel,
   Cert.DyProof.frame_ideal,
   Cert.DyProof.frame_ref,
   Cert.WgoProof.frame_kernel,
   Cert.WgoProof.frame_ideal,
   Cert.WgoProof.frame_ref,
   Cert.InpProof.frame_kernel,
   Cert.InpProof.frame_ideal,
   Cert.InpProof.frame_ref,
   Cert.UpProof.frame_kernel,
   Cert.UpProof.frame_ideal,
   Cert.UpProof.frame_ref,
   Cert.FfnProof.frame_kernel,
   Cert.FfnProof.frame_ideal,
   Cert.FfnProof.frame_ref,
   Cert.MixProof.frame_kernel,
   Cert.MixProof.frame_ideal,
   Cert.MixProof.frame_ref,
   Cert.DilProof.frame_kernel,
   Cert.DilProof.frame_ideal,
   Cert.DilProof.frame_ref,
   trivial,
   Cert.LossProof.value,
   trivial,
   Cert.DxUpProof.value,
   trivial,
   Cert.DxInProof.value,
   trivial,
   Cert.FoxProof.value,
   trivial,
   Cert.GateProof.value,
   trivial,
   Cert.NormProof.value,
   trivial,
   Cert.MmoProof.value,
   trivial,
   Cert.MmdProof.value,
   trivial,
   Cert.DyProof.value,
   trivial,
   Cert.WgoProof.value,
   trivial,
   Cert.InpProof.value,
   trivial,
   Cert.UpProof.value,
   trivial,
   trivial,
   trivial⟩

end Cert.Proof

end
